-- ==== Defs.lean ====
def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelUpW (m : (ℓ : Loc Cert.KernelUpW.nD Cert.KernelUpW.τ Cert.KernelUpW.sig) → Buf (Elt Bits) ℓ) : Prop :=
  True

def Pre_KernelUpWIdeal (m : (ℓ : Loc Cert.KernelUpWIdeal.nD Cert.KernelUpWIdeal.τ Cert.KernelUpWIdeal.sig) → Buf (Elt Ideal) ℓ) : Prop :=
  True

def Pre_ReferenceUpWIdeal (m : (ℓ : Loc Cert.ReferenceUpWIdeal.nD Cert.ReferenceUpWIdeal.τ Cert.ReferenceUpWIdeal.sig) → Buf (Elt Ideal) ℓ) : Prop :=
  True

def Pre_KernelUpD (m : (ℓ : Loc Cert.KernelUpD.nD Cert.KernelUpD.τ Cert.KernelUpD.sig) → Buf (Elt Bits) ℓ) : Prop :=
  True

def Pre_KernelUpDIdeal (m : (ℓ : Loc Cert.KernelUpDIdeal.nD Cert.KernelUpDIdeal.τ Cert.KernelUpDIdeal.sig) → Buf (Elt Ideal) ℓ) : Prop :=
  True

def Pre_ReferenceUpDIdeal (m : (ℓ : Loc Cert.ReferenceUpDIdeal.nD Cert.ReferenceUpDIdeal.τ Cert.ReferenceUpDIdeal.sig) → Buf (Elt Ideal) ℓ) : Prop :=
  True

def Pre_KernelDownW (m : (ℓ : Loc Cert.KernelDownW.nD Cert.KernelDownW.τ Cert.KernelDownW.sig) → Buf (Elt Bits) ℓ) : Prop :=
  True

def Pre_KernelDownWIdeal (m : (ℓ : Loc Cert.KernelDownWIdeal.nD Cert.KernelDownWIdeal.τ Cert.KernelDownWIdeal.sig) → Buf (Elt Ideal) ℓ) : Prop :=
  True

def Pre_ReferenceDownWIdeal (m : (ℓ : Loc Cert.ReferenceDownWIdeal.nD Cert.ReferenceDownWIdeal.τ Cert.ReferenceDownWIdeal.sig) → Buf (Elt Ideal) ℓ) : Prop :=
  True

def Pre_KernelDownD (m : (ℓ : Loc Cert.KernelDownD.nD Cert.KernelDownD.τ Cert.KernelDownD.sig) → Buf (Elt Bits) ℓ) : Prop :=
  True

def Pre_KernelDownDIdeal (m : (ℓ : Loc Cert.KernelDownDIdeal.nD Cert.KernelDownDIdeal.τ Cert.KernelDownDIdeal.sig) → Buf (Elt Ideal) ℓ) : Prop :=
  True

def Pre_ReferenceDownDIdeal (m : (ℓ : Loc Cert.ReferenceDownDIdeal.nD Cert.ReferenceDownDIdeal.τ Cert.ReferenceDownDIdeal.sig) → Buf (Elt Ideal) ℓ) : Prop :=
  True

def Pre_KernelAttnOW (m : (ℓ : Loc Cert.KernelAttnOW.nD Cert.KernelAttnOW.τ Cert.KernelAttnOW.sig) → Buf (Elt Bits) ℓ) : Prop :=
  True

def Pre_KernelAttnOWIdeal (m : (ℓ : Loc Cert.KernelAttnOWIdeal.nD Cert.KernelAttnOWIdeal.τ Cert.KernelAttnOWIdeal.sig) → Buf (Elt Ideal) ℓ) : Prop :=
  True

def Pre_ReferenceAttnOWIdeal (m : (ℓ : Loc Cert.ReferenceAttnOWIdeal.nD Cert.ReferenceAttnOWIdeal.τ Cert.ReferenceAttnOWIdeal.sig) → Buf (Elt Ideal) ℓ) : Prop :=
  True

def Pre_KernelAttnOD (m : (ℓ : Loc Cert.KernelAttnOD.nD Cert.KernelAttnOD.τ Cert.KernelAttnOD.sig) → Buf (Elt Bits) ℓ) : Prop :=
  True

def Pre_KernelAttnODIdeal (m : (ℓ : Loc Cert.KernelAttnODIdeal.nD Cert.KernelAttnODIdeal.τ Cert.KernelAttnODIdeal.sig) → Buf (Elt Ideal) ℓ) : Prop :=
  True

def Pre_ReferenceAttnODIdeal (m : (ℓ : Loc Cert.ReferenceAttnODIdeal.nD Cert.ReferenceAttnODIdeal.τ Cert.ReferenceAttnODIdeal.sig) → Buf (Elt Ideal) ℓ) : Prop :=
  True

def Pre_KernelAttnQW (m : (ℓ : Loc Cert.KernelAttnQW.nD Cert.KernelAttnQW.τ Cert.KernelAttnQW.sig) → Buf (Elt Bits) ℓ) : Prop :=
  True

def Pre_KernelAttnQWIdeal (m : (ℓ : Loc Cert.KernelAttnQWIdeal.nD Cert.KernelAttnQWIdeal.τ Cert.KernelAttnQWIdeal.sig) → Buf (Elt Ideal) ℓ) : Prop :=
  True

def Pre_ReferenceAttnQWIdeal (m : (ℓ : Loc Cert.ReferenceAttnQWIdeal.nD Cert.ReferenceAttnQWIdeal.τ Cert.ReferenceAttnQWIdeal.sig) → Buf (Elt Ideal) ℓ) : Prop :=
  True

def Pre_KernelAttnQD (m : (ℓ : Loc Cert.KernelAttnQD.nD Cert.KernelAttnQD.τ Cert.KernelAttnQD.sig) → Buf (Elt Bits) ℓ) : Prop :=
  True

def Pre_KernelAttnQDIdeal (m : (ℓ : Loc Cert.KernelAttnQDIdeal.nD Cert.KernelAttnQDIdeal.τ Cert.KernelAttnQDIdeal.sig) → Buf (Elt Ideal) ℓ) : Prop :=
  True

def Pre_ReferenceAttnQDIdeal (m : (ℓ : Loc Cert.ReferenceAttnQDIdeal.nD Cert.ReferenceAttnQDIdeal.τ Cert.ReferenceAttnQDIdeal.sig) → Buf (Elt Ideal) ℓ) : Prop :=
  True

def Pre_KernelAttnKVW (m : (ℓ : Loc Cert.KernelAttnKVW.nD Cert.KernelAttnKVW.τ Cert.KernelAttnKVW.sig) → Buf (Elt Bits) ℓ) : Prop :=
  True

def Pre_KernelAttnKVWIdeal (m : (ℓ : Loc Cert.KernelAttnKVWIdeal.nD Cert.KernelAttnKVWIdeal.τ Cert.KernelAttnKVWIdeal.sig) → Buf (Elt Ideal) ℓ) : Prop :=
  True

def Pre_ReferenceAttnKVWIdeal (m : (ℓ : Loc Cert.ReferenceAttnKVWIdeal.nD Cert.ReferenceAttnKVWIdeal.τ Cert.ReferenceAttnKVWIdeal.sig) → Buf (Elt Ideal) ℓ) : Prop :=
  True

def Pre_KernelAttnKVD (m : (ℓ : Loc Cert.KernelAttnKVD.nD Cert.KernelAttnKVD.τ Cert.KernelAttnKVD.sig) → Buf (Elt Bits) ℓ) : Prop :=
  True

def Pre_KernelAttnKVDIdeal (m : (ℓ : Loc Cert.KernelAttnKVDIdeal.nD Cert.KernelAttnKVDIdeal.τ Cert.KernelAttnKVDIdeal.sig) → Buf (Elt Ideal) ℓ) : Prop :=
  True

def Pre_ReferenceAttnKVDIdeal (m : (ℓ : Loc Cert.ReferenceAttnKVDIdeal.nD Cert.ReferenceAttnKVDIdeal.τ Cert.ReferenceAttnKVDIdeal.sig) → Buf (Elt Ideal) ℓ) : Prop :=
  True

def Pre_KernelSsmOutW (m : (ℓ : Loc Cert.KernelSsmOutW.nD Cert.KernelSsmOutW.τ Cert.KernelSsmOutW.sig) → Buf (Elt Bits) ℓ) : Prop :=
  True

def Pre_KernelSsmOutWIdeal (m : (ℓ : Loc Cert.KernelSsmOutWIdeal.nD Cert.KernelSsmOutWIdeal.τ Cert.KernelSsmOutWIdeal.sig) → Buf (Elt Ideal) ℓ) : Prop :=
  True

def Pre_ReferenceSsmOutWIdeal (m : (ℓ : Loc Cert.ReferenceSsmOutWIdeal.nD Cert.ReferenceSsmOutWIdeal.τ Cert.ReferenceSsmOutWIdeal.sig) → Buf (Elt Ideal) ℓ) : Prop :=
  True

def Pre_KernelSsmOutD (m : (ℓ : Loc Cert.KernelSsmOutD.nD Cert.KernelSsmOutD.τ Cert.KernelSsmOutD.sig) → Buf (Elt Bits) ℓ) : Prop :=
  True

def Pre_KernelSsmOutDIdeal (m : (ℓ : Loc Cert.KernelSsmOutDIdeal.nD Cert.KernelSsmOutDIdeal.τ Cert.KernelSsmOutDIdeal.sig) → Buf (Elt Ideal) ℓ) : Prop :=
  True

def Pre_ReferenceSsmOutDIdeal (m : (ℓ : Loc Cert.ReferenceSsmOutDIdeal.nD Cert.ReferenceSsmOutDIdeal.τ Cert.ReferenceSsmOutDIdeal.sig) → Buf (Elt Ideal) ℓ) : Prop :=
  True

def Pre_KernelSsmInW (m : (ℓ : Loc Cert.KernelSsmInW.nD Cert.KernelSsmInW.τ Cert.KernelSsmInW.sig) → Buf (Elt Bits) ℓ) : Prop :=
  True

def Pre_KernelSsmInWIdeal (m : (ℓ : Loc Cert.KernelSsmInWIdeal.nD Cert.KernelSsmInWIdeal.τ Cert.KernelSsmInWIdeal.sig) → Buf (Elt Ideal) ℓ) : Prop :=
  True

def Pre_ReferenceSsmInWIdeal (m : (ℓ : Loc Cert.ReferenceSsmInWIdeal.nD Cert.ReferenceSsmInWIdeal.τ Cert.ReferenceSsmInWIdeal.sig) → Buf (Elt Ideal) ℓ) : Prop :=
  True

def Pre_KernelSsmInD (m : (ℓ : Loc Cert.KernelSsmInD.nD Cert.KernelSsmInD.τ Cert.KernelSsmInD.sig) → Buf (Elt Bits) ℓ) : Prop :=
  True

def Pre_KernelSsmInDIdeal (m : (ℓ : Loc Cert.KernelSsmInDIdeal.nD Cert.KernelSsmInDIdeal.τ Cert.KernelSsmInDIdeal.sig) → Buf (Elt Ideal) ℓ) : Prop :=
  True

def Pre_ReferenceSsmInDIdeal (m : (ℓ : Loc Cert.ReferenceSsmInDIdeal.nD Cert.ReferenceSsmInDIdeal.τ Cert.ReferenceSsmInDIdeal.sig) → Buf (Elt Ideal) ℓ) : Prop :=
  True

def Pre_KernelFfnUp (m : (ℓ : Loc Cert.KernelFfnUp.nD Cert.KernelFfnUp.τ Cert.KernelFfnUp.sig) → Buf (Elt Bits) ℓ) : Prop :=
  True

def Pre_KernelFfnUpIdeal (m : (ℓ : Loc Cert.KernelFfnUpIdeal.nD Cert.KernelFfnUpIdeal.τ Cert.KernelFfnUpIdeal.sig) → Buf (Elt Ideal) ℓ) : Prop :=
  True

def Pre_ReferenceFfnUpIdeal (m : (ℓ : Loc Cert.ReferenceFfnUpIdeal.nD Cert.ReferenceFfnUpIdeal.τ Cert.ReferenceFfnUpIdeal.sig) → Buf (Elt Ideal) ℓ) : Prop :=
  True

def Pre_KernelFfnDown (m : (ℓ : Loc Cert.KernelFfnDown.nD Cert.KernelFfnDown.τ Cert.KernelFfnDown.sig) → Buf (Elt Bits) ℓ) : Prop :=
  True

def Pre_KernelFfnDownIdeal (m : (ℓ : Loc Cert.KernelFfnDownIdeal.nD Cert.KernelFfnDownIdeal.τ Cert.KernelFfnDownIdeal.sig) → Buf (Elt Ideal) ℓ) : Prop :=
  True

def Pre_ReferenceFfnDownIdeal (m : (ℓ : Loc Cert.ReferenceFfnDownIdeal.nD Cert.ReferenceFfnDownIdeal.τ Cert.ReferenceFfnDownIdeal.sig) → Buf (Elt Ideal) ℓ) : Prop :=
  True

def Pre_KernelAttnQ (m : (ℓ : Loc Cert.KernelAttnQ.nD Cert.KernelAttnQ.τ Cert.KernelAttnQ.sig) → Buf (Elt Bits) ℓ) : Prop :=
  True

def Pre_KernelAttnQIdeal (m : (ℓ : Loc Cert.KernelAttnQIdeal.nD Cert.KernelAttnQIdeal.τ Cert.KernelAttnQIdeal.sig) → Buf (Elt Ideal) ℓ) : Prop :=
  True

def Pre_ReferenceAttnQIdeal (m : (ℓ : Loc Cert.ReferenceAttnQIdeal.nD Cert.ReferenceAttnQIdeal.τ Cert.ReferenceAttnQIdeal.sig) → Buf (Elt Ideal) ℓ) : Prop :=
  True

def Pre_KernelAttnKV (m : (ℓ : Loc Cert.KernelAttnKV.nD Cert.KernelAttnKV.τ Cert.KernelAttnKV.sig) → Buf (Elt Bits) ℓ) : Prop :=
  True

def Pre_KernelAttnKVIdeal (m : (ℓ : Loc Cert.KernelAttnKVIdeal.nD Cert.KernelAttnKVIdeal.τ Cert.KernelAttnKVIdeal.sig) → Buf (Elt Ideal) ℓ) : Prop :=
  True

def Pre_ReferenceAttnKVIdeal (m : (ℓ : Loc Cert.ReferenceAttnKVIdeal.nD Cert.ReferenceAttnKVIdeal.τ Cert.ReferenceAttnKVIdeal.sig) → Buf (Elt Ideal) ℓ) : Prop :=
  True

def Pre_KernelAttnO (m : (ℓ : Loc Cert.KernelAttnO.nD Cert.KernelAttnO.τ Cert.KernelAttnO.sig) → Buf (Elt Bits) ℓ) : Prop :=
  True

def Pre_KernelAttnOIdeal (m : (ℓ : Loc Cert.KernelAttnOIdeal.nD Cert.KernelAttnOIdeal.τ Cert.KernelAttnOIdeal.sig) → Buf (Elt Ideal) ℓ) : Prop :=
  True

def Pre_ReferenceAttnOIdeal (m : (ℓ : Loc Cert.ReferenceAttnOIdeal.nD Cert.ReferenceAttnOIdeal.τ Cert.ReferenceAttnOIdeal.sig) → Buf (Elt Ideal) ℓ) : Prop :=
  True

def Pre_KernelSsmIn (m : (ℓ : Loc Cert.KernelSsmIn.nD Cert.KernelSsmIn.τ Cert.KernelSsmIn.sig) → Buf (Elt Bits) ℓ) : Prop :=
  True

def Pre_KernelSsmInIdeal (m : (ℓ : Loc Cert.KernelSsmInIdeal.nD Cert.KernelSsmInIdeal.τ Cert.KernelSsmInIdeal.sig) → Buf (Elt Ideal) ℓ) : Prop :=
  True

def Pre_ReferenceSsmInIdeal (m : (ℓ : Loc Cert.ReferenceSsmInIdeal.nD Cert.ReferenceSsmInIdeal.τ Cert.ReferenceSsmInIdeal.sig) → Buf (Elt Ideal) ℓ) : Prop :=
  True

def Pre_KernelSsmOut (m : (ℓ : Loc Cert.KernelSsmOut.nD Cert.KernelSsmOut.τ Cert.KernelSsmOut.sig) → Buf (Elt Bits) ℓ) : Prop :=
  True

def Pre_KernelSsmOutIdeal (m : (ℓ : Loc Cert.KernelSsmOutIdeal.nD Cert.KernelSsmOutIdeal.τ Cert.KernelSsmOutIdeal.sig) → Buf (Elt Ideal) ℓ) : Prop :=
  True

def Pre_ReferenceSsmOutIdeal (m : (ℓ : Loc Cert.ReferenceSsmOutIdeal.nD Cert.ReferenceSsmOutIdeal.τ Cert.ReferenceSsmOutIdeal.sig) → Buf (Elt Ideal) ℓ) : Prop :=
  True

def Pre_KernelAdamSq (m : (ℓ : Loc Cert.KernelAdamSq.nD Cert.KernelAdamSq.τ Cert.KernelAdamSq.sig) → Buf (Elt Bits) ℓ) : Prop :=
  True

def Pre_KernelAdamSqIdeal (m : (ℓ : Loc Cert.KernelAdamSqIdeal.nD Cert.KernelAdamSqIdeal.τ Cert.KernelAdamSqIdeal.sig) → Buf (Elt Ideal) ℓ) : Prop :=
  True

def Pre_ReferenceAdamSqIdeal (m : (ℓ : Loc Cert.ReferenceAdamSqIdeal.nD Cert.ReferenceAdamSqIdeal.τ Cert.ReferenceAdamSqIdeal.sig) → Buf (Elt Ideal) ℓ) : Prop :=
  True

def Pre_KernelAdamSsmOut (m : (ℓ : Loc Cert.KernelAdamSsmOut.nD Cert.KernelAdamSsmOut.τ Cert.KernelAdamSsmOut.sig) → Buf (Elt Bits) ℓ) : Prop :=
  True

def Pre_KernelAdamSsmOutIdeal (m : (ℓ : Loc Cert.KernelAdamSsmOutIdeal.nD Cert.KernelAdamSsmOutIdeal.τ Cert.KernelAdamSsmOutIdeal.sig) → Buf (Elt Ideal) ℓ) : Prop :=
  True

def Pre_ReferenceAdamSsmOutIdeal (m : (ℓ : Loc Cert.ReferenceAdamSsmOutIdeal.nD Cert.ReferenceAdamSsmOutIdeal.τ Cert.ReferenceAdamSsmOutIdeal.sig) → Buf (Elt Ideal) ℓ) : Prop :=
  True

def Pre_KernelAdamSsmIn (m : (ℓ : Loc Cert.KernelAdamSsmIn.nD Cert.KernelAdamSsmIn.τ Cert.KernelAdamSsmIn.sig) → Buf (Elt Bits) ℓ) : Prop :=
  True

def Pre_KernelAdamSsmInIdeal (m : (ℓ : Loc Cert.KernelAdamSsmInIdeal.nD Cert.KernelAdamSsmInIdeal.τ Cert.KernelAdamSsmInIdeal.sig) → Buf (Elt Ideal) ℓ) : Prop :=
  True

def Pre_ReferenceAdamSsmInIdeal (m : (ℓ : Loc Cert.ReferenceAdamSsmInIdeal.nD Cert.ReferenceAdamSsmInIdeal.τ Cert.ReferenceAdamSsmInIdeal.sig) → Buf (Elt Ideal) ℓ) : Prop :=
  True

def Pre_KernelAdamFfnUp (m : (ℓ : Loc Cert.KernelAdamFfnUp.nD Cert.KernelAdamFfnUp.τ Cert.KernelAdamFfnUp.sig) → Buf (Elt Bits) ℓ) : Prop :=
  True

def Pre_KernelAdamFfnUpIdeal (m : (ℓ : Loc Cert.KernelAdamFfnUpIdeal.nD Cert.KernelAdamFfnUpIdeal.τ Cert.KernelAdamFfnUpIdeal.sig) → Buf (Elt Ideal) ℓ) : Prop :=
  True

def Pre_ReferenceAdamFfnUpIdeal (m : (ℓ : Loc Cert.ReferenceAdamFfnUpIdeal.nD Cert.ReferenceAdamFfnUpIdeal.τ Cert.ReferenceAdamFfnUpIdeal.sig) → Buf (Elt Ideal) ℓ) : Prop :=
  True

def Pre_KernelAdamFfnDown (m : (ℓ : Loc Cert.KernelAdamFfnDown.nD Cert.KernelAdamFfnDown.τ Cert.KernelAdamFfnDown.sig) → Buf (Elt Bits) ℓ) : Prop :=
  True

def Pre_KernelAdamFfnDownIdeal (m : (ℓ : Loc Cert.KernelAdamFfnDownIdeal.nD Cert.KernelAdamFfnDownIdeal.τ Cert.KernelAdamFfnDownIdeal.sig) → Buf (Elt Ideal) ℓ) : Prop :=
  True

def Pre_ReferenceAdamFfnDownIdeal (m : (ℓ : Loc Cert.ReferenceAdamFfnDownIdeal.nD Cert.ReferenceAdamFfnDownIdeal.τ Cert.ReferenceAdamFfnDownIdeal.sig) → Buf (Elt Ideal) ℓ) : Prop :=
  True

def Pre_KernelSmallSum (m : (ℓ : Loc Cert.KernelSmallSum.nD Cert.KernelSmallSum.τ Cert.KernelSmallSum.sig) → Buf (Elt Bits) ℓ) : Prop :=
  True

def Pre_KernelSmallSumIdeal (m : (ℓ : Loc Cert.KernelSmallSumIdeal.nD Cert.KernelSmallSumIdeal.τ Cert.KernelSmallSumIdeal.sig) → Buf (Elt Ideal) ℓ) : Prop :=
  True

def Pre_ReferenceSmallSumIdeal (m : (ℓ : Loc Cert.ReferenceSmallSumIdeal.nD Cert.ReferenceSmallSumIdeal.τ Cert.ReferenceSmallSumIdeal.sig) → Buf (Elt Ideal) ℓ) : Prop :=
  True

def Pre_KernelAdamSmall (m : (ℓ : Loc Cert.KernelAdamSmall.nD Cert.KernelAdamSmall.τ Cert.KernelAdamSmall.sig) → Buf (Elt Bits) ℓ) : Prop :=
  True

def Pre_KernelAdamSmallIdeal (m : (ℓ : Loc Cert.KernelAdamSmallIdeal.nD Cert.KernelAdamSmallIdeal.τ Cert.KernelAdamSmallIdeal.sig) → Buf (Elt Ideal) ℓ) : Prop :=
  True

def Pre_ReferenceAdamSmallIdeal (m : (ℓ : Loc Cert.ReferenceAdamSmallIdeal.nD Cert.ReferenceAdamSmallIdeal.τ Cert.ReferenceAdamSmallIdeal.sig) → Buf (Elt Ideal) ℓ) : Prop :=
  True

def Pre_KernelFfnConv (m : (ℓ : Loc Cert.KernelFfnConv.nD Cert.KernelFfnConv.τ Cert.KernelFfnConv.sig) → Buf (Elt Bits) ℓ) : Prop :=
  True

def Pre_KernelFfnConvIdeal (m : (ℓ : Loc Cert.KernelFfnConvIdeal.nD Cert.KernelFfnConvIdeal.τ Cert.KernelFfnConvIdeal.sig) → Buf (Elt Ideal) ℓ) : Prop :=
  True

def Pre_ReferenceFfnConvIdeal (m : (ℓ : Loc Cert.ReferenceFfnConvIdeal.nD Cert.ReferenceFfnConvIdeal.τ Cert.ReferenceFfnConvIdeal.sig) → Buf (Elt Ideal) ℓ) : Prop :=
  True

def Pre_KernelSsmConv (m : (ℓ : Loc Cert.KernelSsmConv.nD Cert.KernelSsmConv.τ Cert.KernelSsmConv.sig) → Buf (Elt Bits) ℓ) : Prop :=
  True

def Pre_KernelSsmConvIdeal (m : (ℓ : Loc Cert.KernelSsmConvIdeal.nD Cert.KernelSsmConvIdeal.τ Cert.KernelSsmConvIdeal.sig) → Buf (Elt Ideal) ℓ) : Prop :=
  True

def Pre_ReferenceSsmConvIdeal (m : (ℓ : Loc Cert.ReferenceSsmConvIdeal.nD Cert.ReferenceSsmConvIdeal.τ Cert.ReferenceSsmConvIdeal.sig) → Buf (Elt Ideal) ℓ) : Prop :=
  True

def Pre_KernelLossHead (m : (ℓ : Loc Cert.KernelLossHead.nD Cert.KernelLossHead.τ Cert.KernelLossHead.sig) → Buf (Elt Bits) ℓ) : Prop :=
  True

def Pre_KernelLossHeadIdeal (m : (ℓ : Loc Cert.KernelLossHeadIdeal.nD Cert.KernelLossHeadIdeal.τ Cert.KernelLossHeadIdeal.sig) → Buf (Elt Ideal) ℓ) : Prop :=
  True

def Pre_ReferenceLossHeadIdeal (m : (ℓ : Loc Cert.ReferenceLossHeadIdeal.nD Cert.ReferenceLossHeadIdeal.τ Cert.ReferenceLossHeadIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelSsmConvD (m : (ℓ : Loc Cert.KernelSsmConvD.nD Cert.KernelSsmConvD.τ Cert.KernelSsmConvD.sig) → Buf (Elt Bits) ℓ) : Prop :=
  True

def Pre_KernelSsmConvDIdeal (m : (ℓ : Loc Cert.KernelSsmConvDIdeal.nD Cert.KernelSsmConvDIdeal.τ Cert.KernelSsmConvDIdeal.sig) → Buf (Elt Ideal) ℓ) : Prop :=
  True

def Pre_ReferenceSsmConvDIdeal (m : (ℓ : Loc Cert.ReferenceSsmConvDIdeal.nD Cert.ReferenceSsmConvDIdeal.τ Cert.ReferenceSsmConvDIdeal.sig) → Buf (Elt Ideal) ℓ) : Prop :=
  True

def Pre_KernelSsmConvIn (m : (ℓ : Loc Cert.KernelSsmConvIn.nD Cert.KernelSsmConvIn.τ Cert.KernelSsmConvIn.sig) → Buf (Elt Bits) ℓ) : Prop :=
  True

def Pre_KernelSsmConvInIdeal (m : (ℓ : Loc Cert.KernelSsmConvInIdeal.nD Cert.KernelSsmConvInIdeal.τ Cert.KernelSsmConvInIdeal.sig) → Buf (Elt Ideal) ℓ) : Prop :=
  True

def Pre_ReferenceSsmConvInIdeal (m : (ℓ : Loc Cert.ReferenceSsmConvInIdeal.nD Cert.ReferenceSsmConvInIdeal.τ Cert.ReferenceSsmConvInIdeal.sig) → Buf (Elt Ideal) ℓ) : Prop :=
  True

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1))
      ∧ r.2.sem = fun _ => 0)

def quiescent_KernelUpW [hKernelUpW : Cert.KernelUpW.Facts] : Prop :=
  ∀ (m : (ℓ : Loc Cert.KernelUpW.nD Cert.KernelUpW.τ Cert.KernelUpW.sig) → Buf (Elt Bits) ℓ) (g : Dev Cert.KernelUpW.nD → PrngReg), Pre_KernelUpW m →
    θ_run (Cert.KernelUpW.defs (F := Bits)) (onTc (τ := Cert.KernelUpW.τ) (Cert.KernelUpW.main (F := Bits))) ⟨m, fun _ => 0, g⟩ (fun r => (∀ c : Dev Cert.KernelUpW.nD,
      r.2.mem ((c.tc : Thread Cert.KernelUpW.nD Cert.KernelUpW.τ).loc Cert.KernelUpW.main_arg0) = m ((c.tc : Thread Cert.KernelUpW.nD Cert.KernelUpW.τ).loc Cert.KernelUpW.main_arg0)
      ∧ r.2.mem ((c.tc : Thread Cert.KernelUpW.nD Cert.KernelUpW.τ).loc Cert.KernelUpW.main_arg1) = m ((c.tc : Thread Cert.KernelUpW.nD Cert.KernelUpW.τ).loc Cert.KernelUpW.main_arg1)
      ∧ r.2.mem ((c.tc : Thread Cert.KernelUpW.nD Cert.KernelUpW.τ).loc Cert.KernelUpW.main_arg2) = m ((c.tc : Thread Cert.KernelUpW.nD Cert.KernelUpW.τ).loc Cert.KernelUpW.main_arg2))
      ∧ r.2.sem = fun _ => 0)

def quiescent_KernelUpWIdeal [hKernelUpWIdeal : Cert.KernelUpWIdeal.Facts] : Prop :=
  ∀ (m : (ℓ : Loc Cert.KernelUpWIdeal.nD Cert.KernelUpWIdeal.τ Cert.KernelUpWIdeal.sig) → Buf (Elt Ideal) ℓ) (g : Dev Cert.KernelUpWIdeal.nD → PrngReg), Pre_KernelUpWIdeal m →
    θ_run (Cert.KernelUpWIdeal.defs (F := Ideal)) (onTc (τ := Cert.KernelUpWIdeal.τ) (Cert.KernelUpWIdeal.main (F := Ideal))) ⟨m, fun _ => 0, g⟩ (fun r => (∀ c : Dev Cert.KernelUpWIdeal.nD,
      r.2.mem ((c.tc : Thread Cert.KernelUpWIdeal.nD Cert.KernelUpWIdeal.τ).loc Cert.KernelUpWIdeal.main_arg0) = m ((c.tc : Thread Cert.KernelUpWIdeal.nD Cert.KernelUpWIdeal.τ).loc Cert.KernelUpWIdeal.main_arg0)
      ∧ r.2.mem ((c.tc : Thread Cert.KernelUpWIdeal.nD Cert.KernelUpWIdeal.τ).loc Cert.KernelUpWIdeal.main_arg1) = m ((c.tc : Thread Cert.KernelUpWIdeal.nD Cert.KernelUpWIdeal.τ).loc Cert.KernelUpWIdeal.main_arg1)
      ∧ r.2.mem ((c.tc : Thread Cert.KernelUpWIdeal.nD Cert.KernelUpWIdeal.τ).loc Cert.KernelUpWIdeal.main_arg2) = m ((c.tc : Thread Cert.KernelUpWIdeal.nD Cert.KernelUpWIdeal.τ).loc Cert.KernelUpWIdeal.main_arg2))
      ∧ r.2.sem = fun _ => 0)

def quiescent_ReferenceUpWIdeal [hReferenceUpWIdeal : Cert.ReferenceUpWIdeal.Facts] : Prop :=
  ∀ (m : (ℓ : Loc Cert.ReferenceUpWIdeal.nD Cert.ReferenceUpWIdeal.τ Cert.ReferenceUpWIdeal.sig) → Buf (Elt Ideal) ℓ) (g : Dev Cert.ReferenceUpWIdeal.nD → PrngReg), Pre_ReferenceUpWIdeal m →
    θ_run (Cert.ReferenceUpWIdeal.defs (F := Ideal)) (onTc (τ := Cert.ReferenceUpWIdeal.τ) (Cert.ReferenceUpWIdeal.main (F := Ideal))) ⟨m, fun _ => 0, g⟩ (fun r => (∀ c : Dev Cert.ReferenceUpWIdeal.nD,
      r.2.mem ((c.tc : Thread Cert.ReferenceUpWIdeal.nD Cert.ReferenceUpWIdeal.τ).loc Cert.ReferenceUpWIdeal.main_arg0) = m ((c.tc : Thread Cert.ReferenceUpWIdeal.nD Cert.ReferenceUpWIdeal.τ).loc Cert.ReferenceUpWIdeal.main_arg0)
      ∧ r.2.mem ((c.tc : Thread Cert.ReferenceUpWIdeal.nD Cert.ReferenceUpWIdeal.τ).loc Cert.ReferenceUpWIdeal.main_arg1) = m ((c.tc : Thread Cert.ReferenceUpWIdeal.nD Cert.ReferenceUpWIdeal.τ).loc Cert.ReferenceUpWIdeal.main_arg1)
      ∧ r.2.mem ((c.tc : Thread Cert.ReferenceUpWIdeal.nD Cert.ReferenceUpWIdeal.τ).loc Cert.ReferenceUpWIdeal.main_arg2) = m ((c.tc : Thread Cert.ReferenceUpWIdeal.nD Cert.ReferenceUpWIdeal.τ).loc Cert.ReferenceUpWIdeal.main_arg2))
      ∧ r.2.sem = fun _ => 0)

def quiescent_KernelUpD [hKernelUpD : Cert.KernelUpD.Facts] : Prop :=
  ∀ (m : (ℓ : Loc Cert.KernelUpD.nD Cert.KernelUpD.τ Cert.KernelUpD.sig) → Buf (Elt Bits) ℓ) (g : Dev Cert.KernelUpD.nD → PrngReg), Pre_KernelUpD m →
    θ_run (Cert.KernelUpD.defs (F := Bits)) (onTc (τ := Cert.KernelUpD.τ) (Cert.KernelUpD.main (F := Bits))) ⟨m, fun _ => 0, g⟩ (fun r => (∀ c : Dev Cert.KernelUpD.nD,
      r.2.mem ((c.tc : Thread Cert.KernelUpD.nD Cert.KernelUpD.τ).loc Cert.KernelUpD.main_arg0) = m ((c.tc : Thread Cert.KernelUpD.nD Cert.KernelUpD.τ).loc Cert.KernelUpD.main_arg0)
      ∧ r.2.mem ((c.tc : Thread Cert.KernelUpD.nD Cert.KernelUpD.τ).loc Cert.KernelUpD.main_arg1) = m ((c.tc : Thread Cert.KernelUpD.nD Cert.KernelUpD.τ).loc Cert.KernelUpD.main_arg1)
      ∧ r.2.mem ((c.tc : Thread Cert.KernelUpD.nD Cert.KernelUpD.τ).loc Cert.KernelUpD.main_arg2) = m ((c.tc : Thread Cert.KernelUpD.nD Cert.KernelUpD.τ).loc Cert.KernelUpD.main_arg2)
      ∧ r.2.mem ((c.tc : Thread Cert.KernelUpD.nD Cert.KernelUpD.τ).loc Cert.KernelUpD.main_arg3) = m ((c.tc : Thread Cert.KernelUpD.nD Cert.KernelUpD.τ).loc Cert.KernelUpD.main_arg3)
      ∧ r.2.mem ((c.tc : Thread Cert.KernelUpD.nD Cert.KernelUpD.τ).loc Cert.KernelUpD.main_arg4) = m ((c.tc : Thread Cert.KernelUpD.nD Cert.KernelUpD.τ).loc Cert.KernelUpD.main_arg4))
      ∧ r.2.sem = fun _ => 0)

def quiescent_KernelUpDIdeal [hKernelUpDIdeal : Cert.KernelUpDIdeal.Facts] : Prop :=
  ∀ (m : (ℓ : Loc Cert.KernelUpDIdeal.nD Cert.KernelUpDIdeal.τ Cert.KernelUpDIdeal.sig) → Buf (Elt Ideal) ℓ) (g : Dev Cert.KernelUpDIdeal.nD → PrngReg), Pre_KernelUpDIdeal m →
    θ_run (Cert.KernelUpDIdeal.defs (F := Ideal)) (onTc (τ := Cert.KernelUpDIdeal.τ) (Cert.KernelUpDIdeal.main (F := Ideal))) ⟨m, fun _ => 0, g⟩ (fun r => (∀ c : Dev Cert.KernelUpDIdeal.nD,
      r.2.mem ((c.tc : Thread Cert.KernelUpDIdeal.nD Cert.KernelUpDIdeal.τ).loc Cert.KernelUpDIdeal.main_arg0) = m ((c.tc : Thread Cert.KernelUpDIdeal.nD Cert.KernelUpDIdeal.τ).loc Cert.KernelUpDIdeal.main_arg0)
      ∧ r.2.mem ((c.tc : Thread Cert.KernelUpDIdeal.nD Cert.KernelUpDIdeal.τ).loc Cert.KernelUpDIdeal.main_arg1) = m ((c.tc : Thread Cert.KernelUpDIdeal.nD Cert.KernelUpDIdeal.τ).loc Cert.KernelUpDIdeal.main_arg1)
      ∧ r.2.mem ((c.tc : Thread Cert.KernelUpDIdeal.nD Cert.KernelUpDIdeal.τ).loc Cert.KernelUpDIdeal.main_arg2) = m ((c.tc : Thread Cert.KernelUpDIdeal.nD Cert.KernelUpDIdeal.τ).loc Cert.KernelUpDIdeal.main_arg2)
      ∧ r.2.mem ((c.tc : Thread Cert.KernelUpDIdeal.nD Cert.KernelUpDIdeal.τ).loc Cert.KernelUpDIdeal.main_arg3) = m ((c.tc : Thread Cert.KernelUpDIdeal.nD Cert.KernelUpDIdeal.τ).loc Cert.KernelUpDIdeal.main_arg3)
      ∧ r.2.mem ((c.tc : Thread Cert.KernelUpDIdeal.nD Cert.KernelUpDIdeal.τ).loc Cert.KernelUpDIdeal.main_arg4) = m ((c.tc : Thread Cert.KernelUpDIdeal.nD Cert.KernelUpDIdeal.τ).loc Cert.KernelUpDIdeal.main_arg4))
      ∧ r.2.sem = fun _ => 0)

def quiescent_ReferenceUpDIdeal [hReferenceUpDIdeal : Cert.ReferenceUpDIdeal.Facts] : Prop :=
  ∀ (m : (ℓ : Loc Cert.ReferenceUpDIdeal.nD Cert.ReferenceUpDIdeal.τ Cert.ReferenceUpDIdeal.sig) → Buf (Elt Ideal) ℓ) (g : Dev Cert.ReferenceUpDIdeal.nD → PrngReg), Pre_ReferenceUpDIdeal m →
    θ_run (Cert.ReferenceUpDIdeal.defs (F := Ideal)) (onTc (τ := Cert.ReferenceUpDIdeal.τ) (Cert.ReferenceUpDIdeal.main (F := Ideal))) ⟨m, fun _ => 0, g⟩ (fun r => (∀ c : Dev Cert.ReferenceUpDIdeal.nD,
      r.2.mem ((c.tc : Thread Cert.ReferenceUpDIdeal.nD Cert.ReferenceUpDIdeal.τ).loc Cert.ReferenceUpDIdeal.main_arg0) = m ((c.tc : Thread Cert.ReferenceUpDIdeal.nD Cert.ReferenceUpDIdeal.τ).loc Cert.ReferenceUpDIdeal.main_arg0)
      ∧ r.2.mem ((c.tc : Thread Cert.ReferenceUpDIdeal.nD Cert.ReferenceUpDIdeal.τ).loc Cert.ReferenceUpDIdeal.main_arg1) = m ((c.tc : Thread Cert.ReferenceUpDIdeal.nD Cert.ReferenceUpDIdeal.τ).loc Cert.ReferenceUpDIdeal.main_arg1)
      ∧ r.2.mem ((c.tc : Thread Cert.ReferenceUpDIdeal.nD Cert.ReferenceUpDIdeal.τ).loc Cert.ReferenceUpDIdeal.main_arg2) = m ((c.tc : Thread Cert.ReferenceUpDIdeal.nD Cert.ReferenceUpDIdeal.τ).loc Cert.ReferenceUpDIdeal.main_arg2)
      ∧ r.2.mem ((c.tc : Thread Cert.ReferenceUpDIdeal.nD Cert.ReferenceUpDIdeal.τ).loc Cert.ReferenceUpDIdeal.main_arg3) = m ((c.tc : Thread Cert.ReferenceUpDIdeal.nD Cert.ReferenceUpDIdeal.τ).loc Cert.ReferenceUpDIdeal.main_arg3)
      ∧ r.2.mem ((c.tc : Thread Cert.ReferenceUpDIdeal.nD Cert.ReferenceUpDIdeal.τ).loc Cert.ReferenceUpDIdeal.main_arg4) = m ((c.tc : Thread Cert.ReferenceUpDIdeal.nD Cert.ReferenceUpDIdeal.τ).loc Cert.ReferenceUpDIdeal.main_arg4))
      ∧ r.2.sem = fun _ => 0)

def quiescent_KernelDownW [hKernelDownW : Cert.KernelDownW.Facts] : Prop :=
  ∀ (m : (ℓ : Loc Cert.KernelDownW.nD Cert.KernelDownW.τ Cert.KernelDownW.sig) → Buf (Elt Bits) ℓ) (g : Dev Cert.KernelDownW.nD → PrngReg), Pre_KernelDownW m →
    θ_run (Cert.KernelDownW.defs (F := Bits)) (onTc (τ := Cert.KernelDownW.τ) (Cert.KernelDownW.main (F := Bits))) ⟨m, fun _ => 0, g⟩ (fun r => (∀ c : Dev Cert.KernelDownW.nD,
      r.2.mem ((c.tc : Thread Cert.KernelDownW.nD Cert.KernelDownW.τ).loc Cert.KernelDownW.main_arg0) = m ((c.tc : Thread Cert.KernelDownW.nD Cert.KernelDownW.τ).loc Cert.KernelDownW.main_arg0)
      ∧ r.2.mem ((c.tc : Thread Cert.KernelDownW.nD Cert.KernelDownW.τ).loc Cert.KernelDownW.main_arg1) = m ((c.tc : Thread Cert.KernelDownW.nD Cert.KernelDownW.τ).loc Cert.KernelDownW.main_arg1))
      ∧ r.2.sem = fun _ => 0)

def quiescent_KernelDownWIdeal [hKernelDownWIdeal : Cert.KernelDownWIdeal.Facts] : Prop :=
  ∀ (m : (ℓ : Loc Cert.KernelDownWIdeal.nD Cert.KernelDownWIdeal.τ Cert.KernelDownWIdeal.sig) → Buf (Elt Ideal) ℓ) (g : Dev Cert.KernelDownWIdeal.nD → PrngReg), Pre_KernelDownWIdeal m →
    θ_run (Cert.KernelDownWIdeal.defs (F := Ideal)) (onTc (τ := Cert.KernelDownWIdeal.τ) (Cert.KernelDownWIdeal.main (F := Ideal))) ⟨m, fun _ => 0, g⟩ (fun r => (∀ c : Dev Cert.KernelDownWIdeal.nD,
      r.2.mem ((c.tc : Thread Cert.KernelDownWIdeal.nD Cert.KernelDownWIdeal.τ).loc Cert.KernelDownWIdeal.main_arg0) = m ((c.tc : Thread Cert.KernelDownWIdeal.nD Cert.KernelDownWIdeal.τ).loc Cert.KernelDownWIdeal.main_arg0)
      ∧ r.2.mem ((c.tc : Thread Cert.KernelDownWIdeal.nD Cert.KernelDownWIdeal.τ).loc Cert.KernelDownWIdeal.main_arg1) = m ((c.tc : Thread Cert.KernelDownWIdeal.nD Cert.KernelDownWIdeal.τ).loc Cert.KernelDownWIdeal.main_arg1))
      ∧ r.2.sem = fun _ => 0)

def quiescent_ReferenceDownWIdeal [hReferenceDownWIdeal : Cert.ReferenceDownWIdeal.Facts] : Prop :=
  ∀ (m : (ℓ : Loc Cert.ReferenceDownWIdeal.nD Cert.ReferenceDownWIdeal.τ Cert.ReferenceDownWIdeal.sig) → Buf (Elt Ideal) ℓ) (g : Dev Cert.ReferenceDownWIdeal.nD → PrngReg), Pre_ReferenceDownWIdeal m →
    θ_run (Cert.ReferenceDownWIdeal.defs (F := Ideal)) (onTc (τ := Cert.ReferenceDownWIdeal.τ) (Cert.ReferenceDownWIdeal.main (F := Ideal))) ⟨m, fun _ => 0, g⟩ (fun r => (∀ c : Dev Cert.ReferenceDownWIdeal.nD,
      r.2.mem ((c.tc : Thread Cert.ReferenceDownWIdeal.nD Cert.ReferenceDownWIdeal.τ).loc Cert.ReferenceDownWIdeal.main_arg0) = m ((c.tc : Thread Cert.ReferenceDownWIdeal.nD Cert.ReferenceDownWIdeal.τ).loc Cert.ReferenceDownWIdeal.main_arg0)
      ∧ r.2.mem ((c.tc : Thread Cert.ReferenceDownWIdeal.nD Cert.ReferenceDownWIdeal.τ).loc Cert.ReferenceDownWIdeal.main_arg1) = m ((c.tc : Thread Cert.ReferenceDownWIdeal.nD Cert.ReferenceDownWIdeal.τ).loc Cert.ReferenceDownWIdeal.main_arg1))
      ∧ r.2.sem = fun _ => 0)

def quiescent_KernelDownD [hKernelDownD : Cert.KernelDownD.Facts] : Prop :=
  ∀ (m : (ℓ : Loc Cert.KernelDownD.nD Cert.KernelDownD.τ Cert.KernelDownD.sig) → Buf (Elt Bits) ℓ) (g : Dev Cert.KernelDownD.nD → PrngReg), Pre_KernelDownD m →
    θ_run (Cert.KernelDownD.defs (F := Bits)) (onTc (τ := Cert.KernelDownD.τ) (Cert.KernelDownD.main (F := Bits))) ⟨m, fun _ => 0, g⟩ (fun r => (∀ c : Dev Cert.KernelDownD.nD,
      r.2.mem ((c.tc : Thread Cert.KernelDownD.nD Cert.KernelDownD.τ).loc Cert.KernelDownD.main_arg0) = m ((c.tc : Thread Cert.KernelDownD.nD Cert.KernelDownD.τ).loc Cert.KernelDownD.main_arg0)
      ∧ r.2.mem ((c.tc : Thread Cert.KernelDownD.nD Cert.KernelDownD.τ).loc Cert.KernelDownD.main_arg1) = m ((c.tc : Thread Cert.KernelDownD.nD Cert.KernelDownD.τ).loc Cert.KernelDownD.main_arg1))
      ∧ r.2.sem = fun _ => 0)

def quiescent_KernelDownDIdeal [hKernelDownDIdeal : Cert.KernelDownDIdeal.Facts] : Prop :=
  ∀ (m : (ℓ : Loc Cert.KernelDownDIdeal.nD Cert.KernelDownDIdeal.τ Cert.KernelDownDIdeal.sig) → Buf (Elt Ideal) ℓ) (g : Dev Cert.KernelDownDIdeal.nD → PrngReg), Pre_KernelDownDIdeal m →
    θ_run (Cert.KernelDownDIdeal.defs (F := Ideal)) (onTc (τ := Cert.KernelDownDIdeal.τ) (Cert.KernelDownDIdeal.main (F := Ideal))) ⟨m, fun _ => 0, g⟩ (fun r => (∀ c : Dev Cert.KernelDownDIdeal.nD,
      r.2.mem ((c.tc : Thread Cert.KernelDownDIdeal.nD Cert.KernelDownDIdeal.τ).loc Cert.KernelDownDIdeal.main_arg0) = m ((c.tc : Thread Cert.KernelDownDIdeal.nD Cert.KernelDownDIdeal.τ).loc Cert.KernelDownDIdeal.main_arg0)
      ∧ r.2.mem ((c.tc : Thread Cert.KernelDownDIdeal.nD Cert.KernelDownDIdeal.τ).loc Cert.KernelDownDIdeal.main_arg1) = m ((c.tc : Thread Cert.KernelDownDIdeal.nD Cert.KernelDownDIdeal.τ).loc Cert.KernelDownDIdeal.main_arg1))
      ∧ r.2.sem = fun _ => 0)

def quiescent_ReferenceDownDIdeal [hReferenceDownDIdeal : Cert.ReferenceDownDIdeal.Facts] : Prop :=
  ∀ (m : (ℓ : Loc Cert.ReferenceDownDIdeal.nD Cert.ReferenceDownDIdeal.τ Cert.ReferenceDownDIdeal.sig) → Buf (Elt Ideal) ℓ) (g : Dev Cert.ReferenceDownDIdeal.nD → PrngReg), Pre_ReferenceDownDIdeal m →
    θ_run (Cert.ReferenceDownDIdeal.defs (F := Ideal)) (onTc (τ := Cert.ReferenceDownDIdeal.τ) (Cert.ReferenceDownDIdeal.main (F := Ideal))) ⟨m, fun _ => 0, g⟩ (fun r => (∀ c : Dev Cert.ReferenceDownDIdeal.nD,
      r.2.mem ((c.tc : Thread Cert.ReferenceDownDIdeal.nD Cert.ReferenceDownDIdeal.τ).loc Cert.ReferenceDownDIdeal.main_arg0) = m ((c.tc : Thread Cert.ReferenceDownDIdeal.nD Cert.ReferenceDownDIdeal.τ).loc Cert.ReferenceDownDIdeal.main_arg0)
      ∧ r.2.mem ((c.tc : Thread Cert.ReferenceDownDIdeal.nD Cert.ReferenceDownDIdeal.τ).loc Cert.ReferenceDownDIdeal.main_arg1) = m ((c.tc : Thread Cert.ReferenceDownDIdeal.nD Cert.ReferenceDownDIdeal.τ).loc Cert.ReferenceDownDIdeal.main_arg1))
      ∧ r.2.sem = fun _ => 0)

def quiescent_KernelAttnOW [hKernelAttnOW : Cert.KernelAttnOW.Facts] : Prop :=
  ∀ (m : (ℓ : Loc Cert.KernelAttnOW.nD Cert.KernelAttnOW.τ Cert.KernelAttnOW.sig) → Buf (Elt Bits) ℓ) (g : Dev Cert.KernelAttnOW.nD → PrngReg), Pre_KernelAttnOW m →
    θ_run (Cert.KernelAttnOW.defs (F := Bits)) (onTc (τ := Cert.KernelAttnOW.τ) (Cert.KernelAttnOW.main (F := Bits))) ⟨m, fun _ => 0, g⟩ (fun r => (∀ c : Dev Cert.KernelAttnOW.nD,
      r.2.mem ((c.tc : Thread Cert.KernelAttnOW.nD Cert.KernelAttnOW.τ).loc Cert.KernelAttnOW.main_arg0) = m ((c.tc : Thread Cert.KernelAttnOW.nD Cert.KernelAttnOW.τ).loc Cert.KernelAttnOW.main_arg0)
      ∧ r.2.mem ((c.tc : Thread Cert.KernelAttnOW.nD Cert.KernelAttnOW.τ).loc Cert.KernelAttnOW.main_arg1) = m ((c.tc : Thread Cert.KernelAttnOW.nD Cert.KernelAttnOW.τ).loc Cert.KernelAttnOW.main_arg1))
      ∧ r.2.sem = fun _ => 0)

def quiescent_KernelAttnOWIdeal [hKernelAttnOWIdeal : Cert.KernelAttnOWIdeal.Facts] : Prop :=
  ∀ (m : (ℓ : Loc Cert.KernelAttnOWIdeal.nD Cert.KernelAttnOWIdeal.τ Cert.KernelAttnOWIdeal.sig) → Buf (Elt Ideal) ℓ) (g : Dev Cert.KernelAttnOWIdeal.nD → PrngReg), Pre_KernelAttnOWIdeal m →
    θ_run (Cert.KernelAttnOWIdeal.defs (F := Ideal)) (onTc (τ := Cert.KernelAttnOWIdeal.τ) (Cert.KernelAttnOWIdeal.main (F := Ideal))) ⟨m, fun _ => 0, g⟩ (fun r => (∀ c : Dev Cert.KernelAttnOWIdeal.nD,
      r.2.mem ((c.tc : Thread Cert.KernelAttnOWIdeal.nD Cert.KernelAttnOWIdeal.τ).loc Cert.KernelAttnOWIdeal.main_arg0) = m ((c.tc : Thread Cert.KernelAttnOWIdeal.nD Cert.KernelAttnOWIdeal.τ).loc Cert.KernelAttnOWIdeal.main_arg0)
      ∧ r.2.mem ((c.tc : Thread Cert.KernelAttnOWIdeal.nD Cert.KernelAttnOWIdeal.τ).loc Cert.KernelAttnOWIdeal.main_arg1) = m ((c.tc : Thread Cert.KernelAttnOWIdeal.nD Cert.KernelAttnOWIdeal.τ).loc Cert.KernelAttnOWIdeal.main_arg1))
      ∧ r.2.sem = fun _ => 0)

def quiescent_ReferenceAttnOWIdeal [hReferenceAttnOWIdeal : Cert.ReferenceAttnOWIdeal.Facts] : Prop :=
  ∀ (m : (ℓ : Loc Cert.ReferenceAttnOWIdeal.nD Cert.ReferenceAttnOWIdeal.τ Cert.ReferenceAttnOWIdeal.sig) → Buf (Elt Ideal) ℓ) (g : Dev Cert.ReferenceAttnOWIdeal.nD → PrngReg), Pre_ReferenceAttnOWIdeal m →
    θ_run (Cert.ReferenceAttnOWIdeal.defs (F := Ideal)) (onTc (τ := Cert.ReferenceAttnOWIdeal.τ) (Cert.ReferenceAttnOWIdeal.main (F := Ideal))) ⟨m, fun _ => 0, g⟩ (fun r => (∀ c : Dev Cert.ReferenceAttnOWIdeal.nD,
      r.2.mem ((c.tc : Thread Cert.ReferenceAttnOWIdeal.nD Cert.ReferenceAttnOWIdeal.τ).loc Cert.ReferenceAttnOWIdeal.main_arg0) = m ((c.tc : Thread Cert.ReferenceAttnOWIdeal.nD Cert.ReferenceAttnOWIdeal.τ).loc Cert.ReferenceAttnOWIdeal.main_arg0)
      ∧ r.2.mem ((c.tc : Thread Cert.ReferenceAttnOWIdeal.nD Cert.ReferenceAttnOWIdeal.τ).loc Cert.ReferenceAttnOWIdeal.main_arg1) = m ((c.tc : Thread Cert.ReferenceAttnOWIdeal.nD Cert.ReferenceAttnOWIdeal.τ).loc Cert.ReferenceAttnOWIdeal.main_arg1))
      ∧ r.2.sem = fun _ => 0)

def quiescent_KernelAttnOD [hKernelAttnOD : Cert.KernelAttnOD.Facts] : Prop :=
  ∀ (m : (ℓ : Loc Cert.KernelAttnOD.nD Cert.KernelAttnOD.τ Cert.KernelAttnOD.sig) → Buf (Elt Bits) ℓ) (g : Dev Cert.KernelAttnOD.nD → PrngReg), Pre_KernelAttnOD m →
    θ_run (Cert.KernelAttnOD.defs (F := Bits)) (onTc (τ := Cert.KernelAttnOD.τ) (Cert.KernelAttnOD.main (F := Bits))) ⟨m, fun _ => 0, g⟩ (fun r => (∀ c : Dev Cert.KernelAttnOD.nD,
      r.2.mem ((c.tc : Thread Cert.KernelAttnOD.nD Cert.KernelAttnOD.τ).loc Cert.KernelAttnOD.main_arg0) = m ((c.tc : Thread Cert.KernelAttnOD.nD Cert.KernelAttnOD.τ).loc Cert.KernelAttnOD.main_arg0)
      ∧ r.2.mem ((c.tc : Thread Cert.KernelAttnOD.nD Cert.KernelAttnOD.τ).loc Cert.KernelAttnOD.main_arg1) = m ((c.tc : Thread Cert.KernelAttnOD.nD Cert.KernelAttnOD.τ).loc Cert.KernelAttnOD.main_arg1))
      ∧ r.2.sem = fun _ => 0)

def quiescent_KernelAttnODIdeal [hKernelAttnODIdeal : Cert.KernelAttnODIdeal.Facts] : Prop :=
  ∀ (m : (ℓ : Loc Cert.KernelAttnODIdeal.nD Cert.KernelAttnODIdeal.τ Cert.KernelAttnODIdeal.sig) → Buf (Elt Ideal) ℓ) (g : Dev Cert.KernelAttnODIdeal.nD → PrngReg), Pre_KernelAttnODIdeal m →
    θ_run (Cert.KernelAttnODIdeal.defs (F := Ideal)) (onTc (τ := Cert.KernelAttnODIdeal.τ) (Cert.KernelAttnODIdeal.main (F := Ideal))) ⟨m, fun _ => 0, g⟩ (fun r => (∀ c : Dev Cert.KernelAttnODIdeal.nD,
      r.2.mem ((c.tc : Thread Cert.KernelAttnODIdeal.nD Cert.KernelAttnODIdeal.τ).loc Cert.KernelAttnODIdeal.main_arg0) = m ((c.tc : Thread Cert.KernelAttnODIdeal.nD Cert.KernelAttnODIdeal.τ).loc Cert.KernelAttnODIdeal.main_arg0)
      ∧ r.2.mem ((c.tc : Thread Cert.KernelAttnODIdeal.nD Cert.KernelAttnODIdeal.τ).loc Cert.KernelAttnODIdeal.main_arg1) = m ((c.tc : Thread Cert.KernelAttnODIdeal.nD Cert.KernelAttnODIdeal.τ).loc Cert.KernelAttnODIdeal.main_arg1))
      ∧ r.2.sem = fun _ => 0)

def quiescent_ReferenceAttnODIdeal [hReferenceAttnODIdeal : Cert.ReferenceAttnODIdeal.Facts] : Prop :=
  ∀ (m : (ℓ : Loc Cert.ReferenceAttnODIdeal.nD Cert.ReferenceAttnODIdeal.τ Cert.ReferenceAttnODIdeal.sig) → Buf (Elt Ideal) ℓ) (g : Dev Cert.ReferenceAttnODIdeal.nD → PrngReg), Pre_ReferenceAttnODIdeal m →
    θ_run (Cert.ReferenceAttnODIdeal.defs (F := Ideal)) (onTc (τ := Cert.ReferenceAttnODIdeal.τ) (Cert.ReferenceAttnODIdeal.main (F := Ideal))) ⟨m, fun _ => 0, g⟩ (fun r => (∀ c : Dev Cert.ReferenceAttnODIdeal.nD,
      r.2.mem ((c.tc : Thread Cert.ReferenceAttnODIdeal.nD Cert.ReferenceAttnODIdeal.τ).loc Cert.ReferenceAttnODIdeal.main_arg0) = m ((c.tc : Thread Cert.ReferenceAttnODIdeal.nD Cert.ReferenceAttnODIdeal.τ).loc Cert.ReferenceAttnODIdeal.main_arg0)
      ∧ r.2.mem ((c.tc : Thread Cert.ReferenceAttnODIdeal.nD Cert.ReferenceAttnODIdeal.τ).loc Cert.ReferenceAttnODIdeal.main_arg1) = m ((c.tc : Thread Cert.ReferenceAttnODIdeal.nD Cert.ReferenceAttnODIdeal.τ).loc Cert.ReferenceAttnODIdeal.main_arg1))
      ∧ r.2.sem = fun _ => 0)

def quiescent_KernelAttnQW [hKernelAttnQW : Cert.KernelAttnQW.Facts] : Prop :=
  ∀ (m : (ℓ : Loc Cert.KernelAttnQW.nD Cert.KernelAttnQW.τ Cert.KernelAttnQW.sig) → Buf (Elt Bits) ℓ) (g : Dev Cert.KernelAttnQW.nD → PrngReg), Pre_KernelAttnQW m →
    θ_run (Cert.KernelAttnQW.defs (F := Bits)) (onTc (τ := Cert.KernelAttnQW.τ) (Cert.KernelAttnQW.main (F := Bits))) ⟨m, fun _ => 0, g⟩ (fun r => (∀ c : Dev Cert.KernelAttnQW.nD,
      r.2.mem ((c.tc : Thread Cert.KernelAttnQW.nD Cert.KernelAttnQW.τ).loc Cert.KernelAttnQW.main_arg0) = m ((c.tc : Thread Cert.KernelAttnQW.nD Cert.KernelAttnQW.τ).loc Cert.KernelAttnQW.main_arg0)
      ∧ r.2.mem ((c.tc : Thread Cert.KernelAttnQW.nD Cert.KernelAttnQW.τ).loc Cert.KernelAttnQW.main_arg1) = m ((c.tc : Thread Cert.KernelAttnQW.nD Cert.KernelAttnQW.τ).loc Cert.KernelAttnQW.main_arg1)
      ∧ r.2.mem ((c.tc : Thread Cert.KernelAttnQW.nD Cert.KernelAttnQW.τ).loc Cert.KernelAttnQW.main_arg2) = m ((c.tc : Thread Cert.KernelAttnQW.nD Cert.KernelAttnQW.τ).loc Cert.KernelAttnQW.main_arg2))
      ∧ r.2.sem = fun _ => 0)

def quiescent_KernelAttnQWIdeal [hKernelAttnQWIdeal : Cert.KernelAttnQWIdeal.Facts] : Prop :=
  ∀ (m : (ℓ : Loc Cert.KernelAttnQWIdeal.nD Cert.KernelAttnQWIdeal.τ Cert.KernelAttnQWIdeal.sig) → Buf (Elt Ideal) ℓ) (g : Dev Cert.KernelAttnQWIdeal.nD → PrngReg), Pre_KernelAttnQWIdeal m →
    θ_run (Cert.KernelAttnQWIdeal.defs (F := Ideal)) (onTc (τ := Cert.KernelAttnQWIdeal.τ) (Cert.KernelAttnQWIdeal.main (F := Ideal))) ⟨m, fun _ => 0, g⟩ (fun r => (∀ c : Dev Cert.KernelAttnQWIdeal.nD,
      r.2.mem ((c.tc : Thread Cert.KernelAttnQWIdeal.nD Cert.KernelAttnQWIdeal.τ).loc Cert.KernelAttnQWIdeal.main_arg0) = m ((c.tc : Thread Cert.KernelAttnQWIdeal.nD Cert.KernelAttnQWIdeal.τ).loc Cert.KernelAttnQWIdeal.main_arg0)
      ∧ r.2.mem ((c.tc : Thread Cert.KernelAttnQWIdeal.nD Cert.KernelAttnQWIdeal.τ).loc Cert.KernelAttnQWIdeal.main_arg1) = m ((c.tc : Thread Cert.KernelAttnQWIdeal.nD Cert.KernelAttnQWIdeal.τ).loc Cert.KernelAttnQWIdeal.main_arg1)
      ∧ r.2.mem ((c.tc : Thread Cert.KernelAttnQWIdeal.nD Cert.KernelAttnQWIdeal.τ).loc Cert.KernelAttnQWIdeal.main_arg2) = m ((c.tc : Thread Cert.KernelAttnQWIdeal.nD Cert.KernelAttnQWIdeal.τ).loc Cert.KernelAttnQWIdeal.main_arg2))
      ∧ r.2.sem = fun _ => 0)

def quiescent_ReferenceAttnQWIdeal [hReferenceAttnQWIdeal : Cert.ReferenceAttnQWIdeal.Facts] : Prop :=
  ∀ (m : (ℓ : Loc Cert.ReferenceAttnQWIdeal.nD Cert.ReferenceAttnQWIdeal.τ Cert.ReferenceAttnQWIdeal.sig) → Buf (Elt Ideal) ℓ) (g : Dev Cert.ReferenceAttnQWIdeal.nD → PrngReg), Pre_ReferenceAttnQWIdeal m →
    θ_run (Cert.ReferenceAttnQWIdeal.defs (F := Ideal)) (onTc (τ := Cert.ReferenceAttnQWIdeal.τ) (Cert.ReferenceAttnQWIdeal.main (F := Ideal))) ⟨m, fun _ => 0, g⟩ (fun r => (∀ c : Dev Cert.ReferenceAttnQWIdeal.nD,
      r.2.mem ((c.tc : Thread Cert.ReferenceAttnQWIdeal.nD Cert.ReferenceAttnQWIdeal.τ).loc Cert.ReferenceAttnQWIdeal.main_arg0) = m ((c.tc : Thread Cert.ReferenceAttnQWIdeal.nD Cert.ReferenceAttnQWIdeal.τ).loc Cert.ReferenceAttnQWIdeal.main_arg0)
      ∧ r.2.mem ((c.tc : Thread Cert.ReferenceAttnQWIdeal.nD Cert.ReferenceAttnQWIdeal.τ).loc Cert.ReferenceAttnQWIdeal.main_arg1) = m ((c.tc : Thread Cert.ReferenceAttnQWIdeal.nD Cert.ReferenceAttnQWIdeal.τ).loc Cert.ReferenceAttnQWIdeal.main_arg1)
      ∧ r.2.mem ((c.tc : Thread Cert.ReferenceAttnQWIdeal.nD Cert.ReferenceAttnQWIdeal.τ).loc Cert.ReferenceAttnQWIdeal.main_arg2) = m ((c.tc : Thread Cert.ReferenceAttnQWIdeal.nD Cert.ReferenceAttnQWIdeal.τ).loc Cert.ReferenceAttnQWIdeal.main_arg2))
      ∧ r.2.sem = fun _ => 0)

def quiescent_KernelAttnQD [hKernelAttnQD : Cert.KernelAttnQD.Facts] : Prop :=
  ∀ (m : (ℓ : Loc Cert.KernelAttnQD.nD Cert.KernelAttnQD.τ Cert.KernelAttnQD.sig) → Buf (Elt Bits) ℓ) (g : Dev Cert.KernelAttnQD.nD → PrngReg), Pre_KernelAttnQD m →
    θ_run (Cert.KernelAttnQD.defs (F := Bits)) (onTc (τ := Cert.KernelAttnQD.τ) (Cert.KernelAttnQD.main (F := Bits))) ⟨m, fun _ => 0, g⟩ (fun r => (∀ c : Dev Cert.KernelAttnQD.nD,
      r.2.mem ((c.tc : Thread Cert.KernelAttnQD.nD Cert.KernelAttnQD.τ).loc Cert.KernelAttnQD.main_arg0) = m ((c.tc : Thread Cert.KernelAttnQD.nD Cert.KernelAttnQD.τ).loc Cert.KernelAttnQD.main_arg0)
      ∧ r.2.mem ((c.tc : Thread Cert.KernelAttnQD.nD Cert.KernelAttnQD.τ).loc Cert.KernelAttnQD.main_arg1) = m ((c.tc : Thread Cert.KernelAttnQD.nD Cert.KernelAttnQD.τ).loc Cert.KernelAttnQD.main_arg1)
      ∧ r.2.mem ((c.tc : Thread Cert.KernelAttnQD.nD Cert.KernelAttnQD.τ).loc Cert.KernelAttnQD.main_arg2) = m ((c.tc : Thread Cert.KernelAttnQD.nD Cert.KernelAttnQD.τ).loc Cert.KernelAttnQD.main_arg2)
      ∧ r.2.mem ((c.tc : Thread Cert.KernelAttnQD.nD Cert.KernelAttnQD.τ).loc Cert.KernelAttnQD.main_arg3) = m ((c.tc : Thread Cert.KernelAttnQD.nD Cert.KernelAttnQD.τ).loc Cert.KernelAttnQD.main_arg3)
      ∧ r.2.mem ((c.tc : Thread Cert.KernelAttnQD.nD Cert.KernelAttnQD.τ).loc Cert.KernelAttnQD.main_arg4) = m ((c.tc : Thread Cert.KernelAttnQD.nD Cert.KernelAttnQD.τ).loc Cert.KernelAttnQD.main_arg4))
      ∧ r.2.sem = fun _ => 0)

def quiescent_KernelAttnQDIdeal [hKernelAttnQDIdeal : Cert.KernelAttnQDIdeal.Facts] : Prop :=
  ∀ (m : (ℓ : Loc Cert.KernelAttnQDIdeal.nD Cert.KernelAttnQDIdeal.τ Cert.KernelAttnQDIdeal.sig) → Buf (Elt Ideal) ℓ) (g : Dev Cert.KernelAttnQDIdeal.nD → PrngReg), Pre_KernelAttnQDIdeal m →
    θ_run (Cert.KernelAttnQDIdeal.defs (F := Ideal)) (onTc (τ := Cert.KernelAttnQDIdeal.τ) (Cert.KernelAttnQDIdeal.main (F := Ideal))) ⟨m, fun _ => 0, g⟩ (fun r => (∀ c : Dev Cert.KernelAttnQDIdeal.nD,
      r.2.mem ((c.tc : Thread Cert.KernelAttnQDIdeal.nD Cert.KernelAttnQDIdeal.τ).loc Cert.KernelAttnQDIdeal.main_arg0) = m ((c.tc : Thread Cert.KernelAttnQDIdeal.nD Cert.KernelAttnQDIdeal.τ).loc Cert.KernelAttnQDIdeal.main_arg0)
      ∧ r.2.mem ((c.tc : Thread Cert.KernelAttnQDIdeal.nD Cert.KernelAttnQDIdeal.τ).loc Cert.KernelAttnQDIdeal.main_arg1) = m ((c.tc : Thread Cert.KernelAttnQDIdeal.nD Cert.KernelAttnQDIdeal.τ).loc Cert.KernelAttnQDIdeal.main_arg1)
      ∧ r.2.mem ((c.tc : Thread Cert.KernelAttnQDIdeal.nD Cert.KernelAttnQDIdeal.τ).loc Cert.KernelAttnQDIdeal.main_arg2) = m ((c.tc : Thread Cert.KernelAttnQDIdeal.nD Cert.KernelAttnQDIdeal.τ).loc Cert.KernelAttnQDIdeal.main_arg2)
      ∧ r.2.mem ((c.tc : Thread Cert.KernelAttnQDIdeal.nD Cert.KernelAttnQDIdeal.τ).loc Cert.KernelAttnQDIdeal.main_arg3) = m ((c.tc : Thread Cert.KernelAttnQDIdeal.nD Cert.KernelAttnQDIdeal.τ).loc Cert.KernelAttnQDIdeal.main_arg3)
      ∧ r.2.mem ((c.tc : Thread Cert.KernelAttnQDIdeal.nD Cert.KernelAttnQDIdeal.τ).loc Cert.KernelAttnQDIdeal.main_arg4) = m ((c.tc : Thread Cert.KernelAttnQDIdeal.nD Cert.KernelAttnQDIdeal.τ).loc Cert.KernelAttnQDIdeal.main_arg4))
      ∧ r.2.sem = fun _ => 0)

def quiescent_ReferenceAttnQDIdeal [hReferenceAttnQDIdeal : Cert.ReferenceAttnQDIdeal.Facts] : Prop :=
  ∀ (m : (ℓ : Loc Cert.ReferenceAttnQDIdeal.nD Cert.ReferenceAttnQDIdeal.τ Cert.ReferenceAttnQDIdeal.sig) → Buf (Elt Ideal) ℓ) (g : Dev Cert.ReferenceAttnQDIdeal.nD → PrngReg), Pre_ReferenceAttnQDIdeal m →
    θ_run (Cert.ReferenceAttnQDIdeal.defs (F := Ideal)) (onTc (τ := Cert.ReferenceAttnQDIdeal.τ) (Cert.ReferenceAttnQDIdeal.main (F := Ideal))) ⟨m, fun _ => 0, g⟩ (fun r => (∀ c : Dev Cert.ReferenceAttnQDIdeal.nD,
      r.2.mem ((c.tc : Thread Cert.ReferenceAttnQDIdeal.nD Cert.ReferenceAttnQDIdeal.τ).loc Cert.ReferenceAttnQDIdeal.main_arg0) = m ((c.tc : Thread Cert.ReferenceAttnQDIdeal.nD Cert.ReferenceAttnQDIdeal.τ).loc Cert.ReferenceAttnQDIdeal.main_arg0)
      ∧ r.2.mem ((c.tc : Thread Cert.ReferenceAttnQDIdeal.nD Cert.ReferenceAttnQDIdeal.τ).loc Cert.ReferenceAttnQDIdeal.main_arg1) = m ((c.tc : Thread Cert.ReferenceAttnQDIdeal.nD Cert.ReferenceAttnQDIdeal.τ).loc Cert.ReferenceAttnQDIdeal.main_arg1)
      ∧ r.2.mem ((c.tc : Thread Cert.ReferenceAttnQDIdeal.nD Cert.ReferenceAttnQDIdeal.τ).loc Cert.ReferenceAttnQDIdeal.main_arg2) = m ((c.tc : Thread Cert.ReferenceAttnQDIdeal.nD Cert.ReferenceAttnQDIdeal.τ).loc Cert.ReferenceAttnQDIdeal.main_arg2)
      ∧ r.2.mem ((c.tc : Thread Cert.ReferenceAttnQDIdeal.nD Cert.ReferenceAttnQDIdeal.τ).loc Cert.ReferenceAttnQDIdeal.main_arg3) = m ((c.tc : Thread Cert.ReferenceAttnQDIdeal.nD Cert.ReferenceAttnQDIdeal.τ).loc Cert.ReferenceAttnQDIdeal.main_arg3)
      ∧ r.2.mem ((c.tc : Thread Cert.ReferenceAttnQDIdeal.nD Cert.ReferenceAttnQDIdeal.τ).loc Cert.ReferenceAttnQDIdeal.main_arg4) = m ((c.tc : Thread Cert.ReferenceAttnQDIdeal.nD Cert.ReferenceAttnQDIdeal.τ).loc Cert.ReferenceAttnQDIdeal.main_arg4))
      ∧ r.2.sem = fun _ => 0)

def quiescent_KernelAttnKVW [hKernelAttnKVW : Cert.KernelAttnKVW.Facts] : Prop :=
  ∀ (m : (ℓ : Loc Cert.KernelAttnKVW.nD Cert.KernelAttnKVW.τ Cert.KernelAttnKVW.sig) → Buf (Elt Bits) ℓ) (g : Dev Cert.KernelAttnKVW.nD → PrngReg), Pre_KernelAttnKVW m →
    θ_run (Cert.KernelAttnKVW.defs (F := Bits)) (onTc (τ := Cert.KernelAttnKVW.τ) (Cert.KernelAttnKVW.main (F := Bits))) ⟨m, fun _ => 0, g⟩ (fun r => (∀ c : Dev Cert.KernelAttnKVW.nD,
      r.2.mem ((c.tc : Thread Cert.KernelAttnKVW.nD Cert.KernelAttnKVW.τ).loc Cert.KernelAttnKVW.main_arg0) = m ((c.tc : Thread Cert.KernelAttnKVW.nD Cert.KernelAttnKVW.τ).loc Cert.KernelAttnKVW.main_arg0)
      ∧ r.2.mem ((c.tc : Thread Cert.KernelAttnKVW.nD Cert.KernelAttnKVW.τ).loc Cert.KernelAttnKVW.main_arg1) = m ((c.tc : Thread Cert.KernelAttnKVW.nD Cert.KernelAttnKVW.τ).loc Cert.KernelAttnKVW.main_arg1)
      ∧ r.2.mem ((c.tc : Thread Cert.KernelAttnKVW.nD Cert.KernelAttnKVW.τ).loc Cert.KernelAttnKVW.main_arg2) = m ((c.tc : Thread Cert.KernelAttnKVW.nD Cert.KernelAttnKVW.τ).loc Cert.KernelAttnKVW.main_arg2))
      ∧ r.2.sem = fun _ => 0)

def quiescent_KernelAttnKVWIdeal [hKernelAttnKVWIdeal : Cert.KernelAttnKVWIdeal.Facts] : Prop :=
  ∀ (m : (ℓ : Loc Cert.KernelAttnKVWIdeal.nD Cert.KernelAttnKVWIdeal.τ Cert.KernelAttnKVWIdeal.sig) → Buf (Elt Ideal) ℓ) (g : Dev Cert.KernelAttnKVWIdeal.nD → PrngReg), Pre_KernelAttnKVWIdeal m →
    θ_run (Cert.KernelAttnKVWIdeal.defs (F := Ideal)) (onTc (τ := Cert.KernelAttnKVWIdeal.τ) (Cert.KernelAttnKVWIdeal.main (F := Ideal))) ⟨m, fun _ => 0, g⟩ (fun r => (∀ c : Dev Cert.KernelAttnKVWIdeal.nD,
      r.2.mem ((c.tc : Thread Cert.KernelAttnKVWIdeal.nD Cert.KernelAttnKVWIdeal.τ).loc Cert.KernelAttnKVWIdeal.main_arg0) = m ((c.tc : Thread Cert.KernelAttnKVWIdeal.nD Cert.KernelAttnKVWIdeal.τ).loc Cert.KernelAttnKVWIdeal.main_arg0)
      ∧ r.2.mem ((c.tc : Thread Cert.KernelAttnKVWIdeal.nD Cert.KernelAttnKVWIdeal.τ).loc Cert.KernelAttnKVWIdeal.main_arg1) = m ((c.tc : Thread Cert.KernelAttnKVWIdeal.nD Cert.KernelAttnKVWIdeal.τ).loc Cert.KernelAttnKVWIdeal.main_arg1)
      ∧ r.2.mem ((c.tc : Thread Cert.KernelAttnKVWIdeal.nD Cert.KernelAttnKVWIdeal.τ).loc Cert.KernelAttnKVWIdeal.main_arg2) = m ((c.tc : Thread Cert.KernelAttnKVWIdeal.nD Cert.KernelAttnKVWIdeal.τ).loc Cert.KernelAttnKVWIdeal.main_arg2))
      ∧ r.2.sem = fun _ => 0)

def quiescent_ReferenceAttnKVWIdeal [hReferenceAttnKVWIdeal : Cert.ReferenceAttnKVWIdeal.Facts] : Prop :=
  ∀ (m : (ℓ : Loc Cert.ReferenceAttnKVWIdeal.nD Cert.ReferenceAttnKVWIdeal.τ Cert.ReferenceAttnKVWIdeal.sig) → Buf (Elt Ideal) ℓ) (g : Dev Cert.ReferenceAttnKVWIdeal.nD → PrngReg), Pre_ReferenceAttnKVWIdeal m →
    θ_run (Cert.ReferenceAttnKVWIdeal.defs (F := Ideal)) (onTc (τ := Cert.ReferenceAttnKVWIdeal.τ) (Cert.ReferenceAttnKVWIdeal.main (F := Ideal))) ⟨m, fun _ => 0, g⟩ (fun r => (∀ c : Dev Cert.ReferenceAttnKVWIdeal.nD,
      r.2.mem ((c.tc : Thread Cert.ReferenceAttnKVWIdeal.nD Cert.ReferenceAttnKVWIdeal.τ).loc Cert.ReferenceAttnKVWIdeal.main_arg0) = m ((c.tc : Thread Cert.ReferenceAttnKVWIdeal.nD Cert.ReferenceAttnKVWIdeal.τ).loc Cert.ReferenceAttnKVWIdeal.main_arg0)
      ∧ r.2.mem ((c.tc : Thread Cert.ReferenceAttnKVWIdeal.nD Cert.ReferenceAttnKVWIdeal.τ).loc Cert.ReferenceAttnKVWIdeal.main_arg1) = m ((c.tc : Thread Cert.ReferenceAttnKVWIdeal.nD Cert.ReferenceAttnKVWIdeal.τ).loc Cert.ReferenceAttnKVWIdeal.main_arg1)
      ∧ r.2.mem ((c.tc : Thread Cert.ReferenceAttnKVWIdeal.nD Cert.ReferenceAttnKVWIdeal.τ).loc Cert.ReferenceAttnKVWIdeal.main_arg2) = m ((c.tc : Thread Cert.ReferenceAttnKVWIdeal.nD Cert.ReferenceAttnKVWIdeal.τ).loc Cert.ReferenceAttnKVWIdeal.main_arg2))
      ∧ r.2.sem = fun _ => 0)

def quiescent_KernelAttnKVD [hKernelAttnKVD : Cert.KernelAttnKVD.Facts] : Prop :=
  ∀ (m : (ℓ : Loc Cert.KernelAttnKVD.nD Cert.KernelAttnKVD.τ Cert.KernelAttnKVD.sig) → Buf (Elt Bits) ℓ) (g : Dev Cert.KernelAttnKVD.nD → PrngReg), Pre_KernelAttnKVD m →
    θ_run (Cert.KernelAttnKVD.defs (F := Bits)) (onTc (τ := Cert.KernelAttnKVD.τ) (Cert.KernelAttnKVD.main (F := Bits))) ⟨m, fun _ => 0, g⟩ (fun r => (∀ c : Dev Cert.KernelAttnKVD.nD,
      r.2.mem ((c.tc : Thread Cert.KernelAttnKVD.nD Cert.KernelAttnKVD.τ).loc Cert.KernelAttnKVD.main_arg0) = m ((c.tc : Thread Cert.KernelAttnKVD.nD Cert.KernelAttnKVD.τ).loc Cert.KernelAttnKVD.main_arg0)
      ∧ r.2.mem ((c.tc : Thread Cert.KernelAttnKVD.nD Cert.KernelAttnKVD.τ).loc Cert.KernelAttnKVD.main_arg1) = m ((c.tc : Thread Cert.KernelAttnKVD.nD Cert.KernelAttnKVD.τ).loc Cert.KernelAttnKVD.main_arg1)
      ∧ r.2.mem ((c.tc : Thread Cert.KernelAttnKVD.nD Cert.KernelAttnKVD.τ).loc Cert.KernelAttnKVD.main_arg2) = m ((c.tc : Thread Cert.KernelAttnKVD.nD Cert.KernelAttnKVD.τ).loc Cert.KernelAttnKVD.main_arg2)
      ∧ r.2.mem ((c.tc : Thread Cert.KernelAttnKVD.nD Cert.KernelAttnKVD.τ).loc Cert.KernelAttnKVD.main_arg3) = m ((c.tc : Thread Cert.KernelAttnKVD.nD Cert.KernelAttnKVD.τ).loc Cert.KernelAttnKVD.main_arg3)
      ∧ r.2.mem ((c.tc : Thread Cert.KernelAttnKVD.nD Cert.KernelAttnKVD.τ).loc Cert.KernelAttnKVD.main_arg4) = m ((c.tc : Thread Cert.KernelAttnKVD.nD Cert.KernelAttnKVD.τ).loc Cert.KernelAttnKVD.main_arg4))
      ∧ r.2.sem = fun _ => 0)

def quiescent_KernelAttnKVDIdeal [hKernelAttnKVDIdeal : Cert.KernelAttnKVDIdeal.Facts] : Prop :=
  ∀ (m : (ℓ : Loc Cert.KernelAttnKVDIdeal.nD Cert.KernelAttnKVDIdeal.τ Cert.KernelAttnKVDIdeal.sig) → Buf (Elt Ideal) ℓ) (g : Dev Cert.KernelAttnKVDIdeal.nD → PrngReg), Pre_KernelAttnKVDIdeal m →
    θ_run (Cert.KernelAttnKVDIdeal.defs (F := Ideal)) (onTc (τ := Cert.KernelAttnKVDIdeal.τ) (Cert.KernelAttnKVDIdeal.main (F := Ideal))) ⟨m, fun _ => 0, g⟩ (fun r => (∀ c : Dev Cert.KernelAttnKVDIdeal.nD,
      r.2.mem ((c.tc : Thread Cert.KernelAttnKVDIdeal.nD Cert.KernelAttnKVDIdeal.τ).loc Cert.KernelAttnKVDIdeal.main_arg0) = m ((c.tc : Thread Cert.KernelAttnKVDIdeal.nD Cert.KernelAttnKVDIdeal.τ).loc Cert.KernelAttnKVDIdeal.main_arg0)
      ∧ r.2.mem ((c.tc : Thread Cert.KernelAttnKVDIdeal.nD Cert.KernelAttnKVDIdeal.τ).loc Cert.KernelAttnKVDIdeal.main_arg1) = m ((c.tc : Thread Cert.KernelAttnKVDIdeal.nD Cert.KernelAttnKVDIdeal.τ).loc Cert.KernelAttnKVDIdeal.main_arg1)
      ∧ r.2.mem ((c.tc : Thread Cert.KernelAttnKVDIdeal.nD Cert.KernelAttnKVDIdeal.τ).loc Cert.KernelAttnKVDIdeal.main_arg2) = m ((c.tc : Thread Cert.KernelAttnKVDIdeal.nD Cert.KernelAttnKVDIdeal.τ).loc Cert.KernelAttnKVDIdeal.main_arg2)
      ∧ r.2.mem ((c.tc : Thread Cert.KernelAttnKVDIdeal.nD Cert.KernelAttnKVDIdeal.τ).loc Cert.KernelAttnKVDIdeal.main_arg3) = m ((c.tc : Thread Cert.KernelAttnKVDIdeal.nD Cert.KernelAttnKVDIdeal.τ).loc Cert.KernelAttnKVDIdeal.main_arg3)
      ∧ r.2.mem ((c.tc : Thread Cert.KernelAttnKVDIdeal.nD Cert.KernelAttnKVDIdeal.τ).loc Cert.KernelAttnKVDIdeal.main_arg4) = m ((c.tc : Thread Cert.KernelAttnKVDIdeal.nD Cert.KernelAttnKVDIdeal.τ).loc Cert.KernelAttnKVDIdeal.main_arg4))
      ∧ r.2.sem = fun _ => 0)

def quiescent_ReferenceAttnKVDIdeal [hReferenceAttnKVDIdeal : Cert.ReferenceAttnKVDIdeal.Facts] : Prop :=
  ∀ (m : (ℓ : Loc Cert.ReferenceAttnKVDIdeal.nD Cert.ReferenceAttnKVDIdeal.τ Cert.ReferenceAttnKVDIdeal.sig) → Buf (Elt Ideal) ℓ) (g : Dev Cert.ReferenceAttnKVDIdeal.nD → PrngReg), Pre_ReferenceAttnKVDIdeal m →
    θ_run (Cert.ReferenceAttnKVDIdeal.defs (F := Ideal)) (onTc (τ := Cert.ReferenceAttnKVDIdeal.τ) (Cert.ReferenceAttnKVDIdeal.main (F := Ideal))) ⟨m, fun _ => 0, g⟩ (fun r => (∀ c : Dev Cert.ReferenceAttnKVDIdeal.nD,
      r.2.mem ((c.tc : Thread Cert.ReferenceAttnKVDIdeal.nD Cert.ReferenceAttnKVDIdeal.τ).loc Cert.ReferenceAttnKVDIdeal.main_arg0) = m ((c.tc : Thread Cert.ReferenceAttnKVDIdeal.nD Cert.ReferenceAttnKVDIdeal.τ).loc Cert.ReferenceAttnKVDIdeal.main_arg0)
      ∧ r.2.mem ((c.tc : Thread Cert.ReferenceAttnKVDIdeal.nD Cert.ReferenceAttnKVDIdeal.τ).loc Cert.ReferenceAttnKVDIdeal.main_arg1) = m ((c.tc : Thread Cert.ReferenceAttnKVDIdeal.nD Cert.ReferenceAttnKVDIdeal.τ).loc Cert.ReferenceAttnKVDIdeal.main_arg1)
      ∧ r.2.mem ((c.tc : Thread Cert.ReferenceAttnKVDIdeal.nD Cert.ReferenceAttnKVDIdeal.τ).loc Cert.ReferenceAttnKVDIdeal.main_arg2) = m ((c.tc : Thread Cert.ReferenceAttnKVDIdeal.nD Cert.ReferenceAttnKVDIdeal.τ).loc Cert.ReferenceAttnKVDIdeal.main_arg2)
      ∧ r.2.mem ((c.tc : Thread Cert.ReferenceAttnKVDIdeal.nD Cert.ReferenceAttnKVDIdeal.τ).loc Cert.ReferenceAttnKVDIdeal.main_arg3) = m ((c.tc : Thread Cert.ReferenceAttnKVDIdeal.nD Cert.ReferenceAttnKVDIdeal.τ).loc Cert.ReferenceAttnKVDIdeal.main_arg3)
      ∧ r.2.mem ((c.tc : Thread Cert.ReferenceAttnKVDIdeal.nD Cert.ReferenceAttnKVDIdeal.τ).loc Cert.ReferenceAttnKVDIdeal.main_arg4) = m ((c.tc : Thread Cert.ReferenceAttnKVDIdeal.nD Cert.ReferenceAttnKVDIdeal.τ).loc Cert.ReferenceAttnKVDIdeal.main_arg4))
      ∧ r.2.sem = fun _ => 0)

def quiescent_KernelSsmOutW [hKernelSsmOutW : Cert.KernelSsmOutW.Facts] : Prop :=
  ∀ (m : (ℓ : Loc Cert.KernelSsmOutW.nD Cert.KernelSsmOutW.τ Cert.KernelSsmOutW.sig) → Buf (Elt Bits) ℓ) (g : Dev Cert.KernelSsmOutW.nD → PrngReg), Pre_KernelSsmOutW m →
    θ_run (Cert.KernelSsmOutW.defs (F := Bits)) (onTc (τ := Cert.KernelSsmOutW.τ) (Cert.KernelSsmOutW.main (F := Bits))) ⟨m, fun _ => 0, g⟩ (fun r => (∀ c : Dev Cert.KernelSsmOutW.nD,
      r.2.mem ((c.tc : Thread Cert.KernelSsmOutW.nD Cert.KernelSsmOutW.τ).loc Cert.KernelSsmOutW.main_arg0) = m ((c.tc : Thread Cert.KernelSsmOutW.nD Cert.KernelSsmOutW.τ).loc Cert.KernelSsmOutW.main_arg0)
      ∧ r.2.mem ((c.tc : Thread Cert.KernelSsmOutW.nD Cert.KernelSsmOutW.τ).loc Cert.KernelSsmOutW.main_arg1) = m ((c.tc : Thread Cert.KernelSsmOutW.nD Cert.KernelSsmOutW.τ).loc Cert.KernelSsmOutW.main_arg1))
      ∧ r.2.sem = fun _ => 0)

def quiescent_KernelSsmOutWIdeal [hKernelSsmOutWIdeal : Cert.KernelSsmOutWIdeal.Facts] : Prop :=
  ∀ (m : (ℓ : Loc Cert.KernelSsmOutWIdeal.nD Cert.KernelSsmOutWIdeal.τ Cert.KernelSsmOutWIdeal.sig) → Buf (Elt Ideal) ℓ) (g : Dev Cert.KernelSsmOutWIdeal.nD → PrngReg), Pre_KernelSsmOutWIdeal m →
    θ_run (Cert.KernelSsmOutWIdeal.defs (F := Ideal)) (onTc (τ := Cert.KernelSsmOutWIdeal.τ) (Cert.KernelSsmOutWIdeal.main (F := Ideal))) ⟨m, fun _ => 0, g⟩ (fun r => (∀ c : Dev Cert.KernelSsmOutWIdeal.nD,
      r.2.mem ((c.tc : Thread Cert.KernelSsmOutWIdeal.nD Cert.KernelSsmOutWIdeal.τ).loc Cert.KernelSsmOutWIdeal.main_arg0) = m ((c.tc : Thread Cert.KernelSsmOutWIdeal.nD Cert.KernelSsmOutWIdeal.τ).loc Cert.KernelSsmOutWIdeal.main_arg0)
      ∧ r.2.mem ((c.tc : Thread Cert.KernelSsmOutWIdeal.nD Cert.KernelSsmOutWIdeal.τ).loc Cert.KernelSsmOutWIdeal.main_arg1) = m ((c.tc : Thread Cert.KernelSsmOutWIdeal.nD Cert.KernelSsmOutWIdeal.τ).loc Cert.KernelSsmOutWIdeal.main_arg1))
      ∧ r.2.sem = fun _ => 0)

def quiescent_ReferenceSsmOutWIdeal [hReferenceSsmOutWIdeal : Cert.ReferenceSsmOutWIdeal.Facts] : Prop :=
  ∀ (m : (ℓ : Loc Cert.ReferenceSsmOutWIdeal.nD Cert.ReferenceSsmOutWIdeal.τ Cert.ReferenceSsmOutWIdeal.sig) → Buf (Elt Ideal) ℓ) (g : Dev Cert.ReferenceSsmOutWIdeal.nD → PrngReg), Pre_ReferenceSsmOutWIdeal m →
    θ_run (Cert.ReferenceSsmOutWIdeal.defs (F := Ideal)) (onTc (τ := Cert.ReferenceSsmOutWIdeal.τ) (Cert.ReferenceSsmOutWIdeal.main (F := Ideal))) ⟨m, fun _ => 0, g⟩ (fun r => (∀ c : Dev Cert.ReferenceSsmOutWIdeal.nD,
      r.2.mem ((c.tc : Thread Cert.ReferenceSsmOutWIdeal.nD Cert.ReferenceSsmOutWIdeal.τ).loc Cert.ReferenceSsmOutWIdeal.main_arg0) = m ((c.tc : Thread Cert.ReferenceSsmOutWIdeal.nD Cert.ReferenceSsmOutWIdeal.τ).loc Cert.ReferenceSsmOutWIdeal.main_arg0)
      ∧ r.2.mem ((c.tc : Thread Cert.ReferenceSsmOutWIdeal.nD Cert.ReferenceSsmOutWIdeal.τ).loc Cert.ReferenceSsmOutWIdeal.main_arg1) = m ((c.tc : Thread Cert.ReferenceSsmOutWIdeal.nD Cert.ReferenceSsmOutWIdeal.τ).loc Cert.ReferenceSsmOutWIdeal.main_arg1))
      ∧ r.2.sem = fun _ => 0)

def quiescent_KernelSsmOutD [hKernelSsmOutD : Cert.KernelSsmOutD.Facts] : Prop :=
  ∀ (m : (ℓ : Loc Cert.KernelSsmOutD.nD Cert.KernelSsmOutD.τ Cert.KernelSsmOutD.sig) → Buf (Elt Bits) ℓ) (g : Dev Cert.KernelSsmOutD.nD → PrngReg), Pre_KernelSsmOutD m →
    θ_run (Cert.KernelSsmOutD.defs (F := Bits)) (onTc (τ := Cert.KernelSsmOutD.τ) (Cert.KernelSsmOutD.main (F := Bits))) ⟨m, fun _ => 0, g⟩ (fun r => (∀ c : Dev Cert.KernelSsmOutD.nD,
      r.2.mem ((c.tc : Thread Cert.KernelSsmOutD.nD Cert.KernelSsmOutD.τ).loc Cert.KernelSsmOutD.main_arg0) = m ((c.tc : Thread Cert.KernelSsmOutD.nD Cert.KernelSsmOutD.τ).loc Cert.KernelSsmOutD.main_arg0)
      ∧ r.2.mem ((c.tc : Thread Cert.KernelSsmOutD.nD Cert.KernelSsmOutD.τ).loc Cert.KernelSsmOutD.main_arg1) = m ((c.tc : Thread Cert.KernelSsmOutD.nD Cert.KernelSsmOutD.τ).loc Cert.KernelSsmOutD.main_arg1))
      ∧ r.2.sem = fun _ => 0)

def quiescent_KernelSsmOutDIdeal [hKernelSsmOutDIdeal : Cert.KernelSsmOutDIdeal.Facts] : Prop :=
  ∀ (m : (ℓ : Loc Cert.KernelSsmOutDIdeal.nD Cert.KernelSsmOutDIdeal.τ Cert.KernelSsmOutDIdeal.sig) → Buf (Elt Ideal) ℓ) (g : Dev Cert.KernelSsmOutDIdeal.nD → PrngReg), Pre_KernelSsmOutDIdeal m →
    θ_run (Cert.KernelSsmOutDIdeal.defs (F := Ideal)) (onTc (τ := Cert.KernelSsmOutDIdeal.τ) (Cert.KernelSsmOutDIdeal.main (F := Ideal))) ⟨m, fun _ => 0, g⟩ (fun r => (∀ c : Dev Cert.KernelSsmOutDIdeal.nD,
      r.2.mem ((c.tc : Thread Cert.KernelSsmOutDIdeal.nD Cert.KernelSsmOutDIdeal.τ).loc Cert.KernelSsmOutDIdeal.main_arg0) = m ((c.tc : Thread Cert.KernelSsmOutDIdeal.nD Cert.KernelSsmOutDIdeal.τ).loc Cert.KernelSsmOutDIdeal.main_arg0)
      ∧ r.2.mem ((c.tc : Thread Cert.KernelSsmOutDIdeal.nD Cert.KernelSsmOutDIdeal.τ).loc Cert.KernelSsmOutDIdeal.main_arg1) = m ((c.tc : Thread Cert.KernelSsmOutDIdeal.nD Cert.KernelSsmOutDIdeal.τ).loc Cert.KernelSsmOutDIdeal.main_arg1))
      ∧ r.2.sem = fun _ => 0)

def quiescent_ReferenceSsmOutDIdeal [hReferenceSsmOutDIdeal : Cert.ReferenceSsmOutDIdeal.Facts] : Prop :=
  ∀ (m : (ℓ : Loc Cert.ReferenceSsmOutDIdeal.nD Cert.ReferenceSsmOutDIdeal.τ Cert.ReferenceSsmOutDIdeal.sig) → Buf (Elt Ideal) ℓ) (g : Dev Cert.ReferenceSsmOutDIdeal.nD → PrngReg), Pre_ReferenceSsmOutDIdeal m →
    θ_run (Cert.ReferenceSsmOutDIdeal.defs (F := Ideal)) (onTc (τ := Cert.ReferenceSsmOutDIdeal.τ) (Cert.ReferenceSsmOutDIdeal.main (F := Ideal))) ⟨m, fun _ => 0, g⟩ (fun r => (∀ c : Dev Cert.ReferenceSsmOutDIdeal.nD,
      r.2.mem ((c.tc : Thread Cert.ReferenceSsmOutDIdeal.nD Cert.ReferenceSsmOutDIdeal.τ).loc Cert.ReferenceSsmOutDIdeal.main_arg0) = m ((c.tc : Thread Cert.ReferenceSsmOutDIdeal.nD Cert.ReferenceSsmOutDIdeal.τ).loc Cert.ReferenceSsmOutDIdeal.main_arg0)
      ∧ r.2.mem ((c.tc : Thread Cert.ReferenceSsmOutDIdeal.nD Cert.ReferenceSsmOutDIdeal.τ).loc Cert.ReferenceSsmOutDIdeal.main_arg1) = m ((c.tc : Thread Cert.ReferenceSsmOutDIdeal.nD Cert.ReferenceSsmOutDIdeal.τ).loc Cert.ReferenceSsmOutDIdeal.main_arg1))
      ∧ r.2.sem = fun _ => 0)

def quiescent_KernelSsmInW [hKernelSsmInW : Cert.KernelSsmInW.Facts] : Prop :=
  ∀ (m : (ℓ : Loc Cert.KernelSsmInW.nD Cert.KernelSsmInW.τ Cert.KernelSsmInW.sig) → Buf (Elt Bits) ℓ) (g : Dev Cert.KernelSsmInW.nD → PrngReg), Pre_KernelSsmInW m →
    θ_run (Cert.KernelSsmInW.defs (F := Bits)) (onTc (τ := Cert.KernelSsmInW.τ) (Cert.KernelSsmInW.main (F := Bits))) ⟨m, fun _ => 0, g⟩ (fun r => (∀ c : Dev Cert.KernelSsmInW.nD,
      r.2.mem ((c.tc : Thread Cert.KernelSsmInW.nD Cert.KernelSsmInW.τ).loc Cert.KernelSsmInW.main_arg0) = m ((c.tc : Thread Cert.KernelSsmInW.nD Cert.KernelSsmInW.τ).loc Cert.KernelSsmInW.main_arg0)
      ∧ r.2.mem ((c.tc : Thread Cert.KernelSsmInW.nD Cert.KernelSsmInW.τ).loc Cert.KernelSsmInW.main_arg1) = m ((c.tc : Thread Cert.KernelSsmInW.nD Cert.KernelSsmInW.τ).loc Cert.KernelSsmInW.main_arg1)
      ∧ r.2.mem ((c.tc : Thread Cert.KernelSsmInW.nD Cert.KernelSsmInW.τ).loc Cert.KernelSsmInW.main_arg2) = m ((c.tc : Thread Cert.KernelSsmInW.nD Cert.KernelSsmInW.τ).loc Cert.KernelSsmInW.main_arg2))
      ∧ r.2.sem = fun _ => 0)

def quiescent_KernelSsmInWIdeal [hKernelSsmInWIdeal : Cert.KernelSsmInWIdeal.Facts] : Prop :=
  ∀ (m : (ℓ : Loc Cert.KernelSsmInWIdeal.nD Cert.KernelSsmInWIdeal.τ Cert.KernelSsmInWIdeal.sig) → Buf (Elt Ideal) ℓ) (g : Dev Cert.KernelSsmInWIdeal.nD → PrngReg), Pre_KernelSsmInWIdeal m →
    θ_run (Cert.KernelSsmInWIdeal.defs (F := Ideal)) (onTc (τ := Cert.KernelSsmInWIdeal.τ) (Cert.KernelSsmInWIdeal.main (F := Ideal))) ⟨m, fun _ => 0, g⟩ (fun r => (∀ c : Dev Cert.KernelSsmInWIdeal.nD,
      r.2.mem ((c.tc : Thread Cert.KernelSsmInWIdeal.nD Cert.KernelSsmInWIdeal.τ).loc Cert.KernelSsmInWIdeal.main_arg0) = m ((c.tc : Thread Cert.KernelSsmInWIdeal.nD Cert.KernelSsmInWIdeal.τ).loc Cert.KernelSsmInWIdeal.main_arg0)
      ∧ r.2.mem ((c.tc : Thread Cert.KernelSsmInWIdeal.nD Cert.KernelSsmInWIdeal.τ).loc Cert.KernelSsmInWIdeal.main_arg1) = m ((c.tc : Thread Cert.KernelSsmInWIdeal.nD Cert.KernelSsmInWIdeal.τ).loc Cert.KernelSsmInWIdeal.main_arg1)
      ∧ r.2.mem ((c.tc : Thread Cert.KernelSsmInWIdeal.nD Cert.KernelSsmInWIdeal.τ).loc Cert.KernelSsmInWIdeal.main_arg2) = m ((c.tc : Thread Cert.KernelSsmInWIdeal.nD Cert.KernelSsmInWIdeal.τ).loc Cert.KernelSsmInWIdeal.main_arg2))
      ∧ r.2.sem = fun _ => 0)

def quiescent_ReferenceSsmInWIdeal [hReferenceSsmInWIdeal : Cert.ReferenceSsmInWIdeal.Facts] : Prop :=
  ∀ (m : (ℓ : Loc Cert.ReferenceSsmInWIdeal.nD Cert.ReferenceSsmInWIdeal.τ Cert.ReferenceSsmInWIdeal.sig) → Buf (Elt Ideal) ℓ) (g : Dev Cert.ReferenceSsmInWIdeal.nD → PrngReg), Pre_ReferenceSsmInWIdeal m →
    θ_run (Cert.ReferenceSsmInWIdeal.defs (F := Ideal)) (onTc (τ := Cert.ReferenceSsmInWIdeal.τ) (Cert.ReferenceSsmInWIdeal.main (F := Ideal))) ⟨m, fun _ => 0, g⟩ (fun r => (∀ c : Dev Cert.ReferenceSsmInWIdeal.nD,
      r.2.mem ((c.tc : Thread Cert.ReferenceSsmInWIdeal.nD Cert.ReferenceSsmInWIdeal.τ).loc Cert.ReferenceSsmInWIdeal.main_arg0) = m ((c.tc : Thread Cert.ReferenceSsmInWIdeal.nD Cert.ReferenceSsmInWIdeal.τ).loc Cert.ReferenceSsmInWIdeal.main_arg0)
      ∧ r.2.mem ((c.tc : Thread Cert.ReferenceSsmInWIdeal.nD Cert.ReferenceSsmInWIdeal.τ).loc Cert.ReferenceSsmInWIdeal.main_arg1) = m ((c.tc : Thread Cert.ReferenceSsmInWIdeal.nD Cert.ReferenceSsmInWIdeal.τ).loc Cert.ReferenceSsmInWIdeal.main_arg1)
      ∧ r.2.mem ((c.tc : Thread Cert.ReferenceSsmInWIdeal.nD Cert.ReferenceSsmInWIdeal.τ).loc Cert.ReferenceSsmInWIdeal.main_arg2) = m ((c.tc : Thread Cert.ReferenceSsmInWIdeal.nD Cert.ReferenceSsmInWIdeal.τ).loc Cert.ReferenceSsmInWIdeal.main_arg2))
      ∧ r.2.sem = fun _ => 0)

def quiescent_KernelSsmInD [hKernelSsmInD : Cert.KernelSsmInD.Facts] : Prop :=
  ∀ (m : (ℓ : Loc Cert.KernelSsmInD.nD Cert.KernelSsmInD.τ Cert.KernelSsmInD.sig) → Buf (Elt Bits) ℓ) (g : Dev Cert.KernelSsmInD.nD → PrngReg), Pre_KernelSsmInD m →
    θ_run (Cert.KernelSsmInD.defs (F := Bits)) (onTc (τ := Cert.KernelSsmInD.τ) (Cert.KernelSsmInD.main (F := Bits))) ⟨m, fun _ => 0, g⟩ (fun r => (∀ c : Dev Cert.KernelSsmInD.nD,
      r.2.mem ((c.tc : Thread Cert.KernelSsmInD.nD Cert.KernelSsmInD.τ).loc Cert.KernelSsmInD.main_arg0) = m ((c.tc : Thread Cert.KernelSsmInD.nD Cert.KernelSsmInD.τ).loc Cert.KernelSsmInD.main_arg0)
      ∧ r.2.mem ((c.tc : Thread Cert.KernelSsmInD.nD Cert.KernelSsmInD.τ).loc Cert.KernelSsmInD.main_arg1) = m ((c.tc : Thread Cert.KernelSsmInD.nD Cert.KernelSsmInD.τ).loc Cert.KernelSsmInD.main_arg1)
      ∧ r.2.mem ((c.tc : Thread Cert.KernelSsmInD.nD Cert.KernelSsmInD.τ).loc Cert.KernelSsmInD.main_arg2) = m ((c.tc : Thread Cert.KernelSsmInD.nD Cert.KernelSsmInD.τ).loc Cert.KernelSsmInD.main_arg2)
      ∧ r.2.mem ((c.tc : Thread Cert.KernelSsmInD.nD Cert.KernelSsmInD.τ).loc Cert.KernelSsmInD.main_arg3) = m ((c.tc : Thread Cert.KernelSsmInD.nD Cert.KernelSsmInD.τ).loc Cert.KernelSsmInD.main_arg3)
      ∧ r.2.mem ((c.tc : Thread Cert.KernelSsmInD.nD Cert.KernelSsmInD.τ).loc Cert.KernelSsmInD.main_arg4) = m ((c.tc : Thread Cert.KernelSsmInD.nD Cert.KernelSsmInD.τ).loc Cert.KernelSsmInD.main_arg4))
      ∧ r.2.sem = fun _ => 0)

def quiescent_KernelSsmInDIdeal [hKernelSsmInDIdeal : Cert.KernelSsmInDIdeal.Facts] : Prop :=
  ∀ (m : (ℓ : Loc Cert.KernelSsmInDIdeal.nD Cert.KernelSsmInDIdeal.τ Cert.KernelSsmInDIdeal.sig) → Buf (Elt Ideal) ℓ) (g : Dev Cert.KernelSsmInDIdeal.nD → PrngReg), Pre_KernelSsmInDIdeal m →
    θ_run (Cert.KernelSsmInDIdeal.defs (F := Ideal)) (onTc (τ := Cert.KernelSsmInDIdeal.τ) (Cert.KernelSsmInDIdeal.main (F := Ideal))) ⟨m, fun _ => 0, g⟩ (fun r => (∀ c : Dev Cert.KernelSsmInDIdeal.nD,
      r.2.mem ((c.tc : Thread Cert.KernelSsmInDIdeal.nD Cert.KernelSsmInDIdeal.τ).loc Cert.KernelSsmInDIdeal.main_arg0) = m ((c.tc : Thread Cert.KernelSsmInDIdeal.nD Cert.KernelSsmInDIdeal.τ).loc Cert.KernelSsmInDIdeal.main_arg0)
      ∧ r.2.mem ((c.tc : Thread Cert.KernelSsmInDIdeal.nD Cert.KernelSsmInDIdeal.τ).loc Cert.KernelSsmInDIdeal.main_arg1) = m ((c.tc : Thread Cert.KernelSsmInDIdeal.nD Cert.KernelSsmInDIdeal.τ).loc Cert.KernelSsmInDIdeal.main_arg1)
      ∧ r.2.mem ((c.tc : Thread Cert.KernelSsmInDIdeal.nD Cert.KernelSsmInDIdeal.τ).loc Cert.KernelSsmInDIdeal.main_arg2) = m ((c.tc : Thread Cert.KernelSsmInDIdeal.nD Cert.KernelSsmInDIdeal.τ).loc Cert.KernelSsmInDIdeal.main_arg2)
      ∧ r.2.mem ((c.tc : Thread Cert.KernelSsmInDIdeal.nD Cert.KernelSsmInDIdeal.τ).loc Cert.KernelSsmInDIdeal.main_arg3) = m ((c.tc : Thread Cert.KernelSsmInDIdeal.nD Cert.KernelSsmInDIdeal.τ).loc Cert.KernelSsmInDIdeal.main_arg3)
      ∧ r.2.mem ((c.tc : Thread Cert.KernelSsmInDIdeal.nD Cert.KernelSsmInDIdeal.τ).loc Cert.KernelSsmInDIdeal.main_arg4) = m ((c.tc : Thread Cert.KernelSsmInDIdeal.nD Cert.KernelSsmInDIdeal.τ).loc Cert.KernelSsmInDIdeal.main_arg4))
      ∧ r.2.sem = fun _ => 0)

def quiescent_ReferenceSsmInDIdeal [hReferenceSsmInDIdeal : Cert.ReferenceSsmInDIdeal.Facts] : Prop :=
  ∀ (m : (ℓ : Loc Cert.ReferenceSsmInDIdeal.nD Cert.ReferenceSsmInDIdeal.τ Cert.ReferenceSsmInDIdeal.sig) → Buf (Elt Ideal) ℓ) (g : Dev Cert.ReferenceSsmInDIdeal.nD → PrngReg), Pre_ReferenceSsmInDIdeal m →
    θ_run (Cert.ReferenceSsmInDIdeal.defs (F := Ideal)) (onTc (τ := Cert.ReferenceSsmInDIdeal.τ) (Cert.ReferenceSsmInDIdeal.main (F := Ideal))) ⟨m, fun _ => 0, g⟩ (fun r => (∀ c : Dev Cert.ReferenceSsmInDIdeal.nD,
      r.2.mem ((c.tc : Thread Cert.ReferenceSsmInDIdeal.nD Cert.ReferenceSsmInDIdeal.τ).loc Cert.ReferenceSsmInDIdeal.main_arg0) = m ((c.tc : Thread Cert.ReferenceSsmInDIdeal.nD Cert.ReferenceSsmInDIdeal.τ).loc Cert.ReferenceSsmInDIdeal.main_arg0)
      ∧ r.2.mem ((c.tc : Thread Cert.ReferenceSsmInDIdeal.nD Cert.ReferenceSsmInDIdeal.τ).loc Cert.ReferenceSsmInDIdeal.main_arg1) = m ((c.tc : Thread Cert.ReferenceSsmInDIdeal.nD Cert.ReferenceSsmInDIdeal.τ).loc Cert.ReferenceSsmInDIdeal.main_arg1)
      ∧ r.2.mem ((c.tc : Thread Cert.ReferenceSsmInDIdeal.nD Cert.ReferenceSsmInDIdeal.τ).loc Cert.ReferenceSsmInDIdeal.main_arg2) = m ((c.tc : Thread Cert.ReferenceSsmInDIdeal.nD Cert.ReferenceSsmInDIdeal.τ).loc Cert.ReferenceSsmInDIdeal.main_arg2)
      ∧ r.2.mem ((c.tc : Thread Cert.ReferenceSsmInDIdeal.nD Cert.ReferenceSsmInDIdeal.τ).loc Cert.ReferenceSsmInDIdeal.main_arg3) = m ((c.tc : Thread Cert.ReferenceSsmInDIdeal.nD Cert.ReferenceSsmInDIdeal.τ).loc Cert.ReferenceSsmInDIdeal.main_arg3)
      ∧ r.2.mem ((c.tc : Thread Cert.ReferenceSsmInDIdeal.nD Cert.ReferenceSsmInDIdeal.τ).loc Cert.ReferenceSsmInDIdeal.main_arg4) = m ((c.tc : Thread Cert.ReferenceSsmInDIdeal.nD Cert.ReferenceSsmInDIdeal.τ).loc Cert.ReferenceSsmInDIdeal.main_arg4))
      ∧ r.2.sem = fun _ => 0)

def quiescent_KernelFfnUp [hKernelFfnUp : Cert.KernelFfnUp.Facts] : Prop :=
  ∀ (m : (ℓ : Loc Cert.KernelFfnUp.nD Cert.KernelFfnUp.τ Cert.KernelFfnUp.sig) → Buf (Elt Bits) ℓ) (g : Dev Cert.KernelFfnUp.nD → PrngReg), Pre_KernelFfnUp m →
    θ_run (Cert.KernelFfnUp.defs (F := Bits)) (onTc (τ := Cert.KernelFfnUp.τ) (Cert.KernelFfnUp.main (F := Bits))) ⟨m, fun _ => 0, g⟩ (fun r => (∀ c : Dev Cert.KernelFfnUp.nD,
      r.2.mem ((c.tc : Thread Cert.KernelFfnUp.nD Cert.KernelFfnUp.τ).loc Cert.KernelFfnUp.main_arg0) = m ((c.tc : Thread Cert.KernelFfnUp.nD Cert.KernelFfnUp.τ).loc Cert.KernelFfnUp.main_arg0)
      ∧ r.2.mem ((c.tc : Thread Cert.KernelFfnUp.nD Cert.KernelFfnUp.τ).loc Cert.KernelFfnUp.main_arg1) = m ((c.tc : Thread Cert.KernelFfnUp.nD Cert.KernelFfnUp.τ).loc Cert.KernelFfnUp.main_arg1)
      ∧ r.2.mem ((c.tc : Thread Cert.KernelFfnUp.nD Cert.KernelFfnUp.τ).loc Cert.KernelFfnUp.main_arg2) = m ((c.tc : Thread Cert.KernelFfnUp.nD Cert.KernelFfnUp.τ).loc Cert.KernelFfnUp.main_arg2))
      ∧ r.2.sem = fun _ => 0)

def quiescent_KernelFfnUpIdeal [hKernelFfnUpIdeal : Cert.KernelFfnUpIdeal.Facts] : Prop :=
  ∀ (m : (ℓ : Loc Cert.KernelFfnUpIdeal.nD Cert.KernelFfnUpIdeal.τ Cert.KernelFfnUpIdeal.sig) → Buf (Elt Ideal) ℓ) (g : Dev Cert.KernelFfnUpIdeal.nD → PrngReg), Pre_KernelFfnUpIdeal m →
    θ_run (Cert.KernelFfnUpIdeal.defs (F := Ideal)) (onTc (τ := Cert.KernelFfnUpIdeal.τ) (Cert.KernelFfnUpIdeal.main (F := Ideal))) ⟨m, fun _ => 0, g⟩ (fun r => (∀ c : Dev Cert.KernelFfnUpIdeal.nD,
      r.2.mem ((c.tc : Thread Cert.KernelFfnUpIdeal.nD Cert.KernelFfnUpIdeal.τ).loc Cert.KernelFfnUpIdeal.main_arg0) = m ((c.tc : Thread Cert.KernelFfnUpIdeal.nD Cert.KernelFfnUpIdeal.τ).loc Cert.KernelFfnUpIdeal.main_arg0)
      ∧ r.2.mem ((c.tc : Thread Cert.KernelFfnUpIdeal.nD Cert.KernelFfnUpIdeal.τ).loc Cert.KernelFfnUpIdeal.main_arg1) = m ((c.tc : Thread Cert.KernelFfnUpIdeal.nD Cert.KernelFfnUpIdeal.τ).loc Cert.KernelFfnUpIdeal.main_arg1)
      ∧ r.2.mem ((c.tc : Thread Cert.KernelFfnUpIdeal.nD Cert.KernelFfnUpIdeal.τ).loc Cert.KernelFfnUpIdeal.main_arg2) = m ((c.tc : Thread Cert.KernelFfnUpIdeal.nD Cert.KernelFfnUpIdeal.τ).loc Cert.KernelFfnUpIdeal.main_arg2))
      ∧ r.2.sem = fun _ => 0)

def quiescent_ReferenceFfnUpIdeal [hReferenceFfnUpIdeal : Cert.ReferenceFfnUpIdeal.Facts] : Prop :=
  ∀ (m : (ℓ : Loc Cert.ReferenceFfnUpIdeal.nD Cert.ReferenceFfnUpIdeal.τ Cert.ReferenceFfnUpIdeal.sig) → Buf (Elt Ideal) ℓ) (g : Dev Cert.ReferenceFfnUpIdeal.nD → PrngReg), Pre_ReferenceFfnUpIdeal m →
    θ_run (Cert.ReferenceFfnUpIdeal.defs (F := Ideal)) (onTc (τ := Cert.ReferenceFfnUpIdeal.τ) (Cert.ReferenceFfnUpIdeal.main (F := Ideal))) ⟨m, fun _ => 0, g⟩ (fun r => (∀ c : Dev Cert.ReferenceFfnUpIdeal.nD,
      r.2.mem ((c.tc : Thread Cert.ReferenceFfnUpIdeal.nD Cert.ReferenceFfnUpIdeal.τ).loc Cert.ReferenceFfnUpIdeal.main_arg0) = m ((c.tc : Thread Cert.ReferenceFfnUpIdeal.nD Cert.ReferenceFfnUpIdeal.τ).loc Cert.ReferenceFfnUpIdeal.main_arg0)
      ∧ r.2.mem ((c.tc : Thread Cert.ReferenceFfnUpIdeal.nD Cert.ReferenceFfnUpIdeal.τ).loc Cert.ReferenceFfnUpIdeal.main_arg1) = m ((c.tc : Thread Cert.ReferenceFfnUpIdeal.nD Cert.ReferenceFfnUpIdeal.τ).loc Cert.ReferenceFfnUpIdeal.main_arg1)
      ∧ r.2.mem ((c.tc : Thread Cert.ReferenceFfnUpIdeal.nD Cert.ReferenceFfnUpIdeal.τ).loc Cert.ReferenceFfnUpIdeal.main_arg2) = m ((c.tc : Thread Cert.ReferenceFfnUpIdeal.nD Cert.ReferenceFfnUpIdeal.τ).loc Cert.ReferenceFfnUpIdeal.main_arg2))
      ∧ r.2.sem = fun _ => 0)

def quiescent_KernelFfnDown [hKernelFfnDown : Cert.KernelFfnDown.Facts] : Prop :=
  ∀ (m : (ℓ : Loc Cert.KernelFfnDown.nD Cert.KernelFfnDown.τ Cert.KernelFfnDown.sig) → Buf (Elt Bits) ℓ) (g : Dev Cert.KernelFfnDown.nD → PrngReg), Pre_KernelFfnDown m →
    θ_run (Cert.KernelFfnDown.defs (F := Bits)) (onTc (τ := Cert.KernelFfnDown.τ) (Cert.KernelFfnDown.main (F := Bits))) ⟨m, fun _ => 0, g⟩ (fun r => (∀ c : Dev Cert.KernelFfnDown.nD,
      r.2.mem ((c.tc : Thread Cert.KernelFfnDown.nD Cert.KernelFfnDown.τ).loc Cert.KernelFfnDown.main_arg0) = m ((c.tc : Thread Cert.KernelFfnDown.nD Cert.KernelFfnDown.τ).loc Cert.KernelFfnDown.main_arg0)
      ∧ r.2.mem ((c.tc : Thread Cert.KernelFfnDown.nD Cert.KernelFfnDown.τ).loc Cert.KernelFfnDown.main_arg1) = m ((c.tc : Thread Cert.KernelFfnDown.nD Cert.KernelFfnDown.τ).loc Cert.KernelFfnDown.main_arg1)
      ∧ r.2.mem ((c.tc : Thread Cert.KernelFfnDown.nD Cert.KernelFfnDown.τ).loc Cert.KernelFfnDown.main_arg2) = m ((c.tc : Thread Cert.KernelFfnDown.nD Cert.KernelFfnDown.τ).loc Cert.KernelFfnDown.main_arg2))
      ∧ r.2.sem = fun _ => 0)

def quiescent_KernelFfnDownIdeal [hKernelFfnDownIdeal : Cert.KernelFfnDownIdeal.Facts] : Prop :=
  ∀ (m : (ℓ : Loc Cert.KernelFfnDownIdeal.nD Cert.KernelFfnDownIdeal.τ Cert.KernelFfnDownIdeal.sig) → Buf (Elt Ideal) ℓ) (g : Dev Cert.KernelFfnDownIdeal.nD → PrngReg), Pre_KernelFfnDownIdeal m →
    θ_run (Cert.KernelFfnDownIdeal.defs (F := Ideal)) (onTc (τ := Cert.KernelFfnDownIdeal.τ) (Cert.KernelFfnDownIdeal.main (F := Ideal))) ⟨m, fun _ => 0, g⟩ (fun r => (∀ c : Dev Cert.KernelFfnDownIdeal.nD,
      r.2.mem ((c.tc : Thread Cert.KernelFfnDownIdeal.nD Cert.KernelFfnDownIdeal.τ).loc Cert.KernelFfnDownIdeal.main_arg0) = m ((c.tc : Thread Cert.KernelFfnDownIdeal.nD Cert.KernelFfnDownIdeal.τ).loc Cert.KernelFfnDownIdeal.main_arg0)
      ∧ r.2.mem ((c.tc : Thread Cert.KernelFfnDownIdeal.nD Cert.KernelFfnDownIdeal.τ).loc Cert.KernelFfnDownIdeal.main_arg1) = m ((c.tc : Thread Cert.KernelFfnDownIdeal.nD Cert.KernelFfnDownIdeal.τ).loc Cert.KernelFfnDownIdeal.main_arg1)
      ∧ r.2.mem ((c.tc : Thread Cert.KernelFfnDownIdeal.nD Cert.KernelFfnDownIdeal.τ).loc Cert.KernelFfnDownIdeal.main_arg2) = m ((c.tc : Thread Cert.KernelFfnDownIdeal.nD Cert.KernelFfnDownIdeal.τ).loc Cert.KernelFfnDownIdeal.main_arg2))
      ∧ r.2.sem = fun _ => 0)

def quiescent_ReferenceFfnDownIdeal [hReferenceFfnDownIdeal : Cert.ReferenceFfnDownIdeal.Facts] : Prop :=
  ∀ (m : (ℓ : Loc Cert.ReferenceFfnDownIdeal.nD Cert.ReferenceFfnDownIdeal.τ Cert.ReferenceFfnDownIdeal.sig) → Buf (Elt Ideal) ℓ) (g : Dev Cert.ReferenceFfnDownIdeal.nD → PrngReg), Pre_ReferenceFfnDownIdeal m →
    θ_run (Cert.ReferenceFfnDownIdeal.defs (F := Ideal)) (onTc (τ := Cert.ReferenceFfnDownIdeal.τ) (Cert.ReferenceFfnDownIdeal.main (F := Ideal))) ⟨m, fun _ => 0, g⟩ (fun r => (∀ c : Dev Cert.ReferenceFfnDownIdeal.nD,
      r.2.mem ((c.tc : Thread Cert.ReferenceFfnDownIdeal.nD Cert.ReferenceFfnDownIdeal.τ).loc Cert.ReferenceFfnDownIdeal.main_arg0) = m ((c.tc : Thread Cert.ReferenceFfnDownIdeal.nD Cert.ReferenceFfnDownIdeal.τ).loc Cert.ReferenceFfnDownIdeal.main_arg0)
      ∧ r.2.mem ((c.tc : Thread Cert.ReferenceFfnDownIdeal.nD Cert.ReferenceFfnDownIdeal.τ).loc Cert.ReferenceFfnDownIdeal.main_arg1) = m ((c.tc : Thread Cert.ReferenceFfnDownIdeal.nD Cert.ReferenceFfnDownIdeal.τ).loc Cert.ReferenceFfnDownIdeal.main_arg1)
      ∧ r.2.mem ((c.tc : Thread Cert.ReferenceFfnDownIdeal.nD Cert.ReferenceFfnDownIdeal.τ).loc Cert.ReferenceFfnDownIdeal.main_arg2) = m ((c.tc : Thread Cert.ReferenceFfnDownIdeal.nD Cert.ReferenceFfnDownIdeal.τ).loc Cert.ReferenceFfnDownIdeal.main_arg2))
      ∧ r.2.sem = fun _ => 0)

def quiescent_KernelAttnQ [hKernelAttnQ : Cert.KernelAttnQ.Facts] : Prop :=
  ∀ (m : (ℓ : Loc Cert.KernelAttnQ.nD Cert.KernelAttnQ.τ Cert.KernelAttnQ.sig) → Buf (Elt Bits) ℓ) (g : Dev Cert.KernelAttnQ.nD → PrngReg), Pre_KernelAttnQ m →
    θ_run (Cert.KernelAttnQ.defs (F := Bits)) (onTc (τ := Cert.KernelAttnQ.τ) (Cert.KernelAttnQ.main (F := Bits))) ⟨m, fun _ => 0, g⟩ (fun r => (∀ c : Dev Cert.KernelAttnQ.nD,
      r.2.mem ((c.tc : Thread Cert.KernelAttnQ.nD Cert.KernelAttnQ.τ).loc Cert.KernelAttnQ.main_arg0) = m ((c.tc : Thread Cert.KernelAttnQ.nD Cert.KernelAttnQ.τ).loc Cert.KernelAttnQ.main_arg0)
      ∧ r.2.mem ((c.tc : Thread Cert.KernelAttnQ.nD Cert.KernelAttnQ.τ).loc Cert.KernelAttnQ.main_arg1) = m ((c.tc : Thread Cert.KernelAttnQ.nD Cert.KernelAttnQ.τ).loc Cert.KernelAttnQ.main_arg1)
      ∧ r.2.mem ((c.tc : Thread Cert.KernelAttnQ.nD Cert.KernelAttnQ.τ).loc Cert.KernelAttnQ.main_arg2) = m ((c.tc : Thread Cert.KernelAttnQ.nD Cert.KernelAttnQ.τ).loc Cert.KernelAttnQ.main_arg2))
      ∧ r.2.sem = fun _ => 0)

def quiescent_KernelAttnQIdeal [hKernelAttnQIdeal : Cert.KernelAttnQIdeal.Facts] : Prop :=
  ∀ (m : (ℓ : Loc Cert.KernelAttnQIdeal.nD Cert.KernelAttnQIdeal.τ Cert.KernelAttnQIdeal.sig) → Buf (Elt Ideal) ℓ) (g : Dev Cert.KernelAttnQIdeal.nD → PrngReg), Pre_KernelAttnQIdeal m →
    θ_run (Cert.KernelAttnQIdeal.defs (F := Ideal)) (onTc (τ := Cert.KernelAttnQIdeal.τ) (Cert.KernelAttnQIdeal.main (F := Ideal))) ⟨m, fun _ => 0, g⟩ (fun r => (∀ c : Dev Cert.KernelAttnQIdeal.nD,
      r.2.mem ((c.tc : Thread Cert.KernelAttnQIdeal.nD Cert.KernelAttnQIdeal.τ).loc Cert.KernelAttnQIdeal.main_arg0) = m ((c.tc : Thread Cert.KernelAttnQIdeal.nD Cert.KernelAttnQIdeal.τ).loc Cert.KernelAttnQIdeal.main_arg0)
      ∧ r.2.mem ((c.tc : Thread Cert.KernelAttnQIdeal.nD Cert.KernelAttnQIdeal.τ).loc Cert.KernelAttnQIdeal.main_arg1) = m ((c.tc : Thread Cert.KernelAttnQIdeal.nD Cert.KernelAttnQIdeal.τ).loc Cert.KernelAttnQIdeal.main_arg1)
      ∧ r.2.mem ((c.tc : Thread Cert.KernelAttnQIdeal.nD Cert.KernelAttnQIdeal.τ).loc Cert.KernelAttnQIdeal.main_arg2) = m ((c.tc : Thread Cert.KernelAttnQIdeal.nD Cert.KernelAttnQIdeal.τ).loc Cert.KernelAttnQIdeal.main_arg2))
      ∧ r.2.sem = fun _ => 0)

def quiescent_ReferenceAttnQIdeal [hReferenceAttnQIdeal : Cert.ReferenceAttnQIdeal.Facts] : Prop :=
  ∀ (m : (ℓ : Loc Cert.ReferenceAttnQIdeal.nD Cert.ReferenceAttnQIdeal.τ Cert.ReferenceAttnQIdeal.sig) → Buf (Elt Ideal) ℓ) (g : Dev Cert.ReferenceAttnQIdeal.nD → PrngReg), Pre_ReferenceAttnQIdeal m →
    θ_run (Cert.ReferenceAttnQIdeal.defs (F := Ideal)) (onTc (τ := Cert.ReferenceAttnQIdeal.τ) (Cert.ReferenceAttnQIdeal.main (F := Ideal))) ⟨m, fun _ => 0, g⟩ (fun r => (∀ c : Dev Cert.ReferenceAttnQIdeal.nD,
      r.2.mem ((c.tc : Thread Cert.ReferenceAttnQIdeal.nD Cert.ReferenceAttnQIdeal.τ).loc Cert.ReferenceAttnQIdeal.main_arg0) = m ((c.tc : Thread Cert.ReferenceAttnQIdeal.nD Cert.ReferenceAttnQIdeal.τ).loc Cert.ReferenceAttnQIdeal.main_arg0)
      ∧ r.2.mem ((c.tc : Thread Cert.ReferenceAttnQIdeal.nD Cert.ReferenceAttnQIdeal.τ).loc Cert.ReferenceAttnQIdeal.main_arg1) = m ((c.tc : Thread Cert.ReferenceAttnQIdeal.nD Cert.ReferenceAttnQIdeal.τ).loc Cert.ReferenceAttnQIdeal.main_arg1)
      ∧ r.2.mem ((c.tc : Thread Cert.ReferenceAttnQIdeal.nD Cert.ReferenceAttnQIdeal.τ).loc Cert.ReferenceAttnQIdeal.main_arg2) = m ((c.tc : Thread Cert.ReferenceAttnQIdeal.nD Cert.ReferenceAttnQIdeal.τ).loc Cert.ReferenceAttnQIdeal.main_arg2))
      ∧ r.2.sem = fun _ => 0)

def quiescent_KernelAttnKV [hKernelAttnKV : Cert.KernelAttnKV.Facts] : Prop :=
  ∀ (m : (ℓ : Loc Cert.KernelAttnKV.nD Cert.KernelAttnKV.τ Cert.KernelAttnKV.sig) → Buf (Elt Bits) ℓ) (g : Dev Cert.KernelAttnKV.nD → PrngReg), Pre_KernelAttnKV m →
    θ_run (Cert.KernelAttnKV.defs (F := Bits)) (onTc (τ := Cert.KernelAttnKV.τ) (Cert.KernelAttnKV.main (F := Bits))) ⟨m, fun _ => 0, g⟩ (fun r => (∀ c : Dev Cert.KernelAttnKV.nD,
      r.2.mem ((c.tc : Thread Cert.KernelAttnKV.nD Cert.KernelAttnKV.τ).loc Cert.KernelAttnKV.main_arg0) = m ((c.tc : Thread Cert.KernelAttnKV.nD Cert.KernelAttnKV.τ).loc Cert.KernelAttnKV.main_arg0)
      ∧ r.2.mem ((c.tc : Thread Cert.KernelAttnKV.nD Cert.KernelAttnKV.τ).loc Cert.KernelAttnKV.main_arg1) = m ((c.tc : Thread Cert.KernelAttnKV.nD Cert.KernelAttnKV.τ).loc Cert.KernelAttnKV.main_arg1)
      ∧ r.2.mem ((c.tc : Thread Cert.KernelAttnKV.nD Cert.KernelAttnKV.τ).loc Cert.KernelAttnKV.main_arg2) = m ((c.tc : Thread Cert.KernelAttnKV.nD Cert.KernelAttnKV.τ).loc Cert.KernelAttnKV.main_arg2))
      ∧ r.2.sem = fun _ => 0)

def quiescent_KernelAttnKVIdeal [hKernelAttnKVIdeal : Cert.KernelAttnKVIdeal.Facts] : Prop :=
  ∀ (m : (ℓ : Loc Cert.KernelAttnKVIdeal.nD Cert.KernelAttnKVIdeal.τ Cert.KernelAttnKVIdeal.sig) → Buf (Elt Ideal) ℓ) (g : Dev Cert.KernelAttnKVIdeal.nD → PrngReg), Pre_KernelAttnKVIdeal m →
    θ_run (Cert.KernelAttnKVIdeal.defs (F := Ideal)) (onTc (τ := Cert.KernelAttnKVIdeal.τ) (Cert.KernelAttnKVIdeal.main (F := Ideal))) ⟨m, fun _ => 0, g⟩ (fun r => (∀ c : Dev Cert.KernelAttnKVIdeal.nD,
      r.2.mem ((c.tc : Thread Cert.KernelAttnKVIdeal.nD Cert.KernelAttnKVIdeal.τ).loc Cert.KernelAttnKVIdeal.main_arg0) = m ((c.tc : Thread Cert.KernelAttnKVIdeal.nD Cert.KernelAttnKVIdeal.τ).loc Cert.KernelAttnKVIdeal.main_arg0)
      ∧ r.2.mem ((c.tc : Thread Cert.KernelAttnKVIdeal.nD Cert.KernelAttnKVIdeal.τ).loc Cert.KernelAttnKVIdeal.main_arg1) = m ((c.tc : Thread Cert.KernelAttnKVIdeal.nD Cert.KernelAttnKVIdeal.τ).loc Cert.KernelAttnKVIdeal.main_arg1)
      ∧ r.2.mem ((c.tc : Thread Cert.KernelAttnKVIdeal.nD Cert.KernelAttnKVIdeal.τ).loc Cert.KernelAttnKVIdeal.main_arg2) = m ((c.tc : Thread Cert.KernelAttnKVIdeal.nD Cert.KernelAttnKVIdeal.τ).loc Cert.KernelAttnKVIdeal.main_arg2))
      ∧ r.2.sem = fun _ => 0)

def quiescent_ReferenceAttnKVIdeal [hReferenceAttnKVIdeal : Cert.ReferenceAttnKVIdeal.Facts] : Prop :=
  ∀ (m : (ℓ : Loc Cert.ReferenceAttnKVIdeal.nD Cert.ReferenceAttnKVIdeal.τ Cert.ReferenceAttnKVIdeal.sig) → Buf (Elt Ideal) ℓ) (g : Dev Cert.ReferenceAttnKVIdeal.nD → PrngReg), Pre_ReferenceAttnKVIdeal m →
    θ_run (Cert.ReferenceAttnKVIdeal.defs (F := Ideal)) (onTc (τ := Cert.ReferenceAttnKVIdeal.τ) (Cert.ReferenceAttnKVIdeal.main (F := Ideal))) ⟨m, fun _ => 0, g⟩ (fun r => (∀ c : Dev Cert.ReferenceAttnKVIdeal.nD,
      r.2.mem ((c.tc : Thread Cert.ReferenceAttnKVIdeal.nD Cert.ReferenceAttnKVIdeal.τ).loc Cert.ReferenceAttnKVIdeal.main_arg0) = m ((c.tc : Thread Cert.ReferenceAttnKVIdeal.nD Cert.ReferenceAttnKVIdeal.τ).loc Cert.ReferenceAttnKVIdeal.main_arg0)
      ∧ r.2.mem ((c.tc : Thread Cert.ReferenceAttnKVIdeal.nD Cert.ReferenceAttnKVIdeal.τ).loc Cert.ReferenceAttnKVIdeal.main_arg1) = m ((c.tc : Thread Cert.ReferenceAttnKVIdeal.nD Cert.ReferenceAttnKVIdeal.τ).loc Cert.ReferenceAttnKVIdeal.main_arg1)
      ∧ r.2.mem ((c.tc : Thread Cert.ReferenceAttnKVIdeal.nD Cert.ReferenceAttnKVIdeal.τ).loc Cert.ReferenceAttnKVIdeal.main_arg2) = m ((c.tc : Thread Cert.ReferenceAttnKVIdeal.nD Cert.ReferenceAttnKVIdeal.τ).loc Cert.ReferenceAttnKVIdeal.main_arg2))
      ∧ r.2.sem = fun _ => 0)

def quiescent_KernelAttnO [hKernelAttnO : Cert.KernelAttnO.Facts] : Prop :=
  ∀ (m : (ℓ : Loc Cert.KernelAttnO.nD Cert.KernelAttnO.τ Cert.KernelAttnO.sig) → Buf (Elt Bits) ℓ) (g : Dev Cert.KernelAttnO.nD → PrngReg), Pre_KernelAttnO m →
    θ_run (Cert.KernelAttnO.defs (F := Bits)) (onTc (τ := Cert.KernelAttnO.τ) (Cert.KernelAttnO.main (F := Bits))) ⟨m, fun _ => 0, g⟩ (fun r => (∀ c : Dev Cert.KernelAttnO.nD,
      r.2.mem ((c.tc : Thread Cert.KernelAttnO.nD Cert.KernelAttnO.τ).loc Cert.KernelAttnO.main_arg0) = m ((c.tc : Thread Cert.KernelAttnO.nD Cert.KernelAttnO.τ).loc Cert.KernelAttnO.main_arg0)
      ∧ r.2.mem ((c.tc : Thread Cert.KernelAttnO.nD Cert.KernelAttnO.τ).loc Cert.KernelAttnO.main_arg1) = m ((c.tc : Thread Cert.KernelAttnO.nD Cert.KernelAttnO.τ).loc Cert.KernelAttnO.main_arg1)
      ∧ r.2.mem ((c.tc : Thread Cert.KernelAttnO.nD Cert.KernelAttnO.τ).loc Cert.KernelAttnO.main_arg2) = m ((c.tc : Thread Cert.KernelAttnO.nD Cert.KernelAttnO.τ).loc Cert.KernelAttnO.main_arg2))
      ∧ r.2.sem = fun _ => 0)

def quiescent_KernelAttnOIdeal [hKernelAttnOIdeal : Cert.KernelAttnOIdeal.Facts] : Prop :=
  ∀ (m : (ℓ : Loc Cert.KernelAttnOIdeal.nD Cert.KernelAttnOIdeal.τ Cert.KernelAttnOIdeal.sig) → Buf (Elt Ideal) ℓ) (g : Dev Cert.KernelAttnOIdeal.nD → PrngReg), Pre_KernelAttnOIdeal m →
    θ_run (Cert.KernelAttnOIdeal.defs (F := Ideal)) (onTc (τ := Cert.KernelAttnOIdeal.τ) (Cert.KernelAttnOIdeal.main (F := Ideal))) ⟨m, fun _ => 0, g⟩ (fun r => (∀ c : Dev Cert.KernelAttnOIdeal.nD,
      r.2.mem ((c.tc : Thread Cert.KernelAttnOIdeal.nD Cert.KernelAttnOIdeal.τ).loc Cert.KernelAttnOIdeal.main_arg0) = m ((c.tc : Thread Cert.KernelAttnOIdeal.nD Cert.KernelAttnOIdeal.τ).loc Cert.KernelAttnOIdeal.main_arg0)
      ∧ r.2.mem ((c.tc : Thread Cert.KernelAttnOIdeal.nD Cert.KernelAttnOIdeal.τ).loc Cert.KernelAttnOIdeal.main_arg1) = m ((c.tc : Thread Cert.KernelAttnOIdeal.nD Cert.KernelAttnOIdeal.τ).loc Cert.KernelAttnOIdeal.main_arg1)
      ∧ r.2.mem ((c.tc : Thread Cert.KernelAttnOIdeal.nD Cert.KernelAttnOIdeal.τ).loc Cert.KernelAttnOIdeal.main_arg2) = m ((c.tc : Thread Cert.KernelAttnOIdeal.nD Cert.KernelAttnOIdeal.τ).loc Cert.KernelAttnOIdeal.main_arg2))
      ∧ r.2.sem = fun _ => 0)

def quiescent_ReferenceAttnOIdeal [hReferenceAttnOIdeal : Cert.ReferenceAttnOIdeal.Facts] : Prop :=
  ∀ (m : (ℓ : Loc Cert.ReferenceAttnOIdeal.nD Cert.ReferenceAttnOIdeal.τ Cert.ReferenceAttnOIdeal.sig) → Buf (Elt Ideal) ℓ) (g : Dev Cert.ReferenceAttnOIdeal.nD → PrngReg), Pre_ReferenceAttnOIdeal m →
    θ_run (Cert.ReferenceAttnOIdeal.defs (F := Ideal)) (onTc (τ := Cert.ReferenceAttnOIdeal.τ) (Cert.ReferenceAttnOIdeal.main (F := Ideal))) ⟨m, fun _ => 0, g⟩ (fun r => (∀ c : Dev Cert.ReferenceAttnOIdeal.nD,
      r.2.mem ((c.tc : Thread Cert.ReferenceAttnOIdeal.nD Cert.ReferenceAttnOIdeal.τ).loc Cert.ReferenceAttnOIdeal.main_arg0) = m ((c.tc : Thread Cert.ReferenceAttnOIdeal.nD Cert.ReferenceAttnOIdeal.τ).loc Cert.ReferenceAttnOIdeal.main_arg0)
      ∧ r.2.mem ((c.tc : Thread Cert.ReferenceAttnOIdeal.nD Cert.ReferenceAttnOIdeal.τ).loc Cert.ReferenceAttnOIdeal.main_arg1) = m ((c.tc : Thread Cert.ReferenceAttnOIdeal.nD Cert.ReferenceAttnOIdeal.τ).loc Cert.ReferenceAttnOIdeal.main_arg1)
      ∧ r.2.mem ((c.tc : Thread Cert.ReferenceAttnOIdeal.nD Cert.ReferenceAttnOIdeal.τ).loc Cert.ReferenceAttnOIdeal.main_arg2) = m ((c.tc : Thread Cert.ReferenceAttnOIdeal.nD Cert.ReferenceAttnOIdeal.τ).loc Cert.ReferenceAttnOIdeal.main_arg2))
      ∧ r.2.sem = fun _ => 0)

def quiescent_KernelSsmIn [hKernelSsmIn : Cert.KernelSsmIn.Facts] : Prop :=
  ∀ (m : (ℓ : Loc Cert.KernelSsmIn.nD Cert.KernelSsmIn.τ Cert.KernelSsmIn.sig) → Buf (Elt Bits) ℓ) (g : Dev Cert.KernelSsmIn.nD → PrngReg), Pre_KernelSsmIn m →
    θ_run (Cert.KernelSsmIn.defs (F := Bits)) (onTc (τ := Cert.KernelSsmIn.τ) (Cert.KernelSsmIn.main (F := Bits))) ⟨m, fun _ => 0, g⟩ (fun r => (∀ c : Dev Cert.KernelSsmIn.nD,
      r.2.mem ((c.tc : Thread Cert.KernelSsmIn.nD Cert.KernelSsmIn.τ).loc Cert.KernelSsmIn.main_arg0) = m ((c.tc : Thread Cert.KernelSsmIn.nD Cert.KernelSsmIn.τ).loc Cert.KernelSsmIn.main_arg0)
      ∧ r.2.mem ((c.tc : Thread Cert.KernelSsmIn.nD Cert.KernelSsmIn.τ).loc Cert.KernelSsmIn.main_arg1) = m ((c.tc : Thread Cert.KernelSsmIn.nD Cert.KernelSsmIn.τ).loc Cert.KernelSsmIn.main_arg1)
      ∧ r.2.mem ((c.tc : Thread Cert.KernelSsmIn.nD Cert.KernelSsmIn.τ).loc Cert.KernelSsmIn.main_arg2) = m ((c.tc : Thread Cert.KernelSsmIn.nD Cert.KernelSsmIn.τ).loc Cert.KernelSsmIn.main_arg2))
      ∧ r.2.sem = fun _ => 0)

def quiescent_KernelSsmInIdeal [hKernelSsmInIdeal : Cert.KernelSsmInIdeal.Facts] : Prop :=
  ∀ (m : (ℓ : Loc Cert.KernelSsmInIdeal.nD Cert.KernelSsmInIdeal.τ Cert.KernelSsmInIdeal.sig) → Buf (Elt Ideal) ℓ) (g : Dev Cert.KernelSsmInIdeal.nD → PrngReg), Pre_KernelSsmInIdeal m →
    θ_run (Cert.KernelSsmInIdeal.defs (F := Ideal)) (onTc (τ := Cert.KernelSsmInIdeal.τ) (Cert.KernelSsmInIdeal.main (F := Ideal))) ⟨m, fun _ => 0, g⟩ (fun r => (∀ c : Dev Cert.KernelSsmInIdeal.nD,
      r.2.mem ((c.tc : Thread Cert.KernelSsmInIdeal.nD Cert.KernelSsmInIdeal.τ).loc Cert.KernelSsmInIdeal.main_arg0) = m ((c.tc : Thread Cert.KernelSsmInIdeal.nD Cert.KernelSsmInIdeal.τ).loc Cert.KernelSsmInIdeal.main_arg0)
      ∧ r.2.mem ((c.tc : Thread Cert.KernelSsmInIdeal.nD Cert.KernelSsmInIdeal.τ).loc Cert.KernelSsmInIdeal.main_arg1) = m ((c.tc : Thread Cert.KernelSsmInIdeal.nD Cert.KernelSsmInIdeal.τ).loc Cert.KernelSsmInIdeal.main_arg1)
      ∧ r.2.mem ((c.tc : Thread Cert.KernelSsmInIdeal.nD Cert.KernelSsmInIdeal.τ).loc Cert.KernelSsmInIdeal.main_arg2) = m ((c.tc : Thread Cert.KernelSsmInIdeal.nD Cert.KernelSsmInIdeal.τ).loc Cert.KernelSsmInIdeal.main_arg2))
      ∧ r.2.sem = fun _ => 0)

def quiescent_ReferenceSsmInIdeal [hReferenceSsmInIdeal : Cert.ReferenceSsmInIdeal.Facts] : Prop :=
  ∀ (m : (ℓ : Loc Cert.ReferenceSsmInIdeal.nD Cert.ReferenceSsmInIdeal.τ Cert.ReferenceSsmInIdeal.sig) → Buf (Elt Ideal) ℓ) (g : Dev Cert.ReferenceSsmInIdeal.nD → PrngReg), Pre_ReferenceSsmInIdeal m →
    θ_run (Cert.ReferenceSsmInIdeal.defs (F := Ideal)) (onTc (τ := Cert.ReferenceSsmInIdeal.τ) (Cert.ReferenceSsmInIdeal.main (F := Ideal))) ⟨m, fun _ => 0, g⟩ (fun r => (∀ c : Dev Cert.ReferenceSsmInIdeal.nD,
      r.2.mem ((c.tc : Thread Cert.ReferenceSsmInIdeal.nD Cert.ReferenceSsmInIdeal.τ).loc Cert.ReferenceSsmInIdeal.main_arg0) = m ((c.tc : Thread Cert.ReferenceSsmInIdeal.nD Cert.ReferenceSsmInIdeal.τ).loc Cert.ReferenceSsmInIdeal.main_arg0)
      ∧ r.2.mem ((c.tc : Thread Cert.ReferenceSsmInIdeal.nD Cert.ReferenceSsmInIdeal.τ).loc Cert.ReferenceSsmInIdeal.main_arg1) = m ((c.tc : Thread Cert.ReferenceSsmInIdeal.nD Cert.ReferenceSsmInIdeal.τ).loc Cert.ReferenceSsmInIdeal.main_arg1)
      ∧ r.2.mem ((c.tc : Thread Cert.ReferenceSsmInIdeal.nD Cert.ReferenceSsmInIdeal.τ).loc Cert.ReferenceSsmInIdeal.main_arg2) = m ((c.tc : Thread Cert.ReferenceSsmInIdeal.nD Cert.ReferenceSsmInIdeal.τ).loc Cert.ReferenceSsmInIdeal.main_arg2))
      ∧ r.2.sem = fun _ => 0)

def quiescent_KernelSsmOut [hKernelSsmOut : Cert.KernelSsmOut.Facts] : Prop :=
  ∀ (m : (ℓ : Loc Cert.KernelSsmOut.nD Cert.KernelSsmOut.τ Cert.KernelSsmOut.sig) → Buf (Elt Bits) ℓ) (g : Dev Cert.KernelSsmOut.nD → PrngReg), Pre_KernelSsmOut m →
    θ_run (Cert.KernelSsmOut.defs (F := Bits)) (onTc (τ := Cert.KernelSsmOut.τ) (Cert.KernelSsmOut.main (F := Bits))) ⟨m, fun _ => 0, g⟩ (fun r => (∀ c : Dev Cert.KernelSsmOut.nD,
      r.2.mem ((c.tc : Thread Cert.KernelSsmOut.nD Cert.KernelSsmOut.τ).loc Cert.KernelSsmOut.main_arg0) = m ((c.tc : Thread Cert.KernelSsmOut.nD Cert.KernelSsmOut.τ).loc Cert.KernelSsmOut.main_arg0)
      ∧ r.2.mem ((c.tc : Thread Cert.KernelSsmOut.nD Cert.KernelSsmOut.τ).loc Cert.KernelSsmOut.main_arg1) = m ((c.tc : Thread Cert.KernelSsmOut.nD Cert.KernelSsmOut.τ).loc Cert.KernelSsmOut.main_arg1)
      ∧ r.2.mem ((c.tc : Thread Cert.KernelSsmOut.nD Cert.KernelSsmOut.τ).loc Cert.KernelSsmOut.main_arg2) = m ((c.tc : Thread Cert.KernelSsmOut.nD Cert.KernelSsmOut.τ).loc Cert.KernelSsmOut.main_arg2))
      ∧ r.2.sem = fun _ => 0)

def quiescent_KernelSsmOutIdeal [hKernelSsmOutIdeal : Cert.KernelSsmOutIdeal.Facts] : Prop :=
  ∀ (m : (ℓ : Loc Cert.KernelSsmOutIdeal.nD Cert.KernelSsmOutIdeal.τ Cert.KernelSsmOutIdeal.sig) → Buf (Elt Ideal) ℓ) (g : Dev Cert.KernelSsmOutIdeal.nD → PrngReg), Pre_KernelSsmOutIdeal m →
    θ_run (Cert.KernelSsmOutIdeal.defs (F := Ideal)) (onTc (τ := Cert.KernelSsmOutIdeal.τ) (Cert.KernelSsmOutIdeal.main (F := Ideal))) ⟨m, fun _ => 0, g⟩ (fun r => (∀ c : Dev Cert.KernelSsmOutIdeal.nD,
      r.2.mem ((c.tc : Thread Cert.KernelSsmOutIdeal.nD Cert.KernelSsmOutIdeal.τ).loc Cert.KernelSsmOutIdeal.main_arg0) = m ((c.tc : Thread Cert.KernelSsmOutIdeal.nD Cert.KernelSsmOutIdeal.τ).loc Cert.KernelSsmOutIdeal.main_arg0)
      ∧ r.2.mem ((c.tc : Thread Cert.KernelSsmOutIdeal.nD Cert.KernelSsmOutIdeal.τ).loc Cert.KernelSsmOutIdeal.main_arg1) = m ((c.tc : Thread Cert.KernelSsmOutIdeal.nD Cert.KernelSsmOutIdeal.τ).loc Cert.KernelSsmOutIdeal.main_arg1)
      ∧ r.2.mem ((c.tc : Thread Cert.KernelSsmOutIdeal.nD Cert.KernelSsmOutIdeal.τ).loc Cert.KernelSsmOutIdeal.main_arg2) = m ((c.tc : Thread Cert.KernelSsmOutIdeal.nD Cert.KernelSsmOutIdeal.τ).loc Cert.KernelSsmOutIdeal.main_arg2))
      ∧ r.2.sem = fun _ => 0)

def quiescent_ReferenceSsmOutIdeal [hReferenceSsmOutIdeal : Cert.ReferenceSsmOutIdeal.Facts] : Prop :=
  ∀ (m : (ℓ : Loc Cert.ReferenceSsmOutIdeal.nD Cert.ReferenceSsmOutIdeal.τ Cert.ReferenceSsmOutIdeal.sig) → Buf (Elt Ideal) ℓ) (g : Dev Cert.ReferenceSsmOutIdeal.nD → PrngReg), Pre_ReferenceSsmOutIdeal m →
    θ_run (Cert.ReferenceSsmOutIdeal.defs (F := Ideal)) (onTc (τ := Cert.ReferenceSsmOutIdeal.τ) (Cert.ReferenceSsmOutIdeal.main (F := Ideal))) ⟨m, fun _ => 0, g⟩ (fun r => (∀ c : Dev Cert.ReferenceSsmOutIdeal.nD,
      r.2.mem ((c.tc : Thread Cert.ReferenceSsmOutIdeal.nD Cert.ReferenceSsmOutIdeal.τ).loc Cert.ReferenceSsmOutIdeal.main_arg0) = m ((c.tc : Thread Cert.ReferenceSsmOutIdeal.nD Cert.ReferenceSsmOutIdeal.τ).loc Cert.ReferenceSsmOutIdeal.main_arg0)
      ∧ r.2.mem ((c.tc : Thread Cert.ReferenceSsmOutIdeal.nD Cert.ReferenceSsmOutIdeal.τ).loc Cert.ReferenceSsmOutIdeal.main_arg1) = m ((c.tc : Thread Cert.ReferenceSsmOutIdeal.nD Cert.ReferenceSsmOutIdeal.τ).loc Cert.ReferenceSsmOutIdeal.main_arg1)
      ∧ r.2.mem ((c.tc : Thread Cert.ReferenceSsmOutIdeal.nD Cert.ReferenceSsmOutIdeal.τ).loc Cert.ReferenceSsmOutIdeal.main_arg2) = m ((c.tc : Thread Cert.ReferenceSsmOutIdeal.nD Cert.ReferenceSsmOutIdeal.τ).loc Cert.ReferenceSsmOutIdeal.main_arg2))
      ∧ r.2.sem = fun _ => 0)

def quiescent_KernelAdamSq [hKernelAdamSq : Cert.KernelAdamSq.Facts] : Prop :=
  ∀ (m : (ℓ : Loc Cert.KernelAdamSq.nD Cert.KernelAdamSq.τ Cert.KernelAdamSq.sig) → Buf (Elt Bits) ℓ) (g : Dev Cert.KernelAdamSq.nD → PrngReg), Pre_KernelAdamSq m →
    θ_run (Cert.KernelAdamSq.defs (F := Bits)) (onTc (τ := Cert.KernelAdamSq.τ) (Cert.KernelAdamSq.main (F := Bits))) ⟨m, fun _ => 0, g⟩ (fun r => (∀ c : Dev Cert.KernelAdamSq.nD,
      r.2.mem ((c.tc : Thread Cert.KernelAdamSq.nD Cert.KernelAdamSq.τ).loc Cert.KernelAdamSq.main_arg0) = m ((c.tc : Thread Cert.KernelAdamSq.nD Cert.KernelAdamSq.τ).loc Cert.KernelAdamSq.main_arg0)
      ∧ r.2.mem ((c.tc : Thread Cert.KernelAdamSq.nD Cert.KernelAdamSq.τ).loc Cert.KernelAdamSq.main_arg1) = m ((c.tc : Thread Cert.KernelAdamSq.nD Cert.KernelAdamSq.τ).loc Cert.KernelAdamSq.main_arg1)
      ∧ r.2.mem ((c.tc : Thread Cert.KernelAdamSq.nD Cert.KernelAdamSq.τ).loc Cert.KernelAdamSq.main_arg2) = m ((c.tc : Thread Cert.KernelAdamSq.nD Cert.KernelAdamSq.τ).loc Cert.KernelAdamSq.main_arg2)
      ∧ r.2.mem ((c.tc : Thread Cert.KernelAdamSq.nD Cert.KernelAdamSq.τ).loc Cert.KernelAdamSq.main_arg3) = m ((c.tc : Thread Cert.KernelAdamSq.nD Cert.KernelAdamSq.τ).loc Cert.KernelAdamSq.main_arg3))
      ∧ r.2.sem = fun _ => 0)

def quiescent_KernelAdamSqIdeal [hKernelAdamSqIdeal : Cert.KernelAdamSqIdeal.Facts] : Prop :=
  ∀ (m : (ℓ : Loc Cert.KernelAdamSqIdeal.nD Cert.KernelAdamSqIdeal.τ Cert.KernelAdamSqIdeal.sig) → Buf (Elt Ideal) ℓ) (g : Dev Cert.KernelAdamSqIdeal.nD → PrngReg), Pre_KernelAdamSqIdeal m →
    θ_run (Cert.KernelAdamSqIdeal.defs (F := Ideal)) (onTc (τ := Cert.KernelAdamSqIdeal.τ) (Cert.KernelAdamSqIdeal.main (F := Ideal))) ⟨m, fun _ => 0, g⟩ (fun r => (∀ c : Dev Cert.KernelAdamSqIdeal.nD,
      r.2.mem ((c.tc : Thread Cert.KernelAdamSqIdeal.nD Cert.KernelAdamSqIdeal.τ).loc Cert.KernelAdamSqIdeal.main_arg0) = m ((c.tc : Thread Cert.KernelAdamSqIdeal.nD Cert.KernelAdamSqIdeal.τ).loc Cert.KernelAdamSqIdeal.main_arg0)
      ∧ r.2.mem ((c.tc : Thread Cert.KernelAdamSqIdeal.nD Cert.KernelAdamSqIdeal.τ).loc Cert.KernelAdamSqIdeal.main_arg1) = m ((c.tc : Thread Cert.KernelAdamSqIdeal.nD Cert.KernelAdamSqIdeal.τ).loc Cert.KernelAdamSqIdeal.main_arg1)
      ∧ r.2.mem ((c.tc : Thread Cert.KernelAdamSqIdeal.nD Cert.KernelAdamSqIdeal.τ).loc Cert.KernelAdamSqIdeal.main_arg2) = m ((c.tc : Thread Cert.KernelAdamSqIdeal.nD Cert.KernelAdamSqIdeal.τ).loc Cert.KernelAdamSqIdeal.main_arg2)
      ∧ r.2.mem ((c.tc : Thread Cert.KernelAdamSqIdeal.nD Cert.KernelAdamSqIdeal.τ).loc Cert.KernelAdamSqIdeal.main_arg3) = m ((c.tc : Thread Cert.KernelAdamSqIdeal.nD Cert.KernelAdamSqIdeal.τ).loc Cert.KernelAdamSqIdeal.main_arg3))
      ∧ r.2.sem = fun _ => 0)

def quiescent_ReferenceAdamSqIdeal [hReferenceAdamSqIdeal : Cert.ReferenceAdamSqIdeal.Facts] : Prop :=
  ∀ (m : (ℓ : Loc Cert.ReferenceAdamSqIdeal.nD Cert.ReferenceAdamSqIdeal.τ Cert.ReferenceAdamSqIdeal.sig) → Buf (Elt Ideal) ℓ) (g : Dev Cert.ReferenceAdamSqIdeal.nD → PrngReg), Pre_ReferenceAdamSqIdeal m →
    θ_run (Cert.ReferenceAdamSqIdeal.defs (F := Ideal)) (onTc (τ := Cert.ReferenceAdamSqIdeal.τ) (Cert.ReferenceAdamSqIdeal.main (F := Ideal))) ⟨m, fun _ => 0, g⟩ (fun r => (∀ c : Dev Cert.ReferenceAdamSqIdeal.nD,
      r.2.mem ((c.tc : Thread Cert.ReferenceAdamSqIdeal.nD Cert.ReferenceAdamSqIdeal.τ).loc Cert.ReferenceAdamSqIdeal.main_arg0) = m ((c.tc : Thread Cert.ReferenceAdamSqIdeal.nD Cert.ReferenceAdamSqIdeal.τ).loc Cert.ReferenceAdamSqIdeal.main_arg0)
      ∧ r.2.mem ((c.tc : Thread Cert.ReferenceAdamSqIdeal.nD Cert.ReferenceAdamSqIdeal.τ).loc Cert.ReferenceAdamSqIdeal.main_arg1) = m ((c.tc : Thread Cert.ReferenceAdamSqIdeal.nD Cert.ReferenceAdamSqIdeal.τ).loc Cert.ReferenceAdamSqIdeal.main_arg1)
      ∧ r.2.mem ((c.tc : Thread Cert.ReferenceAdamSqIdeal.nD Cert.ReferenceAdamSqIdeal.τ).loc Cert.ReferenceAdamSqIdeal.main_arg2) = m ((c.tc : Thread Cert.ReferenceAdamSqIdeal.nD Cert.ReferenceAdamSqIdeal.τ).loc Cert.ReferenceAdamSqIdeal.main_arg2)
      ∧ r.2.mem ((c.tc : Thread Cert.ReferenceAdamSqIdeal.nD Cert.ReferenceAdamSqIdeal.τ).loc Cert.ReferenceAdamSqIdeal.main_arg3) = m ((c.tc : Thread Cert.ReferenceAdamSqIdeal.nD Cert.ReferenceAdamSqIdeal.τ).loc Cert.ReferenceAdamSqIdeal.main_arg3))
      ∧ r.2.sem = fun _ => 0)

def quiescent_KernelAdamSsmOut [hKernelAdamSsmOut : Cert.KernelAdamSsmOut.Facts] : Prop :=
  ∀ (m : (ℓ : Loc Cert.KernelAdamSsmOut.nD Cert.KernelAdamSsmOut.τ Cert.KernelAdamSsmOut.sig) → Buf (Elt Bits) ℓ) (g : Dev Cert.KernelAdamSsmOut.nD → PrngReg), Pre_KernelAdamSsmOut m →
    θ_run (Cert.KernelAdamSsmOut.defs (F := Bits)) (onTc (τ := Cert.KernelAdamSsmOut.τ) (Cert.KernelAdamSsmOut.main (F := Bits))) ⟨m, fun _ => 0, g⟩ (fun r => (∀ c : Dev Cert.KernelAdamSsmOut.nD,
      r.2.mem ((c.tc : Thread Cert.KernelAdamSsmOut.nD Cert.KernelAdamSsmOut.τ).loc Cert.KernelAdamSsmOut.main_arg0) = m ((c.tc : Thread Cert.KernelAdamSsmOut.nD Cert.KernelAdamSsmOut.τ).loc Cert.KernelAdamSsmOut.main_arg0)
      ∧ r.2.mem ((c.tc : Thread Cert.KernelAdamSsmOut.nD Cert.KernelAdamSsmOut.τ).loc Cert.KernelAdamSsmOut.main_arg1) = m ((c.tc : Thread Cert.KernelAdamSsmOut.nD Cert.KernelAdamSsmOut.τ).loc Cert.KernelAdamSsmOut.main_arg1)
      ∧ r.2.mem ((c.tc : Thread Cert.KernelAdamSsmOut.nD Cert.KernelAdamSsmOut.τ).loc Cert.KernelAdamSsmOut.main_arg2) = m ((c.tc : Thread Cert.KernelAdamSsmOut.nD Cert.KernelAdamSsmOut.τ).loc Cert.KernelAdamSsmOut.main_arg2)
      ∧ r.2.mem ((c.tc : Thread Cert.KernelAdamSsmOut.nD Cert.KernelAdamSsmOut.τ).loc Cert.KernelAdamSsmOut.main_arg3) = m ((c.tc : Thread Cert.KernelAdamSsmOut.nD Cert.KernelAdamSsmOut.τ).loc Cert.KernelAdamSsmOut.main_arg3))
      ∧ r.2.sem = fun _ => 0)

def quiescent_KernelAdamSsmOutIdeal [hKernelAdamSsmOutIdeal : Cert.KernelAdamSsmOutIdeal.Facts] : Prop :=
  ∀ (m : (ℓ : Loc Cert.KernelAdamSsmOutIdeal.nD Cert.KernelAdamSsmOutIdeal.τ Cert.KernelAdamSsmOutIdeal.sig) → Buf (Elt Ideal) ℓ) (g : Dev Cert.KernelAdamSsmOutIdeal.nD → PrngReg), Pre_KernelAdamSsmOutIdeal m →
    θ_run (Cert.KernelAdamSsmOutIdeal.defs (F := Ideal)) (onTc (τ := Cert.KernelAdamSsmOutIdeal.τ) (Cert.KernelAdamSsmOutIdeal.main (F := Ideal))) ⟨m, fun _ => 0, g⟩ (fun r => (∀ c : Dev Cert.KernelAdamSsmOutIdeal.nD,
      r.2.mem ((c.tc : Thread Cert.KernelAdamSsmOutIdeal.nD Cert.KernelAdamSsmOutIdeal.τ).loc Cert.KernelAdamSsmOutIdeal.main_arg0) = m ((c.tc : Thread Cert.KernelAdamSsmOutIdeal.nD Cert.KernelAdamSsmOutIdeal.τ).loc Cert.KernelAdamSsmOutIdeal.main_arg0)
      ∧ r.2.mem ((c.tc : Thread Cert.KernelAdamSsmOutIdeal.nD Cert.KernelAdamSsmOutIdeal.τ).loc Cert.KernelAdamSsmOutIdeal.main_arg1) = m ((c.tc : Thread Cert.KernelAdamSsmOutIdeal.nD Cert.KernelAdamSsmOutIdeal.τ).loc Cert.KernelAdamSsmOutIdeal.main_arg1)
      ∧ r.2.mem ((c.tc : Thread Cert.KernelAdamSsmOutIdeal.nD Cert.KernelAdamSsmOutIdeal.τ).loc Cert.KernelAdamSsmOutIdeal.main_arg2) = m ((c.tc : Thread Cert.KernelAdamSsmOutIdeal.nD Cert.KernelAdamSsmOutIdeal.τ).loc Cert.KernelAdamSsmOutIdeal.main_arg2)
      ∧ r.2.mem ((c.tc : Thread Cert.KernelAdamSsmOutIdeal.nD Cert.KernelAdamSsmOutIdeal.τ).loc Cert.KernelAdamSsmOutIdeal.main_arg3) = m ((c.tc : Thread Cert.KernelAdamSsmOutIdeal.nD Cert.KernelAdamSsmOutIdeal.τ).loc Cert.KernelAdamSsmOutIdeal.main_arg3))
      ∧ r.2.sem = fun _ => 0)

def quiescent_ReferenceAdamSsmOutIdeal [hReferenceAdamSsmOutIdeal : Cert.ReferenceAdamSsmOutIdeal.Facts] : Prop :=
  ∀ (m : (ℓ : Loc Cert.ReferenceAdamSsmOutIdeal.nD Cert.ReferenceAdamSsmOutIdeal.τ Cert.ReferenceAdamSsmOutIdeal.sig) → Buf (Elt Ideal) ℓ) (g : Dev Cert.ReferenceAdamSsmOutIdeal.nD → PrngReg), Pre_ReferenceAdamSsmOutIdeal m →
    θ_run (Cert.ReferenceAdamSsmOutIdeal.defs (F := Ideal)) (onTc (τ := Cert.ReferenceAdamSsmOutIdeal.τ) (Cert.ReferenceAdamSsmOutIdeal.main (F := Ideal))) ⟨m, fun _ => 0, g⟩ (fun r => (∀ c : Dev Cert.ReferenceAdamSsmOutIdeal.nD,
      r.2.mem ((c.tc : Thread Cert.ReferenceAdamSsmOutIdeal.nD Cert.ReferenceAdamSsmOutIdeal.τ).loc Cert.ReferenceAdamSsmOutIdeal.main_arg0) = m ((c.tc : Thread Cert.ReferenceAdamSsmOutIdeal.nD Cert.ReferenceAdamSsmOutIdeal.τ).loc Cert.ReferenceAdamSsmOutIdeal.main_arg0)
      ∧ r.2.mem ((c.tc : Thread Cert.ReferenceAdamSsmOutIdeal.nD Cert.ReferenceAdamSsmOutIdeal.τ).loc Cert.ReferenceAdamSsmOutIdeal.main_arg1) = m ((c.tc : Thread Cert.ReferenceAdamSsmOutIdeal.nD Cert.ReferenceAdamSsmOutIdeal.τ).loc Cert.ReferenceAdamSsmOutIdeal.main_arg1)
      ∧ r.2.mem ((c.tc : Thread Cert.ReferenceAdamSsmOutIdeal.nD Cert.ReferenceAdamSsmOutIdeal.τ).loc Cert.ReferenceAdamSsmOutIdeal.main_arg2) = m ((c.tc : Thread Cert.ReferenceAdamSsmOutIdeal.nD Cert.ReferenceAdamSsmOutIdeal.τ).loc Cert.ReferenceAdamSsmOutIdeal.main_arg2)
      ∧ r.2.mem ((c.tc : Thread Cert.ReferenceAdamSsmOutIdeal.nD Cert.ReferenceAdamSsmOutIdeal.τ).loc Cert.ReferenceAdamSsmOutIdeal.main_arg3) = m ((c.tc : Thread Cert.ReferenceAdamSsmOutIdeal.nD Cert.ReferenceAdamSsmOutIdeal.τ).loc Cert.ReferenceAdamSsmOutIdeal.main_arg3))
      ∧ r.2.sem = fun _ => 0)

def quiescent_KernelAdamSsmIn [hKernelAdamSsmIn : Cert.KernelAdamSsmIn.Facts] : Prop :=
  ∀ (m : (ℓ : Loc Cert.KernelAdamSsmIn.nD Cert.KernelAdamSsmIn.τ Cert.KernelAdamSsmIn.sig) → Buf (Elt Bits) ℓ) (g : Dev Cert.KernelAdamSsmIn.nD → PrngReg), Pre_KernelAdamSsmIn m →
    θ_run (Cert.KernelAdamSsmIn.defs (F := Bits)) (onTc (τ := Cert.KernelAdamSsmIn.τ) (Cert.KernelAdamSsmIn.main (F := Bits))) ⟨m, fun _ => 0, g⟩ (fun r => (∀ c : Dev Cert.KernelAdamSsmIn.nD,
      r.2.mem ((c.tc : Thread Cert.KernelAdamSsmIn.nD Cert.KernelAdamSsmIn.τ).loc Cert.KernelAdamSsmIn.main_arg0) = m ((c.tc : Thread Cert.KernelAdamSsmIn.nD Cert.KernelAdamSsmIn.τ).loc Cert.KernelAdamSsmIn.main_arg0)
      ∧ r.2.mem ((c.tc : Thread Cert.KernelAdamSsmIn.nD Cert.KernelAdamSsmIn.τ).loc Cert.KernelAdamSsmIn.main_arg1) = m ((c.tc : Thread Cert.KernelAdamSsmIn.nD Cert.KernelAdamSsmIn.τ).loc Cert.KernelAdamSsmIn.main_arg1)
      ∧ r.2.mem ((c.tc : Thread Cert.KernelAdamSsmIn.nD Cert.KernelAdamSsmIn.τ).loc Cert.KernelAdamSsmIn.main_arg2) = m ((c.tc : Thread Cert.KernelAdamSsmIn.nD Cert.KernelAdamSsmIn.τ).loc Cert.KernelAdamSsmIn.main_arg2)
      ∧ r.2.mem ((c.tc : Thread Cert.KernelAdamSsmIn.nD Cert.KernelAdamSsmIn.τ).loc Cert.KernelAdamSsmIn.main_arg3) = m ((c.tc : Thread Cert.KernelAdamSsmIn.nD Cert.KernelAdamSsmIn.τ).loc Cert.KernelAdamSsmIn.main_arg3))
      ∧ r.2.sem = fun _ => 0)

def quiescent_KernelAdamSsmInIdeal [hKernelAdamSsmInIdeal : Cert.KernelAdamSsmInIdeal.Facts] : Prop :=
  ∀ (m : (ℓ : Loc Cert.KernelAdamSsmInIdeal.nD Cert.KernelAdamSsmInIdeal.τ Cert.KernelAdamSsmInIdeal.sig) → Buf (Elt Ideal) ℓ) (g : Dev Cert.KernelAdamSsmInIdeal.nD → PrngReg), Pre_KernelAdamSsmInIdeal m →
    θ_run (Cert.KernelAdamSsmInIdeal.defs (F := Ideal)) (onTc (τ := Cert.KernelAdamSsmInIdeal.τ) (Cert.KernelAdamSsmInIdeal.main (F := Ideal))) ⟨m, fun _ => 0, g⟩ (fun r => (∀ c : Dev Cert.KernelAdamSsmInIdeal.nD,
      r.2.mem ((c.tc : Thread Cert.KernelAdamSsmInIdeal.nD Cert.KernelAdamSsmInIdeal.τ).loc Cert.KernelAdamSsmInIdeal.main_arg0) = m ((c.tc : Thread Cert.KernelAdamSsmInIdeal.nD Cert.KernelAdamSsmInIdeal.τ).loc Cert.KernelAdamSsmInIdeal.main_arg0)
      ∧ r.2.mem ((c.tc : Thread Cert.KernelAdamSsmInIdeal.nD Cert.KernelAdamSsmInIdeal.τ).loc Cert.KernelAdamSsmInIdeal.main_arg1) = m ((c.tc : Thread Cert.KernelAdamSsmInIdeal.nD Cert.KernelAdamSsmInIdeal.τ).loc Cert.KernelAdamSsmInIdeal.main_arg1)
      ∧ r.2.mem ((c.tc : Thread Cert.KernelAdamSsmInIdeal.nD Cert.KernelAdamSsmInIdeal.τ).loc Cert.KernelAdamSsmInIdeal.main_arg2) = m ((c.tc : Thread Cert.KernelAdamSsmInIdeal.nD Cert.KernelAdamSsmInIdeal.τ).loc Cert.KernelAdamSsmInIdeal.main_arg2)
      ∧ r.2.mem ((c.tc : Thread Cert.KernelAdamSsmInIdeal.nD Cert.KernelAdamSsmInIdeal.τ).loc Cert.KernelAdamSsmInIdeal.main_arg3) = m ((c.tc : Thread Cert.KernelAdamSsmInIdeal.nD Cert.KernelAdamSsmInIdeal.τ).loc Cert.KernelAdamSsmInIdeal.main_arg3))
      ∧ r.2.sem = fun _ => 0)

def quiescent_ReferenceAdamSsmInIdeal [hReferenceAdamSsmInIdeal : Cert.ReferenceAdamSsmInIdeal.Facts] : Prop :=
  ∀ (m : (ℓ : Loc Cert.ReferenceAdamSsmInIdeal.nD Cert.ReferenceAdamSsmInIdeal.τ Cert.ReferenceAdamSsmInIdeal.sig) → Buf (Elt Ideal) ℓ) (g : Dev Cert.ReferenceAdamSsmInIdeal.nD → PrngReg), Pre_ReferenceAdamSsmInIdeal m →
    θ_run (Cert.ReferenceAdamSsmInIdeal.defs (F := Ideal)) (onTc (τ := Cert.ReferenceAdamSsmInIdeal.τ) (Cert.ReferenceAdamSsmInIdeal.main (F := Ideal))) ⟨m, fun _ => 0, g⟩ (fun r => (∀ c : Dev Cert.ReferenceAdamSsmInIdeal.nD,
      r.2.mem ((c.tc : Thread Cert.ReferenceAdamSsmInIdeal.nD Cert.ReferenceAdamSsmInIdeal.τ).loc Cert.ReferenceAdamSsmInIdeal.main_arg0) = m ((c.tc : Thread Cert.ReferenceAdamSsmInIdeal.nD Cert.ReferenceAdamSsmInIdeal.τ).loc Cert.ReferenceAdamSsmInIdeal.main_arg0)
      ∧ r.2.mem ((c.tc : Thread Cert.ReferenceAdamSsmInIdeal.nD Cert.ReferenceAdamSsmInIdeal.τ).loc Cert.ReferenceAdamSsmInIdeal.main_arg1) = m ((c.tc : Thread Cert.ReferenceAdamSsmInIdeal.nD Cert.ReferenceAdamSsmInIdeal.τ).loc Cert.ReferenceAdamSsmInIdeal.main_arg1)
      ∧ r.2.mem ((c.tc : Thread Cert.ReferenceAdamSsmInIdeal.nD Cert.ReferenceAdamSsmInIdeal.τ).loc Cert.ReferenceAdamSsmInIdeal.main_arg2) = m ((c.tc : Thread Cert.ReferenceAdamSsmInIdeal.nD Cert.ReferenceAdamSsmInIdeal.τ).loc Cert.ReferenceAdamSsmInIdeal.main_arg2)
      ∧ r.2.mem ((c.tc : Thread Cert.ReferenceAdamSsmInIdeal.nD Cert.ReferenceAdamSsmInIdeal.τ).loc Cert.ReferenceAdamSsmInIdeal.main_arg3) = m ((c.tc : Thread Cert.ReferenceAdamSsmInIdeal.nD Cert.ReferenceAdamSsmInIdeal.τ).loc Cert.ReferenceAdamSsmInIdeal.main_arg3))
      ∧ r.2.sem = fun _ => 0)

def quiescent_KernelAdamFfnUp [hKernelAdamFfnUp : Cert.KernelAdamFfnUp.Facts] : Prop :=
  ∀ (m : (ℓ : Loc Cert.KernelAdamFfnUp.nD Cert.KernelAdamFfnUp.τ Cert.KernelAdamFfnUp.sig) → Buf (Elt Bits) ℓ) (g : Dev Cert.KernelAdamFfnUp.nD → PrngReg), Pre_KernelAdamFfnUp m →
    θ_run (Cert.KernelAdamFfnUp.defs (F := Bits)) (onTc (τ := Cert.KernelAdamFfnUp.τ) (Cert.KernelAdamFfnUp.main (F := Bits))) ⟨m, fun _ => 0, g⟩ (fun r => (∀ c : Dev Cert.KernelAdamFfnUp.nD,
      r.2.mem ((c.tc : Thread Cert.KernelAdamFfnUp.nD Cert.KernelAdamFfnUp.τ).loc Cert.KernelAdamFfnUp.main_arg0) = m ((c.tc : Thread Cert.KernelAdamFfnUp.nD Cert.KernelAdamFfnUp.τ).loc Cert.KernelAdamFfnUp.main_arg0)
      ∧ r.2.mem ((c.tc : Thread Cert.KernelAdamFfnUp.nD Cert.KernelAdamFfnUp.τ).loc Cert.KernelAdamFfnUp.main_arg1) = m ((c.tc : Thread Cert.KernelAdamFfnUp.nD Cert.KernelAdamFfnUp.τ).loc Cert.KernelAdamFfnUp.main_arg1)
      ∧ r.2.mem ((c.tc : Thread Cert.KernelAdamFfnUp.nD Cert.KernelAdamFfnUp.τ).loc Cert.KernelAdamFfnUp.main_arg2) = m ((c.tc : Thread Cert.KernelAdamFfnUp.nD Cert.KernelAdamFfnUp.τ).loc Cert.KernelAdamFfnUp.main_arg2)
      ∧ r.2.mem ((c.tc : Thread Cert.KernelAdamFfnUp.nD Cert.KernelAdamFfnUp.τ).loc Cert.KernelAdamFfnUp.main_arg3) = m ((c.tc : Thread Cert.KernelAdamFfnUp.nD Cert.KernelAdamFfnUp.τ).loc Cert.KernelAdamFfnUp.main_arg3)
      ∧ r.2.mem ((c.tc : Thread Cert.KernelAdamFfnUp.nD Cert.KernelAdamFfnUp.τ).loc Cert.KernelAdamFfnUp.main_arg4) = m ((c.tc : Thread Cert.KernelAdamFfnUp.nD Cert.KernelAdamFfnUp.τ).loc Cert.KernelAdamFfnUp.main_arg4))
      ∧ r.2.sem = fun _ => 0)

def quiescent_KernelAdamFfnUpIdeal [hKernelAdamFfnUpIdeal : Cert.KernelAdamFfnUpIdeal.Facts] : Prop :=
  ∀ (m : (ℓ : Loc Cert.KernelAdamFfnUpIdeal.nD Cert.KernelAdamFfnUpIdeal.τ Cert.KernelAdamFfnUpIdeal.sig) → Buf (Elt Ideal) ℓ) (g : Dev Cert.KernelAdamFfnUpIdeal.nD → PrngReg), Pre_KernelAdamFfnUpIdeal m →
    θ_run (Cert.KernelAdamFfnUpIdeal.defs (F := Ideal)) (onTc (τ := Cert.KernelAdamFfnUpIdeal.τ) (Cert.KernelAdamFfnUpIdeal.main (F := Ideal))) ⟨m, fun _ => 0, g⟩ (fun r => (∀ c : Dev Cert.KernelAdamFfnUpIdeal.nD,
      r.2.mem ((c.tc : Thread Cert.KernelAdamFfnUpIdeal.nD Cert.KernelAdamFfnUpIdeal.τ).loc Cert.KernelAdamFfnUpIdeal.main_arg0) = m ((c.tc : Thread Cert.KernelAdamFfnUpIdeal.nD Cert.KernelAdamFfnUpIdeal.τ).loc Cert.KernelAdamFfnUpIdeal.main_arg0)
      ∧ r.2.mem ((c.tc : Thread Cert.KernelAdamFfnUpIdeal.nD Cert.KernelAdamFfnUpIdeal.τ).loc Cert.KernelAdamFfnUpIdeal.main_arg1) = m ((c.tc : Thread Cert.KernelAdamFfnUpIdeal.nD Cert.KernelAdamFfnUpIdeal.τ).loc Cert.KernelAdamFfnUpIdeal.main_arg1)
      ∧ r.2.mem ((c.tc : Thread Cert.KernelAdamFfnUpIdeal.nD Cert.KernelAdamFfnUpIdeal.τ).loc Cert.KernelAdamFfnUpIdeal.main_arg2) = m ((c.tc : Thread Cert.KernelAdamFfnUpIdeal.nD Cert.KernelAdamFfnUpIdeal.τ).loc Cert.KernelAdamFfnUpIdeal.main_arg2)
      ∧ r.2.mem ((c.tc : Thread Cert.KernelAdamFfnUpIdeal.nD Cert.KernelAdamFfnUpIdeal.τ).loc Cert.KernelAdamFfnUpIdeal.main_arg3) = m ((c.tc : Thread Cert.KernelAdamFfnUpIdeal.nD Cert.KernelAdamFfnUpIdeal.τ).loc Cert.KernelAdamFfnUpIdeal.main_arg3)
      ∧ r.2.mem ((c.tc : Thread Cert.KernelAdamFfnUpIdeal.nD Cert.KernelAdamFfnUpIdeal.τ).loc Cert.KernelAdamFfnUpIdeal.main_arg4) = m ((c.tc : Thread Cert.KernelAdamFfnUpIdeal.nD Cert.KernelAdamFfnUpIdeal.τ).loc Cert.KernelAdamFfnUpIdeal.main_arg4))
      ∧ r.2.sem = fun _ => 0)

def quiescent_ReferenceAdamFfnUpIdeal [hReferenceAdamFfnUpIdeal : Cert.ReferenceAdamFfnUpIdeal.Facts] : Prop :=
  ∀ (m : (ℓ : Loc Cert.ReferenceAdamFfnUpIdeal.nD Cert.ReferenceAdamFfnUpIdeal.τ Cert.ReferenceAdamFfnUpIdeal.sig) → Buf (Elt Ideal) ℓ) (g : Dev Cert.ReferenceAdamFfnUpIdeal.nD → PrngReg), Pre_ReferenceAdamFfnUpIdeal m →
    θ_run (Cert.ReferenceAdamFfnUpIdeal.defs (F := Ideal)) (onTc (τ := Cert.ReferenceAdamFfnUpIdeal.τ) (Cert.ReferenceAdamFfnUpIdeal.main (F := Ideal))) ⟨m, fun _ => 0, g⟩ (fun r => (∀ c : Dev Cert.ReferenceAdamFfnUpIdeal.nD,
      r.2.mem ((c.tc : Thread Cert.ReferenceAdamFfnUpIdeal.nD Cert.ReferenceAdamFfnUpIdeal.τ).loc Cert.ReferenceAdamFfnUpIdeal.main_arg0) = m ((c.tc : Thread Cert.ReferenceAdamFfnUpIdeal.nD Cert.ReferenceAdamFfnUpIdeal.τ).loc Cert.ReferenceAdamFfnUpIdeal.main_arg0)
      ∧ r.2.mem ((c.tc : Thread Cert.ReferenceAdamFfnUpIdeal.nD Cert.ReferenceAdamFfnUpIdeal.τ).loc Cert.ReferenceAdamFfnUpIdeal.main_arg1) = m ((c.tc : Thread Cert.ReferenceAdamFfnUpIdeal.nD Cert.ReferenceAdamFfnUpIdeal.τ).loc Cert.ReferenceAdamFfnUpIdeal.main_arg1)
      ∧ r.2.mem ((c.tc : Thread Cert.ReferenceAdamFfnUpIdeal.nD Cert.ReferenceAdamFfnUpIdeal.τ).loc Cert.ReferenceAdamFfnUpIdeal.main_arg2) = m ((c.tc : Thread Cert.ReferenceAdamFfnUpIdeal.nD Cert.ReferenceAdamFfnUpIdeal.τ).loc Cert.ReferenceAdamFfnUpIdeal.main_arg2)
      ∧ r.2.mem ((c.tc : Thread Cert.ReferenceAdamFfnUpIdeal.nD Cert.ReferenceAdamFfnUpIdeal.τ).loc Cert.ReferenceAdamFfnUpIdeal.main_arg3) = m ((c.tc : Thread Cert.ReferenceAdamFfnUpIdeal.nD Cert.ReferenceAdamFfnUpIdeal.τ).loc Cert.ReferenceAdamFfnUpIdeal.main_arg3)
      ∧ r.2.mem ((c.tc : Thread Cert.ReferenceAdamFfnUpIdeal.nD Cert.ReferenceAdamFfnUpIdeal.τ).loc Cert.ReferenceAdamFfnUpIdeal.main_arg4) = m ((c.tc : Thread Cert.ReferenceAdamFfnUpIdeal.nD Cert.ReferenceAdamFfnUpIdeal.τ).loc Cert.ReferenceAdamFfnUpIdeal.main_arg4))
      ∧ r.2.sem = fun _ => 0)

def quiescent_KernelAdamFfnDown [hKernelAdamFfnDown : Cert.KernelAdamFfnDown.Facts] : Prop :=
  ∀ (m : (ℓ : Loc Cert.KernelAdamFfnDown.nD Cert.KernelAdamFfnDown.τ Cert.KernelAdamFfnDown.sig) → Buf (Elt Bits) ℓ) (g : Dev Cert.KernelAdamFfnDown.nD → PrngReg), Pre_KernelAdamFfnDown m →
    θ_run (Cert.KernelAdamFfnDown.defs (F := Bits)) (onTc (τ := Cert.KernelAdamFfnDown.τ) (Cert.KernelAdamFfnDown.main (F := Bits))) ⟨m, fun _ => 0, g⟩ (fun r => (∀ c : Dev Cert.KernelAdamFfnDown.nD,
      r.2.mem ((c.tc : Thread Cert.KernelAdamFfnDown.nD Cert.KernelAdamFfnDown.τ).loc Cert.KernelAdamFfnDown.main_arg0) = m ((c.tc : Thread Cert.KernelAdamFfnDown.nD Cert.KernelAdamFfnDown.τ).loc Cert.KernelAdamFfnDown.main_arg0)
      ∧ r.2.mem ((c.tc : Thread Cert.KernelAdamFfnDown.nD Cert.KernelAdamFfnDown.τ).loc Cert.KernelAdamFfnDown.main_arg1) = m ((c.tc : Thread Cert.KernelAdamFfnDown.nD Cert.KernelAdamFfnDown.τ).loc Cert.KernelAdamFfnDown.main_arg1)
      ∧ r.2.mem ((c.tc : Thread Cert.KernelAdamFfnDown.nD Cert.KernelAdamFfnDown.τ).loc Cert.KernelAdamFfnDown.main_arg2) = m ((c.tc : Thread Cert.KernelAdamFfnDown.nD Cert.KernelAdamFfnDown.τ).loc Cert.KernelAdamFfnDown.main_arg2)
      ∧ r.2.mem ((c.tc : Thread Cert.KernelAdamFfnDown.nD Cert.KernelAdamFfnDown.τ).loc Cert.KernelAdamFfnDown.main_arg3) = m ((c.tc : Thread Cert.KernelAdamFfnDown.nD Cert.KernelAdamFfnDown.τ).loc Cert.KernelAdamFfnDown.main_arg3)
      ∧ r.2.mem ((c.tc : Thread Cert.KernelAdamFfnDown.nD Cert.KernelAdamFfnDown.τ).loc Cert.KernelAdamFfnDown.main_arg4) = m ((c.tc : Thread Cert.KernelAdamFfnDown.nD Cert.KernelAdamFfnDown.τ).loc Cert.KernelAdamFfnDown.main_arg4))
      ∧ r.2.sem = fun _ => 0)

def quiescent_KernelAdamFfnDownIdeal [hKernelAdamFfnDownIdeal : Cert.KernelAdamFfnDownIdeal.Facts] : Prop :=
  ∀ (m : (ℓ : Loc Cert.KernelAdamFfnDownIdeal.nD Cert.KernelAdamFfnDownIdeal.τ Cert.KernelAdamFfnDownIdeal.sig) → Buf (Elt Ideal) ℓ) (g : Dev Cert.KernelAdamFfnDownIdeal.nD → PrngReg), Pre_KernelAdamFfnDownIdeal m →
    θ_run (Cert.KernelAdamFfnDownIdeal.defs (F := Ideal)) (onTc (τ := Cert.KernelAdamFfnDownIdeal.τ) (Cert.KernelAdamFfnDownIdeal.main (F := Ideal))) ⟨m, fun _ => 0, g⟩ (fun r => (∀ c : Dev Cert.KernelAdamFfnDownIdeal.nD,
      r.2.mem ((c.tc : Thread Cert.KernelAdamFfnDownIdeal.nD Cert.KernelAdamFfnDownIdeal.τ).loc Cert.KernelAdamFfnDownIdeal.main_arg0) = m ((c.tc : Thread Cert.KernelAdamFfnDownIdeal.nD Cert.KernelAdamFfnDownIdeal.τ).loc Cert.KernelAdamFfnDownIdeal.main_arg0)
      ∧ r.2.mem ((c.tc : Thread Cert.KernelAdamFfnDownIdeal.nD Cert.KernelAdamFfnDownIdeal.τ).loc Cert.KernelAdamFfnDownIdeal.main_arg1) = m ((c.tc : Thread Cert.KernelAdamFfnDownIdeal.nD Cert.KernelAdamFfnDownIdeal.τ).loc Cert.KernelAdamFfnDownIdeal.main_arg1)
      ∧ r.2.mem ((c.tc : Thread Cert.KernelAdamFfnDownIdeal.nD Cert.KernelAdamFfnDownIdeal.τ).loc Cert.KernelAdamFfnDownIdeal.main_arg2) = m ((c.tc : Thread Cert.KernelAdamFfnDownIdeal.nD Cert.KernelAdamFfnDownIdeal.τ).loc Cert.KernelAdamFfnDownIdeal.main_arg2)
      ∧ r.2.mem ((c.tc : Thread Cert.KernelAdamFfnDownIdeal.nD Cert.KernelAdamFfnDownIdeal.τ).loc Cert.KernelAdamFfnDownIdeal.main_arg3) = m ((c.tc : Thread Cert.KernelAdamFfnDownIdeal.nD Cert.KernelAdamFfnDownIdeal.τ).loc Cert.KernelAdamFfnDownIdeal.main_arg3)
      ∧ r.2.mem ((c.tc : Thread Cert.KernelAdamFfnDownIdeal.nD Cert.KernelAdamFfnDownIdeal.τ).loc Cert.KernelAdamFfnDownIdeal.main_arg4) = m ((c.tc : Thread Cert.KernelAdamFfnDownIdeal.nD Cert.KernelAdamFfnDownIdeal.τ).loc Cert.KernelAdamFfnDownIdeal.main_arg4))
      ∧ r.2.sem = fun _ => 0)

def quiescent_ReferenceAdamFfnDownIdeal [hReferenceAdamFfnDownIdeal : Cert.ReferenceAdamFfnDownIdeal.Facts] : Prop :=
  ∀ (m : (ℓ : Loc Cert.ReferenceAdamFfnDownIdeal.nD Cert.ReferenceAdamFfnDownIdeal.τ Cert.ReferenceAdamFfnDownIdeal.sig) → Buf (Elt Ideal) ℓ) (g : Dev Cert.ReferenceAdamFfnDownIdeal.nD → PrngReg), Pre_ReferenceAdamFfnDownIdeal m →
    θ_run (Cert.ReferenceAdamFfnDownIdeal.defs (F := Ideal)) (onTc (τ := Cert.ReferenceAdamFfnDownIdeal.τ) (Cert.ReferenceAdamFfnDownIdeal.main (F := Ideal))) ⟨m, fun _ => 0, g⟩ (fun r => (∀ c : Dev Cert.ReferenceAdamFfnDownIdeal.nD,
      r.2.mem ((c.tc : Thread Cert.ReferenceAdamFfnDownIdeal.nD Cert.ReferenceAdamFfnDownIdeal.τ).loc Cert.ReferenceAdamFfnDownIdeal.main_arg0) = m ((c.tc : Thread Cert.ReferenceAdamFfnDownIdeal.nD Cert.ReferenceAdamFfnDownIdeal.τ).loc Cert.ReferenceAdamFfnDownIdeal.main_arg0)
      ∧ r.2.mem ((c.tc : Thread Cert.ReferenceAdamFfnDownIdeal.nD Cert.ReferenceAdamFfnDownIdeal.τ).loc Cert.ReferenceAdamFfnDownIdeal.main_arg1) = m ((c.tc : Thread Cert.ReferenceAdamFfnDownIdeal.nD Cert.ReferenceAdamFfnDownIdeal.τ).loc Cert.ReferenceAdamFfnDownIdeal.main_arg1)
      ∧ r.2.mem ((c.tc : Thread Cert.ReferenceAdamFfnDownIdeal.nD Cert.ReferenceAdamFfnDownIdeal.τ).loc Cert.ReferenceAdamFfnDownIdeal.main_arg2) = m ((c.tc : Thread Cert.ReferenceAdamFfnDownIdeal.nD Cert.ReferenceAdamFfnDownIdeal.τ).loc Cert.ReferenceAdamFfnDownIdeal.main_arg2)
      ∧ r.2.mem ((c.tc : Thread Cert.ReferenceAdamFfnDownIdeal.nD Cert.ReferenceAdamFfnDownIdeal.τ).loc Cert.ReferenceAdamFfnDownIdeal.main_arg3) = m ((c.tc : Thread Cert.ReferenceAdamFfnDownIdeal.nD Cert.ReferenceAdamFfnDownIdeal.τ).loc Cert.ReferenceAdamFfnDownIdeal.main_arg3)
      ∧ r.2.mem ((c.tc : Thread Cert.ReferenceAdamFfnDownIdeal.nD Cert.ReferenceAdamFfnDownIdeal.τ).loc Cert.ReferenceAdamFfnDownIdeal.main_arg4) = m ((c.tc : Thread Cert.ReferenceAdamFfnDownIdeal.nD Cert.ReferenceAdamFfnDownIdeal.τ).loc Cert.ReferenceAdamFfnDownIdeal.main_arg4))
      ∧ r.2.sem = fun _ => 0)

def quiescent_KernelSmallSum [hKernelSmallSum : Cert.KernelSmallSum.Facts] : Prop :=
  ∀ (m : (ℓ : Loc Cert.KernelSmallSum.nD Cert.KernelSmallSum.τ Cert.KernelSmallSum.sig) → Buf (Elt Bits) ℓ) (g : Dev Cert.KernelSmallSum.nD → PrngReg), Pre_KernelSmallSum m →
    θ_run (Cert.KernelSmallSum.defs (F := Bits)) (onTc (τ := Cert.KernelSmallSum.τ) (Cert.KernelSmallSum.main (F := Bits))) ⟨m, fun _ => 0, g⟩ (fun r => (∀ c : Dev Cert.KernelSmallSum.nD,
      r.2.mem ((c.tc : Thread Cert.KernelSmallSum.nD Cert.KernelSmallSum.τ).loc Cert.KernelSmallSum.main_arg0) = m ((c.tc : Thread Cert.KernelSmallSum.nD Cert.KernelSmallSum.τ).loc Cert.KernelSmallSum.main_arg0)
      ∧ r.2.mem ((c.tc : Thread Cert.KernelSmallSum.nD Cert.KernelSmallSum.τ).loc Cert.KernelSmallSum.main_arg1) = m ((c.tc : Thread Cert.KernelSmallSum.nD Cert.KernelSmallSum.τ).loc Cert.KernelSmallSum.main_arg1)
      ∧ r.2.mem ((c.tc : Thread Cert.KernelSmallSum.nD Cert.KernelSmallSum.τ).loc Cert.KernelSmallSum.main_arg2) = m ((c.tc : Thread Cert.KernelSmallSum.nD Cert.KernelSmallSum.τ).loc Cert.KernelSmallSum.main_arg2)
      ∧ r.2.mem ((c.tc : Thread Cert.KernelSmallSum.nD Cert.KernelSmallSum.τ).loc Cert.KernelSmallSum.main_arg3) = m ((c.tc : Thread Cert.KernelSmallSum.nD Cert.KernelSmallSum.τ).loc Cert.KernelSmallSum.main_arg3))
      ∧ r.2.sem = fun _ => 0)

def quiescent_KernelSmallSumIdeal [hKernelSmallSumIdeal : Cert.KernelSmallSumIdeal.Facts] : Prop :=
  ∀ (m : (ℓ : Loc Cert.KernelSmallSumIdeal.nD Cert.KernelSmallSumIdeal.τ Cert.KernelSmallSumIdeal.sig) → Buf (Elt Ideal) ℓ) (g : Dev Cert.KernelSmallSumIdeal.nD → PrngReg), Pre_KernelSmallSumIdeal m →
    θ_run (Cert.KernelSmallSumIdeal.defs (F := Ideal)) (onTc (τ := Cert.KernelSmallSumIdeal.τ) (Cert.KernelSmallSumIdeal.main (F := Ideal))) ⟨m, fun _ => 0, g⟩ (fun r => (∀ c : Dev Cert.KernelSmallSumIdeal.nD,
      r.2.mem ((c.tc : Thread Cert.KernelSmallSumIdeal.nD Cert.KernelSmallSumIdeal.τ).loc Cert.KernelSmallSumIdeal.main_arg0) = m ((c.tc : Thread Cert.KernelSmallSumIdeal.nD Cert.KernelSmallSumIdeal.τ).loc Cert.KernelSmallSumIdeal.main_arg0)
      ∧ r.2.mem ((c.tc : Thread Cert.KernelSmallSumIdeal.nD Cert.KernelSmallSumIdeal.τ).loc Cert.KernelSmallSumIdeal.main_arg1) = m ((c.tc : Thread Cert.KernelSmallSumIdeal.nD Cert.KernelSmallSumIdeal.τ).loc Cert.KernelSmallSumIdeal.main_arg1)
      ∧ r.2.mem ((c.tc : Thread Cert.KernelSmallSumIdeal.nD Cert.KernelSmallSumIdeal.τ).loc Cert.KernelSmallSumIdeal.main_arg2) = m ((c.tc : Thread Cert.KernelSmallSumIdeal.nD Cert.KernelSmallSumIdeal.τ).loc Cert.KernelSmallSumIdeal.main_arg2)
      ∧ r.2.mem ((c.tc : Thread Cert.KernelSmallSumIdeal.nD Cert.KernelSmallSumIdeal.τ).loc Cert.KernelSmallSumIdeal.main_arg3) = m ((c.tc : Thread Cert.KernelSmallSumIdeal.nD Cert.KernelSmallSumIdeal.τ).loc Cert.KernelSmallSumIdeal.main_arg3))
      ∧ r.2.sem = fun _ => 0)

def quiescent_ReferenceSmallSumIdeal [hReferenceSmallSumIdeal : Cert.ReferenceSmallSumIdeal.Facts] : Prop :=
  ∀ (m : (ℓ : Loc Cert.ReferenceSmallSumIdeal.nD Cert.ReferenceSmallSumIdeal.τ Cert.ReferenceSmallSumIdeal.sig) → Buf (Elt Ideal) ℓ) (g : Dev Cert.ReferenceSmallSumIdeal.nD → PrngReg), Pre_ReferenceSmallSumIdeal m →
    θ_run (Cert.ReferenceSmallSumIdeal.defs (F := Ideal)) (onTc (τ := Cert.ReferenceSmallSumIdeal.τ) (Cert.ReferenceSmallSumIdeal.main (F := Ideal))) ⟨m, fun _ => 0, g⟩ (fun r => (∀ c : Dev Cert.ReferenceSmallSumIdeal.nD,
      r.2.mem ((c.tc : Thread Cert.ReferenceSmallSumIdeal.nD Cert.ReferenceSmallSumIdeal.τ).loc Cert.ReferenceSmallSumIdeal.main_arg0) = m ((c.tc : Thread Cert.ReferenceSmallSumIdeal.nD Cert.ReferenceSmallSumIdeal.τ).loc Cert.ReferenceSmallSumIdeal.main_arg0)
      ∧ r.2.mem ((c.tc : Thread Cert.ReferenceSmallSumIdeal.nD Cert.ReferenceSmallSumIdeal.τ).loc Cert.ReferenceSmallSumIdeal.main_arg1) = m ((c.tc : Thread Cert.ReferenceSmallSumIdeal.nD Cert.ReferenceSmallSumIdeal.τ).loc Cert.ReferenceSmallSumIdeal.main_arg1)
      ∧ r.2.mem ((c.tc : Thread Cert.ReferenceSmallSumIdeal.nD Cert.ReferenceSmallSumIdeal.τ).loc Cert.ReferenceSmallSumIdeal.main_arg2) = m ((c.tc : Thread Cert.ReferenceSmallSumIdeal.nD Cert.ReferenceSmallSumIdeal.τ).loc Cert.ReferenceSmallSumIdeal.main_arg2)
      ∧ r.2.mem ((c.tc : Thread Cert.ReferenceSmallSumIdeal.nD Cert.ReferenceSmallSumIdeal.τ).loc Cert.ReferenceSmallSumIdeal.main_arg3) = m ((c.tc : Thread Cert.ReferenceSmallSumIdeal.nD Cert.ReferenceSmallSumIdeal.τ).loc Cert.ReferenceSmallSumIdeal.main_arg3))
      ∧ r.2.sem = fun _ => 0)

def quiescent_KernelAdamSmall [hKernelAdamSmall : Cert.KernelAdamSmall.Facts] : Prop :=
  ∀ (m : (ℓ : Loc Cert.KernelAdamSmall.nD Cert.KernelAdamSmall.τ Cert.KernelAdamSmall.sig) → Buf (Elt Bits) ℓ) (g : Dev Cert.KernelAdamSmall.nD → PrngReg), Pre_KernelAdamSmall m →
    θ_run (Cert.KernelAdamSmall.defs (F := Bits)) (onTc (τ := Cert.KernelAdamSmall.τ) (Cert.KernelAdamSmall.main (F := Bits))) ⟨m, fun _ => 0, g⟩ (fun r => (∀ c : Dev Cert.KernelAdamSmall.nD,
      r.2.mem ((c.tc : Thread Cert.KernelAdamSmall.nD Cert.KernelAdamSmall.τ).loc Cert.KernelAdamSmall.main_arg0) = m ((c.tc : Thread Cert.KernelAdamSmall.nD Cert.KernelAdamSmall.τ).loc Cert.KernelAdamSmall.main_arg0)
      ∧ r.2.mem ((c.tc : Thread Cert.KernelAdamSmall.nD Cert.KernelAdamSmall.τ).loc Cert.KernelAdamSmall.main_arg1) = m ((c.tc : Thread Cert.KernelAdamSmall.nD Cert.KernelAdamSmall.τ).loc Cert.KernelAdamSmall.main_arg1)
      ∧ r.2.mem ((c.tc : Thread Cert.KernelAdamSmall.nD Cert.KernelAdamSmall.τ).loc Cert.KernelAdamSmall.main_arg2) = m ((c.tc : Thread Cert.KernelAdamSmall.nD Cert.KernelAdamSmall.τ).loc Cert.KernelAdamSmall.main_arg2)
      ∧ r.2.mem ((c.tc : Thread Cert.KernelAdamSmall.nD Cert.KernelAdamSmall.τ).loc Cert.KernelAdamSmall.main_arg3) = m ((c.tc : Thread Cert.KernelAdamSmall.nD Cert.KernelAdamSmall.τ).loc Cert.KernelAdamSmall.main_arg3))
      ∧ r.2.sem = fun _ => 0)

def quiescent_KernelAdamSmallIdeal [hKernelAdamSmallIdeal : Cert.KernelAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg), Pre_KernelAdamSmallIdeal m →
    θ_run (Cert.KernelAdamSmallIdeal.defs (F := Ideal)) (onTc (τ := Cert.KernelAdamSmallIdeal.τ) (Cert.KernelAdamSmallIdeal.main (F := Ideal))) ⟨m, fun _ => 0, g⟩ (fun r => (∀ c : Dev Cert.KernelAdamSmallIdeal.nD,
      r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
      ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
      ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
      ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ r.2.sem = fun _ => 0)

def quiescent_ReferenceAdamSmallIdeal [hReferenceAdamSmallIdeal : Cert.ReferenceAdamSmallIdeal.Facts] : Prop :=
  ∀ (m : (ℓ : Loc Cert.ReferenceAdamSmallIdeal.nD Cert.ReferenceAdamSmallIdeal.τ Cert.ReferenceAdamSmallIdeal.sig) → Buf (Elt Ideal) ℓ) (g : Dev Cert.ReferenceAdamSmallIdeal.nD → PrngReg), Pre_ReferenceAdamSmallIdeal m →
    θ_run (Cert.ReferenceAdamSmallIdeal.defs (F := Ideal)) (onTc (τ := Cert.ReferenceAdamSmallIdeal.τ) (Cert.ReferenceAdamSmallIdeal.main (F := Ideal))) ⟨m, fun _ => 0, g⟩ (fun r => (∀ c : Dev Cert.ReferenceAdamSmallIdeal.nD,
      r.2.mem ((c.tc : Thread Cert.ReferenceAdamSmallIdeal.nD Cert.ReferenceAdamSmallIdeal.τ).loc Cert.ReferenceAdamSmallIdeal.main_arg0) = m ((c.tc : Thread Cert.ReferenceAdamSmallIdeal.nD Cert.ReferenceAdamSmallIdeal.τ).loc Cert.ReferenceAdamSmallIdeal.main_arg0)
      ∧ r.2.mem ((c.tc : Thread Cert.ReferenceAdamSmallIdeal.nD Cert.ReferenceAdamSmallIdeal.τ).loc Cert.ReferenceAdamSmallIdeal.main_arg1) = m ((c.tc : Thread Cert.ReferenceAdamSmallIdeal.nD Cert.ReferenceAdamSmallIdeal.τ).loc Cert.ReferenceAdamSmallIdeal.main_arg1)
      ∧ r.2.mem ((c.tc : Thread Cert.ReferenceAdamSmallIdeal.nD Cert.ReferenceAdamSmallIdeal.τ).loc Cert.ReferenceAdamSmallIdeal.main_arg2) = m ((c.tc : Thread Cert.ReferenceAdamSmallIdeal.nD Cert.ReferenceAdamSmallIdeal.τ).loc Cert.ReferenceAdamSmallIdeal.main_arg2)
      ∧ r.2.mem ((c.tc : Thread Cert.ReferenceAdamSmallIdeal.nD Cert.ReferenceAdamSmallIdeal.τ).loc Cert.ReferenceAdamSmallIdeal.main_arg3) = m ((c.tc : Thread Cert.ReferenceAdamSmallIdeal.nD Cert.ReferenceAdamSmallIdeal.τ).loc Cert.ReferenceAdamSmallIdeal.main_arg3))
      ∧ r.2.sem = fun _ => 0)

def quiescent_KernelFfnConv [hKernelFfnConv : Cert.KernelFfnConv.Facts] : Prop :=
  ∀ (m : (ℓ : Loc Cert.KernelFfnConv.nD Cert.KernelFfnConv.τ Cert.KernelFfnConv.sig) → Buf (Elt Bits) ℓ) (g : Dev Cert.KernelFfnConv.nD → PrngReg), Pre_KernelFfnConv m →
    θ_run (Cert.KernelFfnConv.defs (F := Bits)) (onTc (τ := Cert.KernelFfnConv.τ) (Cert.KernelFfnConv.main (F := Bits))) ⟨m, fun _ => 0, g⟩ (fun r => (∀ c : Dev Cert.KernelFfnConv.nD,
      r.2.mem ((c.tc : Thread Cert.KernelFfnConv.nD Cert.KernelFfnConv.τ).loc Cert.KernelFfnConv.main_arg0) = m ((c.tc : Thread Cert.KernelFfnConv.nD Cert.KernelFfnConv.τ).loc Cert.KernelFfnConv.main_arg0)
      ∧ r.2.mem ((c.tc : Thread Cert.KernelFfnConv.nD Cert.KernelFfnConv.τ).loc Cert.KernelFfnConv.main_arg1) = m ((c.tc : Thread Cert.KernelFfnConv.nD Cert.KernelFfnConv.τ).loc Cert.KernelFfnConv.main_arg1)
      ∧ r.2.mem ((c.tc : Thread Cert.KernelFfnConv.nD Cert.KernelFfnConv.τ).loc Cert.KernelFfnConv.main_arg2) = m ((c.tc : Thread Cert.KernelFfnConv.nD Cert.KernelFfnConv.τ).loc Cert.KernelFfnConv.main_arg2))
      ∧ r.2.sem = fun _ => 0)

def quiescent_KernelFfnConvIdeal [hKernelFfnConvIdeal : Cert.KernelFfnConvIdeal.Facts] : Prop :=
  ∀ (m : (ℓ : Loc Cert.KernelFfnConvIdeal.nD Cert.KernelFfnConvIdeal.τ Cert.KernelFfnConvIdeal.sig) → Buf (Elt Ideal) ℓ) (g : Dev Cert.KernelFfnConvIdeal.nD → PrngReg), Pre_KernelFfnConvIdeal m →
    θ_run (Cert.KernelFfnConvIdeal.defs (F := Ideal)) (onTc (τ := Cert.KernelFfnConvIdeal.τ) (Cert.KernelFfnConvIdeal.main (F := Ideal))) ⟨m, fun _ => 0, g⟩ (fun r => (∀ c : Dev Cert.KernelFfnConvIdeal.nD,
      r.2.mem ((c.tc : Thread Cert.KernelFfnConvIdeal.nD Cert.KernelFfnConvIdeal.τ).loc Cert.KernelFfnConvIdeal.main_arg0) = m ((c.tc : Thread Cert.KernelFfnConvIdeal.nD Cert.KernelFfnConvIdeal.τ).loc Cert.KernelFfnConvIdeal.main_arg0)
      ∧ r.2.mem ((c.tc : Thread Cert.KernelFfnConvIdeal.nD Cert.KernelFfnConvIdeal.τ).loc Cert.KernelFfnConvIdeal.main_arg1) = m ((c.tc : Thread Cert.KernelFfnConvIdeal.nD Cert.KernelFfnConvIdeal.τ).loc Cert.KernelFfnConvIdeal.main_arg1)
      ∧ r.2.mem ((c.tc : Thread Cert.KernelFfnConvIdeal.nD Cert.KernelFfnConvIdeal.τ).loc Cert.KernelFfnConvIdeal.main_arg2) = m ((c.tc : Thread Cert.KernelFfnConvIdeal.nD Cert.KernelFfnConvIdeal.τ).loc Cert.KernelFfnConvIdeal.main_arg2))
      ∧ r.2.sem = fun _ => 0)

def quiescent_ReferenceFfnConvIdeal [hReferenceFfnConvIdeal : Cert.ReferenceFfnConvIdeal.Facts] : Prop :=
  ∀ (m : (ℓ : Loc Cert.ReferenceFfnConvIdeal.nD Cert.ReferenceFfnConvIdeal.τ Cert.ReferenceFfnConvIdeal.sig) → Buf (Elt Ideal) ℓ) (g : Dev Cert.ReferenceFfnConvIdeal.nD → PrngReg), Pre_ReferenceFfnConvIdeal m →
    θ_run (Cert.ReferenceFfnConvIdeal.defs (F := Ideal)) (onTc (τ := Cert.ReferenceFfnConvIdeal.τ) (Cert.ReferenceFfnConvIdeal.main (F := Ideal))) ⟨m, fun _ => 0, g⟩ (fun r => (∀ c : Dev Cert.ReferenceFfnConvIdeal.nD,
      r.2.mem ((c.tc : Thread Cert.ReferenceFfnConvIdeal.nD Cert.ReferenceFfnConvIdeal.τ).loc Cert.ReferenceFfnConvIdeal.main_arg0) = m ((c.tc : Thread Cert.ReferenceFfnConvIdeal.nD Cert.ReferenceFfnConvIdeal.τ).loc Cert.ReferenceFfnConvIdeal.main_arg0)
      ∧ r.2.mem ((c.tc : Thread Cert.ReferenceFfnConvIdeal.nD Cert.ReferenceFfnConvIdeal.τ).loc Cert.ReferenceFfnConvIdeal.main_arg1) = m ((c.tc : Thread Cert.ReferenceFfnConvIdeal.nD Cert.ReferenceFfnConvIdeal.τ).loc Cert.ReferenceFfnConvIdeal.main_arg1)
      ∧ r.2.mem ((c.tc : Thread Cert.ReferenceFfnConvIdeal.nD Cert.ReferenceFfnConvIdeal.τ).loc Cert.ReferenceFfnConvIdeal.main_arg2) = m ((c.tc : Thread Cert.ReferenceFfnConvIdeal.nD Cert.ReferenceFfnConvIdeal.τ).loc Cert.ReferenceFfnConvIdeal.main_arg2))
      ∧ r.2.sem = fun _ => 0)

def quiescent_KernelSsmConv [hKernelSsmConv : Cert.KernelSsmConv.Facts] : Prop :=
  ∀ (m : (ℓ : Loc Cert.KernelSsmConv.nD Cert.KernelSsmConv.τ Cert.KernelSsmConv.sig) → Buf (Elt Bits) ℓ) (g : Dev Cert.KernelSsmConv.nD → PrngReg), Pre_KernelSsmConv m →
    θ_run (Cert.KernelSsmConv.defs (F := Bits)) (onTc (τ := Cert.KernelSsmConv.τ) (Cert.KernelSsmConv.main (F := Bits))) ⟨m, fun _ => 0, g⟩ (fun r => (∀ c : Dev Cert.KernelSsmConv.nD,
      r.2.mem ((c.tc : Thread Cert.KernelSsmConv.nD Cert.KernelSsmConv.τ).loc Cert.KernelSsmConv.main_arg0) = m ((c.tc : Thread Cert.KernelSsmConv.nD Cert.KernelSsmConv.τ).loc Cert.KernelSsmConv.main_arg0)
      ∧ r.2.mem ((c.tc : Thread Cert.KernelSsmConv.nD Cert.KernelSsmConv.τ).loc Cert.KernelSsmConv.main_arg1) = m ((c.tc : Thread Cert.KernelSsmConv.nD Cert.KernelSsmConv.τ).loc Cert.KernelSsmConv.main_arg1)
      ∧ r.2.mem ((c.tc : Thread Cert.KernelSsmConv.nD Cert.KernelSsmConv.τ).loc Cert.KernelSsmConv.main_arg2) = m ((c.tc : Thread Cert.KernelSsmConv.nD Cert.KernelSsmConv.τ).loc Cert.KernelSsmConv.main_arg2))
      ∧ r.2.sem = fun _ => 0)

def quiescent_KernelSsmConvIdeal [hKernelSsmConvIdeal : Cert.KernelSsmConvIdeal.Facts] : Prop :=
  ∀ (m : (ℓ : Loc Cert.KernelSsmConvIdeal.nD Cert.KernelSsmConvIdeal.τ Cert.KernelSsmConvIdeal.sig) → Buf (Elt Ideal) ℓ) (g : Dev Cert.KernelSsmConvIdeal.nD → PrngReg), Pre_KernelSsmConvIdeal m →
    θ_run (Cert.KernelSsmConvIdeal.defs (F := Ideal)) (onTc (τ := Cert.KernelSsmConvIdeal.τ) (Cert.KernelSsmConvIdeal.main (F := Ideal))) ⟨m, fun _ => 0, g⟩ (fun r => (∀ c : Dev Cert.KernelSsmConvIdeal.nD,
      r.2.mem ((c.tc : Thread Cert.KernelSsmConvIdeal.nD Cert.KernelSsmConvIdeal.τ).loc Cert.KernelSsmConvIdeal.main_arg0) = m ((c.tc : Thread Cert.KernelSsmConvIdeal.nD Cert.KernelSsmConvIdeal.τ).loc Cert.KernelSsmConvIdeal.main_arg0)
      ∧ r.2.mem ((c.tc : Thread Cert.KernelSsmConvIdeal.nD Cert.KernelSsmConvIdeal.τ).loc Cert.KernelSsmConvIdeal.main_arg1) = m ((c.tc : Thread Cert.KernelSsmConvIdeal.nD Cert.KernelSsmConvIdeal.τ).loc Cert.KernelSsmConvIdeal.main_arg1)
      ∧ r.2.mem ((c.tc : Thread Cert.KernelSsmConvIdeal.nD Cert.KernelSsmConvIdeal.τ).loc Cert.KernelSsmConvIdeal.main_arg2) = m ((c.tc : Thread Cert.KernelSsmConvIdeal.nD Cert.KernelSsmConvIdeal.τ).loc Cert.KernelSsmConvIdeal.main_arg2))
      ∧ r.2.sem = fun _ => 0)

def quiescent_ReferenceSsmConvIdeal [hReferenceSsmConvIdeal : Cert.ReferenceSsmConvIdeal.Facts] : Prop :=
  ∀ (m : (ℓ : Loc Cert.ReferenceSsmConvIdeal.nD Cert.ReferenceSsmConvIdeal.τ Cert.ReferenceSsmConvIdeal.sig) → Buf (Elt Ideal) ℓ) (g : Dev Cert.ReferenceSsmConvIdeal.nD → PrngReg), Pre_ReferenceSsmConvIdeal m →
    θ_run (Cert.ReferenceSsmConvIdeal.defs (F := Ideal)) (onTc (τ := Cert.ReferenceSsmConvIdeal.τ) (Cert.ReferenceSsmConvIdeal.main (F := Ideal))) ⟨m, fun _ => 0, g⟩ (fun r => (∀ c : Dev Cert.ReferenceSsmConvIdeal.nD,
      r.2.mem ((c.tc : Thread Cert.ReferenceSsmConvIdeal.nD Cert.ReferenceSsmConvIdeal.τ).loc Cert.ReferenceSsmConvIdeal.main_arg0) = m ((c.tc : Thread Cert.ReferenceSsmConvIdeal.nD Cert.ReferenceSsmConvIdeal.τ).loc Cert.ReferenceSsmConvIdeal.main_arg0)
      ∧ r.2.mem ((c.tc : Thread Cert.ReferenceSsmConvIdeal.nD Cert.ReferenceSsmConvIdeal.τ).loc Cert.ReferenceSsmConvIdeal.main_arg1) = m ((c.tc : Thread Cert.ReferenceSsmConvIdeal.nD Cert.ReferenceSsmConvIdeal.τ).loc Cert.ReferenceSsmConvIdeal.main_arg1)
      ∧ r.2.mem ((c.tc : Thread Cert.ReferenceSsmConvIdeal.nD Cert.ReferenceSsmConvIdeal.τ).loc Cert.ReferenceSsmConvIdeal.main_arg2) = m ((c.tc : Thread Cert.ReferenceSsmConvIdeal.nD Cert.ReferenceSsmConvIdeal.τ).loc Cert.ReferenceSsmConvIdeal.main_arg2))
      ∧ r.2.sem = fun _ => 0)

def quiescent_KernelLossHead [hKernelLossHead : Cert.KernelLossHead.Facts] : Prop :=
  ∀ (m : (ℓ : Loc Cert.KernelLossHead.nD Cert.KernelLossHead.τ Cert.KernelLossHead.sig) → Buf (Elt Bits) ℓ) (g : Dev Cert.KernelLossHead.nD → PrngReg), Pre_KernelLossHead m →
    θ_run (Cert.KernelLossHead.defs (F := Bits)) (onTc (τ := Cert.KernelLossHead.τ) (Cert.KernelLossHead.main (F := Bits))) ⟨m, fun _ => 0, g⟩ (fun r => (∀ c : Dev Cert.KernelLossHead.nD,
      r.2.mem ((c.tc : Thread Cert.KernelLossHead.nD Cert.KernelLossHead.τ).loc Cert.KernelLossHead.main_arg0) = m ((c.tc : Thread Cert.KernelLossHead.nD Cert.KernelLossHead.τ).loc Cert.KernelLossHead.main_arg0)
      ∧ r.2.mem ((c.tc : Thread Cert.KernelLossHead.nD Cert.KernelLossHead.τ).loc Cert.KernelLossHead.main_arg1) = m ((c.tc : Thread Cert.KernelLossHead.nD Cert.KernelLossHead.τ).loc Cert.KernelLossHead.main_arg1)
      ∧ r.2.mem ((c.tc : Thread Cert.KernelLossHead.nD Cert.KernelLossHead.τ).loc Cert.KernelLossHead.main_arg2) = m ((c.tc : Thread Cert.KernelLossHead.nD Cert.KernelLossHead.τ).loc Cert.KernelLossHead.main_arg2))
      ∧ r.2.sem = fun _ => 0)

def quiescent_KernelLossHeadIdeal [hKernelLossHeadIdeal : Cert.KernelLossHeadIdeal.Facts] : Prop :=
  ∀ (m : (ℓ : Loc Cert.KernelLossHeadIdeal.nD Cert.KernelLossHeadIdeal.τ Cert.KernelLossHeadIdeal.sig) → Buf (Elt Ideal) ℓ) (g : Dev Cert.KernelLossHeadIdeal.nD → PrngReg), Pre_KernelLossHeadIdeal m →
    θ_run (Cert.KernelLossHeadIdeal.defs (F := Ideal)) (onTc (τ := Cert.KernelLossHeadIdeal.τ) (Cert.KernelLossHeadIdeal.main (F := Ideal))) ⟨m, fun _ => 0, g⟩ (fun r => (∀ c : Dev Cert.KernelLossHeadIdeal.nD,
      r.2.mem ((c.tc : Thread Cert.KernelLossHeadIdeal.nD Cert.KernelLossHeadIdeal.τ).loc Cert.KernelLossHeadIdeal.main_arg0) = m ((c.tc : Thread Cert.KernelLossHeadIdeal.nD Cert.KernelLossHeadIdeal.τ).loc Cert.KernelLossHeadIdeal.main_arg0)
      ∧ r.2.mem ((c.tc : Thread Cert.KernelLossHeadIdeal.nD Cert.KernelLossHeadIdeal.τ).loc Cert.KernelLossHeadIdeal.main_arg1) = m ((c.tc : Thread Cert.KernelLossHeadIdeal.nD Cert.KernelLossHeadIdeal.τ).loc Cert.KernelLossHeadIdeal.main_arg1)
      ∧ r.2.mem ((c.tc : Thread Cert.KernelLossHeadIdeal.nD Cert.KernelLossHeadIdeal.τ).loc Cert.KernelLossHeadIdeal.main_arg2) = m ((c.tc : Thread Cert.KernelLossHeadIdeal.nD Cert.KernelLossHeadIdeal.τ).loc Cert.KernelLossHeadIdeal.main_arg2))
      ∧ r.2.sem = fun _ => 0)

def quiescent_ReferenceLossHeadIdeal [hReferenceLossHeadIdeal : Cert.ReferenceLossHeadIdeal.Facts] : Prop :=
  ∀ (m : (ℓ : Loc Cert.ReferenceLossHeadIdeal.nD Cert.ReferenceLossHeadIdeal.τ Cert.ReferenceLossHeadIdeal.sig) → Buf (Elt Ideal) ℓ) (g : Dev Cert.ReferenceLossHeadIdeal.nD → PrngReg), Pre_ReferenceLossHeadIdeal m →
    θ_run (Cert.ReferenceLossHeadIdeal.defs (F := Ideal)) (onTc (τ := Cert.ReferenceLossHeadIdeal.τ) (Cert.ReferenceLossHeadIdeal.main (F := Ideal))) ⟨m, fun _ => 0, g⟩ (fun r => (∀ c : Dev Cert.ReferenceLossHeadIdeal.nD,
      r.2.mem ((c.tc : Thread Cert.ReferenceLossHeadIdeal.nD Cert.ReferenceLossHeadIdeal.τ).loc Cert.ReferenceLossHeadIdeal.main_arg0) = m ((c.tc : Thread Cert.ReferenceLossHeadIdeal.nD Cert.ReferenceLossHeadIdeal.τ).loc Cert.ReferenceLossHeadIdeal.main_arg0)
      ∧ r.2.mem ((c.tc : Thread Cert.ReferenceLossHeadIdeal.nD Cert.ReferenceLossHeadIdeal.τ).loc Cert.ReferenceLossHeadIdeal.main_arg1) = m ((c.tc : Thread Cert.ReferenceLossHeadIdeal.nD Cert.ReferenceLossHeadIdeal.τ).loc Cert.ReferenceLossHeadIdeal.main_arg1)
      ∧ r.2.mem ((c.tc : Thread Cert.ReferenceLossHeadIdeal.nD Cert.ReferenceLossHeadIdeal.τ).loc Cert.ReferenceLossHeadIdeal.main_arg2) = m ((c.tc : Thread Cert.ReferenceLossHeadIdeal.nD Cert.ReferenceLossHeadIdeal.τ).loc Cert.ReferenceLossHeadIdeal.main_arg2))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2)
      ∧ r.2.mem ((c.tc : Thread Cert.KernelGate.nD Cert.KernelGate.τ).loc Cert.KernelGate.main_arg3) = m ((c.tc : Thread Cert.KernelGate.nD Cert.KernelGate.τ).loc Cert.KernelGate.main_arg3))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
      ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2)
      ∧ r.2.mem ((c.tc : Thread Cert.ReferenceGateIdeal.nD Cert.ReferenceGateIdeal.τ).loc Cert.ReferenceGateIdeal.main_arg3) = m ((c.tc : Thread Cert.ReferenceGateIdeal.nD Cert.ReferenceGateIdeal.τ).loc Cert.ReferenceGateIdeal.main_arg3))
      ∧ r.2.sem = fun _ => 0)

def quiescent_KernelSsmConvD [hKernelSsmConvD : Cert.KernelSsmConvD.Facts] : Prop :=
  ∀ (m : (ℓ : Loc Cert.KernelSsmConvD.nD Cert.KernelSsmConvD.τ Cert.KernelSsmConvD.sig) → Buf (Elt Bits) ℓ) (g : Dev Cert.KernelSsmConvD.nD → PrngReg), Pre_KernelSsmConvD m →
    θ_run (Cert.KernelSsmConvD.defs (F := Bits)) (onTc (τ := Cert.KernelSsmConvD.τ) (Cert.KernelSsmConvD.main (F := Bits))) ⟨m, fun _ => 0, g⟩ (fun r => (∀ c : Dev Cert.KernelSsmConvD.nD,
      r.2.mem ((c.tc : Thread Cert.KernelSsmConvD.nD Cert.KernelSsmConvD.τ).loc Cert.KernelSsmConvD.main_arg0) = m ((c.tc : Thread Cert.KernelSsmConvD.nD Cert.KernelSsmConvD.τ).loc Cert.KernelSsmConvD.main_arg0)
      ∧ r.2.mem ((c.tc : Thread Cert.KernelSsmConvD.nD Cert.KernelSsmConvD.τ).loc Cert.KernelSsmConvD.main_arg1) = m ((c.tc : Thread Cert.KernelSsmConvD.nD Cert.KernelSsmConvD.τ).loc Cert.KernelSsmConvD.main_arg1)
      ∧ r.2.mem ((c.tc : Thread Cert.KernelSsmConvD.nD Cert.KernelSsmConvD.τ).loc Cert.KernelSsmConvD.main_arg2) = m ((c.tc : Thread Cert.KernelSsmConvD.nD Cert.KernelSsmConvD.τ).loc Cert.KernelSsmConvD.main_arg2)
      ∧ r.2.mem ((c.tc : Thread Cert.KernelSsmConvD.nD Cert.KernelSsmConvD.τ).loc Cert.KernelSsmConvD.main_arg3) = m ((c.tc : Thread Cert.KernelSsmConvD.nD Cert.KernelSsmConvD.τ).loc Cert.KernelSsmConvD.main_arg3))
      ∧ r.2.sem = fun _ => 0)

def quiescent_KernelSsmConvDIdeal [hKernelSsmConvDIdeal : Cert.KernelSsmConvDIdeal.Facts] : Prop :=
  ∀ (m : (ℓ : Loc Cert.KernelSsmConvDIdeal.nD Cert.KernelSsmConvDIdeal.τ Cert.KernelSsmConvDIdeal.sig) → Buf (Elt Ideal) ℓ) (g : Dev Cert.KernelSsmConvDIdeal.nD → PrngReg), Pre_KernelSsmConvDIdeal m →
    θ_run (Cert.KernelSsmConvDIdeal.defs (F := Ideal)) (onTc (τ := Cert.KernelSsmConvDIdeal.τ) (Cert.KernelSsmConvDIdeal.main (F := Ideal))) ⟨m, fun _ => 0, g⟩ (fun r => (∀ c : Dev Cert.KernelSsmConvDIdeal.nD,
      r.2.mem ((c.tc : Thread Cert.KernelSsmConvDIdeal.nD Cert.KernelSsmConvDIdeal.τ).loc Cert.KernelSsmConvDIdeal.main_arg0) = m ((c.tc : Thread Cert.KernelSsmConvDIdeal.nD Cert.KernelSsmConvDIdeal.τ).loc Cert.KernelSsmConvDIdeal.main_arg0)
      ∧ r.2.mem ((c.tc : Thread Cert.KernelSsmConvDIdeal.nD Cert.KernelSsmConvDIdeal.τ).loc Cert.KernelSsmConvDIdeal.main_arg1) = m ((c.tc : Thread Cert.KernelSsmConvDIdeal.nD Cert.KernelSsmConvDIdeal.τ).loc Cert.KernelSsmConvDIdeal.main_arg1)
      ∧ r.2.mem ((c.tc : Thread Cert.KernelSsmConvDIdeal.nD Cert.KernelSsmConvDIdeal.τ).loc Cert.KernelSsmConvDIdeal.main_arg2) = m ((c.tc : Thread Cert.KernelSsmConvDIdeal.nD Cert.KernelSsmConvDIdeal.τ).loc Cert.KernelSsmConvDIdeal.main_arg2)
      ∧ r.2.mem ((c.tc : Thread Cert.KernelSsmConvDIdeal.nD Cert.KernelSsmConvDIdeal.τ).loc Cert.KernelSsmConvDIdeal.main_arg3) = m ((c.tc : Thread Cert.KernelSsmConvDIdeal.nD Cert.KernelSsmConvDIdeal.τ).loc Cert.KernelSsmConvDIdeal.main_arg3))
      ∧ r.2.sem = fun _ => 0)

def quiescent_ReferenceSsmConvDIdeal [hReferenceSsmConvDIdeal : Cert.ReferenceSsmConvDIdeal.Facts] : Prop :=
  ∀ (m : (ℓ : Loc Cert.ReferenceSsmConvDIdeal.nD Cert.ReferenceSsmConvDIdeal.τ Cert.ReferenceSsmConvDIdeal.sig) → Buf (Elt Ideal) ℓ) (g : Dev Cert.ReferenceSsmConvDIdeal.nD → PrngReg), Pre_ReferenceSsmConvDIdeal m →
    θ_run (Cert.ReferenceSsmConvDIdeal.defs (F := Ideal)) (onTc (τ := Cert.ReferenceSsmConvDIdeal.τ) (Cert.ReferenceSsmConvDIdeal.main (F := Ideal))) ⟨m, fun _ => 0, g⟩ (fun r => (∀ c : Dev Cert.ReferenceSsmConvDIdeal.nD,
      r.2.mem ((c.tc : Thread Cert.ReferenceSsmConvDIdeal.nD Cert.ReferenceSsmConvDIdeal.τ).loc Cert.ReferenceSsmConvDIdeal.main_arg0) = m ((c.tc : Thread Cert.ReferenceSsmConvDIdeal.nD Cert.ReferenceSsmConvDIdeal.τ).loc Cert.ReferenceSsmConvDIdeal.main_arg0)
      ∧ r.2.mem ((c.tc : Thread Cert.ReferenceSsmConvDIdeal.nD Cert.ReferenceSsmConvDIdeal.τ).loc Cert.ReferenceSsmConvDIdeal.main_arg1) = m ((c.tc : Thread Cert.ReferenceSsmConvDIdeal.nD Cert.ReferenceSsmConvDIdeal.τ).loc Cert.ReferenceSsmConvDIdeal.main_arg1)
      ∧ r.2.mem ((c.tc : Thread Cert.ReferenceSsmConvDIdeal.nD Cert.ReferenceSsmConvDIdeal.τ).loc Cert.ReferenceSsmConvDIdeal.main_arg2) = m ((c.tc : Thread Cert.ReferenceSsmConvDIdeal.nD Cert.ReferenceSsmConvDIdeal.τ).loc Cert.ReferenceSsmConvDIdeal.main_arg2)
      ∧ r.2.mem ((c.tc : Thread Cert.ReferenceSsmConvDIdeal.nD Cert.ReferenceSsmConvDIdeal.τ).loc Cert.ReferenceSsmConvDIdeal.main_arg3) = m ((c.tc : Thread Cert.ReferenceSsmConvDIdeal.nD Cert.ReferenceSsmConvDIdeal.τ).loc Cert.ReferenceSsmConvDIdeal.main_arg3))
      ∧ r.2.sem = fun _ => 0)

def quiescent_KernelSsmConvIn [hKernelSsmConvIn : Cert.KernelSsmConvIn.Facts] : Prop :=
  ∀ (m : (ℓ : Loc Cert.KernelSsmConvIn.nD Cert.KernelSsmConvIn.τ Cert.KernelSsmConvIn.sig) → Buf (Elt Bits) ℓ) (g : Dev Cert.KernelSsmConvIn.nD → PrngReg), Pre_KernelSsmConvIn m →
    θ_run (Cert.KernelSsmConvIn.defs (F := Bits)) (onTc (τ := Cert.KernelSsmConvIn.τ) (Cert.KernelSsmConvIn.main (F := Bits))) ⟨m, fun _ => 0, g⟩ (fun r => (∀ c : Dev Cert.KernelSsmConvIn.nD,
      r.2.mem ((c.tc : Thread Cert.KernelSsmConvIn.nD Cert.KernelSsmConvIn.τ).loc Cert.KernelSsmConvIn.main_arg0) = m ((c.tc : Thread Cert.KernelSsmConvIn.nD Cert.KernelSsmConvIn.τ).loc Cert.KernelSsmConvIn.main_arg0)
      ∧ r.2.mem ((c.tc : Thread Cert.KernelSsmConvIn.nD Cert.KernelSsmConvIn.τ).loc Cert.KernelSsmConvIn.main_arg1) = m ((c.tc : Thread Cert.KernelSsmConvIn.nD Cert.KernelSsmConvIn.τ).loc Cert.KernelSsmConvIn.main_arg1)
      ∧ r.2.mem ((c.tc : Thread Cert.KernelSsmConvIn.nD Cert.KernelSsmConvIn.τ).loc Cert.KernelSsmConvIn.main_arg2) = m ((c.tc : Thread Cert.KernelSsmConvIn.nD Cert.KernelSsmConvIn.τ).loc Cert.KernelSsmConvIn.main_arg2))
      ∧ r.2.sem = fun _ => 0)

def quiescent_KernelSsmConvInIdeal [hKernelSsmConvInIdeal : Cert.KernelSsmConvInIdeal.Facts] : Prop :=
  ∀ (m : (ℓ : Loc Cert.KernelSsmConvInIdeal.nD Cert.KernelSsmConvInIdeal.τ Cert.KernelSsmConvInIdeal.sig) → Buf (Elt Ideal) ℓ) (g : Dev Cert.KernelSsmConvInIdeal.nD → PrngReg), Pre_KernelSsmConvInIdeal m →
    θ_run (Cert.KernelSsmConvInIdeal.defs (F := Ideal)) (onTc (τ := Cert.KernelSsmConvInIdeal.τ) (Cert.KernelSsmConvInIdeal.main (F := Ideal))) ⟨m, fun _ => 0, g⟩ (fun r => (∀ c : Dev Cert.KernelSsmConvInIdeal.nD,
      r.2.mem ((c.tc : Thread Cert.KernelSsmConvInIdeal.nD Cert.KernelSsmConvInIdeal.τ).loc Cert.KernelSsmConvInIdeal.main_arg0) = m ((c.tc : Thread Cert.KernelSsmConvInIdeal.nD Cert.KernelSsmConvInIdeal.τ).loc Cert.KernelSsmConvInIdeal.main_arg0)
      ∧ r.2.mem ((c.tc : Thread Cert.KernelSsmConvInIdeal.nD Cert.KernelSsmConvInIdeal.τ).loc Cert.KernelSsmConvInIdeal.main_arg1) = m ((c.tc : Thread Cert.KernelSsmConvInIdeal.nD Cert.KernelSsmConvInIdeal.τ).loc Cert.KernelSsmConvInIdeal.main_arg1)
      ∧ r.2.mem ((c.tc : Thread Cert.KernelSsmConvInIdeal.nD Cert.KernelSsmConvInIdeal.τ).loc Cert.KernelSsmConvInIdeal.main_arg2) = m ((c.tc : Thread Cert.KernelSsmConvInIdeal.nD Cert.KernelSsmConvInIdeal.τ).loc Cert.KernelSsmConvInIdeal.main_arg2))
      ∧ r.2.sem = fun _ => 0)

def quiescent_ReferenceSsmConvInIdeal [hReferenceSsmConvInIdeal : Cert.ReferenceSsmConvInIdeal.Facts] : Prop :=
  ∀ (m : (ℓ : Loc Cert.ReferenceSsmConvInIdeal.nD Cert.ReferenceSsmConvInIdeal.τ Cert.ReferenceSsmConvInIdeal.sig) → Buf (Elt Ideal) ℓ) (g : Dev Cert.ReferenceSsmConvInIdeal.nD → PrngReg), Pre_ReferenceSsmConvInIdeal m →
    θ_run (Cert.ReferenceSsmConvInIdeal.defs (F := Ideal)) (onTc (τ := Cert.ReferenceSsmConvInIdeal.τ) (Cert.ReferenceSsmConvInIdeal.main (F := Ideal))) ⟨m, fun _ => 0, g⟩ (fun r => (∀ c : Dev Cert.ReferenceSsmConvInIdeal.nD,
      r.2.mem ((c.tc : Thread Cert.ReferenceSsmConvInIdeal.nD Cert.ReferenceSsmConvInIdeal.τ).loc Cert.ReferenceSsmConvInIdeal.main_arg0) = m ((c.tc : Thread Cert.ReferenceSsmConvInIdeal.nD Cert.ReferenceSsmConvInIdeal.τ).loc Cert.ReferenceSsmConvInIdeal.main_arg0)
      ∧ r.2.mem ((c.tc : Thread Cert.ReferenceSsmConvInIdeal.nD Cert.ReferenceSsmConvInIdeal.τ).loc Cert.ReferenceSsmConvInIdeal.main_arg1) = m ((c.tc : Thread Cert.ReferenceSsmConvInIdeal.nD Cert.ReferenceSsmConvInIdeal.τ).loc Cert.ReferenceSsmConvInIdeal.main_arg1)
      ∧ r.2.mem ((c.tc : Thread Cert.ReferenceSsmConvInIdeal.nD Cert.ReferenceSsmConvInIdeal.τ).loc Cert.ReferenceSsmConvInIdeal.main_arg2) = m ((c.tc : Thread Cert.ReferenceSsmConvInIdeal.nD Cert.ReferenceSsmConvInIdeal.τ).loc Cert.ReferenceSsmConvInIdeal.main_arg2))
      ∧ r.2.sem = fun _ => 0)

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)) →
    ∃ (v0 : (c : Dev Cert.KernelConvIdeal.nD) → Buf (Elt Ideal) ((c.tc : Thread Cert.KernelConvIdeal.nD Cert.KernelConvIdeal.τ).loc Cert.KernelConvIdeal.main_v0)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v0) = v0 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v51) = v0 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1))

def preserves_KernelUpW_KernelUpWIdeal : Prop :=
  True

def algebraic_KernelUpWIdeal_ReferenceUpWIdeal [hKernelUpWIdeal : Cert.KernelUpWIdeal.Facts] [hReferenceUpWIdeal : Cert.ReferenceUpWIdeal.Facts] : Prop :=
  ∀ (m : (ℓ : Loc Cert.KernelUpWIdeal.nD Cert.KernelUpWIdeal.τ Cert.KernelUpWIdeal.sig) → Buf (Elt Ideal) ℓ) (g : Dev Cert.KernelUpWIdeal.nD → PrngReg)
    (m' : (ℓ : Loc Cert.ReferenceUpWIdeal.nD Cert.ReferenceUpWIdeal.τ Cert.ReferenceUpWIdeal.sig) → Buf (Elt Ideal) ℓ) (g' : Dev Cert.ReferenceUpWIdeal.nD → PrngReg), Pre_KernelUpWIdeal m →
    (∀ c : Dev Cert.KernelUpWIdeal.nD,
      m' ((c.tc : Thread Cert.ReferenceUpWIdeal.nD Cert.ReferenceUpWIdeal.τ).loc Cert.ReferenceUpWIdeal.main_arg0) = m ((c.tc : Thread Cert.KernelUpWIdeal.nD Cert.KernelUpWIdeal.τ).loc Cert.KernelUpWIdeal.main_arg0)
      ∧ m' ((c.tc : Thread Cert.ReferenceUpWIdeal.nD Cert.ReferenceUpWIdeal.τ).loc Cert.ReferenceUpWIdeal.main_arg1) = m ((c.tc : Thread Cert.KernelUpWIdeal.nD Cert.KernelUpWIdeal.τ).loc Cert.KernelUpWIdeal.main_arg1)
      ∧ m' ((c.tc : Thread Cert.ReferenceUpWIdeal.nD Cert.ReferenceUpWIdeal.τ).loc Cert.ReferenceUpWIdeal.main_arg2) = m ((c.tc : Thread Cert.KernelUpWIdeal.nD Cert.KernelUpWIdeal.τ).loc Cert.KernelUpWIdeal.main_arg2)) →
    ∃ (v0 : (c : Dev Cert.KernelUpWIdeal.nD) → Buf (Elt Ideal) ((c.tc : Thread Cert.KernelUpWIdeal.nD Cert.KernelUpWIdeal.τ).loc Cert.KernelUpWIdeal.main_v1)),
      θ_run (Cert.KernelUpWIdeal.defs (F := Ideal)) (onTc (τ := Cert.KernelUpWIdeal.τ) (Cert.KernelUpWIdeal.main (F := Ideal))) ⟨m, fun _ => 0, g⟩ (fun r => ∀ c : Dev Cert.KernelUpWIdeal.nD,
          r.2.mem ((c.tc : Thread Cert.KernelUpWIdeal.nD Cert.KernelUpWIdeal.τ).loc Cert.KernelUpWIdeal.main_v1) = v0 c
          ∧ r.2.mem ((c.tc : Thread Cert.KernelUpWIdeal.nD Cert.KernelUpWIdeal.τ).loc Cert.KernelUpWIdeal.main_arg0) = m ((c.tc : Thread Cert.KernelUpWIdeal.nD Cert.KernelUpWIdeal.τ).loc Cert.KernelUpWIdeal.main_arg0)
          ∧ r.2.mem ((c.tc : Thread Cert.KernelUpWIdeal.nD Cert.KernelUpWIdeal.τ).loc Cert.KernelUpWIdeal.main_arg1) = m ((c.tc : Thread Cert.KernelUpWIdeal.nD Cert.KernelUpWIdeal.τ).loc Cert.KernelUpWIdeal.main_arg1)
          ∧ r.2.mem ((c.tc : Thread Cert.KernelUpWIdeal.nD Cert.KernelUpWIdeal.τ).loc Cert.KernelUpWIdeal.main_arg2) = m ((c.tc : Thread Cert.KernelUpWIdeal.nD Cert.KernelUpWIdeal.τ).loc Cert.KernelUpWIdeal.main_arg2))
      ∧ θ_run (Cert.ReferenceUpWIdeal.defs (F := Ideal)) (onTc (τ := Cert.ReferenceUpWIdeal.τ) (Cert.ReferenceUpWIdeal.main (F := Ideal))) ⟨m', fun _ => 0, g'⟩ (fun r => ∀ c : Dev Cert.ReferenceUpWIdeal.nD,
          r.2.mem ((c.tc : Thread Cert.ReferenceUpWIdeal.nD Cert.ReferenceUpWIdeal.τ).loc Cert.ReferenceUpWIdeal.main_v24) = v0 c
          ∧ r.2.mem ((c.tc : Thread Cert.ReferenceUpWIdeal.nD Cert.ReferenceUpWIdeal.τ).loc Cert.ReferenceUpWIdeal.main_arg0) = m' ((c.tc : Thread Cert.ReferenceUpWIdeal.nD Cert.ReferenceUpWIdeal.τ).loc Cert.ReferenceUpWIdeal.main_arg0)
          ∧ r.2.mem ((c.tc : Thread Cert.ReferenceUpWIdeal.nD Cert.ReferenceUpWIdeal.τ).loc Cert.ReferenceUpWIdeal.main_arg1) = m' ((c.tc : Thread Cert.ReferenceUpWIdeal.nD Cert.ReferenceUpWIdeal.τ).loc Cert.ReferenceUpWIdeal.main_arg1)
          ∧ r.2.mem ((c.tc : Thread Cert.ReferenceUpWIdeal.nD Cert.ReferenceUpWIdeal.τ).loc Cert.ReferenceUpWIdeal.main_arg2) = m' ((c.tc : Thread Cert.ReferenceUpWIdeal.nD Cert.ReferenceUpWIdeal.τ).loc Cert.ReferenceUpWIdeal.main_arg2))

def preserves_KernelUpD_KernelUpDIdeal : Prop :=
  True

def algebraic_KernelUpDIdeal_ReferenceUpDIdeal [hKernelUpDIdeal : Cert.KernelUpDIdeal.Facts] [hReferenceUpDIdeal : Cert.ReferenceUpDIdeal.Facts] : Prop :=
  ∀ (m : (ℓ : Loc Cert.KernelUpDIdeal.nD Cert.KernelUpDIdeal.τ Cert.KernelUpDIdeal.sig) → Buf (Elt Ideal) ℓ) (g : Dev Cert.KernelUpDIdeal.nD → PrngReg)
    (m' : (ℓ : Loc Cert.ReferenceUpDIdeal.nD Cert.ReferenceUpDIdeal.τ Cert.ReferenceUpDIdeal.sig) → Buf (Elt Ideal) ℓ) (g' : Dev Cert.ReferenceUpDIdeal.nD → PrngReg), Pre_KernelUpDIdeal m →
    (∀ c : Dev Cert.KernelUpDIdeal.nD,
      m' ((c.tc : Thread Cert.ReferenceUpDIdeal.nD Cert.ReferenceUpDIdeal.τ).loc Cert.ReferenceUpDIdeal.main_arg0) = m ((c.tc : Thread Cert.KernelUpDIdeal.nD Cert.KernelUpDIdeal.τ).loc Cert.KernelUpDIdeal.main_arg0)
      ∧ m' ((c.tc : Thread Cert.ReferenceUpDIdeal.nD Cert.ReferenceUpDIdeal.τ).loc Cert.ReferenceUpDIdeal.main_arg1) = m ((c.tc : Thread Cert.KernelUpDIdeal.nD Cert.KernelUpDIdeal.τ).loc Cert.KernelUpDIdeal.main_arg1)
      ∧ m' ((c.tc : Thread Cert.ReferenceUpDIdeal.nD Cert.ReferenceUpDIdeal.τ).loc Cert.ReferenceUpDIdeal.main_arg2) = m ((c.tc : Thread Cert.KernelUpDIdeal.nD Cert.KernelUpDIdeal.τ).loc Cert.KernelUpDIdeal.main_arg2)
      ∧ m' ((c.tc : Thread Cert.ReferenceUpDIdeal.nD Cert.ReferenceUpDIdeal.τ).loc Cert.ReferenceUpDIdeal.main_arg3) = m ((c.tc : Thread Cert.KernelUpDIdeal.nD Cert.KernelUpDIdeal.τ).loc Cert.KernelUpDIdeal.main_arg3)
      ∧ m' ((c.tc : Thread Cert.ReferenceUpDIdeal.nD Cert.ReferenceUpDIdeal.τ).loc Cert.ReferenceUpDIdeal.main_arg4) = m ((c.tc : Thread Cert.KernelUpDIdeal.nD Cert.KernelUpDIdeal.τ).loc Cert.KernelUpDIdeal.main_arg4)) →
    ∃ (v0 : (c : Dev Cert.KernelUpDIdeal.nD) → Buf (Elt Ideal) ((c.tc : Thread Cert.KernelUpDIdeal.nD Cert.KernelUpDIdeal.τ).loc Cert.KernelUpDIdeal.main_v1_0)) (v1 : (c : Dev Cert.KernelUpDIdeal.nD) → Buf (Elt Ideal) ((c.tc : Thread Cert.KernelUpDIdeal.nD Cert.KernelUpDIdeal.τ).loc Cert.KernelUpDIdeal.main_v1_1)),
      θ_run (Cert.KernelUpDIdeal.defs (F := Ideal)) (onTc (τ := Cert.KernelUpDIdeal.τ) (Cert.KernelUpDIdeal.main (F := Ideal))) ⟨m, fun _ => 0, g⟩ (fun r => ∀ c : Dev Cert.KernelUpDIdeal.nD,
          r.2.mem ((c.tc : Thread Cert.KernelUpDIdeal.nD Cert.KernelUpDIdeal.τ).loc Cert.KernelUpDIdeal.main_v1_0) = v0 c
          ∧ r.2.mem ((c.tc : Thread Cert.KernelUpDIdeal.nD Cert.KernelUpDIdeal.τ).loc Cert.KernelUpDIdeal.main_v1_1) = v1 c
          ∧ r.2.mem ((c.tc : Thread Cert.KernelUpDIdeal.nD Cert.KernelUpDIdeal.τ).loc Cert.KernelUpDIdeal.main_arg0) = m ((c.tc : Thread Cert.KernelUpDIdeal.nD Cert.KernelUpDIdeal.τ).loc Cert.KernelUpDIdeal.main_arg0)
          ∧ r.2.mem ((c.tc : Thread Cert.KernelUpDIdeal.nD Cert.KernelUpDIdeal.τ).loc Cert.KernelUpDIdeal.main_arg1) = m ((c.tc : Thread Cert.KernelUpDIdeal.nD Cert.KernelUpDIdeal.τ).loc Cert.KernelUpDIdeal.main_arg1)
          ∧ r.2.mem ((c.tc : Thread Cert.KernelUpDIdeal.nD Cert.KernelUpDIdeal.τ).loc Cert.KernelUpDIdeal.main_arg2) = m ((c.tc : Thread Cert.KernelUpDIdeal.nD Cert.KernelUpDIdeal.τ).loc Cert.KernelUpDIdeal.main_arg2)
          ∧ r.2.mem ((c.tc : Thread Cert.KernelUpDIdeal.nD Cert.KernelUpDIdeal.τ).loc Cert.KernelUpDIdeal.main_arg3) = m ((c.tc : Thread Cert.KernelUpDIdeal.nD Cert.KernelUpDIdeal.τ).loc Cert.KernelUpDIdeal.main_arg3)
          ∧ r.2.mem ((c.tc : Thread Cert.KernelUpDIdeal.nD Cert.KernelUpDIdeal.τ).loc Cert.KernelUpDIdeal.main_arg4) = m ((c.tc : Thread Cert.KernelUpDIdeal.nD Cert.KernelUpDIdeal.τ).loc Cert.KernelUpDIdeal.main_arg4))
      ∧ θ_run (Cert.ReferenceUpDIdeal.defs (F := Ideal)) (onTc (τ := Cert.ReferenceUpDIdeal.τ) (Cert.ReferenceUpDIdeal.main (F := Ideal))) ⟨m', fun _ => 0, g'⟩ (fun r => ∀ c : Dev Cert.ReferenceUpDIdeal.nD,
          r.2.mem ((c.tc : Thread Cert.ReferenceUpDIdeal.nD Cert.ReferenceUpDIdeal.τ).loc Cert.ReferenceUpDIdeal.main_v44) = v0 c
          ∧ r.2.mem ((c.tc : Thread Cert.ReferenceUpDIdeal.nD Cert.ReferenceUpDIdeal.τ).loc Cert.ReferenceUpDIdeal.main_v45) = v1 c
          ∧ r.2.mem ((c.tc : Thread Cert.ReferenceUpDIdeal.nD Cert.ReferenceUpDIdeal.τ).loc Cert.ReferenceUpDIdeal.main_arg0) = m' ((c.tc : Thread Cert.ReferenceUpDIdeal.nD Cert.ReferenceUpDIdeal.τ).loc Cert.ReferenceUpDIdeal.main_arg0)
          ∧ r.2.mem ((c.tc : Thread Cert.ReferenceUpDIdeal.nD Cert.ReferenceUpDIdeal.τ).loc Cert.ReferenceUpDIdeal.main_arg1) = m' ((c.tc : Thread Cert.ReferenceUpDIdeal.nD Cert.ReferenceUpDIdeal.τ).loc Cert.ReferenceUpDIdeal.main_arg1)
          ∧ r.2.mem ((c.tc : Thread Cert.ReferenceUpDIdeal.nD Cert.ReferenceUpDIdeal.τ).loc Cert.ReferenceUpDIdeal.main_arg2) = m' ((c.tc : Thread Cert.ReferenceUpDIdeal.nD Cert.ReferenceUpDIdeal.τ).loc Cert.ReferenceUpDIdeal.main_arg2)
          ∧ r.2.mem ((c.tc : Thread Cert.ReferenceUpDIdeal.nD Cert.ReferenceUpDIdeal.τ).loc Cert.ReferenceUpDIdeal.main_arg3) = m' ((c.tc : Thread Cert.ReferenceUpDIdeal.nD Cert.ReferenceUpDIdeal.τ).loc Cert.ReferenceUpDIdeal.main_arg3)
          ∧ r.2.mem ((c.tc : Thread Cert.ReferenceUpDIdeal.nD Cert.ReferenceUpDIdeal.τ).loc Cert.ReferenceUpDIdeal.main_arg4) = m' ((c.tc : Thread Cert.ReferenceUpDIdeal.nD Cert.ReferenceUpDIdeal.τ).loc Cert.ReferenceUpDIdeal.main_arg4))

def preserves_KernelDownW_KernelDownWIdeal : Prop :=
  True

def algebraic_KernelDownWIdeal_ReferenceDownWIdeal [hKernelDownWIdeal : Cert.KernelDownWIdeal.Facts] [hReferenceDownWIdeal : Cert.ReferenceDownWIdeal.Facts] : Prop :=
  ∀ (m : (ℓ : Loc Cert.KernelDownWIdeal.nD Cert.KernelDownWIdeal.τ Cert.KernelDownWIdeal.sig) → Buf (Elt Ideal) ℓ) (g : Dev Cert.KernelDownWIdeal.nD → PrngReg)
    (m' : (ℓ : Loc Cert.ReferenceDownWIdeal.nD Cert.ReferenceDownWIdeal.τ Cert.ReferenceDownWIdeal.sig) → Buf (Elt Ideal) ℓ) (g' : Dev Cert.ReferenceDownWIdeal.nD → PrngReg), Pre_KernelDownWIdeal m →
    (∀ c : Dev Cert.KernelDownWIdeal.nD,
      m' ((c.tc : Thread Cert.ReferenceDownWIdeal.nD Cert.ReferenceDownWIdeal.τ).loc Cert.ReferenceDownWIdeal.main_arg0) = m ((c.tc : Thread Cert.KernelDownWIdeal.nD Cert.KernelDownWIdeal.τ).loc Cert.KernelDownWIdeal.main_arg0)
      ∧ m' ((c.tc : Thread Cert.ReferenceDownWIdeal.nD Cert.ReferenceDownWIdeal.τ).loc Cert.ReferenceDownWIdeal.main_arg1) = m ((c.tc : Thread Cert.KernelDownWIdeal.nD Cert.KernelDownWIdeal.τ).loc Cert.KernelDownWIdeal.main_arg1)) →
    ∃ (v0 : (c : Dev Cert.KernelDownWIdeal.nD) → Buf (Elt Ideal) ((c.tc : Thread Cert.KernelDownWIdeal.nD Cert.KernelDownWIdeal.τ).loc Cert.KernelDownWIdeal.main_v0)),
      θ_run (Cert.KernelDownWIdeal.defs (F := Ideal)) (onTc (τ := Cert.KernelDownWIdeal.τ) (Cert.KernelDownWIdeal.main (F := Ideal))) ⟨m, fun _ => 0, g⟩ (fun r => ∀ c : Dev Cert.KernelDownWIdeal.nD,
          r.2.mem ((c.tc : Thread Cert.KernelDownWIdeal.nD Cert.KernelDownWIdeal.τ).loc Cert.KernelDownWIdeal.main_v0) = v0 c
          ∧ r.2.mem ((c.tc : Thread Cert.KernelDownWIdeal.nD Cert.KernelDownWIdeal.τ).loc Cert.KernelDownWIdeal.main_arg0) = m ((c.tc : Thread Cert.KernelDownWIdeal.nD Cert.KernelDownWIdeal.τ).loc Cert.KernelDownWIdeal.main_arg0)
          ∧ r.2.mem ((c.tc : Thread Cert.KernelDownWIdeal.nD Cert.KernelDownWIdeal.τ).loc Cert.KernelDownWIdeal.main_arg1) = m ((c.tc : Thread Cert.KernelDownWIdeal.nD Cert.KernelDownWIdeal.τ).loc Cert.KernelDownWIdeal.main_arg1))
      ∧ θ_run (Cert.ReferenceDownWIdeal.defs (F := Ideal)) (onTc (τ := Cert.ReferenceDownWIdeal.τ) (Cert.ReferenceDownWIdeal.main (F := Ideal))) ⟨m', fun _ => 0, g'⟩ (fun r => ∀ c : Dev Cert.ReferenceDownWIdeal.nD,
          r.2.mem ((c.tc : Thread Cert.ReferenceDownWIdeal.nD Cert.ReferenceDownWIdeal.τ).loc Cert.ReferenceDownWIdeal.main_v5) = v0 c
          ∧ r.2.mem ((c.tc : Thread Cert.ReferenceDownWIdeal.nD Cert.ReferenceDownWIdeal.τ).loc Cert.ReferenceDownWIdeal.main_arg0) = m' ((c.tc : Thread Cert.ReferenceDownWIdeal.nD Cert.ReferenceDownWIdeal.τ).loc Cert.ReferenceDownWIdeal.main_arg0)
          ∧ r.2.mem ((c.tc : Thread Cert.ReferenceDownWIdeal.nD Cert.ReferenceDownWIdeal.τ).loc Cert.ReferenceDownWIdeal.main_arg1) = m' ((c.tc : Thread Cert.ReferenceDownWIdeal.nD Cert.ReferenceDownWIdeal.τ).loc Cert.ReferenceDownWIdeal.main_arg1))

def preserves_KernelDownD_KernelDownDIdeal : Prop :=
  True

def algebraic_KernelDownDIdeal_ReferenceDownDIdeal [hKernelDownDIdeal : Cert.KernelDownDIdeal.Facts] [hReferenceDownDIdeal : Cert.ReferenceDownDIdeal.Facts] : Prop :=
  ∀ (m : (ℓ : Loc Cert.KernelDownDIdeal.nD Cert.KernelDownDIdeal.τ Cert.KernelDownDIdeal.sig) → Buf (Elt Ideal) ℓ) (g : Dev Cert.KernelDownDIdeal.nD → PrngReg)
    (m' : (ℓ : Loc Cert.ReferenceDownDIdeal.nD Cert.ReferenceDownDIdeal.τ Cert.ReferenceDownDIdeal.sig) → Buf (Elt Ideal) ℓ) (g' : Dev Cert.ReferenceDownDIdeal.nD → PrngReg), Pre_KernelDownDIdeal m →
    (∀ c : Dev Cert.KernelDownDIdeal.nD,
      m' ((c.tc : Thread Cert.ReferenceDownDIdeal.nD Cert.ReferenceDownDIdeal.τ).loc Cert.ReferenceDownDIdeal.main_arg0) = m ((c.tc : Thread Cert.KernelDownDIdeal.nD Cert.KernelDownDIdeal.τ).loc Cert.KernelDownDIdeal.main_arg0)
      ∧ m' ((c.tc : Thread Cert.ReferenceDownDIdeal.nD Cert.ReferenceDownDIdeal.τ).loc Cert.ReferenceDownDIdeal.main_arg1) = m ((c.tc : Thread Cert.KernelDownDIdeal.nD Cert.KernelDownDIdeal.τ).loc Cert.KernelDownDIdeal.main_arg1)) →
    ∃ (v0 : (c : Dev Cert.KernelDownDIdeal.nD) → Buf (Elt Ideal) ((c.tc : Thread Cert.KernelDownDIdeal.nD Cert.KernelDownDIdeal.τ).loc Cert.KernelDownDIdeal.main_v0)),
      θ_run (Cert.KernelDownDIdeal.defs (F := Ideal)) (onTc (τ := Cert.KernelDownDIdeal.τ) (Cert.KernelDownDIdeal.main (F := Ideal))) ⟨m, fun _ => 0, g⟩ (fun r => ∀ c : Dev Cert.KernelDownDIdeal.nD,
          r.2.mem ((c.tc : Thread Cert.KernelDownDIdeal.nD Cert.KernelDownDIdeal.τ).loc Cert.KernelDownDIdeal.main_v0) = v0 c
          ∧ r.2.mem ((c.tc : Thread Cert.KernelDownDIdeal.nD Cert.KernelDownDIdeal.τ).loc Cert.KernelDownDIdeal.main_arg0) = m ((c.tc : Thread Cert.KernelDownDIdeal.nD Cert.KernelDownDIdeal.τ).loc Cert.KernelDownDIdeal.main_arg0)
          ∧ r.2.mem ((c.tc : Thread Cert.KernelDownDIdeal.nD Cert.KernelDownDIdeal.τ).loc Cert.KernelDownDIdeal.main_arg1) = m ((c.tc : Thread Cert.KernelDownDIdeal.nD Cert.KernelDownDIdeal.τ).loc Cert.KernelDownDIdeal.main_arg1))
      ∧ θ_run (Cert.ReferenceDownDIdeal.defs (F := Ideal)) (onTc (τ := Cert.ReferenceDownDIdeal.τ) (Cert.ReferenceDownDIdeal.main (F := Ideal))) ⟨m', fun _ => 0, g'⟩ (fun r => ∀ c : Dev Cert.ReferenceDownDIdeal.nD,
          r.2.mem ((c.tc : Thread Cert.ReferenceDownDIdeal.nD Cert.ReferenceDownDIdeal.τ).loc Cert.ReferenceDownDIdeal.main_v4) = v0 c
          ∧ r.2.mem ((c.tc : Thread Cert.ReferenceDownDIdeal.nD Cert.ReferenceDownDIdeal.τ).loc Cert.ReferenceDownDIdeal.main_arg0) = m' ((c.tc : Thread Cert.ReferenceDownDIdeal.nD Cert.ReferenceDownDIdeal.τ).loc Cert.ReferenceDownDIdeal.main_arg0)
          ∧ r.2.mem ((c.tc : Thread Cert.ReferenceDownDIdeal.nD Cert.ReferenceDownDIdeal.τ).loc Cert.ReferenceDownDIdeal.main_arg1) = m' ((c.tc : Thread Cert.ReferenceDownDIdeal.nD Cert.ReferenceDownDIdeal.τ).loc Cert.ReferenceDownDIdeal.main_arg1))

def preserves_KernelAttnOW_KernelAttnOWIdeal : Prop :=
  True

def algebraic_KernelAttnOWIdeal_ReferenceAttnOWIdeal [hKernelAttnOWIdeal : Cert.KernelAttnOWIdeal.Facts] [hReferenceAttnOWIdeal : Cert.ReferenceAttnOWIdeal.Facts] : Prop :=
  ∀ (m : (ℓ : Loc Cert.KernelAttnOWIdeal.nD Cert.KernelAttnOWIdeal.τ Cert.KernelAttnOWIdeal.sig) → Buf (Elt Ideal) ℓ) (g : Dev Cert.KernelAttnOWIdeal.nD → PrngReg)
    (m' : (ℓ : Loc Cert.ReferenceAttnOWIdeal.nD Cert.ReferenceAttnOWIdeal.τ Cert.ReferenceAttnOWIdeal.sig) → Buf (Elt Ideal) ℓ) (g' : Dev Cert.ReferenceAttnOWIdeal.nD → PrngReg), Pre_KernelAttnOWIdeal m →
    (∀ c : Dev Cert.KernelAttnOWIdeal.nD,
      m' ((c.tc : Thread Cert.ReferenceAttnOWIdeal.nD Cert.ReferenceAttnOWIdeal.τ).loc Cert.ReferenceAttnOWIdeal.main_arg0) = m ((c.tc : Thread Cert.KernelAttnOWIdeal.nD Cert.KernelAttnOWIdeal.τ).loc Cert.KernelAttnOWIdeal.main_arg0)
      ∧ m' ((c.tc : Thread Cert.ReferenceAttnOWIdeal.nD Cert.ReferenceAttnOWIdeal.τ).loc Cert.ReferenceAttnOWIdeal.main_arg1) = m ((c.tc : Thread Cert.KernelAttnOWIdeal.nD Cert.KernelAttnOWIdeal.τ).loc Cert.KernelAttnOWIdeal.main_arg1)) →
    ∃ (v0 : (c : Dev Cert.KernelAttnOWIdeal.nD) → Buf (Elt Ideal) ((c.tc : Thread Cert.KernelAttnOWIdeal.nD Cert.KernelAttnOWIdeal.τ).loc Cert.KernelAttnOWIdeal.main_v0)),
      θ_run (Cert.KernelAttnOWIdeal.defs (F := Ideal)) (onTc (τ := Cert.KernelAttnOWIdeal.τ) (Cert.KernelAttnOWIdeal.main (F := Ideal))) ⟨m, fun _ => 0, g⟩ (fun r => ∀ c : Dev Cert.KernelAttnOWIdeal.nD,
          r.2.mem ((c.tc : Thread Cert.KernelAttnOWIdeal.nD Cert.KernelAttnOWIdeal.τ).loc Cert.KernelAttnOWIdeal.main_v0) = v0 c
          ∧ r.2.mem ((c.tc : Thread Cert.KernelAttnOWIdeal.nD Cert.KernelAttnOWIdeal.τ).loc Cert.KernelAttnOWIdeal.main_arg0) = m ((c.tc : Thread Cert.KernelAttnOWIdeal.nD Cert.KernelAttnOWIdeal.τ).loc Cert.KernelAttnOWIdeal.main_arg0)
          ∧ r.2.mem ((c.tc : Thread Cert.KernelAttnOWIdeal.nD Cert.KernelAttnOWIdeal.τ).loc Cert.KernelAttnOWIdeal.main_arg1) = m ((c.tc : Thread Cert.KernelAttnOWIdeal.nD Cert.KernelAttnOWIdeal.τ).loc Cert.KernelAttnOWIdeal.main_arg1))
      ∧ θ_run (Cert.ReferenceAttnOWIdeal.defs (F := Ideal)) (onTc (τ := Cert.ReferenceAttnOWIdeal.τ) (Cert.ReferenceAttnOWIdeal.main (F := Ideal))) ⟨m', fun _ => 0, g'⟩ (fun r => ∀ c : Dev Cert.ReferenceAttnOWIdeal.nD,
          r.2.mem ((c.tc : Thread Cert.ReferenceAttnOWIdeal.nD Cert.ReferenceAttnOWIdeal.τ).loc Cert.ReferenceAttnOWIdeal.main_v5) = v0 c
          ∧ r.2.mem ((c.tc : Thread Cert.ReferenceAttnOWIdeal.nD Cert.ReferenceAttnOWIdeal.τ).loc Cert.ReferenceAttnOWIdeal.main_arg0) = m' ((c.tc : Thread Cert.ReferenceAttnOWIdeal.nD Cert.ReferenceAttnOWIdeal.τ).loc Cert.ReferenceAttnOWIdeal.main_arg0)
          ∧ r.2.mem ((c.tc : Thread Cert.ReferenceAttnOWIdeal.nD Cert.ReferenceAttnOWIdeal.τ).loc Cert.ReferenceAttnOWIdeal.main_arg1) = m' ((c.tc : Thread Cert.ReferenceAttnOWIdeal.nD Cert.ReferenceAttnOWIdeal.τ).loc Cert.ReferenceAttnOWIdeal.main_arg1))

def preserves_KernelAttnOD_KernelAttnODIdeal : Prop :=
  True

def algebraic_KernelAttnODIdeal_ReferenceAttnODIdeal [hKernelAttnODIdeal : Cert.KernelAttnODIdeal.Facts] [hReferenceAttnODIdeal : Cert.ReferenceAttnODIdeal.Facts] : Prop :=
  ∀ (m : (ℓ : Loc Cert.KernelAttnODIdeal.nD Cert.KernelAttnODIdeal.τ Cert.KernelAttnODIdeal.sig) → Buf (Elt Ideal) ℓ) (g : Dev Cert.KernelAttnODIdeal.nD → PrngReg)
    (m' : (ℓ : Loc Cert.ReferenceAttnODIdeal.nD Cert.ReferenceAttnODIdeal.τ Cert.ReferenceAttnODIdeal.sig) → Buf (Elt Ideal) ℓ) (g' : Dev Cert.ReferenceAttnODIdeal.nD → PrngReg), Pre_KernelAttnODIdeal m →
    (∀ c : Dev Cert.KernelAttnODIdeal.nD,
      m' ((c.tc : Thread Cert.ReferenceAttnODIdeal.nD Cert.ReferenceAttnODIdeal.τ).loc Cert.ReferenceAttnODIdeal.main_arg0) = m ((c.tc : Thread Cert.KernelAttnODIdeal.nD Cert.KernelAttnODIdeal.τ).loc Cert.KernelAttnODIdeal.main_arg0)
      ∧ m' ((c.tc : Thread Cert.ReferenceAttnODIdeal.nD Cert.ReferenceAttnODIdeal.τ).loc Cert.ReferenceAttnODIdeal.main_arg1) = m ((c.tc : Thread Cert.KernelAttnODIdeal.nD Cert.KernelAttnODIdeal.τ).loc Cert.KernelAttnODIdeal.main_arg1)) →
    ∃ (v0 : (c : Dev Cert.KernelAttnODIdeal.nD) → Buf (Elt Ideal) ((c.tc : Thread Cert.KernelAttnODIdeal.nD Cert.KernelAttnODIdeal.τ).loc Cert.KernelAttnODIdeal.main_v0)),
      θ_run (Cert.KernelAttnODIdeal.defs (F := Ideal)) (onTc (τ := Cert.KernelAttnODIdeal.τ) (Cert.KernelAttnODIdeal.main (F := Ideal))) ⟨m, fun _ => 0, g⟩ (fun r => ∀ c : Dev Cert.KernelAttnODIdeal.nD,
          r.2.mem ((c.tc : Thread Cert.KernelAttnODIdeal.nD Cert.KernelAttnODIdeal.τ).loc Cert.KernelAttnODIdeal.main_v0) = v0 c
          ∧ r.2.mem ((c.tc : Thread Cert.KernelAttnODIdeal.nD Cert.KernelAttnODIdeal.τ).loc Cert.KernelAttnODIdeal.main_arg0) = m ((c.tc : Thread Cert.KernelAttnODIdeal.nD Cert.KernelAttnODIdeal.τ).loc Cert.KernelAttnODIdeal.main_arg0)
          ∧ r.2.mem ((c.tc : Thread Cert.KernelAttnODIdeal.nD Cert.KernelAttnODIdeal.τ).loc Cert.KernelAttnODIdeal.main_arg1) = m ((c.tc : Thread Cert.KernelAttnODIdeal.nD Cert.KernelAttnODIdeal.τ).loc Cert.KernelAttnODIdeal.main_arg1))
      ∧ θ_run (Cert.ReferenceAttnODIdeal.defs (F := Ideal)) (onTc (τ := Cert.ReferenceAttnODIdeal.τ) (Cert.ReferenceAttnODIdeal.main (F := Ideal))) ⟨m', fun _ => 0, g'⟩ (fun r => ∀ c : Dev Cert.ReferenceAttnODIdeal.nD,
          r.2.mem ((c.tc : Thread Cert.ReferenceAttnODIdeal.nD Cert.ReferenceAttnODIdeal.τ).loc Cert.ReferenceAttnODIdeal.main_v4) = v0 c
          ∧ r.2.mem ((c.tc : Thread Cert.ReferenceAttnODIdeal.nD Cert.ReferenceAttnODIdeal.τ).loc Cert.ReferenceAttnODIdeal.main_arg0) = m' ((c.tc : Thread Cert.ReferenceAttnODIdeal.nD Cert.ReferenceAttnODIdeal.τ).loc Cert.ReferenceAttnODIdeal.main_arg0)
          ∧ r.2.mem ((c.tc : Thread Cert.ReferenceAttnODIdeal.nD Cert.ReferenceAttnODIdeal.τ).loc Cert.ReferenceAttnODIdeal.main_arg1) = m' ((c.tc : Thread Cert.ReferenceAttnODIdeal.nD Cert.ReferenceAttnODIdeal.τ).loc Cert.ReferenceAttnODIdeal.main_arg1))

def preserves_KernelAttnQW_KernelAttnQWIdeal : Prop :=
  True

def algebraic_KernelAttnQWIdeal_ReferenceAttnQWIdeal [hKernelAttnQWIdeal : Cert.KernelAttnQWIdeal.Facts] [hReferenceAttnQWIdeal : Cert.ReferenceAttnQWIdeal.Facts] : Prop :=
  ∀ (m : (ℓ : Loc Cert.KernelAttnQWIdeal.nD Cert.KernelAttnQWIdeal.τ Cert.KernelAttnQWIdeal.sig) → Buf (Elt Ideal) ℓ) (g : Dev Cert.KernelAttnQWIdeal.nD → PrngReg)
    (m' : (ℓ : Loc Cert.ReferenceAttnQWIdeal.nD Cert.ReferenceAttnQWIdeal.τ Cert.ReferenceAttnQWIdeal.sig) → Buf (Elt Ideal) ℓ) (g' : Dev Cert.ReferenceAttnQWIdeal.nD → PrngReg), Pre_KernelAttnQWIdeal m →
    (∀ c : Dev Cert.KernelAttnQWIdeal.nD,
      m' ((c.tc : Thread Cert.ReferenceAttnQWIdeal.nD Cert.ReferenceAttnQWIdeal.τ).loc Cert.ReferenceAttnQWIdeal.main_arg0) = m ((c.tc : Thread Cert.KernelAttnQWIdeal.nD Cert.KernelAttnQWIdeal.τ).loc Cert.KernelAttnQWIdeal.main_arg0)
      ∧ m' ((c.tc : Thread Cert.ReferenceAttnQWIdeal.nD Cert.ReferenceAttnQWIdeal.τ).loc Cert.ReferenceAttnQWIdeal.main_arg1) = m ((c.tc : Thread Cert.KernelAttnQWIdeal.nD Cert.KernelAttnQWIdeal.τ).loc Cert.KernelAttnQWIdeal.main_arg1)
      ∧ m' ((c.tc : Thread Cert.ReferenceAttnQWIdeal.nD Cert.ReferenceAttnQWIdeal.τ).loc Cert.ReferenceAttnQWIdeal.main_arg2) = m ((c.tc : Thread Cert.KernelAttnQWIdeal.nD Cert.KernelAttnQWIdeal.τ).loc Cert.KernelAttnQWIdeal.main_arg2)) →
    ∃ (v0 : (c : Dev Cert.KernelAttnQWIdeal.nD) → Buf (Elt Ideal) ((c.tc : Thread Cert.KernelAttnQWIdeal.nD Cert.KernelAttnQWIdeal.τ).loc Cert.KernelAttnQWIdeal.main_v1)),
      θ_run (Cert.KernelAttnQWIdeal.defs (F := Ideal)) (onTc (τ := Cert.KernelAttnQWIdeal.τ) (Cert.KernelAttnQWIdeal.main (F := Ideal))) ⟨m, fun _ => 0, g⟩ (fun r => ∀ c : Dev Cert.KernelAttnQWIdeal.nD,
          r.2.mem ((c.tc : Thread Cert.KernelAttnQWIdeal.nD Cert.KernelAttnQWIdeal.τ).loc Cert.KernelAttnQWIdeal.main_v1) = v0 c
          ∧ r.2.mem ((c.tc : Thread Cert.KernelAttnQWIdeal.nD Cert.KernelAttnQWIdeal.τ).loc Cert.KernelAttnQWIdeal.main_arg0) = m ((c.tc : Thread Cert.KernelAttnQWIdeal.nD Cert.KernelAttnQWIdeal.τ).loc Cert.KernelAttnQWIdeal.main_arg0)
          ∧ r.2.mem ((c.tc : Thread Cert.KernelAttnQWIdeal.nD Cert.KernelAttnQWIdeal.τ).loc Cert.KernelAttnQWIdeal.main_arg1) = m ((c.tc : Thread Cert.KernelAttnQWIdeal.nD Cert.KernelAttnQWIdeal.τ).loc Cert.KernelAttnQWIdeal.main_arg1)
          ∧ r.2.mem ((c.tc : Thread Cert.KernelAttnQWIdeal.nD Cert.KernelAttnQWIdeal.τ).loc Cert.KernelAttnQWIdeal.main_arg2) = m ((c.tc : Thread Cert.KernelAttnQWIdeal.nD Cert.KernelAttnQWIdeal.τ).loc Cert.KernelAttnQWIdeal.main_arg2))
      ∧ θ_run (Cert.ReferenceAttnQWIdeal.defs (F := Ideal)) (onTc (τ := Cert.ReferenceAttnQWIdeal.τ) (Cert.ReferenceAttnQWIdeal.main (F := Ideal))) ⟨m', fun _ => 0, g'⟩ (fun r => ∀ c : Dev Cert.ReferenceAttnQWIdeal.nD,
          r.2.mem ((c.tc : Thread Cert.ReferenceAttnQWIdeal.nD Cert.ReferenceAttnQWIdeal.τ).loc Cert.ReferenceAttnQWIdeal.main_v18) = v0 c
          ∧ r.2.mem ((c.tc : Thread Cert.ReferenceAttnQWIdeal.nD Cert.ReferenceAttnQWIdeal.τ).loc Cert.ReferenceAttnQWIdeal.main_arg0) = m' ((c.tc : Thread Cert.ReferenceAttnQWIdeal.nD Cert.ReferenceAttnQWIdeal.τ).loc Cert.ReferenceAttnQWIdeal.main_arg0)
          ∧ r.2.mem ((c.tc : Thread Cert.ReferenceAttnQWIdeal.nD Cert.ReferenceAttnQWIdeal.τ).loc Cert.ReferenceAttnQWIdeal.main_arg1) = m' ((c.tc : Thread Cert.ReferenceAttnQWIdeal.nD Cert.ReferenceAttnQWIdeal.τ).loc Cert.ReferenceAttnQWIdeal.main_arg1)
          ∧ r.2.mem ((c.tc : Thread Cert.ReferenceAttnQWIdeal.nD Cert.ReferenceAttnQWIdeal.τ).loc Cert.ReferenceAttnQWIdeal.main_arg2) = m' ((c.tc : Thread Cert.ReferenceAttnQWIdeal.nD Cert.ReferenceAttnQWIdeal.τ).loc Cert.ReferenceAttnQWIdeal.main_arg2))

def preserves_KernelAttnQD_KernelAttnQDIdeal : Prop :=
  True

def algebraic_KernelAttnQDIdeal_ReferenceAttnQDIdeal [hKernelAttnQDIdeal : Cert.KernelAttnQDIdeal.Facts] [hReferenceAttnQDIdeal : Cert.ReferenceAttnQDIdeal.Facts] : Prop :=
  ∀ (m : (ℓ : Loc Cert.KernelAttnQDIdeal.nD Cert.KernelAttnQDIdeal.τ Cert.KernelAttnQDIdeal.sig) → Buf (Elt Ideal) ℓ) (g : Dev Cert.KernelAttnQDIdeal.nD → PrngReg)
    (m' : (ℓ : Loc Cert.ReferenceAttnQDIdeal.nD Cert.ReferenceAttnQDIdeal.τ Cert.ReferenceAttnQDIdeal.sig) → Buf (Elt Ideal) ℓ) (g' : Dev Cert.ReferenceAttnQDIdeal.nD → PrngReg), Pre_KernelAttnQDIdeal m →
    (∀ c : Dev Cert.KernelAttnQDIdeal.nD,
      m' ((c.tc : Thread Cert.ReferenceAttnQDIdeal.nD Cert.ReferenceAttnQDIdeal.τ).loc Cert.ReferenceAttnQDIdeal.main_arg0) = m ((c.tc : Thread Cert.KernelAttnQDIdeal.nD Cert.KernelAttnQDIdeal.τ).loc Cert.KernelAttnQDIdeal.main_arg0)
      ∧ m' ((c.tc : Thread Cert.ReferenceAttnQDIdeal.nD Cert.ReferenceAttnQDIdeal.τ).loc Cert.ReferenceAttnQDIdeal.main_arg1) = m ((c.tc : Thread Cert.KernelAttnQDIdeal.nD Cert.KernelAttnQDIdeal.τ).loc Cert.KernelAttnQDIdeal.main_arg1)
      ∧ m' ((c.tc : Thread Cert.ReferenceAttnQDIdeal.nD Cert.ReferenceAttnQDIdeal.τ).loc Cert.ReferenceAttnQDIdeal.main_arg2) = m ((c.tc : Thread Cert.KernelAttnQDIdeal.nD Cert.KernelAttnQDIdeal.τ).loc Cert.KernelAttnQDIdeal.main_arg2)
      ∧ m' ((c.tc : Thread Cert.ReferenceAttnQDIdeal.nD Cert.ReferenceAttnQDIdeal.τ).loc Cert.ReferenceAttnQDIdeal.main_arg3) = m ((c.tc : Thread Cert.KernelAttnQDIdeal.nD Cert.KernelAttnQDIdeal.τ).loc Cert.KernelAttnQDIdeal.main_arg3)
      ∧ m' ((c.tc : Thread Cert.ReferenceAttnQDIdeal.nD Cert.ReferenceAttnQDIdeal.τ).loc Cert.ReferenceAttnQDIdeal.main_arg4) = m ((c.tc : Thread Cert.KernelAttnQDIdeal.nD Cert.KernelAttnQDIdeal.τ).loc Cert.KernelAttnQDIdeal.main_arg4)) →
    ∃ (v0 : (c : Dev Cert.KernelAttnQDIdeal.nD) → Buf (Elt Ideal) ((c.tc : Thread Cert.KernelAttnQDIdeal.nD Cert.KernelAttnQDIdeal.τ).loc Cert.KernelAttnQDIdeal.main_v1_0)) (v1 : (c : Dev Cert.KernelAttnQDIdeal.nD) → Buf (Elt Ideal) ((c.tc : Thread Cert.KernelAttnQDIdeal.nD Cert.KernelAttnQDIdeal.τ).loc Cert.KernelAttnQDIdeal.main_v1_1)),
      θ_run (Cert.KernelAttnQDIdeal.defs (F := Ideal)) (onTc (τ := Cert.KernelAttnQDIdeal.τ) (Cert.KernelAttnQDIdeal.main (F := Ideal))) ⟨m, fun _ => 0, g⟩ (fun r => ∀ c : Dev Cert.KernelAttnQDIdeal.nD,
          r.2.mem ((c.tc : Thread Cert.KernelAttnQDIdeal.nD Cert.KernelAttnQDIdeal.τ).loc Cert.KernelAttnQDIdeal.main_v1_0) = v0 c
          ∧ r.2.mem ((c.tc : Thread Cert.KernelAttnQDIdeal.nD Cert.KernelAttnQDIdeal.τ).loc Cert.KernelAttnQDIdeal.main_v1_1) = v1 c
          ∧ r.2.mem ((c.tc : Thread Cert.KernelAttnQDIdeal.nD Cert.KernelAttnQDIdeal.τ).loc Cert.KernelAttnQDIdeal.main_arg0) = m ((c.tc : Thread Cert.KernelAttnQDIdeal.nD Cert.KernelAttnQDIdeal.τ).loc Cert.KernelAttnQDIdeal.main_arg0)
          ∧ r.2.mem ((c.tc : Thread Cert.KernelAttnQDIdeal.nD Cert.KernelAttnQDIdeal.τ).loc Cert.KernelAttnQDIdeal.main_arg1) = m ((c.tc : Thread Cert.KernelAttnQDIdeal.nD Cert.KernelAttnQDIdeal.τ).loc Cert.KernelAttnQDIdeal.main_arg1)
          ∧ r.2.mem ((c.tc : Thread Cert.KernelAttnQDIdeal.nD Cert.KernelAttnQDIdeal.τ).loc Cert.KernelAttnQDIdeal.main_arg2) = m ((c.tc : Thread Cert.KernelAttnQDIdeal.nD Cert.KernelAttnQDIdeal.τ).loc Cert.KernelAttnQDIdeal.main_arg2)
          ∧ r.2.mem ((c.tc : Thread Cert.KernelAttnQDIdeal.nD Cert.KernelAttnQDIdeal.τ).loc Cert.KernelAttnQDIdeal.main_arg3) = m ((c.tc : Thread Cert.KernelAttnQDIdeal.nD Cert.KernelAttnQDIdeal.τ).loc Cert.KernelAttnQDIdeal.main_arg3)
          ∧ r.2.mem ((c.tc : Thread Cert.KernelAttnQDIdeal.nD Cert.KernelAttnQDIdeal.τ).loc Cert.KernelAttnQDIdeal.main_arg4) = m ((c.tc : Thread Cert.KernelAttnQDIdeal.nD Cert.KernelAttnQDIdeal.τ).loc Cert.KernelAttnQDIdeal.main_arg4))
      ∧ θ_run (Cert.ReferenceAttnQDIdeal.defs (F := Ideal)) (onTc (τ := Cert.ReferenceAttnQDIdeal.τ) (Cert.ReferenceAttnQDIdeal.main (F := Ideal))) ⟨m', fun _ => 0, g'⟩ (fun r => ∀ c : Dev Cert.ReferenceAttnQDIdeal.nD,
          r.2.mem ((c.tc : Thread Cert.ReferenceAttnQDIdeal.nD Cert.ReferenceAttnQDIdeal.τ).loc Cert.ReferenceAttnQDIdeal.main_v41) = v0 c
          ∧ r.2.mem ((c.tc : Thread Cert.ReferenceAttnQDIdeal.nD Cert.ReferenceAttnQDIdeal.τ).loc Cert.ReferenceAttnQDIdeal.main_v42) = v1 c
          ∧ r.2.mem ((c.tc : Thread Cert.ReferenceAttnQDIdeal.nD Cert.ReferenceAttnQDIdeal.τ).loc Cert.ReferenceAttnQDIdeal.main_arg0) = m' ((c.tc : Thread Cert.ReferenceAttnQDIdeal.nD Cert.ReferenceAttnQDIdeal.τ).loc Cert.ReferenceAttnQDIdeal.main_arg0)
          ∧ r.2.mem ((c.tc : Thread Cert.ReferenceAttnQDIdeal.nD Cert.ReferenceAttnQDIdeal.τ).loc Cert.ReferenceAttnQDIdeal.main_arg1) = m' ((c.tc : Thread Cert.ReferenceAttnQDIdeal.nD Cert.ReferenceAttnQDIdeal.τ).loc Cert.ReferenceAttnQDIdeal.main_arg1)
          ∧ r.2.mem ((c.tc : Thread Cert.ReferenceAttnQDIdeal.nD Cert.ReferenceAttnQDIdeal.τ).loc Cert.ReferenceAttnQDIdeal.main_arg2) = m' ((c.tc : Thread Cert.ReferenceAttnQDIdeal.nD Cert.ReferenceAttnQDIdeal.τ).loc Cert.ReferenceAttnQDIdeal.main_arg2)
          ∧ r.2.mem ((c.tc : Thread Cert.ReferenceAttnQDIdeal.nD Cert.ReferenceAttnQDIdeal.τ).loc Cert.ReferenceAttnQDIdeal.main_arg3) = m' ((c.tc : Thread Cert.ReferenceAttnQDIdeal.nD Cert.ReferenceAttnQDIdeal.τ).loc Cert.ReferenceAttnQDIdeal.main_arg3)
          ∧ r.2.mem ((c.tc : Thread Cert.ReferenceAttnQDIdeal.nD Cert.ReferenceAttnQDIdeal.τ).loc Cert.ReferenceAttnQDIdeal.main_arg4) = m' ((c.tc : Thread Cert.ReferenceAttnQDIdeal.nD Cert.ReferenceAttnQDIdeal.τ).loc Cert.ReferenceAttnQDIdeal.main_arg4))

def preserves_KernelAttnKVW_KernelAttnKVWIdeal : Prop :=
  True

def algebraic_KernelAttnKVWIdeal_ReferenceAttnKVWIdeal [hKernelAttnKVWIdeal : Cert.KernelAttnKVWIdeal.Facts] [hReferenceAttnKVWIdeal : Cert.ReferenceAttnKVWIdeal.Facts] : Prop :=
  ∀ (m : (ℓ : Loc Cert.KernelAttnKVWIdeal.nD Cert.KernelAttnKVWIdeal.τ Cert.KernelAttnKVWIdeal.sig) → Buf (Elt Ideal) ℓ) (g : Dev Cert.KernelAttnKVWIdeal.nD → PrngReg)
    (m' : (ℓ : Loc Cert.ReferenceAttnKVWIdeal.nD Cert.ReferenceAttnKVWIdeal.τ Cert.ReferenceAttnKVWIdeal.sig) → Buf (Elt Ideal) ℓ) (g' : Dev Cert.ReferenceAttnKVWIdeal.nD → PrngReg), Pre_KernelAttnKVWIdeal m →
    (∀ c : Dev Cert.KernelAttnKVWIdeal.nD,
      m' ((c.tc : Thread Cert.ReferenceAttnKVWIdeal.nD Cert.ReferenceAttnKVWIdeal.τ).loc Cert.ReferenceAttnKVWIdeal.main_arg0) = m ((c.tc : Thread Cert.KernelAttnKVWIdeal.nD Cert.KernelAttnKVWIdeal.τ).loc Cert.KernelAttnKVWIdeal.main_arg0)
      ∧ m' ((c.tc : Thread Cert.ReferenceAttnKVWIdeal.nD Cert.ReferenceAttnKVWIdeal.τ).loc Cert.ReferenceAttnKVWIdeal.main_arg1) = m ((c.tc : Thread Cert.KernelAttnKVWIdeal.nD Cert.KernelAttnKVWIdeal.τ).loc Cert.KernelAttnKVWIdeal.main_arg1)
      ∧ m' ((c.tc : Thread Cert.ReferenceAttnKVWIdeal.nD Cert.ReferenceAttnKVWIdeal.τ).loc Cert.ReferenceAttnKVWIdeal.main_arg2) = m ((c.tc : Thread Cert.KernelAttnKVWIdeal.nD Cert.KernelAttnKVWIdeal.τ).loc Cert.KernelAttnKVWIdeal.main_arg2)) →
    ∃ (v0 : (c : Dev Cert.KernelAttnKVWIdeal.nD) → Buf (Elt Ideal) ((c.tc : Thread Cert.KernelAttnKVWIdeal.nD Cert.KernelAttnKVWIdeal.τ).loc Cert.KernelAttnKVWIdeal.main_v1)),
      θ_run (Cert.KernelAttnKVWIdeal.defs (F := Ideal)) (onTc (τ := Cert.KernelAttnKVWIdeal.τ) (Cert.KernelAttnKVWIdeal.main (F := Ideal))) ⟨m, fun _ => 0, g⟩ (fun r => ∀ c : Dev Cert.KernelAttnKVWIdeal.nD,
          r.2.mem ((c.tc : Thread Cert.KernelAttnKVWIdeal.nD Cert.KernelAttnKVWIdeal.τ).loc Cert.KernelAttnKVWIdeal.main_v1) = v0 c
          ∧ r.2.mem ((c.tc : Thread Cert.KernelAttnKVWIdeal.nD Cert.KernelAttnKVWIdeal.τ).loc Cert.KernelAttnKVWIdeal.main_arg0) = m ((c.tc : Thread Cert.KernelAttnKVWIdeal.nD Cert.KernelAttnKVWIdeal.τ).loc Cert.KernelAttnKVWIdeal.main_arg0)
          ∧ r.2.mem ((c.tc : Thread Cert.KernelAttnKVWIdeal.nD Cert.KernelAttnKVWIdeal.τ).loc Cert.KernelAttnKVWIdeal.main_arg1) = m ((c.tc : Thread Cert.KernelAttnKVWIdeal.nD Cert.KernelAttnKVWIdeal.τ).loc Cert.KernelAttnKVWIdeal.main_arg1)
          ∧ r.2.mem ((c.tc : Thread Cert.KernelAttnKVWIdeal.nD Cert.KernelAttnKVWIdeal.τ).loc Cert.KernelAttnKVWIdeal.main_arg2) = m ((c.tc : Thread Cert.KernelAttnKVWIdeal.nD Cert.KernelAttnKVWIdeal.τ).loc Cert.KernelAttnKVWIdeal.main_arg2))
      ∧ θ_run (Cert.ReferenceAttnKVWIdeal.defs (F := Ideal)) (onTc (τ := Cert.ReferenceAttnKVWIdeal.τ) (Cert.ReferenceAttnKVWIdeal.main (F := Ideal))) ⟨m', fun _ => 0, g'⟩ (fun r => ∀ c : Dev Cert.ReferenceAttnKVWIdeal.nD,
          r.2.mem ((c.tc : Thread Cert.ReferenceAttnKVWIdeal.nD Cert.ReferenceAttnKVWIdeal.τ).loc Cert.ReferenceAttnKVWIdeal.main_v18) = v0 c
          ∧ r.2.mem ((c.tc : Thread Cert.ReferenceAttnKVWIdeal.nD Cert.ReferenceAttnKVWIdeal.τ).loc Cert.ReferenceAttnKVWIdeal.main_arg0) = m' ((c.tc : Thread Cert.ReferenceAttnKVWIdeal.nD Cert.ReferenceAttnKVWIdeal.τ).loc Cert.ReferenceAttnKVWIdeal.main_arg0)
          ∧ r.2.mem ((c.tc : Thread Cert.ReferenceAttnKVWIdeal.nD Cert.ReferenceAttnKVWIdeal.τ).loc Cert.ReferenceAttnKVWIdeal.main_arg1) = m' ((c.tc : Thread Cert.ReferenceAttnKVWIdeal.nD Cert.ReferenceAttnKVWIdeal.τ).loc Cert.ReferenceAttnKVWIdeal.main_arg1)
          ∧ r.2.mem ((c.tc : Thread Cert.ReferenceAttnKVWIdeal.nD Cert.ReferenceAttnKVWIdeal.τ).loc Cert.ReferenceAttnKVWIdeal.main_arg2) = m' ((c.tc : Thread Cert.ReferenceAttnKVWIdeal.nD Cert.ReferenceAttnKVWIdeal.τ).loc Cert.ReferenceAttnKVWIdeal.main_arg2))

def preserves_KernelAttnKVD_KernelAttnKVDIdeal : Prop :=
  True

def algebraic_KernelAttnKVDIdeal_ReferenceAttnKVDIdeal [hKernelAttnKVDIdeal : Cert.KernelAttnKVDIdeal.Facts] [hReferenceAttnKVDIdeal : Cert.ReferenceAttnKVDIdeal.Facts] : Prop :=
  ∀ (m : (ℓ : Loc Cert.KernelAttnKVDIdeal.nD Cert.KernelAttnKVDIdeal.τ Cert.KernelAttnKVDIdeal.sig) → Buf (Elt Ideal) ℓ) (g : Dev Cert.KernelAttnKVDIdeal.nD → PrngReg)
    (m' : (ℓ : Loc Cert.ReferenceAttnKVDIdeal.nD Cert.ReferenceAttnKVDIdeal.τ Cert.ReferenceAttnKVDIdeal.sig) → Buf (Elt Ideal) ℓ) (g' : Dev Cert.ReferenceAttnKVDIdeal.nD → PrngReg), Pre_KernelAttnKVDIdeal m →
    (∀ c : Dev Cert.KernelAttnKVDIdeal.nD,
      m' ((c.tc : Thread Cert.ReferenceAttnKVDIdeal.nD Cert.ReferenceAttnKVDIdeal.τ).loc Cert.ReferenceAttnKVDIdeal.main_arg0) = m ((c.tc : Thread Cert.KernelAttnKVDIdeal.nD Cert.KernelAttnKVDIdeal.τ).loc Cert.KernelAttnKVDIdeal.main_arg0)
      ∧ m' ((c.tc : Thread Cert.ReferenceAttnKVDIdeal.nD Cert.ReferenceAttnKVDIdeal.τ).loc Cert.ReferenceAttnKVDIdeal.main_arg1) = m ((c.tc : Thread Cert.KernelAttnKVDIdeal.nD Cert.KernelAttnKVDIdeal.τ).loc Cert.KernelAttnKVDIdeal.main_arg1)
      ∧ m' ((c.tc : Thread Cert.ReferenceAttnKVDIdeal.nD Cert.ReferenceAttnKVDIdeal.τ).loc Cert.ReferenceAttnKVDIdeal.main_arg2) = m ((c.tc : Thread Cert.KernelAttnKVDIdeal.nD Cert.KernelAttnKVDIdeal.τ).loc Cert.KernelAttnKVDIdeal.main_arg2)
      ∧ m' ((c.tc : Thread Cert.ReferenceAttnKVDIdeal.nD Cert.ReferenceAttnKVDIdeal.τ).loc Cert.ReferenceAttnKVDIdeal.main_arg3) = m ((c.tc : Thread Cert.KernelAttnKVDIdeal.nD Cert.KernelAttnKVDIdeal.τ).loc Cert.KernelAttnKVDIdeal.main_arg3)
      ∧ m' ((c.tc : Thread Cert.ReferenceAttnKVDIdeal.nD Cert.ReferenceAttnKVDIdeal.τ).loc Cert.ReferenceAttnKVDIdeal.main_arg4) = m ((c.tc : Thread Cert.KernelAttnKVDIdeal.nD Cert.KernelAttnKVDIdeal.τ).loc Cert.KernelAttnKVDIdeal.main_arg4)) →
    ∃ (v0 : (c : Dev Cert.KernelAttnKVDIdeal.nD) → Buf (Elt Ideal) ((c.tc : Thread Cert.KernelAttnKVDIdeal.nD Cert.KernelAttnKVDIdeal.τ).loc Cert.KernelAttnKVDIdeal.main_v1_0)) (v1 : (c : Dev Cert.KernelAttnKVDIdeal.nD) → Buf (Elt Ideal) ((c.tc : Thread Cert.KernelAttnKVDIdeal.nD Cert.KernelAttnKVDIdeal.τ).loc Cert.KernelAttnKVDIdeal.main_v1_1)),
      θ_run (Cert.KernelAttnKVDIdeal.defs (F := Ideal)) (onTc (τ := Cert.KernelAttnKVDIdeal.τ) (Cert.KernelAttnKVDIdeal.main (F := Ideal))) ⟨m, fun _ => 0, g⟩ (fun r => ∀ c : Dev Cert.KernelAttnKVDIdeal.nD,
          r.2.mem ((c.tc : Thread Cert.KernelAttnKVDIdeal.nD Cert.KernelAttnKVDIdeal.τ).loc Cert.KernelAttnKVDIdeal.main_v1_0) = v0 c
          ∧ r.2.mem ((c.tc : Thread Cert.KernelAttnKVDIdeal.nD Cert.KernelAttnKVDIdeal.τ).loc Cert.KernelAttnKVDIdeal.main_v1_1) = v1 c
          ∧ r.2.mem ((c.tc : Thread Cert.KernelAttnKVDIdeal.nD Cert.KernelAttnKVDIdeal.τ).loc Cert.KernelAttnKVDIdeal.main_arg0) = m ((c.tc : Thread Cert.KernelAttnKVDIdeal.nD Cert.KernelAttnKVDIdeal.τ).loc Cert.KernelAttnKVDIdeal.main_arg0)
          ∧ r.2.mem ((c.tc : Thread Cert.KernelAttnKVDIdeal.nD Cert.KernelAttnKVDIdeal.τ).loc Cert.KernelAttnKVDIdeal.main_arg1) = m ((c.tc : Thread Cert.KernelAttnKVDIdeal.nD Cert.KernelAttnKVDIdeal.τ).loc Cert.KernelAttnKVDIdeal.main_arg1)
          ∧ r.2.mem ((c.tc : Thread Cert.KernelAttnKVDIdeal.nD Cert.KernelAttnKVDIdeal.τ).loc Cert.KernelAttnKVDIdeal.main_arg2) = m ((c.tc : Thread Cert.KernelAttnKVDIdeal.nD Cert.KernelAttnKVDIdeal.τ).loc Cert.KernelAttnKVDIdeal.main_arg2)
          ∧ r.2.mem ((c.tc : Thread Cert.KernelAttnKVDIdeal.nD Cert.KernelAttnKVDIdeal.τ).loc Cert.KernelAttnKVDIdeal.main_arg3) = m ((c.tc : Thread Cert.KernelAttnKVDIdeal.nD Cert.KernelAttnKVDIdeal.τ).loc Cert.KernelAttnKVDIdeal.main_arg3)
          ∧ r.2.mem ((c.tc : Thread Cert.KernelAttnKVDIdeal.nD Cert.KernelAttnKVDIdeal.τ).loc Cert.KernelAttnKVDIdeal.main_arg4) = m ((c.tc : Thread Cert.KernelAttnKVDIdeal.nD Cert.KernelAttnKVDIdeal.τ).loc Cert.KernelAttnKVDIdeal.main_arg4))
      ∧ θ_run (Cert.ReferenceAttnKVDIdeal.defs (F := Ideal)) (onTc (τ := Cert.ReferenceAttnKVDIdeal.τ) (Cert.ReferenceAttnKVDIdeal.main (F := Ideal))) ⟨m', fun _ => 0, g'⟩ (fun r => ∀ c : Dev Cert.ReferenceAttnKVDIdeal.nD,
          r.2.mem ((c.tc : Thread Cert.ReferenceAttnKVDIdeal.nD Cert.ReferenceAttnKVDIdeal.τ).loc Cert.ReferenceAttnKVDIdeal.main_v41) = v0 c
          ∧ r.2.mem ((c.tc : Thread Cert.ReferenceAttnKVDIdeal.nD Cert.ReferenceAttnKVDIdeal.τ).loc Cert.ReferenceAttnKVDIdeal.main_v42) = v1 c
          ∧ r.2.mem ((c.tc : Thread Cert.ReferenceAttnKVDIdeal.nD Cert.ReferenceAttnKVDIdeal.τ).loc Cert.ReferenceAttnKVDIdeal.main_arg0) = m' ((c.tc : Thread Cert.ReferenceAttnKVDIdeal.nD Cert.ReferenceAttnKVDIdeal.τ).loc Cert.ReferenceAttnKVDIdeal.main_arg0)
          ∧ r.2.mem ((c.tc : Thread Cert.ReferenceAttnKVDIdeal.nD Cert.ReferenceAttnKVDIdeal.τ).loc Cert.ReferenceAttnKVDIdeal.main_arg1) = m' ((c.tc : Thread Cert.ReferenceAttnKVDIdeal.nD Cert.ReferenceAttnKVDIdeal.τ).loc Cert.ReferenceAttnKVDIdeal.main_arg1)
          ∧ r.2.mem ((c.tc : Thread Cert.ReferenceAttnKVDIdeal.nD Cert.ReferenceAttnKVDIdeal.τ).loc Cert.ReferenceAttnKVDIdeal.main_arg2) = m' ((c.tc : Thread Cert.ReferenceAttnKVDIdeal.nD Cert.ReferenceAttnKVDIdeal.τ).loc Cert.ReferenceAttnKVDIdeal.main_arg2)
          ∧ r.2.mem ((c.tc : Thread Cert.ReferenceAttnKVDIdeal.nD Cert.ReferenceAttnKVDIdeal.τ).loc Cert.ReferenceAttnKVDIdeal.main_arg3) = m' ((c.tc : Thread Cert.ReferenceAttnKVDIdeal.nD Cert.ReferenceAttnKVDIdeal.τ).loc Cert.ReferenceAttnKVDIdeal.main_arg3)
          ∧ r.2.mem ((c.tc : Thread Cert.ReferenceAttnKVDIdeal.nD Cert.ReferenceAttnKVDIdeal.τ).loc Cert.ReferenceAttnKVDIdeal.main_arg4) = m' ((c.tc : Thread Cert.ReferenceAttnKVDIdeal.nD Cert.ReferenceAttnKVDIdeal.τ).loc Cert.ReferenceAttnKVDIdeal.main_arg4))

def preserves_KernelSsmOutW_KernelSsmOutWIdeal : Prop :=
  True

def algebraic_KernelSsmOutWIdeal_ReferenceSsmOutWIdeal [hKernelSsmOutWIdeal : Cert.KernelSsmOutWIdeal.Facts] [hReferenceSsmOutWIdeal : Cert.ReferenceSsmOutWIdeal.Facts] : Prop :=
  ∀ (m : (ℓ : Loc Cert.KernelSsmOutWIdeal.nD Cert.KernelSsmOutWIdeal.τ Cert.KernelSsmOutWIdeal.sig) → Buf (Elt Ideal) ℓ) (g : Dev Cert.KernelSsmOutWIdeal.nD → PrngReg)
    (m' : (ℓ : Loc Cert.ReferenceSsmOutWIdeal.nD Cert.ReferenceSsmOutWIdeal.τ Cert.ReferenceSsmOutWIdeal.sig) → Buf (Elt Ideal) ℓ) (g' : Dev Cert.ReferenceSsmOutWIdeal.nD → PrngReg), Pre_KernelSsmOutWIdeal m →
    (∀ c : Dev Cert.KernelSsmOutWIdeal.nD,
      m' ((c.tc : Thread Cert.ReferenceSsmOutWIdeal.nD Cert.ReferenceSsmOutWIdeal.τ).loc Cert.ReferenceSsmOutWIdeal.main_arg0) = m ((c.tc : Thread Cert.KernelSsmOutWIdeal.nD Cert.KernelSsmOutWIdeal.τ).loc Cert.KernelSsmOutWIdeal.main_arg0)
      ∧ m' ((c.tc : Thread Cert.ReferenceSsmOutWIdeal.nD Cert.ReferenceSsmOutWIdeal.τ).loc Cert.ReferenceSsmOutWIdeal.main_arg1) = m ((c.tc : Thread Cert.KernelSsmOutWIdeal.nD Cert.KernelSsmOutWIdeal.τ).loc Cert.KernelSsmOutWIdeal.main_arg1)) →
    ∃ (v0 : (c : Dev Cert.KernelSsmOutWIdeal.nD) → Buf (Elt Ideal) ((c.tc : Thread Cert.KernelSsmOutWIdeal.nD Cert.KernelSsmOutWIdeal.τ).loc Cert.KernelSsmOutWIdeal.main_v0)),
      θ_run (Cert.KernelSsmOutWIdeal.defs (F := Ideal)) (onTc (τ := Cert.KernelSsmOutWIdeal.τ) (Cert.KernelSsmOutWIdeal.main (F := Ideal))) ⟨m, fun _ => 0, g⟩ (fun r => ∀ c : Dev Cert.KernelSsmOutWIdeal.nD,
          r.2.mem ((c.tc : Thread Cert.KernelSsmOutWIdeal.nD Cert.KernelSsmOutWIdeal.τ).loc Cert.KernelSsmOutWIdeal.main_v0) = v0 c
          ∧ r.2.mem ((c.tc : Thread Cert.KernelSsmOutWIdeal.nD Cert.KernelSsmOutWIdeal.τ).loc Cert.KernelSsmOutWIdeal.main_arg0) = m ((c.tc : Thread Cert.KernelSsmOutWIdeal.nD Cert.KernelSsmOutWIdeal.τ).loc Cert.KernelSsmOutWIdeal.main_arg0)
          ∧ r.2.mem ((c.tc : Thread Cert.KernelSsmOutWIdeal.nD Cert.KernelSsmOutWIdeal.τ).loc Cert.KernelSsmOutWIdeal.main_arg1) = m ((c.tc : Thread Cert.KernelSsmOutWIdeal.nD Cert.KernelSsmOutWIdeal.τ).loc Cert.KernelSsmOutWIdeal.main_arg1))
      ∧ θ_run (Cert.ReferenceSsmOutWIdeal.defs (F := Ideal)) (onTc (τ := Cert.ReferenceSsmOutWIdeal.τ) (Cert.ReferenceSsmOutWIdeal.main (F := Ideal))) ⟨m', fun _ => 0, g'⟩ (fun r => ∀ c : Dev Cert.ReferenceSsmOutWIdeal.nD,
          r.2.mem ((c.tc : Thread Cert.ReferenceSsmOutWIdeal.nD Cert.ReferenceSsmOutWIdeal.τ).loc Cert.ReferenceSsmOutWIdeal.main_v5) = v0 c
          ∧ r.2.mem ((c.tc : Thread Cert.ReferenceSsmOutWIdeal.nD Cert.ReferenceSsmOutWIdeal.τ).loc Cert.ReferenceSsmOutWIdeal.main_arg0) = m' ((c.tc : Thread Cert.ReferenceSsmOutWIdeal.nD Cert.ReferenceSsmOutWIdeal.τ).loc Cert.ReferenceSsmOutWIdeal.main_arg0)
          ∧ r.2.mem ((c.tc : Thread Cert.ReferenceSsmOutWIdeal.nD Cert.ReferenceSsmOutWIdeal.τ).loc Cert.ReferenceSsmOutWIdeal.main_arg1) = m' ((c.tc : Thread Cert.ReferenceSsmOutWIdeal.nD Cert.ReferenceSsmOutWIdeal.τ).loc Cert.ReferenceSsmOutWIdeal.main_arg1))

def preserves_KernelSsmOutD_KernelSsmOutDIdeal : Prop :=
  True

def algebraic_KernelSsmOutDIdeal_ReferenceSsmOutDIdeal [hKernelSsmOutDIdeal : Cert.KernelSsmOutDIdeal.Facts] [hReferenceSsmOutDIdeal : Cert.ReferenceSsmOutDIdeal.Facts] : Prop :=
  ∀ (m : (ℓ : Loc Cert.KernelSsmOutDIdeal.nD Cert.KernelSsmOutDIdeal.τ Cert.KernelSsmOutDIdeal.sig) → Buf (Elt Ideal) ℓ) (g : Dev Cert.KernelSsmOutDIdeal.nD → PrngReg)
    (m' : (ℓ : Loc Cert.ReferenceSsmOutDIdeal.nD Cert.ReferenceSsmOutDIdeal.τ Cert.ReferenceSsmOutDIdeal.sig) → Buf (Elt Ideal) ℓ) (g' : Dev Cert.ReferenceSsmOutDIdeal.nD → PrngReg), Pre_KernelSsmOutDIdeal m →
    (∀ c : Dev Cert.KernelSsmOutDIdeal.nD,
      m' ((c.tc : Thread Cert.ReferenceSsmOutDIdeal.nD Cert.ReferenceSsmOutDIdeal.τ).loc Cert.ReferenceSsmOutDIdeal.main_arg0) = m ((c.tc : Thread Cert.KernelSsmOutDIdeal.nD Cert.KernelSsmOutDIdeal.τ).loc Cert.KernelSsmOutDIdeal.main_arg0)
      ∧ m' ((c.tc : Thread Cert.ReferenceSsmOutDIdeal.nD Cert.ReferenceSsmOutDIdeal.τ).loc Cert.ReferenceSsmOutDIdeal.main_arg1) = m ((c.tc : Thread Cert.KernelSsmOutDIdeal.nD Cert.KernelSsmOutDIdeal.τ).loc Cert.KernelSsmOutDIdeal.main_arg1)) →
    ∃ (v0 : (c : Dev Cert.KernelSsmOutDIdeal.nD) → Buf (Elt Ideal) ((c.tc : Thread Cert.KernelSsmOutDIdeal.nD Cert.KernelSsmOutDIdeal.τ).loc Cert.KernelSsmOutDIdeal.main_v0)),
      θ_run (Cert.KernelSsmOutDIdeal.defs (F := Ideal)) (onTc (τ := Cert.KernelSsmOutDIdeal.τ) (Cert.KernelSsmOutDIdeal.main (F := Ideal))) ⟨m, fun _ => 0, g⟩ (fun r => ∀ c : Dev Cert.KernelSsmOutDIdeal.nD,
          r.2.mem ((c.tc : Thread Cert.KernelSsmOutDIdeal.nD Cert.KernelSsmOutDIdeal.τ).loc Cert.KernelSsmOutDIdeal.main_v0) = v0 c
          ∧ r.2.mem ((c.tc : Thread Cert.KernelSsmOutDIdeal.nD Cert.KernelSsmOutDIdeal.τ).loc Cert.KernelSsmOutDIdeal.main_arg0) = m ((c.tc : Thread Cert.KernelSsmOutDIdeal.nD Cert.KernelSsmOutDIdeal.τ).loc Cert.KernelSsmOutDIdeal.main_arg0)
          ∧ r.2.mem ((c.tc : Thread Cert.KernelSsmOutDIdeal.nD Cert.KernelSsmOutDIdeal.τ).loc Cert.KernelSsmOutDIdeal.main_arg1) = m ((c.tc : Thread Cert.KernelSsmOutDIdeal.nD Cert.KernelSsmOutDIdeal.τ).loc Cert.KernelSsmOutDIdeal.main_arg1))
      ∧ θ_run (Cert.ReferenceSsmOutDIdeal.defs (F := Ideal)) (onTc (τ := Cert.ReferenceSsmOutDIdeal.τ) (Cert.ReferenceSsmOutDIdeal.main (F := Ideal))) ⟨m', fun _ => 0, g'⟩ (fun r => ∀ c : Dev Cert.ReferenceSsmOutDIdeal.nD,
          r.2.mem ((c.tc : Thread Cert.ReferenceSsmOutDIdeal.nD Cert.ReferenceSsmOutDIdeal.τ).loc Cert.ReferenceSsmOutDIdeal.main_v4) = v0 c
          ∧ r.2.mem ((c.tc : Thread Cert.ReferenceSsmOutDIdeal.nD Cert.ReferenceSsmOutDIdeal.τ).loc Cert.ReferenceSsmOutDIdeal.main_arg0) = m' ((c.tc : Thread Cert.ReferenceSsmOutDIdeal.nD Cert.ReferenceSsmOutDIdeal.τ).loc Cert.ReferenceSsmOutDIdeal.main_arg0)
          ∧ r.2.mem ((c.tc : Thread Cert.ReferenceSsmOutDIdeal.nD Cert.ReferenceSsmOutDIdeal.τ).loc Cert.ReferenceSsmOutDIdeal.main_arg1) = m' ((c.tc : Thread Cert.ReferenceSsmOutDIdeal.nD Cert.ReferenceSsmOutDIdeal.τ).loc Cert.ReferenceSsmOutDIdeal.main_arg1))

def preserves_KernelSsmInW_KernelSsmInWIdeal : Prop :=
  True

def algebraic_KernelSsmInWIdeal_ReferenceSsmInWIdeal [hKernelSsmInWIdeal : Cert.KernelSsmInWIdeal.Facts] [hReferenceSsmInWIdeal : Cert.ReferenceSsmInWIdeal.Facts] : Prop :=
  ∀ (m : (ℓ : Loc Cert.KernelSsmInWIdeal.nD Cert.KernelSsmInWIdeal.τ Cert.KernelSsmInWIdeal.sig) → Buf (Elt Ideal) ℓ) (g : Dev Cert.KernelSsmInWIdeal.nD → PrngReg)
    (m' : (ℓ : Loc Cert.ReferenceSsmInWIdeal.nD Cert.ReferenceSsmInWIdeal.τ Cert.ReferenceSsmInWIdeal.sig) → Buf (Elt Ideal) ℓ) (g' : Dev Cert.ReferenceSsmInWIdeal.nD → PrngReg), Pre_KernelSsmInWIdeal m →
    (∀ c : Dev Cert.KernelSsmInWIdeal.nD,
      m' ((c.tc : Thread Cert.ReferenceSsmInWIdeal.nD Cert.ReferenceSsmInWIdeal.τ).loc Cert.ReferenceSsmInWIdeal.main_arg0) = m ((c.tc : Thread Cert.KernelSsmInWIdeal.nD Cert.KernelSsmInWIdeal.τ).loc Cert.KernelSsmInWIdeal.main_arg0)
      ∧ m' ((c.tc : Thread Cert.ReferenceSsmInWIdeal.nD Cert.ReferenceSsmInWIdeal.τ).loc Cert.ReferenceSsmInWIdeal.main_arg1) = m ((c.tc : Thread Cert.KernelSsmInWIdeal.nD Cert.KernelSsmInWIdeal.τ).loc Cert.KernelSsmInWIdeal.main_arg1)
      ∧ m' ((c.tc : Thread Cert.ReferenceSsmInWIdeal.nD Cert.ReferenceSsmInWIdeal.τ).loc Cert.ReferenceSsmInWIdeal.main_arg2) = m ((c.tc : Thread Cert.KernelSsmInWIdeal.nD Cert.KernelSsmInWIdeal.τ).loc Cert.KernelSsmInWIdeal.main_arg2)) →
    ∃ (v0 : (c : Dev Cert.KernelSsmInWIdeal.nD) → Buf (Elt Ideal) ((c.tc : Thread Cert.KernelSsmInWIdeal.nD Cert.KernelSsmInWIdeal.τ).loc Cert.KernelSsmInWIdeal.main_v1)),
      θ_run (Cert.KernelSsmInWIdeal.defs (F := Ideal)) (onTc (τ := Cert.KernelSsmInWIdeal.τ) (Cert.KernelSsmInWIdeal.main (F := Ideal))) ⟨m, fun _ => 0, g⟩ (fun r => ∀ c : Dev Cert.KernelSsmInWIdeal.nD,
          r.2.mem ((c.tc : Thread Cert.KernelSsmInWIdeal.nD Cert.KernelSsmInWIdeal.τ).loc Cert.KernelSsmInWIdeal.main_v1) = v0 c
          ∧ r.2.mem ((c.tc : Thread Cert.KernelSsmInWIdeal.nD Cert.KernelSsmInWIdeal.τ).loc Cert.KernelSsmInWIdeal.main_arg0) = m ((c.tc : Thread Cert.KernelSsmInWIdeal.nD Cert.KernelSsmInWIdeal.τ).loc Cert.KernelSsmInWIdeal.main_arg0)
          ∧ r.2.mem ((c.tc : Thread Cert.KernelSsmInWIdeal.nD Cert.KernelSsmInWIdeal.τ).loc Cert.KernelSsmInWIdeal.main_arg1) = m ((c.tc : Thread Cert.KernelSsmInWIdeal.nD Cert.KernelSsmInWIdeal.τ).loc Cert.KernelSsmInWIdeal.main_arg1)
          ∧ r.2.mem ((c.tc : Thread Cert.KernelSsmInWIdeal.nD Cert.KernelSsmInWIdeal.τ).loc Cert.KernelSsmInWIdeal.main_arg2) = m ((c.tc : Thread Cert.KernelSsmInWIdeal.nD Cert.KernelSsmInWIdeal.τ).loc Cert.KernelSsmInWIdeal.main_arg2))
      ∧ θ_run (Cert.ReferenceSsmInWIdeal.defs (F := Ideal)) (onTc (τ := Cert.ReferenceSsmInWIdeal.τ) (Cert.ReferenceSsmInWIdeal.main (F := Ideal))) ⟨m', fun _ => 0, g'⟩ (fun r => ∀ c : Dev Cert.ReferenceSsmInWIdeal.nD,
          r.2.mem ((c.tc : Thread Cert.ReferenceSsmInWIdeal.nD Cert.ReferenceSsmInWIdeal.τ).loc Cert.ReferenceSsmInWIdeal.main_v19) = v0 c
          ∧ r.2.mem ((c.tc : Thread Cert.ReferenceSsmInWIdeal.nD Cert.ReferenceSsmInWIdeal.τ).loc Cert.ReferenceSsmInWIdeal.main_arg0) = m' ((c.tc : Thread Cert.ReferenceSsmInWIdeal.nD Cert.ReferenceSsmInWIdeal.τ).loc Cert.ReferenceSsmInWIdeal.main_arg0)
          ∧ r.2.mem ((c.tc : Thread Cert.ReferenceSsmInWIdeal.nD Cert.ReferenceSsmInWIdeal.τ).loc Cert.ReferenceSsmInWIdeal.main_arg1) = m' ((c.tc : Thread Cert.ReferenceSsmInWIdeal.nD Cert.ReferenceSsmInWIdeal.τ).loc Cert.ReferenceSsmInWIdeal.main_arg1)
          ∧ r.2.mem ((c.tc : Thread Cert.ReferenceSsmInWIdeal.nD Cert.ReferenceSsmInWIdeal.τ).loc Cert.ReferenceSsmInWIdeal.main_arg2) = m' ((c.tc : Thread Cert.ReferenceSsmInWIdeal.nD Cert.ReferenceSsmInWIdeal.τ).loc Cert.ReferenceSsmInWIdeal.main_arg2))

def preserves_KernelSsmInD_KernelSsmInDIdeal : Prop :=
  True

def algebraic_KernelSsmInDIdeal_ReferenceSsmInDIdeal [hKernelSsmInDIdeal : Cert.KernelSsmInDIdeal.Facts] [hReferenceSsmInDIdeal : Cert.ReferenceSsmInDIdeal.Facts] : Prop :=
  ∀ (m : (ℓ : Loc Cert.KernelSsmInDIdeal.nD Cert.KernelSsmInDIdeal.τ Cert.KernelSsmInDIdeal.sig) → Buf (Elt Ideal) ℓ) (g : Dev Cert.KernelSsmInDIdeal.nD → PrngReg)
    (m' : (ℓ : Loc Cert.ReferenceSsmInDIdeal.nD Cert.ReferenceSsmInDIdeal.τ Cert.ReferenceSsmInDIdeal.sig) → Buf (Elt Ideal) ℓ) (g' : Dev Cert.ReferenceSsmInDIdeal.nD → PrngReg), Pre_KernelSsmInDIdeal m →
    (∀ c : Dev Cert.KernelSsmInDIdeal.nD,
      m' ((c.tc : Thread Cert.ReferenceSsmInDIdeal.nD Cert.ReferenceSsmInDIdeal.τ).loc Cert.ReferenceSsmInDIdeal.main_arg0) = m ((c.tc : Thread Cert.KernelSsmInDIdeal.nD Cert.KernelSsmInDIdeal.τ).loc Cert.KernelSsmInDIdeal.main_arg0)
      ∧ m' ((c.tc : Thread Cert.ReferenceSsmInDIdeal.nD Cert.ReferenceSsmInDIdeal.τ).loc Cert.ReferenceSsmInDIdeal.main_arg1) = m ((c.tc : Thread Cert.KernelSsmInDIdeal.nD Cert.KernelSsmInDIdeal.τ).loc Cert.KernelSsmInDIdeal.main_arg1)
      ∧ m' ((c.tc : Thread Cert.ReferenceSsmInDIdeal.nD Cert.ReferenceSsmInDIdeal.τ).loc Cert.ReferenceSsmInDIdeal.main_arg2) = m ((c.tc : Thread Cert.KernelSsmInDIdeal.nD Cert.KernelSsmInDIdeal.τ).loc Cert.KernelSsmInDIdeal.main_arg2)
      ∧ m' ((c.tc : Thread Cert.ReferenceSsmInDIdeal.nD Cert.ReferenceSsmInDIdeal.τ).loc Cert.ReferenceSsmInDIdeal.main_arg3) = m ((c.tc : Thread Cert.KernelSsmInDIdeal.nD Cert.KernelSsmInDIdeal.τ).loc Cert.KernelSsmInDIdeal.main_arg3)
      ∧ m' ((c.tc : Thread Cert.ReferenceSsmInDIdeal.nD Cert.ReferenceSsmInDIdeal.τ).loc Cert.ReferenceSsmInDIdeal.main_arg4) = m ((c.tc : Thread Cert.KernelSsmInDIdeal.nD Cert.KernelSsmInDIdeal.τ).loc Cert.KernelSsmInDIdeal.main_arg4)) →
    ∃ (v0 : (c : Dev Cert.KernelSsmInDIdeal.nD) → Buf (Elt Ideal) ((c.tc : Thread Cert.KernelSsmInDIdeal.nD Cert.KernelSsmInDIdeal.τ).loc Cert.KernelSsmInDIdeal.main_v1_0)) (v1 : (c : Dev Cert.KernelSsmInDIdeal.nD) → Buf (Elt Ideal) ((c.tc : Thread Cert.KernelSsmInDIdeal.nD Cert.KernelSsmInDIdeal.τ).loc Cert.KernelSsmInDIdeal.main_v1_1)),
      θ_run (Cert.KernelSsmInDIdeal.defs (F := Ideal)) (onTc (τ := Cert.KernelSsmInDIdeal.τ) (Cert.KernelSsmInDIdeal.main (F := Ideal))) ⟨m, fun _ => 0, g⟩ (fun r => ∀ c : Dev Cert.KernelSsmInDIdeal.nD,
          r.2.mem ((c.tc : Thread Cert.KernelSsmInDIdeal.nD Cert.KernelSsmInDIdeal.τ).loc Cert.KernelSsmInDIdeal.main_v1_0) = v0 c
          ∧ r.2.mem ((c.tc : Thread Cert.KernelSsmInDIdeal.nD Cert.KernelSsmInDIdeal.τ).loc Cert.KernelSsmInDIdeal.main_v1_1) = v1 c
          ∧ r.2.mem ((c.tc : Thread Cert.KernelSsmInDIdeal.nD Cert.KernelSsmInDIdeal.τ).loc Cert.KernelSsmInDIdeal.main_arg0) = m ((c.tc : Thread Cert.KernelSsmInDIdeal.nD Cert.KernelSsmInDIdeal.τ).loc Cert.KernelSsmInDIdeal.main_arg0)
          ∧ r.2.mem ((c.tc : Thread Cert.KernelSsmInDIdeal.nD Cert.KernelSsmInDIdeal.τ).loc Cert.KernelSsmInDIdeal.main_arg1) = m ((c.tc : Thread Cert.KernelSsmInDIdeal.nD Cert.KernelSsmInDIdeal.τ).loc Cert.KernelSsmInDIdeal.main_arg1)
          ∧ r.2.mem ((c.tc : Thread Cert.KernelSsmInDIdeal.nD Cert.KernelSsmInDIdeal.τ).loc Cert.KernelSsmInDIdeal.main_arg2) = m ((c.tc : Thread Cert.KernelSsmInDIdeal.nD Cert.KernelSsmInDIdeal.τ).loc Cert.KernelSsmInDIdeal.main_arg2)
          ∧ r.2.mem ((c.tc : Thread Cert.KernelSsmInDIdeal.nD Cert.KernelSsmInDIdeal.τ).loc Cert.KernelSsmInDIdeal.main_arg3) = m ((c.tc : Thread Cert.KernelSsmInDIdeal.nD Cert.KernelSsmInDIdeal.τ).loc Cert.KernelSsmInDIdeal.main_arg3)
          ∧ r.2.mem ((c.tc : Thread Cert.KernelSsmInDIdeal.nD Cert.KernelSsmInDIdeal.τ).loc Cert.KernelSsmInDIdeal.main_arg4) = m ((c.tc : Thread Cert.KernelSsmInDIdeal.nD Cert.KernelSsmInDIdeal.τ).loc Cert.KernelSsmInDIdeal.main_arg4))
      ∧ θ_run (Cert.ReferenceSsmInDIdeal.defs (F := Ideal)) (onTc (τ := Cert.ReferenceSsmInDIdeal.τ) (Cert.ReferenceSsmInDIdeal.main (F := Ideal))) ⟨m', fun _ => 0, g'⟩ (fun r => ∀ c : Dev Cert.ReferenceSsmInDIdeal.nD,
          r.2.mem ((c.tc : Thread Cert.ReferenceSsmInDIdeal.nD Cert.ReferenceSsmInDIdeal.τ).loc Cert.ReferenceSsmInDIdeal.main_v39) = v0 c
          ∧ r.2.mem ((c.tc : Thread Cert.ReferenceSsmInDIdeal.nD Cert.ReferenceSsmInDIdeal.τ).loc Cert.ReferenceSsmInDIdeal.main_v40) = v1 c
          ∧ r.2.mem ((c.tc : Thread Cert.ReferenceSsmInDIdeal.nD Cert.ReferenceSsmInDIdeal.τ).loc Cert.ReferenceSsmInDIdeal.main_arg0) = m' ((c.tc : Thread Cert.ReferenceSsmInDIdeal.nD Cert.ReferenceSsmInDIdeal.τ).loc Cert.ReferenceSsmInDIdeal.main_arg0)
          ∧ r.2.mem ((c.tc : Thread Cert.ReferenceSsmInDIdeal.nD Cert.ReferenceSsmInDIdeal.τ).loc Cert.ReferenceSsmInDIdeal.main_arg1) = m' ((c.tc : Thread Cert.ReferenceSsmInDIdeal.nD Cert.ReferenceSsmInDIdeal.τ).loc Cert.ReferenceSsmInDIdeal.main_arg1)
          ∧ r.2.mem ((c.tc : Thread Cert.ReferenceSsmInDIdeal.nD Cert.ReferenceSsmInDIdeal.τ).loc Cert.ReferenceSsmInDIdeal.main_arg2) = m' ((c.tc : Thread Cert.ReferenceSsmInDIdeal.nD Cert.ReferenceSsmInDIdeal.τ).loc Cert.ReferenceSsmInDIdeal.main_arg2)
          ∧ r.2.mem ((c.tc : Thread Cert.ReferenceSsmInDIdeal.nD Cert.ReferenceSsmInDIdeal.τ).loc Cert.ReferenceSsmInDIdeal.main_arg3) = m' ((c.tc : Thread Cert.ReferenceSsmInDIdeal.nD Cert.ReferenceSsmInDIdeal.τ).loc Cert.ReferenceSsmInDIdeal.main_arg3)
          ∧ r.2.mem ((c.tc : Thread Cert.ReferenceSsmInDIdeal.nD Cert.ReferenceSsmInDIdeal.τ).loc Cert.ReferenceSsmInDIdeal.main_arg4) = m' ((c.tc : Thread Cert.ReferenceSsmInDIdeal.nD Cert.ReferenceSsmInDIdeal.τ).loc Cert.ReferenceSsmInDIdeal.main_arg4))

def preserves_KernelFfnUp_KernelFfnUpIdeal : Prop :=
  True

def algebraic_KernelFfnUpIdeal_ReferenceFfnUpIdeal [hKernelFfnUpIdeal : Cert.KernelFfnUpIdeal.Facts] [hReferenceFfnUpIdeal : Cert.ReferenceFfnUpIdeal.Facts] : Prop :=
  ∀ (m : (ℓ : Loc Cert.KernelFfnUpIdeal.nD Cert.KernelFfnUpIdeal.τ Cert.KernelFfnUpIdeal.sig) → Buf (Elt Ideal) ℓ) (g : Dev Cert.KernelFfnUpIdeal.nD → PrngReg)
    (m' : (ℓ : Loc Cert.ReferenceFfnUpIdeal.nD Cert.ReferenceFfnUpIdeal.τ Cert.ReferenceFfnUpIdeal.sig) → Buf (Elt Ideal) ℓ) (g' : Dev Cert.ReferenceFfnUpIdeal.nD → PrngReg), Pre_KernelFfnUpIdeal m →
    (∀ c : Dev Cert.KernelFfnUpIdeal.nD,
      m' ((c.tc : Thread Cert.ReferenceFfnUpIdeal.nD Cert.ReferenceFfnUpIdeal.τ).loc Cert.ReferenceFfnUpIdeal.main_arg0) = m ((c.tc : Thread Cert.KernelFfnUpIdeal.nD Cert.KernelFfnUpIdeal.τ).loc Cert.KernelFfnUpIdeal.main_arg0)
      ∧ m' ((c.tc : Thread Cert.ReferenceFfnUpIdeal.nD Cert.ReferenceFfnUpIdeal.τ).loc Cert.ReferenceFfnUpIdeal.main_arg1) = m ((c.tc : Thread Cert.KernelFfnUpIdeal.nD Cert.KernelFfnUpIdeal.τ).loc Cert.KernelFfnUpIdeal.main_arg1)
      ∧ m' ((c.tc : Thread Cert.ReferenceFfnUpIdeal.nD Cert.ReferenceFfnUpIdeal.τ).loc Cert.ReferenceFfnUpIdeal.main_arg2) = m ((c.tc : Thread Cert.KernelFfnUpIdeal.nD Cert.KernelFfnUpIdeal.τ).loc Cert.KernelFfnUpIdeal.main_arg2)) →
    ∃ (v0 : (c : Dev Cert.KernelFfnUpIdeal.nD) → Buf (Elt Ideal) ((c.tc : Thread Cert.KernelFfnUpIdeal.nD Cert.KernelFfnUpIdeal.τ).loc Cert.KernelFfnUpIdeal.main_v1)),
      θ_run (Cert.KernelFfnUpIdeal.defs (F := Ideal)) (onTc (τ := Cert.KernelFfnUpIdeal.τ) (Cert.KernelFfnUpIdeal.main (F := Ideal))) ⟨m, fun _ => 0, g⟩ (fun r => ∀ c : Dev Cert.KernelFfnUpIdeal.nD,
          r.2.mem ((c.tc : Thread Cert.KernelFfnUpIdeal.nD Cert.KernelFfnUpIdeal.τ).loc Cert.KernelFfnUpIdeal.main_v1) = v0 c
          ∧ r.2.mem ((c.tc : Thread Cert.KernelFfnUpIdeal.nD Cert.KernelFfnUpIdeal.τ).loc Cert.KernelFfnUpIdeal.main_arg0) = m ((c.tc : Thread Cert.KernelFfnUpIdeal.nD Cert.KernelFfnUpIdeal.τ).loc Cert.KernelFfnUpIdeal.main_arg0)
          ∧ r.2.mem ((c.tc : Thread Cert.KernelFfnUpIdeal.nD Cert.KernelFfnUpIdeal.τ).loc Cert.KernelFfnUpIdeal.main_arg1) = m ((c.tc : Thread Cert.KernelFfnUpIdeal.nD Cert.KernelFfnUpIdeal.τ).loc Cert.KernelFfnUpIdeal.main_arg1)
          ∧ r.2.mem ((c.tc : Thread Cert.KernelFfnUpIdeal.nD Cert.KernelFfnUpIdeal.τ).loc Cert.KernelFfnUpIdeal.main_arg2) = m ((c.tc : Thread Cert.KernelFfnUpIdeal.nD Cert.KernelFfnUpIdeal.τ).loc Cert.KernelFfnUpIdeal.main_arg2))
      ∧ θ_run (Cert.ReferenceFfnUpIdeal.defs (F := Ideal)) (onTc (τ := Cert.ReferenceFfnUpIdeal.τ) (Cert.ReferenceFfnUpIdeal.main (F := Ideal))) ⟨m', fun _ => 0, g'⟩ (fun r => ∀ c : Dev Cert.ReferenceFfnUpIdeal.nD,
          r.2.mem ((c.tc : Thread Cert.ReferenceFfnUpIdeal.nD Cert.ReferenceFfnUpIdeal.τ).loc Cert.ReferenceFfnUpIdeal.main_v21) = v0 c
          ∧ r.2.mem ((c.tc : Thread Cert.ReferenceFfnUpIdeal.nD Cert.ReferenceFfnUpIdeal.τ).loc Cert.ReferenceFfnUpIdeal.main_arg0) = m' ((c.tc : Thread Cert.ReferenceFfnUpIdeal.nD Cert.ReferenceFfnUpIdeal.τ).loc Cert.ReferenceFfnUpIdeal.main_arg0)
          ∧ r.2.mem ((c.tc : Thread Cert.ReferenceFfnUpIdeal.nD Cert.ReferenceFfnUpIdeal.τ).loc Cert.ReferenceFfnUpIdeal.main_arg1) = m' ((c.tc : Thread Cert.ReferenceFfnUpIdeal.nD Cert.ReferenceFfnUpIdeal.τ).loc Cert.ReferenceFfnUpIdeal.main_arg1)
          ∧ r.2.mem ((c.tc : Thread Cert.ReferenceFfnUpIdeal.nD Cert.ReferenceFfnUpIdeal.τ).loc Cert.ReferenceFfnUpIdeal.main_arg2) = m' ((c.tc : Thread Cert.ReferenceFfnUpIdeal.nD Cert.ReferenceFfnUpIdeal.τ).loc Cert.ReferenceFfnUpIdeal.main_arg2))

def preserves_KernelFfnDown_KernelFfnDownIdeal : Prop :=
  True

def algebraic_KernelFfnDownIdeal_ReferenceFfnDownIdeal [hKernelFfnDownIdeal : Cert.KernelFfnDownIdeal.Facts] [hReferenceFfnDownIdeal : Cert.ReferenceFfnDownIdeal.Facts] : Prop :=
  ∀ (m : (ℓ : Loc Cert.KernelFfnDownIdeal.nD Cert.KernelFfnDownIdeal.τ Cert.KernelFfnDownIdeal.sig) → Buf (Elt Ideal) ℓ) (g : Dev Cert.KernelFfnDownIdeal.nD → PrngReg)
    (m' : (ℓ : Loc Cert.ReferenceFfnDownIdeal.nD Cert.ReferenceFfnDownIdeal.τ Cert.ReferenceFfnDownIdeal.sig) → Buf (Elt Ideal) ℓ) (g' : Dev Cert.ReferenceFfnDownIdeal.nD → PrngReg), Pre_KernelFfnDownIdeal m →
    (∀ c : Dev Cert.KernelFfnDownIdeal.nD,
      m' ((c.tc : Thread Cert.ReferenceFfnDownIdeal.nD Cert.ReferenceFfnDownIdeal.τ).loc Cert.ReferenceFfnDownIdeal.main_arg0) = m ((c.tc : Thread Cert.KernelFfnDownIdeal.nD Cert.KernelFfnDownIdeal.τ).loc Cert.KernelFfnDownIdeal.main_arg0)
      ∧ m' ((c.tc : Thread Cert.ReferenceFfnDownIdeal.nD Cert.ReferenceFfnDownIdeal.τ).loc Cert.ReferenceFfnDownIdeal.main_arg1) = m ((c.tc : Thread Cert.KernelFfnDownIdeal.nD Cert.KernelFfnDownIdeal.τ).loc Cert.KernelFfnDownIdeal.main_arg1)
      ∧ m' ((c.tc : Thread Cert.ReferenceFfnDownIdeal.nD Cert.ReferenceFfnDownIdeal.τ).loc Cert.ReferenceFfnDownIdeal.main_arg2) = m ((c.tc : Thread Cert.KernelFfnDownIdeal.nD Cert.KernelFfnDownIdeal.τ).loc Cert.KernelFfnDownIdeal.main_arg2)) →
    ∃ (v0 : (c : Dev Cert.KernelFfnDownIdeal.nD) → Buf (Elt Ideal) ((c.tc : Thread Cert.KernelFfnDownIdeal.nD Cert.KernelFfnDownIdeal.τ).loc Cert.KernelFfnDownIdeal.main_v0)),
      θ_run (Cert.KernelFfnDownIdeal.defs (F := Ideal)) (onTc (τ := Cert.KernelFfnDownIdeal.τ) (Cert.KernelFfnDownIdeal.main (F := Ideal))) ⟨m, fun _ => 0, g⟩ (fun r => ∀ c : Dev Cert.KernelFfnDownIdeal.nD,
          r.2.mem ((c.tc : Thread Cert.KernelFfnDownIdeal.nD Cert.KernelFfnDownIdeal.τ).loc Cert.KernelFfnDownIdeal.main_v0) = v0 c
          ∧ r.2.mem ((c.tc : Thread Cert.KernelFfnDownIdeal.nD Cert.KernelFfnDownIdeal.τ).loc Cert.KernelFfnDownIdeal.main_arg0) = m ((c.tc : Thread Cert.KernelFfnDownIdeal.nD Cert.KernelFfnDownIdeal.τ).loc Cert.KernelFfnDownIdeal.main_arg0)
          ∧ r.2.mem ((c.tc : Thread Cert.KernelFfnDownIdeal.nD Cert.KernelFfnDownIdeal.τ).loc Cert.KernelFfnDownIdeal.main_arg1) = m ((c.tc : Thread Cert.KernelFfnDownIdeal.nD Cert.KernelFfnDownIdeal.τ).loc Cert.KernelFfnDownIdeal.main_arg1)
          ∧ r.2.mem ((c.tc : Thread Cert.KernelFfnDownIdeal.nD Cert.KernelFfnDownIdeal.τ).loc Cert.KernelFfnDownIdeal.main_arg2) = m ((c.tc : Thread Cert.KernelFfnDownIdeal.nD Cert.KernelFfnDownIdeal.τ).loc Cert.KernelFfnDownIdeal.main_arg2))
      ∧ θ_run (Cert.ReferenceFfnDownIdeal.defs (F := Ideal)) (onTc (τ := Cert.ReferenceFfnDownIdeal.τ) (Cert.ReferenceFfnDownIdeal.main (F := Ideal))) ⟨m', fun _ => 0, g'⟩ (fun r => ∀ c : Dev Cert.ReferenceFfnDownIdeal.nD,
          r.2.mem ((c.tc : Thread Cert.ReferenceFfnDownIdeal.nD Cert.ReferenceFfnDownIdeal.τ).loc Cert.ReferenceFfnDownIdeal.main_v3) = v0 c
          ∧ r.2.mem ((c.tc : Thread Cert.ReferenceFfnDownIdeal.nD Cert.ReferenceFfnDownIdeal.τ).loc Cert.ReferenceFfnDownIdeal.main_arg0) = m' ((c.tc : Thread Cert.ReferenceFfnDownIdeal.nD Cert.ReferenceFfnDownIdeal.τ).loc Cert.ReferenceFfnDownIdeal.main_arg0)
          ∧ r.2.mem ((c.tc : Thread Cert.ReferenceFfnDownIdeal.nD Cert.ReferenceFfnDownIdeal.τ).loc Cert.ReferenceFfnDownIdeal.main_arg1) = m' ((c.tc : Thread Cert.ReferenceFfnDownIdeal.nD Cert.ReferenceFfnDownIdeal.τ).loc Cert.ReferenceFfnDownIdeal.main_arg1)
          ∧ r.2.mem ((c.tc : Thread Cert.ReferenceFfnDownIdeal.nD Cert.ReferenceFfnDownIdeal.τ).loc Cert.ReferenceFfnDownIdeal.main_arg2) = m' ((c.tc : Thread Cert.ReferenceFfnDownIdeal.nD Cert.ReferenceFfnDownIdeal.τ).loc Cert.ReferenceFfnDownIdeal.main_arg2))

def preserves_KernelAttnQ_KernelAttnQIdeal : Prop :=
  True

def algebraic_KernelAttnQIdeal_ReferenceAttnQIdeal [hKernelAttnQIdeal : Cert.KernelAttnQIdeal.Facts] [hReferenceAttnQIdeal : Cert.ReferenceAttnQIdeal.Facts] : Prop :=
  ∀ (m : (ℓ : Loc Cert.KernelAttnQIdeal.nD Cert.KernelAttnQIdeal.τ Cert.KernelAttnQIdeal.sig) → Buf (Elt Ideal) ℓ) (g : Dev Cert.KernelAttnQIdeal.nD → PrngReg)
    (m' : (ℓ : Loc Cert.ReferenceAttnQIdeal.nD Cert.ReferenceAttnQIdeal.τ Cert.ReferenceAttnQIdeal.sig) → Buf (Elt Ideal) ℓ) (g' : Dev Cert.ReferenceAttnQIdeal.nD → PrngReg), Pre_KernelAttnQIdeal m →
    (∀ c : Dev Cert.KernelAttnQIdeal.nD,
      m' ((c.tc : Thread Cert.ReferenceAttnQIdeal.nD Cert.ReferenceAttnQIdeal.τ).loc Cert.ReferenceAttnQIdeal.main_arg0) = m ((c.tc : Thread Cert.KernelAttnQIdeal.nD Cert.KernelAttnQIdeal.τ).loc Cert.KernelAttnQIdeal.main_arg0)
      ∧ m' ((c.tc : Thread Cert.ReferenceAttnQIdeal.nD Cert.ReferenceAttnQIdeal.τ).loc Cert.ReferenceAttnQIdeal.main_arg1) = m ((c.tc : Thread Cert.KernelAttnQIdeal.nD Cert.KernelAttnQIdeal.τ).loc Cert.KernelAttnQIdeal.main_arg1)
      ∧ m' ((c.tc : Thread Cert.ReferenceAttnQIdeal.nD Cert.ReferenceAttnQIdeal.τ).loc Cert.ReferenceAttnQIdeal.main_arg2) = m ((c.tc : Thread Cert.KernelAttnQIdeal.nD Cert.KernelAttnQIdeal.τ).loc Cert.KernelAttnQIdeal.main_arg2)) →
    ∃ (v0 : (c : Dev Cert.KernelAttnQIdeal.nD) → Buf (Elt Ideal) ((c.tc : Thread Cert.KernelAttnQIdeal.nD Cert.KernelAttnQIdeal.τ).loc Cert.KernelAttnQIdeal.main_v1)),
      θ_run (Cert.KernelAttnQIdeal.defs (F := Ideal)) (onTc (τ := Cert.KernelAttnQIdeal.τ) (Cert.KernelAttnQIdeal.main (F := Ideal))) ⟨m, fun _ => 0, g⟩ (fun r => ∀ c : Dev Cert.KernelAttnQIdeal.nD,
          r.2.mem ((c.tc : Thread Cert.KernelAttnQIdeal.nD Cert.KernelAttnQIdeal.τ).loc Cert.KernelAttnQIdeal.main_v1) = v0 c
          ∧ r.2.mem ((c.tc : Thread Cert.KernelAttnQIdeal.nD Cert.KernelAttnQIdeal.τ).loc Cert.KernelAttnQIdeal.main_arg0) = m ((c.tc : Thread Cert.KernelAttnQIdeal.nD Cert.KernelAttnQIdeal.τ).loc Cert.KernelAttnQIdeal.main_arg0)
          ∧ r.2.mem ((c.tc : Thread Cert.KernelAttnQIdeal.nD Cert.KernelAttnQIdeal.τ).loc Cert.KernelAttnQIdeal.main_arg1) = m ((c.tc : Thread Cert.KernelAttnQIdeal.nD Cert.KernelAttnQIdeal.τ).loc Cert.KernelAttnQIdeal.main_arg1)
          ∧ r.2.mem ((c.tc : Thread Cert.KernelAttnQIdeal.nD Cert.KernelAttnQIdeal.τ).loc Cert.KernelAttnQIdeal.main_arg2) = m ((c.tc : Thread Cert.KernelAttnQIdeal.nD Cert.KernelAttnQIdeal.τ).loc Cert.KernelAttnQIdeal.main_arg2))
      ∧ θ_run (Cert.ReferenceAttnQIdeal.defs (F := Ideal)) (onTc (τ := Cert.ReferenceAttnQIdeal.τ) (Cert.ReferenceAttnQIdeal.main (F := Ideal))) ⟨m', fun _ => 0, g'⟩ (fun r => ∀ c : Dev Cert.ReferenceAttnQIdeal.nD,
          r.2.mem ((c.tc : Thread Cert.ReferenceAttnQIdeal.nD Cert.ReferenceAttnQIdeal.τ).loc Cert.ReferenceAttnQIdeal.main_v15) = v0 c
          ∧ r.2.mem ((c.tc : Thread Cert.ReferenceAttnQIdeal.nD Cert.ReferenceAttnQIdeal.τ).loc Cert.ReferenceAttnQIdeal.main_arg0) = m' ((c.tc : Thread Cert.ReferenceAttnQIdeal.nD Cert.ReferenceAttnQIdeal.τ).loc Cert.ReferenceAttnQIdeal.main_arg0)
          ∧ r.2.mem ((c.tc : Thread Cert.ReferenceAttnQIdeal.nD Cert.ReferenceAttnQIdeal.τ).loc Cert.ReferenceAttnQIdeal.main_arg1) = m' ((c.tc : Thread Cert.ReferenceAttnQIdeal.nD Cert.ReferenceAttnQIdeal.τ).loc Cert.ReferenceAttnQIdeal.main_arg1)
          ∧ r.2.mem ((c.tc : Thread Cert.ReferenceAttnQIdeal.nD Cert.ReferenceAttnQIdeal.τ).loc Cert.ReferenceAttnQIdeal.main_arg2) = m' ((c.tc : Thread Cert.ReferenceAttnQIdeal.nD Cert.ReferenceAttnQIdeal.τ).loc Cert.ReferenceAttnQIdeal.main_arg2))

def preserves_KernelAttnKV_KernelAttnKVIdeal : Prop :=
  True

def algebraic_KernelAttnKVIdeal_ReferenceAttnKVIdeal [hKernelAttnKVIdeal : Cert.KernelAttnKVIdeal.Facts] [hReferenceAttnKVIdeal : Cert.ReferenceAttnKVIdeal.Facts] : Prop :=
  ∀ (m : (ℓ : Loc Cert.KernelAttnKVIdeal.nD Cert.KernelAttnKVIdeal.τ Cert.KernelAttnKVIdeal.sig) → Buf (Elt Ideal) ℓ) (g : Dev Cert.KernelAttnKVIdeal.nD → PrngReg)
    (m' : (ℓ : Loc Cert.ReferenceAttnKVIdeal.nD Cert.ReferenceAttnKVIdeal.τ Cert.ReferenceAttnKVIdeal.sig) → Buf (Elt Ideal) ℓ) (g' : Dev Cert.ReferenceAttnKVIdeal.nD → PrngReg), Pre_KernelAttnKVIdeal m →
    (∀ c : Dev Cert.KernelAttnKVIdeal.nD,
      m' ((c.tc : Thread Cert.ReferenceAttnKVIdeal.nD Cert.ReferenceAttnKVIdeal.τ).loc Cert.ReferenceAttnKVIdeal.main_arg0) = m ((c.tc : Thread Cert.KernelAttnKVIdeal.nD Cert.KernelAttnKVIdeal.τ).loc Cert.KernelAttnKVIdeal.main_arg0)
      ∧ m' ((c.tc : Thread Cert.ReferenceAttnKVIdeal.nD Cert.ReferenceAttnKVIdeal.τ).loc Cert.ReferenceAttnKVIdeal.main_arg1) = m ((c.tc : Thread Cert.KernelAttnKVIdeal.nD Cert.KernelAttnKVIdeal.τ).loc Cert.KernelAttnKVIdeal.main_arg1)
      ∧ m' ((c.tc : Thread Cert.ReferenceAttnKVIdeal.nD Cert.ReferenceAttnKVIdeal.τ).loc Cert.ReferenceAttnKVIdeal.main_arg2) = m ((c.tc : Thread Cert.KernelAttnKVIdeal.nD Cert.KernelAttnKVIdeal.τ).loc Cert.KernelAttnKVIdeal.main_arg2)) →
    ∃ (v0 : (c : Dev Cert.KernelAttnKVIdeal.nD) → Buf (Elt Ideal) ((c.tc : Thread Cert.KernelAttnKVIdeal.nD Cert.KernelAttnKVIdeal.τ).loc Cert.KernelAttnKVIdeal.main_v1)),
      θ_run (Cert.KernelAttnKVIdeal.defs (F := Ideal)) (onTc (τ := Cert.KernelAttnKVIdeal.τ) (Cert.KernelAttnKVIdeal.main (F := Ideal))) ⟨m, fun _ => 0, g⟩ (fun r => ∀ c : Dev Cert.KernelAttnKVIdeal.nD,
          r.2.mem ((c.tc : Thread Cert.KernelAttnKVIdeal.nD Cert.KernelAttnKVIdeal.τ).loc Cert.KernelAttnKVIdeal.main_v1) = v0 c
          ∧ r.2.mem ((c.tc : Thread Cert.KernelAttnKVIdeal.nD Cert.KernelAttnKVIdeal.τ).loc Cert.KernelAttnKVIdeal.main_arg0) = m ((c.tc : Thread Cert.KernelAttnKVIdeal.nD Cert.KernelAttnKVIdeal.τ).loc Cert.KernelAttnKVIdeal.main_arg0)
          ∧ r.2.mem ((c.tc : Thread Cert.KernelAttnKVIdeal.nD Cert.KernelAttnKVIdeal.τ).loc Cert.KernelAttnKVIdeal.main_arg1) = m ((c.tc : Thread Cert.KernelAttnKVIdeal.nD Cert.KernelAttnKVIdeal.τ).loc Cert.KernelAttnKVIdeal.main_arg1)
          ∧ r.2.mem ((c.tc : Thread Cert.KernelAttnKVIdeal.nD Cert.KernelAttnKVIdeal.τ).loc Cert.KernelAttnKVIdeal.main_arg2) = m ((c.tc : Thread Cert.KernelAttnKVIdeal.nD Cert.KernelAttnKVIdeal.τ).loc Cert.KernelAttnKVIdeal.main_arg2))
      ∧ θ_run (Cert.ReferenceAttnKVIdeal.defs (F := Ideal)) (onTc (τ := Cert.ReferenceAttnKVIdeal.τ) (Cert.ReferenceAttnKVIdeal.main (F := Ideal))) ⟨m', fun _ => 0, g'⟩ (fun r => ∀ c : Dev Cert.ReferenceAttnKVIdeal.nD,
          r.2.mem ((c.tc : Thread Cert.ReferenceAttnKVIdeal.nD Cert.ReferenceAttnKVIdeal.τ).loc Cert.ReferenceAttnKVIdeal.main_v15) = v0 c
          ∧ r.2.mem ((c.tc : Thread Cert.ReferenceAttnKVIdeal.nD Cert.ReferenceAttnKVIdeal.τ).loc Cert.ReferenceAttnKVIdeal.main_arg0) = m' ((c.tc : Thread Cert.ReferenceAttnKVIdeal.nD Cert.ReferenceAttnKVIdeal.τ).loc Cert.ReferenceAttnKVIdeal.main_arg0)
          ∧ r.2.mem ((c.tc : Thread Cert.ReferenceAttnKVIdeal.nD Cert.ReferenceAttnKVIdeal.τ).loc Cert.ReferenceAttnKVIdeal.main_arg1) = m' ((c.tc : Thread Cert.ReferenceAttnKVIdeal.nD Cert.ReferenceAttnKVIdeal.τ).loc Cert.ReferenceAttnKVIdeal.main_arg1)
          ∧ r.2.mem ((c.tc : Thread Cert.ReferenceAttnKVIdeal.nD Cert.ReferenceAttnKVIdeal.τ).loc Cert.ReferenceAttnKVIdeal.main_arg2) = m' ((c.tc : Thread Cert.ReferenceAttnKVIdeal.nD Cert.ReferenceAttnKVIdeal.τ).loc Cert.ReferenceAttnKVIdeal.main_arg2))

def preserves_KernelAttnO_KernelAttnOIdeal : Prop :=
  True

def algebraic_KernelAttnOIdeal_ReferenceAttnOIdeal [hKernelAttnOIdeal : Cert.KernelAttnOIdeal.Facts] [hReferenceAttnOIdeal : Cert.ReferenceAttnOIdeal.Facts] : Prop :=
  ∀ (m : (ℓ : Loc Cert.KernelAttnOIdeal.nD Cert.KernelAttnOIdeal.τ Cert.KernelAttnOIdeal.sig) → Buf (Elt Ideal) ℓ) (g : Dev Cert.KernelAttnOIdeal.nD → PrngReg)
    (m' : (ℓ : Loc Cert.ReferenceAttnOIdeal.nD Cert.ReferenceAttnOIdeal.τ Cert.ReferenceAttnOIdeal.sig) → Buf (Elt Ideal) ℓ) (g' : Dev Cert.ReferenceAttnOIdeal.nD → PrngReg), Pre_KernelAttnOIdeal m →
    (∀ c : Dev Cert.KernelAttnOIdeal.nD,
      m' ((c.tc : Thread Cert.ReferenceAttnOIdeal.nD Cert.ReferenceAttnOIdeal.τ).loc Cert.ReferenceAttnOIdeal.main_arg0) = m ((c.tc : Thread Cert.KernelAttnOIdeal.nD Cert.KernelAttnOIdeal.τ).loc Cert.KernelAttnOIdeal.main_arg0)
      ∧ m' ((c.tc : Thread Cert.ReferenceAttnOIdeal.nD Cert.ReferenceAttnOIdeal.τ).loc Cert.ReferenceAttnOIdeal.main_arg1) = m ((c.tc : Thread Cert.KernelAttnOIdeal.nD Cert.KernelAttnOIdeal.τ).loc Cert.KernelAttnOIdeal.main_arg1)
      ∧ m' ((c.tc : Thread Cert.ReferenceAttnOIdeal.nD Cert.ReferenceAttnOIdeal.τ).loc Cert.ReferenceAttnOIdeal.main_arg2) = m ((c.tc : Thread Cert.KernelAttnOIdeal.nD Cert.KernelAttnOIdeal.τ).loc Cert.KernelAttnOIdeal.main_arg2)) →
    ∃ (v0 : (c : Dev Cert.KernelAttnOIdeal.nD) → Buf (Elt Ideal) ((c.tc : Thread Cert.KernelAttnOIdeal.nD Cert.KernelAttnOIdeal.τ).loc Cert.KernelAttnOIdeal.main_v0)),
      θ_run (Cert.KernelAttnOIdeal.defs (F := Ideal)) (onTc (τ := Cert.KernelAttnOIdeal.τ) (Cert.KernelAttnOIdeal.main (F := Ideal))) ⟨m, fun _ => 0, g⟩ (fun r => ∀ c : Dev Cert.KernelAttnOIdeal.nD,
          r.2.mem ((c.tc : Thread Cert.KernelAttnOIdeal.nD Cert.KernelAttnOIdeal.τ).loc Cert.KernelAttnOIdeal.main_v0) = v0 c
          ∧ r.2.mem ((c.tc : Thread Cert.KernelAttnOIdeal.nD Cert.KernelAttnOIdeal.τ).loc Cert.KernelAttnOIdeal.main_arg0) = m ((c.tc : Thread Cert.KernelAttnOIdeal.nD Cert.KernelAttnOIdeal.τ).loc Cert.KernelAttnOIdeal.main_arg0)
          ∧ r.2.mem ((c.tc : Thread Cert.KernelAttnOIdeal.nD Cert.KernelAttnOIdeal.τ).loc Cert.KernelAttnOIdeal.main_arg1) = m ((c.tc : Thread Cert.KernelAttnOIdeal.nD Cert.KernelAttnOIdeal.τ).loc Cert.KernelAttnOIdeal.main_arg1)
          ∧ r.2.mem ((c.tc : Thread Cert.KernelAttnOIdeal.nD Cert.KernelAttnOIdeal.τ).loc Cert.KernelAttnOIdeal.main_arg2) = m ((c.tc : Thread Cert.KernelAttnOIdeal.nD Cert.KernelAttnOIdeal.τ).loc Cert.KernelAttnOIdeal.main_arg2))
      ∧ θ_run (Cert.ReferenceAttnOIdeal.defs (F := Ideal)) (onTc (τ := Cert.ReferenceAttnOIdeal.τ) (Cert.ReferenceAttnOIdeal.main (F := Ideal))) ⟨m', fun _ => 0, g'⟩ (fun r => ∀ c : Dev Cert.ReferenceAttnOIdeal.nD,
          r.2.mem ((c.tc : Thread Cert.ReferenceAttnOIdeal.nD Cert.ReferenceAttnOIdeal.τ).loc Cert.ReferenceAttnOIdeal.main_v3) = v0 c
          ∧ r.2.mem ((c.tc : Thread Cert.ReferenceAttnOIdeal.nD Cert.ReferenceAttnOIdeal.τ).loc Cert.ReferenceAttnOIdeal.main_arg0) = m' ((c.tc : Thread Cert.ReferenceAttnOIdeal.nD Cert.ReferenceAttnOIdeal.τ).loc Cert.ReferenceAttnOIdeal.main_arg0)
          ∧ r.2.mem ((c.tc : Thread Cert.ReferenceAttnOIdeal.nD Cert.ReferenceAttnOIdeal.τ).loc Cert.ReferenceAttnOIdeal.main_arg1) = m' ((c.tc : Thread Cert.ReferenceAttnOIdeal.nD Cert.ReferenceAttnOIdeal.τ).loc Cert.ReferenceAttnOIdeal.main_arg1)
          ∧ r.2.mem ((c.tc : Thread Cert.ReferenceAttnOIdeal.nD Cert.ReferenceAttnOIdeal.τ).loc Cert.ReferenceAttnOIdeal.main_arg2) = m' ((c.tc : Thread Cert.ReferenceAttnOIdeal.nD Cert.ReferenceAttnOIdeal.τ).loc Cert.ReferenceAttnOIdeal.main_arg2))

def preserves_KernelSsmIn_KernelSsmInIdeal : Prop :=
  True

def algebraic_KernelSsmInIdeal_ReferenceSsmInIdeal [hKernelSsmInIdeal : Cert.KernelSsmInIdeal.Facts] [hReferenceSsmInIdeal : Cert.ReferenceSsmInIdeal.Facts] : Prop :=
  ∀ (m : (ℓ : Loc Cert.KernelSsmInIdeal.nD Cert.KernelSsmInIdeal.τ Cert.KernelSsmInIdeal.sig) → Buf (Elt Ideal) ℓ) (g : Dev Cert.KernelSsmInIdeal.nD → PrngReg)
    (m' : (ℓ : Loc Cert.ReferenceSsmInIdeal.nD Cert.ReferenceSsmInIdeal.τ Cert.ReferenceSsmInIdeal.sig) → Buf (Elt Ideal) ℓ) (g' : Dev Cert.ReferenceSsmInIdeal.nD → PrngReg), Pre_KernelSsmInIdeal m →
    (∀ c : Dev Cert.KernelSsmInIdeal.nD,
      m' ((c.tc : Thread Cert.ReferenceSsmInIdeal.nD Cert.ReferenceSsmInIdeal.τ).loc Cert.ReferenceSsmInIdeal.main_arg0) = m ((c.tc : Thread Cert.KernelSsmInIdeal.nD Cert.KernelSsmInIdeal.τ).loc Cert.KernelSsmInIdeal.main_arg0)
      ∧ m' ((c.tc : Thread Cert.ReferenceSsmInIdeal.nD Cert.ReferenceSsmInIdeal.τ).loc Cert.ReferenceSsmInIdeal.main_arg1) = m ((c.tc : Thread Cert.KernelSsmInIdeal.nD Cert.KernelSsmInIdeal.τ).loc Cert.KernelSsmInIdeal.main_arg1)
      ∧ m' ((c.tc : Thread Cert.ReferenceSsmInIdeal.nD Cert.ReferenceSsmInIdeal.τ).loc Cert.ReferenceSsmInIdeal.main_arg2) = m ((c.tc : Thread Cert.KernelSsmInIdeal.nD Cert.KernelSsmInIdeal.τ).loc Cert.KernelSsmInIdeal.main_arg2)) →
    ∃ (v0 : (c : Dev Cert.KernelSsmInIdeal.nD) → Buf (Elt Ideal) ((c.tc : Thread Cert.KernelSsmInIdeal.nD Cert.KernelSsmInIdeal.τ).loc Cert.KernelSsmInIdeal.main_v1)),
      θ_run (Cert.KernelSsmInIdeal.defs (F := Ideal)) (onTc (τ := Cert.KernelSsmInIdeal.τ) (Cert.KernelSsmInIdeal.main (F := Ideal))) ⟨m, fun _ => 0, g⟩ (fun r => ∀ c : Dev Cert.KernelSsmInIdeal.nD,
          r.2.mem ((c.tc : Thread Cert.KernelSsmInIdeal.nD Cert.KernelSsmInIdeal.τ).loc Cert.KernelSsmInIdeal.main_v1) = v0 c
          ∧ r.2.mem ((c.tc : Thread Cert.KernelSsmInIdeal.nD Cert.KernelSsmInIdeal.τ).loc Cert.KernelSsmInIdeal.main_arg0) = m ((c.tc : Thread Cert.KernelSsmInIdeal.nD Cert.KernelSsmInIdeal.τ).loc Cert.KernelSsmInIdeal.main_arg0)
          ∧ r.2.mem ((c.tc : Thread Cert.KernelSsmInIdeal.nD Cert.KernelSsmInIdeal.τ).loc Cert.KernelSsmInIdeal.main_arg1) = m ((c.tc : Thread Cert.KernelSsmInIdeal.nD Cert.KernelSsmInIdeal.τ).loc Cert.KernelSsmInIdeal.main_arg1)
          ∧ r.2.mem ((c.tc : Thread Cert.KernelSsmInIdeal.nD Cert.KernelSsmInIdeal.τ).loc Cert.KernelSsmInIdeal.main_arg2) = m ((c.tc : Thread Cert.KernelSsmInIdeal.nD Cert.KernelSsmInIdeal.τ).loc Cert.KernelSsmInIdeal.main_arg2))
      ∧ θ_run (Cert.ReferenceSsmInIdeal.defs (F := Ideal)) (onTc (τ := Cert.ReferenceSsmInIdeal.τ) (Cert.ReferenceSsmInIdeal.main (F := Ideal))) ⟨m', fun _ => 0, g'⟩ (fun r => ∀ c : Dev Cert.ReferenceSsmInIdeal.nD,
          r.2.mem ((c.tc : Thread Cert.ReferenceSsmInIdeal.nD Cert.ReferenceSsmInIdeal.τ).loc Cert.ReferenceSsmInIdeal.main_v15) = v0 c
          ∧ r.2.mem ((c.tc : Thread Cert.ReferenceSsmInIdeal.nD Cert.ReferenceSsmInIdeal.τ).loc Cert.ReferenceSsmInIdeal.main_arg0) = m' ((c.tc : Thread Cert.ReferenceSsmInIdeal.nD Cert.ReferenceSsmInIdeal.τ).loc Cert.ReferenceSsmInIdeal.main_arg0)
          ∧ r.2.mem ((c.tc : Thread Cert.ReferenceSsmInIdeal.nD Cert.ReferenceSsmInIdeal.τ).loc Cert.ReferenceSsmInIdeal.main_arg1) = m' ((c.tc : Thread Cert.ReferenceSsmInIdeal.nD Cert.ReferenceSsmInIdeal.τ).loc Cert.ReferenceSsmInIdeal.main_arg1)
          ∧ r.2.mem ((c.tc : Thread Cert.ReferenceSsmInIdeal.nD Cert.ReferenceSsmInIdeal.τ).loc Cert.ReferenceSsmInIdeal.main_arg2) = m' ((c.tc : Thread Cert.ReferenceSsmInIdeal.nD Cert.ReferenceSsmInIdeal.τ).loc Cert.ReferenceSsmInIdeal.main_arg2))

def preserves_KernelSsmOut_KernelSsmOutIdeal : Prop :=
  True

def algebraic_KernelSsmOutIdeal_ReferenceSsmOutIdeal [hKernelSsmOutIdeal : Cert.KernelSsmOutIdeal.Facts] [hReferenceSsmOutIdeal : Cert.ReferenceSsmOutIdeal.Facts] : Prop :=
  ∀ (m : (ℓ : Loc Cert.KernelSsmOutIdeal.nD Cert.KernelSsmOutIdeal.τ Cert.KernelSsmOutIdeal.sig) → Buf (Elt Ideal) ℓ) (g : Dev Cert.KernelSsmOutIdeal.nD → PrngReg)
    (m' : (ℓ : Loc Cert.ReferenceSsmOutIdeal.nD Cert.ReferenceSsmOutIdeal.τ Cert.ReferenceSsmOutIdeal.sig) → Buf (Elt Ideal) ℓ) (g' : Dev Cert.ReferenceSsmOutIdeal.nD → PrngReg), Pre_KernelSsmOutIdeal m →
    (∀ c : Dev Cert.KernelSsmOutIdeal.nD,
      m' ((c.tc : Thread Cert.ReferenceSsmOutIdeal.nD Cert.ReferenceSsmOutIdeal.τ).loc Cert.ReferenceSsmOutIdeal.main_arg0) = m ((c.tc : Thread Cert.KernelSsmOutIdeal.nD Cert.KernelSsmOutIdeal.τ).loc Cert.KernelSsmOutIdeal.main_arg0)
      ∧ m' ((c.tc : Thread Cert.ReferenceSsmOutIdeal.nD Cert.ReferenceSsmOutIdeal.τ).loc Cert.ReferenceSsmOutIdeal.main_arg1) = m ((c.tc : Thread Cert.KernelSsmOutIdeal.nD Cert.KernelSsmOutIdeal.τ).loc Cert.KernelSsmOutIdeal.main_arg1)
      ∧ m' ((c.tc : Thread Cert.ReferenceSsmOutIdeal.nD Cert.ReferenceSsmOutIdeal.τ).loc Cert.ReferenceSsmOutIdeal.main_arg2) = m ((c.tc : Thread Cert.KernelSsmOutIdeal.nD Cert.KernelSsmOutIdeal.τ).loc Cert.KernelSsmOutIdeal.main_arg2)) →
    ∃ (v0 : (c : Dev Cert.KernelSsmOutIdeal.nD) → Buf (Elt Ideal) ((c.tc : Thread Cert.KernelSsmOutIdeal.nD Cert.KernelSsmOutIdeal.τ).loc Cert.KernelSsmOutIdeal.main_v0)),
      θ_run (Cert.KernelSsmOutIdeal.defs (F := Ideal)) (onTc (τ := Cert.KernelSsmOutIdeal.τ) (Cert.KernelSsmOutIdeal.main (F := Ideal))) ⟨m, fun _ => 0, g⟩ (fun r => ∀ c : Dev Cert.KernelSsmOutIdeal.nD,
          r.2.mem ((c.tc : Thread Cert.KernelSsmOutIdeal.nD Cert.KernelSsmOutIdeal.τ).loc Cert.KernelSsmOutIdeal.main_v0) = v0 c
          ∧ r.2.mem ((c.tc : Thread Cert.KernelSsmOutIdeal.nD Cert.KernelSsmOutIdeal.τ).loc Cert.KernelSsmOutIdeal.main_arg0) = m ((c.tc : Thread Cert.KernelSsmOutIdeal.nD Cert.KernelSsmOutIdeal.τ).loc Cert.KernelSsmOutIdeal.main_arg0)
          ∧ r.2.mem ((c.tc : Thread Cert.KernelSsmOutIdeal.nD Cert.KernelSsmOutIdeal.τ).loc Cert.KernelSsmOutIdeal.main_arg1) = m ((c.tc : Thread Cert.KernelSsmOutIdeal.nD Cert.KernelSsmOutIdeal.τ).loc Cert.KernelSsmOutIdeal.main_arg1)
          ∧ r.2.mem ((c.tc : Thread Cert.KernelSsmOutIdeal.nD Cert.KernelSsmOutIdeal.τ).loc Cert.KernelSsmOutIdeal.main_arg2) = m ((c.tc : Thread Cert.KernelSsmOutIdeal.nD Cert.KernelSsmOutIdeal.τ).loc Cert.KernelSsmOutIdeal.main_arg2))
      ∧ θ_run (Cert.ReferenceSsmOutIdeal.defs (F := Ideal)) (onTc (τ := Cert.ReferenceSsmOutIdeal.τ) (Cert.ReferenceSsmOutIdeal.main (F := Ideal))) ⟨m', fun _ => 0, g'⟩ (fun r => ∀ c : Dev Cert.ReferenceSsmOutIdeal.nD,
          r.2.mem ((c.tc : Thread Cert.ReferenceSsmOutIdeal.nD Cert.ReferenceSsmOutIdeal.τ).loc Cert.ReferenceSsmOutIdeal.main_v3) = v0 c
          ∧ r.2.mem ((c.tc : Thread Cert.ReferenceSsmOutIdeal.nD Cert.ReferenceSsmOutIdeal.τ).loc Cert.ReferenceSsmOutIdeal.main_arg0) = m' ((c.tc : Thread Cert.ReferenceSsmOutIdeal.nD Cert.ReferenceSsmOutIdeal.τ).loc Cert.ReferenceSsmOutIdeal.main_arg0)
          ∧ r.2.mem ((c.tc : Thread Cert.ReferenceSsmOutIdeal.nD Cert.ReferenceSsmOutIdeal.τ).loc Cert.ReferenceSsmOutIdeal.main_arg1) = m' ((c.tc : Thread Cert.ReferenceSsmOutIdeal.nD Cert.ReferenceSsmOutIdeal.τ).loc Cert.ReferenceSsmOutIdeal.main_arg1)
          ∧ r.2.mem ((c.tc : Thread Cert.ReferenceSsmOutIdeal.nD Cert.ReferenceSsmOutIdeal.τ).loc Cert.ReferenceSsmOutIdeal.main_arg2) = m' ((c.tc : Thread Cert.ReferenceSsmOutIdeal.nD Cert.ReferenceSsmOutIdeal.τ).loc Cert.ReferenceSsmOutIdeal.main_arg2))

def preserves_KernelAdamSq_KernelAdamSqIdeal : Prop :=
  True

def algebraic_KernelAdamSqIdeal_ReferenceAdamSqIdeal [hKernelAdamSqIdeal : Cert.KernelAdamSqIdeal.Facts] [hReferenceAdamSqIdeal : Cert.ReferenceAdamSqIdeal.Facts] : Prop :=
  ∀ (m : (ℓ : Loc Cert.KernelAdamSqIdeal.nD Cert.KernelAdamSqIdeal.τ Cert.KernelAdamSqIdeal.sig) → Buf (Elt Ideal) ℓ) (g : Dev Cert.KernelAdamSqIdeal.nD → PrngReg)
    (m' : (ℓ : Loc Cert.ReferenceAdamSqIdeal.nD Cert.ReferenceAdamSqIdeal.τ Cert.ReferenceAdamSqIdeal.sig) → Buf (Elt Ideal) ℓ) (g' : Dev Cert.ReferenceAdamSqIdeal.nD → PrngReg), Pre_KernelAdamSqIdeal m →
    (∀ c : Dev Cert.KernelAdamSqIdeal.nD,
      m' ((c.tc : Thread Cert.ReferenceAdamSqIdeal.nD Cert.ReferenceAdamSqIdeal.τ).loc Cert.ReferenceAdamSqIdeal.main_arg0) = m ((c.tc : Thread Cert.KernelAdamSqIdeal.nD Cert.KernelAdamSqIdeal.τ).loc Cert.KernelAdamSqIdeal.main_arg0)
      ∧ m' ((c.tc : Thread Cert.ReferenceAdamSqIdeal.nD Cert.ReferenceAdamSqIdeal.τ).loc Cert.ReferenceAdamSqIdeal.main_arg1) = m ((c.tc : Thread Cert.KernelAdamSqIdeal.nD Cert.KernelAdamSqIdeal.τ).loc Cert.KernelAdamSqIdeal.main_arg1)
      ∧ m' ((c.tc : Thread Cert.ReferenceAdamSqIdeal.nD Cert.ReferenceAdamSqIdeal.τ).loc Cert.ReferenceAdamSqIdeal.main_arg2) = m ((c.tc : Thread Cert.KernelAdamSqIdeal.nD Cert.KernelAdamSqIdeal.τ).loc Cert.KernelAdamSqIdeal.main_arg2)
      ∧ m' ((c.tc : Thread Cert.ReferenceAdamSqIdeal.nD Cert.ReferenceAdamSqIdeal.τ).loc Cert.ReferenceAdamSqIdeal.main_arg3) = m ((c.tc : Thread Cert.KernelAdamSqIdeal.nD Cert.KernelAdamSqIdeal.τ).loc Cert.KernelAdamSqIdeal.main_arg3)) →
    ∃ (v0 : (c : Dev Cert.KernelAdamSqIdeal.nD) → Buf (Elt Ideal) ((c.tc : Thread Cert.KernelAdamSqIdeal.nD Cert.KernelAdamSqIdeal.τ).loc Cert.KernelAdamSqIdeal.main_v0_0)) (v1 : (c : Dev Cert.KernelAdamSqIdeal.nD) → Buf (Elt Ideal) ((c.tc : Thread Cert.KernelAdamSqIdeal.nD Cert.KernelAdamSqIdeal.τ).loc Cert.KernelAdamSqIdeal.main_v0_1)) (v2 : (c : Dev Cert.KernelAdamSqIdeal.nD) → Buf (Elt Ideal) ((c.tc : Thread Cert.KernelAdamSqIdeal.nD Cert.KernelAdamSqIdeal.τ).loc Cert.KernelAdamSqIdeal.main_v0_2)) (v3 : (c : Dev Cert.KernelAdamSqIdeal.nD) → Buf (Elt Ideal) ((c.tc : Thread Cert.KernelAdamSqIdeal.nD Cert.KernelAdamSqIdeal.τ).loc Cert.KernelAdamSqIdeal.main_v0_3)),
      θ_run (Cert.KernelAdamSqIdeal.defs (F := Ideal)) (onTc (τ := Cert.KernelAdamSqIdeal.τ) (Cert.KernelAdamSqIdeal.main (F := Ideal))) ⟨m, fun _ => 0, g⟩ (fun r => ∀ c : Dev Cert.KernelAdamSqIdeal.nD,
          r.2.mem ((c.tc : Thread Cert.KernelAdamSqIdeal.nD Cert.KernelAdamSqIdeal.τ).loc Cert.KernelAdamSqIdeal.main_v0_0) = v0 c
          ∧ r.2.mem ((c.tc : Thread Cert.KernelAdamSqIdeal.nD Cert.KernelAdamSqIdeal.τ).loc Cert.KernelAdamSqIdeal.main_v0_1) = v1 c
          ∧ r.2.mem ((c.tc : Thread Cert.KernelAdamSqIdeal.nD Cert.KernelAdamSqIdeal.τ).loc Cert.KernelAdamSqIdeal.main_v0_2) = v2 c
          ∧ r.2.mem ((c.tc : Thread Cert.KernelAdamSqIdeal.nD Cert.KernelAdamSqIdeal.τ).loc Cert.KernelAdamSqIdeal.main_v0_3) = v3 c
          ∧ r.2.mem ((c.tc : Thread Cert.KernelAdamSqIdeal.nD Cert.KernelAdamSqIdeal.τ).loc Cert.KernelAdamSqIdeal.main_arg0) = m ((c.tc : Thread Cert.KernelAdamSqIdeal.nD Cert.KernelAdamSqIdeal.τ).loc Cert.KernelAdamSqIdeal.main_arg0)
          ∧ r.2.mem ((c.tc : Thread Cert.KernelAdamSqIdeal.nD Cert.KernelAdamSqIdeal.τ).loc Cert.KernelAdamSqIdeal.main_arg1) = m ((c.tc : Thread Cert.KernelAdamSqIdeal.nD Cert.KernelAdamSqIdeal.τ).loc Cert.KernelAdamSqIdeal.main_arg1)
          ∧ r.2.mem ((c.tc : Thread Cert.KernelAdamSqIdeal.nD Cert.KernelAdamSqIdeal.τ).loc Cert.KernelAdamSqIdeal.main_arg2) = m ((c.tc : Thread Cert.KernelAdamSqIdeal.nD Cert.KernelAdamSqIdeal.τ).loc Cert.KernelAdamSqIdeal.main_arg2)
          ∧ r.2.mem ((c.tc : Thread Cert.KernelAdamSqIdeal.nD Cert.KernelAdamSqIdeal.τ).loc Cert.KernelAdamSqIdeal.main_arg3) = m ((c.tc : Thread Cert.KernelAdamSqIdeal.nD Cert.KernelAdamSqIdeal.τ).loc Cert.KernelAdamSqIdeal.main_arg3))
      ∧ θ_run (Cert.ReferenceAdamSqIdeal.defs (F := Ideal)) (onTc (τ := Cert.ReferenceAdamSqIdeal.τ) (Cert.ReferenceAdamSqIdeal.main (F := Ideal))) ⟨m', fun _ => 0, g'⟩ (fun r => ∀ c : Dev Cert.ReferenceAdamSqIdeal.nD,
          r.2.mem ((c.tc : Thread Cert.ReferenceAdamSqIdeal.nD Cert.ReferenceAdamSqIdeal.τ).loc Cert.ReferenceAdamSqIdeal.main_v1) = v0 c
          ∧ r.2.mem ((c.tc : Thread Cert.ReferenceAdamSqIdeal.nD Cert.ReferenceAdamSqIdeal.τ).loc Cert.ReferenceAdamSqIdeal.main_v25) = v1 c
          ∧ r.2.mem ((c.tc : Thread Cert.ReferenceAdamSqIdeal.nD Cert.ReferenceAdamSqIdeal.τ).loc Cert.ReferenceAdamSqIdeal.main_v6) = v2 c
          ∧ r.2.mem ((c.tc : Thread Cert.ReferenceAdamSqIdeal.nD Cert.ReferenceAdamSqIdeal.τ).loc Cert.ReferenceAdamSqIdeal.main_v12) = v3 c
          ∧ r.2.mem ((c.tc : Thread Cert.ReferenceAdamSqIdeal.nD Cert.ReferenceAdamSqIdeal.τ).loc Cert.ReferenceAdamSqIdeal.main_arg0) = m' ((c.tc : Thread Cert.ReferenceAdamSqIdeal.nD Cert.ReferenceAdamSqIdeal.τ).loc Cert.ReferenceAdamSqIdeal.main_arg0)
          ∧ r.2.mem ((c.tc : Thread Cert.ReferenceAdamSqIdeal.nD Cert.ReferenceAdamSqIdeal.τ).loc Cert.ReferenceAdamSqIdeal.main_arg1) = m' ((c.tc : Thread Cert.ReferenceAdamSqIdeal.nD Cert.ReferenceAdamSqIdeal.τ).loc Cert.ReferenceAdamSqIdeal.main_arg1)
          ∧ r.2.mem ((c.tc : Thread Cert.ReferenceAdamSqIdeal.nD Cert.ReferenceAdamSqIdeal.τ).loc Cert.ReferenceAdamSqIdeal.main_arg2) = m' ((c.tc : Thread Cert.ReferenceAdamSqIdeal.nD Cert.ReferenceAdamSqIdeal.τ).loc Cert.ReferenceAdamSqIdeal.main_arg2)
          ∧ r.2.mem ((c.tc : Thread Cert.ReferenceAdamSqIdeal.nD Cert.ReferenceAdamSqIdeal.τ).loc Cert.ReferenceAdamSqIdeal.main_arg3) = m' ((c.tc : Thread Cert.ReferenceAdamSqIdeal.nD Cert.ReferenceAdamSqIdeal.τ).loc Cert.ReferenceAdamSqIdeal.main_arg3))

def preserves_KernelAdamSsmOut_KernelAdamSsmOutIdeal : Prop :=
  True

def algebraic_KernelAdamSsmOutIdeal_ReferenceAdamSsmOutIdeal [hKernelAdamSsmOutIdeal : Cert.KernelAdamSsmOutIdeal.Facts] [hReferenceAdamSsmOutIdeal : Cert.ReferenceAdamSsmOutIdeal.Facts] : Prop :=
  ∀ (m : (ℓ : Loc Cert.KernelAdamSsmOutIdeal.nD Cert.KernelAdamSsmOutIdeal.τ Cert.KernelAdamSsmOutIdeal.sig) → Buf (Elt Ideal) ℓ) (g : Dev Cert.KernelAdamSsmOutIdeal.nD → PrngReg)
    (m' : (ℓ : Loc Cert.ReferenceAdamSsmOutIdeal.nD Cert.ReferenceAdamSsmOutIdeal.τ Cert.ReferenceAdamSsmOutIdeal.sig) → Buf (Elt Ideal) ℓ) (g' : Dev Cert.ReferenceAdamSsmOutIdeal.nD → PrngReg), Pre_KernelAdamSsmOutIdeal m →
    (∀ c : Dev Cert.KernelAdamSsmOutIdeal.nD,
      m' ((c.tc : Thread Cert.ReferenceAdamSsmOutIdeal.nD Cert.ReferenceAdamSsmOutIdeal.τ).loc Cert.ReferenceAdamSsmOutIdeal.main_arg0) = m ((c.tc : Thread Cert.KernelAdamSsmOutIdeal.nD Cert.KernelAdamSsmOutIdeal.τ).loc Cert.KernelAdamSsmOutIdeal.main_arg0)
      ∧ m' ((c.tc : Thread Cert.ReferenceAdamSsmOutIdeal.nD Cert.ReferenceAdamSsmOutIdeal.τ).loc Cert.ReferenceAdamSsmOutIdeal.main_arg1) = m ((c.tc : Thread Cert.KernelAdamSsmOutIdeal.nD Cert.KernelAdamSsmOutIdeal.τ).loc Cert.KernelAdamSsmOutIdeal.main_arg1)
      ∧ m' ((c.tc : Thread Cert.ReferenceAdamSsmOutIdeal.nD Cert.ReferenceAdamSsmOutIdeal.τ).loc Cert.ReferenceAdamSsmOutIdeal.main_arg2) = m ((c.tc : Thread Cert.KernelAdamSsmOutIdeal.nD Cert.KernelAdamSsmOutIdeal.τ).loc Cert.KernelAdamSsmOutIdeal.main_arg2)
      ∧ m' ((c.tc : Thread Cert.ReferenceAdamSsmOutIdeal.nD Cert.ReferenceAdamSsmOutIdeal.τ).loc Cert.ReferenceAdamSsmOutIdeal.main_arg3) = m ((c.tc : Thread Cert.KernelAdamSsmOutIdeal.nD Cert.KernelAdamSsmOutIdeal.τ).loc Cert.KernelAdamSsmOutIdeal.main_arg3)) →
    ∃ (v0 : (c : Dev Cert.KernelAdamSsmOutIdeal.nD) → Buf (Elt Ideal) ((c.tc : Thread Cert.KernelAdamSsmOutIdeal.nD Cert.KernelAdamSsmOutIdeal.τ).loc Cert.KernelAdamSsmOutIdeal.main_v0_0)) (v1 : (c : Dev Cert.KernelAdamSsmOutIdeal.nD) → Buf (Elt Ideal) ((c.tc : Thread Cert.KernelAdamSsmOutIdeal.nD Cert.KernelAdamSsmOutIdeal.τ).loc Cert.KernelAdamSsmOutIdeal.main_v0_1)) (v2 : (c : Dev Cert.KernelAdamSsmOutIdeal.nD) → Buf (Elt Ideal) ((c.tc : Thread Cert.KernelAdamSsmOutIdeal.nD Cert.KernelAdamSsmOutIdeal.τ).loc Cert.KernelAdamSsmOutIdeal.main_v0_2)) (v3 : (c : Dev Cert.KernelAdamSsmOutIdeal.nD) → Buf (Elt Ideal) ((c.tc : Thread Cert.KernelAdamSsmOutIdeal.nD Cert.KernelAdamSsmOutIdeal.τ).loc Cert.KernelAdamSsmOutIdeal.main_v0_3)),
      θ_run (Cert.KernelAdamSsmOutIdeal.defs (F := Ideal)) (onTc (τ := Cert.KernelAdamSsmOutIdeal.τ) (Cert.KernelAdamSsmOutIdeal.main (F := Ideal))) ⟨m, fun _ => 0, g⟩ (fun r => ∀ c : Dev Cert.KernelAdamSsmOutIdeal.nD,
          r.2.mem ((c.tc : Thread Cert.KernelAdamSsmOutIdeal.nD Cert.KernelAdamSsmOutIdeal.τ).loc Cert.KernelAdamSsmOutIdeal.main_v0_0) = v0 c
          ∧ r.2.mem ((c.tc : Thread Cert.KernelAdamSsmOutIdeal.nD Cert.KernelAdamSsmOutIdeal.τ).loc Cert.KernelAdamSsmOutIdeal.main_v0_1) = v1 c
          ∧ r.2.mem ((c.tc : Thread Cert.KernelAdamSsmOutIdeal.nD Cert.KernelAdamSsmOutIdeal.τ).loc Cert.KernelAdamSsmOutIdeal.main_v0_2) = v2 c
          ∧ r.2.mem ((c.tc : Thread Cert.KernelAdamSsmOutIdeal.nD Cert.KernelAdamSsmOutIdeal.τ).loc Cert.KernelAdamSsmOutIdeal.main_v0_3) = v3 c
          ∧ r.2.mem ((c.tc : Thread Cert.KernelAdamSsmOutIdeal.nD Cert.KernelAdamSsmOutIdeal.τ).loc Cert.KernelAdamSsmOutIdeal.main_arg0) = m ((c.tc : Thread Cert.KernelAdamSsmOutIdeal.nD Cert.KernelAdamSsmOutIdeal.τ).loc Cert.KernelAdamSsmOutIdeal.main_arg0)
          ∧ r.2.mem ((c.tc : Thread Cert.KernelAdamSsmOutIdeal.nD Cert.KernelAdamSsmOutIdeal.τ).loc Cert.KernelAdamSsmOutIdeal.main_arg1) = m ((c.tc : Thread Cert.KernelAdamSsmOutIdeal.nD Cert.KernelAdamSsmOutIdeal.τ).loc Cert.KernelAdamSsmOutIdeal.main_arg1)
          ∧ r.2.mem ((c.tc : Thread Cert.KernelAdamSsmOutIdeal.nD Cert.KernelAdamSsmOutIdeal.τ).loc Cert.KernelAdamSsmOutIdeal.main_arg2) = m ((c.tc : Thread Cert.KernelAdamSsmOutIdeal.nD Cert.KernelAdamSsmOutIdeal.τ).loc Cert.KernelAdamSsmOutIdeal.main_arg2)
          ∧ r.2.mem ((c.tc : Thread Cert.KernelAdamSsmOutIdeal.nD Cert.KernelAdamSsmOutIdeal.τ).loc Cert.KernelAdamSsmOutIdeal.main_arg3) = m ((c.tc : Thread Cert.KernelAdamSsmOutIdeal.nD Cert.KernelAdamSsmOutIdeal.τ).loc Cert.KernelAdamSsmOutIdeal.main_arg3))
      ∧ θ_run (Cert.ReferenceAdamSsmOutIdeal.defs (F := Ideal)) (onTc (τ := Cert.ReferenceAdamSsmOutIdeal.τ) (Cert.ReferenceAdamSsmOutIdeal.main (F := Ideal))) ⟨m', fun _ => 0, g'⟩ (fun r => ∀ c : Dev Cert.ReferenceAdamSsmOutIdeal.nD,
          r.2.mem ((c.tc : Thread Cert.ReferenceAdamSsmOutIdeal.nD Cert.ReferenceAdamSsmOutIdeal.τ).loc Cert.ReferenceAdamSsmOutIdeal.main_v1) = v0 c
          ∧ r.2.mem ((c.tc : Thread Cert.ReferenceAdamSsmOutIdeal.nD Cert.ReferenceAdamSsmOutIdeal.τ).loc Cert.ReferenceAdamSsmOutIdeal.main_v25) = v1 c
          ∧ r.2.mem ((c.tc : Thread Cert.ReferenceAdamSsmOutIdeal.nD Cert.ReferenceAdamSsmOutIdeal.τ).loc Cert.ReferenceAdamSsmOutIdeal.main_v6) = v2 c
          ∧ r.2.mem ((c.tc : Thread Cert.ReferenceAdamSsmOutIdeal.nD Cert.ReferenceAdamSsmOutIdeal.τ).loc Cert.ReferenceAdamSsmOutIdeal.main_v12) = v3 c
          ∧ r.2.mem ((c.tc : Thread Cert.ReferenceAdamSsmOutIdeal.nD Cert.ReferenceAdamSsmOutIdeal.τ).loc Cert.ReferenceAdamSsmOutIdeal.main_arg0) = m' ((c.tc : Thread Cert.ReferenceAdamSsmOutIdeal.nD Cert.ReferenceAdamSsmOutIdeal.τ).loc Cert.ReferenceAdamSsmOutIdeal.main_arg0)
          ∧ r.2.mem ((c.tc : Thread Cert.ReferenceAdamSsmOutIdeal.nD Cert.ReferenceAdamSsmOutIdeal.τ).loc Cert.ReferenceAdamSsmOutIdeal.main_arg1) = m' ((c.tc : Thread Cert.ReferenceAdamSsmOutIdeal.nD Cert.ReferenceAdamSsmOutIdeal.τ).loc Cert.ReferenceAdamSsmOutIdeal.main_arg1)
          ∧ r.2.mem ((c.tc : Thread Cert.ReferenceAdamSsmOutIdeal.nD Cert.ReferenceAdamSsmOutIdeal.τ).loc Cert.ReferenceAdamSsmOutIdeal.main_arg2) = m' ((c.tc : Thread Cert.ReferenceAdamSsmOutIdeal.nD Cert.ReferenceAdamSsmOutIdeal.τ).loc Cert.ReferenceAdamSsmOutIdeal.main_arg2)
          ∧ r.2.mem ((c.tc : Thread Cert.ReferenceAdamSsmOutIdeal.nD Cert.ReferenceAdamSsmOutIdeal.τ).loc Cert.ReferenceAdamSsmOutIdeal.main_arg3) = m' ((c.tc : Thread Cert.ReferenceAdamSsmOutIdeal.nD Cert.ReferenceAdamSsmOutIdeal.τ).loc Cert.ReferenceAdamSsmOutIdeal.main_arg3))

def preserves_KernelAdamSsmIn_KernelAdamSsmInIdeal : Prop :=
  True

def algebraic_KernelAdamSsmInIdeal_ReferenceAdamSsmInIdeal [hKernelAdamSsmInIdeal : Cert.KernelAdamSsmInIdeal.Facts] [hReferenceAdamSsmInIdeal : Cert.ReferenceAdamSsmInIdeal.Facts] : Prop :=
  ∀ (m : (ℓ : Loc Cert.KernelAdamSsmInIdeal.nD Cert.KernelAdamSsmInIdeal.τ Cert.KernelAdamSsmInIdeal.sig) → Buf (Elt Ideal) ℓ) (g : Dev Cert.KernelAdamSsmInIdeal.nD → PrngReg)
    (m' : (ℓ : Loc Cert.ReferenceAdamSsmInIdeal.nD Cert.ReferenceAdamSsmInIdeal.τ Cert.ReferenceAdamSsmInIdeal.sig) → Buf (Elt Ideal) ℓ) (g' : Dev Cert.ReferenceAdamSsmInIdeal.nD → PrngReg), Pre_KernelAdamSsmInIdeal m →
    (∀ c : Dev Cert.KernelAdamSsmInIdeal.nD,
      m' ((c.tc : Thread Cert.ReferenceAdamSsmInIdeal.nD Cert.ReferenceAdamSsmInIdeal.τ).loc Cert.ReferenceAdamSsmInIdeal.main_arg0) = m ((c.tc : Thread Cert.KernelAdamSsmInIdeal.nD Cert.KernelAdamSsmInIdeal.τ).loc Cert.KernelAdamSsmInIdeal.main_arg0)
      ∧ m' ((c.tc : Thread Cert.ReferenceAdamSsmInIdeal.nD Cert.ReferenceAdamSsmInIdeal.τ).loc Cert.ReferenceAdamSsmInIdeal.main_arg1) = m ((c.tc : Thread Cert.KernelAdamSsmInIdeal.nD Cert.KernelAdamSsmInIdeal.τ).loc Cert.KernelAdamSsmInIdeal.main_arg1)
      ∧ m' ((c.tc : Thread Cert.ReferenceAdamSsmInIdeal.nD Cert.ReferenceAdamSsmInIdeal.τ).loc Cert.ReferenceAdamSsmInIdeal.main_arg2) = m ((c.tc : Thread Cert.KernelAdamSsmInIdeal.nD Cert.KernelAdamSsmInIdeal.τ).loc Cert.KernelAdamSsmInIdeal.main_arg2)
      ∧ m' ((c.tc : Thread Cert.ReferenceAdamSsmInIdeal.nD Cert.ReferenceAdamSsmInIdeal.τ).loc Cert.ReferenceAdamSsmInIdeal.main_arg3) = m ((c.tc : Thread Cert.KernelAdamSsmInIdeal.nD Cert.KernelAdamSsmInIdeal.τ).loc Cert.KernelAdamSsmInIdeal.main_arg3)) →
    ∃ (v0 : (c : Dev Cert.KernelAdamSsmInIdeal.nD) → Buf (Elt Ideal) ((c.tc : Thread Cert.KernelAdamSsmInIdeal.nD Cert.KernelAdamSsmInIdeal.τ).loc Cert.KernelAdamSsmInIdeal.main_v0_0)) (v1 : (c : Dev Cert.KernelAdamSsmInIdeal.nD) → Buf (Elt Ideal) ((c.tc : Thread Cert.KernelAdamSsmInIdeal.nD Cert.KernelAdamSsmInIdeal.τ).loc Cert.KernelAdamSsmInIdeal.main_v0_1)) (v2 : (c : Dev Cert.KernelAdamSsmInIdeal.nD) → Buf (Elt Ideal) ((c.tc : Thread Cert.KernelAdamSsmInIdeal.nD Cert.KernelAdamSsmInIdeal.τ).loc Cert.KernelAdamSsmInIdeal.main_v0_2)) (v3 : (c : Dev Cert.KernelAdamSsmInIdeal.nD) → Buf (Elt Ideal) ((c.tc : Thread Cert.KernelAdamSsmInIdeal.nD Cert.KernelAdamSsmInIdeal.τ).loc Cert.KernelAdamSsmInIdeal.main_v0_3)),
      θ_run (Cert.KernelAdamSsmInIdeal.defs (F := Ideal)) (onTc (τ := Cert.KernelAdamSsmInIdeal.τ) (Cert.KernelAdamSsmInIdeal.main (F := Ideal))) ⟨m, fun _ => 0, g⟩ (fun r => ∀ c : Dev Cert.KernelAdamSsmInIdeal.nD,
          r.2.mem ((c.tc : Thread Cert.KernelAdamSsmInIdeal.nD Cert.KernelAdamSsmInIdeal.τ).loc Cert.KernelAdamSsmInIdeal.main_v0_0) = v0 c
          ∧ r.2.mem ((c.tc : Thread Cert.KernelAdamSsmInIdeal.nD Cert.KernelAdamSsmInIdeal.τ).loc Cert.KernelAdamSsmInIdeal.main_v0_1) = v1 c
          ∧ r.2.mem ((c.tc : Thread Cert.KernelAdamSsmInIdeal.nD Cert.KernelAdamSsmInIdeal.τ).loc Cert.KernelAdamSsmInIdeal.main_v0_2) = v2 c
          ∧ r.2.mem ((c.tc : Thread Cert.KernelAdamSsmInIdeal.nD Cert.KernelAdamSsmInIdeal.τ).loc Cert.KernelAdamSsmInIdeal.main_v0_3) = v3 c
          ∧ r.2.mem ((c.tc : Thread Cert.KernelAdamSsmInIdeal.nD Cert.KernelAdamSsmInIdeal.τ).loc Cert.KernelAdamSsmInIdeal.main_arg0) = m ((c.tc : Thread Cert.KernelAdamSsmInIdeal.nD Cert.KernelAdamSsmInIdeal.τ).loc Cert.KernelAdamSsmInIdeal.main_arg0)
          ∧ r.2.mem ((c.tc : Thread Cert.KernelAdamSsmInIdeal.nD Cert.KernelAdamSsmInIdeal.τ).loc Cert.KernelAdamSsmInIdeal.main_arg1) = m ((c.tc : Thread Cert.KernelAdamSsmInIdeal.nD Cert.KernelAdamSsmInIdeal.τ).loc Cert.KernelAdamSsmInIdeal.main_arg1)
          ∧ r.2.mem ((c.tc : Thread Cert.KernelAdamSsmInIdeal.nD Cert.KernelAdamSsmInIdeal.τ).loc Cert.KernelAdamSsmInIdeal.main_arg2) = m ((c.tc : Thread Cert.KernelAdamSsmInIdeal.nD Cert.KernelAdamSsmInIdeal.τ).loc Cert.KernelAdamSsmInIdeal.main_arg2)
          ∧ r.2.mem ((c.tc : Thread Cert.KernelAdamSsmInIdeal.nD Cert.KernelAdamSsmInIdeal.τ).loc Cert.KernelAdamSsmInIdeal.main_arg3) = m ((c.tc : Thread Cert.KernelAdamSsmInIdeal.nD Cert.KernelAdamSsmInIdeal.τ).loc Cert.KernelAdamSsmInIdeal.main_arg3))
      ∧ θ_run (Cert.ReferenceAdamSsmInIdeal.defs (F := Ideal)) (onTc (τ := Cert.ReferenceAdamSsmInIdeal.τ) (Cert.ReferenceAdamSsmInIdeal.main (F := Ideal))) ⟨m', fun _ => 0, g'⟩ (fun r => ∀ c : Dev Cert.ReferenceAdamSsmInIdeal.nD,
          r.2.mem ((c.tc : Thread Cert.ReferenceAdamSsmInIdeal.nD Cert.ReferenceAdamSsmInIdeal.τ).loc Cert.ReferenceAdamSsmInIdeal.main_v1) = v0 c
          ∧ r.2.mem ((c.tc : Thread Cert.ReferenceAdamSsmInIdeal.nD Cert.ReferenceAdamSsmInIdeal.τ).loc Cert.ReferenceAdamSsmInIdeal.main_v25) = v1 c
          ∧ r.2.mem ((c.tc : Thread Cert.ReferenceAdamSsmInIdeal.nD Cert.ReferenceAdamSsmInIdeal.τ).loc Cert.ReferenceAdamSsmInIdeal.main_v6) = v2 c
          ∧ r.2.mem ((c.tc : Thread Cert.ReferenceAdamSsmInIdeal.nD Cert.ReferenceAdamSsmInIdeal.τ).loc Cert.ReferenceAdamSsmInIdeal.main_v12) = v3 c
          ∧ r.2.mem ((c.tc : Thread Cert.ReferenceAdamSsmInIdeal.nD Cert.ReferenceAdamSsmInIdeal.τ).loc Cert.ReferenceAdamSsmInIdeal.main_arg0) = m' ((c.tc : Thread Cert.ReferenceAdamSsmInIdeal.nD Cert.ReferenceAdamSsmInIdeal.τ).loc Cert.ReferenceAdamSsmInIdeal.main_arg0)
          ∧ r.2.mem ((c.tc : Thread Cert.ReferenceAdamSsmInIdeal.nD Cert.ReferenceAdamSsmInIdeal.τ).loc Cert.ReferenceAdamSsmInIdeal.main_arg1) = m' ((c.tc : Thread Cert.ReferenceAdamSsmInIdeal.nD Cert.ReferenceAdamSsmInIdeal.τ).loc Cert.ReferenceAdamSsmInIdeal.main_arg1)
          ∧ r.2.mem ((c.tc : Thread Cert.ReferenceAdamSsmInIdeal.nD Cert.ReferenceAdamSsmInIdeal.τ).loc Cert.ReferenceAdamSsmInIdeal.main_arg2) = m' ((c.tc : Thread Cert.ReferenceAdamSsmInIdeal.nD Cert.ReferenceAdamSsmInIdeal.τ).loc Cert.ReferenceAdamSsmInIdeal.main_arg2)
          ∧ r.2.mem ((c.tc : Thread Cert.ReferenceAdamSsmInIdeal.nD Cert.ReferenceAdamSsmInIdeal.τ).loc Cert.ReferenceAdamSsmInIdeal.main_arg3) = m' ((c.tc : Thread Cert.ReferenceAdamSsmInIdeal.nD Cert.ReferenceAdamSsmInIdeal.τ).loc Cert.ReferenceAdamSsmInIdeal.main_arg3))

def preserves_KernelAdamFfnUp_KernelAdamFfnUpIdeal : Prop :=
  True

def algebraic_KernelAdamFfnUpIdeal_ReferenceAdamFfnUpIdeal [hKernelAdamFfnUpIdeal : Cert.KernelAdamFfnUpIdeal.Facts] [hReferenceAdamFfnUpIdeal : Cert.ReferenceAdamFfnUpIdeal.Facts] : Prop :=
  ∀ (m : (ℓ : Loc Cert.KernelAdamFfnUpIdeal.nD Cert.KernelAdamFfnUpIdeal.τ Cert.KernelAdamFfnUpIdeal.sig) → Buf (Elt Ideal) ℓ) (g : Dev Cert.KernelAdamFfnUpIdeal.nD → PrngReg)
    (m' : (ℓ : Loc Cert.ReferenceAdamFfnUpIdeal.nD Cert.ReferenceAdamFfnUpIdeal.τ Cert.ReferenceAdamFfnUpIdeal.sig) → Buf (Elt Ideal) ℓ) (g' : Dev Cert.ReferenceAdamFfnUpIdeal.nD → PrngReg), Pre_KernelAdamFfnUpIdeal m →
    (∀ c : Dev Cert.KernelAdamFfnUpIdeal.nD,
      m' ((c.tc : Thread Cert.ReferenceAdamFfnUpIdeal.nD Cert.ReferenceAdamFfnUpIdeal.τ).loc Cert.ReferenceAdamFfnUpIdeal.main_arg0) = m ((c.tc : Thread Cert.KernelAdamFfnUpIdeal.nD Cert.KernelAdamFfnUpIdeal.τ).loc Cert.KernelAdamFfnUpIdeal.main_arg0)
      ∧ m' ((c.tc : Thread Cert.ReferenceAdamFfnUpIdeal.nD Cert.ReferenceAdamFfnUpIdeal.τ).loc Cert.ReferenceAdamFfnUpIdeal.main_arg1) = m ((c.tc : Thread Cert.KernelAdamFfnUpIdeal.nD Cert.KernelAdamFfnUpIdeal.τ).loc Cert.KernelAdamFfnUpIdeal.main_arg1)
      ∧ m' ((c.tc : Thread Cert.ReferenceAdamFfnUpIdeal.nD Cert.ReferenceAdamFfnUpIdeal.τ).loc Cert.ReferenceAdamFfnUpIdeal.main_arg2) = m ((c.tc : Thread Cert.KernelAdamFfnUpIdeal.nD Cert.KernelAdamFfnUpIdeal.τ).loc Cert.KernelAdamFfnUpIdeal.main_arg2)
      ∧ m' ((c.tc : Thread Cert.ReferenceAdamFfnUpIdeal.nD Cert.ReferenceAdamFfnUpIdeal.τ).loc Cert.ReferenceAdamFfnUpIdeal.main_arg3) = m ((c.tc : Thread Cert.KernelAdamFfnUpIdeal.nD Cert.KernelAdamFfnUpIdeal.τ).loc Cert.KernelAdamFfnUpIdeal.main_arg3)
      ∧ m' ((c.tc : Thread Cert.ReferenceAdamFfnUpIdeal.nD Cert.ReferenceAdamFfnUpIdeal.τ).loc Cert.ReferenceAdamFfnUpIdeal.main_arg4) = m ((c.tc : Thread Cert.KernelAdamFfnUpIdeal.nD Cert.KernelAdamFfnUpIdeal.τ).loc Cert.KernelAdamFfnUpIdeal.main_arg4)) →
    ∃ (v0 : (c : Dev Cert.KernelAdamFfnUpIdeal.nD) → Buf (Elt Ideal) ((c.tc : Thread Cert.KernelAdamFfnUpIdeal.nD Cert.KernelAdamFfnUpIdeal.τ).loc Cert.KernelAdamFfnUpIdeal.main_v0_0)) (v1 : (c : Dev Cert.KernelAdamFfnUpIdeal.nD) → Buf (Elt Ideal) ((c.tc : Thread Cert.KernelAdamFfnUpIdeal.nD Cert.KernelAdamFfnUpIdeal.τ).loc Cert.KernelAdamFfnUpIdeal.main_v0_1)) (v2 : (c : Dev Cert.KernelAdamFfnUpIdeal.nD) → Buf (Elt Ideal) ((c.tc : Thread Cert.KernelAdamFfnUpIdeal.nD Cert.KernelAdamFfnUpIdeal.τ).loc Cert.KernelAdamFfnUpIdeal.main_v0_2)) (v3 : (c : Dev Cert.KernelAdamFfnUpIdeal.nD) → Buf (Elt Ideal) ((c.tc : Thread Cert.KernelAdamFfnUpIdeal.nD Cert.KernelAdamFfnUpIdeal.τ).loc Cert.KernelAdamFfnUpIdeal.main_v0_3)),
      θ_run (Cert.KernelAdamFfnUpIdeal.defs (F := Ideal)) (onTc (τ := Cert.KernelAdamFfnUpIdeal.τ) (Cert.KernelAdamFfnUpIdeal.main (F := Ideal))) ⟨m, fun _ => 0, g⟩ (fun r => ∀ c : Dev Cert.KernelAdamFfnUpIdeal.nD,
          r.2.mem ((c.tc : Thread Cert.KernelAdamFfnUpIdeal.nD Cert.KernelAdamFfnUpIdeal.τ).loc Cert.KernelAdamFfnUpIdeal.main_v0_0) = v0 c
          ∧ r.2.mem ((c.tc : Thread Cert.KernelAdamFfnUpIdeal.nD Cert.KernelAdamFfnUpIdeal.τ).loc Cert.KernelAdamFfnUpIdeal.main_v0_1) = v1 c
          ∧ r.2.mem ((c.tc : Thread Cert.KernelAdamFfnUpIdeal.nD Cert.KernelAdamFfnUpIdeal.τ).loc Cert.KernelAdamFfnUpIdeal.main_v0_2) = v2 c
          ∧ r.2.mem ((c.tc : Thread Cert.KernelAdamFfnUpIdeal.nD Cert.KernelAdamFfnUpIdeal.τ).loc Cert.KernelAdamFfnUpIdeal.main_v0_3) = v3 c
          ∧ r.2.mem ((c.tc : Thread Cert.KernelAdamFfnUpIdeal.nD Cert.KernelAdamFfnUpIdeal.τ).loc Cert.KernelAdamFfnUpIdeal.main_arg0) = m ((c.tc : Thread Cert.KernelAdamFfnUpIdeal.nD Cert.KernelAdamFfnUpIdeal.τ).loc Cert.KernelAdamFfnUpIdeal.main_arg0)
          ∧ r.2.mem ((c.tc : Thread Cert.KernelAdamFfnUpIdeal.nD Cert.KernelAdamFfnUpIdeal.τ).loc Cert.KernelAdamFfnUpIdeal.main_arg1) = m ((c.tc : Thread Cert.KernelAdamFfnUpIdeal.nD Cert.KernelAdamFfnUpIdeal.τ).loc Cert.KernelAdamFfnUpIdeal.main_arg1)
          ∧ r.2.mem ((c.tc : Thread Cert.KernelAdamFfnUpIdeal.nD Cert.KernelAdamFfnUpIdeal.τ).loc Cert.KernelAdamFfnUpIdeal.main_arg2) = m ((c.tc : Thread Cert.KernelAdamFfnUpIdeal.nD Cert.KernelAdamFfnUpIdeal.τ).loc Cert.KernelAdamFfnUpIdeal.main_arg2)
          ∧ r.2.mem ((c.tc : Thread Cert.KernelAdamFfnUpIdeal.nD Cert.KernelAdamFfnUpIdeal.τ).loc Cert.KernelAdamFfnUpIdeal.main_arg3) = m ((c.tc : Thread Cert.KernelAdamFfnUpIdeal.nD Cert.KernelAdamFfnUpIdeal.τ).loc Cert.KernelAdamFfnUpIdeal.main_arg3)
          ∧ r.2.mem ((c.tc : Thread Cert.KernelAdamFfnUpIdeal.nD Cert.KernelAdamFfnUpIdeal.τ).loc Cert.KernelAdamFfnUpIdeal.main_arg4) = m ((c.tc : Thread Cert.KernelAdamFfnUpIdeal.nD Cert.KernelAdamFfnUpIdeal.τ).loc Cert.KernelAdamFfnUpIdeal.main_arg4))
      ∧ θ_run (Cert.ReferenceAdamFfnUpIdeal.defs (F := Ideal)) (onTc (τ := Cert.ReferenceAdamFfnUpIdeal.τ) (Cert.ReferenceAdamFfnUpIdeal.main (F := Ideal))) ⟨m', fun _ => 0, g'⟩ (fun r => ∀ c : Dev Cert.ReferenceAdamFfnUpIdeal.nD,
          r.2.mem ((c.tc : Thread Cert.ReferenceAdamFfnUpIdeal.nD Cert.ReferenceAdamFfnUpIdeal.τ).loc Cert.ReferenceAdamFfnUpIdeal.main_v4) = v0 c
          ∧ r.2.mem ((c.tc : Thread Cert.ReferenceAdamFfnUpIdeal.nD Cert.ReferenceAdamFfnUpIdeal.τ).loc Cert.ReferenceAdamFfnUpIdeal.main_v28) = v1 c
          ∧ r.2.mem ((c.tc : Thread Cert.ReferenceAdamFfnUpIdeal.nD Cert.ReferenceAdamFfnUpIdeal.τ).loc Cert.ReferenceAdamFfnUpIdeal.main_v9) = v2 c
          ∧ r.2.mem ((c.tc : Thread Cert.ReferenceAdamFfnUpIdeal.nD Cert.ReferenceAdamFfnUpIdeal.τ).loc Cert.ReferenceAdamFfnUpIdeal.main_v15) = v3 c
          ∧ r.2.mem ((c.tc : Thread Cert.ReferenceAdamFfnUpIdeal.nD Cert.ReferenceAdamFfnUpIdeal.τ).loc Cert.ReferenceAdamFfnUpIdeal.main_arg0) = m' ((c.tc : Thread Cert.ReferenceAdamFfnUpIdeal.nD Cert.ReferenceAdamFfnUpIdeal.τ).loc Cert.ReferenceAdamFfnUpIdeal.main_arg0)
          ∧ r.2.mem ((c.tc : Thread Cert.ReferenceAdamFfnUpIdeal.nD Cert.ReferenceAdamFfnUpIdeal.τ).loc Cert.ReferenceAdamFfnUpIdeal.main_arg1) = m' ((c.tc : Thread Cert.ReferenceAdamFfnUpIdeal.nD Cert.ReferenceAdamFfnUpIdeal.τ).loc Cert.ReferenceAdamFfnUpIdeal.main_arg1)
          ∧ r.2.mem ((c.tc : Thread Cert.ReferenceAdamFfnUpIdeal.nD Cert.ReferenceAdamFfnUpIdeal.τ).loc Cert.ReferenceAdamFfnUpIdeal.main_arg2) = m' ((c.tc : Thread Cert.ReferenceAdamFfnUpIdeal.nD Cert.ReferenceAdamFfnUpIdeal.τ).loc Cert.ReferenceAdamFfnUpIdeal.main_arg2)
          ∧ r.2.mem ((c.tc : Thread Cert.ReferenceAdamFfnUpIdeal.nD Cert.ReferenceAdamFfnUpIdeal.τ).loc Cert.ReferenceAdamFfnUpIdeal.main_arg3) = m' ((c.tc : Thread Cert.ReferenceAdamFfnUpIdeal.nD Cert.ReferenceAdamFfnUpIdeal.τ).loc Cert.ReferenceAdamFfnUpIdeal.main_arg3)
          ∧ r.2.mem ((c.tc : Thread Cert.ReferenceAdamFfnUpIdeal.nD Cert.ReferenceAdamFfnUpIdeal.τ).loc Cert.ReferenceAdamFfnUpIdeal.main_arg4) = m' ((c.tc : Thread Cert.ReferenceAdamFfnUpIdeal.nD Cert.ReferenceAdamFfnUpIdeal.τ).loc Cert.ReferenceAdamFfnUpIdeal.main_arg4))

def preserves_KernelAdamFfnDown_KernelAdamFfnDownIdeal : Prop :=
  True

def algebraic_KernelAdamFfnDownIdeal_ReferenceAdamFfnDownIdeal [hKernelAdamFfnDownIdeal : Cert.KernelAdamFfnDownIdeal.Facts] [hReferenceAdamFfnDownIdeal : Cert.ReferenceAdamFfnDownIdeal.Facts] : Prop :=
  ∀ (m : (ℓ : Loc Cert.KernelAdamFfnDownIdeal.nD Cert.KernelAdamFfnDownIdeal.τ Cert.KernelAdamFfnDownIdeal.sig) → Buf (Elt Ideal) ℓ) (g : Dev Cert.KernelAdamFfnDownIdeal.nD → PrngReg)
    (m' : (ℓ : Loc Cert.ReferenceAdamFfnDownIdeal.nD Cert.ReferenceAdamFfnDownIdeal.τ Cert.ReferenceAdamFfnDownIdeal.sig) → Buf (Elt Ideal) ℓ) (g' : Dev Cert.ReferenceAdamFfnDownIdeal.nD → PrngReg), Pre_KernelAdamFfnDownIdeal m →
    (∀ c : Dev Cert.KernelAdamFfnDownIdeal.nD,
      m' ((c.tc : Thread Cert.ReferenceAdamFfnDownIdeal.nD Cert.ReferenceAdamFfnDownIdeal.τ).loc Cert.ReferenceAdamFfnDownIdeal.main_arg0) = m ((c.tc : Thread Cert.KernelAdamFfnDownIdeal.nD Cert.KernelAdamFfnDownIdeal.τ).loc Cert.KernelAdamFfnDownIdeal.main_arg0)
      ∧ m' ((c.tc : Thread Cert.ReferenceAdamFfnDownIdeal.nD Cert.ReferenceAdamFfnDownIdeal.τ).loc Cert.ReferenceAdamFfnDownIdeal.main_arg1) = m ((c.tc : Thread Cert.KernelAdamFfnDownIdeal.nD Cert.KernelAdamFfnDownIdeal.τ).loc Cert.KernelAdamFfnDownIdeal.main_arg1)
      ∧ m' ((c.tc : Thread Cert.ReferenceAdamFfnDownIdeal.nD Cert.ReferenceAdamFfnDownIdeal.τ).loc Cert.ReferenceAdamFfnDownIdeal.main_arg2) = m ((c.tc : Thread Cert.KernelAdamFfnDownIdeal.nD Cert.KernelAdamFfnDownIdeal.τ).loc Cert.KernelAdamFfnDownIdeal.main_arg2)
      ∧ m' ((c.tc : Thread Cert.ReferenceAdamFfnDownIdeal.nD Cert.ReferenceAdamFfnDownIdeal.τ).loc Cert.ReferenceAdamFfnDownIdeal.main_arg3) = m ((c.tc : Thread Cert.KernelAdamFfnDownIdeal.nD Cert.KernelAdamFfnDownIdeal.τ).loc Cert.KernelAdamFfnDownIdeal.main_arg3)
      ∧ m' ((c.tc : Thread Cert.ReferenceAdamFfnDownIdeal.nD Cert.ReferenceAdamFfnDownIdeal.τ).loc Cert.ReferenceAdamFfnDownIdeal.main_arg4) = m ((c.tc : Thread Cert.KernelAdamFfnDownIdeal.nD Cert.KernelAdamFfnDownIdeal.τ).loc Cert.KernelAdamFfnDownIdeal.main_arg4)) →
    ∃ (v0 : (c : Dev Cert.KernelAdamFfnDownIdeal.nD) → Buf (Elt Ideal) ((c.tc : Thread Cert.KernelAdamFfnDownIdeal.nD Cert.KernelAdamFfnDownIdeal.τ).loc Cert.KernelAdamFfnDownIdeal.main_v0_0)) (v1 : (c : Dev Cert.KernelAdamFfnDownIdeal.nD) → Buf (Elt Ideal) ((c.tc : Thread Cert.KernelAdamFfnDownIdeal.nD Cert.KernelAdamFfnDownIdeal.τ).loc Cert.KernelAdamFfnDownIdeal.main_v0_1)) (v2 : (c : Dev Cert.KernelAdamFfnDownIdeal.nD) → Buf (Elt Ideal) ((c.tc : Thread Cert.KernelAdamFfnDownIdeal.nD Cert.KernelAdamFfnDownIdeal.τ).loc Cert.KernelAdamFfnDownIdeal.main_v0_2)) (v3 : (c : Dev Cert.KernelAdamFfnDownIdeal.nD) → Buf (Elt Ideal) ((c.tc : Thread Cert.KernelAdamFfnDownIdeal.nD Cert.KernelAdamFfnDownIdeal.τ).loc Cert.KernelAdamFfnDownIdeal.main_v0_3)),
      θ_run (Cert.KernelAdamFfnDownIdeal.defs (F := Ideal)) (onTc (τ := Cert.KernelAdamFfnDownIdeal.τ) (Cert.KernelAdamFfnDownIdeal.main (F := Ideal))) ⟨m, fun _ => 0, g⟩ (fun r => ∀ c : Dev Cert.KernelAdamFfnDownIdeal.nD,
          r.2.mem ((c.tc : Thread Cert.KernelAdamFfnDownIdeal.nD Cert.KernelAdamFfnDownIdeal.τ).loc Cert.KernelAdamFfnDownIdeal.main_v0_0) = v0 c
          ∧ r.2.mem ((c.tc : Thread Cert.KernelAdamFfnDownIdeal.nD Cert.KernelAdamFfnDownIdeal.τ).loc Cert.KernelAdamFfnDownIdeal.main_v0_1) = v1 c
          ∧ r.2.mem ((c.tc : Thread Cert.KernelAdamFfnDownIdeal.nD Cert.KernelAdamFfnDownIdeal.τ).loc Cert.KernelAdamFfnDownIdeal.main_v0_2) = v2 c
          ∧ r.2.mem ((c.tc : Thread Cert.KernelAdamFfnDownIdeal.nD Cert.KernelAdamFfnDownIdeal.τ).loc Cert.KernelAdamFfnDownIdeal.main_v0_3) = v3 c
          ∧ r.2.mem ((c.tc : Thread Cert.KernelAdamFfnDownIdeal.nD Cert.KernelAdamFfnDownIdeal.τ).loc Cert.KernelAdamFfnDownIdeal.main_arg0) = m ((c.tc : Thread Cert.KernelAdamFfnDownIdeal.nD Cert.KernelAdamFfnDownIdeal.τ).loc Cert.KernelAdamFfnDownIdeal.main_arg0)
          ∧ r.2.mem ((c.tc : Thread Cert.KernelAdamFfnDownIdeal.nD Cert.KernelAdamFfnDownIdeal.τ).loc Cert.KernelAdamFfnDownIdeal.main_arg1) = m ((c.tc : Thread Cert.KernelAdamFfnDownIdeal.nD Cert.KernelAdamFfnDownIdeal.τ).loc Cert.KernelAdamFfnDownIdeal.main_arg1)
          ∧ r.2.mem ((c.tc : Thread Cert.KernelAdamFfnDownIdeal.nD Cert.KernelAdamFfnDownIdeal.τ).loc Cert.KernelAdamFfnDownIdeal.main_arg2) = m ((c.tc : Thread Cert.KernelAdamFfnDownIdeal.nD Cert.KernelAdamFfnDownIdeal.τ).loc Cert.KernelAdamFfnDownIdeal.main_arg2)
          ∧ r.2.mem ((c.tc : Thread Cert.KernelAdamFfnDownIdeal.nD Cert.KernelAdamFfnDownIdeal.τ).loc Cert.KernelAdamFfnDownIdeal.main_arg3) = m ((c.tc : Thread Cert.KernelAdamFfnDownIdeal.nD Cert.KernelAdamFfnDownIdeal.τ).loc Cert.KernelAdamFfnDownIdeal.main_arg3)
          ∧ r.2.mem ((c.tc : Thread Cert.KernelAdamFfnDownIdeal.nD Cert.KernelAdamFfnDownIdeal.τ).loc Cert.KernelAdamFfnDownIdeal.main_arg4) = m ((c.tc : Thread Cert.KernelAdamFfnDownIdeal.nD Cert.KernelAdamFfnDownIdeal.τ).loc Cert.KernelAdamFfnDownIdeal.main_arg4))
      ∧ θ_run (Cert.ReferenceAdamFfnDownIdeal.defs (F := Ideal)) (onTc (τ := Cert.ReferenceAdamFfnDownIdeal.τ) (Cert.ReferenceAdamFfnDownIdeal.main (F := Ideal))) ⟨m', fun _ => 0, g'⟩ (fun r => ∀ c : Dev Cert.ReferenceAdamFfnDownIdeal.nD,
          r.2.mem ((c.tc : Thread Cert.ReferenceAdamFfnDownIdeal.nD Cert.ReferenceAdamFfnDownIdeal.τ).loc Cert.ReferenceAdamFfnDownIdeal.main_v4) = v0 c
          ∧ r.2.mem ((c.tc : Thread Cert.ReferenceAdamFfnDownIdeal.nD Cert.ReferenceAdamFfnDownIdeal.τ).loc Cert.ReferenceAdamFfnDownIdeal.main_v28) = v1 c
          ∧ r.2.mem ((c.tc : Thread Cert.ReferenceAdamFfnDownIdeal.nD Cert.ReferenceAdamFfnDownIdeal.τ).loc Cert.ReferenceAdamFfnDownIdeal.main_v9) = v2 c
          ∧ r.2.mem ((c.tc : Thread Cert.ReferenceAdamFfnDownIdeal.nD Cert.ReferenceAdamFfnDownIdeal.τ).loc Cert.ReferenceAdamFfnDownIdeal.main_v15) = v3 c
          ∧ r.2.mem ((c.tc : Thread Cert.ReferenceAdamFfnDownIdeal.nD Cert.ReferenceAdamFfnDownIdeal.τ).loc Cert.ReferenceAdamFfnDownIdeal.main_arg0) = m' ((c.tc : Thread Cert.ReferenceAdamFfnDownIdeal.nD Cert.ReferenceAdamFfnDownIdeal.τ).loc Cert.ReferenceAdamFfnDownIdeal.main_arg0)
          ∧ r.2.mem ((c.tc : Thread Cert.ReferenceAdamFfnDownIdeal.nD Cert.ReferenceAdamFfnDownIdeal.τ).loc Cert.ReferenceAdamFfnDownIdeal.main_arg1) = m' ((c.tc : Thread Cert.ReferenceAdamFfnDownIdeal.nD Cert.ReferenceAdamFfnDownIdeal.τ).loc Cert.ReferenceAdamFfnDownIdeal.main_arg1)
          ∧ r.2.mem ((c.tc : Thread Cert.ReferenceAdamFfnDownIdeal.nD Cert.ReferenceAdamFfnDownIdeal.τ).loc Cert.ReferenceAdamFfnDownIdeal.main_arg2) = m' ((c.tc : Thread Cert.ReferenceAdamFfnDownIdeal.nD Cert.ReferenceAdamFfnDownIdeal.τ).loc Cert.ReferenceAdamFfnDownIdeal.main_arg2)
          ∧ r.2.mem ((c.tc : Thread Cert.ReferenceAdamFfnDownIdeal.nD Cert.ReferenceAdamFfnDownIdeal.τ).loc Cert.ReferenceAdamFfnDownIdeal.main_arg3) = m' ((c.tc : Thread Cert.ReferenceAdamFfnDownIdeal.nD Cert.ReferenceAdamFfnDownIdeal.τ).loc Cert.ReferenceAdamFfnDownIdeal.main_arg3)
          ∧ r.2.mem ((c.tc : Thread Cert.ReferenceAdamFfnDownIdeal.nD Cert.ReferenceAdamFfnDownIdeal.τ).loc Cert.ReferenceAdamFfnDownIdeal.main_arg4) = m' ((c.tc : Thread Cert.ReferenceAdamFfnDownIdeal.nD Cert.ReferenceAdamFfnDownIdeal.τ).loc Cert.ReferenceAdamFfnDownIdeal.main_arg4))

def preserves_KernelSmallSum_KernelSmallSumIdeal : Prop :=
  True

def algebraic_KernelSmallSumIdeal_ReferenceSmallSumIdeal [hKernelSmallSumIdeal : Cert.KernelSmallSumIdeal.Facts] [hReferenceSmallSumIdeal : Cert.ReferenceSmallSumIdeal.Facts] : Prop :=
  ∀ (m : (ℓ : Loc Cert.KernelSmallSumIdeal.nD Cert.KernelSmallSumIdeal.τ Cert.KernelSmallSumIdeal.sig) → Buf (Elt Ideal) ℓ) (g : Dev Cert.KernelSmallSumIdeal.nD → PrngReg)
    (m' : (ℓ : Loc Cert.ReferenceSmallSumIdeal.nD Cert.ReferenceSmallSumIdeal.τ Cert.ReferenceSmallSumIdeal.sig) → Buf (Elt Ideal) ℓ) (g' : Dev Cert.ReferenceSmallSumIdeal.nD → PrngReg), Pre_KernelSmallSumIdeal m →
    (∀ c : Dev Cert.KernelSmallSumIdeal.nD,
      m' ((c.tc : Thread Cert.ReferenceSmallSumIdeal.nD Cert.ReferenceSmallSumIdeal.τ).loc Cert.ReferenceSmallSumIdeal.main_arg0) = m ((c.tc : Thread Cert.KernelSmallSumIdeal.nD Cert.KernelSmallSumIdeal.τ).loc Cert.KernelSmallSumIdeal.main_arg0)
      ∧ m' ((c.tc : Thread Cert.ReferenceSmallSumIdeal.nD Cert.ReferenceSmallSumIdeal.τ).loc Cert.ReferenceSmallSumIdeal.main_arg1) = m ((c.tc : Thread Cert.KernelSmallSumIdeal.nD Cert.KernelSmallSumIdeal.τ).loc Cert.KernelSmallSumIdeal.main_arg1)
      ∧ m' ((c.tc : Thread Cert.ReferenceSmallSumIdeal.nD Cert.ReferenceSmallSumIdeal.τ).loc Cert.ReferenceSmallSumIdeal.main_arg2) = m ((c.tc : Thread Cert.KernelSmallSumIdeal.nD Cert.KernelSmallSumIdeal.τ).loc Cert.KernelSmallSumIdeal.main_arg2)
      ∧ m' ((c.tc : Thread Cert.ReferenceSmallSumIdeal.nD Cert.ReferenceSmallSumIdeal.τ).loc Cert.ReferenceSmallSumIdeal.main_arg3) = m ((c.tc : Thread Cert.KernelSmallSumIdeal.nD Cert.KernelSmallSumIdeal.τ).loc Cert.KernelSmallSumIdeal.main_arg3)) →
    ∃ (v0 : (c : Dev Cert.KernelSmallSumIdeal.nD) → Buf (Elt Ideal) ((c.tc : Thread Cert.KernelSmallSumIdeal.nD Cert.KernelSmallSumIdeal.τ).loc Cert.KernelSmallSumIdeal.main_v0_0)) (v1 : (c : Dev Cert.KernelSmallSumIdeal.nD) → Buf (Elt Ideal) ((c.tc : Thread Cert.KernelSmallSumIdeal.nD Cert.KernelSmallSumIdeal.τ).loc Cert.KernelSmallSumIdeal.main_v0_1)) (v2 : (c : Dev Cert.KernelSmallSumIdeal.nD) → Buf (Elt Ideal) ((c.tc : Thread Cert.KernelSmallSumIdeal.nD Cert.KernelSmallSumIdeal.τ).loc Cert.KernelSmallSumIdeal.main_v0_2)) (v3 : (c : Dev Cert.KernelSmallSumIdeal.nD) → Buf (Elt Ideal) ((c.tc : Thread Cert.KernelSmallSumIdeal.nD Cert.KernelSmallSumIdeal.τ).loc Cert.KernelSmallSumIdeal.main_v0_3)),
      θ_run (Cert.KernelSmallSumIdeal.defs (F := Ideal)) (onTc (τ := Cert.KernelSmallSumIdeal.τ) (Cert.KernelSmallSumIdeal.main (F := Ideal))) ⟨m, fun _ => 0, g⟩ (fun r => ∀ c : Dev Cert.KernelSmallSumIdeal.nD,
          r.2.mem ((c.tc : Thread Cert.KernelSmallSumIdeal.nD Cert.KernelSmallSumIdeal.τ).loc Cert.KernelSmallSumIdeal.main_v0_0) = v0 c
          ∧ r.2.mem ((c.tc : Thread Cert.KernelSmallSumIdeal.nD Cert.KernelSmallSumIdeal.τ).loc Cert.KernelSmallSumIdeal.main_v0_1) = v1 c
          ∧ r.2.mem ((c.tc : Thread Cert.KernelSmallSumIdeal.nD Cert.KernelSmallSumIdeal.τ).loc Cert.KernelSmallSumIdeal.main_v0_2) = v2 c
          ∧ r.2.mem ((c.tc : Thread Cert.KernelSmallSumIdeal.nD Cert.KernelSmallSumIdeal.τ).loc Cert.KernelSmallSumIdeal.main_v0_3) = v3 c
          ∧ r.2.mem ((c.tc : Thread Cert.KernelSmallSumIdeal.nD Cert.KernelSmallSumIdeal.τ).loc Cert.KernelSmallSumIdeal.main_arg0) = m ((c.tc : Thread Cert.KernelSmallSumIdeal.nD Cert.KernelSmallSumIdeal.τ).loc Cert.KernelSmallSumIdeal.main_arg0)
          ∧ r.2.mem ((c.tc : Thread Cert.KernelSmallSumIdeal.nD Cert.KernelSmallSumIdeal.τ).loc Cert.KernelSmallSumIdeal.main_arg1) = m ((c.tc : Thread Cert.KernelSmallSumIdeal.nD Cert.KernelSmallSumIdeal.τ).loc Cert.KernelSmallSumIdeal.main_arg1)
          ∧ r.2.mem ((c.tc : Thread Cert.KernelSmallSumIdeal.nD Cert.KernelSmallSumIdeal.τ).loc Cert.KernelSmallSumIdeal.main_arg2) = m ((c.tc : Thread Cert.KernelSmallSumIdeal.nD Cert.KernelSmallSumIdeal.τ).loc Cert.KernelSmallSumIdeal.main_arg2)
          ∧ r.2.mem ((c.tc : Thread Cert.KernelSmallSumIdeal.nD Cert.KernelSmallSumIdeal.τ).loc Cert.KernelSmallSumIdeal.main_arg3) = m ((c.tc : Thread Cert.KernelSmallSumIdeal.nD Cert.KernelSmallSumIdeal.τ).loc Cert.KernelSmallSumIdeal.main_arg3))
      ∧ θ_run (Cert.ReferenceSmallSumIdeal.defs (F := Ideal)) (onTc (τ := Cert.ReferenceSmallSumIdeal.τ) (Cert.ReferenceSmallSumIdeal.main (F := Ideal))) ⟨m', fun _ => 0, g'⟩ (fun r => ∀ c : Dev Cert.ReferenceSmallSumIdeal.nD,
          r.2.mem ((c.tc : Thread Cert.ReferenceSmallSumIdeal.nD Cert.ReferenceSmallSumIdeal.τ).loc Cert.ReferenceSmallSumIdeal.main_v0) = v0 c
          ∧ r.2.mem ((c.tc : Thread Cert.ReferenceSmallSumIdeal.nD Cert.ReferenceSmallSumIdeal.τ).loc Cert.ReferenceSmallSumIdeal.main_v24) = v1 c
          ∧ r.2.mem ((c.tc : Thread Cert.ReferenceSmallSumIdeal.nD Cert.ReferenceSmallSumIdeal.τ).loc Cert.ReferenceSmallSumIdeal.main_v5) = v2 c
          ∧ r.2.mem ((c.tc : Thread Cert.ReferenceSmallSumIdeal.nD Cert.ReferenceSmallSumIdeal.τ).loc Cert.ReferenceSmallSumIdeal.main_v11) = v3 c
          ∧ r.2.mem ((c.tc : Thread Cert.ReferenceSmallSumIdeal.nD Cert.ReferenceSmallSumIdeal.τ).loc Cert.ReferenceSmallSumIdeal.main_arg0) = m' ((c.tc : Thread Cert.ReferenceSmallSumIdeal.nD Cert.ReferenceSmallSumIdeal.τ).loc Cert.ReferenceSmallSumIdeal.main_arg0)
          ∧ r.2.mem ((c.tc : Thread Cert.ReferenceSmallSumIdeal.nD Cert.ReferenceSmallSumIdeal.τ).loc Cert.ReferenceSmallSumIdeal.main_arg1) = m' ((c.tc : Thread Cert.ReferenceSmallSumIdeal.nD Cert.ReferenceSmallSumIdeal.τ).loc Cert.ReferenceSmallSumIdeal.main_arg1)
          ∧ r.2.mem ((c.tc : Thread Cert.ReferenceSmallSumIdeal.nD Cert.ReferenceSmallSumIdeal.τ).loc Cert.ReferenceSmallSumIdeal.main_arg2) = m' ((c.tc : Thread Cert.ReferenceSmallSumIdeal.nD Cert.ReferenceSmallSumIdeal.τ).loc Cert.ReferenceSmallSumIdeal.main_arg2)
          ∧ r.2.mem ((c.tc : Thread Cert.ReferenceSmallSumIdeal.nD Cert.ReferenceSmallSumIdeal.τ).loc Cert.ReferenceSmallSumIdeal.main_arg3) = m' ((c.tc : Thread Cert.ReferenceSmallSumIdeal.nD Cert.ReferenceSmallSumIdeal.τ).loc Cert.ReferenceSmallSumIdeal.main_arg3))

def preserves_KernelAdamSmall_KernelAdamSmallIdeal : Prop :=
  True

def algebraic_KernelAdamSmallIdeal_ReferenceAdamSmallIdeal [hKernelAdamSmallIdeal : Cert.KernelAdamSmallIdeal.Facts] [hReferenceAdamSmallIdeal : Cert.ReferenceAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg)
    (m' : (ℓ : Loc Cert.ReferenceAdamSmallIdeal.nD Cert.ReferenceAdamSmallIdeal.τ Cert.ReferenceAdamSmallIdeal.sig) → Buf (Elt Ideal) ℓ) (g' : Dev Cert.ReferenceAdamSmallIdeal.nD → PrngReg), Pre_KernelAdamSmallIdeal m →
    (∀ c : Dev Cert.KernelAdamSmallIdeal.nD,
      m' ((c.tc : Thread Cert.ReferenceAdamSmallIdeal.nD Cert.ReferenceAdamSmallIdeal.τ).loc Cert.ReferenceAdamSmallIdeal.main_arg0) = m ((c.tc : Thread Cert.KernelAdamSmallIdeal.nD Cert.KernelAdamSmallIdeal.τ).loc Cert.KernelAdamSmallIdeal.main_arg0)
      ∧ m' ((c.tc : Thread Cert.ReferenceAdamSmallIdeal.nD Cert.ReferenceAdamSmallIdeal.τ).loc Cert.ReferenceAdamSmallIdeal.main_arg1) = m ((c.tc : Thread Cert.KernelAdamSmallIdeal.nD Cert.KernelAdamSmallIdeal.τ).loc Cert.KernelAdamSmallIdeal.main_arg1)
      ∧ m' ((c.tc : Thread Cert.ReferenceAdamSmallIdeal.nD Cert.ReferenceAdamSmallIdeal.τ).loc Cert.ReferenceAdamSmallIdeal.main_arg2) = m ((c.tc : Thread Cert.KernelAdamSmallIdeal.nD Cert.KernelAdamSmallIdeal.τ).loc Cert.KernelAdamSmallIdeal.main_arg2)
      ∧ m' ((c.tc : Thread Cert.ReferenceAdamSmallIdeal.nD Cert.ReferenceAdamSmallIdeal.τ).loc Cert.ReferenceAdamSmallIdeal.main_arg3) = m ((c.tc : Thread Cert.KernelAdamSmallIdeal.nD Cert.KernelAdamSmallIdeal.τ).loc Cert.KernelAdamSmallIdeal.main_arg3)) →
    ∃ (v0 : (c : Dev Cert.KernelAdamSmallIdeal.nD) → Buf (Elt Ideal) ((c.tc : Thread Cert.KernelAdamSmallIdeal.nD Cert.KernelAdamSmallIdeal.τ).loc Cert.KernelAdamSmallIdeal.main_v0_0)) (v1 : (c : Dev Cert.KernelAdamSmallIdeal.nD) → Buf (Elt Ideal) ((c.tc : Thread Cert.KernelAdamSmallIdeal.nD Cert.KernelAdamSmallIdeal.τ).loc Cert.KernelAdamSmallIdeal.main_v0_1)) (v2 : (c : Dev Cert.KernelAdamSmallIdeal.nD) → Buf (Elt Ideal) ((c.tc : Thread Cert.KernelAdamSmallIdeal.nD Cert.KernelAdamSmallIdeal.τ).loc Cert.KernelAdamSmallIdeal.main_v0_2)) (v3 : (c : Dev Cert.KernelAdamSmallIdeal.nD) → Buf (Elt Ideal) ((c.tc : Thread Cert.KernelAdamSmallIdeal.nD Cert.KernelAdamSmallIdeal.τ).loc Cert.KernelAdamSmallIdeal.main_v0_3)),
      θ_run (Cert.KernelAdamSmallIdeal.defs (F := Ideal)) (onTc (τ := Cert.KernelAdamSmallIdeal.τ) (Cert.KernelAdamSmallIdeal.main (F := Ideal))) ⟨m, fun _ => 0, g⟩ (fun r => ∀ c : Dev Cert.KernelAdamSmallIdeal.nD,
          r.2.mem ((c.tc : Thread Cert.KernelAdamSmallIdeal.nD Cert.KernelAdamSmallIdeal.τ).loc Cert.KernelAdamSmallIdeal.main_v0_0) = v0 c
          ∧ r.2.mem ((c.tc : Thread Cert.KernelAdamSmallIdeal.nD Cert.KernelAdamSmallIdeal.τ).loc Cert.KernelAdamSmallIdeal.main_v0_1) = v1 c
          ∧ r.2.mem ((c.tc : Thread Cert.KernelAdamSmallIdeal.nD Cert.KernelAdamSmallIdeal.τ).loc Cert.KernelAdamSmallIdeal.main_v0_2) = v2 c
          ∧ r.2.mem ((c.tc : Thread Cert.KernelAdamSmallIdeal.nD Cert.KernelAdamSmallIdeal.τ).loc Cert.KernelAdamSmallIdeal.main_v0_3) = v3 c
          ∧ r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
          ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
          ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
          ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ θ_run (Cert.ReferenceAdamSmallIdeal.defs (F := Ideal)) (onTc (τ := Cert.ReferenceAdamSmallIdeal.τ) (Cert.ReferenceAdamSmallIdeal.main (F := Ideal))) ⟨m', fun _ => 0, g'⟩ (fun r => ∀ c : Dev Cert.ReferenceAdamSmallIdeal.nD,
          r.2.mem ((c.tc : Thread Cert.ReferenceAdamSmallIdeal.nD Cert.ReferenceAdamSmallIdeal.τ).loc Cert.ReferenceAdamSmallIdeal.main_v0) = v0 c
          ∧ r.2.mem ((c.tc : Thread Cert.ReferenceAdamSmallIdeal.nD Cert.ReferenceAdamSmallIdeal.τ).loc Cert.ReferenceAdamSmallIdeal.main_v24) = v1 c
          ∧ r.2.mem ((c.tc : Thread Cert.ReferenceAdamSmallIdeal.nD Cert.ReferenceAdamSmallIdeal.τ).loc Cert.ReferenceAdamSmallIdeal.main_v5) = v2 c
          ∧ r.2.mem ((c.tc : Thread Cert.ReferenceAdamSmallIdeal.nD Cert.ReferenceAdamSmallIdeal.τ).loc Cert.ReferenceAdamSmallIdeal.main_v11) = v3 c
          ∧ r.2.mem ((c.tc : Thread Cert.ReferenceAdamSmallIdeal.nD Cert.ReferenceAdamSmallIdeal.τ).loc Cert.ReferenceAdamSmallIdeal.main_arg0) = m' ((c.tc : Thread Cert.ReferenceAdamSmallIdeal.nD Cert.ReferenceAdamSmallIdeal.τ).loc Cert.ReferenceAdamSmallIdeal.main_arg0)
          ∧ r.2.mem ((c.tc : Thread Cert.ReferenceAdamSmallIdeal.nD Cert.ReferenceAdamSmallIdeal.τ).loc Cert.ReferenceAdamSmallIdeal.main_arg1) = m' ((c.tc : Thread Cert.ReferenceAdamSmallIdeal.nD Cert.ReferenceAdamSmallIdeal.τ).loc Cert.ReferenceAdamSmallIdeal.main_arg1)
          ∧ r.2.mem ((c.tc : Thread Cert.ReferenceAdamSmallIdeal.nD Cert.ReferenceAdamSmallIdeal.τ).loc Cert.ReferenceAdamSmallIdeal.main_arg2) = m' ((c.tc : Thread Cert.ReferenceAdamSmallIdeal.nD Cert.ReferenceAdamSmallIdeal.τ).loc Cert.ReferenceAdamSmallIdeal.main_arg2)
          ∧ r.2.mem ((c.tc : Thread Cert.ReferenceAdamSmallIdeal.nD Cert.ReferenceAdamSmallIdeal.τ).loc Cert.ReferenceAdamSmallIdeal.main_arg3) = m' ((c.tc : Thread Cert.ReferenceAdamSmallIdeal.nD Cert.ReferenceAdamSmallIdeal.τ).loc Cert.ReferenceAdamSmallIdeal.main_arg3))

def preserves_KernelFfnConv_KernelFfnConvIdeal : Prop :=
  True

def algebraic_KernelFfnConvIdeal_ReferenceFfnConvIdeal [hKernelFfnConvIdeal : Cert.KernelFfnConvIdeal.Facts] [hReferenceFfnConvIdeal : Cert.ReferenceFfnConvIdeal.Facts] : Prop :=
  ∀ (m : (ℓ : Loc Cert.KernelFfnConvIdeal.nD Cert.KernelFfnConvIdeal.τ Cert.KernelFfnConvIdeal.sig) → Buf (Elt Ideal) ℓ) (g : Dev Cert.KernelFfnConvIdeal.nD → PrngReg)
    (m' : (ℓ : Loc Cert.ReferenceFfnConvIdeal.nD Cert.ReferenceFfnConvIdeal.τ Cert.ReferenceFfnConvIdeal.sig) → Buf (Elt Ideal) ℓ) (g' : Dev Cert.ReferenceFfnConvIdeal.nD → PrngReg), Pre_KernelFfnConvIdeal m →
    (∀ c : Dev Cert.KernelFfnConvIdeal.nD,
      m' ((c.tc : Thread Cert.ReferenceFfnConvIdeal.nD Cert.ReferenceFfnConvIdeal.τ).loc Cert.ReferenceFfnConvIdeal.main_arg0) = m ((c.tc : Thread Cert.KernelFfnConvIdeal.nD Cert.KernelFfnConvIdeal.τ).loc Cert.KernelFfnConvIdeal.main_arg0)
      ∧ m' ((c.tc : Thread Cert.ReferenceFfnConvIdeal.nD Cert.ReferenceFfnConvIdeal.τ).loc Cert.ReferenceFfnConvIdeal.main_arg1) = m ((c.tc : Thread Cert.KernelFfnConvIdeal.nD Cert.KernelFfnConvIdeal.τ).loc Cert.KernelFfnConvIdeal.main_arg1)
      ∧ m' ((c.tc : Thread Cert.ReferenceFfnConvIdeal.nD Cert.ReferenceFfnConvIdeal.τ).loc Cert.ReferenceFfnConvIdeal.main_arg2) = m ((c.tc : Thread Cert.KernelFfnConvIdeal.nD Cert.KernelFfnConvIdeal.τ).loc Cert.KernelFfnConvIdeal.main_arg2)) →
    ∃ (v0 : (c : Dev Cert.KernelFfnConvIdeal.nD) → Buf (Elt Ideal) ((c.tc : Thread Cert.KernelFfnConvIdeal.nD Cert.KernelFfnConvIdeal.τ).loc Cert.KernelFfnConvIdeal.main_v1)),
      θ_run (Cert.KernelFfnConvIdeal.defs (F := Ideal)) (onTc (τ := Cert.KernelFfnConvIdeal.τ) (Cert.KernelFfnConvIdeal.main (F := Ideal))) ⟨m, fun _ => 0, g⟩ (fun r => ∀ c : Dev Cert.KernelFfnConvIdeal.nD,
          r.2.mem ((c.tc : Thread Cert.KernelFfnConvIdeal.nD Cert.KernelFfnConvIdeal.τ).loc Cert.KernelFfnConvIdeal.main_v1) = v0 c
          ∧ r.2.mem ((c.tc : Thread Cert.KernelFfnConvIdeal.nD Cert.KernelFfnConvIdeal.τ).loc Cert.KernelFfnConvIdeal.main_arg0) = m ((c.tc : Thread Cert.KernelFfnConvIdeal.nD Cert.KernelFfnConvIdeal.τ).loc Cert.KernelFfnConvIdeal.main_arg0)
          ∧ r.2.mem ((c.tc : Thread Cert.KernelFfnConvIdeal.nD Cert.KernelFfnConvIdeal.τ).loc Cert.KernelFfnConvIdeal.main_arg1) = m ((c.tc : Thread Cert.KernelFfnConvIdeal.nD Cert.KernelFfnConvIdeal.τ).loc Cert.KernelFfnConvIdeal.main_arg1)
          ∧ r.2.mem ((c.tc : Thread Cert.KernelFfnConvIdeal.nD Cert.KernelFfnConvIdeal.τ).loc Cert.KernelFfnConvIdeal.main_arg2) = m ((c.tc : Thread Cert.KernelFfnConvIdeal.nD Cert.KernelFfnConvIdeal.τ).loc Cert.KernelFfnConvIdeal.main_arg2))
      ∧ θ_run (Cert.ReferenceFfnConvIdeal.defs (F := Ideal)) (onTc (τ := Cert.ReferenceFfnConvIdeal.τ) (Cert.ReferenceFfnConvIdeal.main (F := Ideal))) ⟨m', fun _ => 0, g'⟩ (fun r => ∀ c : Dev Cert.ReferenceFfnConvIdeal.nD,
          r.2.mem ((c.tc : Thread Cert.ReferenceFfnConvIdeal.nD Cert.ReferenceFfnConvIdeal.τ).loc Cert.ReferenceFfnConvIdeal.main_v35) = v0 c
          ∧ r.2.mem ((c.tc : Thread Cert.ReferenceFfnConvIdeal.nD Cert.ReferenceFfnConvIdeal.τ).loc Cert.ReferenceFfnConvIdeal.main_arg0) = m' ((c.tc : Thread Cert.ReferenceFfnConvIdeal.nD Cert.ReferenceFfnConvIdeal.τ).loc Cert.ReferenceFfnConvIdeal.main_arg0)
          ∧ r.2.mem ((c.tc : Thread Cert.ReferenceFfnConvIdeal.nD Cert.ReferenceFfnConvIdeal.τ).loc Cert.ReferenceFfnConvIdeal.main_arg1) = m' ((c.tc : Thread Cert.ReferenceFfnConvIdeal.nD Cert.ReferenceFfnConvIdeal.τ).loc Cert.ReferenceFfnConvIdeal.main_arg1)
          ∧ r.2.mem ((c.tc : Thread Cert.ReferenceFfnConvIdeal.nD Cert.ReferenceFfnConvIdeal.τ).loc Cert.ReferenceFfnConvIdeal.main_arg2) = m' ((c.tc : Thread Cert.ReferenceFfnConvIdeal.nD Cert.ReferenceFfnConvIdeal.τ).loc Cert.ReferenceFfnConvIdeal.main_arg2))

def preserves_KernelSsmConv_KernelSsmConvIdeal : Prop :=
  True

def algebraic_KernelSsmConvIdeal_ReferenceSsmConvIdeal [hKernelSsmConvIdeal : Cert.KernelSsmConvIdeal.Facts] [hReferenceSsmConvIdeal : Cert.ReferenceSsmConvIdeal.Facts] : Prop :=
  ∀ (m : (ℓ : Loc Cert.KernelSsmConvIdeal.nD Cert.KernelSsmConvIdeal.τ Cert.KernelSsmConvIdeal.sig) → Buf (Elt Ideal) ℓ) (g : Dev Cert.KernelSsmConvIdeal.nD → PrngReg)
    (m' : (ℓ : Loc Cert.ReferenceSsmConvIdeal.nD Cert.ReferenceSsmConvIdeal.τ Cert.ReferenceSsmConvIdeal.sig) → Buf (Elt Ideal) ℓ) (g' : Dev Cert.ReferenceSsmConvIdeal.nD → PrngReg), Pre_KernelSsmConvIdeal m →
    (∀ c : Dev Cert.KernelSsmConvIdeal.nD,
      m' ((c.tc : Thread Cert.ReferenceSsmConvIdeal.nD Cert.ReferenceSsmConvIdeal.τ).loc Cert.ReferenceSsmConvIdeal.main_arg0) = m ((c.tc : Thread Cert.KernelSsmConvIdeal.nD Cert.KernelSsmConvIdeal.τ).loc Cert.KernelSsmConvIdeal.main_arg0)
      ∧ m' ((c.tc : Thread Cert.ReferenceSsmConvIdeal.nD Cert.ReferenceSsmConvIdeal.τ).loc Cert.ReferenceSsmConvIdeal.main_arg1) = m ((c.tc : Thread Cert.KernelSsmConvIdeal.nD Cert.KernelSsmConvIdeal.τ).loc Cert.KernelSsmConvIdeal.main_arg1)
      ∧ m' ((c.tc : Thread Cert.ReferenceSsmConvIdeal.nD Cert.ReferenceSsmConvIdeal.τ).loc Cert.ReferenceSsmConvIdeal.main_arg2) = m ((c.tc : Thread Cert.KernelSsmConvIdeal.nD Cert.KernelSsmConvIdeal.τ).loc Cert.KernelSsmConvIdeal.main_arg2)) →
    ∃ (v0 : (c : Dev Cert.KernelSsmConvIdeal.nD) → Buf (Elt Ideal) ((c.tc : Thread Cert.KernelSsmConvIdeal.nD Cert.KernelSsmConvIdeal.τ).loc Cert.KernelSsmConvIdeal.main_v1)),
      θ_run (Cert.KernelSsmConvIdeal.defs (F := Ideal)) (onTc (τ := Cert.KernelSsmConvIdeal.τ) (Cert.KernelSsmConvIdeal.main (F := Ideal))) ⟨m, fun _ => 0, g⟩ (fun r => ∀ c : Dev Cert.KernelSsmConvIdeal.nD,
          r.2.mem ((c.tc : Thread Cert.KernelSsmConvIdeal.nD Cert.KernelSsmConvIdeal.τ).loc Cert.KernelSsmConvIdeal.main_v1) = v0 c
          ∧ r.2.mem ((c.tc : Thread Cert.KernelSsmConvIdeal.nD Cert.KernelSsmConvIdeal.τ).loc Cert.KernelSsmConvIdeal.main_arg0) = m ((c.tc : Thread Cert.KernelSsmConvIdeal.nD Cert.KernelSsmConvIdeal.τ).loc Cert.KernelSsmConvIdeal.main_arg0)
          ∧ r.2.mem ((c.tc : Thread Cert.KernelSsmConvIdeal.nD Cert.KernelSsmConvIdeal.τ).loc Cert.KernelSsmConvIdeal.main_arg1) = m ((c.tc : Thread Cert.KernelSsmConvIdeal.nD Cert.KernelSsmConvIdeal.τ).loc Cert.KernelSsmConvIdeal.main_arg1)
          ∧ r.2.mem ((c.tc : Thread Cert.KernelSsmConvIdeal.nD Cert.KernelSsmConvIdeal.τ).loc Cert.KernelSsmConvIdeal.main_arg2) = m ((c.tc : Thread Cert.KernelSsmConvIdeal.nD Cert.KernelSsmConvIdeal.τ).loc Cert.KernelSsmConvIdeal.main_arg2))
      ∧ θ_run (Cert.ReferenceSsmConvIdeal.defs (F := Ideal)) (onTc (τ := Cert.ReferenceSsmConvIdeal.τ) (Cert.ReferenceSsmConvIdeal.main (F := Ideal))) ⟨m', fun _ => 0, g'⟩ (fun r => ∀ c : Dev Cert.ReferenceSsmConvIdeal.nD,
          r.2.mem ((c.tc : Thread Cert.ReferenceSsmConvIdeal.nD Cert.ReferenceSsmConvIdeal.τ).loc Cert.ReferenceSsmConvIdeal.main_v33) = v0 c
          ∧ r.2.mem ((c.tc : Thread Cert.ReferenceSsmConvIdeal.nD Cert.ReferenceSsmConvIdeal.τ).loc Cert.ReferenceSsmConvIdeal.main_arg0) = m' ((c.tc : Thread Cert.ReferenceSsmConvIdeal.nD Cert.ReferenceSsmConvIdeal.τ).loc Cert.ReferenceSsmConvIdeal.main_arg0)
          ∧ r.2.mem ((c.tc : Thread Cert.ReferenceSsmConvIdeal.nD Cert.ReferenceSsmConvIdeal.τ).loc Cert.ReferenceSsmConvIdeal.main_arg1) = m' ((c.tc : Thread Cert.ReferenceSsmConvIdeal.nD Cert.ReferenceSsmConvIdeal.τ).loc Cert.ReferenceSsmConvIdeal.main_arg1)
          ∧ r.2.mem ((c.tc : Thread Cert.ReferenceSsmConvIdeal.nD Cert.ReferenceSsmConvIdeal.τ).loc Cert.ReferenceSsmConvIdeal.main_arg2) = m' ((c.tc : Thread Cert.ReferenceSsmConvIdeal.nD Cert.ReferenceSsmConvIdeal.τ).loc Cert.ReferenceSsmConvIdeal.main_arg2))

def preserves_KernelLossHead_KernelLossHeadIdeal : Prop :=
  True

def algebraic_KernelLossHeadIdeal_ReferenceLossHeadIdeal [hKernelLossHeadIdeal : Cert.KernelLossHeadIdeal.Facts] [hReferenceLossHeadIdeal : Cert.ReferenceLossHeadIdeal.Facts] : Prop :=
  ∀ (m : (ℓ : Loc Cert.KernelLossHeadIdeal.nD Cert.KernelLossHeadIdeal.τ Cert.KernelLossHeadIdeal.sig) → Buf (Elt Ideal) ℓ) (g : Dev Cert.KernelLossHeadIdeal.nD → PrngReg)
    (m' : (ℓ : Loc Cert.ReferenceLossHeadIdeal.nD Cert.ReferenceLossHeadIdeal.τ Cert.ReferenceLossHeadIdeal.sig) → Buf (Elt Ideal) ℓ) (g' : Dev Cert.ReferenceLossHeadIdeal.nD → PrngReg), Pre_KernelLossHeadIdeal m →
    (∀ c : Dev Cert.KernelLossHeadIdeal.nD,
      m' ((c.tc : Thread Cert.ReferenceLossHeadIdeal.nD Cert.ReferenceLossHeadIdeal.τ).loc Cert.ReferenceLossHeadIdeal.main_arg0) = m ((c.tc : Thread Cert.KernelLossHeadIdeal.nD Cert.KernelLossHeadIdeal.τ).loc Cert.KernelLossHeadIdeal.main_arg0)
      ∧ m' ((c.tc : Thread Cert.ReferenceLossHeadIdeal.nD Cert.ReferenceLossHeadIdeal.τ).loc Cert.ReferenceLossHeadIdeal.main_arg1) = m ((c.tc : Thread Cert.KernelLossHeadIdeal.nD Cert.KernelLossHeadIdeal.τ).loc Cert.KernelLossHeadIdeal.main_arg1)
      ∧ m' ((c.tc : Thread Cert.ReferenceLossHeadIdeal.nD Cert.ReferenceLossHeadIdeal.τ).loc Cert.ReferenceLossHeadIdeal.main_arg2) = m ((c.tc : Thread Cert.KernelLossHeadIdeal.nD Cert.KernelLossHeadIdeal.τ).loc Cert.KernelLossHeadIdeal.main_arg2)) →
    ∃ (v0 : (c : Dev Cert.KernelLossHeadIdeal.nD) → Buf (Elt Ideal) ((c.tc : Thread Cert.KernelLossHeadIdeal.nD Cert.KernelLossHeadIdeal.τ).loc Cert.KernelLossHeadIdeal.main_v1_0)) (v1 : (c : Dev Cert.KernelLossHeadIdeal.nD) → Buf (Elt Ideal) ((c.tc : Thread Cert.KernelLossHeadIdeal.nD Cert.KernelLossHeadIdeal.τ).loc Cert.KernelLossHeadIdeal.main_v1_1)) (v2 : (c : Dev Cert.KernelLossHeadIdeal.nD) → Buf (Elt Ideal) ((c.tc : Thread Cert.KernelLossHeadIdeal.nD Cert.KernelLossHeadIdeal.τ).loc Cert.KernelLossHeadIdeal.main_v1_2)),
      θ_run (Cert.KernelLossHeadIdeal.defs (F := Ideal)) (onTc (τ := Cert.KernelLossHeadIdeal.τ) (Cert.KernelLossHeadIdeal.main (F := Ideal))) ⟨m, fun _ => 0, g⟩ (fun r => ∀ c : Dev Cert.KernelLossHeadIdeal.nD,
          r.2.mem ((c.tc : Thread Cert.KernelLossHeadIdeal.nD Cert.KernelLossHeadIdeal.τ).loc Cert.KernelLossHeadIdeal.main_v1_0) = v0 c
          ∧ r.2.mem ((c.tc : Thread Cert.KernelLossHeadIdeal.nD Cert.KernelLossHeadIdeal.τ).loc Cert.KernelLossHeadIdeal.main_v1_1) = v1 c
          ∧ r.2.mem ((c.tc : Thread Cert.KernelLossHeadIdeal.nD Cert.KernelLossHeadIdeal.τ).loc Cert.KernelLossHeadIdeal.main_v1_2) = v2 c
          ∧ r.2.mem ((c.tc : Thread Cert.KernelLossHeadIdeal.nD Cert.KernelLossHeadIdeal.τ).loc Cert.KernelLossHeadIdeal.main_arg0) = m ((c.tc : Thread Cert.KernelLossHeadIdeal.nD Cert.KernelLossHeadIdeal.τ).loc Cert.KernelLossHeadIdeal.main_arg0)
          ∧ r.2.mem ((c.tc : Thread Cert.KernelLossHeadIdeal.nD Cert.KernelLossHeadIdeal.τ).loc Cert.KernelLossHeadIdeal.main_arg1) = m ((c.tc : Thread Cert.KernelLossHeadIdeal.nD Cert.KernelLossHeadIdeal.τ).loc Cert.KernelLossHeadIdeal.main_arg1)
          ∧ r.2.mem ((c.tc : Thread Cert.KernelLossHeadIdeal.nD Cert.KernelLossHeadIdeal.τ).loc Cert.KernelLossHeadIdeal.main_arg2) = m ((c.tc : Thread Cert.KernelLossHeadIdeal.nD Cert.KernelLossHeadIdeal.τ).loc Cert.KernelLossHeadIdeal.main_arg2))
      ∧ θ_run (Cert.ReferenceLossHeadIdeal.defs (F := Ideal)) (onTc (τ := Cert.ReferenceLossHeadIdeal.τ) (Cert.ReferenceLossHeadIdeal.main (F := Ideal))) ⟨m', fun _ => 0, g'⟩ (fun r => ∀ c : Dev Cert.ReferenceLossHeadIdeal.nD,
          r.2.mem ((c.tc : Thread Cert.ReferenceLossHeadIdeal.nD Cert.ReferenceLossHeadIdeal.τ).loc Cert.ReferenceLossHeadIdeal.main_v51) = v0 c
          ∧ r.2.mem ((c.tc : Thread Cert.ReferenceLossHeadIdeal.nD Cert.ReferenceLossHeadIdeal.τ).loc Cert.ReferenceLossHeadIdeal.main_v50) = v1 c
          ∧ r.2.mem ((c.tc : Thread Cert.ReferenceLossHeadIdeal.nD Cert.ReferenceLossHeadIdeal.τ).loc Cert.ReferenceLossHeadIdeal.main_v52) = v2 c
          ∧ r.2.mem ((c.tc : Thread Cert.ReferenceLossHeadIdeal.nD Cert.ReferenceLossHeadIdeal.τ).loc Cert.ReferenceLossHeadIdeal.main_arg0) = m' ((c.tc : Thread Cert.ReferenceLossHeadIdeal.nD Cert.ReferenceLossHeadIdeal.τ).loc Cert.ReferenceLossHeadIdeal.main_arg0)
          ∧ r.2.mem ((c.tc : Thread Cert.ReferenceLossHeadIdeal.nD Cert.ReferenceLossHeadIdeal.τ).loc Cert.ReferenceLossHeadIdeal.main_arg1) = m' ((c.tc : Thread Cert.ReferenceLossHeadIdeal.nD Cert.ReferenceLossHeadIdeal.τ).loc Cert.ReferenceLossHeadIdeal.main_arg1)
          ∧ r.2.mem ((c.tc : Thread Cert.ReferenceLossHeadIdeal.nD Cert.ReferenceLossHeadIdeal.τ).loc Cert.ReferenceLossHeadIdeal.main_arg2) = m' ((c.tc : Thread Cert.ReferenceLossHeadIdeal.nD Cert.ReferenceLossHeadIdeal.τ).loc Cert.ReferenceLossHeadIdeal.main_arg2))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)
      ∧ m' ((c.tc : Thread Cert.ReferenceGateIdeal.nD Cert.ReferenceGateIdeal.τ).loc Cert.ReferenceGateIdeal.main_arg3) = m ((c.tc : Thread Cert.KernelGateIdeal.nD Cert.KernelGateIdeal.τ).loc Cert.KernelGateIdeal.main_arg3)) →
    ∃ (v0 : (c : Dev Cert.KernelGateIdeal.nD) → Buf (Elt Ideal) ((c.tc : Thread Cert.KernelGateIdeal.nD Cert.KernelGateIdeal.τ).loc Cert.KernelGateIdeal.main_v1_0)) (v1 : (c : Dev Cert.KernelGateIdeal.nD) → Buf (Elt Ideal) ((c.tc : Thread Cert.KernelGateIdeal.nD Cert.KernelGateIdeal.τ).loc Cert.KernelGateIdeal.main_v1_1)) (v2 : (c : Dev Cert.KernelGateIdeal.nD) → Buf (Elt Ideal) ((c.tc : Thread Cert.KernelGateIdeal.nD Cert.KernelGateIdeal.τ).loc Cert.KernelGateIdeal.main_v1_2)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v1_0) = v0 c
          ∧ r.2.mem ((c.tc : Thread Cert.KernelGateIdeal.nD Cert.KernelGateIdeal.τ).loc Cert.KernelGateIdeal.main_v1_1) = v1 c
          ∧ r.2.mem ((c.tc : Thread Cert.KernelGateIdeal.nD Cert.KernelGateIdeal.τ).loc Cert.KernelGateIdeal.main_v1_2) = v2 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
          ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v70) = v0 c
          ∧ r.2.mem ((c.tc : Thread Cert.ReferenceGateIdeal.nD Cert.ReferenceGateIdeal.τ).loc Cert.ReferenceGateIdeal.main_v75) = v1 c
          ∧ r.2.mem ((c.tc : Thread Cert.ReferenceGateIdeal.nD Cert.ReferenceGateIdeal.τ).loc Cert.ReferenceGateIdeal.main_v82) = v2 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2)
          ∧ r.2.mem ((c.tc : Thread Cert.ReferenceGateIdeal.nD Cert.ReferenceGateIdeal.τ).loc Cert.ReferenceGateIdeal.main_arg3) = m' ((c.tc : Thread Cert.ReferenceGateIdeal.nD Cert.ReferenceGateIdeal.τ).loc Cert.ReferenceGateIdeal.main_arg3))

def preserves_KernelSsmConvD_KernelSsmConvDIdeal : Prop :=
  True

def algebraic_KernelSsmConvDIdeal_ReferenceSsmConvDIdeal [hKernelSsmConvDIdeal : Cert.KernelSsmConvDIdeal.Facts] [hReferenceSsmConvDIdeal : Cert.ReferenceSsmConvDIdeal.Facts] : Prop :=
  ∀ (m : (ℓ : Loc Cert.KernelSsmConvDIdeal.nD Cert.KernelSsmConvDIdeal.τ Cert.KernelSsmConvDIdeal.sig) → Buf (Elt Ideal) ℓ) (g : Dev Cert.KernelSsmConvDIdeal.nD → PrngReg)
    (m' : (ℓ : Loc Cert.ReferenceSsmConvDIdeal.nD Cert.ReferenceSsmConvDIdeal.τ Cert.ReferenceSsmConvDIdeal.sig) → Buf (Elt Ideal) ℓ) (g' : Dev Cert.ReferenceSsmConvDIdeal.nD → PrngReg), Pre_KernelSsmConvDIdeal m →
    (∀ c : Dev Cert.KernelSsmConvDIdeal.nD,
      m' ((c.tc : Thread Cert.ReferenceSsmConvDIdeal.nD Cert.ReferenceSsmConvDIdeal.τ).loc Cert.ReferenceSsmConvDIdeal.main_arg0) = m ((c.tc : Thread Cert.KernelSsmConvDIdeal.nD Cert.KernelSsmConvDIdeal.τ).loc Cert.KernelSsmConvDIdeal.main_arg0)
      ∧ m' ((c.tc : Thread Cert.ReferenceSsmConvDIdeal.nD Cert.ReferenceSsmConvDIdeal.τ).loc Cert.ReferenceSsmConvDIdeal.main_arg1) = m ((c.tc : Thread Cert.KernelSsmConvDIdeal.nD Cert.KernelSsmConvDIdeal.τ).loc Cert.KernelSsmConvDIdeal.main_arg1)
      ∧ m' ((c.tc : Thread Cert.ReferenceSsmConvDIdeal.nD Cert.ReferenceSsmConvDIdeal.τ).loc Cert.ReferenceSsmConvDIdeal.main_arg2) = m ((c.tc : Thread Cert.KernelSsmConvDIdeal.nD Cert.KernelSsmConvDIdeal.τ).loc Cert.KernelSsmConvDIdeal.main_arg2)
      ∧ m' ((c.tc : Thread Cert.ReferenceSsmConvDIdeal.nD Cert.ReferenceSsmConvDIdeal.τ).loc Cert.ReferenceSsmConvDIdeal.main_arg3) = m ((c.tc : Thread Cert.KernelSsmConvDIdeal.nD Cert.KernelSsmConvDIdeal.τ).loc Cert.KernelSsmConvDIdeal.main_arg3)) →
    ∃ (v0 : (c : Dev Cert.KernelSsmConvDIdeal.nD) → Buf (Elt Ideal) ((c.tc : Thread Cert.KernelSsmConvDIdeal.nD Cert.KernelSsmConvDIdeal.τ).loc Cert.KernelSsmConvDIdeal.main_v1_0)) (v1 : (c : Dev Cert.KernelSsmConvDIdeal.nD) → Buf (Elt Ideal) ((c.tc : Thread Cert.KernelSsmConvDIdeal.nD Cert.KernelSsmConvDIdeal.τ).loc Cert.KernelSsmConvDIdeal.main_v1_1)) (v2 : (c : Dev Cert.KernelSsmConvDIdeal.nD) → Buf (Elt Ideal) ((c.tc : Thread Cert.KernelSsmConvDIdeal.nD Cert.KernelSsmConvDIdeal.τ).loc Cert.KernelSsmConvDIdeal.main_v1_2)),
      θ_run (Cert.KernelSsmConvDIdeal.defs (F := Ideal)) (onTc (τ := Cert.KernelSsmConvDIdeal.τ) (Cert.KernelSsmConvDIdeal.main (F := Ideal))) ⟨m, fun _ => 0, g⟩ (fun r => ∀ c : Dev Cert.KernelSsmConvDIdeal.nD,
          r.2.mem ((c.tc : Thread Cert.KernelSsmConvDIdeal.nD Cert.KernelSsmConvDIdeal.τ).loc Cert.KernelSsmConvDIdeal.main_v1_0) = v0 c
          ∧ r.2.mem ((c.tc : Thread Cert.KernelSsmConvDIdeal.nD Cert.KernelSsmConvDIdeal.τ).loc Cert.KernelSsmConvDIdeal.main_v1_1) = v1 c
          ∧ r.2.mem ((c.tc : Thread Cert.KernelSsmConvDIdeal.nD Cert.KernelSsmConvDIdeal.τ).loc Cert.KernelSsmConvDIdeal.main_v1_2) = v2 c
          ∧ r.2.mem ((c.tc : Thread Cert.KernelSsmConvDIdeal.nD Cert.KernelSsmConvDIdeal.τ).loc Cert.KernelSsmConvDIdeal.main_arg0) = m ((c.tc : Thread Cert.KernelSsmConvDIdeal.nD Cert.KernelSsmConvDIdeal.τ).loc Cert.KernelSsmConvDIdeal.main_arg0)
          ∧ r.2.mem ((c.tc : Thread Cert.KernelSsmConvDIdeal.nD Cert.KernelSsmConvDIdeal.τ).loc Cert.KernelSsmConvDIdeal.main_arg1) = m ((c.tc : Thread Cert.KernelSsmConvDIdeal.nD Cert.KernelSsmConvDIdeal.τ).loc Cert.KernelSsmConvDIdeal.main_arg1)
          ∧ r.2.mem ((c.tc : Thread Cert.KernelSsmConvDIdeal.nD Cert.KernelSsmConvDIdeal.τ).loc Cert.KernelSsmConvDIdeal.main_arg2) = m ((c.tc : Thread Cert.KernelSsmConvDIdeal.nD Cert.KernelSsmConvDIdeal.τ).loc Cert.KernelSsmConvDIdeal.main_arg2)
          ∧ r.2.mem ((c.tc : Thread Cert.KernelSsmConvDIdeal.nD Cert.KernelSsmConvDIdeal.τ).loc Cert.KernelSsmConvDIdeal.main_arg3) = m ((c.tc : Thread Cert.KernelSsmConvDIdeal.nD Cert.KernelSsmConvDIdeal.τ).loc Cert.KernelSsmConvDIdeal.main_arg3))
      ∧ θ_run (Cert.ReferenceSsmConvDIdeal.defs (F := Ideal)) (onTc (τ := Cert.ReferenceSsmConvDIdeal.τ) (Cert.ReferenceSsmConvDIdeal.main (F := Ideal))) ⟨m', fun _ => 0, g'⟩ (fun r => ∀ c : Dev Cert.ReferenceSsmConvDIdeal.nD,
          r.2.mem ((c.tc : Thread Cert.ReferenceSsmConvDIdeal.nD Cert.ReferenceSsmConvDIdeal.τ).loc Cert.ReferenceSsmConvDIdeal.main_v36) = v0 c
          ∧ r.2.mem ((c.tc : Thread Cert.ReferenceSsmConvDIdeal.nD Cert.ReferenceSsmConvDIdeal.τ).loc Cert.ReferenceSsmConvDIdeal.main_v66) = v1 c
          ∧ r.2.mem ((c.tc : Thread Cert.ReferenceSsmConvDIdeal.nD Cert.ReferenceSsmConvDIdeal.τ).loc Cert.ReferenceSsmConvDIdeal.main_v67) = v2 c
          ∧ r.2.mem ((c.tc : Thread Cert.ReferenceSsmConvDIdeal.nD Cert.ReferenceSsmConvDIdeal.τ).loc Cert.ReferenceSsmConvDIdeal.main_arg0) = m' ((c.tc : Thread Cert.ReferenceSsmConvDIdeal.nD Cert.ReferenceSsmConvDIdeal.τ).loc Cert.ReferenceSsmConvDIdeal.main_arg0)
          ∧ r.2.mem ((c.tc : Thread Cert.ReferenceSsmConvDIdeal.nD Cert.ReferenceSsmConvDIdeal.τ).loc Cert.ReferenceSsmConvDIdeal.main_arg1) = m' ((c.tc : Thread Cert.ReferenceSsmConvDIdeal.nD Cert.ReferenceSsmConvDIdeal.τ).loc Cert.ReferenceSsmConvDIdeal.main_arg1)
          ∧ r.2.mem ((c.tc : Thread Cert.ReferenceSsmConvDIdeal.nD Cert.ReferenceSsmConvDIdeal.τ).loc Cert.ReferenceSsmConvDIdeal.main_arg2) = m' ((c.tc : Thread Cert.ReferenceSsmConvDIdeal.nD Cert.ReferenceSsmConvDIdeal.τ).loc Cert.ReferenceSsmConvDIdeal.main_arg2)
          ∧ r.2.mem ((c.tc : Thread Cert.ReferenceSsmConvDIdeal.nD Cert.ReferenceSsmConvDIdeal.τ).loc Cert.ReferenceSsmConvDIdeal.main_arg3) = m' ((c.tc : Thread Cert.ReferenceSsmConvDIdeal.nD Cert.ReferenceSsmConvDIdeal.τ).loc Cert.ReferenceSsmConvDIdeal.main_arg3))

def preserves_KernelSsmConvIn_KernelSsmConvInIdeal : Prop :=
  True

def algebraic_KernelSsmConvInIdeal_ReferenceSsmConvInIdeal [hKernelSsmConvInIdeal : Cert.KernelSsmConvInIdeal.Facts] [hReferenceSsmConvInIdeal : Cert.ReferenceSsmConvInIdeal.Facts] : Prop :=
  ∀ (m : (ℓ : Loc Cert.KernelSsmConvInIdeal.nD Cert.KernelSsmConvInIdeal.τ Cert.KernelSsmConvInIdeal.sig) → Buf (Elt Ideal) ℓ) (g : Dev Cert.KernelSsmConvInIdeal.nD → PrngReg)
    (m' : (ℓ : Loc Cert.ReferenceSsmConvInIdeal.nD Cert.ReferenceSsmConvInIdeal.τ Cert.ReferenceSsmConvInIdeal.sig) → Buf (Elt Ideal) ℓ) (g' : Dev Cert.ReferenceSsmConvInIdeal.nD → PrngReg), Pre_KernelSsmConvInIdeal m →
    (∀ c : Dev Cert.KernelSsmConvInIdeal.nD,
      m' ((c.tc : Thread Cert.ReferenceSsmConvInIdeal.nD Cert.ReferenceSsmConvInIdeal.τ).loc Cert.ReferenceSsmConvInIdeal.main_arg0) = m ((c.tc : Thread Cert.KernelSsmConvInIdeal.nD Cert.KernelSsmConvInIdeal.τ).loc Cert.KernelSsmConvInIdeal.main_arg0)
      ∧ m' ((c.tc : Thread Cert.ReferenceSsmConvInIdeal.nD Cert.ReferenceSsmConvInIdeal.τ).loc Cert.ReferenceSsmConvInIdeal.main_arg1) = m ((c.tc : Thread Cert.KernelSsmConvInIdeal.nD Cert.KernelSsmConvInIdeal.τ).loc Cert.KernelSsmConvInIdeal.main_arg1)
      ∧ m' ((c.tc : Thread Cert.ReferenceSsmConvInIdeal.nD Cert.ReferenceSsmConvInIdeal.τ).loc Cert.ReferenceSsmConvInIdeal.main_arg2) = m ((c.tc : Thread Cert.KernelSsmConvInIdeal.nD Cert.KernelSsmConvInIdeal.τ).loc Cert.KernelSsmConvInIdeal.main_arg2)) →
    ∃ (v0 : (c : Dev Cert.KernelSsmConvInIdeal.nD) → Buf (Elt Ideal) ((c.tc : Thread Cert.KernelSsmConvInIdeal.nD Cert.KernelSsmConvInIdeal.τ).loc Cert.KernelSsmConvInIdeal.main_v0)),
      θ_run (Cert.KernelSsmConvInIdeal.defs (F := Ideal)) (onTc (τ := Cert.KernelSsmConvInIdeal.τ) (Cert.KernelSsmConvInIdeal.main (F := Ideal))) ⟨m, fun _ => 0, g⟩ (fun r => ∀ c : Dev Cert.KernelSsmConvInIdeal.nD,
          r.2.mem ((c.tc : Thread Cert.KernelSsmConvInIdeal.nD Cert.KernelSsmConvInIdeal.τ).loc Cert.KernelSsmConvInIdeal.main_v0) = v0 c
          ∧ r.2.mem ((c.tc : Thread Cert.KernelSsmConvInIdeal.nD Cert.KernelSsmConvInIdeal.τ).loc Cert.KernelSsmConvInIdeal.main_arg0) = m ((c.tc : Thread Cert.KernelSsmConvInIdeal.nD Cert.KernelSsmConvInIdeal.τ).loc Cert.KernelSsmConvInIdeal.main_arg0)
          ∧ r.2.mem ((c.tc : Thread Cert.KernelSsmConvInIdeal.nD Cert.KernelSsmConvInIdeal.τ).loc Cert.KernelSsmConvInIdeal.main_arg1) = m ((c.tc : Thread Cert.KernelSsmConvInIdeal.nD Cert.KernelSsmConvInIdeal.τ).loc Cert.KernelSsmConvInIdeal.main_arg1)
          ∧ r.2.mem ((c.tc : Thread Cert.KernelSsmConvInIdeal.nD Cert.KernelSsmConvInIdeal.τ).loc Cert.KernelSsmConvInIdeal.main_arg2) = m ((c.tc : Thread Cert.KernelSsmConvInIdeal.nD Cert.KernelSsmConvInIdeal.τ).loc Cert.KernelSsmConvInIdeal.main_arg2))
      ∧ θ_run (Cert.ReferenceSsmConvInIdeal.defs (F := Ideal)) (onTc (τ := Cert.ReferenceSsmConvInIdeal.τ) (Cert.ReferenceSsmConvInIdeal.main (F := Ideal))) ⟨m', fun _ => 0, g'⟩ (fun r => ∀ c : Dev Cert.ReferenceSsmConvInIdeal.nD,
          r.2.mem ((c.tc : Thread Cert.ReferenceSsmConvInIdeal.nD Cert.ReferenceSsmConvInIdeal.τ).loc Cert.ReferenceSsmConvInIdeal.main_v56) = v0 c
          ∧ r.2.mem ((c.tc : Thread Cert.ReferenceSsmConvInIdeal.nD Cert.ReferenceSsmConvInIdeal.τ).loc Cert.ReferenceSsmConvInIdeal.main_arg0) = m' ((c.tc : Thread Cert.ReferenceSsmConvInIdeal.nD Cert.ReferenceSsmConvInIdeal.τ).loc Cert.ReferenceSsmConvInIdeal.main_arg0)
          ∧ r.2.mem ((c.tc : Thread Cert.ReferenceSsmConvInIdeal.nD Cert.ReferenceSsmConvInIdeal.τ).loc Cert.ReferenceSsmConvInIdeal.main_arg1) = m' ((c.tc : Thread Cert.ReferenceSsmConvInIdeal.nD Cert.ReferenceSsmConvInIdeal.τ).loc Cert.ReferenceSsmConvInIdeal.main_arg1)
          ∧ r.2.mem ((c.tc : Thread Cert.ReferenceSsmConvInIdeal.nD Cert.ReferenceSsmConvInIdeal.τ).loc Cert.ReferenceSsmConvInIdeal.main_arg2) = m' ((c.tc : Thread Cert.ReferenceSsmConvInIdeal.nD Cert.ReferenceSsmConvInIdeal.τ).loc Cert.ReferenceSsmConvInIdeal.main_arg2))

def Claim : Prop :=
  ∃ (hKernelConv : Cert.KernelConv.Facts) (hKernelConvIdeal : Cert.KernelConvIdeal.Facts) (hReferenceConvIdeal : Cert.ReferenceConvIdeal.Facts) (hKernelUpW : Cert.KernelUpW.Facts) (hKernelUpWIdeal : Cert.KernelUpWIdeal.Facts) (hReferenceUpWIdeal : Cert.ReferenceUpWIdeal.Facts) (hKernelUpD : Cert.KernelUpD.Facts) (hKernelUpDIdeal : Cert.KernelUpDIdeal.Facts) (hReferenceUpDIdeal : Cert.ReferenceUpDIdeal.Facts) (hKernelDownW : Cert.KernelDownW.Facts) (hKernelDownWIdeal : Cert.KernelDownWIdeal.Facts) (hReferenceDownWIdeal : Cert.ReferenceDownWIdeal.Facts) (hKernelDownD : Cert.KernelDownD.Facts) (hKernelDownDIdeal : Cert.KernelDownDIdeal.Facts) (hReferenceDownDIdeal : Cert.ReferenceDownDIdeal.Facts) (hKernelAttnOW : Cert.KernelAttnOW.Facts) (hKernelAttnOWIdeal : Cert.KernelAttnOWIdeal.Facts) (hReferenceAttnOWIdeal : Cert.ReferenceAttnOWIdeal.Facts) (hKernelAttnOD : Cert.KernelAttnOD.Facts) (hKernelAttnODIdeal : Cert.KernelAttnODIdeal.Facts) (hReferenceAttnODIdeal : Cert.ReferenceAttnODIdeal.Facts) (hKernelAttnQW : Cert.KernelAttnQW.Facts) (hKernelAttnQWIdeal : Cert.KernelAttnQWIdeal.Facts) (hReferenceAttnQWIdeal : Cert.ReferenceAttnQWIdeal.Facts) (hKernelAttnQD : Cert.KernelAttnQD.Facts) (hKernelAttnQDIdeal : Cert.KernelAttnQDIdeal.Facts) (hReferenceAttnQDIdeal : Cert.ReferenceAttnQDIdeal.Facts) (hKernelAttnKVW : Cert.KernelAttnKVW.Facts) (hKernelAttnKVWIdeal : Cert.KernelAttnKVWIdeal.Facts) (hReferenceAttnKVWIdeal : Cert.ReferenceAttnKVWIdeal.Facts) (hKernelAttnKVD : Cert.KernelAttnKVD.Facts) (hKernelAttnKVDIdeal : Cert.KernelAttnKVDIdeal.Facts) (hReferenceAttnKVDIdeal : Cert.ReferenceAttnKVDIdeal.Facts) (hKernelSsmOutW : Cert.KernelSsmOutW.Facts) (hKernelSsmOutWIdeal : Cert.KernelSsmOutWIdeal.Facts) (hReferenceSsmOutWIdeal : Cert.ReferenceSsmOutWIdeal.Facts) (hKernelSsmOutD : Cert.KernelSsmOutD.Facts) (hKernelSsmOutDIdeal : Cert.KernelSsmOutDIdeal.Facts) (hReferenceSsmOutDIdeal : Cert.ReferenceSsmOutDIdeal.Facts) (hKernelSsmInW : Cert.KernelSsmInW.Facts) (hKernelSsmInWIdeal : Cert.KernelSsmInWIdeal.Facts) (hReferenceSsmInWIdeal : Cert.ReferenceSsmInWIdeal.Facts) (hKernelSsmInD : Cert.KernelSsmInD.Facts) (hKernelSsmInDIdeal : Cert.KernelSsmInDIdeal.Facts) (hReferenceSsmInDIdeal : Cert.ReferenceSsmInDIdeal.Facts) (hKernelFfnUp : Cert.KernelFfnUp.Facts) (hKernelFfnUpIdeal : Cert.KernelFfnUpIdeal.Facts) (hReferenceFfnUpIdeal : Cert.ReferenceFfnUpIdeal.Facts) (hKernelFfnDown : Cert.KernelFfnDown.Facts) (hKernelFfnDownIdeal : Cert.KernelFfnDownIdeal.Facts) (hReferenceFfnDownIdeal : Cert.ReferenceFfnDownIdeal.Facts) (hKernelAttnQ : Cert.KernelAttnQ.Facts) (hKernelAttnQIdeal : Cert.KernelAttnQIdeal.Facts) (hReferenceAttnQIdeal : Cert.ReferenceAttnQIdeal.Facts) (hKernelAttnKV : Cert.KernelAttnKV.Facts) (hKernelAttnKVIdeal : Cert.KernelAttnKVIdeal.Facts) (hReferenceAttnKVIdeal : Cert.ReferenceAttnKVIdeal.Facts) (hKernelAttnO : Cert.KernelAttnO.Facts) (hKernelAttnOIdeal : Cert.KernelAttnOIdeal.Facts) (hReferenceAttnOIdeal : Cert.ReferenceAttnOIdeal.Facts) (hKernelSsmIn : Cert.KernelSsmIn.Facts) (hKernelSsmInIdeal : Cert.KernelSsmInIdeal.Facts) (hReferenceSsmInIdeal : Cert.ReferenceSsmInIdeal.Facts) (hKernelSsmOut : Cert.KernelSsmOut.Facts) (hKernelSsmOutIdeal : Cert.KernelSsmOutIdeal.Facts) (hReferenceSsmOutIdeal : Cert.ReferenceSsmOutIdeal.Facts) (hKernelAdamSq : Cert.KernelAdamSq.Facts) (hKernelAdamSqIdeal : Cert.KernelAdamSqIdeal.Facts) (hReferenceAdamSqIdeal : Cert.ReferenceAdamSqIdeal.Facts) (hKernelAdamSsmOut : Cert.KernelAdamSsmOut.Facts) (hKernelAdamSsmOutIdeal : Cert.KernelAdamSsmOutIdeal.Facts) (hReferenceAdamSsmOutIdeal : Cert.ReferenceAdamSsmOutIdeal.Facts) (hKernelAdamSsmIn : Cert.KernelAdamSsmIn.Facts) (hKernelAdamSsmInIdeal : Cert.KernelAdamSsmInIdeal.Facts) (hReferenceAdamSsmInIdeal : Cert.ReferenceAdamSsmInIdeal.Facts) (hKernelAdamFfnUp : Cert.KernelAdamFfnUp.Facts) (hKernelAdamFfnUpIdeal : Cert.KernelAdamFfnUpIdeal.Facts) (hReferenceAdamFfnUpIdeal : Cert.ReferenceAdamFfnUpIdeal.Facts) (hKernelAdamFfnDown : Cert.KernelAdamFfnDown.Facts) (hKernelAdamFfnDownIdeal : Cert.KernelAdamFfnDownIdeal.Facts) (hReferenceAdamFfnDownIdeal : Cert.ReferenceAdamFfnDownIdeal.Facts) (hKernelSmallSum : Cert.KernelSmallSum.Facts) (hKernelSmallSumIdeal : Cert.KernelSmallSumIdeal.Facts) (hReferenceSmallSumIdeal : Cert.ReferenceSmallSumIdeal.Facts) (hKernelAdamSmall : Cert.KernelAdamSmall.Facts) (hKernelAdamSmallIdeal : Cert.KernelAdamSmallIdeal.Facts) (hReferenceAdamSmallIdeal : Cert.ReferenceAdamSmallIdeal.Facts) (hKernelFfnConv : Cert.KernelFfnConv.Facts) (hKernelFfnConvIdeal : Cert.KernelFfnConvIdeal.Facts) (hReferenceFfnConvIdeal : Cert.ReferenceFfnConvIdeal.Facts) (hKernelSsmConv : Cert.KernelSsmConv.Facts) (hKernelSsmConvIdeal : Cert.KernelSsmConvIdeal.Facts) (hReferenceSsmConvIdeal : Cert.ReferenceSsmConvIdeal.Facts) (hKernelLossHead : Cert.KernelLossHead.Facts) (hKernelLossHeadIdeal : Cert.KernelLossHeadIdeal.Facts) (hReferenceLossHeadIdeal : Cert.ReferenceLossHeadIdeal.Facts) (hKernelGate : Cert.KernelGate.Facts) (hKernelGateIdeal : Cert.KernelGateIdeal.Facts) (hReferenceGateIdeal : Cert.ReferenceGateIdeal.Facts) (hKernelSsmConvD : Cert.KernelSsmConvD.Facts) (hKernelSsmConvDIdeal : Cert.KernelSsmConvDIdeal.Facts) (hReferenceSsmConvDIdeal : Cert.ReferenceSsmConvDIdeal.Facts) (hKernelSsmConvIn : Cert.KernelSsmConvIn.Facts) (hKernelSsmConvInIdeal : Cert.KernelSsmConvInIdeal.Facts) (hReferenceSsmConvInIdeal : Cert.ReferenceSsmConvInIdeal.Facts),
    quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelUpW (hKernelUpW := hKernelUpW)
    ∧ quiescent_KernelUpWIdeal (hKernelUpWIdeal := hKernelUpWIdeal)
    ∧ quiescent_ReferenceUpWIdeal (hReferenceUpWIdeal := hReferenceUpWIdeal)
    ∧ quiescent_KernelUpD (hKernelUpD := hKernelUpD)
    ∧ quiescent_KernelUpDIdeal (hKernelUpDIdeal := hKernelUpDIdeal)
    ∧ quiescent_ReferenceUpDIdeal (hReferenceUpDIdeal := hReferenceUpDIdeal)
    ∧ quiescent_KernelDownW (hKernelDownW := hKernelDownW)
    ∧ quiescent_KernelDownWIdeal (hKernelDownWIdeal := hKernelDownWIdeal)
    ∧ quiescent_ReferenceDownWIdeal (hReferenceDownWIdeal := hReferenceDownWIdeal)
    ∧ quiescent_KernelDownD (hKernelDownD := hKernelDownD)
    ∧ quiescent_KernelDownDIdeal (hKernelDownDIdeal := hKernelDownDIdeal)
    ∧ quiescent_ReferenceDownDIdeal (hReferenceDownDIdeal := hReferenceDownDIdeal)
    ∧ quiescent_KernelAttnOW (hKernelAttnOW := hKernelAttnOW)
    ∧ quiescent_KernelAttnOWIdeal (hKernelAttnOWIdeal := hKernelAttnOWIdeal)
    ∧ quiescent_ReferenceAttnOWIdeal (hReferenceAttnOWIdeal := hReferenceAttnOWIdeal)
    ∧ quiescent_KernelAttnOD (hKernelAttnOD := hKernelAttnOD)
    ∧ quiescent_KernelAttnODIdeal (hKernelAttnODIdeal := hKernelAttnODIdeal)
    ∧ quiescent_ReferenceAttnODIdeal (hReferenceAttnODIdeal := hReferenceAttnODIdeal)
    ∧ quiescent_KernelAttnQW (hKernelAttnQW := hKernelAttnQW)
    ∧ quiescent_KernelAttnQWIdeal (hKernelAttnQWIdeal := hKernelAttnQWIdeal)
    ∧ quiescent_ReferenceAttnQWIdeal (hReferenceAttnQWIdeal := hReferenceAttnQWIdeal)
    ∧ quiescent_KernelAttnQD (hKernelAttnQD := hKernelAttnQD)
    ∧ quiescent_KernelAttnQDIdeal (hKernelAttnQDIdeal := hKernelAttnQDIdeal)
    ∧ quiescent_ReferenceAttnQDIdeal (hReferenceAttnQDIdeal := hReferenceAttnQDIdeal)
    ∧ quiescent_KernelAttnKVW (hKernelAttnKVW := hKernelAttnKVW)
    ∧ quiescent_KernelAttnKVWIdeal (hKernelAttnKVWIdeal := hKernelAttnKVWIdeal)
    ∧ quiescent_ReferenceAttnKVWIdeal (hReferenceAttnKVWIdeal := hReferenceAttnKVWIdeal)
    ∧ quiescent_KernelAttnKVD (hKernelAttnKVD := hKernelAttnKVD)
    ∧ quiescent_KernelAttnKVDIdeal (hKernelAttnKVDIdeal := hKernelAttnKVDIdeal)
    ∧ quiescent_ReferenceAttnKVDIdeal (hReferenceAttnKVDIdeal := hReferenceAttnKVDIdeal)
    ∧ quiescent_KernelSsmOutW (hKernelSsmOutW := hKernelSsmOutW)
    ∧ quiescent_KernelSsmOutWIdeal (hKernelSsmOutWIdeal := hKernelSsmOutWIdeal)
    ∧ quiescent_ReferenceSsmOutWIdeal (hReferenceSsmOutWIdeal := hReferenceSsmOutWIdeal)
    ∧ quiescent_KernelSsmOutD (hKernelSsmOutD := hKernelSsmOutD)
    ∧ quiescent_KernelSsmOutDIdeal (hKernelSsmOutDIdeal := hKernelSsmOutDIdeal)
    ∧ quiescent_ReferenceSsmOutDIdeal (hReferenceSsmOutDIdeal := hReferenceSsmOutDIdeal)
    ∧ quiescent_KernelSsmInW (hKernelSsmInW := hKernelSsmInW)
    ∧ quiescent_KernelSsmInWIdeal (hKernelSsmInWIdeal := hKernelSsmInWIdeal)
    ∧ quiescent_ReferenceSsmInWIdeal (hReferenceSsmInWIdeal := hReferenceSsmInWIdeal)
    ∧ quiescent_KernelSsmInD (hKernelSsmInD := hKernelSsmInD)
    ∧ quiescent_KernelSsmInDIdeal (hKernelSsmInDIdeal := hKernelSsmInDIdeal)
    ∧ quiescent_ReferenceSsmInDIdeal (hReferenceSsmInDIdeal := hReferenceSsmInDIdeal)
    ∧ quiescent_KernelFfnUp (hKernelFfnUp := hKernelFfnUp)
    ∧ quiescent_KernelFfnUpIdeal (hKernelFfnUpIdeal := hKernelFfnUpIdeal)
    ∧ quiescent_ReferenceFfnUpIdeal (hReferenceFfnUpIdeal := hReferenceFfnUpIdeal)
    ∧ quiescent_KernelFfnDown (hKernelFfnDown := hKernelFfnDown)
    ∧ quiescent_KernelFfnDownIdeal (hKernelFfnDownIdeal := hKernelFfnDownIdeal)
    ∧ quiescent_ReferenceFfnDownIdeal (hReferenceFfnDownIdeal := hReferenceFfnDownIdeal)
    ∧ quiescent_KernelAttnQ (hKernelAttnQ := hKernelAttnQ)
    ∧ quiescent_KernelAttnQIdeal (hKernelAttnQIdeal := hKernelAttnQIdeal)
    ∧ quiescent_ReferenceAttnQIdeal (hReferenceAttnQIdeal := hReferenceAttnQIdeal)
    ∧ quiescent_KernelAttnKV (hKernelAttnKV := hKernelAttnKV)
    ∧ quiescent_KernelAttnKVIdeal (hKernelAttnKVIdeal := hKernelAttnKVIdeal)
    ∧ quiescent_ReferenceAttnKVIdeal (hReferenceAttnKVIdeal := hReferenceAttnKVIdeal)
    ∧ quiescent_KernelAttnO (hKernelAttnO := hKernelAttnO)
    ∧ quiescent_KernelAttnOIdeal (hKernelAttnOIdeal := hKernelAttnOIdeal)
    ∧ quiescent_ReferenceAttnOIdeal (hReferenceAttnOIdeal := hReferenceAttnOIdeal)
    ∧ quiescent_KernelSsmIn (hKernelSsmIn := hKernelSsmIn)
    ∧ quiescent_KernelSsmInIdeal (hKernelSsmInIdeal := hKernelSsmInIdeal)
    ∧ quiescent_ReferenceSsmInIdeal (hReferenceSsmInIdeal := hReferenceSsmInIdeal)
    ∧ quiescent_KernelSsmOut (hKernelSsmOut := hKernelSsmOut)
    ∧ quiescent_KernelSsmOutIdeal (hKernelSsmOutIdeal := hKernelSsmOutIdeal)
    ∧ quiescent_ReferenceSsmOutIdeal (hReferenceSsmOutIdeal := hReferenceSsmOutIdeal)
    ∧ quiescent_KernelAdamSq (hKernelAdamSq := hKernelAdamSq)
    ∧ quiescent_KernelAdamSqIdeal (hKernelAdamSqIdeal := hKernelAdamSqIdeal)
    ∧ quiescent_ReferenceAdamSqIdeal (hReferenceAdamSqIdeal := hReferenceAdamSqIdeal)
    ∧ quiescent_KernelAdamSsmOut (hKernelAdamSsmOut := hKernelAdamSsmOut)
    ∧ quiescent_KernelAdamSsmOutIdeal (hKernelAdamSsmOutIdeal := hKernelAdamSsmOutIdeal)
    ∧ quiescent_ReferenceAdamSsmOutIdeal (hReferenceAdamSsmOutIdeal := hReferenceAdamSsmOutIdeal)
    ∧ quiescent_KernelAdamSsmIn (hKernelAdamSsmIn := hKernelAdamSsmIn)
    ∧ quiescent_KernelAdamSsmInIdeal (hKernelAdamSsmInIdeal := hKernelAdamSsmInIdeal)
    ∧ quiescent_ReferenceAdamSsmInIdeal (hReferenceAdamSsmInIdeal := hReferenceAdamSsmInIdeal)
    ∧ quiescent_KernelAdamFfnUp (hKernelAdamFfnUp := hKernelAdamFfnUp)
    ∧ quiescent_KernelAdamFfnUpIdeal (hKernelAdamFfnUpIdeal := hKernelAdamFfnUpIdeal)
    ∧ quiescent_ReferenceAdamFfnUpIdeal (hReferenceAdamFfnUpIdeal := hReferenceAdamFfnUpIdeal)
    ∧ quiescent_KernelAdamFfnDown (hKernelAdamFfnDown := hKernelAdamFfnDown)
    ∧ quiescent_KernelAdamFfnDownIdeal (hKernelAdamFfnDownIdeal := hKernelAdamFfnDownIdeal)
    ∧ quiescent_ReferenceAdamFfnDownIdeal (hReferenceAdamFfnDownIdeal := hReferenceAdamFfnDownIdeal)
    ∧ quiescent_KernelSmallSum (hKernelSmallSum := hKernelSmallSum)
    ∧ quiescent_KernelSmallSumIdeal (hKernelSmallSumIdeal := hKernelSmallSumIdeal)
    ∧ quiescent_ReferenceSmallSumIdeal (hReferenceSmallSumIdeal := hReferenceSmallSumIdeal)
    ∧ quiescent_KernelAdamSmall (hKernelAdamSmall := hKernelAdamSmall)
    ∧ quiescent_KernelAdamSmallIdeal (hKernelAdamSmallIdeal := hKernelAdamSmallIdeal)
    ∧ quiescent_ReferenceAdamSmallIdeal (hReferenceAdamSmallIdeal := hReferenceAdamSmallIdeal)
    ∧ quiescent_KernelFfnConv (hKernelFfnConv := hKernelFfnConv)
    ∧ quiescent_KernelFfnConvIdeal (hKernelFfnConvIdeal := hKernelFfnConvIdeal)
    ∧ quiescent_ReferenceFfnConvIdeal (hReferenceFfnConvIdeal := hReferenceFfnConvIdeal)
    ∧ quiescent_KernelSsmConv (hKernelSsmConv := hKernelSsmConv)
    ∧ quiescent_KernelSsmConvIdeal (hKernelSsmConvIdeal := hKernelSsmConvIdeal)
    ∧ quiescent_ReferenceSsmConvIdeal (hReferenceSsmConvIdeal := hReferenceSsmConvIdeal)
    ∧ quiescent_KernelLossHead (hKernelLossHead := hKernelLossHead)
    ∧ quiescent_KernelLossHeadIdeal (hKernelLossHeadIdeal := hKernelLossHeadIdeal)
    ∧ quiescent_ReferenceLossHeadIdeal (hReferenceLossHeadIdeal := hReferenceLossHeadIdeal)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelSsmConvD (hKernelSsmConvD := hKernelSsmConvD)
    ∧ quiescent_KernelSsmConvDIdeal (hKernelSsmConvDIdeal := hKernelSsmConvDIdeal)
    ∧ quiescent_ReferenceSsmConvDIdeal (hReferenceSsmConvDIdeal := hReferenceSsmConvDIdeal)
    ∧ quiescent_KernelSsmConvIn (hKernelSsmConvIn := hKernelSsmConvIn)
    ∧ quiescent_KernelSsmConvInIdeal (hKernelSsmConvInIdeal := hKernelSsmConvInIdeal)
    ∧ quiescent_ReferenceSsmConvInIdeal (hReferenceSsmConvInIdeal := hReferenceSsmConvInIdeal)
    ∧ preserves_KernelConv_KernelConvIdeal
    ∧ algebraic_KernelConvIdeal_ReferenceConvIdeal (hKernelConvIdeal := hKernelConvIdeal) (hReferenceConvIdeal := hReferenceConvIdeal)
    ∧ preserves_KernelUpW_KernelUpWIdeal
    ∧ algebraic_KernelUpWIdeal_ReferenceUpWIdeal (hKernelUpWIdeal := hKernelUpWIdeal) (hReferenceUpWIdeal := hReferenceUpWIdeal)
    ∧ preserves_KernelUpD_KernelUpDIdeal
    ∧ algebraic_KernelUpDIdeal_ReferenceUpDIdeal (hKernelUpDIdeal := hKernelUpDIdeal) (hReferenceUpDIdeal := hReferenceUpDIdeal)
    ∧ preserves_KernelDownW_KernelDownWIdeal
    ∧ algebraic_KernelDownWIdeal_ReferenceDownWIdeal (hKernelDownWIdeal := hKernelDownWIdeal) (hReferenceDownWIdeal := hReferenceDownWIdeal)
    ∧ preserves_KernelDownD_KernelDownDIdeal
    ∧ algebraic_KernelDownDIdeal_ReferenceDownDIdeal (hKernelDownDIdeal := hKernelDownDIdeal) (hReferenceDownDIdeal := hReferenceDownDIdeal)
    ∧ preserves_KernelAttnOW_KernelAttnOWIdeal
    ∧ algebraic_KernelAttnOWIdeal_ReferenceAttnOWIdeal (hKernelAttnOWIdeal := hKernelAttnOWIdeal) (hReferenceAttnOWIdeal := hReferenceAttnOWIdeal)
    ∧ preserves_KernelAttnOD_KernelAttnODIdeal
    ∧ algebraic_KernelAttnODIdeal_ReferenceAttnODIdeal (hKernelAttnODIdeal := hKernelAttnODIdeal) (hReferenceAttnODIdeal := hReferenceAttnODIdeal)
    ∧ preserves_KernelAttnQW_KernelAttnQWIdeal
    ∧ algebraic_KernelAttnQWIdeal_ReferenceAttnQWIdeal (hKernelAttnQWIdeal := hKernelAttnQWIdeal) (hReferenceAttnQWIdeal := hReferenceAttnQWIdeal)
    ∧ preserves_KernelAttnQD_KernelAttnQDIdeal
    ∧ algebraic_KernelAttnQDIdeal_ReferenceAttnQDIdeal (hKernelAttnQDIdeal := hKernelAttnQDIdeal) (hReferenceAttnQDIdeal := hReferenceAttnQDIdeal)
    ∧ preserves_KernelAttnKVW_KernelAttnKVWIdeal
    ∧ algebraic_KernelAttnKVWIdeal_ReferenceAttnKVWIdeal (hKernelAttnKVWIdeal := hKernelAttnKVWIdeal) (hReferenceAttnKVWIdeal := hReferenceAttnKVWIdeal)
    ∧ preserves_KernelAttnKVD_KernelAttnKVDIdeal
    ∧ algebraic_KernelAttnKVDIdeal_ReferenceAttnKVDIdeal (hKernelAttnKVDIdeal := hKernelAttnKVDIdeal) (hReferenceAttnKVDIdeal := hReferenceAttnKVDIdeal)
    ∧ preserves_KernelSsmOutW_KernelSsmOutWIdeal
    ∧ algebraic_KernelSsmOutWIdeal_ReferenceSsmOutWIdeal (hKernelSsmOutWIdeal := hKernelSsmOutWIdeal) (hReferenceSsmOutWIdeal := hReferenceSsmOutWIdeal)
    ∧ preserves_KernelSsmOutD_KernelSsmOutDIdeal
    ∧ algebraic_KernelSsmOutDIdeal_ReferenceSsmOutDIdeal (hKernelSsmOutDIdeal := hKernelSsmOutDIdeal) (hReferenceSsmOutDIdeal := hReferenceSsmOutDIdeal)
    ∧ preserves_KernelSsmInW_KernelSsmInWIdeal
    ∧ algebraic_KernelSsmInWIdeal_ReferenceSsmInWIdeal (hKernelSsmInWIdeal := hKernelSsmInWIdeal) (hReferenceSsmInWIdeal := hReferenceSsmInWIdeal)
    ∧ preserves_KernelSsmInD_KernelSsmInDIdeal
    ∧ algebraic_KernelSsmInDIdeal_ReferenceSsmInDIdeal (hKernelSsmInDIdeal := hKernelSsmInDIdeal) (hReferenceSsmInDIdeal := hReferenceSsmInDIdeal)
    ∧ preserves_KernelFfnUp_KernelFfnUpIdeal
    ∧ algebraic_KernelFfnUpIdeal_ReferenceFfnUpIdeal (hKernelFfnUpIdeal := hKernelFfnUpIdeal) (hReferenceFfnUpIdeal := hReferenceFfnUpIdeal)
    ∧ preserves_KernelFfnDown_KernelFfnDownIdeal
    ∧ algebraic_KernelFfnDownIdeal_ReferenceFfnDownIdeal (hKernelFfnDownIdeal := hKernelFfnDownIdeal) (hReferenceFfnDownIdeal := hReferenceFfnDownIdeal)
    ∧ preserves_KernelAttnQ_KernelAttnQIdeal
    ∧ algebraic_KernelAttnQIdeal_ReferenceAttnQIdeal (hKernelAttnQIdeal := hKernelAttnQIdeal) (hReferenceAttnQIdeal := hReferenceAttnQIdeal)
    ∧ preserves_KernelAttnKV_KernelAttnKVIdeal
    ∧ algebraic_KernelAttnKVIdeal_ReferenceAttnKVIdeal (hKernelAttnKVIdeal := hKernelAttnKVIdeal) (hReferenceAttnKVIdeal := hReferenceAttnKVIdeal)
    ∧ preserves_KernelAttnO_KernelAttnOIdeal
    ∧ algebraic_KernelAttnOIdeal_ReferenceAttnOIdeal (hKernelAttnOIdeal := hKernelAttnOIdeal) (hReferenceAttnOIdeal := hReferenceAttnOIdeal)
    ∧ preserves_KernelSsmIn_KernelSsmInIdeal
    ∧ algebraic_KernelSsmInIdeal_ReferenceSsmInIdeal (hKernelSsmInIdeal := hKernelSsmInIdeal) (hReferenceSsmInIdeal := hReferenceSsmInIdeal)
    ∧ preserves_KernelSsmOut_KernelSsmOutIdeal
    ∧ algebraic_KernelSsmOutIdeal_ReferenceSsmOutIdeal (hKernelSsmOutIdeal := hKernelSsmOutIdeal) (hReferenceSsmOutIdeal := hReferenceSsmOutIdeal)
    ∧ preserves_KernelAdamSq_KernelAdamSqIdeal
    ∧ algebraic_KernelAdamSqIdeal_ReferenceAdamSqIdeal (hKernelAdamSqIdeal := hKernelAdamSqIdeal) (hReferenceAdamSqIdeal := hReferenceAdamSqIdeal)
    ∧ preserves_KernelAdamSsmOut_KernelAdamSsmOutIdeal
    ∧ algebraic_KernelAdamSsmOutIdeal_ReferenceAdamSsmOutIdeal (hKernelAdamSsmOutIdeal := hKernelAdamSsmOutIdeal) (hReferenceAdamSsmOutIdeal := hReferenceAdamSsmOutIdeal)
    ∧ preserves_KernelAdamSsmIn_KernelAdamSsmInIdeal
    ∧ algebraic_KernelAdamSsmInIdeal_ReferenceAdamSsmInIdeal (hKernelAdamSsmInIdeal := hKernelAdamSsmInIdeal) (hReferenceAdamSsmInIdeal := hReferenceAdamSsmInIdeal)
    ∧ preserves_KernelAdamFfnUp_KernelAdamFfnUpIdeal
    ∧ algebraic_KernelAdamFfnUpIdeal_ReferenceAdamFfnUpIdeal (hKernelAdamFfnUpIdeal := hKernelAdamFfnUpIdeal) (hReferenceAdamFfnUpIdeal := hReferenceAdamFfnUpIdeal)
    ∧ preserves_KernelAdamFfnDown_KernelAdamFfnDownIdeal
    ∧ algebraic_KernelAdamFfnDownIdeal_ReferenceAdamFfnDownIdeal (hKernelAdamFfnDownIdeal := hKernelAdamFfnDownIdeal) (hReferenceAdamFfnDownIdeal := hReferenceAdamFfnDownIdeal)
    ∧ preserves_KernelSmallSum_KernelSmallSumIdeal
    ∧ algebraic_KernelSmallSumIdeal_ReferenceSmallSumIdeal (hKernelSmallSumIdeal := hKernelSmallSumIdeal) (hReferenceSmallSumIdeal := hReferenceSmallSumIdeal)
    ∧ preserves_KernelAdamSmall_KernelAdamSmallIdeal
    ∧ algebraic_KernelAdamSmallIdeal_ReferenceAdamSmallIdeal (hKernelAdamSmallIdeal := hKernelAdamSmallIdeal) (hReferenceAdamSmallIdeal := hReferenceAdamSmallIdeal)
    ∧ preserves_KernelFfnConv_KernelFfnConvIdeal
    ∧ algebraic_KernelFfnConvIdeal_ReferenceFfnConvIdeal (hKernelFfnConvIdeal := hKernelFfnConvIdeal) (hReferenceFfnConvIdeal := hReferenceFfnConvIdeal)
    ∧ preserves_KernelSsmConv_KernelSsmConvIdeal
    ∧ algebraic_KernelSsmConvIdeal_ReferenceSsmConvIdeal (hKernelSsmConvIdeal := hKernelSsmConvIdeal) (hReferenceSsmConvIdeal := hReferenceSsmConvIdeal)
    ∧ preserves_KernelLossHead_KernelLossHeadIdeal
    ∧ algebraic_KernelLossHeadIdeal_ReferenceLossHeadIdeal (hKernelLossHeadIdeal := hKernelLossHeadIdeal) (hReferenceLossHeadIdeal := hReferenceLossHeadIdeal)
    ∧ preserves_KernelGate_KernelGateIdeal
    ∧ algebraic_KernelGateIdeal_ReferenceGateIdeal (hKernelGateIdeal := hKernelGateIdeal) (hReferenceGateIdeal := hReferenceGateIdeal)
    ∧ preserves_KernelSsmConvD_KernelSsmConvDIdeal
    ∧ algebraic_KernelSsmConvDIdeal_ReferenceSsmConvDIdeal (hKernelSsmConvDIdeal := hKernelSsmConvDIdeal) (hReferenceSsmConvDIdeal := hReferenceSsmConvDIdeal)
    ∧ preserves_KernelSsmConvIn_KernelSsmConvInIdeal
    ∧ algebraic_KernelSsmConvInIdeal_ReferenceSsmConvInIdeal (hKernelSsmConvInIdeal := hKernelSsmConvInIdeal) (hReferenceSsmConvInIdeal := hReferenceSsmConvInIdeal)
-- ==== KernelConv.lean ====
abbrev S2x4096x2816 : Shape := ⟨3, ![2, 4096, 2816]⟩
abbrev S3x5632 : Shape := ⟨2, ![3, 5632]⟩
abbrev S1x256x1408 : Shape := ⟨3, ![1, 256, 1408]⟩
abbrev S1x16x1408 : Shape := ⟨3, ![1, 16, 1408]⟩
abbrev S3x1408 : Shape := ⟨2, ![3, 1408]⟩
abbrev S256x1408 : Shape := ⟨2, ![256, 1408]⟩
abbrev S16x1408 : Shape := ⟨2, ![16, 1408]⟩
abbrev S8x1408 : Shape := ⟨2, ![8, 1408]⟩
abbrev S1x1408 : Shape := ⟨2, ![1, 1408]⟩
abbrev S248x1408 : Shape := ⟨2, ![248, 1408]⟩

abbrev nBuf : Space → Nat
  | .hbm => 3
  | .vmem => 8
  | .smem => 0
  | _ => 0

abbrev bufTy : (tb : Table) → Fin (tcTables nBuf tb) → BufTy
  | .hbm, ⟨0, _⟩ => ⟨S2x4096x2816, .bf16⟩
  | .hbm, ⟨1, _⟩ => ⟨S3x5632, .f32⟩
  | .hbm, ⟨2, _⟩ => ⟨S2x4096x2816, .bf16⟩
  | .local _ .vmem, ⟨0, _⟩ => ⟨S1x256x1408, .bf16⟩
  | .local _ .vmem, ⟨1, _⟩ => ⟨S1x256x1408, .bf16⟩
  | .local _ .vmem, ⟨2, _⟩ => ⟨S1x16x1408, .bf16⟩
  | .local _ .vmem, ⟨3, _⟩ => ⟨S1x16x1408, .bf16⟩
  | .local _ .vmem, ⟨4, _⟩ => ⟨S3x1408, .f32⟩
  | .local _ .vmem, ⟨5, _⟩ => ⟨S3x1408, .f32⟩
  | .local _ .vmem, ⟨6, _⟩ => ⟨S1x256x1408, .bf16⟩
  | .local _ .vmem, ⟨7, _⟩ => ⟨S1x256x1408, .bf16⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  ![arg0.toNat, v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S3x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceConvIdeal.lean ====
abbrev S2x4096x2816 : Shape := ⟨3, ![2, 4096, 2816]⟩
abbrev S3x5632 : Shape := ⟨2, ![3, 5632]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S5632 : Shape := ⟨1, ![5632]⟩
abbrev S2x5632 : Shape := ⟨2, ![2, 5632]⟩
abbrev S4098x5632 : Shape := ⟨2, ![4098, 5632]⟩
abbrev S1x5632 : Shape := ⟨2, ![1, 5632]⟩

abbrev nBuf : Space → Nat
  | .hbm => 60
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S3x5632, .f32⟩
  | .hbm, ⟨2, _⟩ => ⟨S1x4096x2816, .bf16⟩
  | .hbm, ⟨3, _⟩ => ⟨S4096x2816, .bf16⟩
  | .hbm, ⟨4, _⟩ => ⟨S1x4096x2816, .bf16⟩
  | .hbm, ⟨5, _⟩ => ⟨S4096x2816, .bf16⟩
  | .hbm, ⟨6, _⟩ => ⟨S4096x5632, .bf16⟩
  | .hbm, ⟨7, _⟩ => ⟨S4096x5632, .f32⟩
  | .hbm, ⟨8, _⟩ => ⟨S_, .f32⟩
  | .hbm, ⟨9, _⟩ => ⟨S5632, .f32⟩
  | .hbm, ⟨10, _⟩ => ⟨S_, .f32⟩
  | .hbm, ⟨11, _⟩ => ⟨S2x5632, .f32⟩
  | .hbm, ⟨12, _⟩ => ⟨S4098x5632, .f32⟩
  | .hbm, ⟨13, _⟩ => ⟨S_, .f32⟩
  | .hbm, ⟨14, _⟩ => ⟨S2x5632, .f32⟩
  | .hbm, ⟨15, _⟩ => ⟨S4096x5632, .f32⟩
  | .hbm, ⟨16, _⟩ => ⟨S1x5632, .f32⟩
  | .hbm, ⟨17, _⟩ => ⟨S5632, .f32⟩
  | .hbm, ⟨18, _⟩ => ⟨S1x5632, .f32⟩
  | .hbm, ⟨19, _⟩ => ⟨S4096x5632, .f32⟩
  | .hbm, ⟨20, _⟩ => ⟨S4096x5632, .f32⟩
  | .hbm, ⟨21, _⟩ => ⟨S1x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S1x5632, .f32⟩
  | .hbm, ⟨26, _⟩ => ⟨S5632, .f32⟩
  | .hbm, ⟨27, _⟩ => ⟨S1x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S1x5632, .f32⟩
  | .hbm, ⟨33, _⟩ => ⟨S5632, .f32⟩
  | .hbm, ⟨34, _⟩ => ⟨S1x5632, .f32⟩
  | .hbm, ⟨35, _⟩ => ⟨S4096x5632, .f32⟩
  | .hbm, ⟨36, _⟩ => ⟨S4096x5632, .f32⟩
  | .hbm, ⟨37, _⟩ => ⟨S4096x5632, .f32⟩
  | .hbm, ⟨38, _⟩ => ⟨S4096x5632, .f32⟩
  | .hbm, ⟨39, _⟩ => ⟨S4096x5632, .f32⟩
  | .hbm, ⟨40, _⟩ => ⟨S_, .f32⟩
  | .hbm, ⟨41, _⟩ => ⟨S4098x5632, .f32⟩
  | .hbm, ⟨42, _⟩ => ⟨S4096x5632, .f32⟩
  | .hbm, ⟨43, _⟩ => ⟨S4096x5632, .f32⟩
  | .hbm, ⟨44, _⟩ => ⟨S_, .f32⟩
  | .hbm, ⟨45, _⟩ => ⟨S4098x5632, .f32⟩
  | .hbm, ⟨46, _⟩ => ⟨S4098x5632, .f32⟩
  | .hbm, ⟨47, _⟩ => ⟨S4096x5632, .f32⟩
  | .hbm, ⟨48, _⟩ => ⟨S4096x5632, .f32⟩
  | .hbm, ⟨49, _⟩ => ⟨S_, .f32⟩
  | .hbm, ⟨50, _⟩ => ⟨S4098x5632, .f32⟩
  | .hbm, ⟨51, _⟩ => ⟨S4098x5632, .f32⟩
  | .hbm, ⟨52, _⟩ => ⟨S2x5632, .f32⟩
  | .hbm, ⟨53, _⟩ => ⟨S4096x5632, .f32⟩
  | .hbm, ⟨54, _⟩ => ⟨S4096x2816, .f32⟩
  | .hbm, ⟨55, _⟩ => ⟨S4096x2816, .f32⟩
  | .hbm, ⟨56, _⟩ => ⟨S1x4096x2816, .f32⟩
  | .hbm, ⟨57, _⟩ => ⟨S1x4096x2816, .f32⟩
  | .hbm, ⟨58, _⟩ => ⟨S2x4096x2816, .f32⟩
  | .hbm, ⟨59, _⟩ => ⟨S2x4096x2816, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_2 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_3 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_4 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩

abbrev nD : Nat := 1
abbrev τ : Topo := Topo.v7x

variable {F : FTy → Type} [FloatOps F]
-- ==== KernelUpW.lean ====
abbrev S2x4096x2816 : Shape := ⟨3, ![2, 4096, 2816]⟩
abbrev S4096x1024 : Shape := ⟨2, ![4096, 1024]⟩
abbrev S1024 : Shape := ⟨1, ![1024]⟩
abbrev S1x1024 : Shape := ⟨2, ![1, 1024]⟩
abbrev S5632x1024 : Shape := ⟨2, ![5632, 1024]⟩
abbrev S1x1024x2816 : Shape := ⟨3, ![1, 1024, 2816]⟩
abbrev S1024x1024 : Shape := ⟨2, ![1024, 1024]⟩
abbrev S2816x1024 : Shape := ⟨2, ![2816, 1024]⟩
abbrev S1024x1 : Shape := ⟨2, ![1024, 1]⟩
abbrev S1024x2816 : Shape := ⟨2, ![1024, 2816]⟩

abbrev nBuf : Space → Nat
  | .hbm => 5
  | .vmem => 8
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S5632x1024, .bf16⟩
  | .local _ .vmem, ⟨0, _⟩ => ⟨S1x1024x2816, .bf16⟩
  | .local _ .vmem, ⟨1, _⟩ => ⟨S1x1024x2816, .bf16⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S2816x1024, .bf16⟩
  | .local _ .vmem, ⟨6, _⟩ => ⟨S2816x1024, .bf16⟩
  | .local _ .vmem, ⟨7, _⟩ => ⟨S2816x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_14 : BitVec 32 := 0#32
  let v29 : BitVec 1 := Scalar.cmpi .ne v28 c0_i32_14
  v29

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c1_i32_0 : BitVec 32 := 1#32
  let v1 : BitVec 32 := Scalar.remsi arg0 c1_i32_0
  let c0_i32 : BitVec 32 := 0#32
  ![v0.toNat, arg1.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceUpWIdeal.lean ====
abbrev S2x4096x2816 : Shape := ⟨3, ![2, 4096, 2816]⟩
abbrev S4096x1024 : Shape := ⟨2, ![4096, 1024]⟩
abbrev S1024 : Shape := ⟨1, ![1024]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x5632 : Shape := ⟨2, ![1024, 5632]⟩
abbrev S5632x1024 : Shape := ⟨2, ![5632, 1024]⟩

abbrev nBuf : Space → Nat
  | .hbm => 32
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .f32⟩
  | .hbm, ⟨2, _⟩ => ⟨S1024, .f32⟩
  | .hbm, ⟨3, _⟩ => ⟨S1x4096x2816, .bf16⟩
  | .hbm, ⟨4, _⟩ => ⟨S4096x2816, .bf16⟩
  | .hbm, ⟨5, _⟩ => ⟨S1x4096x2816, .bf16⟩
  | .hbm, ⟨6, _⟩ => ⟨S4096x2816, .bf16⟩
  | .hbm, ⟨7, _⟩ => ⟨S4096x5632, .bf16⟩
  | .hbm, ⟨8, _⟩ => ⟨S4096x5632, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024x5632, .f32⟩
  | .hbm, ⟨27, _⟩ => ⟨S4096x5632, .f32⟩
  | .hbm, ⟨28, _⟩ => ⟨S5632x1024, .f32⟩
  | .hbm, ⟨29, _⟩ => ⟨S1024x5632, .f32⟩
  | .hbm, ⟨30, _⟩ => ⟨S5632x1024, .f32⟩
  | .hbm, ⟨31, _⟩ => ⟨S5632x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== KernelUpD.lean ====
abbrev S2x4096x2816 : Shape := ⟨3, ![2, 4096, 2816]⟩
abbrev S5632x1024 : Shape := ⟨2, ![5632, 1024]⟩
abbrev S4096x1024 : Shape := ⟨2, ![4096, 1024]⟩
abbrev S1024 : Shape := ⟨1, ![1024]⟩
abbrev S1x1024 : Shape := ⟨2, ![1, 1024]⟩
abbrev S1x1024x1408 : Shape := ⟨3, ![1, 1024, 1408]⟩
abbrev S1408x1024 : Shape := ⟨2, ![1408, 1024]⟩
abbrev S1024x1024 : Shape := ⟨2, ![1024, 1024]⟩
abbrev S1024x1408 : Shape := ⟨2, ![1024, 1408]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S2x4096x2816, .bf16⟩
  | .hbm, ⟨1, _⟩ => ⟨S5632x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def k0_cond3 (i : grid0.Coords) : BitVec 1 :=
  let arg0 : BitVec 32 := BitVec.ofNat 32 (i 0).val
  let c0_i32_26 : BitVec 32 := 0#32
  let v47 : BitVec 1 := Scalar.cmpi .eq arg0 c0_i32_26
  let v48 : BitVec 32 := Scalar.extui v47
  let c0_i32_27 : BitVec 32 := 0#32
  let v49 : BitVec 1 := Scalar.cmpi .ne v48 c0_i32_27
  v49

def k0_cond4 (i : grid0.Coords) : BitVec 1 :=
  let arg0 : BitVec 32 := BitVec.ofNat 32 (i 0).val
  let c0_i32_28 : BitVec 32 := 0#32
  let v50 : BitVec 1 := Scalar.cmpi .sgt arg0 c0_i32_28
  let v51 : BitVec 32 := Scalar.extui v50
  let c0_i32_29 : BitVec 32 := 0#32
  let v52 : BitVec 1 := Scalar.cmpi .ne v51 c0_i32_29
  v52

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c2_i32_0 : BitVec 32 := 2#32
  let v1 : BitVec 32 := Scalar.remsi arg2 c2_i32_0
  let c0_i32 : BitVec 32 := 0#32
  ![v0.toNat, arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== ReferenceUpDIdeal.lean ====
abbrev S2x4096x2816 : Shape := ⟨3, ![2, 4096, 2816]⟩
abbrev S5632x1024 : Shape := ⟨2, ![5632, 1024]⟩
abbrev S4096x1024 : Shape := ⟨2, ![4096, 1024]⟩
abbrev S1024 : Shape := ⟨1, ![1024]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S5632x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x4096x2816, .bf16⟩
  | .hbm, ⟨6, _⟩ => ⟨S4096x2816, .bf16⟩
  | .hbm, ⟨7, _⟩ => ⟨S1x4096x2816, .bf16⟩
  | .hbm, ⟨8, _⟩ => ⟨S4096x2816, .bf16⟩
  | .hbm, ⟨9, _⟩ => ⟨S4096x5632, .bf16⟩
  | .hbm, ⟨10, _⟩ => ⟨S4096x5632, .f32⟩
  | .hbm, ⟨11, _⟩ => ⟨S5632x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S1x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== KernelDownW.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownWIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDownD.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownDIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x2816, .f32⟩
  | .hbm, ⟨7, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelAttnOW.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceAttnOWIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelAttnOD.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceAttnODIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelAttnQW.lean ====
abbrev S4096x1024 : Shape := ⟨2, ![4096, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024, .f32⟩
  | .hbm, ⟨3, _⟩ => ⟨S1x1024, .f32⟩
  | .hbm, ⟨4, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v26 : BitVec 1 := Scalar.cmpi .eq arg2 c3_i32
  let v27 : BitVec 32 := Scalar.extui v26
  let c0_i32_13 : BitVec 32 := 0#32
  let v28 : BitVec 1 := Scalar.cmpi .ne v27 c0_i32_13
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== ReferenceAttnQWIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x1024 : Shape := ⟨2, ![1024, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S1024x1024, .f32⟩
  | .hbm, ⟨21, _⟩ => ⟨S4096x1024, .f32⟩
  | .hbm, ⟨22, _⟩ => ⟨S4096x1024, .f32⟩
  | .hbm, ⟨23, _⟩ => ⟨S1024x1024, .f32⟩
  | .hbm, ⟨24, _⟩ => ⟨S1024x1024, .f32⟩
  | .hbm, ⟨25, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== KernelAttnQD.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def k0_cond3 (i : grid0.Coords) : BitVec 1 :=
  let arg0 : BitVec 32 := BitVec.ofNat 32 (i 0).val
  let c0_i32_26 : BitVec 32 := 0#32
  let v46 : BitVec 1 := Scalar.cmpi .eq arg0 c0_i32_26
  let v47 : BitVec 32 := Scalar.extui v46
  let c0_i32_27 : BitVec 32 := 0#32
  let v48 : BitVec 1 := Scalar.cmpi .ne v47 c0_i32_27
  v48

def k0_cond4 (i : grid0.Coords) : BitVec 1 :=
  let arg0 : BitVec 32 := BitVec.ofNat 32 (i 0).val
  let c0_i32_28 : BitVec 32 := 0#32
  let v49 : BitVec 1 := Scalar.cmpi .sgt arg0 c0_i32_28
  let v50 : BitVec 32 := Scalar.extui v49
  let c0_i32_29 : BitVec 32 := 0#32
  let v51 : BitVec 1 := Scalar.cmpi .ne v50 c0_i32_29
  v51

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== ReferenceAttnQDIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== KernelAttnKVW.lean ====
abbrev S4096x1024 : Shape := ⟨2, ![4096, 1024]⟩
abbrev S4096x2048 : Shape := ⟨2, ![4096, 2048]⟩
abbrev S1024 : Shape := ⟨1, ![1024]⟩
abbrev S1x1024 : Shape := ⟨2, ![1, 1024]⟩
abbrev S1024x2048 : Shape := ⟨2, ![1024, 2048]⟩
abbrev S1024x1024 : Shape := ⟨2, ![1024, 1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S1024, .f32⟩
  | .hbm, ⟨3, _⟩ => ⟨S1x1024, .f32⟩
  | .hbm, ⟨4, _⟩ => ⟨S1024x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v26 : BitVec 1 := Scalar.cmpi .eq arg2 c3_i32
  let v27 : BitVec 32 := Scalar.extui v26
  let c0_i32_13 : BitVec 32 := 0#32
  let v28 : BitVec 1 := Scalar.cmpi .ne v27 c0_i32_13
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceAttnKVWIdeal.lean ====
abbrev S4096x1024 : Shape := ⟨2, ![4096, 1024]⟩
abbrev S4096x2048 : Shape := ⟨2, ![4096, 2048]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x2048 : Shape := ⟨2, ![1024, 2048]⟩
abbrev S2048x1024 : Shape := ⟨2, ![2048, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S1024x2048, .f32⟩
  | .hbm, ⟨21, _⟩ => ⟨S4096x2048, .f32⟩
  | .hbm, ⟨22, _⟩ => ⟨S4096x2048, .f32⟩
  | .hbm, ⟨23, _⟩ => ⟨S2048x1024, .f32⟩
  | .hbm, ⟨24, _⟩ => ⟨S1024x2048, .f32⟩
  | .hbm, ⟨25, _⟩ => ⟨S1024x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== KernelAttnKVD.lean ====
abbrev S4096x2048 : Shape := ⟨2, ![4096, 2048]⟩
abbrev S1024x2048 : Shape := ⟨2, ![1024, 2048]⟩
abbrev S4096x1024 : Shape := ⟨2, ![4096, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def k0_cond3 (i : grid0.Coords) : BitVec 1 :=
  let arg0 : BitVec 32 := BitVec.ofNat 32 (i 0).val
  let c0_i32_25 : BitVec 32 := 0#32
  let v46 : BitVec 1 := Scalar.cmpi .eq arg0 c0_i32_25
  let v47 : BitVec 32 := Scalar.extui v46
  let c0_i32_26 : BitVec 32 := 0#32
  let v48 : BitVec 1 := Scalar.cmpi .ne v47 c0_i32_26
  v48

def k0_cond4 (i : grid0.Coords) : BitVec 1 :=
  let arg0 : BitVec 32 := BitVec.ofNat 32 (i 0).val
  let c0_i32_27 : BitVec 32 := 0#32
  let v49 : BitVec 1 := Scalar.cmpi .sgt arg0 c0_i32_27
  let v50 : BitVec 32 := Scalar.extui v49
  let c0_i32_28 : BitVec 32 := 0#32
  let v51 : BitVec 1 := Scalar.cmpi .ne v50 c0_i32_28
  v51

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== ReferenceAttnKVDIdeal.lean ====
abbrev S4096x2048 : Shape := ⟨2, ![4096, 2048]⟩
abbrev S1024x2048 : Shape := ⟨2, ![1024, 2048]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S1024x2048, .f32⟩
  | .hbm, ⟨8, _⟩ => ⟨S4096x2048, .f32⟩
  | .hbm, ⟨9, _⟩ => ⟨S4096x2048, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== KernelSsmOutW.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceSsmOutWIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelSsmOutD.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S4096x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceSsmOutDIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x2048, .f32⟩
  | .hbm, ⟨7, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelSsmInW.lean ====
abbrev S4096x5376 : Shape := ⟨2, ![4096, 5376]⟩
abbrev S4096x1024 : Shape := ⟨2, ![4096, 1024]⟩
abbrev S1024 : Shape := ⟨1, ![1024]⟩
abbrev S1x1024 : Shape := ⟨2, ![1, 1024]⟩
abbrev S5376x1024 : Shape := ⟨2, ![5376, 1024]⟩
abbrev S1024x1792 : Shape := ⟨2, ![1024, 1792]⟩
abbrev S1024x1024 : Shape := ⟨2, ![1024, 1024]⟩
abbrev S1792x1024 : Shape := ⟨2, ![1792, 1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x5376, .bf16⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S5376x1024, .bf16⟩
  | .local _ .vmem, ⟨0, _⟩ => ⟨S1024x1792, .bf16⟩
  | .local _ .vmem, ⟨1, _⟩ => ⟨S1024x1792, .bf16⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1792x1024, .bf16⟩
  | .local _ .vmem, ⟨6, _⟩ => ⟨S1792x1024, .bf16⟩
  | .local _ .vmem, ⟨7, _⟩ => ⟨S1792x1024, .f32⟩
  | _, _ => ⟨S4096x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![3, 4], ![false, false]⟩

def k0_cond2 (i : grid0.Coords) : BitVec 1 :=
  let arg1 : BitVec 32 := BitVec.ofNat 32 (i 1).val
  let c3_i32 : BitVec 32 := 3#32
  let v26 : BitVec 1 := Scalar.cmpi .eq arg1 c3_i32
  let v27 : BitVec 32 := Scalar.extui v26
  let c0_i32_13 : BitVec 32 := 0#32
  let v28 : BitVec 1 := Scalar.cmpi .ne v27 c0_i32_13
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceSsmInWIdeal.lean ====
abbrev S4096x5376 : Shape := ⟨2, ![4096, 5376]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x5376 : Shape := ⟨2, ![1024, 5376]⟩
abbrev S5376x1024 : Shape := ⟨2, ![5376, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4096x5376, .bf16⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S1024x5376, .f32⟩
  | .hbm, ⟨21, _⟩ => ⟨S4096x5376, .f32⟩
  | .hbm, ⟨22, _⟩ => ⟨S4096x5376, .f32⟩
  | .hbm, ⟨23, _⟩ => ⟨S5376x1024, .f32⟩
  | .hbm, ⟨24, _⟩ => ⟨S1024x5376, .f32⟩
  | .hbm, ⟨25, _⟩ => ⟨S5376x1024, .f32⟩
  | .hbm, ⟨26, _⟩ => ⟨S5376x1024, .bf16⟩
  | _, _ => ⟨S4096x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== KernelSsmInD.lean ====
abbrev S4096x5376 : Shape := ⟨2, ![4096, 5376]⟩
abbrev S5376x1024 : Shape := ⟨2, ![5376, 1024]⟩
abbrev S4096x1024 : Shape := ⟨2, ![4096, 1024]⟩
abbrev S1024 : Shape := ⟨1, ![1024]⟩
abbrev S1x1024 : Shape := ⟨2, ![1, 1024]⟩
abbrev S1024x1792 : Shape := ⟨2, ![1024, 1792]⟩
abbrev S1792x1024 : Shape := ⟨2, ![1792, 1024]⟩
abbrev S1024x1024 : Shape := ⟨2, ![1024, 1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x5376, .bf16⟩
  | .hbm, ⟨1, _⟩ => ⟨S5376x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1x1024, .f32⟩
  | .local _ .vmem, ⟨0, _⟩ => ⟨S1024x1792, .bf16⟩
  | .local _ .vmem, ⟨1, _⟩ => ⟨S1024x1792, .bf16⟩
  | .local _ .vmem, ⟨2, _⟩ => ⟨S1792x1024, .bf16⟩
  | .local _ .vmem, ⟨3, _⟩ => ⟨S1792x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def k0_cond3 (i : grid0.Coords) : BitVec 1 :=
  let arg0 : BitVec 32 := BitVec.ofNat 32 (i 0).val
  let c0_i32_25 : BitVec 32 := 0#32
  let v46 : BitVec 1 := Scalar.cmpi .eq arg0 c0_i32_25
  let v47 : BitVec 32 := Scalar.extui v46
  let c0_i32_26 : BitVec 32 := 0#32
  let v48 : BitVec 1 := Scalar.cmpi .ne v47 c0_i32_26
  v48

def k0_cond4 (i : grid0.Coords) : BitVec 1 :=
  let arg0 : BitVec 32 := BitVec.ofNat 32 (i 0).val
  let c0_i32_27 : BitVec 32 := 0#32
  let v49 : BitVec 1 := Scalar.cmpi .sgt arg0 c0_i32_27
  let v50 : BitVec 32 := Scalar.extui v49
  let c0_i32_28 : BitVec 32 := 0#32
  let v51 : BitVec 1 := Scalar.cmpi .ne v50 c0_i32_28
  v51

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1792x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== ReferenceSsmInDIdeal.lean ====
abbrev S4096x5376 : Shape := ⟨2, ![4096, 5376]⟩
abbrev S5376x1024 : Shape := ⟨2, ![5376, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x5376, .bf16⟩
  | .hbm, ⟨1, _⟩ => ⟨S5376x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x5376, .f32⟩
  | .hbm, ⟨6, _⟩ => ⟨S5376x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | _, _ => ⟨S4096x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== KernelFfnUp.lean ====
abbrev S4096x1024 : Shape := ⟨2, ![4096, 1024]⟩
abbrev S5632x1024 : Shape := ⟨2, ![5632, 1024]⟩
abbrev S1024 : Shape := ⟨1, ![1024]⟩
abbrev S1x1024 : Shape := ⟨2, ![1, 1024]⟩
abbrev S2x4096x2816 : Shape := ⟨3, ![2, 4096, 2816]⟩
abbrev S1024x1024 : Shape := ⟨2, ![1024, 1024]⟩
abbrev S2816x1024 : Shape := ⟨2, ![2816, 1024]⟩
abbrev S1x1024x2816 : Shape := ⟨3, ![1, 1024, 2816]⟩
abbrev S1024x1 : Shape := ⟨2, ![1024, 1]⟩
abbrev S1024x2816 : Shape := ⟨2, ![1024, 2816]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S5632x1024, .bf16⟩
  | .hbm, ⟨2, _⟩ => ⟨S1024, .f32⟩
  | .hbm, ⟨3, _⟩ => ⟨S1x1024, .f32⟩
  | .hbm, ⟨4, _⟩ => ⟨S2x4096x2816, .bf16⟩
  | .local _ .vmem, ⟨0, _⟩ => ⟨S1024x1024, .f32⟩
  | .local _ .vmem, ⟨1, _⟩ => ⟨S1024x1024, .f32⟩
  | .local _ .vmem, ⟨2, _⟩ => ⟨S2816x1024, .bf16⟩
  | .local _ .vmem, ⟨3, _⟩ => ⟨S2816x1024, .bf16⟩
  | .local _ .vmem, ⟨4, _⟩ => ⟨S1x1024, .f32⟩
  | .local _ .vmem, ⟨5, _⟩ => ⟨S1x1024x2816, .bf16⟩
  | .local _ .vmem, ⟨6, _⟩ => ⟨S1x1024x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c1_i32_0 : BitVec 32 := 1#32
  let v1 : BitVec 32 := Scalar.remsi arg1 c1_i32_0
  let c0_i32 : BitVec 32 := 0#32
  ![v0.toNat, arg0.toNat, v1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceFfnUpIdeal.lean ====
abbrev S4096x1024 : Shape := ⟨2, ![4096, 1024]⟩
abbrev S5632x1024 : Shape := ⟨2, ![5632, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S5632x1024, .bf16⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S5632x1024, .f32⟩
  | .hbm, ⟨20, _⟩ => ⟨S1024x5632, .f32⟩
  | .hbm, ⟨21, _⟩ => ⟨S4096x5632, .f32⟩
  | .hbm, ⟨22, _⟩ => ⟨S4096x2816, .f32⟩
  | .hbm, ⟨23, _⟩ => ⟨S4096x2816, .f32⟩
  | .hbm, ⟨24, _⟩ => ⟨S1x4096x2816, .f32⟩
  | .hbm, ⟨25, _⟩ => ⟨S1x4096x2816, .f32⟩
  | .hbm, ⟨26, _⟩ => ⟨S2x4096x2816, .f32⟩
  | .hbm, ⟨27, _⟩ => ⟨S2x4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== KernelFfnDown.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceFfnDownIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelAttnQ.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024, .f32⟩
  | .hbm, ⟨3, _⟩ => ⟨S1x1024, .f32⟩
  | .hbm, ⟨4, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceAttnQIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S1024x1024, .f32⟩
  | .hbm, ⟨20, _⟩ => ⟨S4096x1024, .f32⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== KernelAttnKV.lean ====
abbrev S4096x1024 : Shape := ⟨2, ![4096, 1024]⟩
abbrev S1024x2048 : Shape := ⟨2, ![1024, 2048]⟩
abbrev S1024 : Shape := ⟨1, ![1024]⟩
abbrev S1x1024 : Shape := ⟨2, ![1, 1024]⟩
abbrev S4096x2048 : Shape := ⟨2, ![4096, 2048]⟩
abbrev S1024x1024 : Shape := ⟨2, ![1024, 1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2048, .bf16⟩
  | .hbm, ⟨2, _⟩ => ⟨S1024, .f32⟩
  | .hbm, ⟨3, _⟩ => ⟨S1x1024, .f32⟩
  | .hbm, ⟨4, _⟩ => ⟨S4096x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceAttnKVIdeal.lean ====
abbrev S4096x1024 : Shape := ⟨2, ![4096, 1024]⟩
abbrev S1024x2048 : Shape := ⟨2, ![1024, 2048]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .bf16⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S1024x2048, .f32⟩
  | .hbm, ⟨20, _⟩ => ⟨S4096x2048, .f32⟩
  | .hbm, ⟨21, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== KernelAttnO.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceAttnOIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelSsmIn.lean ====
abbrev S4096x1024 : Shape := ⟨2, ![4096, 1024]⟩
abbrev S5376x1024 : Shape := ⟨2, ![5376, 1024]⟩
abbrev S1024 : Shape := ⟨1, ![1024]⟩
abbrev S1x1024 : Shape := ⟨2, ![1, 1024]⟩
abbrev S4096x5376 : Shape := ⟨2, ![4096, 5376]⟩
abbrev S1024x1024 : Shape := ⟨2, ![1024, 1024]⟩
abbrev S1792x1024 : Shape := ⟨2, ![1792, 1024]⟩
abbrev S1024x1792 : Shape := ⟨2, ![1024, 1792]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S5376x1024, .bf16⟩
  | .hbm, ⟨2, _⟩ => ⟨S1024, .f32⟩
  | .hbm, ⟨3, _⟩ => ⟨S1x1024, .f32⟩
  | .hbm, ⟨4, _⟩ => ⟨S4096x5376, .f32⟩
  | .local _ .vmem, ⟨0, _⟩ => ⟨S1024x1024, .f32⟩
  | .local _ .vmem, ⟨1, _⟩ => ⟨S1024x1024, .f32⟩
  | .local _ .vmem, ⟨2, _⟩ => ⟨S1792x1024, .bf16⟩
  | .local _ .vmem, ⟨3, _⟩ => ⟨S1792x1024, .bf16⟩
  | .local _ .vmem, ⟨4, _⟩ => ⟨S1x1024, .f32⟩
  | .local _ .vmem, ⟨5, _⟩ => ⟨S1024x1792, .f32⟩
  | .local _ .vmem, ⟨6, _⟩ => ⟨S1024x1792, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1792x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceSsmInIdeal.lean ====
abbrev S4096x1024 : Shape := ⟨2, ![4096, 1024]⟩
abbrev S5376x1024 : Shape := ⟨2, ![5376, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x5376 : Shape := ⟨2, ![1024, 5376]⟩
abbrev S4096x5376 : Shape := ⟨2, ![4096, 5376]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S5376x1024, .bf16⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S5376x1024, .f32⟩
  | .hbm, ⟨20, _⟩ => ⟨S1024x5376, .f32⟩
  | .hbm, ⟨21, _⟩ => ⟨S4096x5376, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== KernelSsmOut.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceSsmOutIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelAdamSq.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![c0_i32_2.toNat, v2.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== ReferenceAdamSqIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdamSsmOut.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![c0_i32_2.toNat, v2.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== ReferenceAdamSsmOutIdeal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdamSsmIn.lean ====
abbrev S8x644x1024 : Shape := ⟨3, ![8, 644, 1024]⟩
abbrev S644x1024 : Shape := ⟨2, ![644, 1024]⟩
abbrev S8x644x256 : Shape := ⟨3, ![8, 644, 256]⟩
abbrev S644x256 : Shape := ⟨2, ![644, 256]⟩
abbrev S1x644x256 : Shape := ⟨3, ![1, 644, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x644x1024, .bf16⟩
  | .hbm, ⟨1, _⟩ => ⟨S644x1024, .f32⟩
  | .hbm, ⟨2, _⟩ => ⟨S644x1024, .f32⟩
  | .hbm, ⟨3, _⟩ => ⟨S644x1024, .f32⟩
  | .hbm, ⟨4, _⟩ => ⟨S644x1024, .f32⟩
  | .hbm, ⟨5, _⟩ => ⟨S644x1024, .f32⟩
  | .hbm, ⟨6, _⟩ => ⟨S644x1024, .f32⟩
  | .hbm, ⟨7, _⟩ => ⟨S644x1024, .f32⟩
  | .local _ .vmem, ⟨0, _⟩ => ⟨S8x644x256, .bf16⟩
  | .local _ .vmem, ⟨1, _⟩ => ⟨S8x644x256, .bf16⟩
  | .local _ .vmem, ⟨2, _⟩ => ⟨S644x256, .f32⟩
  | .local _ .vmem, ⟨3, _⟩ => ⟨S644x256, .f32⟩
  | .local _ .vmem, ⟨4, _⟩ => ⟨S644x256, .f32⟩
  | .local _ .vmem, ⟨5, _⟩ => ⟨S644x256, .f32⟩
  | .local _ .vmem, ⟨6, _⟩ => ⟨S644x256, .f32⟩
  | .local _ .vmem, ⟨7, _⟩ => ⟨S644x256, .f32⟩
  | .local _ .vmem, ⟨8, _⟩ => ⟨S644x256, .f32⟩
  | .local _ .vmem, ⟨9, _⟩ => ⟨S644x256, .f32⟩
  | .local _ .vmem, ⟨10, _⟩ => ⟨S644x256, .f32⟩
  | .local _ .vmem, ⟨11, _⟩ => ⟨S644x256, .f32⟩
  | .local _ .vmem, ⟨12, _⟩ => ⟨S644x256, .f32⟩
  | .local _ .vmem, ⟨13, _⟩ => ⟨S644x256, .f32⟩
  | .local _ .vmem, ⟨14, _⟩ => ⟨S644x256, .f32⟩
  | .local _ .vmem, ⟨15, _⟩ => ⟨S644x256, .f32⟩
  | _, _ => ⟨S8x644x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![c0_i32_2.toNat, v2.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x644x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S644x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S644x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S644x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S644x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S644x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S644x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S644x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceAdamSsmInIdeal.lean ====
abbrev S8x644x1024 : Shape := ⟨3, ![8, 644, 1024]⟩
abbrev S644x1024 : Shape := ⟨2, ![644, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x644x1024, .bf16⟩
  | .hbm, ⟨1, _⟩ => ⟨S644x1024, .f32⟩
  | .hbm, ⟨2, _⟩ => ⟨S644x1024, .f32⟩
  | .hbm, ⟨3, _⟩ => ⟨S644x1024, .f32⟩
  | .hbm, ⟨4, _⟩ => ⟨S8x644x1024, .f32⟩
  | .hbm, ⟨5, _⟩ => ⟨S_, .f32⟩
  | .hbm, ⟨6, _⟩ => ⟨S644x1024, .f32⟩
  | .hbm, ⟨7, _⟩ => ⟨S_, .f32⟩
  | .hbm, ⟨8, _⟩ => ⟨S644x1024, .f32⟩
  | .hbm, ⟨9, _⟩ => ⟨S644x1024, .f32⟩
  | .hbm, ⟨10, _⟩ => ⟨S_, .f32⟩
  | .hbm, ⟨11, _⟩ => ⟨S644x1024, .f32⟩
  | .hbm, ⟨12, _⟩ => ⟨S644x1024, .f32⟩
  | .hbm, ⟨13, _⟩ => ⟨S644x1024, .f32⟩
  | .hbm, ⟨14, _⟩ => ⟨S_, .f32⟩
  | .hbm, ⟨15, _⟩ => ⟨S644x1024, .f32⟩
  | .hbm, ⟨16, _⟩ => ⟨S644x1024, .f32⟩
  | .hbm, ⟨17, _⟩ => ⟨S644x1024, .f32⟩
  | .hbm, ⟨18, _⟩ => ⟨S_, .f32⟩
  | .hbm, ⟨19, _⟩ => ⟨S644x1024, .f32⟩
  | .hbm, ⟨20, _⟩ => ⟨S644x1024, .f32⟩
  | .hbm, ⟨21, _⟩ => ⟨S644x1024, .f32⟩
  | .hbm, ⟨22, _⟩ => ⟨S_, .f32⟩
  | .hbm, ⟨23, _⟩ => ⟨S644x1024, .f32⟩
  | .hbm, ⟨24, _⟩ => ⟨S644x1024, .f32⟩
  | .hbm, ⟨25, _⟩ => ⟨S_, .f32⟩
  | .hbm, ⟨26, _⟩ => ⟨S644x1024, .f32⟩
  | .hbm, ⟨27, _⟩ => ⟨S644x1024, .f32⟩
  | .hbm, ⟨28, _⟩ => ⟨S644x1024, .f32⟩
  | .hbm, ⟨29, _⟩ => ⟨S_, .f32⟩
  | .hbm, ⟨30, _⟩ => ⟨S644x1024, .f32⟩
  | .hbm, ⟨31, _⟩ => ⟨S644x1024, .f32⟩
  | .hbm, ⟨32, _⟩ => ⟨S644x1024, .f32⟩
  | .hbm, ⟨33, _⟩ => ⟨S_, .f32⟩
  | .hbm, ⟨34, _⟩ => ⟨S644x1024, .f32⟩
  | .hbm, ⟨35, _⟩ => ⟨S644x1024, .f32⟩
  | .hbm, ⟨36, _⟩ => ⟨S644x1024, .f32⟩
  | .hbm, ⟨37, _⟩ => ⟨S_, .f32⟩
  | .hbm, ⟨38, _⟩ => ⟨S644x1024, .f32⟩
  | .hbm, ⟨39, _⟩ => ⟨S644x1024, .f32⟩
  | _, _ => ⟨S8x644x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdamFfnUp.lean ====
abbrev S8x704x1024 : Shape := ⟨3, ![8, 704, 1024]⟩
abbrev S1408x1024 : Shape := ⟨2, ![1408, 1024]⟩
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S8x352x1024, .bf16⟩
  | .local _ .vmem, ⟨3, _⟩ => ⟨S8x352x1024, .bf16⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAdamFfnUpIdeal.lean ====
abbrev S8x704x1024 : Shape := ⟨3, ![8, 704, 1024]⟩
abbrev S1408x1024 : Shape := ⟨2, ![1408, 1024]⟩
abbrev S_ : Shape := ⟨0, ![]⟩
abbrev S704x1024 : Shape := ⟨2, ![704, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S8x704x1024, .f32⟩
  | .hbm, ⟨6, _⟩ => ⟨S_, .f32⟩
  | .hbm, ⟨7, _⟩ => ⟨S704x1024, .f32⟩
  | .hbm, ⟨8, _⟩ => ⟨S8x704x1024, .f32⟩
  | .hbm, ⟨9, _⟩ => ⟨S_, .f32⟩
  | .hbm, ⟨10, _⟩ => ⟨S704x1024, .f32⟩
  | .hbm, ⟨11, _⟩ => ⟨S1408x1024, .f32⟩
  | .hbm, ⟨12, _⟩ => ⟨S_, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S1408x1024, .f32⟩
  | .hbm, ⟨23, _⟩ => ⟨S_, .f32⟩
  | .hbm, ⟨24, _⟩ => ⟨S1408x1024, .f32⟩
  | .hbm, ⟨25, _⟩ => ⟨S1408x1024, .f32⟩
  | .hbm, ⟨26, _⟩ => ⟨S1408x1024, .f32⟩
  | .hbm, ⟨27, _⟩ => ⟨S_, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | .hbm, ⟨37, _⟩ => ⟨S1408x1024, .f32⟩
  | .hbm, ⟨38, _⟩ => ⟨S_, .f32⟩
  | .hbm, ⟨39, _⟩ => ⟨S1408x1024, .f32⟩
  | .hbm, ⟨40, _⟩ => ⟨S1408x1024, .f32⟩
  | .hbm, ⟨41, _⟩ => ⟨S1408x1024, .f32⟩
  | .hbm, ⟨42, _⟩ => ⟨S_, .f32⟩
  | .hbm, ⟨43, _⟩ => ⟨S1408x1024, .f32⟩
  | .hbm, ⟨44, _⟩ => ⟨S1408x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== KernelAdamFfnDown.lean ====
abbrev S8x352x1024 : Shape := ⟨3, ![8, 352, 1024]⟩
abbrev S704x1024 : Shape := ⟨2, ![704, 1024]⟩
abbrev S352x1024 : Shape := ⟨2, ![352, 1024]⟩
abbrev S1x352x1024 : Shape := ⟨3, ![1, 352, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S8x352x1024, .bf16⟩
  | .local _ .vmem, ⟨3, _⟩ => ⟨S8x352x1024, .bf16⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![c0_i32_2.toNat, v2.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAdamFfnDownIdeal.lean ====
abbrev S8x352x1024 : Shape := ⟨3, ![8, 352, 1024]⟩
abbrev S704x1024 : Shape := ⟨2, ![704, 1024]⟩
abbrev S_ : Shape := ⟨0, ![]⟩
abbrev S352x1024 : Shape := ⟨2, ![352, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S704x1024, .f32⟩
  | .hbm, ⟨12, _⟩ => ⟨S_, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S704x1024, .f32⟩
  | .hbm, ⟨23, _⟩ => ⟨S_, .f32⟩
  | .hbm, ⟨24, _⟩ => ⟨S704x1024, .f32⟩
  | .hbm, ⟨25, _⟩ => ⟨S704x1024, .f32⟩
  | .hbm, ⟨26, _⟩ => ⟨S704x1024, .f32⟩
  | .hbm, ⟨27, _⟩ => ⟨S_, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | .hbm, ⟨37, _⟩ => ⟨S704x1024, .f32⟩
  | .hbm, ⟨38, _⟩ => ⟨S_, .f32⟩
  | .hbm, ⟨39, _⟩ => ⟨S704x1024, .f32⟩
  | .hbm, ⟨40, _⟩ => ⟨S704x1024, .f32⟩
  | .hbm, ⟨41, _⟩ => ⟨S704x1024, .f32⟩
  | .hbm, ⟨42, _⟩ => ⟨S_, .f32⟩
  | .hbm, ⟨43, _⟩ => ⟨S704x1024, .f32⟩
  | .hbm, ⟨44, _⟩ => ⟨S704x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== KernelSmallSum.lean ====
abbrev S8x544x128 : Shape := ⟨3, ![8, 544, 128]⟩
abbrev S544x128 : Shape := ⟨2, ![544, 128]⟩
abbrev S1x544x128 : Shape := ⟨3, ![1, 544, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x544x128, .f32⟩
  | .hbm, ⟨1, _⟩ => ⟨S544x128, .f32⟩
  | .hbm, ⟨2, _⟩ => ⟨S544x128, .f32⟩
  | .hbm, ⟨3, _⟩ => ⟨S544x128, .f32⟩
  | .hbm, ⟨4, _⟩ => ⟨S544x128, .f32⟩
  | .hbm, ⟨5, _⟩ => ⟨S544x128, .f32⟩
  | .hbm, ⟨6, _⟩ => ⟨S544x128, .f32⟩
  | .hbm, ⟨7, _⟩ => ⟨S544x128, .f32⟩
  | .local _ .vmem, ⟨0, _⟩ => ⟨S8x544x128, .f32⟩
  | .local _ .vmem, ⟨1, _⟩ => ⟨S544x128, .f32⟩
  | .local _ .vmem, ⟨2, _⟩ => ⟨S544x128, .f32⟩
  | .local _ .vmem, ⟨3, _⟩ => ⟨S544x128, .f32⟩
  | .local _ .vmem, ⟨4, _⟩ => ⟨S544x128, .f32⟩
  | .local _ .vmem, ⟨5, _⟩ => ⟨S544x128, .f32⟩
  | .local _ .vmem, ⟨6, _⟩ => ⟨S544x128, .f32⟩
  | .local _ .vmem, ⟨7, _⟩ => ⟨S544x128, .f32⟩
  | _, _ => ⟨S8x544x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![c0_i32_2.toNat, v2.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x544x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S544x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S544x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S544x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S544x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S544x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S544x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S544x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== ReferenceSmallSumIdeal.lean ====
abbrev S8x544x128 : Shape := ⟨3, ![8, 544, 128]⟩
abbrev S544x128 : Shape := ⟨2, ![544, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x544x128, .f32⟩
  | .hbm, ⟨1, _⟩ => ⟨S544x128, .f32⟩
  | .hbm, ⟨2, _⟩ => ⟨S544x128, .f32⟩
  | .hbm, ⟨3, _⟩ => ⟨S544x128, .f32⟩
  | .hbm, ⟨4, _⟩ => ⟨S_, .f32⟩
  | .hbm, ⟨5, _⟩ => ⟨S544x128, .f32⟩
  | .hbm, ⟨6, _⟩ => ⟨S_, .f32⟩
  | .hbm, ⟨7, _⟩ => ⟨S544x128, .f32⟩
  | .hbm, ⟨8, _⟩ => ⟨S544x128, .f32⟩
  | .hbm, ⟨9, _⟩ => ⟨S_, .f32⟩
  | .hbm, ⟨10, _⟩ => ⟨S544x128, .f32⟩
  | .hbm, ⟨11, _⟩ => ⟨S544x128, .f32⟩
  | .hbm, ⟨12, _⟩ => ⟨S544x128, .f32⟩
  | .hbm, ⟨13, _⟩ => ⟨S_, .f32⟩
  | .hbm, ⟨14, _⟩ => ⟨S544x128, .f32⟩
  | .hbm, ⟨15, _⟩ => ⟨S544x128, .f32⟩
  | .hbm, ⟨16, _⟩ => ⟨S544x128, .f32⟩
  | .hbm, ⟨17, _⟩ => ⟨S_, .f32⟩
  | .hbm, ⟨18, _⟩ => ⟨S544x128, .f32⟩
  | .hbm, ⟨19, _⟩ => ⟨S544x128, .f32⟩
  | .hbm, ⟨20, _⟩ => ⟨S544x128, .f32⟩
  | .hbm, ⟨21, _⟩ => ⟨S_, .f32⟩
  | .hbm, ⟨22, _⟩ => ⟨S544x128, .f32⟩
  | .hbm, ⟨23, _⟩ => ⟨S544x128, .f32⟩
  | .hbm, ⟨24, _⟩ => ⟨S_, .f32⟩
  | .hbm, ⟨25, _⟩ => ⟨S544x128, .f32⟩
  | .hbm, ⟨26, _⟩ => ⟨S544x128, .f32⟩
  | .hbm, ⟨27, _⟩ => ⟨S544x128, .f32⟩
  | .hbm, ⟨28, _⟩ => ⟨S_, .f32⟩
  | .hbm, ⟨29, _⟩ => ⟨S544x128, .f32⟩
  | .hbm, ⟨30, _⟩ => ⟨S544x128, .f32⟩
  | .hbm, ⟨31, _⟩ => ⟨S544x128, .f32⟩
  | .hbm, ⟨32, _⟩ => ⟨S_, .f32⟩
  | .hbm, ⟨33, _⟩ => ⟨S544x128, .f32⟩
  | .hbm, ⟨34, _⟩ => ⟨S544x128, .f32⟩
  | .hbm, ⟨35, _⟩ => ⟨S544x128, .f32⟩
  | .hbm, ⟨36, _⟩ => ⟨S_, .f32⟩
  | .hbm, ⟨37, _⟩ => ⟨S544x128, .f32⟩
  | .hbm, ⟨38, _⟩ => ⟨S544x128, .f32⟩
  | _, _ => ⟨S8x544x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelAdamSmall.lean ====
abbrev S1x184x128 : Shape := ⟨3, ![1, 184, 128]⟩
abbrev S184x128 : Shape := ⟨2, ![184, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x184x128, .f32⟩
  | .hbm, ⟨1, _⟩ => ⟨S184x128, .f32⟩
  | .hbm, ⟨2, _⟩ => ⟨S184x128, .f32⟩
  | .hbm, ⟨3, _⟩ => ⟨S184x128, .f32⟩
  | .hbm, ⟨4, _⟩ => ⟨S184x128, .f32⟩
  | .hbm, ⟨5, _⟩ => ⟨S184x128, .f32⟩
  | .hbm, ⟨6, _⟩ => ⟨S184x128, .f32⟩
  | .hbm, ⟨7, _⟩ => ⟨S184x128, .f32⟩
  | .local _ .vmem, ⟨0, _⟩ => ⟨S1x184x128, .f32⟩
  | .local _ .vmem, ⟨1, _⟩ => ⟨S184x128, .f32⟩
  | .local _ .vmem, ⟨2, _⟩ => ⟨S184x128, .f32⟩
  | .local _ .vmem, ⟨3, _⟩ => ⟨S184x128, .f32⟩
  | .local _ .vmem, ⟨4, _⟩ => ⟨S184x128, .f32⟩
  | .local _ .vmem, ⟨5, _⟩ => ⟨S184x128, .f32⟩
  | .local _ .vmem, ⟨6, _⟩ => ⟨S184x128, .f32⟩
  | .local _ .vmem, ⟨7, _⟩ => ⟨S184x128, .f32⟩
  | _, _ => ⟨S1x184x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![c0_i32_2.toNat, v2.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x184x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S184x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S184x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S184x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S184x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S184x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S184x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S184x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== ReferenceAdamSmallIdeal.lean ====
abbrev S1x184x128 : Shape := ⟨3, ![1, 184, 128]⟩
abbrev S184x128 : Shape := ⟨2, ![184, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x184x128, .f32⟩
  | .hbm, ⟨1, _⟩ => ⟨S184x128, .f32⟩
  | .hbm, ⟨2, _⟩ => ⟨S184x128, .f32⟩
  | .hbm, ⟨3, _⟩ => ⟨S184x128, .f32⟩
  | .hbm, ⟨4, _⟩ => ⟨S_, .f32⟩
  | .hbm, ⟨5, _⟩ => ⟨S184x128, .f32⟩
  | .hbm, ⟨6, _⟩ => ⟨S_, .f32⟩
  | .hbm, ⟨7, _⟩ => ⟨S184x128, .f32⟩
  | .hbm, ⟨8, _⟩ => ⟨S184x128, .f32⟩
  | .hbm, ⟨9, _⟩ => ⟨S_, .f32⟩
  | .hbm, ⟨10, _⟩ => ⟨S184x128, .f32⟩
  | .hbm, ⟨11, _⟩ => ⟨S184x128, .f32⟩
  | .hbm, ⟨12, _⟩ => ⟨S184x128, .f32⟩
  | .hbm, ⟨13, _⟩ => ⟨S_, .f32⟩
  | .hbm, ⟨14, _⟩ => ⟨S184x128, .f32⟩
  | .hbm, ⟨15, _⟩ => ⟨S184x128, .f32⟩
  | .hbm, ⟨16, _⟩ => ⟨S184x128, .f32⟩
  | .hbm, ⟨17, _⟩ => ⟨S_, .f32⟩
  | .hbm, ⟨18, _⟩ => ⟨S184x128, .f32⟩
  | .hbm, ⟨19, _⟩ => ⟨S184x128, .f32⟩
  | .hbm, ⟨20, _⟩ => ⟨S184x128, .f32⟩
  | .hbm, ⟨21, _⟩ => ⟨S_, .f32⟩
  | .hbm, ⟨22, _⟩ => ⟨S184x128, .f32⟩
  | .hbm, ⟨23, _⟩ => ⟨S184x128, .f32⟩
  | .hbm, ⟨24, _⟩ => ⟨S_, .f32⟩
  | .hbm, ⟨25, _⟩ => ⟨S184x128, .f32⟩
  | .hbm, ⟨26, _⟩ => ⟨S184x128, .f32⟩
  | .hbm, ⟨27, _⟩ => ⟨S184x128, .f32⟩
  | .hbm, ⟨28, _⟩ => ⟨S_, .f32⟩
  | .hbm, ⟨29, _⟩ => ⟨S184x128, .f32⟩
  | .hbm, ⟨30, _⟩ => ⟨S184x128, .f32⟩
  | .hbm, ⟨31, _⟩ => ⟨S184x128, .f32⟩
  | .hbm, ⟨32, _⟩ => ⟨S_, .f32⟩
  | .hbm, ⟨33, _⟩ => ⟨S184x128, .f32⟩
  | .hbm, ⟨34, _⟩ => ⟨S184x128, .f32⟩
  | .hbm, ⟨35, _⟩ => ⟨S184x128, .f32⟩
  | .hbm, ⟨36, _⟩ => ⟨S_, .f32⟩
  | .hbm, ⟨37, _⟩ => ⟨S184x128, .f32⟩
  | .hbm, ⟨38, _⟩ => ⟨S184x128, .f32⟩
  | _, _ => ⟨S1x184x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelFfnConv.lean ====
abbrev S2x4096x2816 : Shape := ⟨3, ![2, 4096, 2816]⟩
abbrev S3x5632 : Shape := ⟨2, ![3, 5632]⟩
abbrev S5632 : Shape := ⟨1, ![5632]⟩
abbrev S1x5632 : Shape := ⟨2, ![1, 5632]⟩
abbrev S4096x2816 : Shape := ⟨2, ![4096, 2816]⟩
abbrev S2x256x1408 : Shape := ⟨3, ![2, 256, 1408]⟩
abbrev S2x16x1408 : Shape := ⟨3, ![2, 16, 1408]⟩
abbrev S3x1408 : Shape := ⟨2, ![3, 1408]⟩
abbrev S1x1408 : Shape := ⟨2, ![1, 1408]⟩
abbrev S256x1408 : Shape := ⟨2, ![256, 1408]⟩
abbrev S2x8x1408 : Shape := ⟨3, ![2, 8, 1408]⟩
abbrev S1x256x1408 : Shape := ⟨3, ![1, 256, 1408]⟩
abbrev S1x8x1408 : Shape := ⟨3, ![1, 8, 1408]⟩
abbrev S8x1408 : Shape := ⟨2, ![8, 1408]⟩
abbrev S248x1408 : Shape := ⟨2, ![248, 1408]⟩

abbrev nBuf : Space → Nat
  | .hbm => 5
  | .vmem => 14
  | .smem => 0
  | _ => 0

abbrev bufTy : (tb : Table) → Fin (tcTables nBuf tb) → BufTy
  | .hbm, ⟨0, _⟩ => ⟨S2x4096x2816, .bf16⟩
  | .hbm, ⟨1, _⟩ => ⟨S3x5632, .f32⟩
  | .hbm, ⟨2, _⟩ => ⟨S5632, .f32⟩
  | .hbm, ⟨3, _⟩ => ⟨S1x5632, .f32⟩
  | .hbm, ⟨4, _⟩ => ⟨S4096x2816, .bf16⟩
  | .local _ .vmem, ⟨0, _⟩ => ⟨S2x256x1408, .bf16⟩
  | .local _ .vmem, ⟨1, _⟩ => ⟨S2x256x1408, .bf16⟩
  | .local _ .vmem, ⟨2, _⟩ => ⟨S2x16x1408, .bf16⟩
  | .local _ .vmem, ⟨3, _⟩ => ⟨S2x16x1408, .bf16⟩
  | .local _ .vmem, ⟨4, _⟩ => ⟨S3x1408, .f32⟩
  | .local _ .vmem, ⟨5, _⟩ => ⟨S3x1408, .f32⟩
  | .local _ .vmem, ⟨6, _⟩ => ⟨S3x1408, .f32⟩
  | .local _ .vmem, ⟨7, _⟩ => ⟨S3x1408, .f32⟩
  | .local _ .vmem, ⟨8, _⟩ => ⟨S1x1408, .f32⟩
  | .local _ .vmem, ⟨9, _⟩ => ⟨S1x1408, .f32⟩
  | .local _ .vmem, ⟨10, _⟩ => ⟨S1x1408, .f32⟩
  | .local _ .vmem, ⟨11, _⟩ => ⟨S1x1408, .f32⟩
  | .local _ .vmem, ⟨12, _⟩ => ⟨S256x1408, .bf16⟩
  | .local _ .vmem, ⟨13, _⟩ => ⟨S256x1408, .bf16⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceFfnConvIdeal.lean ====
abbrev S2x4096x2816 : Shape := ⟨3, ![2, 4096, 2816]⟩
abbrev S3x5632 : Shape := ⟨2, ![3, 5632]⟩
abbrev S5632 : Shape := ⟨1, ![5632]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩

abbrev nBuf : Space → Nat
  | .hbm => 48
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S3x5632, .f32⟩
  | .hbm, ⟨2, _⟩ => ⟨S5632, .f32⟩
  | .hbm, ⟨3, _⟩ => ⟨S1x4096x2816, .bf16⟩
  | .hbm, ⟨4, _⟩ => ⟨S4096x2816, .bf16⟩
  | .hbm, ⟨5, _⟩ => ⟨S1x4096x2816, .bf16⟩
  | .hbm, ⟨6, _⟩ => ⟨S4096x2816, .bf16⟩
  | .hbm, ⟨7, _⟩ => ⟨S4096x5632, .bf16⟩
  | .hbm, ⟨8, _⟩ => ⟨S4096x5632, .f32⟩
  | .hbm, ⟨9, _⟩ => ⟨S_, .f32⟩
  | .hbm, ⟨10, _⟩ => ⟨S2x5632, .f32⟩
  | .hbm, ⟨11, _⟩ => ⟨S4098x5632, .f32⟩
  | .hbm, ⟨12, _⟩ => ⟨S4096x5632, .f32⟩
  | .hbm, ⟨13, _⟩ => ⟨S1x5632, .f32⟩
  | .hbm, ⟨14, _⟩ => ⟨S5632, .f32⟩
  | .hbm, ⟨15, _⟩ => ⟨S1x5632, .f32⟩
  | .hbm, ⟨16, _⟩ => ⟨S4096x5632, .f32⟩
  | .hbm, ⟨17, _⟩ => ⟨S4096x5632, .f32⟩
  | .hbm, ⟨18, _⟩ => ⟨S1x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S1x5632, .f32⟩
  | .hbm, ⟨23, _⟩ => ⟨S5632, .f32⟩
  | .hbm, ⟨24, _⟩ => ⟨S1x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S1x5632, .f32⟩
  | .hbm, ⟨30, _⟩ => ⟨S5632, .f32⟩
  | .hbm, ⟨31, _⟩ => ⟨S1x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S_, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== KernelSsmConv.lean ====
abbrev S4096x5376 : Shape := ⟨2, ![4096, 5376]⟩
abbrev S4x3072 : Shape := ⟨2, ![4, 3072]⟩
abbrev S3072 : Shape := ⟨1, ![3072]⟩
abbrev S1x3072 : Shape := ⟨2, ![1, 3072]⟩
abbrev S4096x3072 : Shape := ⟨2, ![4096, 3072]⟩
abbrev S512x512 : Shape := ⟨2, ![512, 512]⟩
abbrev S8x512 : Shape := ⟨2, ![8, 512]⟩
abbrev S4x512 : Shape := ⟨2, ![4, 512]⟩
abbrev S1x512 : Shape := ⟨2, ![1, 512]⟩
abbrev S504x512 : Shape := ⟨2, ![504, 512]⟩

abbrev nBuf : Space → Nat
  | .hbm => 5
  | .vmem => 10
  | .smem => 0
  | _ => 0

abbrev bufTy : (tb : Table) → Fin (tcTables nBuf tb) → BufTy
  | .hbm, ⟨0, _⟩ => ⟨S4096x5376, .f32⟩
  | .hbm, ⟨1, _⟩ => ⟨S4x3072, .f32⟩
  | .hbm, ⟨2, _⟩ => ⟨S3072, .f32⟩
  | .hbm, ⟨3, _⟩ => ⟨S1x3072, .f32⟩
  | .hbm, ⟨4, _⟩ => ⟨S4096x3072, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | _, _ => ⟨S4096x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi arg0 c4_i32
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceSsmConvIdeal.lean ====
abbrev S4096x5376 : Shape := ⟨2, ![4096, 5376]⟩
abbrev S4x3072 : Shape := ⟨2, ![4, 3072]⟩
abbrev S3072 : Shape := ⟨1, ![3072]⟩
abbrev S4096x3072 : Shape := ⟨2, ![4096, 3072]⟩
abbrev S_ : Shape := ⟨0, ![]⟩
abbrev S3x3072 : Shape := ⟨2, ![3, 3072]⟩
abbrev S4099x3072 : Shape := ⟨2, ![4099, 3072]⟩
abbrev S1x3072 : Shape := ⟨2, ![1, 3072]⟩

abbrev nBuf : Space → Nat
  | .hbm => 46
  | .vmem => 0
  | .smem => 0
  | _ => 0

abbrev bufTy : (tb : Table) → Fin (tcTables nBuf tb) → BufTy
  | .hbm, ⟨0, _⟩ => ⟨S4096x5376, .f32⟩
  | .hbm, ⟨1, _⟩ => ⟨S4x3072, .f32⟩
  | .hbm, ⟨2, _⟩ => ⟨S3072, .f32⟩
  | .hbm, ⟨3, _⟩ => ⟨S4096x3072, .f32⟩
  | .hbm, ⟨4, _⟩ => ⟨S_, .f32⟩
  | .hbm, ⟨5, _⟩ => ⟨S3x3072, .f32⟩
  | .hbm, ⟨6, _⟩ => ⟨S4099x3072, .f32⟩
  | .hbm, ⟨7, _⟩ => ⟨S4096x3072, .f32⟩
  | .hbm, ⟨8, _⟩ => ⟨S1x3072, .f32⟩
  | .hbm, ⟨9, _⟩ => ⟨S3072, .f32⟩
  | .hbm, ⟨10, _⟩ => ⟨S1x3072, .f32⟩
  | .hbm, ⟨11, _⟩ => ⟨S4096x3072, .f32⟩
  | .hbm, ⟨12, _⟩ => ⟨S4096x3072, .f32⟩
  | .hbm, ⟨13, _⟩ => ⟨S1x3072, .f32⟩
  | .hbm, ⟨14, _⟩ => ⟨S4096x3072, .f32⟩
  | .hbm, ⟨15, _⟩ => ⟨S4096x3072, .f32⟩
  | .hbm, ⟨16, _⟩ => ⟨S4096x3072, .f32⟩
  | .hbm, ⟨17, _⟩ => ⟨S1x3072, .f32⟩
  | .hbm, ⟨18, _⟩ => ⟨S3072, .f32⟩
  | .hbm, ⟨19, _⟩ => ⟨S1x3072, .f32⟩
  | .hbm, ⟨20, _⟩ => ⟨S4096x3072, .f32⟩
  | .hbm, ⟨21, _⟩ => ⟨S4096x3072, .f32⟩
  | .hbm, ⟨22, _⟩ => ⟨S4096x3072, .f32⟩
  | .hbm, ⟨23, _⟩ => ⟨S4096x3072, .f32⟩
  | .hbm, ⟨24, _⟩ => ⟨S1x3072, .f32⟩
  | .hbm, ⟨25, _⟩ => ⟨S3072, .f32⟩
  | .hbm, ⟨26, _⟩ => ⟨S1x3072, .f32⟩
  | .hbm, ⟨27, _⟩ => ⟨S4096x3072, .f32⟩
  | .hbm, ⟨28, _⟩ => ⟨S4096x3072, .f32⟩
  | .hbm, ⟨29, _⟩ => ⟨S4096x3072, .f32⟩
  | .hbm, ⟨30, _⟩ => ⟨S4096x3072, .f32⟩
  | .hbm, ⟨31, _⟩ => ⟨S1x3072, .f32⟩
  | .hbm, ⟨32, _⟩ => ⟨S3072, .f32⟩
  | .hbm, ⟨33, _⟩ => ⟨S1x3072, .f32⟩
  | .hbm, ⟨34, _⟩ => ⟨S4096x3072, .f32⟩
  | .hbm, ⟨35, _⟩ => ⟨S4096x3072, .f32⟩
  | .hbm, ⟨36, _⟩ => ⟨S4096x3072, .f32⟩
  | .hbm, ⟨37, _⟩ => ⟨S4096x3072, .f32⟩
  | .hbm, ⟨38, _⟩ => ⟨S4096x3072, .f32⟩
  | .hbm, ⟨39, _⟩ => ⟨S_, .f32⟩
  | .hbm, ⟨40, _⟩ => ⟨S4096x3072, .f32⟩
  | .hbm, ⟨41, _⟩ => ⟨S4096x3072, .f32⟩
  | .hbm, ⟨42, _⟩ => ⟨S_, .f32⟩
  | .hbm, ⟨43, _⟩ => ⟨S4096x3072, .f32⟩
  | .hbm, ⟨44, _⟩ => ⟨S4096x3072, .f32⟩
  | .hbm, ⟨45, _⟩ => ⟨S4096x3072, .f32⟩
  | _, _ => ⟨S4096x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== KernelLossHead.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S1x128, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let v45 : BitVec 32 := Scalar.extui v44
  let c0_i32_17 : BitVec 32 := 0#32
  let v46 : BitVec 1 := Scalar.cmpi .ne v45 c0_i32_17
  v46

def k0_cond2 (i : grid0.Coords) : BitVec 1 :=
  let arg0 : BitVec 32 := BitVec.ofNat 32 (i 0).val
  let c0_i32_18 : BitVec 32 := 0#32
  let v47 : BitVec 1 := Scalar.cmpi .sgt arg0 c0_i32_18
  let v48 : BitVec 32 := Scalar.extui v47
  let c0_i32_19 : BitVec 32 := 0#32
  let v49 : BitVec 1 := Scalar.cmpi .ne v48 c0_i32_19
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceLossHeadIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x128, .f32⟩
  | .hbm, ⟨72, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== KernelGate.lean ====
abbrev S2x4096x2816 : Shape := ⟨3, ![2, 4096, 2816]⟩
abbrev S3x5632 : Shape := ⟨2, ![3, 5632]⟩
abbrev S5632 : Shape := ⟨1, ![5632]⟩
abbrev S4096x2816 : Shape := ⟨2, ![4096, 2816]⟩
abbrev S1x5632 : Shape := ⟨2, ![1, 5632]⟩
abbrev S2x3x2816 : Shape := ⟨3, ![2, 3, 2816]⟩
abbrev S2x1x2816 : Shape := ⟨3, ![2, 1, 2816]⟩
abbrev S2x256x1408 : Shape := ⟨3, ![2, 256, 1408]⟩
abbrev S2x16x1408 : Shape := ⟨3, ![2, 16, 1408]⟩
abbrev S3x1408 : Shape := ⟨2, ![3, 1408]⟩
abbrev S1x1408 : Shape := ⟨2, ![1, 1408]⟩
abbrev S256x1408 : Shape := ⟨2, ![256, 1408]⟩
abbrev S2x3x1408 : Shape := ⟨3, ![2, 3, 1408]⟩
abbrev S2x1x1408 : Shape := ⟨3, ![2, 1, 1408]⟩
abbrev S2x8x1408 : Shape := ⟨3, ![2, 8, 1408]⟩
abbrev S1x256x1408 : Shape := ⟨3, ![1, 256, 1408]⟩
abbrev S1x8x1408 : Shape := ⟨3, ![1, 8, 1408]⟩
abbrev S8x1408 : Shape := ⟨2, ![8, 1408]⟩
abbrev S248x1408 : Shape := ⟨2, ![248, 1408]⟩
abbrev S1x1x1408 : Shape := ⟨3, ![1, 1, 1408]⟩
abbrev S1408 : Shape := ⟨1, ![1408]⟩

abbrev nBuf : Space → Nat
  | .hbm => 8
  | .vmem => 20
  | .smem => 0
  | _ => 0

abbrev bufTy : (tb : Table) → Fin (tcTables nBuf tb) → BufTy
  | .hbm, ⟨0, _⟩ => ⟨S2x4096x2816, .bf16⟩
  | .hbm, ⟨1, _⟩ => ⟨S3x5632, .f32⟩
  | .hbm, ⟨2, _⟩ => ⟨S5632, .f32⟩
  | .hbm, ⟨3, _⟩ => ⟨S4096x2816, .bf16⟩
  | .hbm, ⟨4, _⟩ => ⟨S1x5632, .f32⟩
  | .hbm, ⟨5, _⟩ => ⟨S2x4096x2816, .bf16⟩
  | .hbm, ⟨6, _⟩ => ⟨S2x3x2816, .f32⟩
  | .hbm, ⟨7, _⟩ => ⟨S2x1x2816, .f32⟩
  | .local _ .vmem, ⟨0, _⟩ => ⟨S2x256x1408, .bf16⟩
  | .local _ .vmem, ⟨1, _⟩ => ⟨S2x256x1408, .bf16⟩
  | .local _ .vmem, ⟨2, _⟩ => ⟨S2x16x1408, .bf16⟩
  | .local _ .vmem, ⟨3, _⟩ => ⟨S2x16x1408, .bf16⟩
  | .local _ .vmem, ⟨4, _⟩ => ⟨S3x1408, .f32⟩
  | .local _ .vmem, ⟨5, _⟩ => ⟨S3x1408, .f32⟩
  | .local _ .vmem, ⟨6, _⟩ => ⟨S3x1408, .f32⟩
  | .local _ .vmem, ⟨7, _⟩ => ⟨S3x1408, .f32⟩
  | .local _ .vmem, ⟨8, _⟩ => ⟨S1x1408, .f32⟩
  | .local _ .vmem, ⟨9, _⟩ => ⟨S1x1408, .f32⟩
  | .local _ .vmem, ⟨10, _⟩ => ⟨S1x1408, .f32⟩
  | .local _ .vmem, ⟨11, _⟩ => ⟨S1x1408, .f32⟩
  | .local _ .vmem, ⟨12, _⟩ => ⟨S256x1408, .bf16⟩
  | .local _ .vmem, ⟨13, _⟩ => ⟨S256x1408, .bf16⟩
  | .local _ .vmem, ⟨14, _⟩ => ⟨S2x256x1408, .bf16⟩
  | .local _ .vmem, ⟨15, _⟩ => ⟨S2x256x1408, .bf16⟩
  | .local _ .vmem, ⟨16, _⟩ => ⟨S2x3x1408, .f32⟩
  | .local _ .vmem, ⟨17, _⟩ => ⟨S2x3x1408, .f32⟩
  | .local _ .vmem, ⟨18, _⟩ => ⟨S2x1x1408, .f32⟩
  | .local _ .vmem, ⟨19, _⟩ => ⟨S2x1x1408, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x256x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x3x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x1x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceGateIdeal.lean ====
abbrev S2x4096x2816 : Shape := ⟨3, ![2, 4096, 2816]⟩
abbrev S3x5632 : Shape := ⟨2, ![3, 5632]⟩
abbrev S5632 : Shape := ⟨1, ![5632]⟩
abbrev S4096x2816 : Shape := ⟨2, ![4096, 2816]⟩
abbrev S1x4096x2816 : Shape := ⟨3, ![1, 4096, 2816]⟩
abbrev S4096x5632 : Shape := ⟨2, ![4096, 5632]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S3x2816 : Shape := ⟨2, ![3, 2816]⟩
abbrev S1x3x2816 : Shape := ⟨3, ![1, 3, 2816]⟩
abbrev S2x3x2816 : Shape := ⟨3, ![2, 3, 2816]⟩
abbrev S2816 : Shape := ⟨1, ![2816]⟩
abbrev S1x2816 : Shape := ⟨2, ![1, 2816]⟩
abbrev S1x1x2816 : Shape := ⟨3, ![1, 1, 2816]⟩
abbrev S2x1x2816 : Shape := ⟨3, ![2, 1, 2816]⟩

abbrev nBuf : Space → Nat
  | .hbm => 123
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S3x5632, .f32⟩
  | .hbm, ⟨2, _⟩ => ⟨S5632, .f32⟩
  | .hbm, ⟨3, _⟩ => ⟨S4096x2816, .bf16⟩
  | .hbm, ⟨4, _⟩ => ⟨S1x4096x2816, .bf16⟩
  | .hbm, ⟨5, _⟩ => ⟨S4096x2816, .bf16⟩
  | .hbm, ⟨6, _⟩ => ⟨S1x4096x2816, .bf16⟩
  | .hbm, ⟨7, _⟩ => ⟨S4096x2816, .bf16⟩
  | .hbm, ⟨8, _⟩ => ⟨S4096x5632, .bf16⟩
  | .hbm, ⟨9, _⟩ => ⟨S4096x5632, .f32⟩
  | .hbm, ⟨10, _⟩ => ⟨S_, .f32⟩
  | .hbm, ⟨11, _⟩ => ⟨S2x5632, .f32⟩
  | .hbm, ⟨12, _⟩ => ⟨S4098x5632, .f32⟩
  | .hbm, ⟨13, _⟩ => ⟨S4096x5632, .f32⟩
  | .hbm, ⟨14, _⟩ => ⟨S1x5632, .f32⟩
  | .hbm, ⟨15, _⟩ => ⟨S5632, .f32⟩
  | .hbm, ⟨16, _⟩ => ⟨S1x5632, .f32⟩
  | .hbm, ⟨17, _⟩ => ⟨S4096x5632, .f32⟩
  | .hbm, ⟨18, _⟩ => ⟨S4096x5632, .f32⟩
  | .hbm, ⟨19, _⟩ => ⟨S1x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S1x5632, .f32⟩
  | .hbm, ⟨24, _⟩ => ⟨S5632, .f32⟩
  | .hbm, ⟨25, _⟩ => ⟨S1x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S1x5632, .f32⟩
  | .hbm, ⟨31, _⟩ => ⟨S5632, .f32⟩
  | .hbm, ⟨32, _⟩ => ⟨S1x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S_, .f32⟩
  | .hbm, ⟨45, _⟩ => ⟨S4096x2816, .f32⟩
  | .hbm, ⟨46, _⟩ => ⟨S4096x2816, .f32⟩
  | .hbm, ⟨47, _⟩ => ⟨S_, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S_, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S4096x2816, .f32⟩
  | .hbm, ⟨61, _⟩ => ⟨S4096x2816, .f32⟩
  | .hbm, ⟨62, _⟩ => ⟨S_, .f32⟩
  | .hbm, ⟨63, _⟩ => ⟨S4096x2816, .f32⟩
  | .hbm, ⟨64, _⟩ => ⟨S4096x2816, .f32⟩
  | .hbm, ⟨65, _⟩ => ⟨S_, .f32⟩
  | .hbm, ⟨66, _⟩ => ⟨S4096x2816, .f32⟩
  | .hbm, ⟨67, _⟩ => ⟨S4096x2816, .f32⟩
  | .hbm, ⟨68, _⟩ => ⟨S4096x2816, .f32⟩
  | .hbm, ⟨69, _⟩ => ⟨S4096x2816, .f32⟩
  | .hbm, ⟨70, _⟩ => ⟨S4096x5632, .f32⟩
  | .hbm, ⟨71, _⟩ => ⟨S4096x5632, .f32⟩
  | .hbm, ⟨72, _⟩ => ⟨S_, .f32⟩
  | .hbm, ⟨73, _⟩ => ⟨S5632, .f32⟩
  | .hbm, ⟨74, _⟩ => ⟨S1x5632, .f32⟩
  | .hbm, ⟨75, _⟩ => ⟨S_, .f32⟩
  | .hbm, ⟨76, _⟩ => ⟨S5632, .f32⟩
  | .hbm, ⟨77, _⟩ => ⟨S1x5632, .f32⟩
  | .hbm, ⟨78, _⟩ => ⟨S_, .f32⟩
  | .hbm, ⟨79, _⟩ => ⟨S3x5632, .f32⟩
  | .hbm, ⟨80, _⟩ => ⟨S4096x5632, .f32⟩
  | .hbm, ⟨81, _⟩ => ⟨S_, .f32⟩
  | .hbm, ⟨82, _⟩ => ⟨S5632, .f32⟩
  | .hbm, ⟨83, _⟩ => ⟨S1x5632, .f32⟩
  | .hbm, ⟨84, _⟩ => ⟨S_, .f32⟩
  | .hbm, ⟨85, _⟩ => ⟨S5632, .f32⟩
  | .hbm, ⟨86, _⟩ => ⟨S1x5632, .f32⟩
  | .hbm, ⟨87, _⟩ => ⟨S_, .f32⟩
  | .hbm, ⟨88, _⟩ => ⟨S3x5632, .f32⟩
  | .hbm, ⟨89, _⟩ => ⟨S3x5632, .f32⟩
  | .hbm, ⟨90, _⟩ => ⟨S_, .f32⟩
  | .hbm, ⟨91, _⟩ => ⟨S5632, .f32⟩
  | .hbm, ⟨92, _⟩ => ⟨S1x5632, .f32⟩
  | .hbm, ⟨93, _⟩ => ⟨S_, .f32⟩
  | .hbm, ⟨94, _⟩ => ⟨S5632, .f32⟩
  | .hbm, ⟨95, _⟩ => ⟨S4096x5632, .f32⟩
  | .hbm, ⟨96, _⟩ => ⟨S_, .f32⟩
  | .hbm, ⟨97, _⟩ => ⟨S5632, .f32⟩
  | .hbm, ⟨98, _⟩ => ⟨S1x5632, .f32⟩
  | .hbm, ⟨99, _⟩ => ⟨S_, .f32⟩
  | .hbm, ⟨100, _⟩ => ⟨S5632, .f32⟩
  | .hbm, ⟨101, _⟩ => ⟨S1x5632, .f32⟩
  | .hbm, ⟨102, _⟩ => ⟨S_, .f32⟩
  | .hbm, ⟨103, _⟩ => ⟨S3x5632, .f32⟩
  | .hbm, ⟨104, _⟩ => ⟨S3x5632, .f32⟩
  | .hbm, ⟨105, _⟩ => ⟨S4096x2816, .f32⟩
  | .hbm, ⟨106, _⟩ => ⟨S4096x2816, .f32⟩
  | .hbm, ⟨107, _⟩ => ⟨S1x4096x2816, .f32⟩
  | .hbm, ⟨108, _⟩ => ⟨S1x4096x2816, .f32⟩
  | .hbm, ⟨109, _⟩ => ⟨S2x4096x2816, .f32⟩
  | .hbm, ⟨110, _⟩ => ⟨S2x4096x2816, .bf16⟩
  | .hbm, ⟨111, _⟩ => ⟨S3x2816, .f32⟩
  | .hbm, ⟨112, _⟩ => ⟨S3x2816, .f32⟩
  | .hbm, ⟨113, _⟩ => ⟨S1x3x2816, .f32⟩
  | .hbm, ⟨114, _⟩ => ⟨S1x3x2816, .f32⟩
  | .hbm, ⟨115, _⟩ => ⟨S2x3x2816, .f32⟩
  | .hbm, ⟨116, _⟩ => ⟨S2816, .f32⟩
  | .hbm, ⟨117, _⟩ => ⟨S1x2816, .f32⟩
  | .hbm, ⟨118, _⟩ => ⟨S2816, .f32⟩
  | .hbm, ⟨119, _⟩ => ⟨S1x2816, .f32⟩
  | .hbm, ⟨120, _⟩ => ⟨S1x1x2816, .f32⟩
  | .hbm, ⟨121, _⟩ => ⟨S1x1x2816, .f32⟩
  | .hbm, ⟨122, _⟩ => ⟨S2x1x2816, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v34_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v34_1 : Ref sig .tc := ⟨.hbm, 50, rfl⟩
abbrev main_v34_0 : Ref sig .tc := ⟨.hbm, 51, rfl⟩
abbrev main_cst_0 : Ref sig .tc := ⟨.hbm, 52, rfl⟩
abbrev main_v35 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call2_v0 : Ref sig .tc := ⟨.hbm, 60, rfl⟩
abbrev main_call2_v1 : Ref sig .tc := ⟨.hbm, 61, rfl⟩
abbrev main_call2_cst : Ref sig .tc := ⟨.hbm, 62, rfl⟩
abbrev main_call2_v2 : Ref sig .tc := ⟨.hbm, 63, rfl⟩
abbrev main_call2_v3 : Ref sig .tc := ⟨.hbm, 64, rfl⟩
abbrev main_call2_cst_0 : Ref sig .tc := ⟨.hbm, 65, rfl⟩
abbrev main_call2_v4 : Ref sig .tc := ⟨.hbm, 66, rfl⟩
abbrev main_call2_v5 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_1 : Ref sig .tc := ⟨.hbm, 72, rfl⟩
abbrev main_v43 : Ref sig .tc := ⟨.hbm, 73, rfl⟩
abbrev main_v44 : Ref sig .tc := ⟨.hbm, 74, rfl⟩
abbrev main_cst_2 : Ref sig .tc := ⟨.hbm, 75, rfl⟩
abbrev main_v45 : Ref sig .tc := ⟨.hbm, 76, rfl⟩
abbrev main_v46 : Ref sig .tc := ⟨.hbm, 77, rfl⟩
abbrev main_cst_3 : Ref sig .tc := ⟨.hbm, 78, rfl⟩
abbrev main_v47 : Ref sig .tc := ⟨.hbm, 79, rfl⟩
abbrev main_v48 : Ref sig .tc := ⟨.hbm, 80, rfl⟩
abbrev main_cst_4 : Ref sig .tc := ⟨.hbm, 81, rfl⟩
abbrev main_v49 : Ref sig .tc := ⟨.hbm, 82, rfl⟩
abbrev main_v50 : Ref sig .tc := ⟨.hbm, 83, rfl⟩
abbrev main_cst_5 : Ref sig .tc := ⟨.hbm, 84, rfl⟩
abbrev main_v51 : Ref sig .tc := ⟨.hbm, 85, rfl⟩
abbrev main_v52 : Ref sig .tc := ⟨.hbm, 86, rfl⟩
abbrev main_cst_6 : Ref sig .tc := ⟨.hbm, 87, rfl⟩
abbrev main_v53 : Ref sig .tc := ⟨.hbm, 88, rfl⟩
abbrev main_v54 : Ref sig .tc := ⟨.hbm, 89, rfl⟩
abbrev main_cst_7 : Ref sig .tc := ⟨.hbm, 90, rfl⟩
abbrev main_v55 : Ref sig .tc := ⟨.hbm, 91, rfl⟩
abbrev main_v56 : Ref sig .tc := ⟨.hbm, 92, rfl⟩
abbrev main_cst_8 : Ref sig .tc := ⟨.hbm, 93, rfl⟩
abbrev main_v57 : Ref sig .tc := ⟨.hbm, 94, rfl⟩
abbrev main_v58 : Ref sig .tc := ⟨.hbm, 95, rfl⟩
abbrev main_cst_9 : Ref sig .tc := ⟨.hbm, 96, rfl⟩
abbrev main_v59 : Ref sig .tc := ⟨.hbm, 97, rfl⟩
abbrev main_v60 : Ref sig .tc := ⟨.hbm, 98, rfl⟩
abbrev main_cst_10 : Ref sig .tc := ⟨.hbm, 99, rfl⟩
abbrev main_v61 : Ref sig .tc := ⟨.hbm, 100, rfl⟩
abbrev main_v62 : Ref sig .tc := ⟨.hbm, 101, rfl⟩
abbrev main_cst_11 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩

abbrev nD : Nat := 1
abbrev τ : Topo := Topo.v7x

variable {F : FTy → Type} [FloatOps F]
-- ==== KernelSsmConvD.lean ====
abbrev S4096x5376 : Shape := ⟨2, ![4096, 5376]⟩
abbrev S4x3072 : Shape := ⟨2, ![4, 3072]⟩
abbrev S3072 : Shape := ⟨1, ![3072]⟩
abbrev S4096x3072 : Shape := ⟨2, ![4096, 3072]⟩
abbrev S1x3072 : Shape := ⟨2, ![1, 3072]⟩
abbrev S512x512 : Shape := ⟨2, ![512, 512]⟩
abbrev S8x512 : Shape := ⟨2, ![8, 512]⟩
abbrev S4x512 : Shape := ⟨2, ![4, 512]⟩
abbrev S1x512 : Shape := ⟨2, ![1, 512]⟩
abbrev S504x512 : Shape := ⟨2, ![504, 512]⟩
abbrev S512 : Shape := ⟨1, ![512]⟩

abbrev nBuf : Space → Nat
  | .hbm => 8
  | .vmem => 16
  | .smem => 0
  | _ => 0

abbrev bufTy : (tb : Table) → Fin (tcTables nBuf tb) → BufTy
  | .hbm, ⟨0, _⟩ => ⟨S4096x5376, .f32⟩
  | .hbm, ⟨1, _⟩ => ⟨S4x3072, .f32⟩
  | .hbm, ⟨2, _⟩ => ⟨S3072, .f32⟩
  | .hbm, ⟨3, _⟩ => ⟨S4096x3072, .f32⟩
  | .hbm, ⟨4, _⟩ => ⟨S1x3072, .f32⟩
  | .hbm, ⟨5, _⟩ => ⟨S4096x3072, .f32⟩
  | .hbm, ⟨6, _⟩ => ⟨S4x3072, .f32⟩
  | .hbm, ⟨7, _⟩ => ⟨S1x3072, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S4x512, .f32⟩
  | .local _ .vmem, ⟨13, _⟩ => ⟨S4x512, .f32⟩
  | .local _ .vmem, ⟨14, _⟩ => ⟨S1x512, .f32⟩
  | .local _ .vmem, ⟨15, _⟩ => ⟨S1x512, .f32⟩
  | _, _ => ⟨S4096x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi arg0 c4_i32
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceSsmConvDIdeal.lean ====
abbrev S4096x5376 : Shape := ⟨2, ![4096, 5376]⟩
abbrev S4x3072 : Shape := ⟨2, ![4, 3072]⟩
abbrev S3072 : Shape := ⟨1, ![3072]⟩
abbrev S4096x3072 : Shape := ⟨2, ![4096, 3072]⟩
abbrev S_ : Shape := ⟨0, ![]⟩
abbrev S3x3072 : Shape := ⟨2, ![3, 3072]⟩
abbrev S4099x3072 : Shape := ⟨2, ![4099, 3072]⟩
abbrev S1x3072 : Shape := ⟨2, ![1, 3072]⟩

abbrev nBuf : Space → Nat
  | .hbm => 103
  | .vmem => 0
  | .smem => 0
  | _ => 0

abbrev bufTy : (tb : Table) → Fin (tcTables nBuf tb) → BufTy
  | .hbm, ⟨0, _⟩ => ⟨S4096x5376, .f32⟩
  | .hbm, ⟨1, _⟩ => ⟨S4x3072, .f32⟩
  | .hbm, ⟨2, _⟩ => ⟨S3072, .f32⟩
  | .hbm, ⟨3, _⟩ => ⟨S4096x3072, .f32⟩
  | .hbm, ⟨4, _⟩ => ⟨S4096x3072, .f32⟩
  | .hbm, ⟨5, _⟩ => ⟨S_, .f32⟩
  | .hbm, ⟨6, _⟩ => ⟨S3x3072, .f32⟩
  | .hbm, ⟨7, _⟩ => ⟨S4099x3072, .f32⟩
  | .hbm, ⟨8, _⟩ => ⟨S4096x3072, .f32⟩
  | .hbm, ⟨9, _⟩ => ⟨S1x3072, .f32⟩
  | .hbm, ⟨10, _⟩ => ⟨S3072, .f32⟩
  | .hbm, ⟨11, _⟩ => ⟨S1x3072, .f32⟩
  | .hbm, ⟨12, _⟩ => ⟨S4096x3072, .f32⟩
  | .hbm, ⟨13, _⟩ => ⟨S4096x3072, .f32⟩
  | .hbm, ⟨14, _⟩ => ⟨S1x3072, .f32⟩
  | .hbm, ⟨15, _⟩ => ⟨S4096x3072, .f32⟩
  | .hbm, ⟨16, _⟩ => ⟨S4096x3072, .f32⟩
  | .hbm, ⟨17, _⟩ => ⟨S4096x3072, .f32⟩
  | .hbm, ⟨18, _⟩ => ⟨S1x3072, .f32⟩
  | .hbm, ⟨19, _⟩ => ⟨S3072, .f32⟩
  | .hbm, ⟨20, _⟩ => ⟨S1x3072, .f32⟩
  | .hbm, ⟨21, _⟩ => ⟨S4096x3072, .f32⟩
  | .hbm, ⟨22, _⟩ => ⟨S4096x3072, .f32⟩
  | .hbm, ⟨23, _⟩ => ⟨S4096x3072, .f32⟩
  | .hbm, ⟨24, _⟩ => ⟨S4096x3072, .f32⟩
  | .hbm, ⟨25, _⟩ => ⟨S1x3072, .f32⟩
  | .hbm, ⟨26, _⟩ => ⟨S3072, .f32⟩
  | .hbm, ⟨27, _⟩ => ⟨S1x3072, .f32⟩
  | .hbm, ⟨28, _⟩ => ⟨S4096x3072, .f32⟩
  | .hbm, ⟨29, _⟩ => ⟨S4096x3072, .f32⟩
  | .hbm, ⟨30, _⟩ => ⟨S4096x3072, .f32⟩
  | .hbm, ⟨31, _⟩ => ⟨S4096x3072, .f32⟩
  | .hbm, ⟨32, _⟩ => ⟨S1x3072, .f32⟩
  | .hbm, ⟨33, _⟩ => ⟨S3072, .f32⟩
  | .hbm, ⟨34, _⟩ => ⟨S1x3072, .f32⟩
  | .hbm, ⟨35, _⟩ => ⟨S4096x3072, .f32⟩
  | .hbm, ⟨36, _⟩ => ⟨S4096x3072, .f32⟩
  | .hbm, ⟨37, _⟩ => ⟨S4096x3072, .f32⟩
  | .hbm, ⟨38, _⟩ => ⟨S4096x3072, .f32⟩
  | .hbm, ⟨39, _⟩ => ⟨S4096x3072, .f32⟩
  | .hbm, ⟨40, _⟩ => ⟨S_, .f32⟩
  | .hbm, ⟨41, _⟩ => ⟨S4096x3072, .f32⟩
  | .hbm, ⟨42, _⟩ => ⟨S4096x3072, .f32⟩
  | .hbm, ⟨43, _⟩ => ⟨S_, .f32⟩
  | .hbm, ⟨44, _⟩ => ⟨S4096x3072, .f32⟩
  | .hbm, ⟨45, _⟩ => ⟨S4096x3072, .f32⟩
  | .hbm, ⟨46, _⟩ => ⟨S_, .f32⟩
  | .hbm, ⟨47, _⟩ => ⟨S4096x3072, .f32⟩
  | .hbm, ⟨48, _⟩ => ⟨S4096x3072, .f32⟩
  | .hbm, ⟨49, _⟩ => ⟨S4096x3072, .f32⟩
  | .hbm, ⟨50, _⟩ => ⟨S4096x3072, .f32⟩
  | .hbm, ⟨51, _⟩ => ⟨S_, .f32⟩
  | .hbm, ⟨52, _⟩ => ⟨S4096x3072, .f32⟩
  | .hbm, ⟨53, _⟩ => ⟨S4096x3072, .f32⟩
  | .hbm, ⟨54, _⟩ => ⟨S4096x3072, .f32⟩
  | .hbm, ⟨55, _⟩ => ⟨S4096x3072, .f32⟩
  | .hbm, ⟨56, _⟩ => ⟨S4096x3072, .f32⟩
  | .hbm, ⟨57, _⟩ => ⟨S4096x3072, .f32⟩
  | .hbm, ⟨58, _⟩ => ⟨S4096x3072, .f32⟩
  | .hbm, ⟨59, _⟩ => ⟨S_, .f32⟩
  | .hbm, ⟨60, _⟩ => ⟨S3072, .f32⟩
  | .hbm, ⟨61, _⟩ => ⟨S1x3072, .f32⟩
  | .hbm, ⟨62, _⟩ => ⟨S_, .f32⟩
  | .hbm, ⟨63, _⟩ => ⟨S3072, .f32⟩
  | .hbm, ⟨64, _⟩ => ⟨S1x3072, .f32⟩
  | .hbm, ⟨65, _⟩ => ⟨S_, .f32⟩
  | .hbm, ⟨66, _⟩ => ⟨S4x3072, .f32⟩
  | .hbm, ⟨67, _⟩ => ⟨S4096x3072, .f32⟩
  | .hbm, ⟨68, _⟩ => ⟨S_, .f32⟩
  | .hbm, ⟨69, _⟩ => ⟨S3072, .f32⟩
  | .hbm, ⟨70, _⟩ => ⟨S1x3072, .f32⟩
  | .hbm, ⟨71, _⟩ => ⟨S_, .f32⟩
  | .hbm, ⟨72, _⟩ => ⟨S3072, .f32⟩
  | .hbm, ⟨73, _⟩ => ⟨S1x3072, .f32⟩
  | .hbm, ⟨74, _⟩ => ⟨S_, .f32⟩
  | .hbm, ⟨75, _⟩ => ⟨S4x3072, .f32⟩
  | .hbm, ⟨76, _⟩ => ⟨S4x3072, .f32⟩
  | .hbm, ⟨77, _⟩ => ⟨S4096x3072, .f32⟩
  | .hbm, ⟨78, _⟩ => ⟨S_, .f32⟩
  | .hbm, ⟨79, _⟩ => ⟨S3072, .f32⟩
  | .hbm, ⟨80, _⟩ => ⟨S1x3072, .f32⟩
  | .hbm, ⟨81, _⟩ => ⟨S_, .f32⟩
  | .hbm, ⟨82, _⟩ => ⟨S3072, .f32⟩
  | .hbm, ⟨83, _⟩ => ⟨S1x3072, .f32⟩
  | .hbm, ⟨84, _⟩ => ⟨S_, .f32⟩
  | .hbm, ⟨85, _⟩ => ⟨S4x3072, .f32⟩
  | .hbm, ⟨86, _⟩ => ⟨S4x3072, .f32⟩
  | .hbm, ⟨87, _⟩ => ⟨S_, .f32⟩
  | .hbm, ⟨88, _⟩ => ⟨S3072, .f32⟩
  | .hbm, ⟨89, _⟩ => ⟨S1x3072, .f32⟩
  | .hbm, ⟨90, _⟩ => ⟨S_, .f32⟩
  | .hbm, ⟨91, _⟩ => ⟨S3072, .f32⟩
  | .hbm, ⟨92, _⟩ => ⟨S4096x3072, .f32⟩
  | .hbm, ⟨93, _⟩ => ⟨S_, .f32⟩
  | .hbm, ⟨94, _⟩ => ⟨S3072, .f32⟩
  | .hbm, ⟨95, _⟩ => ⟨S1x3072, .f32⟩
  | .hbm, ⟨96, _⟩ => ⟨S_, .f32⟩
  | .hbm, ⟨97, _⟩ => ⟨S3072, .f32⟩
  | .hbm, ⟨98, _⟩ => ⟨S1x3072, .f32⟩
  | .hbm, ⟨99, _⟩ => ⟨S_, .f32⟩
  | .hbm, ⟨100, _⟩ => ⟨S4x3072, .f32⟩
  | .hbm, ⟨101, _⟩ => ⟨S4x3072, .f32⟩
  | .hbm, ⟨102, _⟩ => ⟨S1x3072, .f32⟩
  | _, _ => ⟨S4096x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v33_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v33_1 : Ref sig .tc := ⟨.hbm, 49, rfl⟩
abbrev main_v33_0 : Ref sig .tc := ⟨.hbm, 50, rfl⟩
abbrev main_cst_0 : Ref sig .tc := ⟨.hbm, 51, rfl⟩
abbrev main_v34 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_1 : Ref sig .tc := ⟨.hbm, 59, rfl⟩
abbrev main_v38 : Ref sig .tc := ⟨.hbm, 60, rfl⟩
abbrev main_v39 : Ref sig .tc := ⟨.hbm, 61, rfl⟩
abbrev main_cst_2 : Ref sig .tc := ⟨.hbm, 62, rfl⟩
abbrev main_v40 : Ref sig .tc := ⟨.hbm, 63, rfl⟩
abbrev main_v41 : Ref sig .tc := ⟨.hbm, 64, rfl⟩
abbrev main_cst_3 : Ref sig .tc := ⟨.hbm, 65, rfl⟩
abbrev main_v42 : Ref sig .tc := ⟨.hbm, 66, rfl⟩
abbrev main_v43 : Ref sig .tc := ⟨.hbm, 67, rfl⟩
abbrev main_cst_4 : Ref sig .tc := ⟨.hbm, 68, rfl⟩
abbrev main_v44 : Ref sig .tc := ⟨.hbm, 69, rfl⟩
abbrev main_v45 : Ref sig .tc := ⟨.hbm, 70, rfl⟩
abbrev main_cst_5 : Ref sig .tc := ⟨.hbm, 71, rfl⟩
abbrev main_v46 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_7 : Ref sig .tc := ⟨.hbm, 78, rfl⟩
abbrev main_v51 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_cst_13 : Ref sig .tc := ⟨.hbm, 96, rfl⟩
abbrev main_v63 : Ref sig .tc := ⟨.hbm, 97, rfl⟩
abbrev main_v64 : Ref sig .tc := ⟨.hbm, 98, rfl⟩
abbrev main_cst_14 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩

abbrev nD : Nat := 1
abbrev τ : Topo := Topo.v7x

variable {F : FTy → Type} [FloatOps F]
-- ==== KernelSsmConvIn.lean ====
abbrev S4096x3072 : Shape := ⟨2, ![4096, 3072]⟩
abbrev S4x3072 : Shape := ⟨2, ![4, 3072]⟩
abbrev S4096x5376 : Shape := ⟨2, ![4096, 5376]⟩
abbrev S512x512 : Shape := ⟨2, ![512, 512]⟩
abbrev S8x512 : Shape := ⟨2, ![8, 512]⟩
abbrev S4x512 : Shape := ⟨2, ![4, 512]⟩
abbrev S1x512 : Shape := ⟨2, ![1, 512]⟩
abbrev S504x512 : Shape := ⟨2, ![504, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x3072, .f32⟩
  | .hbm, ⟨1, _⟩ => ⟨S4x3072, .f32⟩
  | .hbm, ⟨2, _⟩ => ⟨S4096x5376, .bf16⟩
  | .hbm, ⟨3, _⟩ => ⟨S4096x5376, .bf16⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S4x512, .f32⟩
  | .local _ .vmem, ⟨6, _⟩ => ⟨S512x512, .bf16⟩
  | .local _ .vmem, ⟨7, _⟩ => ⟨S512x512, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceSsmConvInIdeal.lean ====
abbrev S4096x3072 : Shape := ⟨2, ![4096, 3072]⟩
abbrev S4x3072 : Shape := ⟨2, ![4, 3072]⟩
abbrev S4096x5376 : Shape := ⟨2, ![4096, 5376]⟩
abbrev S_ : Shape := ⟨0, ![]⟩
abbrev S3072 : Shape := ⟨1, ![3072]⟩
abbrev S3x3072 : Shape := ⟨2, ![3, 3072]⟩
abbrev S4099x3072 : Shape := ⟨2, ![4099, 3072]⟩
abbrev S1x3072 : Shape := ⟨2, ![1, 3072]⟩
abbrev S4096x2048 : Shape := ⟨2, ![4096, 2048]⟩
abbrev S4096x256 : Shape := ⟨2, ![4096, 256]⟩

abbrev nBuf : Space → Nat
  | .hbm => 67
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4x3072, .f32⟩
  | .hbm, ⟨2, _⟩ => ⟨S4096x5376, .bf16⟩
  | .hbm, ⟨3, _⟩ => ⟨S_, .f32⟩
  | .hbm, ⟨4, _⟩ => ⟨S3072, .f32⟩
  | .hbm, ⟨5, _⟩ => ⟨S_, .f32⟩
  | .hbm, ⟨6, _⟩ => ⟨S3x3072, .f32⟩
  | .hbm, ⟨7, _⟩ => ⟨S4099x3072, .f32⟩
  | .hbm, ⟨8, _⟩ => ⟨S_, .f32⟩
  | .hbm, ⟨9, _⟩ => ⟨S3x3072, .f32⟩
  | .hbm, ⟨10, _⟩ => ⟨S4096x3072, .f32⟩
  | .hbm, ⟨11, _⟩ => ⟨S1x3072, .f32⟩
  | .hbm, ⟨12, _⟩ => ⟨S3072, .f32⟩
  | .hbm, ⟨13, _⟩ => ⟨S1x3072, .f32⟩
  | .hbm, ⟨14, _⟩ => ⟨S4096x3072, .f32⟩
  | .hbm, ⟨15, _⟩ => ⟨S4096x3072, .f32⟩
  | .hbm, ⟨16, _⟩ => ⟨S1x3072, .f32⟩
  | .hbm, ⟨17, _⟩ => ⟨S4096x3072, .f32⟩
  | .hbm, ⟨18, _⟩ => ⟨S4096x3072, .f32⟩
  | .hbm, ⟨19, _⟩ => ⟨S4096x3072, .f32⟩
  | .hbm, ⟨20, _⟩ => ⟨S1x3072, .f32⟩
  | .hbm, ⟨21, _⟩ => ⟨S3072, .f32⟩
  | .hbm, ⟨22, _⟩ => ⟨S1x3072, .f32⟩
  | .hbm, ⟨23, _⟩ => ⟨S4096x3072, .f32⟩
  | .hbm, ⟨24, _⟩ => ⟨S4096x3072, .f32⟩
  | .hbm, ⟨25, _⟩ => ⟨S4096x3072, .f32⟩
  | .hbm, ⟨26, _⟩ => ⟨S4096x3072, .f32⟩
  | .hbm, ⟨27, _⟩ => ⟨S1x3072, .f32⟩
  | .hbm, ⟨28, _⟩ => ⟨S3072, .f32⟩
  | .hbm, ⟨29, _⟩ => ⟨S1x3072, .f32⟩
  | .hbm, ⟨30, _⟩ => ⟨S4096x3072, .f32⟩
  | .hbm, ⟨31, _⟩ => ⟨S4096x3072, .f32⟩
  | .hbm, ⟨32, _⟩ => ⟨S4096x3072, .f32⟩
  | .hbm, ⟨33, _⟩ => ⟨S4096x3072, .f32⟩
  | .hbm, ⟨34, _⟩ => ⟨S1x3072, .f32⟩
  | .hbm, ⟨35, _⟩ => ⟨S3072, .f32⟩
  | .hbm, ⟨36, _⟩ => ⟨S1x3072, .f32⟩
  | .hbm, ⟨37, _⟩ => ⟨S4096x3072, .f32⟩
  | .hbm, ⟨38, _⟩ => ⟨S4096x3072, .f32⟩
  | .hbm, ⟨39, _⟩ => ⟨S4096x3072, .f32⟩
  | .hbm, ⟨40, _⟩ => ⟨S4096x3072, .f32⟩
  | .hbm, ⟨41, _⟩ => ⟨S4096x3072, .f32⟩
  | .hbm, ⟨42, _⟩ => ⟨S4096x3072, .f32⟩
  | .hbm, ⟨43, _⟩ => ⟨S4096x3072, .f32⟩
  | .hbm, ⟨44, _⟩ => ⟨S_, .f32⟩
  | .hbm, ⟨45, _⟩ => ⟨S4099x3072, .f32⟩
  | .hbm, ⟨46, _⟩ => ⟨S4096x3072, .f32⟩
  | .hbm, ⟨47, _⟩ => ⟨S4096x3072, .f32⟩
  | .hbm, ⟨48, _⟩ => ⟨S_, .f32⟩
  | .hbm, ⟨49, _⟩ => ⟨S4099x3072, .f32⟩
  | .hbm, ⟨50, _⟩ => ⟨S4099x3072, .f32⟩
  | .hbm, ⟨51, _⟩ => ⟨S4096x3072, .f32⟩
  | .hbm, ⟨52, _⟩ => ⟨S4096x3072, .f32⟩
  | .hbm, ⟨53, _⟩ => ⟨S_, .f32⟩
  | .hbm, ⟨54, _⟩ => ⟨S4099x3072, .f32⟩
  | .hbm, ⟨55, _⟩ => ⟨S4099x3072, .f32⟩
  | .hbm, ⟨56, _⟩ => ⟨S4096x3072, .f32⟩
  | .hbm, ⟨57, _⟩ => ⟨S4096x3072, .f32⟩
  | .hbm, ⟨58, _⟩ => ⟨S_, .f32⟩
  | .hbm, ⟨59, _⟩ => ⟨S4099x3072, .f32⟩
  | .hbm, ⟨60, _⟩ => ⟨S4099x3072, .f32⟩
  | .hbm, ⟨61, _⟩ => ⟨S3x3072, .f32⟩
  | .hbm, ⟨62, _⟩ => ⟨S4096x3072, .f32⟩
  | .hbm, ⟨63, _⟩ => ⟨S4096x2048, .bf16⟩
  | .hbm, ⟨64, _⟩ => ⟨S4096x3072, .bf16⟩
  | .hbm, ⟨65, _⟩ => ⟨S4096x256, .bf16⟩
  | .hbm, ⟨66, _⟩ => ⟨S4096x5376, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_4 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_5 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩

abbrev nD : Nat := 1
abbrev τ : Topo := Topo.v7x

variable {F : FTy → Type} [FloatOps F]
-- ==== Proof.ConvPt.lean ====
/- The gradient of the short causal convolution in its input, at one index: what the kernel's body stores, and the reference. -/
module

public import proofs.«01_k».proof.Defs
public import proofs.«01_k».proof.Proof.Gen.KernelConvIdeal.Value
public import proofs.«01_k».proof.Proof.Gen.ReferenceConvIdeal.Run
public import proofs.«01_k».proof.Proof.Gen.ReferenceConvIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelConvIdeal.Product

open Cert.KernelConvIdeal Cert.KernelConvIdeal.Gen

/-- One where the row block is not the last one, zero where it is. -/
def gate (i : grid0.Coords) : EReal := if (i 2 : ℕ) < 15 then 1 else 0

/-- The row `n` of a block of 256 rows continued by the block below it, that one switched by the gate. -/
def ktap (i : grid0.Coords) (x0 : FVec Ideal S1x256x1408 .bf16) (x1 : FVec Ideal S1x16x1408 .bf16) (n : Fin 272) (l : Fin 1408) : EReal :=
  if h : (n : ℕ) < 256 then x0 (ix3 0 ⟨n, h⟩ l) else x1 (ix3 0 ⟨(n : ℕ) - 256, by omega⟩ l) * gate i

/-- The comparison of a row number with the end of a group of eight, one row further. -/
theorem wrap1 : ∀ q : Fin 8, IntOp.cmpi CmpIPredicate.sge (IntOp.addi (BitVec.ofNat 32 q.val) 1#32) 8#32 = if 7 ≤ q.val then 1#1 else 0#1 := by
  decide

/-- The same two rows further. -/
theorem wrap2 : ∀ q : Fin 8, IntOp.cmpi CmpIPredicate.sge (IntOp.addi (BitVec.ofNat 32 q.val) 2#32) 8#32 = if 6 ≤ q.val then 1#1 else 0#1 := by
  decide

/-- The switch of the last row block as an integer. -/
theorem last_block : ∀ q : Fin 16, (Scalar.extui (Scalar.cmpi CmpIPredicate.slt (BitVec.ofNat 32 q.val) 15#32) : BitVec 32).toInt = if q.val < 15 then 1 else 0 := by
  decide

/-- The switch of the last row block as a number. -/
theorem gate_eq (i : grid0.Coords) :
    (((Scalar.extui (Scalar.cmpi CmpIPredicate.slt (BitVec.ofNat 32 (i 2 : ℕ)) 15#32) : BitVec 32).toInt : ℝ) : EReal) = gate i := by
  rw [last_block (i 2)]
  unfold gate
  split <;> simp

/-- A choice by the wrap comparison, one row further. -/
theorem select1 (r : Fin 256) (h : ¬(r : ℕ) < 248) (a b : EReal) :
    Scalar.select (IntOp.cmpi CmpIPredicate.sge (IntOp.addi (BitVec.ofNat 32 ((r : ℕ) - 248)) 1#32) 8#32) a b = if (r : ℕ) + 1 < 256 then b else a := by
  rw [wrap1 ⟨(r : ℕ) - 248, by omega⟩]
  by_cases h1 : (r : ℕ) + 1 < 256
  · rw [if_neg (show ¬7 ≤ (r : ℕ) - 248 by omega), if_pos h1]; rfl
  · rw [if_pos (show 7 ≤ (r : ℕ) - 248 by omega), if_neg h1]; rfl

/-- A choice by the wrap comparison, two rows further. -/
theorem select2 (r : Fin 256) (h : ¬(r : ℕ) < 248) (a b : EReal) :
    Scalar.select (IntOp.cmpi CmpIPredicate.sge (IntOp.addi (BitVec.ofNat 32 ((r : ℕ) - 248)) 2#32) 8#32) a b = if (r : ℕ) + 2 < 256 then b else a := by
  rw [wrap2 ⟨(r : ℕ) - 248, by omega⟩]
  by_cases h1 : (r : ℕ) + 2 < 256
  · rw [if_neg (show ¬6 ≤ (r : ℕ) - 248 by omega), if_pos h1]; rfl
  · rw [if_pos (show 6 ≤ (r : ℕ) - 248 by omega), if_neg h1]; rfl

/-- Equal coordinates are equal indices of a block with one leading plane. -/
theorem ix_congr {n : ℕ} {l : Fin 1408} {a b : Fin n} (h : (a : ℕ) = b) : (ix3 (0 : Fin 1) a l) = ix3 0 b l := by
  rw [Fin.ext h]

/-- What the body stores at an index: three rows of the cotangent times the three rows of the weight. -/
theorem body_at (i : grid0.Coords) (x0 : FVec Ideal S1x256x1408 .bf16) (x1 : FVec Ideal S1x16x1408 .bf16) (w : FVec Ideal S3x1408 .f32)
    (r : Fin 256) (l : Fin 1408) :
    k0_pay1 (F := Ideal) w (k0_pay4 (F := Ideal) i x0 x1 w) (k0_pay5 (F := Ideal) x0) (k0_pay6 (F := Ideal) x0) (k0_pay7 (F := Ideal) i x1) k0_pay8 (ix3 0 r l)
      = x0 (ix3 0 r l) * w (ix2 2 l) + ktap i x0 x1 ⟨(r : ℕ) + 1, by omega⟩ l * w (ix2 1 l) + ktap i x0 x1 ⟨(r : ℕ) + 2, by omega⟩ l * w (ix2 0 l) := by
  pointwise [k0_pay1, k0_pay2, k0_pay3, k0_pay4, k0_pay5, k0_pay6, k0_pay7, k0_pay8]
  rw [gate_eq i]
  unfold ktap
  by_cases h : (r : ℕ) < 248
  · rw [dif_pos h, dif_pos h, dif_pos (show (r : ℕ) + 1 < 256 by omega), dif_pos (show (r : ℕ) + 2 < 256 by omega)]
    refine congrArg₂ (fun a b : EReal => x0 (ix3 0 r l) * w (ix2 2 l) + a * w (ix2 1 l) + b * w (ix2 0 l)) ?_ ?_
    · exact congrArg x0 (ix_congr (show ((r : ℕ) + 256 - 255) % 256 = (r : ℕ) + 1 by omega))
    · exact congrArg x0 (ix_congr (show ((r : ℕ) + 256 - 254) % 256 = (r : ℕ) + 2 by omega))
  · rw [dif_neg h, dif_neg h, select1 r h, select2 r h]
    refine congrArg₂ (fun a b : EReal => x0 (ix3 0 r l) * w (ix2 2 l) + a * w (ix2 1 l) + b * w (ix2 0 l)) ?_ ?_
    · by_cases h1 : (r : ℕ) + 1 < 256
      · rw [if_pos h1, dif_pos h1]
        exact congrArg x0 (ix_congr (show 248 + ((r : ℕ) - 248 + 8 - 7) % 8 = (r : ℕ) + 1 by omega))
      · rw [if_neg h1, dif_neg h1]
        exact congrArg (fun q => x1 q * gate i) (ix_congr (show ((r : ℕ) - 248 + 8 - 7) % 8 = (r : ℕ) + 1 - 256 by omega))
    · by_cases h1 : (r : ℕ) + 2 < 256
      · rw [if_pos h1, dif_pos h1]
        exact congrArg x0 (ix_congr (show 248 + ((r : ℕ) - 248 + 8 - 6) % 8 = (r : ℕ) + 2 by omega))
      · rw [if_neg h1, dif_neg h1]
        exact congrArg (fun q => x1 q * gate i) (ix_congr (show ((r : ℕ) - 248 + 8 - 6) % 8 = (r : ℕ) + 2 - 256 by omega))

/-- The cotangent at row `n` times a weight, nothing past the last row. -/
def tap (a0 : FVec Ideal Cert.ReferenceConvIdeal.S2x4096x2816 .bf16) (p : Fin 2) (n : ℕ) (f : Fin 2816) (v : EReal) : EReal :=
  if h : n < 4096 then a0 (ix3 p ⟨n, h⟩ f) * v else 0

/-- Reads of the cotangent at equal rows are equal. -/
theorem read0 (a0 : FVec Ideal Cert.ReferenceConvIdeal.S2x4096x2816 .bf16) (p : Fin 2) (f : Fin 2816) (n n' : Fin 4096) (e : (n : ℕ) = n') :
    a0 (ix3 p n f) = a0 (ix3 p n' f) := by rw [Fin.ext e]

/-- Reads of the weight at equal columns are equal. -/
theorem read1 (a1 : FVec Ideal Cert.ReferenceConvIdeal.S3x5632 .f32) (k : Fin 3) (n n' : Fin 5632) (e : (n : ℕ) = n') :
    a1 (ix2 k n) = a1 (ix2 k n') := by rw [Fin.ext e]

/-- Sums of three equal terms are equal. -/
theorem add3 : ∀ a b c a' b' c' : EReal, a = a' → b = b' → c = c' → a + b + c = a' + b' + c' := by
  rintro a b c _ _ _ rfl rfl rfl; rfl

/-- A guarded product is a row of the cotangent times the weight. -/
theorem tap_eq (a0 : FVec Ideal Cert.ReferenceConvIdeal.S2x4096x2816 .bf16) (a1 : FVec Ideal Cert.ReferenceConvIdeal.S3x5632 .f32)
    (q p : Fin 2) (hq : q = p) (f : Fin 2816) (k : Fin 3) (P : Prop) [Decidable P] (n : ℕ) (n' : P → Fin 4096) (g : P → Fin 5632) (g' : Fin 5632)
    (hP : P ↔ n < 4096) (hn : ∀ h, (n' h : ℕ) = n) (hg : ∀ h, (g h : ℕ) = g') :
    (if h : P then a0 (ix3 q (n' h) f) * a1 (ix2 k (g h)) else (0 : EReal)) = tap a0 p n f (a1 (ix2 k g')) := by
  subst hq
  unfold tap
  by_cases h : P
  · rw [dif_pos h, dif_pos (hP.1 h), read0 a0 q f _ ⟨n, hP.1 h⟩ (hn h), read1 a1 k _ g' (hg h)]
  · rw [dif_neg h, dif_neg fun q => h (hP.2 q)]

section
open Cert.ReferenceConvIdeal.Read
/-- The reference at an index: the same three products. -/
theorem ref_at (a0 : FVec Ideal Cert.ReferenceConvIdeal.S2x4096x2816 .bf16) (a1 : FVec Ideal Cert.ReferenceConvIdeal.S3x5632 .f32) (p : Fin 2) (r : Fin 4096) (f : Fin 2816) :
    val_main_v51 (F := Ideal) a0 a1 (ix3 p r f)
      = tap a0 p r.val f (a1 (ix2 2 ⟨p.val * 2816 + f.val, by omega⟩))
        + tap a0 p (r.val + 1) f (a1 (ix2 1 ⟨p.val * 2816 + f.val, by omega⟩))
        + tap a0 p (r.val + 2) f (a1 (ix2 0 ⟨p.val * 2816 + f.val, by omega⟩)) := by
  pointwise [val_main_v51, val_main_v50, val_main_v49, val_main_v48, val_main_v47, val_main_v46, val_main_v45, val_main_v43, val_main_v42, val_main_cst_4, val_main_v41, val_main_v40, val_main_v39, val_main_v38, val_main_cst_3, val_main_v37, val_main_v36, val_main_v35, val_main_v34, val_main_v33, val_main_v29, val_main_v28, val_main_v27, val_main_cst_2, val_main_v22, val_main_v21, val_main_v20, val_main_v13, val_main_v12, val_main_v11, val_main_v5, val_main_v4, val_main_v3, val_main_v2, val_main_v1, val_main_v0, Cert.ReferenceConvIdeal.Value.fn_main_v4, Cert.ReferenceConvIdeal.Value.fn_main_v50]
  have hf := f.isLt
  have hr := r.isLt
  by_cases hp : (p : ℕ) < 1
  · refine (dif_pos hp).trans ?_
    have hq : (p : ℕ) = 0 := by omega
    apply add3
    · apply tap_eq a0 a1 0 p (Fin.ext hq.symm) f 2 _ r.val (fun _ => r)
      · omega
      · exact fun _ => rfl
      · intro _; show _ = (p : ℕ) * 2816 + f.val; simp only [hq]; try omega
    · apply tap_eq a0 a1 0 p (Fin.ext hq.symm) f 1 _ (r.val + 1)
      · omega
      · intro _; show 2 + r.val - 1 = r.val + 1; omega
      · intro _; show _ = (p : ℕ) * 2816 + f.val; simp only [hq]; try omega
    · apply tap_eq a0 a1 0 p (Fin.ext hq.symm) f 0 _ (r.val + 2)
      · omega
      · intro _; show 2 + r.val = r.val + 2; omega
      · intro _; show _ = (p : ℕ) * 2816 + f.val; simp only [hq]; try omega
  · refine (dif_neg hp).trans ?_
    have hq : (p : ℕ) = 1 := by omega
    apply add3
    · apply tap_eq a0 a1 1 p (Fin.ext hq.symm) f 2 _ r.val (fun _ => r)
      · omega
      · exact fun _ => rfl
      · intro _; show _ = (p : ℕ) * 2816 + f.val; simp only [hq]; try omega
    · apply tap_eq a0 a1 1 p (Fin.ext hq.symm) f 1 _ (r.val + 1)
      · omega
      · intro _; show 2 + r.val - 1 = r.val + 1; omega
      · intro _; show _ = (p : ℕ) * 2816 + f.val; simp only [hq]; try omega
    · apply tap_eq a0 a1 1 p (Fin.ext hq.symm) f 0 _ (r.val + 2)
      · omega
      · intro _; show 2 + r.val = r.val + 2; omega
      · intro _; show _ = (p : ℕ) * 2816 + f.val; simp only [hq]; try omega
end

end Cert.KernelConvIdeal.Product

end
-- ==== Proof.Conv.lean ====
/- The gradient of the short causal convolution in its input: the result array of the kernel is the reference's. -/
module

public import proofs.«01_k».proof.Proof.ConvPt
public import proofs.«01_k».proof.Defs
public import proofs.«01_k».proof.Proof.Gen.KernelConvIdeal.Value
public import proofs.«01_k».proof.Proof.Gen.ReferenceConvIdeal.Run
public import proofs.«01_k».proof.Proof.Gen.ReferenceConvIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelConvIdeal.Product

open Cert.KernelConvIdeal Cert.KernelConvIdeal.Gen

variable (m : (ℓ : Loc nD τ sig) → Buf (Elt Ideal) ℓ)

/-- The block index of every window at every grid point, and the row block's number. -/
theorem idx : ∀ t : Fin cfg0.N, win0_0.index t = ![t.val / 32, t.val % 16, t.val / 16 % 2]
    ∧ win0_1.index t = ![t.val / 32, min ((t.val % 16 + 1) * 16) 255, t.val / 16 % 2]
    ∧ win0_2.index t = ![0, t.val / 16]
    ∧ win0_3.index t = ![t.val / 32, t.val % 16, t.val / 16 % 2] ∧ (grid0.coords t 2 : ℕ) = t.val % 16 ∧ t.val / 32 < 2 :=
  (by decide +kernel : ∀ t : Fin grid0.N, _)

/-- The output block's place in the array. -/
theorem out_at (t : Fin cfg0.N) (r : Fin 256) (l : Fin 1408) (A : FVec Ideal Cert.ReferenceConvIdeal.S2x4096x2816 .bf16) :
    A (((cfg0.win 3).blk t).view.emb (ix3 0 r l))
      = A (ix3 ⟨t.val / 32, by have := (idx t).2.2.2.2.2; omega⟩ ⟨t.val % 16 * 256 + r.val, by omega⟩ ⟨t.val / 16 % 2 * 1408 + l.val, by omega⟩) := by
  have h := idx t
  blk_point [idx t]

/-- The cotangent's own block. -/
theorem own_at (c : Dev nD) (t : Fin cfg0.N) (r : Fin 256) (l : Fin 1408) :
    iblk m c 0 t (ix3 0 r l)
      = m ((c : Thread nD τ).loc main_arg0) (ix3 ⟨t.val / 32, by have := (idx t).2.2.2.2.2; omega⟩ ⟨t.val % 16 * 256 + r.val, by omega⟩ ⟨t.val / 16 % 2 * 1408 + l.val, by omega⟩) := by
  blk_point [iblk, V, idx t]

/-- The rows that follow the block, of a block that is not the last of its plane. -/
theorem next_at (c : Dev nD) (t : Fin cfg0.N) (ht : t.val % 16 < 15) (r : Fin 16) (l : Fin 1408) :
    iblk m c 1 t (ix3 0 r l)
      = m ((c : Thread nD τ).loc main_arg0) (ix3 ⟨t.val / 32, by have := (idx t).2.2.2.2.2; omega⟩ ⟨t.val % 16 * 256 + 256 + r.val, by omega⟩ ⟨t.val / 16 % 2 * 1408 + l.val, by omega⟩) := by
  blk_point [iblk, V, idx t]

/-- The weight's block. -/
theorem weight_at (c : Dev nD) (t : Fin cfg0.N) (k : Fin 3) (l : Fin 1408) :
    iblk m c 2 t (ix2 k l)
      = m ((c : Thread nD τ).loc main_arg1) (ix2 k ⟨t.val / 32 * 2816 + (t.val / 16 % 2 * 1408 + l.val), by have := (idx t).2.2.2.2.2; omega⟩) := by
  blk_point [iblk, V, idx t]

/-- A row of the block and what follows it, times a weight, is the reference's guarded product. -/
theorem tap_at (c : Dev nD) (t : Fin cfg0.N) (r : Fin 256) (l : Fin 1408) (d : ℕ) (hd : d ≤ 2) (b : EReal) :
    ktap (grid0.coords t) (iblk m c 0 t) (iblk m c 1 t) ⟨r.val + d, by omega⟩ l * b
      = tap (m ((c : Thread nD τ).loc main_arg0)) ⟨t.val / 32, by have := (idx t).2.2.2.2.2; omega⟩ (t.val % 16 * 256 + r.val + d) ⟨t.val / 16 % 2 * 1408 + l.val, by omega⟩ b := by
  unfold ktap tap gate
  have hi := (idx t).2.2.2.2.1
  by_cases h : r.val + d < 256
  · rw [dif_pos h, dif_pos (show t.val % 16 * 256 + r.val + d < 4096 by omega), own_at m c t ⟨r.val + d, h⟩ l]
    exact congrArg (· * b) (read0 _ _ _ _ _ (by show t.val % 16 * 256 + (r.val + d) = t.val % 16 * 256 + r.val + d; omega))
  · rw [dif_neg h]
    by_cases ht : t.val % 16 < 15
    · rw [if_pos (show (grid0.coords t 2 : ℕ) < 15 by omega), dif_pos (show t.val % 16 * 256 + r.val + d < 4096 by omega),
        next_at m c t ht ⟨r.val + d - 256, by omega⟩ l, mul_one]
      exact congrArg (· * b) (read0 _ _ _ _ _ (by show t.val % 16 * 256 + 256 + (r.val + d - 256) = t.val % 16 * 256 + r.val + d; omega))
    · rw [if_neg (show ¬(grid0.coords t 2 : ℕ) < 15 by omega), dif_neg (show ¬t.val % 16 * 256 + r.val + d < 4096 by omega), mul_zero, zero_mul]

/-- What a grid point writes back is the reference's term at the block's place. -/
theorem point (c : Dev nD) (t : Fin cfg0.N) (y : S1x256x1408.Idx) :
    k0_pay1 (F := Ideal) (iblk m c 2 t) (k0_pay4 (F := Ideal) (grid0.coords t) (iblk m c 0 t) (iblk m c 1 t) (iblk m c 2 t)) (k0_pay5 (F := Ideal) (iblk m c 0 t)) (k0_pay6 (F := Ideal) (iblk m c 0 t)) (k0_pay7 (F := Ideal) (grid0.coords t) (iblk m c 1 t)) k0_pay8 y
    = Cert.ReferenceConvIdeal.Read.val_main_v51 (F := Ideal) (m ((c : Thread nD τ).loc main_arg0)) (m ((c : Thread nD τ).loc main_arg1)) (((cfg0.win 3).blk t).view.emb y) := by
  obtain ⟨r, l, rfl⟩ : ∃ (r : Fin 256) (l : Fin 1408), y = ix3 0 r l := ⟨y 1, y 2, by idx_ext⟩
  refine Eq.trans ?_ ((out_at t r l _).trans (ref_at _ _ _ _ _)).symm
  rw [body_at, weight_at m c t 2 l, weight_at m c t 1 l, weight_at m c t 0 l, tap_at m c t r l 1 (by omega), tap_at m c t r l 2 (by omega)]
  refine add3 _ _ _ _ _ _ ?_ rfl rfl
  unfold tap
  rw [dif_pos (show t.val % 16 * 256 + r.val < 4096 by omega), own_at m c t r l]

/-- The array the kernel leaves is the reference's term of the arguments. -/
theorem final (c : Dev nD) : (dats m 0 c).arrAt 3 (cfgs 0).N
    = Cert.ReferenceConvIdeal.Read.val_main_v51 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  frame_out
  exact point m c t y

/-- The two programs end with the same array from the same arguments. -/
theorem algebraic : Cert.algebraic_KernelConvIdeal_ReferenceConvIdeal := by
  pair_intro
  · run_from Cert.KernelConvIdeal.Gen.run_main m g
  · run_from Cert.ReferenceConvIdeal.Value.run m' g'
    refine (Cert.ReferenceConvIdeal.Read.val_main_v51_eq m' c).trans ?_
    rw [(hagree c).1, (hagree c).2]
    exact (final m c).symm

end Cert.KernelConvIdeal.Product

end
-- ==== Proof.UpW.lean ====
/- The gradient of the up projection in its weight, the layer's input normalised in the same pass: the result array of the kernel is the reference's product. -/
module

public import proofs.«01_k».proof.Defs
public import proofs.«01_k».proof.Proof.Gen.KernelUpWIdeal.Value
public import proofs.«01_k».proof.Proof.Gen.ReferenceUpWIdeal.Run
public import proofs.«01_k».proof.Proof.Gen.ReferenceUpWIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelUpWIdeal.Product

open Cert.KernelUpWIdeal Cert.KernelUpWIdeal.Gen

variable (m : (ℓ : Loc nD τ sig) → Buf (Elt Ideal) ℓ)

/-- The zero fill is zero at every index. -/
theorem zero_at (j : S2816x1024.Idx) : k0_pay1 (F := Ideal) j = 0 := by
  pointwise [k0_pay1]

/-- One step of the accumulation: what was there plus the block's product. -/
theorem step_at (x1 : FVec Ideal S1024x1024 .f32) (x2 : FVec Ideal S1x1024 .f32) (acc : FVec Ideal S2816x1024 .f32) (x0 : FVec Ideal S1x1024x2816 .bf16)
    (j : S2816x1024.Idx) :
    k0_pay2 (F := Ideal) x1 x2 acc x0 j = acc j + ∑ k : Fin 1024, x0 (ix3 0 k (j 0)) *
      (x1 (ix2 k (j 1)) * Ideal.rsqrt (Ideal.div (∑ l : Fin 1024, x1 (ix2 k l) * x1 (ix2 k l)) (Ideal.ofBits .f32 0x44800000#32) + Ideal.ofBits .f32 0x358637BD#32) * x2 (ix2 0 (j 1))) := by
  pointwise [k0_pay2]

/-- The reference's result as one term over its arguments. -/
abbrev REF (a0 : FVec Ideal Cert.ReferenceUpWIdeal.S2x4096x2816 .bf16) (a1 : FVec Ideal Cert.ReferenceUpWIdeal.S4096x1024 .f32)
    (a2 : FVec Ideal Cert.ReferenceUpWIdeal.S1024 .f32) : FVec Ideal Cert.ReferenceUpWIdeal.S5632x1024 .bf16 :=
  truncf .bf16 (transpose Cert.ReferenceUpWIdeal.S5632x1024 [1, 0] (transpose Cert.ReferenceUpWIdeal.S1024x5632 [1, 0] (Host.dotGeneral Cert.ReferenceUpWIdeal.dot_S4096x5632_S4096x1024_S5632x1024_0_0_1_1_n_n none (extf .f32 (concatenate Cert.ReferenceUpWIdeal.S4096x5632 1 [⟨Cert.ReferenceUpWIdeal.S4096x2816, (shapeCast _ (extractStridedSlice Cert.ReferenceUpWIdeal.S1x4096x2816 ![0, 0, 0] a0 Cert.ReferenceUpWIdeal.Gen.slices_S2x4096x2816_S1x4096x2816_0_0_0) Cert.ReferenceUpWIdeal.Gen.shapeCasts_S1x4096x2816_S4096x2816)⟩, ⟨Cert.ReferenceUpWIdeal.S4096x2816, (shapeCast _ (extractStridedSlice Cert.ReferenceUpWIdeal.S1x4096x2816 ![1, 0, 0] a0 Cert.ReferenceUpWIdeal.Gen.slices_S2x4096x2816_S1x4096x2816_1_0_0) Cert.ReferenceUpWIdeal.Gen.shapeCasts_S1x4096x2816_S4096x2816)⟩] Cert.ReferenceUpWIdeal.Gen.concatenates_S4096x2816_S4096x2816_S4096x5632_d1) Cert.ReferenceUpWIdeal.Gen.bitsLt_bf16_f32) (mulf (mulf a1 (broadcastInDim Cert.ReferenceUpWIdeal.S4096x1024 ![0, 1] Cert.ReferenceUpWIdeal.Gen.bcast_S4096x1_S4096x1024_0_1 (Host.rsqrt (addf (Host.divf (broadcastInDim Cert.ReferenceUpWIdeal.S4096x1 ![0] Cert.ReferenceUpWIdeal.Gen.bcast_S4096_S4096x1_0 (Host.reduceAdd (mulf a1 a1) (constant Cert.ReferenceUpWIdeal.S_ .f32 0x00000000#32) Cert.ReferenceUpWIdeal.Gen.reducesTo_S4096x1024_S4096_d1 Cert.ReferenceUpWIdeal.Gen.h_S_)) (broadcastInDim Cert.ReferenceUpWIdeal.S4096x1 ![] Cert.ReferenceUpWIdeal.Gen.bcast_S_S4096x1 (constant Cert.ReferenceUpWIdeal.S_ .f32 0x44800000#32))) (broadcastInDim Cert.ReferenceUpWIdeal.S4096x1 ![] Cert.ReferenceUpWIdeal.Gen.bcast_S_S4096x1 (constant Cert.ReferenceUpWIdeal.S_ .f32 0x358637BD#32)))))) (broadcastInDim Cert.ReferenceUpWIdeal.S4096x1024 ![0, 1] Cert.ReferenceUpWIdeal.Gen.bcast_S1x1024_S4096x1024_0_1 (broadcastInDim Cert.ReferenceUpWIdeal.S1x1024 ![1] Cert.ReferenceUpWIdeal.Gen.bcast_S1024_S1x1024_1 a2)))) Cert.ReferenceUpWIdeal.Gen.transposes_S5632x1024_S1024x5632_1_0) Cert.ReferenceUpWIdeal.Gen.transposes_S1024x5632_S5632x1024_1_0) Cert.ReferenceUpWIdeal.Gen.bitsLt_bf16_f32

/-- The reference's term at an index. -/
theorem ref_at (a0 : FVec Ideal Cert.ReferenceUpWIdeal.S2x4096x2816 .bf16) (a1 : FVec Ideal Cert.ReferenceUpWIdeal.S4096x1024 .f32)
    (a2 : FVec Ideal Cert.ReferenceUpWIdeal.S1024 .f32) (f : Fin 5632) (l : Fin 1024) :
    REF a0 a1 a2 (ix2 f l) = ∑ k : Fin 4096, a0 (ix3 ⟨(f : ℕ) / 2816, by omega⟩ k ⟨(f : ℕ) % 2816, by omega⟩) *
      (a1 (ix2 k l) * Ideal.rsqrt (Ideal.div (∑ x : Fin 1024, a1 (ix2 k x) * a1 (ix2 k x)) (Ideal.ofBits .f32 0x44800000#32) + Ideal.ofBits .f32 0x358637BD#32) * a2 (ix1 l)) := by
  pointwise [REF]
  refine Finset.sum_congr rfl fun k _ => congrArg (fun a : EReal => a * _) ?_
  split
  · next h => exact congrArg a0 ((ix3_inj ..).2 ⟨Fin.ext (by show 0 = (f : ℕ) / 2816; omega), rfl, Fin.ext (by show (f : ℕ) = (f : ℕ) % 2816; omega)⟩)
  · next h => exact congrArg a0 ((ix3_inj ..).2 ⟨Fin.ext (by show 1 = (f : ℕ) / 2816; omega), rfl, Fin.ext (by show (f : ℕ) - 2816 = (f : ℕ) % 2816; omega)⟩)

/-- The block index of every window at every grid point. -/
theorem idx : ∀ t : Fin cfg0.N, win0_0.index t = ![t.val / 4, t.val % 4, 0]
    ∧ win0_1.index t = ![t.val % 4, 0]
    ∧ win0_2.index t = ![0, 0]
    ∧ win0_3.index t = ![t.val / 4, 0] ∧ t.val / 4 < 2 :=
  (by decide +kernel : ∀ t : Fin grid0.N, _)

/-- The product of the blocks at one grid point, at an index of the accumulator. -/
def part (c : Dev nD) (p : Fin cfg0.N) (j : S2816x1024.Idx) : EReal :=
  ∑ k : Fin 1024, (show FVec Ideal S1x1024x2816 .bf16 from iblk m c 0 p) (ix3 0 k (j 0)) *
    ((show FVec Ideal S1024x1024 .f32 from iblk m c 1 p) (ix2 k (j 1))
      * Ideal.rsqrt (Ideal.div (∑ l : Fin 1024, (show FVec Ideal S1024x1024 .f32 from iblk m c 1 p) (ix2 k l) * (show FVec Ideal S1024x1024 .f32 from iblk m c 1 p) (ix2 k l))
          (Ideal.ofBits .f32 0x44800000#32) + Ideal.ofBits .f32 0x358637BD#32)
      * (show FVec Ideal S1x1024 .f32 from iblk m c 2 p) (ix2 0 (j 1)))

/-- The scratch after the last point of a run is the sum of the run's block products. -/
theorem scratch (c : Dev nD) (t : Fin cfg0.N) (h : t.val % 4 = 3) (y : S2816x1024.Idx) :
    (outsAt0 m c t.val t.isLt).2 y = ∑ s : Fin 4, part m c ⟨4 * (t.val / 4) + s.val, Pipeline.run_point_lt_of_flush t h s⟩ y := by
  rw [Pipeline.eq_sum_fin_of_reset_step_apply_of_flush (fun n h => (outsAt0 m c n h).2) 4 (fun _ => 0)
    (fun p j => part m c p j)
    (fun t h j => by
      have h1 : ¬t.val % 4 = 3 := by omega
      rw [outsAt0_A m c t h h1]; frame_out; rw [step_at, zero_at]; rfl)
    (fun t h j => by
      by_cases h1 : t.val % 4 = 3
      · rw [outsAt0_C m c t h h1]; frame_out; rw [read_unread_whole, step_at]; try rfl
      · rw [outsAt0_B m c t h h1]; frame_out; rw [read_unread_whole, step_at]; try rfl)
    t h y, zero_add]

/-- The array the kernel leaves is the reference's term of the arguments. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  have h3 := (flush0_3 t).mp hf
  have h0 : ¬t.val % 4 = 0 := by omega
  blk_simp
  rw [after0_3, outsAt0_C m c t h0 h3]
  frame_out
  refine Eq.trans ?_ ((congrArg _ (eq_ix2 _)).trans (ref_at _ _ _ _ _)).symm
  have hs := scratch m c t h3 y
  rw [outsAt0_C m c t h0 h3] at hs
  revert hs
  frame_out
  intro hs
  refine Eq.trans (show _ = _ from ?_) (hs.trans ?_)
  · pointwise [k0_pay3]
  · unfold part
    refine Fin.sum_mul_add_congr fun s k hl => ?_
    blk_point [iblk, V, idx t, idx ⟨_, Pipeline.run_point_lt_of_flush t h3 s⟩]

/-- The two programs end with the same array from the same arguments. -/
theorem algebraic : Cert.algebraic_KernelUpWIdeal_ReferenceUpWIdeal := by
  pair_intro
  · run_from Cert.KernelUpWIdeal.Gen.run_main m g
  · run_from Cert.ReferenceUpWIdeal.Value.run m' g'
    exact (final m c).symm

end Cert.KernelUpWIdeal.Product

end
-- ==== Proof.RowNorm.lean ====
/- Facts about the extended reals that the normalised rows need: a positive real distributes over every sum, and the two
   ways of writing the gradient of a row divided by its root mean square give the same number. -/
module

public import Idealize.ShloMosaic.Lib.Pointwise
public import Idealize.ShloMosaic.Lib.IdealHost

@[expose] public section

noncomputable section

open Idealize.ShloMosaic

namespace Cert.RowNorm

/-- The number of entries of a row. -/
theorem len_eq : Ideal.ofBits .f32 0x44800000#32 = ((1024 : ℝ) : EReal) := by
  simp [Ideal.ofBits, Ideal.ieee, -EReal.coe_mul]; norm_num

/-- Minus one half. -/
theorem half_eq : Ideal.ofBits .f32 0xBF000000#32 = ((-(1 / 2) : ℝ) : EReal) := by
  simp [Ideal.ofBits, Ideal.ieee, -EReal.coe_mul, -EReal.coe_neg]; norm_num

/-- The small number under the root is a positive real. -/
theorem eps_eq : ∃ e : ℝ, 0 < e ∧ Ideal.ofBits .f32 0x358637BD#32 = (e : EReal) := by
  refine ⟨_, ?_, by simp [Ideal.ofBits, Ideal.ieee, -EReal.coe_mul]; rfl⟩
  positivity

/-- A square is not negative. -/
theorem sq_nonneg (a : EReal) : 0 ≤ a * a := by
  rcases le_total 0 a with h | h
  · exact mul_nonneg h h
  · rw [← neg_mul_neg]; exact mul_nonneg (EReal.neg_nonneg.2 h) (EReal.neg_nonneg.2 h)

/-- A real that is not negative comes out of a finite sum. -/
theorem mul_sum {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (EReal.coe_nonneg.2 hc) (EReal.coe_ne_top c), ih]

/-- Dividing by a real that is not zero is multiplying by its inverse. -/
theorem div_real (a : EReal) (c : ℝ) (hc : c ≠ 0) : Ideal.div a (c : EReal) = a * ((c⁻¹ : ℝ) : EReal) := by
  unfold Ideal.div
  rw [if_neg (by exact_mod_cast hc), ← EReal.coe_inv]

/-- The mean square of a row plus the small number. -/
def ms (x : Fin 1024 → EReal) : EReal := Ideal.div (∑ l, x l * x l) (Ideal.ofBits .f32 0x44800000#32) + Ideal.ofBits .f32 0x358637BD#32

/-- It is a positive real or infinite. -/
theorem ms_cases (x : Fin 1024 → EReal) : ms x = ⊤ ∨ ∃ v : ℝ, 0 < v ∧ ms x = (v : EReal) := by
  obtain ⟨e, he, hE⟩ := eps_eq
  have h0 : 0 ≤ ∑ l, x l * x l := Finset.sum_nonneg fun l _ => sq_nonneg (x l)
  have h1 : 0 ≤ Ideal.div (∑ l, x l * x l) ((1024 : ℝ) : EReal) := by
    rw [div_real _ _ (by norm_num)]
    exact mul_nonneg h0 (EReal.coe_nonneg.2 (by norm_num))
  unfold ms
  rw [len_eq, hE]
  generalize Ideal.div (∑ l, x l * x l) ((1024 : ℝ) : EReal) = a at h1
  induction a with
  | bot => exact absurd h1 (by simp)
  | top => left; rfl
  | coe a => right; exact ⟨a + e, by have := EReal.coe_nonneg.1 h1; linarith, by rw [EReal.coe_add]⟩

/-- The gradient of a normalised row in its difference form: the row `x`, the cotangent `g` of the normalised row. -/
def grad (x g : Fin 1024 → EReal) (j : Fin 1024) : EReal :=
  Ideal.rsqrt (ms x) * (g j - x j * Ideal.rsqrt (ms x) * Ideal.div (∑ l, g l * (x l * Ideal.rsqrt (ms x))) (Ideal.ofBits .f32 0x44800000#32))

/-- The gradient of a normalised row: the difference form equals the sum form. -/
theorem grad_eq (x g : Fin 1024 → EReal) (j : Fin 1024) :
    grad x g j
      = g j * Ideal.rsqrt (ms x)
        + x j * Ideal.div ((∑ l, x l * g l) * (Ideal.ofBits .f32 0xBF000000#32 * Ideal.div (Ideal.rsqrt (ms x)) (ms x))) (Ideal.ofBits .f32 0x44800000#32)
        + Ideal.div ((∑ l, x l * g l) * (Ideal.ofBits .f32 0xBF000000#32 * Ideal.div (Ideal.rsqrt (ms x)) (ms x))) (Ideal.ofBits .f32 0x44800000#32) * x j := by
  unfold grad
  rw [len_eq, half_eq]
  rcases ms_cases x with h | ⟨v, hv, h⟩
  · rw [h]
    simp [Ideal.div]
  · rw [h, Ideal.rsqrt_coe, if_neg (not_lt.2 hv.le), if_neg hv.ne', div_real _ _ (by norm_num), div_real _ _ (by norm_num), div_real _ _ hv.ne']
    have hp : 0 < (Real.sqrt v)⁻¹ := inv_pos.2 (Real.sqrt_pos.2 hv)
    have h3 : (Real.sqrt v)⁻¹ * (Real.sqrt v)⁻¹ = v⁻¹ := by rw [← mul_inv, Real.mul_self_sqrt hv.le]
    generalize (Real.sqrt v)⁻¹ = p at hp h3
    have hs : ∑ l, g l * (x l * (p : EReal)) = (p : EReal) * ∑ l, x l * g l := by
      rw [mul_sum _ _ hp.le]
      exact Finset.sum_congr rfl fun l _ => by ac_rfl
    rw [hs]
    generalize ∑ l, x l * g l = S
    generalize x j = a
    generalize g j = b
    rw [EReal.mul_sub_of_nonneg_of_ne_top (EReal.coe_nonneg.2 hp.le) (EReal.coe_ne_top p)]
    have hb : 0 ≤ 1 / 2 * (p * v⁻¹) * (1024 : ℝ)⁻¹ := by positivity
    have e1 : (p : EReal) * (a * (p : EReal) * ((p : EReal) * S * (((1024 : ℝ)⁻¹ : ℝ) : EReal))) = a * S * ((p * p * p * (1024 : ℝ)⁻¹ : ℝ) : EReal) := by
      simp only [EReal.coe_mul]; ac_rfl
    have e2 : S * (((-(1 / 2) : ℝ) : EReal) * ((p : EReal) * ((v⁻¹ : ℝ) : EReal))) * (((1024 : ℝ)⁻¹ : ℝ) : EReal)
        = -(S * ((1 / 2 * (p * v⁻¹) * (1024 : ℝ)⁻¹ : ℝ) : EReal)) := by
      rw [EReal.coe_neg]
      simp only [EReal.coe_mul, neg_mul, mul_neg]
      refine congrArg Neg.neg ?_
      ac_rfl
    rw [e1, e2]
    have e3 : a * S * ((p * p * p * (1024 : ℝ)⁻¹ : ℝ) : EReal)
        = a * S * ((1 / 2 * (p * v⁻¹) * (1024 : ℝ)⁻¹ : ℝ) : EReal) + a * S * ((1 / 2 * (p * v⁻¹) * (1024 : ℝ)⁻¹ : ℝ) : EReal) := by
      rw [← EReal.left_distrib_of_nonneg (EReal.coe_nonneg.2 hb) (EReal.coe_nonneg.2 hb), ← EReal.coe_add, ← h3]
      refine congrArg (fun q : ℝ => a * S * (q : EReal)) ?_
      ring
    rw [e3]
    generalize ((1 / 2 * (p * v⁻¹) * (1024 : ℝ)⁻¹ : ℝ)) = k at hb
    have e4 : -(a * S * (k : EReal) + a * S * (k : EReal)) = -(a * S * (k : EReal)) + -(a * S * (k : EReal)) := by
      rw [EReal.neg_add, sub_eq_add_neg]
      · by_cases q : a * S * (k : EReal) = ⊥
        · right; rw [q]; exact bot_ne_top
        · exact Or.inl q
      · by_cases q : a * S * (k : EReal) = ⊤
        · right; rw [q]; exact top_ne_bot
        · exact Or.inl q
    rw [sub_eq_add_neg, e4, ← add_assoc, mul_neg, neg_mul, mul_comm b, ← mul_assoc a, mul_comm _ a, ← mul_assoc a]

end Cert.RowNorm

end
-- ==== Proof.UpD.lean ====
/- The cotangent of the feed-forward input: the two result arrays of the kernel are the reference's. -/
module

public import proofs.«01_k».proof.Proof.RowNorm
public import proofs.«01_k».proof.Defs
public import proofs.«01_k».proof.Proof.Gen.KernelUpDIdeal.Value
public import proofs.«01_k».proof.Proof.Gen.ReferenceUpDIdeal.Run
public import proofs.«01_k».proof.Proof.Gen.ReferenceUpDIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelUpDIdeal.Product

open Cert.KernelUpDIdeal Cert.KernelUpDIdeal.Gen

/-- The zero fill is zero at every index. -/
theorem zero_at (j : S1024x1024.Idx) : k0_pay1 (F := Ideal) j = 0 := by
  pointwise [k0_pay1]

/-- One step of the accumulation: what was there plus the block's product. -/
theorem step_at (acc : FVec Ideal S1024x1024 .f32) (x0 : FVec Ideal S1x1024x1408 .bf16) (x1 : FVec Ideal S1408x1024 .bf16) (j : S1024x1024.Idx) :
    k0_pay2 (F := Ideal) acc x0 x1 j = acc j + ∑ k : Fin 1408, x0 (ix3 0 (j 0) k) * x1 (ix2 k (j 1)) := by
  pointwise [k0_pay2]

/-- The stored rows at an index. -/
theorem rows_at (du h : FVec Ideal S1024x1024 .f32) (w : FVec Ideal S1x1024 .f32) (dh : FVec Ideal S1024x1024 .f32) (r l : Fin 1024) :
    k0_pay6 (F := Ideal) du h w dh (ix2 r l)
      = dh (ix2 r l) + Cert.RowNorm.grad (fun x => h (ix2 r x)) (fun x => du (ix2 r x) * w (ix2 0 x)) l := by
  pointwise [k0_pay6, k0_pay5, k0_pay4]
  rfl

/-- The column sums of one block at an index. -/
theorem cols_at (du h : FVec Ideal S1024x1024 .f32) (l : Fin 1024) :
    k0_pay7 (F := Ideal) du h (ix2 0 l)
      = ∑ r : Fin 1024, du (ix2 r l) * (h (ix2 r l) * Ideal.rsqrt (Cert.RowNorm.ms fun x => h (ix2 r x))) := by
  pointwise [k0_pay7, k0_pay5, k0_pay4]
  rfl

/-- The addition of one block's column sums at an index. -/
theorem add_at (a b : FVec Ideal S1x1024 .f32) (l : Fin 1024) :
    k0_pay3 (F := Ideal) a b (ix2 0 l) = b (ix2 0 l) + a (ix2 0 l) := by
  pointwise [k0_pay3]

section
open Cert.ReferenceUpDIdeal.Read

/-- The product of the reference at an index. -/
def du (a0 : FVec Ideal Cert.ReferenceUpDIdeal.S2x4096x2816 .bf16) (a1 : FVec Ideal Cert.ReferenceUpDIdeal.S5632x1024 .bf16) (r : Fin 4096) (l : Fin 1024) : EReal :=
  ∑ k : Fin 5632, a0 (ix3 ⟨(k : ℕ) / 2816, by omega⟩ r ⟨(k : ℕ) % 2816, by omega⟩) * a1 (ix2 k l)

/-- The reference's product at an index. -/
theorem prod_at (a0 : FVec Ideal Cert.ReferenceUpDIdeal.S2x4096x2816 .bf16) (a1 : FVec Ideal Cert.ReferenceUpDIdeal.S5632x1024 .bf16) (r : Fin 4096) (l : Fin 1024) :
    val_main_v7 (F := Ideal) a0 a1 (ix2 r l) = du a0 a1 r l := by
  unfold du
  pointwise [val_main_v0, val_main_v1, val_main_v2, val_main_v3, val_main_v4, val_main_v5, val_main_v6, val_main_v7, Cert.ReferenceUpDIdeal.Value.fn_main_v4]
  refine Eq.trans ?_ (Fin.sum_univ_add (a := 2816) (b := 2816) (fun k : Fin (2816 + 2816) =>
    a0 (ix3 ⟨(k : ℕ) / 2816, by omega⟩ r ⟨(k : ℕ) % 2816, by omega⟩) * a1 (ix2 k l))).symm
  refine congrArg₂ (fun a b : EReal => a + b) (Finset.sum_congr rfl fun k _ => ?_) (Finset.sum_congr rfl fun k _ => ?_)
  · have hk := k.isLt
    refine congrArg₂ (fun a b : EReal => a * b) (congrArg a0 ?_) (congrArg a1 ?_)
    · exact (ix3_inj ..).2 ⟨Fin.ext (by show 0 = (k : ℕ) / 2816; omega), rfl, Fin.ext (by show (k : ℕ) = (k : ℕ) % 2816; omega)⟩
    · exact (ix2_inj ..).2 ⟨Fin.ext rfl, rfl⟩
  · have hk := k.isLt
    refine congrArg₂ (fun a b : EReal => a * b) (congrArg a0 ?_) (congrArg a1 ?_)
    · exact (ix3_inj ..).2 ⟨Fin.ext (by show 1 = (2816 + (k : ℕ)) / 2816; omega), rfl, Fin.ext (by show (k : ℕ) = (2816 + (k : ℕ)) % 2816; omega)⟩
    · exact (ix2_inj ..).2 ⟨Fin.ext rfl, rfl⟩

/-- The reference's rows at an index. -/
theorem ref_rows (a0 : FVec Ideal Cert.ReferenceUpDIdeal.S2x4096x2816 .bf16) (a1 : FVec Ideal Cert.ReferenceUpDIdeal.S5632x1024 .bf16)
    (a2 : FVec Ideal Cert.ReferenceUpDIdeal.S4096x1024 .f32) (a3 : FVec Ideal Cert.ReferenceUpDIdeal.S1024 .f32) (a4 : FVec Ideal Cert.ReferenceUpDIdeal.S4096x1024 .f32) (r : Fin 4096) (l : Fin 1024) :
    val_main_v44 (F := Ideal) a0 a1 a2 a3 a4 (ix2 r l)
      = a4 (ix2 r l) + Cert.RowNorm.grad (fun x => a2 (ix2 r x)) (fun x => du a0 a1 r x * a3 (ix1 x)) l := by
  rw [Cert.RowNorm.grad_eq]
  pointwise [val_main_v8, val_main_cst, val_main_v9, val_main_v10, val_main_cst_0, val_main_v11, val_main_v12, val_main_cst_1, val_main_v13, val_main_v14, val_main_v15, val_main_v16, val_main_cst_2, val_main_v17, val_main_v18, val_main_v19, val_main_v20, val_main_v21, val_main_v22, val_main_v23, val_main_v24, val_main_cst_3, val_main_v25, val_main_v26, val_main_v27, val_main_v28, val_main_cst_4, val_main_v29, val_main_v30, val_main_cst_5, val_main_v31, val_main_v32, val_main_v33, val_main_v34, val_main_v35, val_main_cst_6, val_main_v36, val_main_v37, val_main_cst_7, val_main_v38, val_main_v39, val_main_v40, val_main_v41, val_main_v42, val_main_v43, val_main_v44, val_main_v45]
  simp only [prod_at, Fin.sum_univ_one]
  rfl

/-- The reference's column sums at an index. -/
theorem ref_cols (a0 : FVec Ideal Cert.ReferenceUpDIdeal.S2x4096x2816 .bf16) (a1 : FVec Ideal Cert.ReferenceUpDIdeal.S5632x1024 .bf16)
    (a2 : FVec Ideal Cert.ReferenceUpDIdeal.S4096x1024 .f32) (l : Fin 1024) :
    val_main_v45 (F := Ideal) a0 a1 a2 (ix2 0 l)
      = ∑ r : Fin 4096, du a0 a1 r l * (a2 (ix2 r l) * Ideal.rsqrt (Cert.RowNorm.ms fun x => a2 (ix2 r x))) := by
  pointwise [val_main_v8, val_main_cst, val_main_v9, val_main_v10, val_main_cst_0, val_main_v11, val_main_v12, val_main_cst_1, val_main_v13, val_main_v14, val_main_v15, val_main_v16, val_main_cst_2, val_main_v17, val_main_v18, val_main_v19, val_main_v20, val_main_v21, val_main_v22, val_main_v23, val_main_v24, val_main_cst_3, val_main_v25, val_main_v26, val_main_v27, val_main_v28, val_main_cst_4, val_main_v29, val_main_v30, val_main_cst_5, val_main_v31, val_main_v32, val_main_v33, val_main_v34, val_main_v35, val_main_cst_6, val_main_v36, val_main_v37, val_main_cst_7, val_main_v38, val_main_v39, val_main_v40, val_main_v41, val_main_v42, val_main_v43, val_main_v44, val_main_v45]
  simp only [prod_at, Fin.sum_univ_one]
  exact Finset.sum_congr rfl fun r _ => mul_comm _ _
end

variable (m : (ℓ : Loc nD τ sig) → Buf (Elt Ideal) ℓ)

/-- The block index of every window at every grid point. -/
theorem idx : ∀ t : Fin cfg0.N, win0_0.index t = ![(t.val % 4) / 2, t.val / 4, (t.val % 4) % 2]
    ∧ win0_1.index t = ![t.val % 4, 0]
    ∧ win0_2.index t = ![t.val / 4, 0]
    ∧ win0_3.index t = ![0, 0]
    ∧ win0_4.index t = ![t.val / 4, 0]
    ∧ win0_5.index t = ![t.val / 4, 0]
    ∧ win0_6.index t = ![0, 0] ∧ t.val / 4 < 4 :=
  (by decide +kernel : ∀ t : Fin grid0.N, _)

/-- The product of the blocks at one grid point, at an index of the accumulator. -/
def part (c : Dev nD) (p : Fin cfg0.N) (j : S1024x1024.Idx) : EReal :=
  ∑ k : Fin 1408, (show FVec Ideal S1x1024x1408 .bf16 from iblk m c 0 p) (ix3 0 (j 0) k) * (show FVec Ideal S1408x1024 .bf16 from iblk m c 1 p) (ix2 k (j 1))

/-- The scratch after the last point of a run is the sum of the run's block products. -/
theorem scratch (c : Dev nD) (t : Fin cfg0.N) (h : t.val % 4 = 3) (y : S1024x1024.Idx) :
    (outsAt0 m c t.val t.isLt).2.2 y = ∑ s : Fin 4, part m c ⟨4 * (t.val / 4) + s.val, Pipeline.run_point_lt_of_flush t h s⟩ y := by
  rw [Pipeline.eq_sum_fin_of_reset_step_apply_of_flush (fun n h => (outsAt0 m c n h).2.2) 4 (fun _ => 0)
    (fun p j => part m c p j)
    (fun t h j => by
      have h1 : ¬t.val % 4 = 3 := by omega
      rw [outsAt0_A m c t h h1]; frame_out; rw [step_at, zero_at]; rfl)
    (fun t h j => by
      by_cases h1 : t.val % 4 = 3
      · by_cases h2 : t.val < 4
        · rw [outsAt0_C m c t h h1 h2 (by omega)]; frame_out; rw [read_unread_whole, step_at]; try rfl
        · rw [outsAt0_D m c t h h1 h2 (by omega)]; frame_out; rw [read_unread_whole, step_at]; try rfl
      · rw [outsAt0_B m c t h h1]; frame_out; rw [read_unread_whole, step_at]; try rfl)
    t h y, zero_add]

/-- The scratch after the last point of a run is the reference's product at the block's rows. -/
theorem scratch_prod (c : Dev nD) (t : Fin cfg0.N) (h : t.val % 4 = 3) (r l : Fin 1024) :
    (outsAt0 m c t.val t.isLt).2.2 (ix2 r l) = du (m ((c : Thread nD τ).loc main_arg0)) (m ((c : Thread nD τ).loc main_arg1))
      ⟨t.val / 4 * 1024 + r.val, by have := (idx t).2.2.2.2.2.2.2; omega⟩ l := by
  rw [scratch m c t h]
  unfold part du
  refine Fin.sum_mul_add_congr fun s k hl => ?_
  blk_point [iblk, V, idx t, idx ⟨_, Pipeline.run_point_lt_of_flush t h s⟩]

/-- The rows the last point of a run stores. -/
theorem rows_last (c : Dev nD) (t : Fin cfg0.N) (h : t.val % 4 = 3) (y : S1024x1024.Idx) :
    (outsAt0 m c t.val t.isLt).1 y = k0_pay6 (F := Ideal) (outsAt0 m c t.val t.isLt).2.2 (iblk m c 2 t) (iblk m c 3 t) (iblk m c 4 t) y := by
  have h0 : ¬t.val % 4 = 0 := by omega
  by_cases h2 : t.val < 4
  · rw [outsAt0_C m c t h0 h h2 (by omega)]; frame_out
  · rw [outsAt0_D m c t h0 h h2 (by omega)]; frame_out

/-- The place of a block of rows in the array of rows. -/
theorem out_at (t : Fin cfg0.N) (r l : Fin 1024) (A : FVec Ideal Cert.ReferenceUpDIdeal.S4096x1024 .f32) :
    A ((win0_5.blk t).view.emb (ix2 r l)) = A (ix2 ⟨t.val / 4 * 1024 + r.val, by have := (idx t).2.2.2.2.2.2.2; omega⟩ l) := by
  have h := idx t
  blk_point [idx t]

/-- The block of the normalised input. -/
theorem in_at (c : Dev nD) (t : Fin cfg0.N) (r l : Fin 1024) :
    iblk m c 2 t (ix2 r l) = m ((c : Thread nD τ).loc main_arg2) (ix2 ⟨t.val / 4 * 1024 + r.val, by have := (idx t).2.2.2.2.2.2.2; omega⟩ l) := by
  blk_point [iblk, V, idx t]

/-- The block of the norm's weight. -/
theorem weight_at (c : Dev nD) (t : Fin cfg0.N) (l : Fin 1024) :
    iblk m c 3 t (ix2 0 l) = m ((c : Thread nD τ).loc main_arg3) (ix1 l) := by
  blk_point [iblk, V, idx t]

/-- The block of the cotangent that is added. -/
theorem add_in_at (c : Dev nD) (t : Fin cfg0.N) (r l : Fin 1024) :
    iblk m c 4 t (ix2 r l) = m ((c : Thread nD τ).loc main_arg4) (ix2 ⟨t.val / 4 * 1024 + r.val, by have := (idx t).2.2.2.2.2.2.2; omega⟩ l) := by
  blk_point [iblk, V, idx t]

/-- The array of rows the kernel leaves is the reference's term of the arguments. -/
theorem final_rows (c : Dev nD) : (dats m 0 c).arrAt 5 (cfgs 0).N
    = Cert.ReferenceUpDIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have h3 := (flush0_5 t).mp hf
  blk_simp
  rw [after0_5]
  obtain ⟨r, l, rfl⟩ : ∃ (r l : Fin 1024), y = ix2 r l := ⟨y 0, y 1, by idx_ext⟩
  refine Eq.trans ?_ ((out_at t r l _).trans (ref_rows _ _ _ _ _ _ _)).symm
  refine (rows_last m c t h3 (ix2 r l)).trans ?_
  rw [rows_at, add_in_at m c t r l]
  refine congrArg (fun a : EReal => _ + a) ?_
  refine congrArg₂ (fun x g => Cert.RowNorm.grad x g l) (funext fun x => in_at m c t r x) (funext fun x => ?_)
  rw [scratch_prod m c t h3 r x, weight_at m c t x]

/-- The column sums of one block of the reference's rows. -/
def colpart (c : Dev nD) (q : Fin 4) (l : Fin 1024) : EReal :=
  ∑ r : Fin 1024, du (m ((c : Thread nD τ).loc main_arg0)) (m ((c : Thread nD τ).loc main_arg1)) ⟨q.val * 1024 + r.val, by omega⟩ l
    * ((show FVec Ideal S4096x1024 .f32 from m ((c : Thread nD τ).loc main_arg2)) (ix2 ⟨q.val * 1024 + r.val, by omega⟩ l)
      * Ideal.rsqrt (Cert.RowNorm.ms fun x => (show FVec Ideal S4096x1024 .f32 from m ((c : Thread nD τ).loc main_arg2)) (ix2 ⟨q.val * 1024 + r.val, by omega⟩ x)))

/-- What the last point of a run adds to the column sums. -/
theorem cols_block (c : Dev nD) (t : Fin cfg0.N) (h : t.val % 4 = 3) (l : Fin 1024) :
    k0_pay7 (F := Ideal) (outsAt0 m c t.val t.isLt).2.2 (iblk m c 2 t) (ix2 0 l) = colpart m c ⟨t.val / 4, (idx t).2.2.2.2.2.2.2⟩ l := by
  rw [cols_at]
  unfold colpart
  refine Finset.sum_congr rfl fun r _ => ?_
  rw [scratch_prod m c t h r l, in_at m c t r l]
  refine congrArg (fun x => _ * (_ * Ideal.rsqrt (Cert.RowNorm.ms x))) (funext fun x => in_at m c t r x)

/-- The column sums after the last point of the first run. -/
theorem cols_first (c : Dev nD) (t : Fin cfg0.N) (h : t.val % 4 = 3) (h2 : t.val < 4) (l : Fin 1024) :
    (outsAt0 m c t.val t.isLt).2.1 (ix2 0 l) = colpart m c ⟨t.val / 4, (idx t).2.2.2.2.2.2.2⟩ l := by
  have h0 : ¬t.val % 4 = 0 := by omega
  refine Eq.trans ?_ (cols_block m c t h l)
  rw [outsAt0_C m c t h0 h h2 (by omega)]; frame_out

/-- The column sums after the last point of a later run. -/
theorem cols_later (c : Dev nD) (t : Fin cfg0.N) (h : t.val % 4 = 3) (h2 : ¬t.val < 4) (l : Fin 1024) :
    (outsAt0 m c t.val t.isLt).2.1 (ix2 0 l)
      = (outsAt0 m c (t.val - 1) (Nat.lt_of_le_of_lt (Nat.sub_le _ _) t.isLt)).2.1 (ix2 0 l) + colpart m c ⟨t.val / 4, (idx t).2.2.2.2.2.2.2⟩ l := by
  have h0 : ¬t.val % 4 = 0 := by omega
  rw [← cols_block m c t h l]
  rw [outsAt0_D m c t h0 h h2 (by omega)]; frame_out
  exact add_at _ _ l

/-- The column sums do not change at the other points. -/
theorem cols_kept (c : Dev nD) (t : Fin cfg0.N) (h : ¬t.val % 4 = 3) (ht : 0 < t.val) (l : Fin 1024) :
    (outsAt0 m c t.val t.isLt).2.1 (ix2 0 l) = (outsAt0 m c (t.val - 1) (Nat.lt_of_le_of_lt (Nat.sub_le _ _) t.isLt)).2.1 (ix2 0 l) := by
  by_cases h0 : t.val % 4 = 0
  · rw [outsAt0_A m c t h0 h]; rfl
  · rw [outsAt0_B m c t h0 h]; rfl

/-- One more run of the sweep adds its block's column sums. -/
theorem cols_run (c : Dev nD) (q : ℕ) (hq : q + 1 < 4) (l : Fin 1024) (h7 : 4 * q + 7 < cfg0.N) (h3 : 4 * q + 3 < cfg0.N) :
    (outsAt0 m c (4 * q + 7) h7).2.1 (ix2 0 l) = (outsAt0 m c (4 * q + 3) h3).2.1 (ix2 0 l) + colpart m c ⟨q + 1, hq⟩ l := by
  have e7 := cols_later m c ⟨4 * q + 7, h7⟩ (by show (4 * q + 7) % 4 = 3; omega) (by show ¬4 * q + 7 < 4; omega) l
  have e6 := cols_kept m c ⟨4 * q + 6, by omega⟩ (by show ¬(4 * q + 6) % 4 = 3; omega) (by show 0 < 4 * q + 6; omega) l
  have e5 := cols_kept m c ⟨4 * q + 5, by omega⟩ (by show ¬(4 * q + 5) % 4 = 3; omega) (by show 0 < 4 * q + 5; omega) l
  have e4 := cols_kept m c ⟨4 * q + 4, by omega⟩ (by show ¬(4 * q + 4) % 4 = 3; omega) (by show 0 < 4 * q + 4; omega) l
  have ec : colpart m c ⟨(4 * q + 7) / 4, by omega⟩ l = colpart m c ⟨q + 1, hq⟩ l :=
    congrArg (fun a => colpart m c a l) (Fin.ext (by show (4 * q + 7) / 4 = q + 1; omega))
  exact e7.trans (congrArg₂ (fun a b : EReal => a + b) (e6.trans (e5.trans e4)) ec)

/-- A sequence that starts with the first part and gains one part every four places. -/
theorem chain (F : ℕ → EReal) (p : Fin 4 → EReal) (h0 : F 3 = p 0) (h1 : F 7 = F 3 + p 1) (h2 : F 11 = F 7 + p 2) (h3 : F 15 = F 11 + p 3) :
    F 15 = ∑ q : Fin 4, p q := by
  rw [Fin.sum_univ_four, h3, h2, h1, h0]

/-- The column sums after a point, and zero where there is no point. -/
def colsAt (c : Dev nD) (l : Fin 1024) (n : ℕ) : EReal := if h : n < cfg0.N then (outsAt0 m c n h).2.1 (ix2 0 l) else 0

/-- At a point they are what the window holds. -/
theorem colsAt_eq (c : Dev nD) (l : Fin 1024) (n : ℕ) (h : n < cfg0.N) : colsAt m c l n = (outsAt0 m c n h).2.1 (ix2 0 l) := dif_pos h

/-- One more run of the sweep adds its block's column sums. -/
theorem colsAt_run (c : Dev nD) (q : ℕ) (hq : q + 1 < 4) (l : Fin 1024) : colsAt m c l (4 * q + 7) = colsAt m c l (4 * q + 3) + colpart m c ⟨q + 1, hq⟩ l := by
  have hN : cfg0.N = 16 := N_0
  rw [colsAt_eq m c l _ (by omega), colsAt_eq m c l _ (by omega)]
  exact cols_run m c q hq l _ _

/-- The column sums after the last point of the first run are the first part. -/
theorem cols_third (c : Dev nD) (l : Fin 1024) (t : Fin cfg0.N) (h : t.val = 3) : (outsAt0 m c t.val t.isLt).2.1 (ix2 0 l) = colpart m c 0 l :=
  (cols_first m c t (by omega) (by omega) l).trans (congrArg (fun a => colpart m c a l) (Fin.ext (by show t.val / 4 = 0; omega)))

/-- The column sums of the first run. -/
theorem colsAt_first (c : Dev nD) (l : Fin 1024) : colsAt m c l 3 = colpart m c 0 l := by
  have hN : cfg0.N = 16 := N_0
  obtain ⟨t, ht⟩ : ∃ t : Fin cfg0.N, t.val = 3 := ⟨⟨3, by omega⟩, rfl⟩
  rw [← cols_third m c l t ht, ← ht]
  exact colsAt_eq m c l t.val t.isLt

/-- The column sums after the last point of all. -/
theorem cols_all (c : Dev nD) (l : Fin 1024) (t : Fin cfg0.N) (h : t.val = 15) :
    (outsAt0 m c t.val t.isLt).2.1 (ix2 0 l) = ∑ q : Fin 4, colpart m c q l := by
  rw [← colsAt_eq m c l t.val t.isLt, h]
  exact chain (colsAt m c l) (fun q => colpart m c q l) (colsAt_first m c l) (colsAt_run m c 0 (by omega) l) (colsAt_run m c 1 (by omega) l) (colsAt_run m c 2 (by omega) l)

/-- The place of the column sums in their array. -/
theorem out_cols_at (t : Fin cfg0.N) (l : Fin 1024) (A : FVec Ideal Cert.ReferenceUpDIdeal.S1x1024 .f32) :
    A ((win0_6.blk t).view.emb (ix2 0 l)) = A (ix2 0 l) := by
  have h := idx t
  blk_point [idx t]

/-- The column sums the kernel leaves are the reference's term of the arguments. -/
theorem final_cols (c : Dev nD) : (dats m 0 c).arrAt 6 (cfgs 0).N
    = Cert.ReferenceUpDIdeal.Read.val_main_v45 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  have h3 := (flush0_6 t).mp hf
  blk_simp
  rw [after0_6]
  obtain ⟨l, rfl⟩ : ∃ l : Fin 1024, y = ix2 0 l := ⟨y 1, by idx_ext⟩
  have ht : t.val = 15 := by
    have h := (idx t).2.2.2.2.2.2.2
    omega
  refine (cols_all m c l t ht).trans ?_
  refine Eq.trans ?_ ((out_cols_at t l _).trans (ref_cols _ _ _ l)).symm
  unfold colpart
  exact Fin.sum_mul_add_congr fun s k hl => rfl

/-- The two programs end with the same arrays from the same arguments. -/
theorem algebraic : Cert.algebraic_KernelUpDIdeal_ReferenceUpDIdeal := by
  pair_intro
  · run_from Cert.KernelUpDIdeal.Gen.run_main m g
  · run_from Cert.ReferenceUpDIdeal.Value.run m' g'
    · refine (Cert.ReferenceUpDIdeal.Read.val_main_v44_eq m' c).trans ?_
      rw [(hagree c).1, (hagree c).2.1, (hagree c).2.2.1, (hagree c).2.2.2.1, (hagree c).2.2.2.2]
      exact (final_rows m c).symm
    · exact (Cert.ReferenceUpDIdeal.Read.val_main_v45_eq _ _ _).trans (final_cols m c).symm

end Cert.KernelUpDIdeal.Product

end
-- ==== Proof.DownW.lean ====
/- The gradient of the down projection in its weight: the result array of the kernel is the reference's product. -/
module

public import proofs.«01_k».proof.Defs
public import proofs.«01_k».proof.Proof.Gen.KernelDownWIdeal.Value
public import proofs.«01_k».proof.Proof.Gen.ReferenceDownWIdeal.Run
public import proofs.«01_k».proof.Proof.Gen.ReferenceDownWIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelDownWIdeal.Product

open Cert.KernelDownWIdeal Cert.KernelDownWIdeal.Gen

variable (m : (ℓ : Loc nD τ sig) → Buf (Elt Ideal) ℓ)

/-- The zero fill is zero at every index. -/
theorem zero_at (j : S1408x1024.Idx) : k0_pay1 (F := Ideal) j = 0 := by
  pointwise [k0_pay1]

/-- One step of the accumulation: what was there plus the block's product. -/
theorem step_at (x0 : FVec Ideal S1024x1408 .bf16) (acc : FVec Ideal S1408x1024 .f32) (x1 : FVec Ideal S1024x1024 .f32)
    (j : S1408x1024.Idx) :
    k0_pay2 (F := Ideal) x0 acc x1 j = acc j + ∑ k : Fin 1024, x0 (ix2 k (j 0)) * x1 (ix2 k (j 1)) := by
  pointwise [k0_pay2]

/-- The block index of every window at every grid point. -/
theorem idx : ∀ t : Fin cfg0.N, win0_0.index t = ![t.val % 4, t.val / 4]
    ∧ win0_1.index t = ![t.val % 4, 0]
    ∧ win0_2.index t = ![t.val / 4, 0] ∧ t.val / 4 < 2 :=
  (by decide +kernel : ∀ t : Fin grid0.N, _)

/-- The scratch after the last point of a run is the sum of the run's block products. -/
theorem scratch (c : Dev nD) (t : Fin cfg0.N) (h : t.val % 4 = 3) (y : S1408x1024.Idx) :
    (outsAt0 m c t.val t.isLt).2 y = ∑ s : Fin 4, ∑ k : Fin 1024,
      (show FVec Ideal S1024x1408 .bf16 from iblk m c 0 ⟨4 * (t.val / 4) + s.val, Pipeline.run_point_lt_of_flush t h s⟩) (ix2 k (y 0))
      * (show FVec Ideal S1024x1024 .f32 from iblk m c 1 ⟨4 * (t.val / 4) + s.val, Pipeline.run_point_lt_of_flush t h s⟩) (ix2 k (y 1)) := by
  rw [Pipeline.eq_sum_fin_of_reset_step_apply_of_flush (fun n h => (outsAt0 m c n h).2) 4 (fun _ => 0)
    (fun p j => ∑ k : Fin 1024, (show FVec Ideal S1024x1408 .bf16 from iblk m c 0 p) (ix2 k (j 0))
      * (show FVec Ideal S1024x1024 .f32 from iblk m c 1 p) (ix2 k (j 1)))
    (fun t h j => by
      have h1 : ¬t.val % 4 = 3 := by omega
      rw [outsAt0_A m c t h h1]; frame_out; rw [step_at, zero_at])
    (fun t h j => by
      by_cases h1 : t.val % 4 = 3
      · rw [outsAt0_C m c t h h1]; frame_out; rw [read_unread_whole, step_at]; try rfl
      · rw [outsAt0_B m c t h h1]; frame_out; rw [read_unread_whole, step_at]; try rfl)
    t h y, zero_add]

/-- The reference's result as one term over its arguments. -/
abbrev REF (a0 : FVec Ideal Cert.ReferenceDownWIdeal.S4096x2816 .bf16) (a1 : FVec Ideal Cert.ReferenceDownWIdeal.S4096x1024 .f32) :
    FVec Ideal Cert.ReferenceDownWIdeal.S2816x1024 .bf16 :=
  truncf .bf16 (transpose Cert.ReferenceDownWIdeal.S2816x1024 [1, 0]
    (Host.dotGeneral Cert.ReferenceDownWIdeal.dot_S4096x1024_S4096x2816_S1024x2816_0_0_1_1_n_n none a1
      (extf .f32 a0 Cert.ReferenceDownWIdeal.Gen.bitsLt_bf16_f32))
    Cert.ReferenceDownWIdeal.Gen.transposes_S1024x2816_S2816x1024_1_0) Cert.ReferenceDownWIdeal.Gen.bitsLt_bf16_f32

/-- The reference's term at an index: the sum over the rows of both arguments. -/
theorem ref_at (a0 : FVec Ideal Cert.ReferenceDownWIdeal.S4096x2816 .bf16) (a1 : FVec Ideal Cert.ReferenceDownWIdeal.S4096x1024 .f32)
    (j : Cert.ReferenceDownWIdeal.S2816x1024.Idx) :
    REF a0 a1 j = ∑ k : Fin 4096, a0 (ix2 k (j 0)) * a1 (ix2 k (j 1)) := by
  pointwise [REF]
  exact Finset.sum_congr rfl fun k _ => mul_comm _ _

/-- The array the kernel leaves is the reference's term of the arguments. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h3 := (flush0_2 t).mp hf
  have h0 : ¬t.val % 4 = 0 := by omega
  blk_simp
  rw [after0_2, outsAt0_C m c t h0 h3]
  frame_out
  refine Eq.trans ?_ (ref_at _ _ _).symm
  have hs := scratch m c t h3 y
  rw [outsAt0_C m c t h0 h3] at hs
  revert hs
  frame_out
  intro hs
  refine Eq.trans (show _ = _ from ?_) (hs.trans ?_)
  · pointwise [k0_pay3]
  · refine Fin.sum_mul_add_congr fun s k hl => ?_
    blk_point [iblk, V, idx t, idx ⟨_, Pipeline.run_point_lt_of_flush t h3 s⟩]

/-- The two programs end with the same array from the same arguments. -/
theorem algebraic : Cert.algebraic_KernelDownWIdeal_ReferenceDownWIdeal := by
  pair_intro
  · run_from Cert.KernelDownWIdeal.Gen.run_main m g
  · run_from Cert.ReferenceDownWIdeal.Value.run m' g'
    exact (final m c).symm

end Cert.KernelDownWIdeal.Product

end
-- ==== Proof.DownD.lean ====
/- The gradient of the down projection in its input: the result array of the kernel is the reference's product. -/
module

public import proofs.«01_k».proof.Defs
public import proofs.«01_k».proof.Proof.Gen.KernelDownDIdeal.Value
public import proofs.«01_k».proof.Proof.Gen.ReferenceDownDIdeal.Run
public import proofs.«01_k».proof.Proof.Gen.ReferenceDownDIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelDownDIdeal.Product

open Cert.KernelDownDIdeal Cert.KernelDownDIdeal.Gen

variable (m : (ℓ : Loc nD τ sig) → Buf (Elt Ideal) ℓ)

/-- The reference's result as one term over its two arguments. -/
abbrev REF (a0 : FVec Ideal Cert.ReferenceDownDIdeal.S4096x1024 .f32) (a1 : FVec Ideal Cert.ReferenceDownDIdeal.S2816x1024 .bf16) : FVec Ideal Cert.ReferenceDownDIdeal.S4096x2816 .bf16 :=
  truncf .bf16 (Host.dotGeneral Cert.ReferenceDownDIdeal.dot_S4096x1024_S2816x1024_S4096x2816_1_1_0_0_n_n none a0
    (extf .f32 a1 Cert.ReferenceDownDIdeal.Gen.bitsLt_bf16_f32)) Cert.ReferenceDownDIdeal.Gen.bitsLt_bf16_f32

/-- The block index of every window at every grid point. -/
theorem idx : ∀ t : Fin cfg0.N, win0_0.index t = ![t.val, 0]
    ∧ win0_1.index t = ![0, 0]
    ∧ win0_2.index t = ![t.val, 0] :=
  (by decide +kernel : ∀ t : Fin grid0.N, _)

/-- What the body stores at an index of the block: the row of the cotangent times the row of the weight. -/
theorem point (c : Dev nD) (t : Fin cfg0.N) (y : S512x2816.Idx) :
    k0_pay3 (F := Ideal) (k0_pay2 (F := Ideal) (k0_pay1 (F := Ideal)) (iblk m c 0 t) (iblk m c 1 t)) y
    = REF (m ((c : Thread nD τ).loc main_arg0)) (m ((c : Thread nD τ).loc main_arg1)) (((cfg0.win 2).blk t).view.emb y) := by
  pointwise [k0_pay1, k0_pay2, k0_pay3, REF]
  blk_point [iblk, V, idx t]

/-- The array the kernel leaves is the reference's term of the arguments. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]
  unfold Gen.outsAt0
  frame_out
  exact point m c t y

/-- The two programs end with the same array from the same arguments. -/
theorem algebraic : Cert.algebraic_KernelDownDIdeal_ReferenceDownDIdeal := by
  pair_intro
  · run_from Cert.KernelDownDIdeal.Gen.run_main m g
  · run_from Cert.ReferenceDownDIdeal.Value.run m' g'
    exact (final m c).symm

end Cert.KernelDownDIdeal.Product

end
-- ==== Proof.AttnOW.lean ====
/- The gradient of the attention output projection in its weight: the result array of the kernel is the reference's product. -/
module

public import proofs.«01_k».proof.Defs
public import proofs.«01_k».proof.Proof.Gen.KernelAttnOWIdeal.Value
public import proofs.«01_k».proof.Proof.Gen.ReferenceAttnOWIdeal.Run
public import proofs.«01_k».proof.Proof.Gen.ReferenceAttnOWIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelAttnOWIdeal.Product

open Cert.KernelAttnOWIdeal Cert.KernelAttnOWIdeal.Gen

variable (m : (ℓ : Loc nD τ sig) → Buf (Elt Ideal) ℓ)

/-- The zero fill is zero at every index. -/
theorem zero_at (j : S1024x1024.Idx) : k0_pay1 (F := Ideal) j = 0 := by
  pointwise [k0_pay1]

/-- One step of the accumulation: what was there plus the block's product. -/
theorem step_at (x0 : FVec Ideal S1024x1024 .bf16) (acc : FVec Ideal S1024x1024 .f32) (x1 : FVec Ideal S1024x1024 .f32)
    (j : S1024x1024.Idx) :
    k0_pay2 (F := Ideal) x0 acc x1 j = acc j + ∑ k : Fin 1024, x0 (ix2 k (j 0)) * x1 (ix2 k (j 1)) := by
  pointwise [k0_pay2]

/-- The block index of every window at every grid point. -/
theorem idx : ∀ t : Fin cfg0.N, win0_0.index t = ![t.val % 4, t.val / 4]
    ∧ win0_1.index t = ![t.val % 4, 0]
    ∧ win0_2.index t = ![t.val / 4, 0] ∧ t.val / 4 < 1 :=
  (by decide +kernel : ∀ t : Fin grid0.N, _)

/-- The scratch after the last point of a run is the sum of the run's block products. -/
theorem scratch (c : Dev nD) (t : Fin cfg0.N) (h : t.val % 4 = 3) (y : S1024x1024.Idx) :
    (outsAt0 m c t.val t.isLt).2 y = ∑ s : Fin 4, ∑ k : Fin 1024,
      (show FVec Ideal S1024x1024 .bf16 from iblk m c 0 ⟨4 * (t.val / 4) + s.val, Pipeline.run_point_lt_of_flush t h s⟩) (ix2 k (y 0))
      * (show FVec Ideal S1024x1024 .f32 from iblk m c 1 ⟨4 * (t.val / 4) + s.val, Pipeline.run_point_lt_of_flush t h s⟩) (ix2 k (y 1)) := by
  rw [Pipeline.eq_sum_fin_of_reset_step_apply_of_flush (fun n h => (outsAt0 m c n h).2) 4 (fun _ => 0)
    (fun p j => ∑ k : Fin 1024, (show FVec Ideal S1024x1024 .bf16 from iblk m c 0 p) (ix2 k (j 0))
      * (show FVec Ideal S1024x1024 .f32 from iblk m c 1 p) (ix2 k (j 1)))
    (fun t h j => by
      have h1 : ¬t.val % 4 = 3 := by omega
      rw [outsAt0_A m c t h h1]; frame_out; rw [step_at, zero_at])
    (fun t h j => by
      by_cases h1 : t.val % 4 = 3
      · rw [outsAt0_C m c t h h1]; frame_out; rw [read_unread_whole, step_at]; try rfl
      · rw [outsAt0_B m c t h h1]; frame_out; rw [read_unread_whole, step_at]; try rfl)
    t h y, zero_add]

/-- The reference's result at an index: the sum over the rows of both arguments. -/
theorem ref_at (a0 : FVec Ideal Cert.ReferenceAttnOWIdeal.S4096x1024 .bf16) (a1 : FVec Ideal Cert.ReferenceAttnOWIdeal.S4096x1024 .f32)
    (j : Cert.ReferenceAttnOWIdeal.S1024x1024.Idx) :
    Cert.ReferenceAttnOWIdeal.Read.val_main_v5 (F := Ideal) a0 a1 j = ∑ k : Fin 4096, a0 (ix2 k (j 0)) * a1 (ix2 k (j 1)) := by
  pointwise [Cert.ReferenceAttnOWIdeal.Read.val_main_cst, Cert.ReferenceAttnOWIdeal.Read.val_main_v0, Cert.ReferenceAttnOWIdeal.Read.val_main_v1, Cert.ReferenceAttnOWIdeal.Read.val_main_v2, Cert.ReferenceAttnOWIdeal.Read.val_main_v3, Cert.ReferenceAttnOWIdeal.Read.val_main_v4, Cert.ReferenceAttnOWIdeal.Read.val_main_v5]
  all_goals exact Finset.sum_congr rfl fun k _ => mul_comm _ _

/-- The array the kernel leaves is the reference's term of the arguments. -/
theorem final (c : Dev nD) : (dats m 0 c).arrAt 2 (cfgs 0).N = Cert.ReferenceAttnOWIdeal.Read.val_main_v5 (F := Ideal) (m ((c : Thread nD τ).loc main_arg0)) (m ((c : Thread nD τ).loc main_arg1)) := by
  refine (dats m 0 c).arrAt_eq_of_covers 2 _ (by decide +kernel) fun t hf y => ?_
  have h3 := (flush0_2 t).mp hf
  have h0 : ¬t.val % 4 = 0 := by omega
  blk_simp
  rw [after0_2, outsAt0_C m c t h0 h3]
  frame_out
  refine Eq.trans ?_ (ref_at _ _ _).symm
  have hs := scratch m c t h3 y
  rw [outsAt0_C m c t h0 h3] at hs
  revert hs
  frame_out
  intro hs
  refine Eq.trans (show _ = _ from ?_) (hs.trans ?_)
  · pointwise [k0_pay3]
  · refine Fin.sum_mul_add_congr fun s k hl => ?_
    blk_point [iblk, V, idx t, idx ⟨_, Pipeline.run_point_lt_of_flush t h3 s⟩]

/-- The two programs end with the same array from the same arguments. -/
theorem algebraic : Cert.algebraic_KernelAttnOWIdeal_ReferenceAttnOWIdeal := by
  pair_intro
  · run_from Cert.KernelAttnOWIdeal.Gen.run_main m g
  · run_from Cert.ReferenceAttnOWIdeal.Value.run m' g'
    exact (Cert.ReferenceAttnOWIdeal.Read.val_main_v5_eq _ _).trans (final m c).symm

end Cert.KernelAttnOWIdeal.Product

end
-- ==== Proof.AttnOD.lean ====
/- The gradient of the attention output projection in its input: the result array of the kernel is the reference's product. -/
module

public import proofs.«01_k».proof.Defs
public import proofs.«01_k».proof.Proof.Gen.KernelAttnODIdeal.Value
public import proofs.«01_k».proof.Proof.Gen.ReferenceAttnODIdeal.Run
public import proofs.«01_k».proof.Proof.Gen.ReferenceAttnODIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelAttnODIdeal.Product

open Cert.KernelAttnODIdeal Cert.KernelAttnODIdeal.Gen

variable (m : (ℓ : Loc nD τ sig) → Buf (Elt Ideal) ℓ)

/-- The block index of every window at every grid point. -/
theorem idx : ∀ t : Fin cfg0.N, win0_0.index t = ![t.val, 0]
    ∧ win0_1.index t = ![0, 0]
    ∧ win0_2.index t = ![t.val, 0] :=
  (by decide +kernel : ∀ t : Fin grid0.N, _)

/-- What the body stores at an index of the block is the reference's result at that index's place. -/
theorem point (c : Dev nD) (t : Fin cfg0.N) (y : S1024x1024.Idx) :
    k0_pay3 (F := Ideal) (k0_pay2 (F := Ideal) (k0_pay1 (F := Ideal)) (iblk m c 0 t) (iblk m c 1 t)) y
    = Cert.ReferenceAttnODIdeal.Read.val_main_v4 (F := Ideal) (m ((c : Thread nD τ).loc main_arg0)) (m ((c : Thread nD τ).loc main_arg1)) (((cfg0.win 2).blk t).view.emb y) := by
  pointwise [k0_pay1, k0_pay2, k0_pay3, Cert.ReferenceAttnODIdeal.Read.val_main_cst, Cert.ReferenceAttnODIdeal.Read.val_main_v0, Cert.ReferenceAttnODIdeal.Read.val_main_v1, Cert.ReferenceAttnODIdeal.Read.val_main_v2, Cert.ReferenceAttnODIdeal.Read.val_main_v3, Cert.ReferenceAttnODIdeal.Read.val_main_v4]
  blk_point [iblk, V, idx t]

/-- The array the kernel leaves is the reference's term of the arguments. -/
theorem final (c : Dev nD) : (dats m 0 c).arrAt 2 (cfgs 0).N
    = Cert.ReferenceAttnODIdeal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold Gen.outsAt0
  frame_out
  exact point m c t y

/-- The two programs end with the same array from the same arguments. -/
theorem algebraic : Cert.algebraic_KernelAttnODIdeal_ReferenceAttnODIdeal := by
  pair_intro
  · run_from Cert.KernelAttnODIdeal.Gen.run_main m g
  · run_from Cert.ReferenceAttnODIdeal.Value.run m' g'
    exact (Cert.ReferenceAttnODIdeal.Read.val_main_v4_eq _ _).trans (final m c).symm

end Cert.KernelAttnODIdeal.Product

end
-- ==== Proof.AttnQW.lean ====
/- The gradient of the query projection in its weight, the layer's input normalised in the same pass: the result array of the kernel is the reference's product. -/
module

public import proofs.«01_k».proof.Defs
public import proofs.«01_k».proof.Proof.Gen.KernelAttnQWIdeal.Value
public import proofs.«01_k».proof.Proof.Gen.ReferenceAttnQWIdeal.Run
public import proofs.«01_k».proof.Proof.Gen.ReferenceAttnQWIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelAttnQWIdeal.Product

open Cert.KernelAttnQWIdeal Cert.KernelAttnQWIdeal.Gen

variable (m : (ℓ : Loc nD τ sig) → Buf (Elt Ideal) ℓ)

/-- The zero fill is zero at every index. -/
theorem zero_at (j : S1024x1024.Idx) : k0_pay1 (F := Ideal) j = 0 := by
  pointwise [k0_pay1]

/-- One step of the accumulation: what was there plus the block's product. -/
theorem step_at (xh : FVec Ideal S1024x1024 .f32) (nw : FVec Ideal S1x1024 .f32) (acc : FVec Ideal S1024x1024 .f32) (xy : FVec Ideal S1024x1024 .bf16)
    (j : S1024x1024.Idx) :
    k0_pay2 (F := Ideal) xh nw acc xy j = acc j + ∑ k : Fin 1024, (xh (ix2 k (j 0)) * Ideal.rsqrt (Ideal.div (∑ l : Fin 1024, xh (ix2 k l) * xh (ix2 k l)) (Ideal.ofBits .f32 0x44800000#32) + Ideal.ofBits .f32 0x358637BD#32) * nw (ix2 0 (j 0))) *
      xy (ix2 k (j 1)) := by
  pointwise [k0_pay2]

/-- The reference's result at an index. -/
theorem ref_at (a0 : FVec Ideal Cert.ReferenceAttnQWIdeal.S4096x1024 .f32) (a1 : FVec Ideal Cert.ReferenceAttnQWIdeal.S4096x1024 .bf16)
    (a2 : FVec Ideal Cert.ReferenceAttnQWIdeal.S1024 .f32) (f : Fin 1024) (l2 : Fin 1024) :
    Cert.ReferenceAttnQWIdeal.Read.val_main_v18 (F := Ideal) a0 a1 a2 (ix2 f l2) = ∑ k : Fin 4096, (a0 (ix2 k f) * Ideal.rsqrt (Ideal.div (∑ l : Fin 1024, a0 (ix2 k l) * a0 (ix2 k l)) (Ideal.ofBits .f32 0x44800000#32) + Ideal.ofBits .f32 0x358637BD#32) * a2 (ix1 f)) *
      a1 (ix2 k l2) := by
  pointwise [Cert.ReferenceAttnQWIdeal.Read.val_main_v0, Cert.ReferenceAttnQWIdeal.Read.val_main_cst, Cert.ReferenceAttnQWIdeal.Read.val_main_v1, Cert.ReferenceAttnQWIdeal.Read.val_main_v2, Cert.ReferenceAttnQWIdeal.Read.val_main_cst_0, Cert.ReferenceAttnQWIdeal.Read.val_main_v3, Cert.ReferenceAttnQWIdeal.Read.val_main_v4, Cert.ReferenceAttnQWIdeal.Read.val_main_cst_1, Cert.ReferenceAttnQWIdeal.Read.val_main_v5, Cert.ReferenceAttnQWIdeal.Read.val_main_v6, Cert.ReferenceAttnQWIdeal.Read.val_main_v7, Cert.ReferenceAttnQWIdeal.Read.val_main_v8, Cert.ReferenceAttnQWIdeal.Read.val_main_v9, Cert.ReferenceAttnQWIdeal.Read.val_main_v10, Cert.ReferenceAttnQWIdeal.Read.val_main_v11, Cert.ReferenceAttnQWIdeal.Read.val_main_v12, Cert.ReferenceAttnQWIdeal.Read.val_main_cst_2, Cert.ReferenceAttnQWIdeal.Read.val_main_v13, Cert.ReferenceAttnQWIdeal.Read.val_main_v14, Cert.ReferenceAttnQWIdeal.Read.val_main_v15, Cert.ReferenceAttnQWIdeal.Read.val_main_v16, Cert.ReferenceAttnQWIdeal.Read.val_main_v17, Cert.ReferenceAttnQWIdeal.Read.val_main_v18]
  all_goals exact Finset.sum_congr rfl fun k _ => mul_comm _ _

/-- The block index of every window at every grid point. -/
theorem idx : ∀ t : Fin cfg0.N, win0_0.index t = ![t.val % 4, 0]
    ∧ win0_1.index t = ![t.val % 4, t.val / 4]
    ∧ win0_2.index t = ![0, 0]
    ∧ win0_3.index t = ![0, t.val / 4] ∧ t.val / 4 < 1 :=
  (by decide +kernel : ∀ t : Fin grid0.N, _)

/-- The product of the blocks at one grid point, at an index of the accumulator. -/
def part (c : Dev nD) (p : Fin cfg0.N) (j : S1024x1024.Idx) : EReal :=
  ∑ k : Fin 1024, ((show FVec Ideal S1024x1024 .f32 from iblk m c 0 p) (ix2 k (j 0)) * Ideal.rsqrt (Ideal.div (∑ l : Fin 1024, (show FVec Ideal S1024x1024 .f32 from iblk m c 0 p) (ix2 k l) * (show FVec Ideal S1024x1024 .f32 from iblk m c 0 p) (ix2 k l)) (Ideal.ofBits .f32 0x44800000#32) + Ideal.ofBits .f32 0x358637BD#32) * (show FVec Ideal S1x1024 .f32 from iblk m c 2 p) (ix2 0 (j 0))) *
      (show FVec Ideal S1024x1024 .bf16 from iblk m c 1 p) (ix2 k (j 1))

/-- The scratch after the last point of a run is the sum of the run's block products. -/
theorem scratch (c : Dev nD) (t : Fin cfg0.N) (h : t.val % 4 = 3) (y : S1024x1024.Idx) :
    (outsAt0 m c t.val t.isLt).2 y = ∑ s : Fin 4, part m c ⟨4 * (t.val / 4) + s.val, Pipeline.run_point_lt_of_flush t h s⟩ y := by
  rw [Pipeline.eq_sum_fin_of_reset_step_apply_of_flush (fun n h => (outsAt0 m c n h).2) 4 (fun _ => 0)
    (fun p j => part m c p j)
    (fun t h j => by
      have h1 : ¬t.val % 4 = 3 := by omega
      rw [outsAt0_A m c t h h1]; frame_out; rw [step_at, zero_at]; rfl)
    (fun t h j => by
      by_cases h1 : t.val % 4 = 3
      · rw [outsAt0_C m c t h h1]; frame_out; rw [read_unread_whole, step_at]; try rfl
      · rw [outsAt0_B m c t h h1]; frame_out; rw [read_unread_whole, step_at]; try rfl)
    t h y, zero_add]

/-- The array the kernel leaves is the reference's term of the arguments. -/
theorem final (c : Dev nD) : (dats m 0 c).arrAt 3 (cfgs 0).N
    = Cert.ReferenceAttnQWIdeal.Read.val_main_v18 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have h3 := (flush0_3 t).mp hf
  have h0 : ¬t.val % 4 = 0 := by omega
  blk_simp
  rw [after0_3, outsAt0_C m c t h0 h3]
  frame_out
  refine Eq.trans ?_ ((congrArg _ (eq_ix2 _)).trans (ref_at _ _ _ _ _)).symm
  have hs := scratch m c t h3 y
  rw [outsAt0_C m c t h0 h3] at hs
  revert hs
  frame_out
  intro hs
  refine Eq.trans (show _ = _ from ?_) (hs.trans ?_)
  · pointwise [k0_pay3]
  · unfold part
    refine Fin.sum_mul_add_congr fun s k hl => ?_
    blk_point [iblk, V, idx t, idx ⟨_, Pipeline.run_point_lt_of_flush t h3 s⟩]

/-- The two programs end with the same array from the same arguments. -/
theorem algebraic : Cert.algebraic_KernelAttnQWIdeal_ReferenceAttnQWIdeal := by
  pair_intro
  · run_from Cert.KernelAttnQWIdeal.Gen.run_main m g
  · run_from Cert.ReferenceAttnQWIdeal.Value.run m' g'
    exact (Cert.ReferenceAttnQWIdeal.Read.val_main_v18_eq _ _ _).trans (final m c).symm

end Cert.KernelAttnQWIdeal.Product

end
-- ==== Proof.AttnQD.lean ====
/- The cotangent of the attention input through the queries: the two result arrays of the kernel are the reference's. -/
module

public import proofs.«01_k».proof.Proof.RowNorm
public import proofs.«01_k».proof.Defs
public import proofs.«01_k».proof.Proof.Gen.KernelAttnQDIdeal.Value
public import proofs.«01_k».proof.Proof.Gen.ReferenceAttnQDIdeal.Run
public import proofs.«01_k».proof.Proof.Gen.ReferenceAttnQDIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelAttnQDIdeal.Product

open Cert.KernelAttnQDIdeal Cert.KernelAttnQDIdeal.Gen

/-- The zero fill is zero at every index. -/
theorem zero_at (j : S1024x1024.Idx) : k0_pay1 (F := Ideal) j = 0 := by
  pointwise [k0_pay1]

/-- One step of the accumulation: what was there plus the block's product. -/
theorem step_at (acc : FVec Ideal S1024x1024 .f32) (x0 : FVec Ideal S1024x1024 .bf16) (x1 : FVec Ideal S1024x1024 .bf16) (j : S1024x1024.Idx) :
    k0_pay2 (F := Ideal) acc x0 x1 j = acc j + ∑ k : Fin 1024, x0 (ix2 (j 0) k) * x1 (ix2 (j 1) k) := by
  pointwise [k0_pay2]

/-- The stored rows at an index. -/
theorem rows_at (du h : FVec Ideal S1024x1024 .f32) (w : FVec Ideal S1x1024 .f32) (dh : FVec Ideal S1024x1024 .f32) (r l : Fin 1024) :
    k0_pay6 (F := Ideal) du h w dh (ix2 r l)
      = dh (ix2 r l) + Cert.RowNorm.grad (fun x => h (ix2 r x)) (fun x => du (ix2 r x) * w (ix2 0 x)) l := by
  pointwise [k0_pay6, k0_pay5, k0_pay4]
  rfl

/-- The column sums of one block at an index. -/
theorem cols_at (du h : FVec Ideal S1024x1024 .f32) (l : Fin 1024) :
    k0_pay7 (F := Ideal) du h (ix2 0 l)
      = ∑ r : Fin 1024, du (ix2 r l) * (h (ix2 r l) * Ideal.rsqrt (Cert.RowNorm.ms fun x => h (ix2 r x))) := by
  pointwise [k0_pay7, k0_pay5, k0_pay4]
  rfl

/-- The addition of one block's column sums at an index. -/
theorem add_at (a b : FVec Ideal S1x1024 .f32) (l : Fin 1024) :
    k0_pay3 (F := Ideal) a b (ix2 0 l) = b (ix2 0 l) + a (ix2 0 l) := by
  pointwise [k0_pay3]

section
open Cert.ReferenceAttnQDIdeal.Read

/-- The product of the reference at an index. -/
def du (a0 : FVec Ideal Cert.ReferenceAttnQDIdeal.S4096x1024 .bf16) (a1 : FVec Ideal Cert.ReferenceAttnQDIdeal.S1024x1024 .bf16) (r : Fin 4096) (l : Fin 1024) : EReal :=
  ∑ k : Fin 1024, a0 (ix2 r k) * a1 (ix2 l k)

/-- The reference's product at an index. -/
theorem prod_at (a0 : FVec Ideal Cert.ReferenceAttnQDIdeal.S4096x1024 .bf16) (a1 : FVec Ideal Cert.ReferenceAttnQDIdeal.S1024x1024 .bf16) (r : Fin 4096) (l : Fin 1024) :
    val_main_v4 (F := Ideal) a0 a1 (ix2 r l) = du a0 a1 r l := by
  unfold du
  pointwise [val_main_cst, val_main_v0, val_main_v1, val_main_v2, val_main_v3, val_main_v4]

/-- The reference's rows at an index. -/
theorem ref_rows (a0 : FVec Ideal Cert.ReferenceAttnQDIdeal.S4096x1024 .bf16) (a1 : FVec Ideal Cert.ReferenceAttnQDIdeal.S1024x1024 .bf16)
    (a2 : FVec Ideal Cert.ReferenceAttnQDIdeal.S4096x1024 .f32) (a3 : FVec Ideal Cert.ReferenceAttnQDIdeal.S1024 .f32) (a4 : FVec Ideal Cert.ReferenceAttnQDIdeal.S4096x1024 .f32) (r : Fin 4096) (l : Fin 1024) :
    val_main_v41 (F := Ideal) a0 a1 a2 a3 a4 (ix2 r l)
      = a4 (ix2 r l) + Cert.RowNorm.grad (fun x => a2 (ix2 r x)) (fun x => du a0 a1 r x * a3 (ix1 x)) l := by
  rw [Cert.RowNorm.grad_eq]
  pointwise [val_main_cst, val_main_v0, val_main_v1, val_main_v2, val_main_v3, val_main_v5, val_main_cst_0, val_main_v6, val_main_v7, val_main_cst_1, val_main_v8, val_main_v9, val_main_cst_2, val_main_v10, val_main_v11, val_main_v12, val_main_v13, val_main_cst_3, val_main_v14, val_main_v15, val_main_v16, val_main_v17, val_main_v18, val_main_v19, val_main_v20, val_main_v21, val_main_cst_4, val_main_v22, val_main_v23, val_main_v24, val_main_v25, val_main_cst_5, val_main_v26, val_main_v27, val_main_cst_6, val_main_v28, val_main_v29, val_main_v30, val_main_v31, val_main_v32, val_main_cst_7, val_main_v33, val_main_v34, val_main_cst_8, val_main_v35, val_main_v36, val_main_v37, val_main_v38, val_main_v39, val_main_v40, val_main_v41, val_main_v42]
  simp only [prod_at, Fin.sum_univ_one]
  rfl

/-- The reference's column sums at an index. -/
theorem ref_cols (a0 : FVec Ideal Cert.ReferenceAttnQDIdeal.S4096x1024 .bf16) (a1 : FVec Ideal Cert.ReferenceAttnQDIdeal.S1024x1024 .bf16)
    (a2 : FVec Ideal Cert.ReferenceAttnQDIdeal.S4096x1024 .f32) (l : Fin 1024) :
    val_main_v42 (F := Ideal) a0 a1 a2 (ix2 0 l)
      = ∑ r : Fin 4096, du a0 a1 r l * (a2 (ix2 r l) * Ideal.rsqrt (Cert.RowNorm.ms fun x => a2 (ix2 r x))) := by
  pointwise [val_main_cst, val_main_v0, val_main_v1, val_main_v2, val_main_v3, val_main_v5, val_main_cst_0, val_main_v6, val_main_v7, val_main_cst_1, val_main_v8, val_main_v9, val_main_cst_2, val_main_v10, val_main_v11, val_main_v12, val_main_v13, val_main_cst_3, val_main_v14, val_main_v15, val_main_v16, val_main_v17, val_main_v18, val_main_v19, val_main_v20, val_main_v21, val_main_cst_4, val_main_v22, val_main_v23, val_main_v24, val_main_v25, val_main_cst_5, val_main_v26, val_main_v27, val_main_cst_6, val_main_v28, val_main_v29, val_main_v30, val_main_v31, val_main_v32, val_main_cst_7, val_main_v33, val_main_v34, val_main_cst_8, val_main_v35, val_main_v36, val_main_v37, val_main_v38, val_main_v39, val_main_v40, val_main_v41, val_main_v42]
  simp only [prod_at, Fin.sum_univ_one]
  exact Finset.sum_congr rfl fun r _ => mul_comm _ _
end

variable (m : (ℓ : Loc nD τ sig) → Buf (Elt Ideal) ℓ)

/-- The block index of every window at every grid point. -/
theorem idx : ∀ t : Fin cfg0.N, win0_0.index t = ![t.val / 1, 0]
    ∧ win0_1.index t = ![0, 0]
    ∧ win0_2.index t = ![t.val / 1, 0]
    ∧ win0_3.index t = ![0, 0]
    ∧ win0_4.index t = ![t.val / 1, 0]
    ∧ win0_5.index t = ![t.val / 1, 0]
    ∧ win0_6.index t = ![0, 0] ∧ t.val / 1 < 4 :=
  (by decide +kernel : ∀ t : Fin grid0.N, _)

/-- The product of the blocks at one grid point, at an index of the accumulator. -/
def part (c : Dev nD) (p : Fin cfg0.N) (j : S1024x1024.Idx) : EReal :=
  ∑ k : Fin 1024, (show FVec Ideal S1024x1024 .bf16 from iblk m c 0 p) (ix2 (j 0) k) * (show FVec Ideal S1024x1024 .bf16 from iblk m c 1 p) (ix2 (j 1) k)

/-- The product of one point's blocks. -/
def acc (c : Dev nD) (t : Fin cfg0.N) : FVec Ideal S1024x1024 .f32 := k0_pay2 (F := Ideal) (k0_pay1 (F := Ideal)) (iblk m c 0 t) (iblk m c 1 t)

/-- A point's product is the reference's product at the block's rows. -/
theorem scratch_prod (c : Dev nD) (t : Fin cfg0.N) (r l : Fin 1024) :
    acc m c t (ix2 r l) = du (m ((c : Thread nD τ).loc main_arg0)) (m ((c : Thread nD τ).loc main_arg1))
      ⟨t.val / 1 * 1024 + r.val, by have := (idx t).2.2.2.2.2.2.2; omega⟩ l := by
  unfold acc
  rw [step_at, zero_at, zero_add]
  unfold du
  refine Finset.sum_congr rfl fun k _ => ?_
  blk_point [iblk, V, idx t]

/-- The rows a point stores. -/
theorem rows_last (c : Dev nD) (t : Fin cfg0.N) (y : S1024x1024.Idx) :
    (outsAt0 m c t.val t.isLt).1 y = k0_pay6 (F := Ideal) (acc m c t) (iblk m c 2 t) (iblk m c 3 t) (iblk m c 4 t) y := by
  have hN : cfg0.N = 4 := N_0
  have hlt := t.isLt
  by_cases h2 : t.val % 4 = 0
  · rw [outsAt0_A m c t h2 (by omega)]; unfold acc; frame_out
  · rw [outsAt0_B m c t h2 (by omega)]; unfold acc; frame_out

/-- The place of a block of rows in the array of rows. -/
theorem out_at (t : Fin cfg0.N) (r l : Fin 1024) (A : FVec Ideal Cert.ReferenceAttnQDIdeal.S4096x1024 .f32) :
    A ((win0_5.blk t).view.emb (ix2 r l)) = A (ix2 ⟨t.val / 1 * 1024 + r.val, by have := (idx t).2.2.2.2.2.2.2; omega⟩ l) := by
  have h := idx t
  blk_point [idx t]

/-- The block of the normalised input. -/
theorem in_at (c : Dev nD) (t : Fin cfg0.N) (r l : Fin 1024) :
    iblk m c 2 t (ix2 r l) = m ((c : Thread nD τ).loc main_arg2) (ix2 ⟨t.val / 1 * 1024 + r.val, by have := (idx t).2.2.2.2.2.2.2; omega⟩ l) := by
  blk_point [iblk, V, idx t]

/-- The block of the norm's weight. -/
theorem weight_at (c : Dev nD) (t : Fin cfg0.N) (l : Fin 1024) :
    iblk m c 3 t (ix2 0 l) = m ((c : Thread nD τ).loc main_arg3) (ix1 l) := by
  blk_point [iblk, V, idx t]

/-- The block of the cotangent that is added. -/
theorem add_in_at (c : Dev nD) (t : Fin cfg0.N) (r l : Fin 1024) :
    iblk m c 4 t (ix2 r l) = m ((c : Thread nD τ).loc main_arg4) (ix2 ⟨t.val / 1 * 1024 + r.val, by have := (idx t).2.2.2.2.2.2.2; omega⟩ l) := by
  blk_point [iblk, V, idx t]

/-- The array of rows the kernel leaves is the reference's term of the arguments. -/
theorem final_rows (c : Dev nD) : (dats m 0 c).arrAt 5 (cfgs 0).N
    = Cert.ReferenceAttnQDIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  obtain ⟨r, l, rfl⟩ : ∃ (r l : Fin 1024), y = ix2 r l := ⟨y 0, y 1, by idx_ext⟩
  refine Eq.trans ?_ ((out_at t r l _).trans (ref_rows _ _ _ _ _ _ _)).symm
  refine (rows_last m c t (ix2 r l)).trans ?_
  rw [rows_at, add_in_at m c t r l]
  refine congrArg (fun a : EReal => _ + a) ?_
  refine congrArg₂ (fun x g => Cert.RowNorm.grad x g l) (funext fun x => in_at m c t r x) (funext fun x => ?_)
  rw [scratch_prod m c t r x, weight_at m c t x]

/-- The column sums of one block of the reference's rows. -/
def colpart (c : Dev nD) (q : Fin 4) (l : Fin 1024) : EReal :=
  ∑ r : Fin 1024, du (m ((c : Thread nD τ).loc main_arg0)) (m ((c : Thread nD τ).loc main_arg1)) ⟨q.val * 1024 + r.val, by omega⟩ l
    * ((show FVec Ideal S4096x1024 .f32 from m ((c : Thread nD τ).loc main_arg2)) (ix2 ⟨q.val * 1024 + r.val, by omega⟩ l)
      * Ideal.rsqrt (Cert.RowNorm.ms fun x => (show FVec Ideal S4096x1024 .f32 from m ((c : Thread nD τ).loc main_arg2)) (ix2 ⟨q.val * 1024 + r.val, by omega⟩ x)))

/-- What a point adds to the column sums. -/
theorem cols_block (c : Dev nD) (t : Fin cfg0.N) (l : Fin 1024) :
    k0_pay7 (F := Ideal) (acc m c t) (iblk m c 2 t) (ix2 0 l) = colpart m c ⟨t.val / 1, (idx t).2.2.2.2.2.2.2⟩ l := by
  rw [cols_at]
  unfold colpart
  refine Finset.sum_congr rfl fun r _ => ?_
  exact congrArg₂ (fun a b : EReal => a * b) (scratch_prod m c t r l)
    (congrArg₂ (fun a b : EReal => a * Ideal.rsqrt b) (in_at m c t r l) (congrArg Cert.RowNorm.ms (funext fun x => in_at m c t r x)))

/-- The column sums after the first point. -/
theorem cols_first (c : Dev nD) (t : Fin cfg0.N) (h : t.val % 4 = 0) (h2 : t.val < 1) (l : Fin 1024) :
    (outsAt0 m c t.val t.isLt).2 (ix2 0 l) = colpart m c ⟨t.val / 1, (idx t).2.2.2.2.2.2.2⟩ l := by
  refine Eq.trans ?_ (cols_block m c t l)
  rw [outsAt0_A m c t h (by omega)]; unfold acc; frame_out

/-- The column sums after a later point. -/
theorem cols_later (c : Dev nD) (t : Fin cfg0.N) (h2 : ¬t.val < 1) (l : Fin 1024) :
    (outsAt0 m c t.val t.isLt).2 (ix2 0 l)
      = (outsAt0 m c (t.val - 1) (Nat.lt_of_le_of_lt (Nat.sub_le _ _) t.isLt)).2 (ix2 0 l) + colpart m c ⟨t.val / 1, (idx t).2.2.2.2.2.2.2⟩ l := by
  have hN : cfg0.N = 4 := N_0
  have hlt := t.isLt
  rw [← cols_block m c t l]
  rw [outsAt0_B m c t (by omega) (by omega)]; unfold acc; frame_out
  exact add_at _ _ l

/-- One more run of the sweep adds its block's column sums. -/
theorem cols_run (c : Dev nD) (q : ℕ) (hq : q + 1 < 4) (l : Fin 1024) (h7 : 1 * q + 1 < cfg0.N) (h3 : 1 * q + 0 < cfg0.N) :
    (outsAt0 m c (1 * q + 1) h7).2 (ix2 0 l) = (outsAt0 m c (1 * q + 0) h3).2 (ix2 0 l) + colpart m c ⟨q + 1, hq⟩ l := by
  have eL := cols_later m c ⟨1 * q + 1, h7⟩ (by show ¬1 * q + 1 < 1; omega) l
  have ec : colpart m c ⟨(1 * q + 1) / 1, by omega⟩ l = colpart m c ⟨q + 1, hq⟩ l :=
    congrArg (fun a => colpart m c a l) (Fin.ext (by show (1 * q + 1) / 1 = q + 1; omega))
  exact eL.trans (congrArg₂ (fun a b : EReal => a + b) rfl ec)

/-- A sequence that starts with the first part and gains one part at each of three later places. -/
theorem chain (F : ℕ → EReal) (p : Fin 4 → EReal) (h0 : F 0 = p 0) (h1 : F 1 = F 0 + p 1) (h2 : F 2 = F 1 + p 2) (h3 : F 3 = F 2 + p 3) :
    F 3 = ∑ q : Fin 4, p q := by
  rw [Fin.sum_univ_four, h3, h2, h1, h0]

/-- The column sums after a point, and zero where there is no point. -/
def colsAt (c : Dev nD) (l : Fin 1024) (n : ℕ) : EReal := if h : n < cfg0.N then (outsAt0 m c n h).2 (ix2 0 l) else 0

/-- At a point they are what the window holds. -/
theorem colsAt_eq (c : Dev nD) (l : Fin 1024) (n : ℕ) (h : n < cfg0.N) : colsAt m c l n = (outsAt0 m c n h).2 (ix2 0 l) := dif_pos h

/-- One more run of the sweep adds its block's column sums. -/
theorem colsAt_run (c : Dev nD) (q : ℕ) (hq : q + 1 < 4) (l : Fin 1024) : colsAt m c l (1 * q + 1) = colsAt m c l (1 * q + 0) + colpart m c ⟨q + 1, hq⟩ l := by
  have hN : cfg0.N = 4 := N_0
  rw [colsAt_eq m c l _ (by omega), colsAt_eq m c l _ (by omega)]
  exact cols_run m c q hq l _ _

/-- The column sums after the last point of the first run are the first part. -/
theorem cols_third (c : Dev nD) (l : Fin 1024) (t : Fin cfg0.N) (h : t.val = 0) : (outsAt0 m c t.val t.isLt).2 (ix2 0 l) = colpart m c 0 l :=
  (cols_first m c t (by omega) (by omega) l).trans (congrArg (fun a => colpart m c a l) (Fin.ext (by show t.val / 1 = 0; omega)))

/-- The column sums of the first run. -/
theorem colsAt_first (c : Dev nD) (l : Fin 1024) : colsAt m c l 0 = colpart m c 0 l := by
  have hN : cfg0.N = 4 := N_0
  obtain ⟨t, ht⟩ : ∃ t : Fin cfg0.N, t.val = 0 := ⟨⟨0, by omega⟩, rfl⟩
  exact (congrArg (colsAt m c l) ht).symm.trans ((colsAt_eq m c l t.val t.isLt).trans (cols_third m c l t ht))

/-- The column sums after the last point of all. -/
theorem cols_all (c : Dev nD) (l : Fin 1024) (t : Fin cfg0.N) (h : t.val = 3) :
    (outsAt0 m c t.val t.isLt).2 (ix2 0 l) = ∑ q : Fin 4, colpart m c q l := by
  rw [← colsAt_eq m c l t.val t.isLt, h]
  exact chain (colsAt m c l) (fun q => colpart m c q l) (colsAt_first m c l) (colsAt_run m c 0 (by omega) l) (colsAt_run m c 1 (by omega) l) (colsAt_run m c 2 (by omega) l)

/-- The place of the column sums in their array. -/
theorem out_cols_at (t : Fin cfg0.N) (l : Fin 1024) (A : FVec Ideal Cert.ReferenceAttnQDIdeal.S1x1024 .f32) :
    A ((win0_6.blk t).view.emb (ix2 0 l)) = A (ix2 0 l) := by
  have h := idx t
  blk_point [idx t]

/-- The column sums the kernel leaves are the reference's term of the arguments. -/
theorem final_cols (c : Dev nD) : (dats m 0 c).arrAt 6 (cfgs 0).N
    = Cert.ReferenceAttnQDIdeal.Read.val_main_v42 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  have h3 := (flush0_6 t).mp hf
  blk_simp
  rw [after0_6]
  obtain ⟨l, rfl⟩ : ∃ l : Fin 1024, y = ix2 0 l := ⟨y 1, by idx_ext⟩
  have ht : t.val = 3 := by
    have h := (idx t).2.2.2.2.2.2.2
    omega
  refine (cols_all m c l t ht).trans ?_
  refine Eq.trans ?_ ((out_cols_at t l _).trans (ref_cols _ _ _ l)).symm
  unfold colpart
  exact Fin.sum_mul_add_congr fun s k hl => rfl

/-- The two programs end with the same arrays from the same arguments. -/
theorem algebraic : Cert.algebraic_KernelAttnQDIdeal_ReferenceAttnQDIdeal := by
  pair_intro
  · run_from Cert.KernelAttnQDIdeal.Gen.run_main m g
  · run_from Cert.ReferenceAttnQDIdeal.Value.run m' g'
    · refine (Cert.ReferenceAttnQDIdeal.Read.val_main_v41_eq m' c).trans ?_
      rw [(hagree c).1, (hagree c).2.1, (hagree c).2.2.1, (hagree c).2.2.2.1, (hagree c).2.2.2.2]
      exact (final_rows m c).symm
    · exact (Cert.ReferenceAttnQDIdeal.Read.val_main_v42_eq _ _ _).trans (final_cols m c).symm

end Cert.KernelAttnQDIdeal.Product

end
-- ==== Proof.AttnKVW.lean ====
/- The gradient of the key and value projection in its weight, the layer's input normalised in the same pass: the result array of the kernel is the reference's product. -/
module

public import proofs.«01_k».proof.Defs
public import proofs.«01_k».proof.Proof.Gen.KernelAttnKVWIdeal.Value
public import proofs.«01_k».proof.Proof.Gen.ReferenceAttnKVWIdeal.Run
public import proofs.«01_k».proof.Proof.Gen.ReferenceAttnKVWIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelAttnKVWIdeal.Product

open Cert.KernelAttnKVWIdeal Cert.KernelAttnKVWIdeal.Gen

variable (m : (ℓ : Loc nD τ sig) → Buf (Elt Ideal) ℓ)

/-- The zero fill is zero at every index. -/
theorem zero_at (j : S1024x1024.Idx) : k0_pay1 (F := Ideal) j = 0 := by
  pointwise [k0_pay1]

/-- One step of the accumulation: what was there plus the block's product. -/
theorem step_at (xh : FVec Ideal S1024x1024 .f32) (nw : FVec Ideal S1x1024 .f32) (acc : FVec Ideal S1024x1024 .f32) (xy : FVec Ideal S1024x1024 .bf16)
    (j : S1024x1024.Idx) :
    k0_pay2 (F := Ideal) xh nw acc xy j = acc j + ∑ k : Fin 1024, (xh (ix2 k (j 0)) * Ideal.rsqrt (Ideal.div (∑ l : Fin 1024, xh (ix2 k l) * xh (ix2 k l)) (Ideal.ofBits .f32 0x44800000#32) + Ideal.ofBits .f32 0x358637BD#32) * nw (ix2 0 (j 0))) *
      xy (ix2 k (j 1)) := by
  pointwise [k0_pay2]

/-- The reference's result at an index. -/
theorem ref_at (a0 : FVec Ideal Cert.ReferenceAttnKVWIdeal.S4096x1024 .f32) (a1 : FVec Ideal Cert.ReferenceAttnKVWIdeal.S4096x2048 .bf16)
    (a2 : FVec Ideal Cert.ReferenceAttnKVWIdeal.S1024 .f32) (f : Fin 1024) (l2 : Fin 2048) :
    Cert.ReferenceAttnKVWIdeal.Read.val_main_v18 (F := Ideal) a0 a1 a2 (ix2 f l2) = ∑ k : Fin 4096, (a0 (ix2 k f) * Ideal.rsqrt (Ideal.div (∑ l : Fin 1024, a0 (ix2 k l) * a0 (ix2 k l)) (Ideal.ofBits .f32 0x44800000#32) + Ideal.ofBits .f32 0x358637BD#32) * a2 (ix1 f)) *
      a1 (ix2 k l2) := by
  pointwise [Cert.ReferenceAttnKVWIdeal.Read.val_main_v0, Cert.ReferenceAttnKVWIdeal.Read.val_main_cst, Cert.ReferenceAttnKVWIdeal.Read.val_main_v1, Cert.ReferenceAttnKVWIdeal.Read.val_main_v2, Cert.ReferenceAttnKVWIdeal.Read.val_main_cst_0, Cert.ReferenceAttnKVWIdeal.Read.val_main_v3, Cert.ReferenceAttnKVWIdeal.Read.val_main_v4, Cert.ReferenceAttnKVWIdeal.Read.val_main_cst_1, Cert.ReferenceAttnKVWIdeal.Read.val_main_v5, Cert.ReferenceAttnKVWIdeal.Read.val_main_v6, Cert.ReferenceAttnKVWIdeal.Read.val_main_v7, Cert.ReferenceAttnKVWIdeal.Read.val_main_v8, Cert.ReferenceAttnKVWIdeal.Read.val_main_v9, Cert.ReferenceAttnKVWIdeal.Read.val_main_v10, Cert.ReferenceAttnKVWIdeal.Read.val_main_v11, Cert.ReferenceAttnKVWIdeal.Read.val_main_v12, Cert.ReferenceAttnKVWIdeal.Read.val_main_cst_2, Cert.ReferenceAttnKVWIdeal.Read.val_main_v13, Cert.ReferenceAttnKVWIdeal.Read.val_main_v14, Cert.ReferenceAttnKVWIdeal.Read.val_main_v15, Cert.ReferenceAttnKVWIdeal.Read.val_main_v16, Cert.ReferenceAttnKVWIdeal.Read.val_main_v17, Cert.ReferenceAttnKVWIdeal.Read.val_main_v18]
  all_goals exact Finset.sum_congr rfl fun k _ => mul_comm _ _

/-- The block index of every window at every grid point. -/
theorem idx : ∀ t : Fin cfg0.N, win0_0.index t = ![t.val % 4, 0]
    ∧ win0_1.index t = ![t.val % 4, t.val / 4]
    ∧ win0_2.index t = ![0, 0]
    ∧ win0_3.index t = ![0, t.val / 4] ∧ t.val / 4 < 2 :=
  (by decide +kernel : ∀ t : Fin grid0.N, _)

/-- The product of the blocks at one grid point, at an index of the accumulator. -/
def part (c : Dev nD) (p : Fin cfg0.N) (j : S1024x1024.Idx) : EReal :=
  ∑ k : Fin 1024, ((show FVec Ideal S1024x1024 .f32 from iblk m c 0 p) (ix2 k (j 0)) * Ideal.rsqrt (Ideal.div (∑ l : Fin 1024, (show FVec Ideal S1024x1024 .f32 from iblk m c 0 p) (ix2 k l) * (show FVec Ideal S1024x1024 .f32 from iblk m c 0 p) (ix2 k l)) (Ideal.ofBits .f32 0x44800000#32) + Ideal.ofBits .f32 0x358637BD#32) * (show FVec Ideal S1x1024 .f32 from iblk m c 2 p) (ix2 0 (j 0))) *
      (show FVec Ideal S1024x1024 .bf16 from iblk m c 1 p) (ix2 k (j 1))

/-- The scratch after the last point of a run is the sum of the run's block products. -/
theorem scratch (c : Dev nD) (t : Fin cfg0.N) (h : t.val % 4 = 3) (y : S1024x1024.Idx) :
    (outsAt0 m c t.val t.isLt).2 y = ∑ s : Fin 4, part m c ⟨4 * (t.val / 4) + s.val, Pipeline.run_point_lt_of_flush t h s⟩ y := by
  rw [Pipeline.eq_sum_fin_of_reset_step_apply_of_flush (fun n h => (outsAt0 m c n h).2) 4 (fun _ => 0)
    (fun p j => part m c p j)
    (fun t h j => by
      have h1 : ¬t.val % 4 = 3 := by omega
      rw [outsAt0_A m c t h h1]; frame_out; rw [step_at, zero_at]; rfl)
    (fun t h j => by
      by_cases h1 : t.val % 4 = 3
      · rw [outsAt0_C m c t h h1]; frame_out; rw [read_unread_whole, step_at]; try rfl
      · rw [outsAt0_B m c t h h1]; frame_out; rw [read_unread_whole, step_at]; try rfl)
    t h y, zero_add]

/-- The array the kernel leaves is the reference's term of the arguments. -/
theorem final (c : Dev nD) : (dats m 0 c).arrAt 3 (cfgs 0).N
    = Cert.ReferenceAttnKVWIdeal.Read.val_main_v18 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have h3 := (flush0_3 t).mp hf
  have h0 : ¬t.val % 4 = 0 := by omega
  blk_simp
  rw [after0_3, outsAt0_C m c t h0 h3]
  frame_out
  refine Eq.trans ?_ ((congrArg _ (eq_ix2 _)).trans (ref_at _ _ _ _ _)).symm
  have hs := scratch m c t h3 y
  rw [outsAt0_C m c t h0 h3] at hs
  revert hs
  frame_out
  intro hs
  refine Eq.trans (show _ = _ from ?_) (hs.trans ?_)
  · pointwise [k0_pay3]
  · unfold part
    refine Fin.sum_mul_add_congr fun s k hl => ?_
    blk_point [iblk, V, idx t, idx ⟨_, Pipeline.run_point_lt_of_flush t h3 s⟩]

/-- The two programs end with the same array from the same arguments. -/
theorem algebraic : Cert.algebraic_KernelAttnKVWIdeal_ReferenceAttnKVWIdeal := by
  pair_intro
  · run_from Cert.KernelAttnKVWIdeal.Gen.run_main m g
  · run_from Cert.ReferenceAttnKVWIdeal.Value.run m' g'
    exact (Cert.ReferenceAttnKVWIdeal.Read.val_main_v18_eq _ _ _).trans (final m c).symm

end Cert.KernelAttnKVWIdeal.Product

end
-- ==== Proof.AttnKVD.lean ====
/- The cotangent of the attention input through the keys and values: the two result arrays of the kernel are the reference's. -/
module

public import proofs.«01_k».proof.Proof.RowNorm
public import proofs.«01_k».proof.Defs
public import proofs.«01_k».proof.Proof.Gen.KernelAttnKVDIdeal.Value
public import proofs.«01_k».proof.Proof.Gen.ReferenceAttnKVDIdeal.Run
public import proofs.«01_k».proof.Proof.Gen.ReferenceAttnKVDIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelAttnKVDIdeal.Product

open Cert.KernelAttnKVDIdeal Cert.KernelAttnKVDIdeal.Gen

/-- The zero fill is zero at every index. -/
theorem zero_at (j : S1024x1024.Idx) : k0_pay1 (F := Ideal) j = 0 := by
  pointwise [k0_pay1]

/-- One step of the accumulation: what was there plus the block's product. -/
theorem step_at (acc : FVec Ideal S1024x1024 .f32) (x0 : FVec Ideal S1024x1024 .bf16) (x1 : FVec Ideal S1024x1024 .bf16) (j : S1024x1024.Idx) :
    k0_pay2 (F := Ideal) acc x0 x1 j = acc j + ∑ k : Fin 1024, x0 (ix2 (j 0) k) * x1 (ix2 (j 1) k) := by
  pointwise [k0_pay2]

/-- The stored rows at an index. -/
theorem rows_at (du h : FVec Ideal S1024x1024 .f32) (w : FVec Ideal S1x1024 .f32) (dh : FVec Ideal S1024x1024 .f32) (r l : Fin 1024) :
    k0_pay6 (F := Ideal) du h w dh (ix2 r l)
      = dh (ix2 r l) + Cert.RowNorm.grad (fun x => h (ix2 r x)) (fun x => du (ix2 r x) * w (ix2 0 x)) l := by
  pointwise [k0_pay6, k0_pay5, k0_pay4]
  rfl

/-- The column sums of one block at an index. -/
theorem cols_at (du h : FVec Ideal S1024x1024 .f32) (l : Fin 1024) :
    k0_pay7 (F := Ideal) du h (ix2 0 l)
      = ∑ r : Fin 1024, du (ix2 r l) * (h (ix2 r l) * Ideal.rsqrt (Cert.RowNorm.ms fun x => h (ix2 r x))) := by
  pointwise [k0_pay7, k0_pay5, k0_pay4]
  rfl

/-- The addition of one block's column sums at an index. -/
theorem add_at (a b : FVec Ideal S1x1024 .f32) (l : Fin 1024) :
    k0_pay3 (F := Ideal) a b (ix2 0 l) = b (ix2 0 l) + a (ix2 0 l) := by
  pointwise [k0_pay3]

section
open Cert.ReferenceAttnKVDIdeal.Read

/-- The product of the reference at an index. -/
def du (a0 : FVec Ideal Cert.ReferenceAttnKVDIdeal.S4096x2048 .bf16) (a1 : FVec Ideal Cert.ReferenceAttnKVDIdeal.S1024x2048 .bf16) (r : Fin 4096) (l : Fin 1024) : EReal :=
  ∑ k : Fin 2048, a0 (ix2 r k) * a1 (ix2 l k)

/-- The reference's product at an index. -/
theorem prod_at (a0 : FVec Ideal Cert.ReferenceAttnKVDIdeal.S4096x2048 .bf16) (a1 : FVec Ideal Cert.ReferenceAttnKVDIdeal.S1024x2048 .bf16) (r : Fin 4096) (l : Fin 1024) :
    val_main_v4 (F := Ideal) a0 a1 (ix2 r l) = du a0 a1 r l := by
  unfold du
  pointwise [val_main_cst, val_main_v0, val_main_v1, val_main_v2, val_main_v3, val_main_v4]

/-- The reference's rows at an index. -/
theorem ref_rows (a0 : FVec Ideal Cert.ReferenceAttnKVDIdeal.S4096x2048 .bf16) (a1 : FVec Ideal Cert.ReferenceAttnKVDIdeal.S1024x2048 .bf16)
    (a2 : FVec Ideal Cert.ReferenceAttnKVDIdeal.S4096x1024 .f32) (a3 : FVec Ideal Cert.ReferenceAttnKVDIdeal.S1024 .f32) (a4 : FVec Ideal Cert.ReferenceAttnKVDIdeal.S4096x1024 .f32) (r : Fin 4096) (l : Fin 1024) :
    val_main_v41 (F := Ideal) a0 a1 a2 a3 a4 (ix2 r l)
      = a4 (ix2 r l) + Cert.RowNorm.grad (fun x => a2 (ix2 r x)) (fun x => du a0 a1 r x * a3 (ix1 x)) l := by
  rw [Cert.RowNorm.grad_eq]
  pointwise [val_main_cst, val_main_v0, val_main_v1, val_main_v2, val_main_v3, val_main_v5, val_main_cst_0, val_main_v6, val_main_v7, val_main_cst_1, val_main_v8, val_main_v9, val_main_cst_2, val_main_v10, val_main_v11, val_main_v12, val_main_v13, val_main_cst_3, val_main_v14, val_main_v15, val_main_v16, val_main_v17, val_main_v18, val_main_v19, val_main_v20, val_main_v21, val_main_cst_4, val_main_v22, val_main_v23, val_main_v24, val_main_v25, val_main_cst_5, val_main_v26, val_main_v27, val_main_cst_6, val_main_v28, val_main_v29, val_main_v30, val_main_v31, val_main_v32, val_main_cst_7, val_main_v33, val_main_v34, val_main_cst_8, val_main_v35, val_main_v36, val_main_v37, val_main_v38, val_main_v39, val_main_v40, val_main_v41, val_main_v42]
  simp only [prod_at, Fin.sum_univ_one]
  rfl

/-- The reference's column sums at an index. -/
theorem ref_cols (a0 : FVec Ideal Cert.ReferenceAttnKVDIdeal.S4096x2048 .bf16) (a1 : FVec Ideal Cert.ReferenceAttnKVDIdeal.S1024x2048 .bf16)
    (a2 : FVec Ideal Cert.ReferenceAttnKVDIdeal.S4096x1024 .f32) (l : Fin 1024) :
    val_main_v42 (F := Ideal) a0 a1 a2 (ix2 0 l)
      = ∑ r : Fin 4096, du a0 a1 r l * (a2 (ix2 r l) * Ideal.rsqrt (Cert.RowNorm.ms fun x => a2 (ix2 r x))) := by
  pointwise [val_main_cst, val_main_v0, val_main_v1, val_main_v2, val_main_v3, val_main_v5, val_main_cst_0, val_main_v6, val_main_v7, val_main_cst_1, val_main_v8, val_main_v9, val_main_cst_2, val_main_v10, val_main_v11, val_main_v12, val_main_v13, val_main_cst_3, val_main_v14, val_main_v15, val_main_v16, val_main_v17, val_main_v18, val_main_v19, val_main_v20, val_main_v21, val_main_cst_4, val_main_v22, val_main_v23, val_main_v24, val_main_v25, val_main_cst_5, val_main_v26, val_main_v27, val_main_cst_6, val_main_v28, val_main_v29, val_main_v30, val_main_v31, val_main_v32, val_main_cst_7, val_main_v33, val_main_v34, val_main_cst_8, val_main_v35, val_main_v36, val_main_v37, val_main_v38, val_main_v39, val_main_v40, val_main_v41, val_main_v42]
  simp only [prod_at, Fin.sum_univ_one]
  exact Finset.sum_congr rfl fun r _ => mul_comm _ _
end

variable (m : (ℓ : Loc nD τ sig) → Buf (Elt Ideal) ℓ)

/-- The block index of every window at every grid point. -/
theorem idx : ∀ t : Fin cfg0.N, win0_0.index t = ![t.val / 2, t.val % 2]
    ∧ win0_1.index t = ![0, t.val % 2]
    ∧ win0_2.index t = ![t.val / 2, 0]
    ∧ win0_3.index t = ![0, 0]
    ∧ win0_4.index t = ![t.val / 2, 0]
    ∧ win0_5.index t = ![t.val / 2, 0]
    ∧ win0_6.index t = ![0, 0] ∧ t.val / 2 < 4 :=
  (by decide +kernel : ∀ t : Fin grid0.N, _)

/-- The product of the blocks at one grid point, at an index of the accumulator. -/
def part (c : Dev nD) (p : Fin cfg0.N) (j : S1024x1024.Idx) : EReal :=
  ∑ k : Fin 1024, (show FVec Ideal S1024x1024 .bf16 from iblk m c 0 p) (ix2 (j 0) k) * (show FVec Ideal S1024x1024 .bf16 from iblk m c 1 p) (ix2 (j 1) k)

/-- The scratch after the last point of a run is the sum of the run's block products. -/
theorem scratch (c : Dev nD) (t : Fin cfg0.N) (h : t.val % 2 = 1) (y : S1024x1024.Idx) :
    (outsAt0 m c t.val t.isLt).2.2 y = ∑ s : Fin 2, part m c ⟨2 * (t.val / 2) + s.val, Pipeline.run_point_lt_of_flush t h s⟩ y := by
  rw [Pipeline.eq_sum_fin_of_reset_step_apply_of_flush (fun n h => (outsAt0 m c n h).2.2) 2 (fun _ => 0)
    (fun p j => part m c p j)
    (fun t h j => by
      have h1 : ¬t.val % 2 = 1 := by omega
      rw [outsAt0_A m c t h (by omega)]; frame_out; rw [step_at, zero_at]; rfl)
    (fun t h j => by
      have h1 : t.val % 2 = 1 := by omega
      · by_cases h2 : t.val < 2
        · rw [outsAt0_B m c t h h1 h2 (by omega)]; frame_out; rw [read_unread_whole, step_at]; try rfl
        · rw [outsAt0_C m c t h h1 h2 (by omega)]; frame_out; rw [read_unread_whole, step_at]; try rfl)
    t h y, zero_add]

/-- The scratch after the last point of a run is the reference's product at the block's rows. -/
theorem scratch_prod (c : Dev nD) (t : Fin cfg0.N) (h : t.val % 2 = 1) (r l : Fin 1024) :
    (outsAt0 m c t.val t.isLt).2.2 (ix2 r l) = du (m ((c : Thread nD τ).loc main_arg0)) (m ((c : Thread nD τ).loc main_arg1))
      ⟨t.val / 2 * 1024 + r.val, by have := (idx t).2.2.2.2.2.2.2; omega⟩ l := by
  rw [scratch m c t h]
  unfold part du
  refine Fin.sum_mul_add_congr fun s k hl => ?_
  blk_point [iblk, V, idx t, idx ⟨_, Pipeline.run_point_lt_of_flush t h s⟩]

/-- The rows the last point of a run stores. -/
theorem rows_last (c : Dev nD) (t : Fin cfg0.N) (h : t.val % 2 = 1) (y : S1024x1024.Idx) :
    (outsAt0 m c t.val t.isLt).1 y = k0_pay6 (F := Ideal) (outsAt0 m c t.val t.isLt).2.2 (iblk m c 2 t) (iblk m c 3 t) (iblk m c 4 t) y := by
  have h0 : ¬t.val % 2 = 0 := by omega
  by_cases h2 : t.val < 2
  · rw [outsAt0_B m c t h0 h h2 (by omega)]; frame_out
  · rw [outsAt0_C m c t h0 h h2 (by omega)]; frame_out

/-- The place of a block of rows in the array of rows. -/
theorem out_at (t : Fin cfg0.N) (r l : Fin 1024) (A : FVec Ideal Cert.ReferenceAttnKVDIdeal.S4096x1024 .f32) :
    A ((win0_5.blk t).view.emb (ix2 r l)) = A (ix2 ⟨t.val / 2 * 1024 + r.val, by have := (idx t).2.2.2.2.2.2.2; omega⟩ l) := by
  have h := idx t
  blk_point [idx t]

/-- The block of the normalised input. -/
theorem in_at (c : Dev nD) (t : Fin cfg0.N) (r l : Fin 1024) :
    iblk m c 2 t (ix2 r l) = m ((c : Thread nD τ).loc main_arg2) (ix2 ⟨t.val / 2 * 1024 + r.val, by have := (idx t).2.2.2.2.2.2.2; omega⟩ l) := by
  blk_point [iblk, V, idx t]

/-- The block of the norm's weight. -/
theorem weight_at (c : Dev nD) (t : Fin cfg0.N) (l : Fin 1024) :
    iblk m c 3 t (ix2 0 l) = m ((c : Thread nD τ).loc main_arg3) (ix1 l) := by
  blk_point [iblk, V, idx t]

/-- The block of the cotangent that is added. -/
theorem add_in_at (c : Dev nD) (t : Fin cfg0.N) (r l : Fin 1024) :
    iblk m c 4 t (ix2 r l) = m ((c : Thread nD τ).loc main_arg4) (ix2 ⟨t.val / 2 * 1024 + r.val, by have := (idx t).2.2.2.2.2.2.2; omega⟩ l) := by
  blk_point [iblk, V, idx t]

/-- The array of rows the kernel leaves is the reference's term of the arguments. -/
theorem final_rows (c : Dev nD) : (dats m 0 c).arrAt 5 (cfgs 0).N
    = Cert.ReferenceAttnKVDIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have h3 := (flush0_5 t).mp hf
  blk_simp
  rw [after0_5]
  obtain ⟨r, l, rfl⟩ : ∃ (r l : Fin 1024), y = ix2 r l := ⟨y 0, y 1, by idx_ext⟩
  refine Eq.trans ?_ ((out_at t r l _).trans (ref_rows _ _ _ _ _ _ _)).symm
  refine (rows_last m c t h3 (ix2 r l)).trans ?_
  rw [rows_at, add_in_at m c t r l]
  refine congrArg (fun a : EReal => _ + a) ?_
  refine congrArg₂ (fun x g => Cert.RowNorm.grad x g l) (funext fun x => in_at m c t r x) (funext fun x => ?_)
  rw [scratch_prod m c t h3 r x, weight_at m c t x]

/-- The column sums of one block of the reference's rows. -/
def colpart (c : Dev nD) (q : Fin 4) (l : Fin 1024) : EReal :=
  ∑ r : Fin 1024, du (m ((c : Thread nD τ).loc main_arg0)) (m ((c : Thread nD τ).loc main_arg1)) ⟨q.val * 1024 + r.val, by omega⟩ l
    * ((show FVec Ideal S4096x1024 .f32 from m ((c : Thread nD τ).loc main_arg2)) (ix2 ⟨q.val * 1024 + r.val, by omega⟩ l)
      * Ideal.rsqrt (Cert.RowNorm.ms fun x => (show FVec Ideal S4096x1024 .f32 from m ((c : Thread nD τ).loc main_arg2)) (ix2 ⟨q.val * 1024 + r.val, by omega⟩ x)))

/-- What the last point of a run adds to the column sums. -/
theorem cols_block (c : Dev nD) (t : Fin cfg0.N) (h : t.val % 2 = 1) (l : Fin 1024) :
    k0_pay7 (F := Ideal) (outsAt0 m c t.val t.isLt).2.2 (iblk m c 2 t) (ix2 0 l) = colpart m c ⟨t.val / 2, (idx t).2.2.2.2.2.2.2⟩ l := by
  rw [cols_at]
  unfold colpart
  refine Finset.sum_congr rfl fun r _ => ?_
  rw [scratch_prod m c t h r l, in_at m c t r l]
  refine congrArg (fun x => _ * (_ * Ideal.rsqrt (Cert.RowNorm.ms x))) (funext fun x => in_at m c t r x)

/-- The column sums after the last point of the first run. -/
theorem cols_first (c : Dev nD) (t : Fin cfg0.N) (h : t.val % 2 = 1) (h2 : t.val < 2) (l : Fin 1024) :
    (outsAt0 m c t.val t.isLt).2.1 (ix2 0 l) = colpart m c ⟨t.val / 2, (idx t).2.2.2.2.2.2.2⟩ l := by
  have h0 : ¬t.val % 2 = 0 := by omega
  refine Eq.trans ?_ (cols_block m c t h l)
  rw [outsAt0_B m c t h0 h h2 (by omega)]; frame_out

/-- The column sums after the last point of a later run. -/
theorem cols_later (c : Dev nD) (t : Fin cfg0.N) (h : t.val % 2 = 1) (h2 : ¬t.val < 2) (l : Fin 1024) :
    (outsAt0 m c t.val t.isLt).2.1 (ix2 0 l)
      = (outsAt0 m c (t.val - 1) (Nat.lt_of_le_of_lt (Nat.sub_le _ _) t.isLt)).2.1 (ix2 0 l) + colpart m c ⟨t.val / 2, (idx t).2.2.2.2.2.2.2⟩ l := by
  have h0 : ¬t.val % 2 = 0 := by omega
  rw [← cols_block m c t h l]
  rw [outsAt0_C m c t h0 h h2 (by omega)]; frame_out
  exact add_at _ _ l

/-- The column sums do not change at the other points. -/
theorem cols_kept (c : Dev nD) (t : Fin cfg0.N) (h : ¬t.val % 2 = 1) (ht : 0 < t.val) (l : Fin 1024) :
    (outsAt0 m c t.val t.isLt).2.1 (ix2 0 l) = (outsAt0 m c (t.val - 1) (Nat.lt_of_le_of_lt (Nat.sub_le _ _) t.isLt)).2.1 (ix2 0 l) := by
  rw [outsAt0_A m c t (by omega) h]; rfl

/-- One more run of the sweep adds its block's column sums. -/
theorem cols_run (c : Dev nD) (q : ℕ) (hq : q + 1 < 4) (l : Fin 1024) (h7 : 2 * q + 3 < cfg0.N) (h3 : 2 * q + 1 < cfg0.N) :
    (outsAt0 m c (2 * q + 3) h7).2.1 (ix2 0 l) = (outsAt0 m c (2 * q + 1) h3).2.1 (ix2 0 l) + colpart m c ⟨q + 1, hq⟩ l := by
  have eL := cols_later m c ⟨2 * q + 3, h7⟩ (by show (2 * q + 3) % 2 = 1; omega) (by show ¬2 * q + 3 < 2; omega) l
  have e2 := cols_kept m c ⟨2 * q + 2, by omega⟩ (by show ¬(2 * q + 2) % 2 = 1; omega) (by show 0 < 2 * q + 2; omega) l
  have ec : colpart m c ⟨(2 * q + 3) / 2, by omega⟩ l = colpart m c ⟨q + 1, hq⟩ l :=
    congrArg (fun a => colpart m c a l) (Fin.ext (by show (2 * q + 3) / 2 = q + 1; omega))
  exact eL.trans (congrArg₂ (fun a b : EReal => a + b) e2 ec)

/-- A sequence that starts with the first part and gains one part at each of three later places. -/
theorem chain (F : ℕ → EReal) (p : Fin 4 → EReal) (h0 : F 1 = p 0) (h1 : F 3 = F 1 + p 1) (h2 : F 5 = F 3 + p 2) (h3 : F 7 = F 5 + p 3) :
    F 7 = ∑ q : Fin 4, p q := by
  rw [Fin.sum_univ_four, h3, h2, h1, h0]

/-- The column sums after a point, and zero where there is no point. -/
def colsAt (c : Dev nD) (l : Fin 1024) (n : ℕ) : EReal := if h : n < cfg0.N then (outsAt0 m c n h).2.1 (ix2 0 l) else 0

/-- At a point they are what the window holds. -/
theorem colsAt_eq (c : Dev nD) (l : Fin 1024) (n : ℕ) (h : n < cfg0.N) : colsAt m c l n = (outsAt0 m c n h).2.1 (ix2 0 l) := dif_pos h

/-- One more run of the sweep adds its block's column sums. -/
theorem colsAt_run (c : Dev nD) (q : ℕ) (hq : q + 1 < 4) (l : Fin 1024) : colsAt m c l (2 * q + 3) = colsAt m c l (2 * q + 1) + colpart m c ⟨q + 1, hq⟩ l := by
  have hN : cfg0.N = 8 := N_0
  rw [colsAt_eq m c l _ (by omega), colsAt_eq m c l _ (by omega)]
  exact cols_run m c q hq l _ _

/-- The column sums after the last point of the first run are the first part. -/
theorem cols_third (c : Dev nD) (l : Fin 1024) (t : Fin cfg0.N) (h : t.val = 1) : (outsAt0 m c t.val t.isLt).2.1 (ix2 0 l) = colpart m c 0 l :=
  (cols_first m c t (by omega) (by omega) l).trans (congrArg (fun a => colpart m c a l) (Fin.ext (by show t.val / 2 = 0; omega)))

/-- The column sums of the first run. -/
theorem colsAt_first (c : Dev nD) (l : Fin 1024) : colsAt m c l 1 = colpart m c 0 l := by
  have hN : cfg0.N = 8 := N_0
  obtain ⟨t, ht⟩ : ∃ t : Fin cfg0.N, t.val = 1 := ⟨⟨1, by omega⟩, rfl⟩
  exact (congrArg (colsAt m c l) ht).symm.trans ((colsAt_eq m c l t.val t.isLt).trans (cols_third m c l t ht))

/-- The column sums after the last point of all. -/
theorem cols_all (c : Dev nD) (l : Fin 1024) (t : Fin cfg0.N) (h : t.val = 7) :
    (outsAt0 m c t.val t.isLt).2.1 (ix2 0 l) = ∑ q : Fin 4, colpart m c q l := by
  rw [← colsAt_eq m c l t.val t.isLt, h]
  exact chain (colsAt m c l) (fun q => colpart m c q l) (colsAt_first m c l) (colsAt_run m c 0 (by omega) l) (colsAt_run m c 1 (by omega) l) (colsAt_run m c 2 (by omega) l)

/-- The place of the column sums in their array. -/
theorem out_cols_at (t : Fin cfg0.N) (l : Fin 1024) (A : FVec Ideal Cert.ReferenceAttnKVDIdeal.S1x1024 .f32) :
    A ((win0_6.blk t).view.emb (ix2 0 l)) = A (ix2 0 l) := by
  have h := idx t
  blk_point [idx t]

/-- The column sums the kernel leaves are the reference's term of the arguments. -/
theorem final_cols (c : Dev nD) : (dats m 0 c).arrAt 6 (cfgs 0).N
    = Cert.ReferenceAttnKVDIdeal.Read.val_main_v42 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  have h3 := (flush0_6 t).mp hf
  blk_simp
  rw [after0_6]
  obtain ⟨l, rfl⟩ : ∃ l : Fin 1024, y = ix2 0 l := ⟨y 1, by idx_ext⟩
  have ht : t.val = 7 := by
    have h := (idx t).2.2.2.2.2.2.2
    omega
  refine (cols_all m c l t ht).trans ?_
  refine Eq.trans ?_ ((out_cols_at t l _).trans (ref_cols _ _ _ l)).symm
  unfold colpart
  exact Fin.sum_mul_add_congr fun s k hl => rfl

/-- The two programs end with the same arrays from the same arguments. -/
theorem algebraic : Cert.algebraic_KernelAttnKVDIdeal_ReferenceAttnKVDIdeal := by
  pair_intro
  · run_from Cert.KernelAttnKVDIdeal.Gen.run_main m g
  · run_from Cert.ReferenceAttnKVDIdeal.Value.run m' g'
    · refine (Cert.ReferenceAttnKVDIdeal.Read.val_main_v41_eq m' c).trans ?_
      rw [(hagree c).1, (hagree c).2.1, (hagree c).2.2.1, (hagree c).2.2.2.1, (hagree c).2.2.2.2]
      exact (final_rows m c).symm
    · exact (Cert.ReferenceAttnKVDIdeal.Read.val_main_v42_eq _ _ _).trans (final_cols m c).symm

end Cert.KernelAttnKVDIdeal.Product

end
-- ==== Proof.SsmOutW.lean ====
/- The gradient of the recurrent block's output projection in its weight: the result array of the kernel is the reference's product. -/
module

public import proofs.«01_k».proof.Defs
public import proofs.«01_k».proof.Proof.Gen.KernelSsmOutWIdeal.Value
public import proofs.«01_k».proof.Proof.Gen.ReferenceSsmOutWIdeal.Run
public import proofs.«01_k».proof.Proof.Gen.ReferenceSsmOutWIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelSsmOutWIdeal.Product

open Cert.KernelSsmOutWIdeal Cert.KernelSsmOutWIdeal.Gen

variable (m : (ℓ : Loc nD τ sig) → Buf (Elt Ideal) ℓ)

/-- The zero fill is zero at every index. -/
theorem zero_at (j : S1024x1024.Idx) : k0_pay1 (F := Ideal) j = 0 := by
  pointwise [k0_pay1]

/-- One step of the accumulation: what was there plus the block's product. -/
theorem step_at (x0 : FVec Ideal S1024x1024 .bf16) (acc : FVec Ideal S1024x1024 .f32) (x1 : FVec Ideal S1024x1024 .f32)
    (j : S1024x1024.Idx) :
    k0_pay2 (F := Ideal) x0 acc x1 j = acc j + ∑ k : Fin 1024, x0 (ix2 k (j 0)) * x1 (ix2 k (j 1)) := by
  pointwise [k0_pay2]

/-- The block index of every window at every grid point. -/
theorem idx : ∀ t : Fin cfg0.N, win0_0.index t = ![t.val % 4, t.val / 4]
    ∧ win0_1.index t = ![t.val % 4, 0]
    ∧ win0_2.index t = ![t.val / 4, 0] ∧ t.val / 4 < 2 :=
  (by decide +kernel : ∀ t : Fin grid0.N, _)

/-- The scratch after the last point of a run is the sum of the run's block products. -/
theorem scratch (c : Dev nD) (t : Fin cfg0.N) (h : t.val % 4 = 3) (y : S1024x1024.Idx) :
    (outsAt0 m c t.val t.isLt).2 y = ∑ s : Fin 4, ∑ k : Fin 1024,
      (show FVec Ideal S1024x1024 .bf16 from iblk m c 0 ⟨4 * (t.val / 4) + s.val, Pipeline.run_point_lt_of_flush t h s⟩) (ix2 k (y 0))
      * (show FVec Ideal S1024x1024 .f32 from iblk m c 1 ⟨4 * (t.val / 4) + s.val, Pipeline.run_point_lt_of_flush t h s⟩) (ix2 k (y 1)) := by
  rw [Pipeline.eq_sum_fin_of_reset_step_apply_of_flush (fun n h => (outsAt0 m c n h).2) 4 (fun _ => 0)
    (fun p j => ∑ k : Fin 1024, (show FVec Ideal S1024x1024 .bf16 from iblk m c 0 p) (ix2 k (j 0))
      * (show FVec Ideal S1024x1024 .f32 from iblk m c 1 p) (ix2 k (j 1)))
    (fun t h j => by
      have h1 : ¬t.val % 4 = 3 := by omega
      rw [outsAt0_A m c t h h1]; frame_out; rw [step_at, zero_at])
    (fun t h j => by
      by_cases h1 : t.val % 4 = 3
      · rw [outsAt0_C m c t h h1]; frame_out; rw [read_unread_whole, step_at]; try rfl
      · rw [outsAt0_B m c t h h1]; frame_out; rw [read_unread_whole, step_at]; try rfl)
    t h y, zero_add]

/-- The reference's result at an index: the sum over the rows of both arguments. -/
theorem ref_at (a0 : FVec Ideal Cert.ReferenceSsmOutWIdeal.S4096x2048 .bf16) (a1 : FVec Ideal Cert.ReferenceSsmOutWIdeal.S4096x1024 .f32)
    (j : Cert.ReferenceSsmOutWIdeal.S2048x1024.Idx) :
    Cert.ReferenceSsmOutWIdeal.Read.val_main_v5 (F := Ideal) a0 a1 j = ∑ k : Fin 4096, a0 (ix2 k (j 0)) * a1 (ix2 k (j 1)) := by
  pointwise [Cert.ReferenceSsmOutWIdeal.Read.val_main_cst, Cert.ReferenceSsmOutWIdeal.Read.val_main_v0, Cert.ReferenceSsmOutWIdeal.Read.val_main_v1, Cert.ReferenceSsmOutWIdeal.Read.val_main_v2, Cert.ReferenceSsmOutWIdeal.Read.val_main_v3, Cert.ReferenceSsmOutWIdeal.Read.val_main_v4, Cert.ReferenceSsmOutWIdeal.Read.val_main_v5]
  all_goals exact Finset.sum_congr rfl fun k _ => mul_comm _ _

/-- The array the kernel leaves is the reference's term of the arguments. -/
theorem final (c : Dev nD) : (dats m 0 c).arrAt 2 (cfgs 0).N = Cert.ReferenceSsmOutWIdeal.Read.val_main_v5 (F := Ideal) (m ((c : Thread nD τ).loc main_arg0)) (m ((c : Thread nD τ).loc main_arg1)) := by
  refine (dats m 0 c).arrAt_eq_of_covers 2 _ (by decide +kernel) fun t hf y => ?_
  have h3 := (flush0_2 t).mp hf
  have h0 : ¬t.val % 4 = 0 := by omega
  blk_simp
  rw [after0_2, outsAt0_C m c t h0 h3]
  frame_out
  refine Eq.trans ?_ (ref_at _ _ _).symm
  have hs := scratch m c t h3 y
  rw [outsAt0_C m c t h0 h3] at hs
  revert hs
  frame_out
  intro hs
  refine Eq.trans (show _ = _ from ?_) (hs.trans ?_)
  · pointwise [k0_pay3]
  · refine Fin.sum_mul_add_congr fun s k hl => ?_
    blk_point [iblk, V, idx t, idx ⟨_, Pipeline.run_point_lt_of_flush t h3 s⟩]

/-- The two programs end with the same array from the same arguments. -/
theorem algebraic : Cert.algebraic_KernelSsmOutWIdeal_ReferenceSsmOutWIdeal := by
  pair_intro
  · run_from Cert.KernelSsmOutWIdeal.Gen.run_main m g
  · run_from Cert.ReferenceSsmOutWIdeal.Value.run m' g'
    exact (Cert.ReferenceSsmOutWIdeal.Read.val_main_v5_eq _ _).trans (final m c).symm

end Cert.KernelSsmOutWIdeal.Product

end
-- ==== Proof.SsmOutD.lean ====
/- The gradient of the recurrent block's output projection in its input: the result array of the kernel is the reference's product. -/
module

public import proofs.«01_k».proof.Defs
public import proofs.«01_k».proof.Proof.Gen.KernelSsmOutDIdeal.Value
public import proofs.«01_k».proof.Proof.Gen.ReferenceSsmOutDIdeal.Run
public import proofs.«01_k».proof.Proof.Gen.ReferenceSsmOutDIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelSsmOutDIdeal.Product

open Cert.KernelSsmOutDIdeal Cert.KernelSsmOutDIdeal.Gen

variable (m : (ℓ : Loc nD τ sig) → Buf (Elt Ideal) ℓ)

/-- The block index of every window at every grid point. -/
theorem idx : ∀ t : Fin cfg0.N, win0_0.index t = ![t.val / 2, 0]
    ∧ win0_1.index t = ![t.val % 2, 0]
    ∧ win0_2.index t = ![t.val / 2, t.val % 2] :=
  (by decide +kernel : ∀ t : Fin grid0.N, _)

/-- What the body stores at an index of the block is the reference's result at that index's place. -/
theorem point (c : Dev nD) (t : Fin cfg0.N) (y : S1024x1024.Idx) :
    k0_pay3 (F := Ideal) (k0_pay2 (F := Ideal) (k0_pay1 (F := Ideal)) (iblk m c 0 t) (iblk m c 1 t)) y
    = Cert.ReferenceSsmOutDIdeal.Read.val_main_v4 (F := Ideal) (m ((c : Thread nD τ).loc main_arg0)) (m ((c : Thread nD τ).loc main_arg1)) (((cfg0.win 2).blk t).view.emb y) := by
  pointwise [k0_pay1, k0_pay2, k0_pay3, Cert.ReferenceSsmOutDIdeal.Read.val_main_cst, Cert.ReferenceSsmOutDIdeal.Read.val_main_v0, Cert.ReferenceSsmOutDIdeal.Read.val_main_v1, Cert.ReferenceSsmOutDIdeal.Read.val_main_v2, Cert.ReferenceSsmOutDIdeal.Read.val_main_v3, Cert.ReferenceSsmOutDIdeal.Read.val_main_v4]
  blk_point [iblk, V, idx t]

/-- The array the kernel leaves is the reference's term of the arguments. -/
theorem final (c : Dev nD) : (dats m 0 c).arrAt 2 (cfgs 0).N
    = Cert.ReferenceSsmOutDIdeal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold Gen.outsAt0
  frame_out
  exact point m c t y

/-- The two programs end with the same array from the same arguments. -/
theorem algebraic : Cert.algebraic_KernelSsmOutDIdeal_ReferenceSsmOutDIdeal := by
  pair_intro
  · run_from Cert.KernelSsmOutDIdeal.Gen.run_main m g
  · run_from Cert.ReferenceSsmOutDIdeal.Value.run m' g'
    exact (Cert.ReferenceSsmOutDIdeal.Read.val_main_v4_eq _ _).trans (final m c).symm

end Cert.KernelSsmOutDIdeal.Product

end
-- ==== Proof.SsmInW.lean ====
/- The gradient of the recurrent block's input projection in its weight, the input normalised in the same pass: the result array of the kernel is the reference's product. -/
module

public import proofs.«01_k».proof.Defs
public import proofs.«01_k».proof.Proof.Gen.KernelSsmInWIdeal.Value
public import proofs.«01_k».proof.Proof.Gen.ReferenceSsmInWIdeal.Run
public import proofs.«01_k».proof.Proof.Gen.ReferenceSsmInWIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelSsmInWIdeal.Product

open Cert.KernelSsmInWIdeal Cert.KernelSsmInWIdeal.Gen

variable (m : (ℓ : Loc nD τ sig) → Buf (Elt Ideal) ℓ)

/-- The zero fill is zero at every index. -/
theorem zero_at (j : S1792x1024.Idx) : k0_pay1 (F := Ideal) j = 0 := by
  pointwise [k0_pay1]

/-- One step of the accumulation: what was there plus the block's product. -/
theorem step_at (xh : FVec Ideal S1024x1024 .f32) (nw : FVec Ideal S1x1024 .f32) (acc : FVec Ideal S1792x1024 .f32) (xy : FVec Ideal S1024x1792 .bf16)
    (j : S1792x1024.Idx) :
    k0_pay2 (F := Ideal) xh nw acc xy j = acc j + ∑ k : Fin 1024, xy (ix2 k (j 0)) *
      (xh (ix2 k (j 1)) * Ideal.rsqrt (Ideal.div (∑ l : Fin 1024, xh (ix2 k l) * xh (ix2 k l)) (Ideal.ofBits .f32 0x44800000#32) + Ideal.ofBits .f32 0x358637BD#32) * nw (ix2 0 (j 1))) := by
  pointwise [k0_pay2]

/-- The reference's result at an index. -/
theorem ref_at (a0 : FVec Ideal Cert.ReferenceSsmInWIdeal.S4096x5376 .bf16) (a1 : FVec Ideal Cert.ReferenceSsmInWIdeal.S4096x1024 .f32)
    (a2 : FVec Ideal Cert.ReferenceSsmInWIdeal.S1024 .f32) (f : Fin 5376) (l2 : Fin 1024) :
    Cert.ReferenceSsmInWIdeal.Read.val_main_v19 (F := Ideal) a0 a1 a2 (ix2 f l2) = ∑ k : Fin 4096, a0 (ix2 k f) *
      (a1 (ix2 k l2) * Ideal.rsqrt (Ideal.div (∑ l : Fin 1024, a1 (ix2 k l) * a1 (ix2 k l)) (Ideal.ofBits .f32 0x44800000#32) + Ideal.ofBits .f32 0x358637BD#32) * a2 (ix1 l2)) := by
  pointwise [Cert.ReferenceSsmInWIdeal.Read.val_main_v0, Cert.ReferenceSsmInWIdeal.Read.val_main_cst, Cert.ReferenceSsmInWIdeal.Read.val_main_v1, Cert.ReferenceSsmInWIdeal.Read.val_main_v2, Cert.ReferenceSsmInWIdeal.Read.val_main_cst_0, Cert.ReferenceSsmInWIdeal.Read.val_main_v3, Cert.ReferenceSsmInWIdeal.Read.val_main_v4, Cert.ReferenceSsmInWIdeal.Read.val_main_cst_1, Cert.ReferenceSsmInWIdeal.Read.val_main_v5, Cert.ReferenceSsmInWIdeal.Read.val_main_v6, Cert.ReferenceSsmInWIdeal.Read.val_main_v7, Cert.ReferenceSsmInWIdeal.Read.val_main_v8, Cert.ReferenceSsmInWIdeal.Read.val_main_v9, Cert.ReferenceSsmInWIdeal.Read.val_main_v10, Cert.ReferenceSsmInWIdeal.Read.val_main_v11, Cert.ReferenceSsmInWIdeal.Read.val_main_v12, Cert.ReferenceSsmInWIdeal.Read.val_main_cst_2, Cert.ReferenceSsmInWIdeal.Read.val_main_v13, Cert.ReferenceSsmInWIdeal.Read.val_main_v14, Cert.ReferenceSsmInWIdeal.Read.val_main_v15, Cert.ReferenceSsmInWIdeal.Read.val_main_v16, Cert.ReferenceSsmInWIdeal.Read.val_main_v17, Cert.ReferenceSsmInWIdeal.Read.val_main_v18, Cert.ReferenceSsmInWIdeal.Read.val_main_v19]
  all_goals exact Finset.sum_congr rfl fun k _ => mul_comm _ _

/-- The block index of every window at every grid point. -/
theorem idx : ∀ t : Fin cfg0.N, win0_0.index t = ![t.val % 4, t.val / 4]
    ∧ win0_1.index t = ![t.val % 4, 0]
    ∧ win0_2.index t = ![0, 0]
    ∧ win0_3.index t = ![t.val / 4, 0] ∧ t.val / 4 < 3 :=
  (by decide +kernel : ∀ t : Fin grid0.N, _)

/-- The product of the blocks at one grid point, at an index of the accumulator. -/
def part (c : Dev nD) (p : Fin cfg0.N) (j : S1792x1024.Idx) : EReal :=
  ∑ k : Fin 1024, (show FVec Ideal S1024x1792 .bf16 from iblk m c 0 p) (ix2 k (j 0)) *
      ((show FVec Ideal S1024x1024 .f32 from iblk m c 1 p) (ix2 k (j 1)) * Ideal.rsqrt (Ideal.div (∑ l : Fin 1024, (show FVec Ideal S1024x1024 .f32 from iblk m c 1 p) (ix2 k l) * (show FVec Ideal S1024x1024 .f32 from iblk m c 1 p) (ix2 k l)) (Ideal.ofBits .f32 0x44800000#32) + Ideal.ofBits .f32 0x358637BD#32) * (show FVec Ideal S1x1024 .f32 from iblk m c 2 p) (ix2 0 (j 1)))

/-- The scratch after the last point of a run is the sum of the run's block products. -/
theorem scratch (c : Dev nD) (t : Fin cfg0.N) (h : t.val % 4 = 3) (y : S1792x1024.Idx) :
    (outsAt0 m c t.val t.isLt).2 y = ∑ s : Fin 4, part m c ⟨4 * (t.val / 4) + s.val, Pipeline.run_point_lt_of_flush t h s⟩ y := by
  rw [Pipeline.eq_sum_fin_of_reset_step_apply_of_flush (fun n h => (outsAt0 m c n h).2) 4 (fun _ => 0)
    (fun p j => part m c p j)
    (fun t h j => by
      have h1 : ¬t.val % 4 = 3 := by omega
      rw [outsAt0_A m c t h h1]; frame_out; rw [step_at, zero_at]; rfl)
    (fun t h j => by
      by_cases h1 : t.val % 4 = 3
      · rw [outsAt0_C m c t h h1]; frame_out; rw [read_unread_whole, step_at]; try rfl
      · rw [outsAt0_B m c t h h1]; frame_out; rw [read_unread_whole, step_at]; try rfl)
    t h y, zero_add]

/-- The array the kernel leaves is the reference's term of the arguments. -/
theorem final (c : Dev nD) : (dats m 0 c).arrAt 3 (cfgs 0).N
    = Cert.ReferenceSsmInWIdeal.Read.val_main_v19 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have h3 := (flush0_3 t).mp hf
  have h0 : ¬t.val % 4 = 0 := by omega
  blk_simp
  rw [after0_3, outsAt0_C m c t h0 h3]
  frame_out
  refine Eq.trans ?_ ((congrArg _ (eq_ix2 _)).trans (ref_at _ _ _ _ _)).symm
  have hs := scratch m c t h3 y
  rw [outsAt0_C m c t h0 h3] at hs
  revert hs
  frame_out
  intro hs
  refine Eq.trans (show _ = _ from ?_) (hs.trans ?_)
  · pointwise [k0_pay3]
  · unfold part
    refine Fin.sum_mul_add_congr fun s k hl => ?_
    blk_point [iblk, V, idx t, idx ⟨_, Pipeline.run_point_lt_of_flush t h3 s⟩]

/-- The two programs end with the same array from the same arguments. -/
theorem algebraic : Cert.algebraic_KernelSsmInWIdeal_ReferenceSsmInWIdeal := by
  pair_intro
  · run_from Cert.KernelSsmInWIdeal.Gen.run_main m g
  · run_from Cert.ReferenceSsmInWIdeal.Value.run m' g'
    exact (Cert.ReferenceSsmInWIdeal.Read.val_main_v19_eq _ _ _).trans (final m c).symm

end Cert.KernelSsmInWIdeal.Product

end
-- ==== Proof.SsmInD.lean ====
/- The cotangent of the recurrent block's input: the two result arrays of the kernel are the reference's. -/
module

public import proofs.«01_k».proof.Proof.RowNorm
public import proofs.«01_k».proof.Defs
public import proofs.«01_k».proof.Proof.Gen.KernelSsmInDIdeal.Value
public import proofs.«01_k».proof.Proof.Gen.ReferenceSsmInDIdeal.Run
public import proofs.«01_k».proof.Proof.Gen.ReferenceSsmInDIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelSsmInDIdeal.Product

open Cert.KernelSsmInDIdeal Cert.KernelSsmInDIdeal.Gen

/-- The zero fill is zero at every index. -/
theorem zero_at (j : S1024x1024.Idx) : k0_pay1 (F := Ideal) j = 0 := by
  pointwise [k0_pay1]

/-- One step of the accumulation: what was there plus the block's product. -/
theorem step_at (acc : FVec Ideal S1024x1024 .f32) (x0 : FVec Ideal S1024x1792 .bf16) (x1 : FVec Ideal S1792x1024 .bf16) (j : S1024x1024.Idx) :
    k0_pay2 (F := Ideal) acc x0 x1 j = acc j + ∑ k : Fin 1792, x0 (ix2 (j 0) k) * x1 (ix2 k (j 1)) := by
  pointwise [k0_pay2]

/-- The stored rows at an index. -/
theorem rows_at (du h : FVec Ideal S1024x1024 .f32) (w : FVec Ideal S1x1024 .f32) (dh : FVec Ideal S1024x1024 .f32) (r l : Fin 1024) :
    k0_pay6 (F := Ideal) du h w dh (ix2 r l)
      = dh (ix2 r l) + Cert.RowNorm.grad (fun x => h (ix2 r x)) (fun x => du (ix2 r x) * w (ix2 0 x)) l := by
  pointwise [k0_pay6, k0_pay5, k0_pay4]
  rfl

/-- The column sums of one block at an index. -/
theorem cols_at (du h : FVec Ideal S1024x1024 .f32) (l : Fin 1024) :
    k0_pay7 (F := Ideal) du h (ix2 0 l)
      = ∑ r : Fin 1024, du (ix2 r l) * (h (ix2 r l) * Ideal.rsqrt (Cert.RowNorm.ms fun x => h (ix2 r x))) := by
  pointwise [k0_pay7, k0_pay5, k0_pay4]
  rfl

/-- The addition of one block's column sums at an index. -/
theorem add_at (a b : FVec Ideal S1x1024 .f32) (l : Fin 1024) :
    k0_pay3 (F := Ideal) a b (ix2 0 l) = b (ix2 0 l) + a (ix2 0 l) := by
  pointwise [k0_pay3]

section
open Cert.ReferenceSsmInDIdeal.Read

/-- The product of the reference at an index. -/
def du (a0 : FVec Ideal Cert.ReferenceSsmInDIdeal.S4096x5376 .bf16) (a1 : FVec Ideal Cert.ReferenceSsmInDIdeal.S5376x1024 .bf16) (r : Fin 4096) (l : Fin 1024) : EReal :=
  ∑ k : Fin 5376, a0 (ix2 r k) * a1 (ix2 k l)

/-- The reference's product at an index. -/
theorem prod_at (a0 : FVec Ideal Cert.ReferenceSsmInDIdeal.S4096x5376 .bf16) (a1 : FVec Ideal Cert.ReferenceSsmInDIdeal.S5376x1024 .bf16) (r : Fin 4096) (l : Fin 1024) :
    val_main_v2 (F := Ideal) a0 a1 (ix2 r l) = du a0 a1 r l := by
  unfold du
  pointwise [val_main_v0, val_main_v1, val_main_v2]

/-- The reference's rows at an index. -/
theorem ref_rows (a0 : FVec Ideal Cert.ReferenceSsmInDIdeal.S4096x5376 .bf16) (a1 : FVec Ideal Cert.ReferenceSsmInDIdeal.S5376x1024 .bf16)
    (a2 : FVec Ideal Cert.ReferenceSsmInDIdeal.S4096x1024 .f32) (a3 : FVec Ideal Cert.ReferenceSsmInDIdeal.S1024 .f32) (a4 : FVec Ideal Cert.ReferenceSsmInDIdeal.S4096x1024 .f32) (r : Fin 4096) (l : Fin 1024) :
    val_main_v39 (F := Ideal) a0 a1 a2 a3 a4 (ix2 r l)
      = a4 (ix2 r l) + Cert.RowNorm.grad (fun x => a2 (ix2 r x)) (fun x => du a0 a1 r x * a3 (ix1 x)) l := by
  rw [Cert.RowNorm.grad_eq]
  pointwise [val_main_v0, val_main_v1, val_main_v3, val_main_cst, val_main_v4, val_main_v5, val_main_cst_0, val_main_v6, val_main_v7, val_main_cst_1, val_main_v8, val_main_v9, val_main_v10, val_main_v11, val_main_cst_2, val_main_v12, val_main_v13, val_main_v14, val_main_v15, val_main_v16, val_main_v17, val_main_v18, val_main_v19, val_main_cst_3, val_main_v20, val_main_v21, val_main_v22, val_main_v23, val_main_cst_4, val_main_v24, val_main_v25, val_main_cst_5, val_main_v26, val_main_v27, val_main_v28, val_main_v29, val_main_v30, val_main_cst_6, val_main_v31, val_main_v32, val_main_cst_7, val_main_v33, val_main_v34, val_main_v35, val_main_v36, val_main_v37, val_main_v38, val_main_v39, val_main_v40]
  simp only [prod_at, Fin.sum_univ_one]
  rfl

/-- The reference's column sums at an index. -/
theorem ref_cols (a0 : FVec Ideal Cert.ReferenceSsmInDIdeal.S4096x5376 .bf16) (a1 : FVec Ideal Cert.ReferenceSsmInDIdeal.S5376x1024 .bf16)
    (a2 : FVec Ideal Cert.ReferenceSsmInDIdeal.S4096x1024 .f32) (l : Fin 1024) :
    val_main_v40 (F := Ideal) a0 a1 a2 (ix2 0 l)
      = ∑ r : Fin 4096, du a0 a1 r l * (a2 (ix2 r l) * Ideal.rsqrt (Cert.RowNorm.ms fun x => a2 (ix2 r x))) := by
  pointwise [val_main_v0, val_main_v1, val_main_v3, val_main_cst, val_main_v4, val_main_v5, val_main_cst_0, val_main_v6, val_main_v7, val_main_cst_1, val_main_v8, val_main_v9, val_main_v10, val_main_v11, val_main_cst_2, val_main_v12, val_main_v13, val_main_v14, val_main_v15, val_main_v16, val_main_v17, val_main_v18, val_main_v19, val_main_cst_3, val_main_v20, val_main_v21, val_main_v22, val_main_v23, val_main_cst_4, val_main_v24, val_main_v25, val_main_cst_5, val_main_v26, val_main_v27, val_main_v28, val_main_v29, val_main_v30, val_main_cst_6, val_main_v31, val_main_v32, val_main_cst_7, val_main_v33, val_main_v34, val_main_v35, val_main_v36, val_main_v37, val_main_v38, val_main_v39, val_main_v40]
  simp only [prod_at, Fin.sum_univ_one]
  exact Finset.sum_congr rfl fun r _ => mul_comm _ _
end

variable (m : (ℓ : Loc nD τ sig) → Buf (Elt Ideal) ℓ)

/-- The block index of every window at every grid point. -/
theorem idx : ∀ t : Fin cfg0.N, win0_0.index t = ![t.val / 3, t.val % 3]
    ∧ win0_1.index t = ![t.val % 3, 0]
    ∧ win0_2.index t = ![t.val / 3, 0]
    ∧ win0_3.index t = ![0, 0]
    ∧ win0_4.index t = ![t.val / 3, 0]
    ∧ win0_5.index t = ![t.val / 3, 0]
    ∧ win0_6.index t = ![0, 0] ∧ t.val / 3 < 4 :=
  (by decide +kernel : ∀ t : Fin grid0.N, _)

/-- The product of the blocks at one grid point, at an index of the accumulator. -/
def part (c : Dev nD) (p : Fin cfg0.N) (j : S1024x1024.Idx) : EReal :=
  ∑ k : Fin 1792, (show FVec Ideal S1024x1792 .bf16 from iblk m c 0 p) (ix2 (j 0) k) * (show FVec Ideal S1792x1024 .bf16 from iblk m c 1 p) (ix2 k (j 1))

/-- The scratch after the last point of a run is the sum of the run's block products. -/
theorem scratch (c : Dev nD) (t : Fin cfg0.N) (h : t.val % 3 = 2) (y : S1024x1024.Idx) :
    (outsAt0 m c t.val t.isLt).2.2 y = ∑ s : Fin 3, part m c ⟨3 * (t.val / 3) + s.val, Pipeline.run_point_lt_of_flush t h s⟩ y := by
  rw [Pipeline.eq_sum_fin_of_reset_step_apply_of_flush (fun n h => (outsAt0 m c n h).2.2) 3 (fun _ => 0)
    (fun p j => part m c p j)
    (fun t h j => by
      have h1 : ¬t.val % 3 = 2 := by omega
      rw [outsAt0_A m c t h h1]; frame_out; rw [step_at, zero_at]; rfl)
    (fun t h j => by
      by_cases h1 : t.val % 3 = 2
      · by_cases h2 : t.val < 3
        · rw [outsAt0_C m c t h h1 h2 (by omega)]; frame_out; rw [read_unread_whole, step_at]; try rfl
        · rw [outsAt0_D m c t h h1 h2 (by omega)]; frame_out; rw [read_unread_whole, step_at]; try rfl
      · rw [outsAt0_B m c t h h1]; frame_out; rw [read_unread_whole, step_at]; try rfl)
    t h y, zero_add]

/-- The scratch after the last point of a run is the reference's product at the block's rows. -/
theorem scratch_prod (c : Dev nD) (t : Fin cfg0.N) (h : t.val % 3 = 2) (r l : Fin 1024) :
    (outsAt0 m c t.val t.isLt).2.2 (ix2 r l) = du (m ((c : Thread nD τ).loc main_arg0)) (m ((c : Thread nD τ).loc main_arg1))
      ⟨t.val / 3 * 1024 + r.val, by have := (idx t).2.2.2.2.2.2.2; omega⟩ l := by
  rw [scratch m c t h]
  unfold part du
  refine Fin.sum_mul_add_congr fun s k hl => ?_
  blk_point [iblk, V, idx t, idx ⟨_, Pipeline.run_point_lt_of_flush t h s⟩]

/-- The rows the last point of a run stores. -/
theorem rows_last (c : Dev nD) (t : Fin cfg0.N) (h : t.val % 3 = 2) (y : S1024x1024.Idx) :
    (outsAt0 m c t.val t.isLt).1 y = k0_pay6 (F := Ideal) (outsAt0 m c t.val t.isLt).2.2 (iblk m c 2 t) (iblk m c 3 t) (iblk m c 4 t) y := by
  have h0 : ¬t.val % 3 = 0 := by omega
  by_cases h2 : t.val < 3
  · rw [outsAt0_C m c t h0 h h2 (by omega)]; frame_out
  · rw [outsAt0_D m c t h0 h h2 (by omega)]; frame_out

/-- The place of a block of rows in the array of rows. -/
theorem out_at (t : Fin cfg0.N) (r l : Fin 1024) (A : FVec Ideal Cert.ReferenceSsmInDIdeal.S4096x1024 .f32) :
    A ((win0_5.blk t).view.emb (ix2 r l)) = A (ix2 ⟨t.val / 3 * 1024 + r.val, by have := (idx t).2.2.2.2.2.2.2; omega⟩ l) := by
  have h := idx t
  blk_point [idx t]

/-- The block of the normalised input. -/
theorem in_at (c : Dev nD) (t : Fin cfg0.N) (r l : Fin 1024) :
    iblk m c 2 t (ix2 r l) = m ((c : Thread nD τ).loc main_arg2) (ix2 ⟨t.val / 3 * 1024 + r.val, by have := (idx t).2.2.2.2.2.2.2; omega⟩ l) := by
  blk_point [iblk, V, idx t]

/-- The block of the norm's weight. -/
theorem weight_at (c : Dev nD) (t : Fin cfg0.N) (l : Fin 1024) :
    iblk m c 3 t (ix2 0 l) = m ((c : Thread nD τ).loc main_arg3) (ix1 l) := by
  blk_point [iblk, V, idx t]

/-- The block of the cotangent that is added. -/
theorem add_in_at (c : Dev nD) (t : Fin cfg0.N) (r l : Fin 1024) :
    iblk m c 4 t (ix2 r l) = m ((c : Thread nD τ).loc main_arg4) (ix2 ⟨t.val / 3 * 1024 + r.val, by have := (idx t).2.2.2.2.2.2.2; omega⟩ l) := by
  blk_point [iblk, V, idx t]

/-- The array of rows the kernel leaves is the reference's term of the arguments. -/
theorem final_rows (c : Dev nD) : (dats m 0 c).arrAt 5 (cfgs 0).N
    = Cert.ReferenceSsmInDIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have h3 := (flush0_5 t).mp hf
  blk_simp
  rw [after0_5]
  obtain ⟨r, l, rfl⟩ : ∃ (r l : Fin 1024), y = ix2 r l := ⟨y 0, y 1, by idx_ext⟩
  refine Eq.trans ?_ ((out_at t r l _).trans (ref_rows _ _ _ _ _ _ _)).symm
  refine (rows_last m c t h3 (ix2 r l)).trans ?_
  rw [rows_at, add_in_at m c t r l]
  refine congrArg (fun a : EReal => _ + a) ?_
  refine congrArg₂ (fun x g => Cert.RowNorm.grad x g l) (funext fun x => in_at m c t r x) (funext fun x => ?_)
  rw [scratch_prod m c t h3 r x, weight_at m c t x]

/-- The column sums of one block of the reference's rows. -/
def colpart (c : Dev nD) (q : Fin 4) (l : Fin 1024) : EReal :=
  ∑ r : Fin 1024, du (m ((c : Thread nD τ).loc main_arg0)) (m ((c : Thread nD τ).loc main_arg1)) ⟨q.val * 1024 + r.val, by omega⟩ l
    * ((show FVec Ideal S4096x1024 .f32 from m ((c : Thread nD τ).loc main_arg2)) (ix2 ⟨q.val * 1024 + r.val, by omega⟩ l)
      * Ideal.rsqrt (Cert.RowNorm.ms fun x => (show FVec Ideal S4096x1024 .f32 from m ((c : Thread nD τ).loc main_arg2)) (ix2 ⟨q.val * 1024 + r.val, by omega⟩ x)))

/-- What the last point of a run adds to the column sums. -/
theorem cols_block (c : Dev nD) (t : Fin cfg0.N) (h : t.val % 3 = 2) (l : Fin 1024) :
    k0_pay7 (F := Ideal) (outsAt0 m c t.val t.isLt).2.2 (iblk m c 2 t) (ix2 0 l) = colpart m c ⟨t.val / 3, (idx t).2.2.2.2.2.2.2⟩ l := by
  rw [cols_at]
  unfold colpart
  refine Finset.sum_congr rfl fun r _ => ?_
  rw [scratch_prod m c t h r l, in_at m c t r l]
  refine congrArg (fun x => _ * (_ * Ideal.rsqrt (Cert.RowNorm.ms x))) (funext fun x => in_at m c t r x)

/-- The column sums after the last point of the first run. -/
theorem cols_first (c : Dev nD) (t : Fin cfg0.N) (h : t.val % 3 = 2) (h2 : t.val < 3) (l : Fin 1024) :
    (outsAt0 m c t.val t.isLt).2.1 (ix2 0 l) = colpart m c ⟨t.val / 3, (idx t).2.2.2.2.2.2.2⟩ l := by
  have h0 : ¬t.val % 3 = 0 := by omega
  refine Eq.trans ?_ (cols_block m c t h l)
  rw [outsAt0_C m c t h0 h h2 (by omega)]; frame_out

/-- The column sums after the last point of a later run. -/
theorem cols_later (c : Dev nD) (t : Fin cfg0.N) (h : t.val % 3 = 2) (h2 : ¬t.val < 3) (l : Fin 1024) :
    (outsAt0 m c t.val t.isLt).2.1 (ix2 0 l)
      = (outsAt0 m c (t.val - 1) (Nat.lt_of_le_of_lt (Nat.sub_le _ _) t.isLt)).2.1 (ix2 0 l) + colpart m c ⟨t.val / 3, (idx t).2.2.2.2.2.2.2⟩ l := by
  have h0 : ¬t.val % 3 = 0 := by omega
  rw [← cols_block m c t h l]
  rw [outsAt0_D m c t h0 h h2 (by omega)]; frame_out
  exact add_at _ _ l

/-- The column sums do not change at the other points. -/
theorem cols_kept (c : Dev nD) (t : Fin cfg0.N) (h : ¬t.val % 3 = 2) (ht : 0 < t.val) (l : Fin 1024) :
    (outsAt0 m c t.val t.isLt).2.1 (ix2 0 l) = (outsAt0 m c (t.val - 1) (Nat.lt_of_le_of_lt (Nat.sub_le _ _) t.isLt)).2.1 (ix2 0 l) := by
  by_cases h0 : t.val % 3 = 0
  · rw [outsAt0_A m c t h0 h]; rfl
  · rw [outsAt0_B m c t h0 h]; rfl

/-- One more run of the sweep adds its block's column sums. -/
theorem cols_run (c : Dev nD) (q : ℕ) (hq : q + 1 < 4) (l : Fin 1024) (h7 : 3 * q + 5 < cfg0.N) (h3 : 3 * q + 2 < cfg0.N) :
    (outsAt0 m c (3 * q + 5) h7).2.1 (ix2 0 l) = (outsAt0 m c (3 * q + 2) h3).2.1 (ix2 0 l) + colpart m c ⟨q + 1, hq⟩ l := by
  have eL := cols_later m c ⟨3 * q + 5, h7⟩ (by show (3 * q + 5) % 3 = 2; omega) (by show ¬3 * q + 5 < 3; omega) l
  have e4 := cols_kept m c ⟨3 * q + 4, by omega⟩ (by show ¬(3 * q + 4) % 3 = 2; omega) (by show 0 < 3 * q + 4; omega) l
  have e3 := cols_kept m c ⟨3 * q + 3, by omega⟩ (by show ¬(3 * q + 3) % 3 = 2; omega) (by show 0 < 3 * q + 3; omega) l
  have ec : colpart m c ⟨(3 * q + 5) / 3, by omega⟩ l = colpart m c ⟨q + 1, hq⟩ l :=
    congrArg (fun a => colpart m c a l) (Fin.ext (by show (3 * q + 5) / 3 = q + 1; omega))
  exact eL.trans (congrArg₂ (fun a b : EReal => a + b) (e4.trans e3) ec)

/-- A sequence that starts with the first part and gains one part at each of three later places. -/
theorem chain (F : ℕ → EReal) (p : Fin 4 → EReal) (h0 : F 2 = p 0) (h1 : F 5 = F 2 + p 1) (h2 : F 8 = F 5 + p 2) (h3 : F 11 = F 8 + p 3) :
    F 11 = ∑ q : Fin 4, p q := by
  rw [Fin.sum_univ_four, h3, h2, h1, h0]

/-- The column sums after a point, and zero where there is no point. -/
def colsAt (c : Dev nD) (l : Fin 1024) (n : ℕ) : EReal := if h : n < cfg0.N then (outsAt0 m c n h).2.1 (ix2 0 l) else 0

/-- At a point they are what the window holds. -/
theorem colsAt_eq (c : Dev nD) (l : Fin 1024) (n : ℕ) (h : n < cfg0.N) : colsAt m c l n = (outsAt0 m c n h).2.1 (ix2 0 l) := dif_pos h

/-- One more run of the sweep adds its block's column sums. -/
theorem colsAt_run (c : Dev nD) (q : ℕ) (hq : q + 1 < 4) (l : Fin 1024) : colsAt m c l (3 * q + 5) = colsAt m c l (3 * q + 2) + colpart m c ⟨q + 1, hq⟩ l := by
  have hN : cfg0.N = 12 := N_0
  rw [colsAt_eq m c l _ (by omega), colsAt_eq m c l _ (by omega)]
  exact cols_run m c q hq l _ _

/-- The column sums after the last point of the first run are the first part. -/
theorem cols_third (c : Dev nD) (l : Fin 1024) (t : Fin cfg0.N) (h : t.val = 2) : (outsAt0 m c t.val t.isLt).2.1 (ix2 0 l) = colpart m c 0 l :=
  (cols_first m c t (by omega) (by omega) l).trans (congrArg (fun a => colpart m c a l) (Fin.ext (by show t.val / 3 = 0; omega)))

/-- The column sums of the first run. -/
theorem colsAt_first (c : Dev nD) (l : Fin 1024) : colsAt m c l 2 = colpart m c 0 l := by
  have hN : cfg0.N = 12 := N_0
  obtain ⟨t, ht⟩ : ∃ t : Fin cfg0.N, t.val = 2 := ⟨⟨2, by omega⟩, rfl⟩
  exact (congrArg (colsAt m c l) ht).symm.trans ((colsAt_eq m c l t.val t.isLt).trans (cols_third m c l t ht))

/-- The column sums after the last point of all. -/
theorem cols_all (c : Dev nD) (l : Fin 1024) (t : Fin cfg0.N) (h : t.val = 11) :
    (outsAt0 m c t.val t.isLt).2.1 (ix2 0 l) = ∑ q : Fin 4, colpart m c q l := by
  rw [← colsAt_eq m c l t.val t.isLt, h]
  exact chain (colsAt m c l) (fun q => colpart m c q l) (colsAt_first m c l) (colsAt_run m c 0 (by omega) l) (colsAt_run m c 1 (by omega) l) (colsAt_run m c 2 (by omega) l)

/-- The place of the column sums in their array. -/
theorem out_cols_at (t : Fin cfg0.N) (l : Fin 1024) (A : FVec Ideal Cert.ReferenceSsmInDIdeal.S1x1024 .f32) :
    A ((win0_6.blk t).view.emb (ix2 0 l)) = A (ix2 0 l) := by
  have h := idx t
  blk_point [idx t]

/-- The column sums the kernel leaves are the reference's term of the arguments. -/
theorem final_cols (c : Dev nD) : (dats m 0 c).arrAt 6 (cfgs 0).N
    = Cert.ReferenceSsmInDIdeal.Read.val_main_v40 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  have h3 := (flush0_6 t).mp hf
  blk_simp
  rw [after0_6]
  obtain ⟨l, rfl⟩ : ∃ l : Fin 1024, y = ix2 0 l := ⟨y 1, by idx_ext⟩
  have ht : t.val = 11 := by
    have h := (idx t).2.2.2.2.2.2.2
    omega
  refine (cols_all m c l t ht).trans ?_
  refine Eq.trans ?_ ((out_cols_at t l _).trans (ref_cols _ _ _ l)).symm
  unfold colpart
  exact Fin.sum_mul_add_congr fun s k hl => rfl

/-- The two programs end with the same arrays from the same arguments. -/
theorem algebraic : Cert.algebraic_KernelSsmInDIdeal_ReferenceSsmInDIdeal := by
  pair_intro
  · run_from Cert.KernelSsmInDIdeal.Gen.run_main m g
  · run_from Cert.ReferenceSsmInDIdeal.Value.run m' g'
    · refine (Cert.ReferenceSsmInDIdeal.Read.val_main_v39_eq m' c).trans ?_
      rw [(hagree c).1, (hagree c).2.1, (hagree c).2.2.1, (hagree c).2.2.2.1, (hagree c).2.2.2.2]
      exact (final_rows m c).symm
    · exact (Cert.ReferenceSsmInDIdeal.Read.val_main_v40_eq _ _ _).trans (final_cols m c).symm

end Cert.KernelSsmInDIdeal.Product

end
-- ==== Proof.FfnUp.lean ====
/- The up projection of the normalised input, written as two halves: the result array of the kernel is the reference's product. -/
module

public import proofs.«01_k».proof.Defs
public import proofs.«01_k».proof.Proof.Gen.KernelFfnUpIdeal.Value
public import proofs.«01_k».proof.Proof.Gen.ReferenceFfnUpIdeal.Run
public import proofs.«01_k».proof.Proof.Gen.ReferenceFfnUpIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelFfnUpIdeal.Product

open Cert.KernelFfnUpIdeal Cert.KernelFfnUpIdeal.Gen

variable (m : (ℓ : Loc nD τ sig) → Buf (Elt Ideal) ℓ)

/-- The block index of every window at every grid point. -/
theorem idx : ∀ t : Fin cfg0.N, win0_0.index t = ![t.val / 2, 0]
    ∧ win0_1.index t = ![t.val % 2, 0]
    ∧ win0_2.index t = ![0, 0]
    ∧ win0_3.index t = ![t.val % 2, t.val / 2, 0] ∧ t.val / 2 < 4 :=
  (by decide +kernel : ∀ t : Fin grid0.N, _)

/-- What the body stores at an index: the normalised row times the row of the weight. -/
theorem body_at (x0 : FVec Ideal S1024x1024 .f32) (x2 : FVec Ideal S1x1024 .f32) (x1 : FVec Ideal S2816x1024 .bf16) (r : Fin 1024) (f : Fin 2816) :
    k0_pay1 (F := Ideal) x0 x2 x1 (ix3 0 r f) = ∑ k : Fin 1024, x0 (ix2 r k) * Ideal.rsqrt (Ideal.div (∑ x : Fin 1024, x0 (ix2 r x) * x0 (ix2 r x)) (Ideal.ofBits .f32 0x44800000#32) + Ideal.ofBits .f32 0x358637BD#32) * x2 (ix2 0 k) * x1 (ix2 f k) := by
  pointwise [k0_pay1]

section
open Cert.ReferenceFfnUpIdeal.Read
/-- The reference at an index: the same sum, the halves of the weight one below the other. -/
theorem ref_at (a0 : FVec Ideal Cert.ReferenceFfnUpIdeal.S4096x1024 .f32) (a1 : FVec Ideal Cert.ReferenceFfnUpIdeal.S5632x1024 .bf16)
    (a2 : FVec Ideal Cert.ReferenceFfnUpIdeal.S1024 .f32) (p : Fin 2) (r : Fin 4096) (f : Fin 2816) :
    val_main_v21 (F := Ideal) a0 a1 a2 (ix3 p r f)
      = ∑ k : Fin 1024, a0 (ix2 r k) * Ideal.rsqrt (Ideal.div (∑ x : Fin 1024, a0 (ix2 r x) * a0 (ix2 r x)) (Ideal.ofBits .f32 0x44800000#32) + Ideal.ofBits .f32 0x358637BD#32) * a2 (ix1 k) * a1 (ix2 ⟨p.val * 2816 + f.val, by omega⟩ k) := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_v16, val_main_v17, val_main_v18, val_main_v19, val_main_v20, val_main_v21]
  have hp := p.isLt
  split
  · next h =>
    refine Finset.sum_congr rfl fun k _ => congrArg (fun b : EReal => _ * b) (congrArg a1 ((ix2_inj ..).2 ⟨Fin.ext ?_, rfl⟩))
    show (f : ℕ) = (p : ℕ) * 2816 + f.val
    have h' : (p : ℕ) < 1 := h
    simp only [show (p : ℕ) = 0 by omega]; try omega
  · next h =>
    refine Finset.sum_congr rfl fun k _ => congrArg (fun b : EReal => _ * b) (congrArg a1 ((ix2_inj ..).2 ⟨Fin.ext ?_, rfl⟩))
    show 2816 + (f : ℕ) = (p : ℕ) * 2816 + f.val
    have h' : ¬(p : ℕ) < 1 := h
    simp only [show (p : ℕ) = 1 by omega]; try omega
end

/-- The output block's place in the array. -/
theorem out_at (t : Fin cfg0.N) (r : Fin 1024) (f : Fin 2816) (A : FVec Ideal Cert.ReferenceFfnUpIdeal.S2x4096x2816 .bf16) :
    A (((cfg0.win 3).blk t).view.emb (ix3 0 r f))
      = A (ix3 ⟨t.val % 2, by omega⟩ ⟨t.val / 2 * 1024 + r.val, by have := (idx t).2.2.2.2; omega⟩ f) := by
  have h := idx t
  blk_point [idx t]

/-- The rows' block. -/
theorem rows_at (c : Dev nD) (t : Fin cfg0.N) (r k : Fin 1024) :
    iblk m c 0 t (ix2 r k) = m ((c : Thread nD τ).loc main_arg0) (ix2 ⟨t.val / 2 * 1024 + r.val, by have := (idx t).2.2.2.2; omega⟩ k) := by
  blk_point [iblk, V, idx t]

/-- The weight's block. -/
theorem weight_at (c : Dev nD) (t : Fin cfg0.N) (f : Fin 2816) (k : Fin 1024) :
    iblk m c 1 t (ix2 f k) = m ((c : Thread nD τ).loc main_arg1) (ix2 ⟨t.val % 2 * 2816 + f.val, by omega⟩ k) := by
  blk_point [iblk, V, idx t]

/-- The gain. -/
theorem gain_at (c : Dev nD) (t : Fin cfg0.N) (k : Fin 1024) :
    iblk m c 2 t (ix2 0 k) = m ((c : Thread nD τ).loc main_arg2) (ix1 k) := by
  blk_point [iblk, V, idx t]

/-- What the body stores at an index of the block is the reference's result at that index's place. -/
theorem point (c : Dev nD) (t : Fin cfg0.N) (y : S1x1024x2816.Idx) :
    k0_pay1 (F := Ideal) (iblk m c 0 t) (iblk m c 2 t) (iblk m c 1 t) y
    = Cert.ReferenceFfnUpIdeal.Read.val_main_v21 (F := Ideal) (m ((c : Thread nD τ).loc main_arg0)) (m ((c : Thread nD τ).loc main_arg1)) (m ((c : Thread nD τ).loc main_arg2)) (((cfg0.win 3).blk t).view.emb y) := by
  obtain ⟨r, f, rfl⟩ : ∃ (r : Fin 1024) (f : Fin 2816), y = ix3 0 r f := ⟨y 1, y 2, by idx_ext⟩
  refine Eq.trans ?_ ((out_at t r f _).trans (ref_at _ _ _ _ _ _)).symm
  rw [body_at]
  simp only [rows_at m c t, weight_at m c t, gain_at m c t]

/-- The array the kernel leaves is the reference's term of the arguments. -/
theorem final (c : Dev nD) : (dats m 0 c).arrAt 3 (cfgs 0).N
    = Cert.ReferenceFfnUpIdeal.Read.val_main_v21 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  exact point m c t y

/-- The two programs end with the same array from the same arguments. -/
theorem algebraic : Cert.algebraic_KernelFfnUpIdeal_ReferenceFfnUpIdeal := by
  pair_intro
  · run_from Cert.KernelFfnUpIdeal.Gen.run_main m g
  · run_from Cert.ReferenceFfnUpIdeal.Value.run m' g'
    refine (Cert.ReferenceFfnUpIdeal.Read.val_main_v21_eq _ _ _).trans ?_
    rw [(hagree c).2.2]
    exact (final m c).symm

end Cert.KernelFfnUpIdeal.Product

end
-- ==== Proof.FfnDown.lean ====
/- The down projection plus the residual: the result array of the kernel is the reference's sum. -/
module

public import proofs.«01_k».proof.Defs
public import proofs.«01_k».proof.Proof.Gen.KernelFfnDownIdeal.Value
public import proofs.«01_k».proof.Proof.Gen.ReferenceFfnDownIdeal.Run
public import proofs.«01_k».proof.Proof.Gen.ReferenceFfnDownIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelFfnDownIdeal.Product

open Cert.KernelFfnDownIdeal Cert.KernelFfnDownIdeal.Gen

variable (m : (ℓ : Loc nD τ sig) → Buf (Elt Ideal) ℓ)

/-- The block index of every window at every grid point. -/
theorem idx : ∀ t : Fin cfg0.N, win0_0.index t = ![t.val, 0]
    ∧ win0_1.index t = ![0, 0]
    ∧ win0_2.index t = ![t.val, 0]
    ∧ win0_3.index t = ![t.val, 0] :=
  (by decide +kernel : ∀ t : Fin grid0.N, _)

/-- What the body stores at an index of the block is the reference's result at that index's place. -/
theorem point (c : Dev nD) (t : Fin cfg0.N) (y : S1024x1024.Idx) :
    k0_pay1 (F := Ideal) (iblk m c 0 t) (iblk m c 1 t) (iblk m c 2 t) y
    = Cert.ReferenceFfnDownIdeal.Read.val_main_v3 (F := Ideal) (m ((c : Thread nD τ).loc main_arg0)) (m ((c : Thread nD τ).loc main_arg1)) (m ((c : Thread nD τ).loc main_arg2)) (((cfg0.win 3).blk t).view.emb y) := by
  pointwise [k0_pay1, Cert.ReferenceFfnDownIdeal.Read.val_main_v0, Cert.ReferenceFfnDownIdeal.Read.val_main_v1, Cert.ReferenceFfnDownIdeal.Read.val_main_v2, Cert.ReferenceFfnDownIdeal.Read.val_main_v3]
  blk_point [iblk, V, idx t]

/-- The array the kernel leaves is the reference's term of the arguments. -/
theorem final (c : Dev nD) : (dats m 0 c).arrAt 3 (cfgs 0).N
    = Cert.ReferenceFfnDownIdeal.Read.val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  exact point m c t y

/-- The two programs end with the same array from the same arguments. -/
theorem algebraic : Cert.algebraic_KernelFfnDownIdeal_ReferenceFfnDownIdeal := by
  pair_intro
  · run_from Cert.KernelFfnDownIdeal.Gen.run_main m g
  · run_from Cert.ReferenceFfnDownIdeal.Value.run m' g'
    exact (Cert.ReferenceFfnDownIdeal.Read.val_main_v3_eq _ _ _).trans (final m c).symm

end Cert.KernelFfnDownIdeal.Product

end
-- ==== Proof.AttnQ.lean ====
/- The query projection of the normalised input: the result array of the kernel is the reference's product. -/
module

public import proofs.«01_k».proof.Defs
public import proofs.«01_k».proof.Proof.Gen.KernelAttnQIdeal.Value
public import proofs.«01_k».proof.Proof.Gen.ReferenceAttnQIdeal.Run
public import proofs.«01_k».proof.Proof.Gen.ReferenceAttnQIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelAttnQIdeal.Product

open Cert.KernelAttnQIdeal Cert.KernelAttnQIdeal.Gen

variable (m : (ℓ : Loc nD τ sig) → Buf (Elt Ideal) ℓ)

/-- The block index of every window at every grid point. -/
theorem idx : ∀ t : Fin cfg0.N, win0_0.index t = ![t.val, 0]
    ∧ win0_1.index t = ![0, 0]
    ∧ win0_2.index t = ![0, 0]
    ∧ win0_3.index t = ![t.val, 0] :=
  (by decide +kernel : ∀ t : Fin grid0.N, _)

/-- What the body stores at an index of the block is the reference's result at that index's place. -/
theorem point (c : Dev nD) (t : Fin cfg0.N) (y : S1024x1024.Idx) :
    k0_pay1 (F := Ideal) (iblk m c 0 t) (iblk m c 2 t) (iblk m c 1 t) y
    = Cert.ReferenceAttnQIdeal.Read.val_main_v15 (F := Ideal) (m ((c : Thread nD τ).loc main_arg0)) (m ((c : Thread nD τ).loc main_arg1)) (m ((c : Thread nD τ).loc main_arg2)) (((cfg0.win 3).blk t).view.emb y) := by
  pointwise [k0_pay1, Cert.ReferenceAttnQIdeal.Read.val_main_v0, Cert.ReferenceAttnQIdeal.Read.val_main_cst, Cert.ReferenceAttnQIdeal.Read.val_main_v1, Cert.ReferenceAttnQIdeal.Read.val_main_v2, Cert.ReferenceAttnQIdeal.Read.val_main_cst_0, Cert.ReferenceAttnQIdeal.Read.val_main_v3, Cert.ReferenceAttnQIdeal.Read.val_main_v4, Cert.ReferenceAttnQIdeal.Read.val_main_cst_1, Cert.ReferenceAttnQIdeal.Read.val_main_v5, Cert.ReferenceAttnQIdeal.Read.val_main_v6, Cert.ReferenceAttnQIdeal.Read.val_main_v7, Cert.ReferenceAttnQIdeal.Read.val_main_v8, Cert.ReferenceAttnQIdeal.Read.val_main_v9, Cert.ReferenceAttnQIdeal.Read.val_main_v10, Cert.ReferenceAttnQIdeal.Read.val_main_v11, Cert.ReferenceAttnQIdeal.Read.val_main_v12, Cert.ReferenceAttnQIdeal.Read.val_main_v13, Cert.ReferenceAttnQIdeal.Read.val_main_v14, Cert.ReferenceAttnQIdeal.Read.val_main_v15]
  blk_point [iblk, V, idx t]

/-- The array the kernel leaves is the reference's term of the arguments. -/
theorem final (c : Dev nD) : (dats m 0 c).arrAt 3 (cfgs 0).N
    = Cert.ReferenceAttnQIdeal.Read.val_main_v15 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  exact point m c t y

/-- The two programs end with the same array from the same arguments. -/
theorem algebraic : Cert.algebraic_KernelAttnQIdeal_ReferenceAttnQIdeal := by
  pair_intro
  · run_from Cert.KernelAttnQIdeal.Gen.run_main m g
  · run_from Cert.ReferenceAttnQIdeal.Value.run m' g'
    exact (Cert.ReferenceAttnQIdeal.Read.val_main_v15_eq _ _ _).trans (final m c).symm

end Cert.KernelAttnQIdeal.Product

end
-- ==== Proof.AttnKV.lean ====
/- The key and value projection of the normalised input: the result array of the kernel is the reference's product. -/
module

public import proofs.«01_k».proof.Defs
public import proofs.«01_k».proof.Proof.Gen.KernelAttnKVIdeal.Value
public import proofs.«01_k».proof.Proof.Gen.ReferenceAttnKVIdeal.Run
public import proofs.«01_k».proof.Proof.Gen.ReferenceAttnKVIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelAttnKVIdeal.Product

open Cert.KernelAttnKVIdeal Cert.KernelAttnKVIdeal.Gen

variable (m : (ℓ : Loc nD τ sig) → Buf (Elt Ideal) ℓ)

/-- The block index of every window at every grid point. -/
theorem idx : ∀ t : Fin cfg0.N, win0_0.index t = ![t.val / 2, 0]
    ∧ win0_1.index t = ![0, t.val % 2]
    ∧ win0_2.index t = ![0, 0]
    ∧ win0_3.index t = ![t.val / 2, t.val % 2] :=
  (by decide +kernel : ∀ t : Fin grid0.N, _)

/-- What the body stores at an index of the block is the reference's result at that index's place. -/
theorem point (c : Dev nD) (t : Fin cfg0.N) (y : S1024x1024.Idx) :
    k0_pay1 (F := Ideal) (iblk m c 0 t) (iblk m c 2 t) (iblk m c 1 t) y
    = Cert.ReferenceAttnKVIdeal.Read.val_main_v15 (F := Ideal) (m ((c : Thread nD τ).loc main_arg0)) (m ((c : Thread nD τ).loc main_arg1)) (m ((c : Thread nD τ).loc main_arg2)) (((cfg0.win 3).blk t).view.emb y) := by
  pointwise [k0_pay1, Cert.ReferenceAttnKVIdeal.Read.val_main_v0, Cert.ReferenceAttnKVIdeal.Read.val_main_cst, Cert.ReferenceAttnKVIdeal.Read.val_main_v1, Cert.ReferenceAttnKVIdeal.Read.val_main_v2, Cert.ReferenceAttnKVIdeal.Read.val_main_cst_0, Cert.ReferenceAttnKVIdeal.Read.val_main_v3, Cert.ReferenceAttnKVIdeal.Read.val_main_v4, Cert.ReferenceAttnKVIdeal.Read.val_main_cst_1, Cert.ReferenceAttnKVIdeal.Read.val_main_v5, Cert.ReferenceAttnKVIdeal.Read.val_main_v6, Cert.ReferenceAttnKVIdeal.Read.val_main_v7, Cert.ReferenceAttnKVIdeal.Read.val_main_v8, Cert.ReferenceAttnKVIdeal.Read.val_main_v9, Cert.ReferenceAttnKVIdeal.Read.val_main_v10, Cert.ReferenceAttnKVIdeal.Read.val_main_v11, Cert.ReferenceAttnKVIdeal.Read.val_main_v12, Cert.ReferenceAttnKVIdeal.Read.val_main_v13, Cert.ReferenceAttnKVIdeal.Read.val_main_v14, Cert.ReferenceAttnKVIdeal.Read.val_main_v15]
  blk_point [iblk, V, idx t]

/-- The array the kernel leaves is the reference's term of the arguments. -/
theorem final (c : Dev nD) : (dats m 0 c).arrAt 3 (cfgs 0).N
    = Cert.ReferenceAttnKVIdeal.Read.val_main_v15 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  exact point m c t y

/-- The two programs end with the same array from the same arguments. -/
theorem algebraic : Cert.algebraic_KernelAttnKVIdeal_ReferenceAttnKVIdeal := by
  pair_intro
  · run_from Cert.KernelAttnKVIdeal.Gen.run_main m g
  · run_from Cert.ReferenceAttnKVIdeal.Value.run m' g'
    exact (Cert.ReferenceAttnKVIdeal.Read.val_main_v15_eq _ _ _).trans (final m c).symm

end Cert.KernelAttnKVIdeal.Product

end
-- ==== Proof.AttnO.lean ====
/- The attention output projection plus the residual: the result array of the kernel is the reference's sum. -/
module

public import proofs.«01_k».proof.Defs
public import proofs.«01_k».proof.Proof.Gen.KernelAttnOIdeal.Value
public import proofs.«01_k».proof.Proof.Gen.ReferenceAttnOIdeal.Run
public import proofs.«01_k».proof.Proof.Gen.ReferenceAttnOIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelAttnOIdeal.Product

open Cert.KernelAttnOIdeal Cert.KernelAttnOIdeal.Gen

variable (m : (ℓ : Loc nD τ sig) → Buf (Elt Ideal) ℓ)

/-- The block index of every window at every grid point. -/
theorem idx : ∀ t : Fin cfg0.N, win0_0.index t = ![t.val, 0]
    ∧ win0_1.index t = ![0, 0]
    ∧ win0_2.index t = ![t.val, 0]
    ∧ win0_3.index t = ![t.val, 0] :=
  (by decide +kernel : ∀ t : Fin grid0.N, _)

/-- What the body stores at an index of the block is the reference's result at that index's place. -/
theorem point (c : Dev nD) (t : Fin cfg0.N) (y : S1024x1024.Idx) :
    k0_pay1 (F := Ideal) (iblk m c 0 t) (iblk m c 1 t) (iblk m c 2 t) y
    = Cert.ReferenceAttnOIdeal.Read.val_main_v3 (F := Ideal) (m ((c : Thread nD τ).loc main_arg0)) (m ((c : Thread nD τ).loc main_arg1)) (m ((c : Thread nD τ).loc main_arg2)) (((cfg0.win 3).blk t).view.emb y) := by
  pointwise [k0_pay1, Cert.ReferenceAttnOIdeal.Read.val_main_v0, Cert.ReferenceAttnOIdeal.Read.val_main_v1, Cert.ReferenceAttnOIdeal.Read.val_main_v2, Cert.ReferenceAttnOIdeal.Read.val_main_v3]
  blk_point [iblk, V, idx t]

/-- The array the kernel leaves is the reference's term of the arguments. -/
theorem final (c : Dev nD) : (dats m 0 c).arrAt 3 (cfgs 0).N
    = Cert.ReferenceAttnOIdeal.Read.val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  exact point m c t y

/-- The two programs end with the same array from the same arguments. -/
theorem algebraic : Cert.algebraic_KernelAttnOIdeal_ReferenceAttnOIdeal := by
  pair_intro
  · run_from Cert.KernelAttnOIdeal.Gen.run_main m g
  · run_from Cert.ReferenceAttnOIdeal.Value.run m' g'
    exact (Cert.ReferenceAttnOIdeal.Read.val_main_v3_eq _ _ _).trans (final m c).symm

end Cert.KernelAttnOIdeal.Product

end
-- ==== Proof.SsmIn.lean ====
/- The input projection of the recurrent block: the result array of the kernel is the reference's product. -/
module

public import proofs.«01_k».proof.Defs
public import proofs.«01_k».proof.Proof.Gen.KernelSsmInIdeal.Value
public import proofs.«01_k».proof.Proof.Gen.ReferenceSsmInIdeal.Run
public import proofs.«01_k».proof.Proof.Gen.ReferenceSsmInIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelSsmInIdeal.Product

open Cert.KernelSsmInIdeal Cert.KernelSsmInIdeal.Gen

variable (m : (ℓ : Loc nD τ sig) → Buf (Elt Ideal) ℓ)

/-- The block index of every window at every grid point. -/
theorem idx : ∀ t : Fin cfg0.N, win0_0.index t = ![t.val / 3, 0]
    ∧ win0_1.index t = ![t.val % 3, 0]
    ∧ win0_2.index t = ![0, 0]
    ∧ win0_3.index t = ![t.val / 3, t.val % 3] :=
  (by decide +kernel : ∀ t : Fin grid0.N, _)

/-- What the body stores at an index of the block is the reference's result at that index's place. -/
theorem point (c : Dev nD) (t : Fin cfg0.N) (y : S1024x1792.Idx) :
    k0_pay1 (F := Ideal) (iblk m c 0 t) (iblk m c 2 t) (iblk m c 1 t) y
    = Cert.ReferenceSsmInIdeal.Read.val_main_v15 (F := Ideal) (m ((c : Thread nD τ).loc main_arg0)) (m ((c : Thread nD τ).loc main_arg1)) (m ((c : Thread nD τ).loc main_arg2)) (((cfg0.win 3).blk t).view.emb y) := by
  pointwise [k0_pay1, Cert.ReferenceSsmInIdeal.Read.val_main_v0, Cert.ReferenceSsmInIdeal.Read.val_main_cst, Cert.ReferenceSsmInIdeal.Read.val_main_v1, Cert.ReferenceSsmInIdeal.Read.val_main_v2, Cert.ReferenceSsmInIdeal.Read.val_main_cst_0, Cert.ReferenceSsmInIdeal.Read.val_main_v3, Cert.ReferenceSsmInIdeal.Read.val_main_v4, Cert.ReferenceSsmInIdeal.Read.val_main_cst_1, Cert.ReferenceSsmInIdeal.Read.val_main_v5, Cert.ReferenceSsmInIdeal.Read.val_main_v6, Cert.ReferenceSsmInIdeal.Read.val_main_v7, Cert.ReferenceSsmInIdeal.Read.val_main_v8, Cert.ReferenceSsmInIdeal.Read.val_main_v9, Cert.ReferenceSsmInIdeal.Read.val_main_v10, Cert.ReferenceSsmInIdeal.Read.val_main_v11, Cert.ReferenceSsmInIdeal.Read.val_main_v12, Cert.ReferenceSsmInIdeal.Read.val_main_v13, Cert.ReferenceSsmInIdeal.Read.val_main_v14, Cert.ReferenceSsmInIdeal.Read.val_main_v15]
  blk_point [iblk, V, idx t]

/-- The array the kernel leaves is the reference's term of the arguments. -/
theorem final (c : Dev nD) : (dats m 0 c).arrAt 3 (cfgs 0).N
    = Cert.ReferenceSsmInIdeal.Read.val_main_v15 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  exact point m c t y

/-- The two programs end with the same array from the same arguments. -/
theorem algebraic : Cert.algebraic_KernelSsmInIdeal_ReferenceSsmInIdeal := by
  pair_intro
  · run_from Cert.KernelSsmInIdeal.Gen.run_main m g
  · run_from Cert.ReferenceSsmInIdeal.Value.run m' g'
    exact (Cert.ReferenceSsmInIdeal.Read.val_main_v15_eq _ _ _).trans (final m c).symm

end Cert.KernelSsmInIdeal.Product

end
-- ==== Proof.SsmOut.lean ====
/- The recurrent block's output projection plus the residual: the result array of the kernel is the reference's sum. -/
module

public import proofs.«01_k».proof.Defs
public import proofs.«01_k».proof.Proof.Gen.KernelSsmOutIdeal.Value
public import proofs.«01_k».proof.Proof.Gen.ReferenceSsmOutIdeal.Run
public import proofs.«01_k».proof.Proof.Gen.ReferenceSsmOutIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelSsmOutIdeal.Product

open Cert.KernelSsmOutIdeal Cert.KernelSsmOutIdeal.Gen

variable (m : (ℓ : Loc nD τ sig) → Buf (Elt Ideal) ℓ)

/-- The block index of every window at every grid point. -/
theorem idx : ∀ t : Fin cfg0.N, win0_0.index t = ![t.val, 0]
    ∧ win0_1.index t = ![0, 0]
    ∧ win0_2.index t = ![t.val, 0]
    ∧ win0_3.index t = ![t.val, 0] :=
  (by decide +kernel : ∀ t : Fin grid0.N, _)

/-- What the body stores at an index of the block is the reference's result at that index's place. -/
theorem point (c : Dev nD) (t : Fin cfg0.N) (y : S1024x1024.Idx) :
    k0_pay1 (F := Ideal) (iblk m c 0 t) (iblk m c 1 t) (iblk m c 2 t) y
    = Cert.ReferenceSsmOutIdeal.Read.val_main_v3 (F := Ideal) (m ((c : Thread nD τ).loc main_arg0)) (m ((c : Thread nD τ).loc main_arg1)) (m ((c : Thread nD τ).loc main_arg2)) (((cfg0.win 3).blk t).view.emb y) := by
  pointwise [k0_pay1, Cert.ReferenceSsmOutIdeal.Read.val_main_v0, Cert.ReferenceSsmOutIdeal.Read.val_main_v1, Cert.ReferenceSsmOutIdeal.Read.val_main_v2, Cert.ReferenceSsmOutIdeal.Read.val_main_v3]
  blk_point [iblk, V, idx t]

/-- The array the kernel leaves is the reference's term of the arguments. -/
theorem final (c : Dev nD) : (dats m 0 c).arrAt 3 (cfgs 0).N
    = Cert.ReferenceSsmOutIdeal.Read.val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  exact point m c t y

/-- The two programs end with the same array from the same arguments. -/
theorem algebraic : Cert.algebraic_KernelSsmOutIdeal_ReferenceSsmOutIdeal := by
  pair_intro
  · run_from Cert.KernelSsmOutIdeal.Gen.run_main m g
  · run_from Cert.ReferenceSsmOutIdeal.Value.run m' g'
    exact (Cert.ReferenceSsmOutIdeal.Read.val_main_v3_eq _ _ _).trans (final m c).symm

end Cert.KernelSsmOutIdeal.Product

end
-- ==== Proof.AdamSq.lean ====
/- The optimiser on a square weight: the four result arrays of the kernel are the reference's. -/
module

public import proofs.«01_k».proof.Defs
public import proofs.«01_k».proof.Proof.Gen.KernelAdamSqIdeal.Frame
public import proofs.«01_k».proof.Proof.Gen.ReferenceAdamSqIdeal.Run
public import proofs.«01_k».proof.Proof.Gen.ReferenceAdamSqIdeal.Read
public import Idealize.ShloMosaic.Lib.Pipeline.ValueKit
public import Idealize.ShloMosaic.Lib.Pipeline.Value
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelAdamSqIdeal.Product

open Cert.KernelAdamSqIdeal Cert.KernelAdamSqIdeal.Gen

variable (m : (ℓ : Loc nD τ sig) → Buf (Elt Ideal) ℓ)

/-- The block index of every window at every grid point. -/
theorem idx : ∀ t : Fin cfg0.N, win0_0.index t = ![0, 0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0] :=
  (by decide +kernel : ∀ t : Fin grid0.N, _)

/-- The summed gradient: what the body stores at an index of the block is the reference's result at that index's place. -/
theorem grad_point (c : Dev nD) (t : Fin cfg0.N) (y : S128x1024.Idx) :
    out0_4 (F := Ideal) (iblk m c 0 t) (iblk m c 1 t) (iblk m c 2 t) (iblk m c 3 t) y
    = Cert.ReferenceAdamSqIdeal.Read.val_main_v1 (F := Ideal) (m ((c : Thread nD τ).loc main_arg0)) (((cfg0.win 4).blk t).view.emb y) := by
  unfold out0_4
  frame_out
  pointwise [k0_pay1, k0_pay2, k0_pay3, k0_pay4, k0_pay5, Cert.ReferenceAdamSqIdeal.Read.val_main_v0, Cert.ReferenceAdamSqIdeal.Read.val_main_cst, Cert.ReferenceAdamSqIdeal.Read.val_main_v1, Cert.ReferenceAdamSqIdeal.Read.val_main_cst_0, Cert.ReferenceAdamSqIdeal.Read.val_main_v2, Cert.ReferenceAdamSqIdeal.Read.val_main_v3, Cert.ReferenceAdamSqIdeal.Read.val_main_cst_1, Cert.ReferenceAdamSqIdeal.Read.val_main_v4, Cert.ReferenceAdamSqIdeal.Read.val_main_v5, Cert.ReferenceAdamSqIdeal.Read.val_main_v6, Cert.ReferenceAdamSqIdeal.Read.val_main_cst_2, Cert.ReferenceAdamSqIdeal.Read.val_main_v7, Cert.ReferenceAdamSqIdeal.Read.val_main_v8, Cert.ReferenceAdamSqIdeal.Read.val_main_v9, Cert.ReferenceAdamSqIdeal.Read.val_main_cst_3, Cert.ReferenceAdamSqIdeal.Read.val_main_v10, Cert.ReferenceAdamSqIdeal.Read.val_main_v11, Cert.ReferenceAdamSqIdeal.Read.val_main_v12, Cert.ReferenceAdamSqIdeal.Read.val_main_cst_4, Cert.ReferenceAdamSqIdeal.Read.val_main_v13, Cert.ReferenceAdamSqIdeal.Read.val_main_v14, Cert.ReferenceAdamSqIdeal.Read.val_main_cst_5, Cert.ReferenceAdamSqIdeal.Read.val_main_v15, Cert.ReferenceAdamSqIdeal.Read.val_main_v16, Cert.ReferenceAdamSqIdeal.Read.val_main_v17, Cert.ReferenceAdamSqIdeal.Read.val_main_cst_6, Cert.ReferenceAdamSqIdeal.Read.val_main_v18, Cert.ReferenceAdamSqIdeal.Read.val_main_v19, Cert.ReferenceAdamSqIdeal.Read.val_main_v20, Cert.ReferenceAdamSqIdeal.Read.val_main_cst_7, Cert.ReferenceAdamSqIdeal.Read.val_main_v21, Cert.ReferenceAdamSqIdeal.Read.val_main_v22, Cert.ReferenceAdamSqIdeal.Read.val_main_v23, Cert.ReferenceAdamSqIdeal.Read.val_main_cst_8, Cert.ReferenceAdamSqIdeal.Read.val_main_v24, Cert.ReferenceAdamSqIdeal.Read.val_main_v25]
  simp only [Fin.sum_univ_eight, zero_add]
  blk_point [iblk, V, idx t]

/-- The summed gradient: the array the kernel leaves is the reference's term of the arguments. -/
theorem grad (c : Dev nD) : (dats m 0 c).arrAt 4 (cfgs 0).N = Cert.ReferenceAdamSqIdeal.Read.val_main_v1 (F := Ideal) (m ((c : Thread nD τ).loc main_arg0)) := by
  refine (dats m 0 c).arrAt_eq_of_covers 4 _ (by decide +kernel) fun t hf y => ?_
  blk_simp
  rw [after0_4]
  exact grad_point m c t y

/-- The step of the weight: what the body stores at an index of the block is the reference's result at that index's place. -/
theorem delta_point (c : Dev nD) (t : Fin cfg0.N) (y : S128x1024.Idx) :
    out0_5 (F := Ideal) (iblk m c 0 t) (iblk m c 1 t) (iblk m c 2 t) (iblk m c 3 t) y
    = Cert.ReferenceAdamSqIdeal.Read.val_main_v25 (F := Ideal) (m ((c : Thread nD τ).loc main_arg0)) (m ((c : Thread nD τ).loc main_arg1)) (m ((c : Thread nD τ).loc main_arg2)) (m ((c : Thread nD τ).loc main_arg3)) (((cfg0.win 5).blk t).view.emb y) := by
  unfold out0_5
  frame_out
  pointwise [k0_pay1, k0_pay2, k0_pay3, k0_pay4, k0_pay5, Cert.ReferenceAdamSqIdeal.Read.val_main_v0, Cert.ReferenceAdamSqIdeal.Read.val_main_cst, Cert.ReferenceAdamSqIdeal.Read.val_main_v1, Cert.ReferenceAdamSqIdeal.Read.val_main_cst_0, Cert.ReferenceAdamSqIdeal.Read.val_main_v2, Cert.ReferenceAdamSqIdeal.Read.val_main_v3, Cert.ReferenceAdamSqIdeal.Read.val_main_cst_1, Cert.ReferenceAdamSqIdeal.Read.val_main_v4, Cert.ReferenceAdamSqIdeal.Read.val_main_v5, Cert.ReferenceAdamSqIdeal.Read.val_main_v6, Cert.ReferenceAdamSqIdeal.Read.val_main_cst_2, Cert.ReferenceAdamSqIdeal.Read.val_main_v7, Cert.ReferenceAdamSqIdeal.Read.val_main_v8, Cert.ReferenceAdamSqIdeal.Read.val_main_v9, Cert.ReferenceAdamSqIdeal.Read.val_main_cst_3, Cert.ReferenceAdamSqIdeal.Read.val_main_v10, Cert.ReferenceAdamSqIdeal.Read.val_main_v11, Cert.ReferenceAdamSqIdeal.Read.val_main_v12, Cert.ReferenceAdamSqIdeal.Read.val_main_cst_4, Cert.ReferenceAdamSqIdeal.Read.val_main_v13, Cert.ReferenceAdamSqIdeal.Read.val_main_v14, Cert.ReferenceAdamSqIdeal.Read.val_main_cst_5, Cert.ReferenceAdamSqIdeal.Read.val_main_v15, Cert.ReferenceAdamSqIdeal.Read.val_main_v16, Cert.ReferenceAdamSqIdeal.Read.val_main_v17, Cert.ReferenceAdamSqIdeal.Read.val_main_cst_6, Cert.ReferenceAdamSqIdeal.Read.val_main_v18, Cert.ReferenceAdamSqIdeal.Read.val_main_v19, Cert.ReferenceAdamSqIdeal.Read.val_main_v20, Cert.ReferenceAdamSqIdeal.Read.val_main_cst_7, Cert.ReferenceAdamSqIdeal.Read.val_main_v21, Cert.ReferenceAdamSqIdeal.Read.val_main_v22, Cert.ReferenceAdamSqIdeal.Read.val_main_v23, Cert.ReferenceAdamSqIdeal.Read.val_main_cst_8, Cert.ReferenceAdamSqIdeal.Read.val_main_v24, Cert.ReferenceAdamSqIdeal.Read.val_main_v25]
  simp only [Fin.sum_univ_eight, zero_add]
  blk_point [iblk, V, idx t]

/-- The step of the weight: the array the kernel leaves is the reference's term of the arguments. -/
theorem delta (c : Dev nD) : (dats m 0 c).arrAt 5 (cfgs 0).N = Cert.ReferenceAdamSqIdeal.Read.val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  exact delta_point m c t y

/-- The new first moment: what the body stores at an index of the block is the reference's result at that index's place. -/
theorem mean_point (c : Dev nD) (t : Fin cfg0.N) (y : S128x1024.Idx) :
    out0_6 (F := Ideal) (iblk m c 0 t) (iblk m c 1 t) (iblk m c 2 t) (iblk m c 3 t) y
    = Cert.ReferenceAdamSqIdeal.Read.val_main_v6 (F := Ideal) (m ((c : Thread nD τ).loc main_arg0)) (m ((c : Thread nD τ).loc main_arg2)) (((cfg0.win 6).blk t).view.emb y) := by
  unfold out0_6
  frame_out
  pointwise [k0_pay1, k0_pay2, k0_pay3, k0_pay4, k0_pay5, Cert.ReferenceAdamSqIdeal.Read.val_main_v0, Cert.ReferenceAdamSqIdeal.Read.val_main_cst, Cert.ReferenceAdamSqIdeal.Read.val_main_v1, Cert.ReferenceAdamSqIdeal.Read.val_main_cst_0, Cert.ReferenceAdamSqIdeal.Read.val_main_v2, Cert.ReferenceAdamSqIdeal.Read.val_main_v3, Cert.ReferenceAdamSqIdeal.Read.val_main_cst_1, Cert.ReferenceAdamSqIdeal.Read.val_main_v4, Cert.ReferenceAdamSqIdeal.Read.val_main_v5, Cert.ReferenceAdamSqIdeal.Read.val_main_v6, Cert.ReferenceAdamSqIdeal.Read.val_main_cst_2, Cert.ReferenceAdamSqIdeal.Read.val_main_v7, Cert.ReferenceAdamSqIdeal.Read.val_main_v8, Cert.ReferenceAdamSqIdeal.Read.val_main_v9, Cert.ReferenceAdamSqIdeal.Read.val_main_cst_3, Cert.ReferenceAdamSqIdeal.Read.val_main_v10, Cert.ReferenceAdamSqIdeal.Read.val_main_v11, Cert.ReferenceAdamSqIdeal.Read.val_main_v12, Cert.ReferenceAdamSqIdeal.Read.val_main_cst_4, Cert.ReferenceAdamSqIdeal.Read.val_main_v13, Cert.ReferenceAdamSqIdeal.Read.val_main_v14, Cert.ReferenceAdamSqIdeal.Read.val_main_cst_5, Cert.ReferenceAdamSqIdeal.Read.val_main_v15, Cert.ReferenceAdamSqIdeal.Read.val_main_v16, Cert.ReferenceAdamSqIdeal.Read.val_main_v17, Cert.ReferenceAdamSqIdeal.Read.val_main_cst_6, Cert.ReferenceAdamSqIdeal.Read.val_main_v18, Cert.ReferenceAdamSqIdeal.Read.val_main_v19, Cert.ReferenceAdamSqIdeal.Read.val_main_v20, Cert.ReferenceAdamSqIdeal.Read.val_main_cst_7, Cert.ReferenceAdamSqIdeal.Read.val_main_v21, Cert.ReferenceAdamSqIdeal.Read.val_main_v22, Cert.ReferenceAdamSqIdeal.Read.val_main_v23, Cert.ReferenceAdamSqIdeal.Read.val_main_cst_8, Cert.ReferenceAdamSqIdeal.Read.val_main_v24, Cert.ReferenceAdamSqIdeal.Read.val_main_v25]
  simp only [Fin.sum_univ_eight, zero_add]
  blk_point [iblk, V, idx t]

/-- The new first moment: the array the kernel leaves is the reference's term of the arguments. -/
theorem mean (c : Dev nD) : (dats m 0 c).arrAt 6 (cfgs 0).N = Cert.ReferenceAdamSqIdeal.Read.val_main_v6 (F := Ideal) (m ((c : Thread nD τ).loc main_arg0)) (m ((c : Thread nD τ).loc main_arg2)) := by
  refine (dats m 0 c).arrAt_eq_of_covers 6 _ (by decide +kernel) fun t hf y => ?_
  blk_simp
  rw [after0_6]
  exact mean_point m c t y

/-- The new second moment: what the body stores at an index of the block is the reference's result at that index's place. -/
theorem square_point (c : Dev nD) (t : Fin cfg0.N) (y : S128x1024.Idx) :
    out0_7 (F := Ideal) (iblk m c 0 t) (iblk m c 1 t) (iblk m c 2 t) (iblk m c 3 t) y
    = Cert.ReferenceAdamSqIdeal.Read.val_main_v12 (F := Ideal) (m ((c : Thread nD τ).loc main_arg0)) (m ((c : Thread nD τ).loc main_arg3)) (((cfg0.win 7).blk t).view.emb y) := by
  unfold out0_7
  frame_out
  pointwise [k0_pay1, k0_pay2, k0_pay3, k0_pay4, k0_pay5, Cert.ReferenceAdamSqIdeal.Read.val_main_v0, Cert.ReferenceAdamSqIdeal.Read.val_main_cst, Cert.ReferenceAdamSqIdeal.Read.val_main_v1, Cert.ReferenceAdamSqIdeal.Read.val_main_cst_0, Cert.ReferenceAdamSqIdeal.Read.val_main_v2, Cert.ReferenceAdamSqIdeal.Read.val_main_v3, Cert.ReferenceAdamSqIdeal.Read.val_main_cst_1, Cert.ReferenceAdamSqIdeal.Read.val_main_v4, Cert.ReferenceAdamSqIdeal.Read.val_main_v5, Cert.ReferenceAdamSqIdeal.Read.val_main_v6, Cert.ReferenceAdamSqIdeal.Read.val_main_cst_2, Cert.ReferenceAdamSqIdeal.Read.val_main_v7, Cert.ReferenceAdamSqIdeal.Read.val_main_v8, Cert.ReferenceAdamSqIdeal.Read.val_main_v9, Cert.ReferenceAdamSqIdeal.Read.val_main_cst_3, Cert.ReferenceAdamSqIdeal.Read.val_main_v10, Cert.ReferenceAdamSqIdeal.Read.val_main_v11, Cert.ReferenceAdamSqIdeal.Read.val_main_v12, Cert.ReferenceAdamSqIdeal.Read.val_main_cst_4, Cert.ReferenceAdamSqIdeal.Read.val_main_v13, Cert.ReferenceAdamSqIdeal.Read.val_main_v14, Cert.ReferenceAdamSqIdeal.Read.val_main_cst_5, Cert.ReferenceAdamSqIdeal.Read.val_main_v15, Cert.ReferenceAdamSqIdeal.Read.val_main_v16, Cert.ReferenceAdamSqIdeal.Read.val_main_v17, Cert.ReferenceAdamSqIdeal.Read.val_main_cst_6, Cert.ReferenceAdamSqIdeal.Read.val_main_v18, Cert.ReferenceAdamSqIdeal.Read.val_main_v19, Cert.ReferenceAdamSqIdeal.Read.val_main_v20, Cert.ReferenceAdamSqIdeal.Read.val_main_cst_7, Cert.ReferenceAdamSqIdeal.Read.val_main_v21, Cert.ReferenceAdamSqIdeal.Read.val_main_v22, Cert.ReferenceAdamSqIdeal.Read.val_main_v23, Cert.ReferenceAdamSqIdeal.Read.val_main_cst_8, Cert.ReferenceAdamSqIdeal.Read.val_main_v24, Cert.ReferenceAdamSqIdeal.Read.val_main_v25]
  simp only [Fin.sum_univ_eight, zero_add]
  blk_point [iblk, V, idx t]

/-- The new second moment: the array the kernel leaves is the reference's term of the arguments. -/
theorem square (c : Dev nD) : (dats m 0 c).arrAt 7 (cfgs 0).N = Cert.ReferenceAdamSqIdeal.Read.val_main_v12 (F := Ideal) (m ((c : Thread nD τ).loc main_arg0)) (m ((c : Thread nD τ).loc main_arg3)) := by
  refine (dats m 0 c).arrAt_eq_of_covers 7 _ (by decide +kernel) fun t hf y => ?_
  blk_simp
  rw [after0_7]
  exact square_point m c t y

/-- The two programs end with the same arrays from the same arguments. -/
theorem algebraic : Cert.algebraic_KernelAdamSqIdeal_ReferenceAdamSqIdeal := by
  pair_intro
  · run_from Cert.KernelAdamSqIdeal.Gen.run_main m g
  · refine Idealize.ShloMosaic.θ_run_mono (Cert.ReferenceAdamSqIdeal.Value.run m' g') fun r hr c => ?_
    have e0 := (hagree c).1
    have e1 := (hagree c).2.1
    have e2 := (hagree c).2.2.1
    have e3 := (hagree c).2.2.2
    refine ⟨(hr c).1.trans ?_, (hr c).2.1.trans ?_, (hr c).2.2.1.trans ?_, (hr c).2.2.2.1.trans ?_, (hr c).2.2.2.2⟩
    · rw [e0]
      exact (Cert.ReferenceAdamSqIdeal.Read.val_main_v1_eq _).trans (grad m c).symm
    · rw [e0, e1, e2, e3]
      exact (Cert.ReferenceAdamSqIdeal.Read.val_main_v25_eq _ _ _ _).trans (delta m c).symm
    · rw [e0, e2]
      exact (Cert.ReferenceAdamSqIdeal.Read.val_main_v6_eq _ _).trans (mean m c).symm
    · rw [e0, e3]
      exact (Cert.ReferenceAdamSqIdeal.Read.val_main_v12_eq _ _).trans (square m c).symm

end Cert.KernelAdamSqIdeal.Product

end
-- ==== Proof.AdamSsmOut.lean ====
/- The optimiser on the output weight of the recurrent block: the four result arrays of the kernel are the reference's. -/
module

public import proofs.«01_k».proof.Defs
public import proofs.«01_k».proof.Proof.Gen.KernelAdamSsmOutIdeal.Frame
public import proofs.«01_k».proof.Proof.Gen.ReferenceAdamSsmOutIdeal.Run
public import proofs.«01_k».proof.Proof.Gen.ReferenceAdamSsmOutIdeal.Read
public import Idealize.ShloMosaic.Lib.Pipeline.ValueKit
public import Idealize.ShloMosaic.Lib.Pipeline.Value
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelAdamSsmOutIdeal.Product

open Cert.KernelAdamSsmOutIdeal Cert.KernelAdamSsmOutIdeal.Gen

variable (m : (ℓ : Loc nD τ sig) → Buf (Elt Ideal) ℓ)

/-- The block index of every window at every grid point. -/
theorem idx : ∀ t : Fin cfg0.N, win0_0.index t = ![0, 0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0] :=
  (by decide +kernel : ∀ t : Fin grid0.N, _)

/-- The summed gradient: what the body stores at an index of the block is the reference's result at that index's place. -/
theorem grad_point (c : Dev nD) (t : Fin cfg0.N) (y : S256x1024.Idx) :
    out0_4 (F := Ideal) (iblk m c 0 t) (iblk m c 1 t) (iblk m c 2 t) (iblk m c 3 t) y
    = Cert.ReferenceAdamSsmOutIdeal.Read.val_main_v1 (F := Ideal) (m ((c : Thread nD τ).loc main_arg0)) (((cfg0.win 4).blk t).view.emb y) := by
  unfold out0_4
  frame_out
  pointwise [k0_pay1, k0_pay2, k0_pay3, k0_pay4, k0_pay5, Cert.ReferenceAdamSsmOutIdeal.Read.val_main_v0, Cert.ReferenceAdamSsmOutIdeal.Read.val_main_cst, Cert.ReferenceAdamSsmOutIdeal.Read.val_main_v1, Cert.ReferenceAdamSsmOutIdeal.Read.val_main_cst_0, Cert.ReferenceAdamSsmOutIdeal.Read.val_main_v2, Cert.ReferenceAdamSsmOutIdeal.Read.val_main_v3, Cert.ReferenceAdamSsmOutIdeal.Read.val_main_cst_1, Cert.ReferenceAdamSsmOutIdeal.Read.val_main_v4, Cert.ReferenceAdamSsmOutIdeal.Read.val_main_v5, Cert.ReferenceAdamSsmOutIdeal.Read.val_main_v6, Cert.ReferenceAdamSsmOutIdeal.Read.val_main_cst_2, Cert.ReferenceAdamSsmOutIdeal.Read.val_main_v7, Cert.ReferenceAdamSsmOutIdeal.Read.val_main_v8, Cert.ReferenceAdamSsmOutIdeal.Read.val_main_v9, Cert.ReferenceAdamSsmOutIdeal.Read.val_main_cst_3, Cert.ReferenceAdamSsmOutIdeal.Read.val_main_v10, Cert.ReferenceAdamSsmOutIdeal.Read.val_main_v11, Cert.ReferenceAdamSsmOutIdeal.Read.val_main_v12, Cert.ReferenceAdamSsmOutIdeal.Read.val_main_cst_4, Cert.ReferenceAdamSsmOutIdeal.Read.val_main_v13, Cert.ReferenceAdamSsmOutIdeal.Read.val_main_v14, Cert.ReferenceAdamSsmOutIdeal.Read.val_main_cst_5, Cert.ReferenceAdamSsmOutIdeal.Read.val_main_v15, Cert.ReferenceAdamSsmOutIdeal.Read.val_main_v16, Cert.ReferenceAdamSsmOutIdeal.Read.val_main_v17, Cert.ReferenceAdamSsmOutIdeal.Read.val_main_cst_6, Cert.ReferenceAdamSsmOutIdeal.Read.val_main_v18, Cert.ReferenceAdamSsmOutIdeal.Read.val_main_v19, Cert.ReferenceAdamSsmOutIdeal.Read.val_main_v20, Cert.ReferenceAdamSsmOutIdeal.Read.val_main_cst_7, Cert.ReferenceAdamSsmOutIdeal.Read.val_main_v21, Cert.ReferenceAdamSsmOutIdeal.Read.val_main_v22, Cert.ReferenceAdamSsmOutIdeal.Read.val_main_v23, Cert.ReferenceAdamSsmOutIdeal.Read.val_main_cst_8, Cert.ReferenceAdamSsmOutIdeal.Read.val_main_v24, Cert.ReferenceAdamSsmOutIdeal.Read.val_main_v25]
  simp only [Fin.sum_univ_eight, zero_add]
  blk_point [iblk, V, idx t]

/-- The summed gradient: the array the kernel leaves is the reference's term of the arguments. -/
theorem grad (c : Dev nD) : (dats m 0 c).arrAt 4 (cfgs 0).N = Cert.ReferenceAdamSsmOutIdeal.Read.val_main_v1 (F := Ideal) (m ((c : Thread nD τ).loc main_arg0)) := by
  refine (dats m 0 c).arrAt_eq_of_covers 4 _ (by decide +kernel) fun t hf y => ?_
  blk_simp
  rw [after0_4]
  exact grad_point m c t y

/-- The step of the weight: what the body stores at an index of the block is the reference's result at that index's place. -/
theorem delta_point (c : Dev nD) (t : Fin cfg0.N) (y : S256x1024.Idx) :
    out0_5 (F := Ideal) (iblk m c 0 t) (iblk m c 1 t) (iblk m c 2 t) (iblk m c 3 t) y
    = Cert.ReferenceAdamSsmOutIdeal.Read.val_main_v25 (F := Ideal) (m ((c : Thread nD τ).loc main_arg0)) (m ((c : Thread nD τ).loc main_arg1)) (m ((c : Thread nD τ).loc main_arg2)) (m ((c : Thread nD τ).loc main_arg3)) (((cfg0.win 5).blk t).view.emb y) := by
  unfold out0_5
  frame_out
  pointwise [k0_pay1, k0_pay2, k0_pay3, k0_pay4, k0_pay5, Cert.ReferenceAdamSsmOutIdeal.Read.val_main_v0, Cert.ReferenceAdamSsmOutIdeal.Read.val_main_cst, Cert.ReferenceAdamSsmOutIdeal.Read.val_main_v1, Cert.ReferenceAdamSsmOutIdeal.Read.val_main_cst_0, Cert.ReferenceAdamSsmOutIdeal.Read.val_main_v2, Cert.ReferenceAdamSsmOutIdeal.Read.val_main_v3, Cert.ReferenceAdamSsmOutIdeal.Read.val_main_cst_1, Cert.ReferenceAdamSsmOutIdeal.Read.val_main_v4, Cert.ReferenceAdamSsmOutIdeal.Read.val_main_v5, Cert.ReferenceAdamSsmOutIdeal.Read.val_main_v6, Cert.ReferenceAdamSsmOutIdeal.Read.val_main_cst_2, Cert.ReferenceAdamSsmOutIdeal.Read.val_main_v7, Cert.ReferenceAdamSsmOutIdeal.Read.val_main_v8, Cert.ReferenceAdamSsmOutIdeal.Read.val_main_v9, Cert.ReferenceAdamSsmOutIdeal.Read.val_main_cst_3, Cert.ReferenceAdamSsmOutIdeal.Read.val_main_v10, Cert.ReferenceAdamSsmOutIdeal.Read.val_main_v11, Cert.ReferenceAdamSsmOutIdeal.Read.val_main_v12, Cert.ReferenceAdamSsmOutIdeal.Read.val_main_cst_4, Cert.ReferenceAdamSsmOutIdeal.Read.val_main_v13, Cert.ReferenceAdamSsmOutIdeal.Read.val_main_v14, Cert.ReferenceAdamSsmOutIdeal.Read.val_main_cst_5, Cert.ReferenceAdamSsmOutIdeal.Read.val_main_v15, Cert.ReferenceAdamSsmOutIdeal.Read.val_main_v16, Cert.ReferenceAdamSsmOutIdeal.Read.val_main_v17, Cert.ReferenceAdamSsmOutIdeal.Read.val_main_cst_6, Cert.ReferenceAdamSsmOutIdeal.Read.val_main_v18, Cert.ReferenceAdamSsmOutIdeal.Read.val_main_v19, Cert.ReferenceAdamSsmOutIdeal.Read.val_main_v20, Cert.ReferenceAdamSsmOutIdeal.Read.val_main_cst_7, Cert.ReferenceAdamSsmOutIdeal.Read.val_main_v21, Cert.ReferenceAdamSsmOutIdeal.Read.val_main_v22, Cert.ReferenceAdamSsmOutIdeal.Read.val_main_v23, Cert.ReferenceAdamSsmOutIdeal.Read.val_main_cst_8, Cert.ReferenceAdamSsmOutIdeal.Read.val_main_v24, Cert.ReferenceAdamSsmOutIdeal.Read.val_main_v25]
  simp only [Fin.sum_univ_eight, zero_add]
  blk_point [iblk, V, idx t]

/-- The step of the weight: the array the kernel leaves is the reference's term of the arguments. -/
theorem delta (c : Dev nD) : (dats m 0 c).arrAt 5 (cfgs 0).N = Cert.ReferenceAdamSsmOutIdeal.Read.val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  exact delta_point m c t y

/-- The new first moment: what the body stores at an index of the block is the reference's result at that index's place. -/
theorem mean_point (c : Dev nD) (t : Fin cfg0.N) (y : S256x1024.Idx) :
    out0_6 (F := Ideal) (iblk m c 0 t) (iblk m c 1 t) (iblk m c 2 t) (iblk m c 3 t) y
    = Cert.ReferenceAdamSsmOutIdeal.Read.val_main_v6 (F := Ideal) (m ((c : Thread nD τ).loc main_arg0)) (m ((c : Thread nD τ).loc main_arg2)) (((cfg0.win 6).blk t).view.emb y) := by
  unfold out0_6
  frame_out
  pointwise [k0_pay1, k0_pay2, k0_pay3, k0_pay4, k0_pay5, Cert.ReferenceAdamSsmOutIdeal.Read.val_main_v0, Cert.ReferenceAdamSsmOutIdeal.Read.val_main_cst, Cert.ReferenceAdamSsmOutIdeal.Read.val_main_v1, Cert.ReferenceAdamSsmOutIdeal.Read.val_main_cst_0, Cert.ReferenceAdamSsmOutIdeal.Read.val_main_v2, Cert.ReferenceAdamSsmOutIdeal.Read.val_main_v3, Cert.ReferenceAdamSsmOutIdeal.Read.val_main_cst_1, Cert.ReferenceAdamSsmOutIdeal.Read.val_main_v4, Cert.ReferenceAdamSsmOutIdeal.Read.val_main_v5, Cert.ReferenceAdamSsmOutIdeal.Read.val_main_v6, Cert.ReferenceAdamSsmOutIdeal.Read.val_main_cst_2, Cert.ReferenceAdamSsmOutIdeal.Read.val_main_v7, Cert.ReferenceAdamSsmOutIdeal.Read.val_main_v8, Cert.ReferenceAdamSsmOutIdeal.Read.val_main_v9, Cert.ReferenceAdamSsmOutIdeal.Read.val_main_cst_3, Cert.ReferenceAdamSsmOutIdeal.Read.val_main_v10, Cert.ReferenceAdamSsmOutIdeal.Read.val_main_v11, Cert.ReferenceAdamSsmOutIdeal.Read.val_main_v12, Cert.ReferenceAdamSsmOutIdeal.Read.val_main_cst_4, Cert.ReferenceAdamSsmOutIdeal.Read.val_main_v13, Cert.ReferenceAdamSsmOutIdeal.Read.val_main_v14, Cert.ReferenceAdamSsmOutIdeal.Read.val_main_cst_5, Cert.ReferenceAdamSsmOutIdeal.Read.val_main_v15, Cert.ReferenceAdamSsmOutIdeal.Read.val_main_v16, Cert.ReferenceAdamSsmOutIdeal.Read.val_main_v17, Cert.ReferenceAdamSsmOutIdeal.Read.val_main_cst_6, Cert.ReferenceAdamSsmOutIdeal.Read.val_main_v18, Cert.ReferenceAdamSsmOutIdeal.Read.val_main_v19, Cert.ReferenceAdamSsmOutIdeal.Read.val_main_v20, Cert.ReferenceAdamSsmOutIdeal.Read.val_main_cst_7, Cert.ReferenceAdamSsmOutIdeal.Read.val_main_v21, Cert.ReferenceAdamSsmOutIdeal.Read.val_main_v22, Cert.ReferenceAdamSsmOutIdeal.Read.val_main_v23, Cert.ReferenceAdamSsmOutIdeal.Read.val_main_cst_8, Cert.ReferenceAdamSsmOutIdeal.Read.val_main_v24, Cert.ReferenceAdamSsmOutIdeal.Read.val_main_v25]
  simp only [Fin.sum_univ_eight, zero_add]
  blk_point [iblk, V, idx t]

/-- The new first moment: the array the kernel leaves is the reference's term of the arguments. -/
theorem mean (c : Dev nD) : (dats m 0 c).arrAt 6 (cfgs 0).N = Cert.ReferenceAdamSsmOutIdeal.Read.val_main_v6 (F := Ideal) (m ((c : Thread nD τ).loc main_arg0)) (m ((c : Thread nD τ).loc main_arg2)) := by
  refine (dats m 0 c).arrAt_eq_of_covers 6 _ (by decide +kernel) fun t hf y => ?_
  blk_simp
  rw [after0_6]
  exact mean_point m c t y

/-- The new second moment: what the body stores at an index of the block is the reference's result at that index's place. -/
theorem square_point (c : Dev nD) (t : Fin cfg0.N) (y : S256x1024.Idx) :
    out0_7 (F := Ideal) (iblk m c 0 t) (iblk m c 1 t) (iblk m c 2 t) (iblk m c 3 t) y
    = Cert.ReferenceAdamSsmOutIdeal.Read.val_main_v12 (F := Ideal) (m ((c : Thread nD τ).loc main_arg0)) (m ((c : Thread nD τ).loc main_arg3)) (((cfg0.win 7).blk t).view.emb y) := by
  unfold out0_7
  frame_out
  pointwise [k0_pay1, k0_pay2, k0_pay3, k0_pay4, k0_pay5, Cert.ReferenceAdamSsmOutIdeal.Read.val_main_v0, Cert.ReferenceAdamSsmOutIdeal.Read.val_main_cst, Cert.ReferenceAdamSsmOutIdeal.Read.val_main_v1, Cert.ReferenceAdamSsmOutIdeal.Read.val_main_cst_0, Cert.ReferenceAdamSsmOutIdeal.Read.val_main_v2, Cert.ReferenceAdamSsmOutIdeal.Read.val_main_v3, Cert.ReferenceAdamSsmOutIdeal.Read.val_main_cst_1, Cert.ReferenceAdamSsmOutIdeal.Read.val_main_v4, Cert.ReferenceAdamSsmOutIdeal.Read.val_main_v5, Cert.ReferenceAdamSsmOutIdeal.Read.val_main_v6, Cert.ReferenceAdamSsmOutIdeal.Read.val_main_cst_2, Cert.ReferenceAdamSsmOutIdeal.Read.val_main_v7, Cert.ReferenceAdamSsmOutIdeal.Read.val_main_v8, Cert.ReferenceAdamSsmOutIdeal.Read.val_main_v9, Cert.ReferenceAdamSsmOutIdeal.Read.val_main_cst_3, Cert.ReferenceAdamSsmOutIdeal.Read.val_main_v10, Cert.ReferenceAdamSsmOutIdeal.Read.val_main_v11, Cert.ReferenceAdamSsmOutIdeal.Read.val_main_v12, Cert.ReferenceAdamSsmOutIdeal.Read.val_main_cst_4, Cert.ReferenceAdamSsmOutIdeal.Read.val_main_v13, Cert.ReferenceAdamSsmOutIdeal.Read.val_main_v14, Cert.ReferenceAdamSsmOutIdeal.Read.val_main_cst_5, Cert.ReferenceAdamSsmOutIdeal.Read.val_main_v15, Cert.ReferenceAdamSsmOutIdeal.Read.val_main_v16, Cert.ReferenceAdamSsmOutIdeal.Read.val_main_v17, Cert.ReferenceAdamSsmOutIdeal.Read.val_main_cst_6, Cert.ReferenceAdamSsmOutIdeal.Read.val_main_v18, Cert.ReferenceAdamSsmOutIdeal.Read.val_main_v19, Cert.ReferenceAdamSsmOutIdeal.Read.val_main_v20, Cert.ReferenceAdamSsmOutIdeal.Read.val_main_cst_7, Cert.ReferenceAdamSsmOutIdeal.Read.val_main_v21, Cert.ReferenceAdamSsmOutIdeal.Read.val_main_v22, Cert.ReferenceAdamSsmOutIdeal.Read.val_main_v23, Cert.ReferenceAdamSsmOutIdeal.Read.val_main_cst_8, Cert.ReferenceAdamSsmOutIdeal.Read.val_main_v24, Cert.ReferenceAdamSsmOutIdeal.Read.val_main_v25]
  simp only [Fin.sum_univ_eight, zero_add]
  blk_point [iblk, V, idx t]

/-- The new second moment: the array the kernel leaves is the reference's term of the arguments. -/
theorem square (c : Dev nD) : (dats m 0 c).arrAt 7 (cfgs 0).N = Cert.ReferenceAdamSsmOutIdeal.Read.val_main_v12 (F := Ideal) (m ((c : Thread nD τ).loc main_arg0)) (m ((c : Thread nD τ).loc main_arg3)) := by
  refine (dats m 0 c).arrAt_eq_of_covers 7 _ (by decide +kernel) fun t hf y => ?_
  blk_simp
  rw [after0_7]
  exact square_point m c t y

/-- The two programs end with the same arrays from the same arguments. -/
theorem algebraic : Cert.algebraic_KernelAdamSsmOutIdeal_ReferenceAdamSsmOutIdeal := by
  pair_intro
  · run_from Cert.KernelAdamSsmOutIdeal.Gen.run_main m g
  · refine Idealize.ShloMosaic.θ_run_mono (Cert.ReferenceAdamSsmOutIdeal.Value.run m' g') fun r hr c => ?_
    have e0 := (hagree c).1
    have e1 := (hagree c).2.1
    have e2 := (hagree c).2.2.1
    have e3 := (hagree c).2.2.2
    refine ⟨(hr c).1.trans ?_, (hr c).2.1.trans ?_, (hr c).2.2.1.trans ?_, (hr c).2.2.2.1.trans ?_, (hr c).2.2.2.2⟩
    · rw [e0]
      exact (Cert.ReferenceAdamSsmOutIdeal.Read.val_main_v1_eq _).trans (grad m c).symm
    · rw [e0, e1, e2, e3]
      exact (Cert.ReferenceAdamSsmOutIdeal.Read.val_main_v25_eq _ _ _ _).trans (delta m c).symm
    · rw [e0, e2]
      exact (Cert.ReferenceAdamSsmOutIdeal.Read.val_main_v6_eq _ _).trans (mean m c).symm
    · rw [e0, e3]
      exact (Cert.ReferenceAdamSsmOutIdeal.Read.val_main_v12_eq _ _).trans (square m c).symm

end Cert.KernelAdamSsmOutIdeal.Product

end
-- ==== Proof.AdamSsmIn.lean ====
/- The optimiser on the input weight of the recurrent block: the four result arrays of the kernel are the reference's. -/
module

public import proofs.«01_k».proof.Defs
public import proofs.«01_k».proof.Proof.Gen.KernelAdamSsmInIdeal.Frame
public import proofs.«01_k».proof.Proof.Gen.ReferenceAdamSsmInIdeal.Run
public import proofs.«01_k».proof.Proof.Gen.ReferenceAdamSsmInIdeal.Read
public import Idealize.ShloMosaic.Lib.Pipeline.ValueKit
public import Idealize.ShloMosaic.Lib.Pipeline.Value
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelAdamSsmInIdeal.Product

open Cert.KernelAdamSsmInIdeal Cert.KernelAdamSsmInIdeal.Gen

variable (m : (ℓ : Loc nD τ sig) → Buf (Elt Ideal) ℓ)

/-- The block index of every window at every grid point. -/
theorem idx : ∀ t : Fin cfg0.N, win0_0.index t = ![0, 0, t.val]
    ∧ win0_1.index t = ![0, t.val]
    ∧ win0_2.index t = ![0, t.val]
    ∧ win0_3.index t = ![0, t.val]
    ∧ win0_4.index t = ![0, t.val]
    ∧ win0_5.index t = ![0, t.val]
    ∧ win0_6.index t = ![0, t.val]
    ∧ win0_7.index t = ![0, t.val] :=
  (by decide +kernel : ∀ t : Fin grid0.N, _)

/-- The summed gradient: what the body stores at an index of the block is the reference's result at that index's place. -/
theorem grad_point (c : Dev nD) (t : Fin cfg0.N) (y : S644x256.Idx) :
    out0_4 (F := Ideal) (iblk m c 0 t) (iblk m c 1 t) (iblk m c 2 t) (iblk m c 3 t) y
    = Cert.ReferenceAdamSsmInIdeal.Read.val_main_v1 (F := Ideal) (m ((c : Thread nD τ).loc main_arg0)) (((cfg0.win 4).blk t).view.emb y) := by
  unfold out0_4
  frame_out
  pointwise [k0_pay1, k0_pay2, k0_pay3, k0_pay4, k0_pay5, Cert.ReferenceAdamSsmInIdeal.Read.val_main_v0, Cert.ReferenceAdamSsmInIdeal.Read.val_main_cst, Cert.ReferenceAdamSsmInIdeal.Read.val_main_v1, Cert.ReferenceAdamSsmInIdeal.Read.val_main_cst_0, Cert.ReferenceAdamSsmInIdeal.Read.val_main_v2, Cert.ReferenceAdamSsmInIdeal.Read.val_main_v3, Cert.ReferenceAdamSsmInIdeal.Read.val_main_cst_1, Cert.ReferenceAdamSsmInIdeal.Read.val_main_v4, Cert.ReferenceAdamSsmInIdeal.Read.val_main_v5, Cert.ReferenceAdamSsmInIdeal.Read.val_main_v6, Cert.ReferenceAdamSsmInIdeal.Read.val_main_cst_2, Cert.ReferenceAdamSsmInIdeal.Read.val_main_v7, Cert.ReferenceAdamSsmInIdeal.Read.val_main_v8, Cert.ReferenceAdamSsmInIdeal.Read.val_main_v9, Cert.ReferenceAdamSsmInIdeal.Read.val_main_cst_3, Cert.ReferenceAdamSsmInIdeal.Read.val_main_v10, Cert.ReferenceAdamSsmInIdeal.Read.val_main_v11, Cert.ReferenceAdamSsmInIdeal.Read.val_main_v12, Cert.ReferenceAdamSsmInIdeal.Read.val_main_cst_4, Cert.ReferenceAdamSsmInIdeal.Read.val_main_v13, Cert.ReferenceAdamSsmInIdeal.Read.val_main_v14, Cert.ReferenceAdamSsmInIdeal.Read.val_main_cst_5, Cert.ReferenceAdamSsmInIdeal.Read.val_main_v15, Cert.ReferenceAdamSsmInIdeal.Read.val_main_v16, Cert.ReferenceAdamSsmInIdeal.Read.val_main_v17, Cert.ReferenceAdamSsmInIdeal.Read.val_main_cst_6, Cert.ReferenceAdamSsmInIdeal.Read.val_main_v18, Cert.ReferenceAdamSsmInIdeal.Read.val_main_v19, Cert.ReferenceAdamSsmInIdeal.Read.val_main_v20, Cert.ReferenceAdamSsmInIdeal.Read.val_main_cst_7, Cert.ReferenceAdamSsmInIdeal.Read.val_main_v21, Cert.ReferenceAdamSsmInIdeal.Read.val_main_v22, Cert.ReferenceAdamSsmInIdeal.Read.val_main_v23, Cert.ReferenceAdamSsmInIdeal.Read.val_main_cst_8, Cert.ReferenceAdamSsmInIdeal.Read.val_main_v24, Cert.ReferenceAdamSsmInIdeal.Read.val_main_v25]
  simp only [Fin.sum_univ_eight, zero_add]
  blk_point [iblk, V, idx t]

/-- The summed gradient: the array the kernel leaves is the reference's term of the arguments. -/
theorem grad (c : Dev nD) : (dats m 0 c).arrAt 4 (cfgs 0).N = Cert.ReferenceAdamSsmInIdeal.Read.val_main_v1 (F := Ideal) (m ((c : Thread nD τ).loc main_arg0)) := by
  refine (dats m 0 c).arrAt_eq_of_covers 4 _ (by decide +kernel) fun t hf y => ?_
  blk_simp
  rw [after0_4]
  exact grad_point m c t y

/-- The step of the weight: what the body stores at an index of the block is the reference's result at that index's place. -/
theorem delta_point (c : Dev nD) (t : Fin cfg0.N) (y : S644x256.Idx) :
    out0_5 (F := Ideal) (iblk m c 0 t) (iblk m c 1 t) (iblk m c 2 t) (iblk m c 3 t) y
    = Cert.ReferenceAdamSsmInIdeal.Read.val_main_v25 (F := Ideal) (m ((c : Thread nD τ).loc main_arg0)) (m ((c : Thread nD τ).loc main_arg1)) (m ((c : Thread nD τ).loc main_arg2)) (m ((c : Thread nD τ).loc main_arg3)) (((cfg0.win 5).blk t).view.emb y) := by
  unfold out0_5
  frame_out
  pointwise [k0_pay1, k0_pay2, k0_pay3, k0_pay4, k0_pay5, Cert.ReferenceAdamSsmInIdeal.Read.val_main_v0, Cert.ReferenceAdamSsmInIdeal.Read.val_main_cst, Cert.ReferenceAdamSsmInIdeal.Read.val_main_v1, Cert.ReferenceAdamSsmInIdeal.Read.val_main_cst_0, Cert.ReferenceAdamSsmInIdeal.Read.val_main_v2, Cert.ReferenceAdamSsmInIdeal.Read.val_main_v3, Cert.ReferenceAdamSsmInIdeal.Read.val_main_cst_1, Cert.ReferenceAdamSsmInIdeal.Read.val_main_v4, Cert.ReferenceAdamSsmInIdeal.Read.val_main_v5, Cert.ReferenceAdamSsmInIdeal.Read.val_main_v6, Cert.ReferenceAdamSsmInIdeal.Read.val_main_cst_2, Cert.ReferenceAdamSsmInIdeal.Read.val_main_v7, Cert.ReferenceAdamSsmInIdeal.Read.val_main_v8, Cert.ReferenceAdamSsmInIdeal.Read.val_main_v9, Cert.ReferenceAdamSsmInIdeal.Read.val_main_cst_3, Cert.ReferenceAdamSsmInIdeal.Read.val_main_v10, Cert.ReferenceAdamSsmInIdeal.Read.val_main_v11, Cert.ReferenceAdamSsmInIdeal.Read.val_main_v12, Cert.ReferenceAdamSsmInIdeal.Read.val_main_cst_4, Cert.ReferenceAdamSsmInIdeal.Read.val_main_v13, Cert.ReferenceAdamSsmInIdeal.Read.val_main_v14, Cert.ReferenceAdamSsmInIdeal.Read.val_main_cst_5, Cert.ReferenceAdamSsmInIdeal.Read.val_main_v15, Cert.ReferenceAdamSsmInIdeal.Read.val_main_v16, Cert.ReferenceAdamSsmInIdeal.Read.val_main_v17, Cert.ReferenceAdamSsmInIdeal.Read.val_main_cst_6, Cert.ReferenceAdamSsmInIdeal.Read.val_main_v18, Cert.ReferenceAdamSsmInIdeal.Read.val_main_v19, Cert.ReferenceAdamSsmInIdeal.Read.val_main_v20, Cert.ReferenceAdamSsmInIdeal.Read.val_main_cst_7, Cert.ReferenceAdamSsmInIdeal.Read.val_main_v21, Cert.ReferenceAdamSsmInIdeal.Read.val_main_v22, Cert.ReferenceAdamSsmInIdeal.Read.val_main_v23, Cert.ReferenceAdamSsmInIdeal.Read.val_main_cst_8, Cert.ReferenceAdamSsmInIdeal.Read.val_main_v24, Cert.ReferenceAdamSsmInIdeal.Read.val_main_v25]
  simp only [Fin.sum_univ_eight, zero_add]
  blk_point [iblk, V, idx t]

/-- The step of the weight: the array the kernel leaves is the reference's term of the arguments. -/
theorem delta (c : Dev nD) : (dats m 0 c).arrAt 5 (cfgs 0).N = Cert.ReferenceAdamSsmInIdeal.Read.val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  exact delta_point m c t y

/-- The new first moment: what the body stores at an index of the block is the reference's result at that index's place. -/
theorem mean_point (c : Dev nD) (t : Fin cfg0.N) (y : S644x256.Idx) :
    out0_6 (F := Ideal) (iblk m c 0 t) (iblk m c 1 t) (iblk m c 2 t) (iblk m c 3 t) y
    = Cert.ReferenceAdamSsmInIdeal.Read.val_main_v6 (F := Ideal) (m ((c : Thread nD τ).loc main_arg0)) (m ((c : Thread nD τ).loc main_arg2)) (((cfg0.win 6).blk t).view.emb y) := by
  unfold out0_6
  frame_out
  pointwise [k0_pay1, k0_pay2, k0_pay3, k0_pay4, k0_pay5, Cert.ReferenceAdamSsmInIdeal.Read.val_main_v0, Cert.ReferenceAdamSsmInIdeal.Read.val_main_cst, Cert.ReferenceAdamSsmInIdeal.Read.val_main_v1, Cert.ReferenceAdamSsmInIdeal.Read.val_main_cst_0, Cert.ReferenceAdamSsmInIdeal.Read.val_main_v2, Cert.ReferenceAdamSsmInIdeal.Read.val_main_v3, Cert.ReferenceAdamSsmInIdeal.Read.val_main_cst_1, Cert.ReferenceAdamSsmInIdeal.Read.val_main_v4, Cert.ReferenceAdamSsmInIdeal.Read.val_main_v5, Cert.ReferenceAdamSsmInIdeal.Read.val_main_v6, Cert.ReferenceAdamSsmInIdeal.Read.val_main_cst_2, Cert.ReferenceAdamSsmInIdeal.Read.val_main_v7, Cert.ReferenceAdamSsmInIdeal.Read.val_main_v8, Cert.ReferenceAdamSsmInIdeal.Read.val_main_v9, Cert.ReferenceAdamSsmInIdeal.Read.val_main_cst_3, Cert.ReferenceAdamSsmInIdeal.Read.val_main_v10, Cert.ReferenceAdamSsmInIdeal.Read.val_main_v11, Cert.ReferenceAdamSsmInIdeal.Read.val_main_v12, Cert.ReferenceAdamSsmInIdeal.Read.val_main_cst_4, Cert.ReferenceAdamSsmInIdeal.Read.val_main_v13, Cert.ReferenceAdamSsmInIdeal.Read.val_main_v14, Cert.ReferenceAdamSsmInIdeal.Read.val_main_cst_5, Cert.ReferenceAdamSsmInIdeal.Read.val_main_v15, Cert.ReferenceAdamSsmInIdeal.Read.val_main_v16, Cert.ReferenceAdamSsmInIdeal.Read.val_main_v17, Cert.ReferenceAdamSsmInIdeal.Read.val_main_cst_6, Cert.ReferenceAdamSsmInIdeal.Read.val_main_v18, Cert.ReferenceAdamSsmInIdeal.Read.val_main_v19, Cert.ReferenceAdamSsmInIdeal.Read.val_main_v20, Cert.ReferenceAdamSsmInIdeal.Read.val_main_cst_7, Cert.ReferenceAdamSsmInIdeal.Read.val_main_v21, Cert.ReferenceAdamSsmInIdeal.Read.val_main_v22, Cert.ReferenceAdamSsmInIdeal.Read.val_main_v23, Cert.ReferenceAdamSsmInIdeal.Read.val_main_cst_8, Cert.ReferenceAdamSsmInIdeal.Read.val_main_v24, Cert.ReferenceAdamSsmInIdeal.Read.val_main_v25]
  simp only [Fin.sum_univ_eight, zero_add]
  blk_point [iblk, V, idx t]

/-- The new first moment: the array the kernel leaves is the reference's term of the arguments. -/
theorem mean (c : Dev nD) : (dats m 0 c).arrAt 6 (cfgs 0).N = Cert.ReferenceAdamSsmInIdeal.Read.val_main_v6 (F := Ideal) (m ((c : Thread nD τ).loc main_arg0)) (m ((c : Thread nD τ).loc main_arg2)) := by
  refine (dats m 0 c).arrAt_eq_of_covers 6 _ (by decide +kernel) fun t hf y => ?_
  blk_simp
  rw [after0_6]
  exact mean_point m c t y

/-- The new second moment: what the body stores at an index of the block is the reference's result at that index's place. -/
theorem square_point (c : Dev nD) (t : Fin cfg0.N) (y : S644x256.Idx) :
    out0_7 (F := Ideal) (iblk m c 0 t) (iblk m c 1 t) (iblk m c 2 t) (iblk m c 3 t) y
    = Cert.ReferenceAdamSsmInIdeal.Read.val_main_v12 (F := Ideal) (m ((c : Thread nD τ).loc main_arg0)) (m ((c : Thread nD τ).loc main_arg3)) (((cfg0.win 7).blk t).view.emb y) := by
  unfold out0_7
  frame_out
  pointwise [k0_pay1, k0_pay2, k0_pay3, k0_pay4, k0_pay5, Cert.ReferenceAdamSsmInIdeal.Read.val_main_v0, Cert.ReferenceAdamSsmInIdeal.Read.val_main_cst, Cert.ReferenceAdamSsmInIdeal.Read.val_main_v1, Cert.ReferenceAdamSsmInIdeal.Read.val_main_cst_0, Cert.ReferenceAdamSsmInIdeal.Read.val_main_v2, Cert.ReferenceAdamSsmInIdeal.Read.val_main_v3, Cert.ReferenceAdamSsmInIdeal.Read.val_main_cst_1, Cert.ReferenceAdamSsmInIdeal.Read.val_main_v4, Cert.ReferenceAdamSsmInIdeal.Read.val_main_v5, Cert.ReferenceAdamSsmInIdeal.Read.val_main_v6, Cert.ReferenceAdamSsmInIdeal.Read.val_main_cst_2, Cert.ReferenceAdamSsmInIdeal.Read.val_main_v7, Cert.ReferenceAdamSsmInIdeal.Read.val_main_v8, Cert.ReferenceAdamSsmInIdeal.Read.val_main_v9, Cert.ReferenceAdamSsmInIdeal.Read.val_main_cst_3, Cert.ReferenceAdamSsmInIdeal.Read.val_main_v10, Cert.ReferenceAdamSsmInIdeal.Read.val_main_v11, Cert.ReferenceAdamSsmInIdeal.Read.val_main_v12, Cert.ReferenceAdamSsmInIdeal.Read.val_main_cst_4, Cert.ReferenceAdamSsmInIdeal.Read.val_main_v13, Cert.ReferenceAdamSsmInIdeal.Read.val_main_v14, Cert.ReferenceAdamSsmInIdeal.Read.val_main_cst_5, Cert.ReferenceAdamSsmInIdeal.Read.val_main_v15, Cert.ReferenceAdamSsmInIdeal.Read.val_main_v16, Cert.ReferenceAdamSsmInIdeal.Read.val_main_v17, Cert.ReferenceAdamSsmInIdeal.Read.val_main_cst_6, Cert.ReferenceAdamSsmInIdeal.Read.val_main_v18, Cert.ReferenceAdamSsmInIdeal.Read.val_main_v19, Cert.ReferenceAdamSsmInIdeal.Read.val_main_v20, Cert.ReferenceAdamSsmInIdeal.Read.val_main_cst_7, Cert.ReferenceAdamSsmInIdeal.Read.val_main_v21, Cert.ReferenceAdamSsmInIdeal.Read.val_main_v22, Cert.ReferenceAdamSsmInIdeal.Read.val_main_v23, Cert.ReferenceAdamSsmInIdeal.Read.val_main_cst_8, Cert.ReferenceAdamSsmInIdeal.Read.val_main_v24, Cert.ReferenceAdamSsmInIdeal.Read.val_main_v25]
  simp only [Fin.sum_univ_eight, zero_add]
  blk_point [iblk, V, idx t]

/-- The new second moment: the array the kernel leaves is the reference's term of the arguments. -/
theorem square (c : Dev nD) : (dats m 0 c).arrAt 7 (cfgs 0).N = Cert.ReferenceAdamSsmInIdeal.Read.val_main_v12 (F := Ideal) (m ((c : Thread nD τ).loc main_arg0)) (m ((c : Thread nD τ).loc main_arg3)) := by
  refine (dats m 0 c).arrAt_eq_of_covers 7 _ (by decide +kernel) fun t hf y => ?_
  blk_simp
  rw [after0_7]
  exact square_point m c t y

/-- The two programs end with the same arrays from the same arguments. -/
theorem algebraic : Cert.algebraic_KernelAdamSsmInIdeal_ReferenceAdamSsmInIdeal := by
  pair_intro
  · run_from Cert.KernelAdamSsmInIdeal.Gen.run_main m g
  · refine Idealize.ShloMosaic.θ_run_mono (Cert.ReferenceAdamSsmInIdeal.Value.run m' g') fun r hr c => ?_
    have e0 := (hagree c).1
    have e1 := (hagree c).2.1
    have e2 := (hagree c).2.2.1
    have e3 := (hagree c).2.2.2
    refine ⟨(hr c).1.trans ?_, (hr c).2.1.trans ?_, (hr c).2.2.1.trans ?_, (hr c).2.2.2.1.trans ?_, (hr c).2.2.2.2⟩
    · rw [e0]
      exact (Cert.ReferenceAdamSsmInIdeal.Read.val_main_v1_eq _).trans (grad m c).symm
    · rw [e0, e1, e2, e3]
      exact (Cert.ReferenceAdamSsmInIdeal.Read.val_main_v25_eq _ _ _ _).trans (delta m c).symm
    · rw [e0, e2]
      exact (Cert.ReferenceAdamSsmInIdeal.Read.val_main_v6_eq _ _).trans (mean m c).symm
    · rw [e0, e3]
      exact (Cert.ReferenceAdamSsmInIdeal.Read.val_main_v12_eq _ _).trans (square m c).symm

end Cert.KernelAdamSsmInIdeal.Product

end
-- ==== Proof.AdamW.lean ====
/- One step of AdamW on a single weight, over the extended reals. -/
module

public import Idealize.ShloMosaic.PureOps.Ideal.Laws

@[expose] public section

noncomputable section

open Idealize.ShloMosaic

namespace Cert.AdamW

/-- The new first moment. -/
def mean (g m : EReal) : EReal :=
  Ideal.ofBits .f32 0x3F666666#32 * m + Ideal.ofBits .f32 0x3DCCCCCD#32 * g

/-- The new second moment. -/
def square (g v : EReal) : EReal :=
  Ideal.ofBits .f32 0x3F7FBE77#32 * v + Ideal.ofBits .f32 0x3A83126F#32 * (g * g)

/-- The step of the weight. -/
def step (g w m v : EReal) : EReal :=
  Ideal.ofBits .f32 0xBA83126F#32 * (Ideal.div (Ideal.div (mean g m) (Ideal.ofBits .f32 0x3F26BD02#32))
    (Ideal.sqrt (Ideal.div (square g v) (Ideal.ofBits .f32 0x3C231ACC#32)) + Ideal.ofBits .f32 0x322BCC77#32)
      + Ideal.ofBits .f32 0x3C23D70A#32 * w)

end Cert.AdamW

end
-- ==== Proof.AdamFfnUp.lean ====
/- The optimiser on the two up projections: the four result arrays of the kernel are the reference's. -/
module

public import proofs.«01_k».proof.Proof.AdamW
public import proofs.«01_k».proof.Defs
public import proofs.«01_k».proof.Proof.Gen.KernelAdamFfnUpIdeal.Frame
public import proofs.«01_k».proof.Proof.Gen.ReferenceAdamFfnUpIdeal.Run
public import proofs.«01_k».proof.Proof.Gen.ReferenceAdamFfnUpIdeal.Read
public import Idealize.ShloMosaic.Lib.Pipeline.ValueKit
public import Idealize.ShloMosaic.Lib.Pipeline.Value
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelAdamFfnUpIdeal.Product

open Cert.KernelAdamFfnUpIdeal Cert.KernelAdamFfnUpIdeal.Gen

variable (m : (ℓ : Loc nD τ sig) → Buf (Elt Ideal) ℓ)

/-- The block index of every window at every grid point. -/
theorem idx : ∀ t : Fin cfg0.N, win0_0.index t = ![0, min t.val 1, 0]
    ∧ win0_1.index t = ![0, t.val - 2, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ t.val < 4 :=
  (by decide +kernel : ∀ t : Fin grid0.N, _)

/-- The comparison that chooses the layer: the first 2 blocks are the first layer's. -/
theorem choice : ∀ t : Fin cfg0.N, Scalar.cmpi .sge (BitVec.ofNat 32 (grid0.coords t 0).val) 2#32 = if t.val < 2 then 0#1 else 1#1 :=
  (by decide +kernel : ∀ t : Fin grid0.N, _)

/-- The sum over the devices of the layer a grid point belongs to. -/
theorem sum_at (t : Fin cfg0.N) (x0 x1 : FVec Ideal S8x352x1024 .bf16) (x2 x3 x4 : FVec Ideal S352x1024 .f32) (r : Fin 352) (l : Fin 1024) :
    k0_pay7 (F := Ideal) (grid0.coords t) x0 x1 x2 x3 x4 (ix2 r l)
      = if t.val < 2 then ∑ k : Fin 8, x0 (ix3 k r l) else ∑ k : Fin 8, x1 (ix3 k r l) := by
  have hc := choice t
  unfold k0_pay7 k0_pay5
  dsimp only
  rw [hc]
  split
  · rw [Scalar.select, if_neg (by decide)]
    pointwise [k0_pay4]
    simp only [Fin.sum_univ_eight]
  · rw [Scalar.select, if_pos (by decide)]
    pointwise []
    simp only [Fin.sum_univ_eight]

/-- What the body stores for the step, from the summed gradient. -/
theorem body_step (i : grid0.Coords) (x0 x1 : FVec Ideal S8x352x1024 .bf16) (x2 x3 x4 : FVec Ideal S352x1024 .f32) (r : Fin 352) (l : Fin 1024) :
    out0_6 (F := Ideal) i x0 x1 x2 x3 x4 (ix2 r l) = Cert.AdamW.step (k0_pay7 (F := Ideal) i x0 x1 x2 x3 x4 (ix2 r l)) (x2 (ix2 r l)) (x3 (ix2 r l)) (x4 (ix2 r l)) := by
  unfold out0_6
  frame_out
  pointwise [k0_pay1, k0_pay2, k0_pay3, k0_pay6, k0_pay8, Cert.AdamW.step, Cert.AdamW.mean, Cert.AdamW.square]
  try rfl

/-- What the body stores for the first moment, from the summed gradient. -/
theorem body_mean (i : grid0.Coords) (x0 x1 : FVec Ideal S8x352x1024 .bf16) (x2 x3 x4 : FVec Ideal S352x1024 .f32) (r : Fin 352) (l : Fin 1024) :
    out0_7 (F := Ideal) i x0 x1 x2 x3 x4 (ix2 r l) = Cert.AdamW.mean (k0_pay7 (F := Ideal) i x0 x1 x2 x3 x4 (ix2 r l)) (x3 (ix2 r l)) := by
  unfold out0_7
  frame_out
  pointwise [k0_pay1, k0_pay2, k0_pay3, k0_pay6, k0_pay8, Cert.AdamW.step, Cert.AdamW.mean, Cert.AdamW.square]
  try rfl

/-- What the body stores for the second moment, from the summed gradient. -/
theorem body_square (i : grid0.Coords) (x0 x1 : FVec Ideal S8x352x1024 .bf16) (x2 x3 x4 : FVec Ideal S352x1024 .f32) (r : Fin 352) (l : Fin 1024) :
    out0_8 (F := Ideal) i x0 x1 x2 x3 x4 (ix2 r l) = Cert.AdamW.square (k0_pay7 (F := Ideal) i x0 x1 x2 x3 x4 (ix2 r l)) (x4 (ix2 r l)) := by
  unfold out0_8
  frame_out
  pointwise [k0_pay1, k0_pay2, k0_pay3, k0_pay6, k0_pay8, Cert.AdamW.step, Cert.AdamW.mean, Cert.AdamW.square]
  try rfl

section
open Cert.ReferenceAdamFfnUpIdeal.Read

/-- The reference's gradient at an index: the sum over the devices of the layer the row belongs to. -/
theorem ref_sum (a0 a1 : FVec Ideal Cert.ReferenceAdamFfnUpIdeal.S8x704x1024 .bf16) (a2 a3 a4 : FVec Ideal Cert.ReferenceAdamFfnUpIdeal.S1408x1024 .f32) (r : Fin 1408) (l : Fin 1024) :
    val_main_v4 (F := Ideal) a0 a1 (ix2 r l)
      = if h : r.val < 704 then ∑ k : Fin 8, a0 (ix3 k ⟨r.val, h⟩ l) else ∑ k : Fin 8, a1 (ix3 k ⟨r.val - 704, by omega⟩ l) := by
  pointwise [val_main_v0, val_main_cst, val_main_v1, val_main_v2, val_main_cst_0, val_main_v3, val_main_v4]

/-- The reference's step at an index, from its gradient. -/
theorem ref_step (a0 a1 : FVec Ideal Cert.ReferenceAdamFfnUpIdeal.S8x704x1024 .bf16) (a2 a3 a4 : FVec Ideal Cert.ReferenceAdamFfnUpIdeal.S1408x1024 .f32) (r : Fin 1408) (l : Fin 1024) :
    val_main_v28 (F := Ideal) a0 a1 a2 a3 a4 (ix2 r l) = Cert.AdamW.step (val_main_v4 (F := Ideal) a0 a1 (ix2 r l)) (a2 (ix2 r l)) (a3 (ix2 r l)) (a4 (ix2 r l)) := by
  pointwise [val_main_cst_1, val_main_v5, val_main_v6, val_main_cst_2, val_main_v7, val_main_v8, val_main_v9, val_main_cst_3, val_main_v10, val_main_v11, val_main_v12, val_main_cst_4, val_main_v13, val_main_v14, val_main_v15, val_main_cst_5, val_main_v16, val_main_v17, val_main_cst_6, val_main_v18, val_main_v19, val_main_v20, val_main_cst_7, val_main_v21, val_main_v22, val_main_v23, val_main_cst_8, val_main_v24, val_main_v25, val_main_v26, val_main_cst_9, val_main_v27, val_main_v28, Cert.AdamW.step, Cert.AdamW.mean, Cert.AdamW.square]
  try rfl

/-- The reference's first moment at an index, from its gradient. -/
theorem ref_mean (a0 a1 : FVec Ideal Cert.ReferenceAdamFfnUpIdeal.S8x704x1024 .bf16) (a2 a3 a4 : FVec Ideal Cert.ReferenceAdamFfnUpIdeal.S1408x1024 .f32) (r : Fin 1408) (l : Fin 1024) :
    val_main_v9 (F := Ideal) a0 a1 a3 (ix2 r l) = Cert.AdamW.mean (val_main_v4 (F := Ideal) a0 a1 (ix2 r l)) (a3 (ix2 r l)) := by
  pointwise [val_main_cst_1, val_main_v5, val_main_v6, val_main_cst_2, val_main_v7, val_main_v8, val_main_v9, val_main_cst_3, val_main_v10, val_main_v11, val_main_v12, val_main_cst_4, val_main_v13, val_main_v14, val_main_v15, val_main_cst_5, val_main_v16, val_main_v17, val_main_cst_6, val_main_v18, val_main_v19, val_main_v20, val_main_cst_7, val_main_v21, val_main_v22, val_main_v23, val_main_cst_8, val_main_v24, val_main_v25, val_main_v26, val_main_cst_9, val_main_v27, val_main_v28, Cert.AdamW.step, Cert.AdamW.mean, Cert.AdamW.square]
  try rfl

/-- The reference's second moment at an index, from its gradient. -/
theorem ref_square (a0 a1 : FVec Ideal Cert.ReferenceAdamFfnUpIdeal.S8x704x1024 .bf16) (a2 a3 a4 : FVec Ideal Cert.ReferenceAdamFfnUpIdeal.S1408x1024 .f32) (r : Fin 1408) (l : Fin 1024) :
    val_main_v15 (F := Ideal) a0 a1 a4 (ix2 r l) = Cert.AdamW.square (val_main_v4 (F := Ideal) a0 a1 (ix2 r l)) (a4 (ix2 r l)) := by
  pointwise [val_main_cst_1, val_main_v5, val_main_v6, val_main_cst_2, val_main_v7, val_main_v8, val_main_v9, val_main_cst_3, val_main_v10, val_main_v11, val_main_v12, val_main_cst_4, val_main_v13, val_main_v14, val_main_v15, val_main_cst_5, val_main_v16, val_main_v17, val_main_cst_6, val_main_v18, val_main_v19, val_main_v20, val_main_cst_7, val_main_v21, val_main_v22, val_main_v23, val_main_cst_8, val_main_v24, val_main_v25, val_main_v26, val_main_cst_9, val_main_v27, val_main_v28, Cert.AdamW.step, Cert.AdamW.mean, Cert.AdamW.square]
  try rfl

end

/-- An output block's place in its array. -/
theorem out_at (t : Fin cfg0.N) (r : Fin 352) (l : Fin 1024) (A : FVec Ideal Cert.ReferenceAdamFfnUpIdeal.S1408x1024 .f32) :
    A (((cfg0.win 5).blk t).view.emb (ix2 r l)) = A (ix2 ⟨t.val * 352 + r.val, by have := (idx t).2.2.2.2.2.2.2.2.2; omega⟩ l) := by
  have h := idx t
  blk_point [idx t]

/-- The summed gradient's block is the reference's gradient there. -/
theorem sum_point (c : Dev nD) (t : Fin cfg0.N) (r : Fin 352) (l : Fin 1024) :
    k0_pay7 (F := Ideal) (grid0.coords t) (iblk m c 0 t) (iblk m c 1 t) (iblk m c 2 t) (iblk m c 3 t) (iblk m c 4 t) (ix2 r l)
      = Cert.ReferenceAdamFfnUpIdeal.Read.val_main_v4 (F := Ideal) (m ((c : Thread nD τ).loc main_arg0)) (m ((c : Thread nD τ).loc main_arg1)) (ix2 ⟨t.val * 352 + r.val, by have := (idx t).2.2.2.2.2.2.2.2.2; omega⟩ l) := by
  have ht := (idx t).2.2.2.2.2.2.2.2.2
  have hr := r.isLt
  refine (sum_at t _ _ _ _ _ r l).trans ?_
  refine Eq.trans ?_ (ref_sum _ _ (m ((c : Thread nD τ).loc main_arg2)) (m ((c : Thread nD τ).loc main_arg3)) (m ((c : Thread nD τ).loc main_arg4)) _ l).symm
  by_cases h : t.val < 2
  · rw [if_pos h, dif_pos (show t.val * 352 + r.val < 704 by omega)]
    refine Finset.sum_congr rfl fun k _ => ?_
    have hm : min t.val 1 = t.val := by omega
    blk_point [iblk, V, idx t, hm]
  · rw [if_neg h, dif_neg (show ¬t.val * 352 + r.val < 704 by omega)]
    refine Finset.sum_congr rfl fun k _ => ?_
    have hm : t.val * 352 + r.val - 704 = (t.val - 2) * 352 + r.val := by omega
    simp only [hm]
    blk_point [iblk, V, idx t]

/-- The block of argument 2. -/
theorem in2_at (c : Dev nD) (t : Fin cfg0.N) (r : Fin 352) (l : Fin 1024) :
    iblk m c 2 t (ix2 r l) = (m ((c : Thread nD τ).loc main_arg2)) (ix2 ⟨t.val * 352 + r.val, by have := (idx t).2.2.2.2.2.2.2.2.2; omega⟩ l) := by
  blk_point [iblk, V, idx t]

/-- The block of argument 3. -/
theorem in3_at (c : Dev nD) (t : Fin cfg0.N) (r : Fin 352) (l : Fin 1024) :
    iblk m c 3 t (ix2 r l) = (m ((c : Thread nD τ).loc main_arg3)) (ix2 ⟨t.val * 352 + r.val, by have := (idx t).2.2.2.2.2.2.2.2.2; omega⟩ l) := by
  blk_point [iblk, V, idx t]

/-- The block of argument 4. -/
theorem in4_at (c : Dev nD) (t : Fin cfg0.N) (r : Fin 352) (l : Fin 1024) :
    iblk m c 4 t (ix2 r l) = (m ((c : Thread nD τ).loc main_arg4)) (ix2 ⟨t.val * 352 + r.val, by have := (idx t).2.2.2.2.2.2.2.2.2; omega⟩ l) := by
  blk_point [iblk, V, idx t]

/-- The summed gradient: the array the kernel leaves is the reference's term of the arguments. -/
theorem grad_final (c : Dev nD) : (dats m 0 c).arrAt 5 (cfgs 0).N = Cert.ReferenceAdamFfnUpIdeal.Read.val_main_v4 (F := Ideal) (m ((c : Thread nD τ).loc main_arg0)) (m ((c : Thread nD τ).loc main_arg1)) := by
  refine (dats m 0 c).arrAt_eq_of_covers 5 _ (by decide +kernel) fun t hf y => ?_
  obtain ⟨r, l, rfl⟩ : ∃ (r : Fin 352) (l : Fin 1024), y = ix2 r l := ⟨y 0, y 1, by idx_ext⟩
  blk_simp
  rw [after0_5]
  unfold out0_5
  frame_out
  exact (sum_point m c t r l).trans (out_at t r l _).symm

/-- The step of the weight: the array the kernel leaves is the reference's term of the arguments. -/
theorem delta_final (c : Dev nD) : (dats m 0 c).arrAt 6 (cfgs 0).N = Cert.ReferenceAdamFfnUpIdeal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨r, l, rfl⟩ : ∃ (r : Fin 352) (l : Fin 1024), y = ix2 r l := ⟨y 0, y 1, by idx_ext⟩
  blk_simp
  rw [after0_6]
  refine Eq.trans ?_ ((out_at t r l _).trans (ref_step (m ((c : Thread nD τ).loc main_arg0)) (m ((c : Thread nD τ).loc main_arg1)) (m ((c : Thread nD τ).loc main_arg2)) (m ((c : Thread nD τ).loc main_arg3)) (m ((c : Thread nD τ).loc main_arg4)) _ l)).symm
  refine (body_step _ _ _ _ _ _ r l).trans ?_
  rw [sum_point m c t r l, in2_at m c t r l, in3_at m c t r l, in4_at m c t r l]

/-- The new first moment: the array the kernel leaves is the reference's term of the arguments. -/
theorem mean_final (c : Dev nD) : (dats m 0 c).arrAt 7 (cfgs 0).N = Cert.ReferenceAdamFfnUpIdeal.Read.val_main_v9 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  obtain ⟨r, l, rfl⟩ : ∃ (r : Fin 352) (l : Fin 1024), y = ix2 r l := ⟨y 0, y 1, by idx_ext⟩
  blk_simp
  rw [after0_7]
  refine Eq.trans ?_ ((out_at t r l _).trans (ref_mean (m ((c : Thread nD τ).loc main_arg0)) (m ((c : Thread nD τ).loc main_arg1)) (m ((c : Thread nD τ).loc main_arg2)) (m ((c : Thread nD τ).loc main_arg3)) (m ((c : Thread nD τ).loc main_arg4)) _ l)).symm
  refine (body_mean _ _ _ _ _ _ r l).trans ?_
  rw [sum_point m c t r l, in3_at m c t r l]

/-- The new second moment: the array the kernel leaves is the reference's term of the arguments. -/
theorem square_final (c : Dev nD) : (dats m 0 c).arrAt 8 (cfgs 0).N = Cert.ReferenceAdamFfnUpIdeal.Read.val_main_v15 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  obtain ⟨r, l, rfl⟩ : ∃ (r : Fin 352) (l : Fin 1024), y = ix2 r l := ⟨y 0, y 1, by idx_ext⟩
  blk_simp
  rw [after0_8]
  refine Eq.trans ?_ ((out_at t r l _).trans (ref_square (m ((c : Thread nD τ).loc main_arg0)) (m ((c : Thread nD τ).loc main_arg1)) (m ((c : Thread nD τ).loc main_arg2)) (m ((c : Thread nD τ).loc main_arg3)) (m ((c : Thread nD τ).loc main_arg4)) _ l)).symm
  refine (body_square _ _ _ _ _ _ r l).trans ?_
  rw [sum_point m c t r l, in4_at m c t r l]

/-- The two programs end with the same arrays from the same arguments. -/
theorem algebraic : Cert.algebraic_KernelAdamFfnUpIdeal_ReferenceAdamFfnUpIdeal := by
  pair_intro
  · run_from Cert.KernelAdamFfnUpIdeal.Gen.run_main m g
  · refine Idealize.ShloMosaic.θ_run_mono (Cert.ReferenceAdamFfnUpIdeal.Value.run m' g') fun r hr c => ?_
    have e0 := (hagree c).1
    have e1 := (hagree c).2.1
    have e2 := (hagree c).2.2.1
    have e3 := (hagree c).2.2.2.1
    have e4 := (hagree c).2.2.2.2
    refine ⟨(hr c).1.trans ?_, (hr c).2.1.trans ?_, (hr c).2.2.1.trans ?_, (hr c).2.2.2.1.trans ?_, (hr c).2.2.2.2⟩
    · rw [e0, e1]
      exact (Cert.ReferenceAdamFfnUpIdeal.Read.val_main_v4_eq _ _).trans (grad_final m c).symm
    · rw [e0, e1, e2, e3, e4]
      exact (Cert.ReferenceAdamFfnUpIdeal.Read.val_main_v28_eq _ _ _ _ _).trans (delta_final m c).symm
    · rw [e0, e1, e3]
      exact (Cert.ReferenceAdamFfnUpIdeal.Read.val_main_v9_eq _ _ _).trans (mean_final m c).symm
    · rw [e0, e1, e4]
      exact (Cert.ReferenceAdamFfnUpIdeal.Read.val_main_v15_eq _ _ _).trans (square_final m c).symm

end Cert.KernelAdamFfnUpIdeal.Product

end
-- ==== Proof.AdamFfnDown.lean ====
/- The optimiser on the two down projections: the four result arrays of the kernel are the reference's. -/
module

public import proofs.«01_k».proof.Proof.AdamW
public import proofs.«01_k».proof.Defs
public import proofs.«01_k».proof.Proof.Gen.KernelAdamFfnDownIdeal.Frame
public import proofs.«01_k».proof.Proof.Gen.ReferenceAdamFfnDownIdeal.Run
public import proofs.«01_k».proof.Proof.Gen.ReferenceAdamFfnDownIdeal.Read
public import Idealize.ShloMosaic.Lib.Pipeline.ValueKit
public import Idealize.ShloMosaic.Lib.Pipeline.Value
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelAdamFfnDownIdeal.Product

open Cert.KernelAdamFfnDownIdeal Cert.KernelAdamFfnDownIdeal.Gen

variable (m : (ℓ : Loc nD τ sig) → Buf (Elt Ideal) ℓ)

/-- The block index of every window at every grid point. -/
theorem idx : ∀ t : Fin cfg0.N, win0_0.index t = ![0, min t.val 0, 0]
    ∧ win0_1.index t = ![0, t.val - 1, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ t.val < 2 :=
  (by decide +kernel : ∀ t : Fin grid0.N, _)

/-- The comparison that chooses the layer: the first 1 blocks are the first layer's. -/
theorem choice : ∀ t : Fin cfg0.N, Scalar.cmpi .sge (BitVec.ofNat 32 (grid0.coords t 0).val) 1#32 = if t.val < 1 then 0#1 else 1#1 :=
  (by decide +kernel : ∀ t : Fin grid0.N, _)

/-- The sum over the devices of the layer a grid point belongs to. -/
theorem sum_at (t : Fin cfg0.N) (x0 x1 : FVec Ideal S8x352x1024 .bf16) (x2 x3 x4 : FVec Ideal S352x1024 .f32) (r : Fin 352) (l : Fin 1024) :
    k0_pay7 (F := Ideal) (grid0.coords t) x0 x1 x2 x3 x4 (ix2 r l)
      = if t.val < 1 then ∑ k : Fin 8, x0 (ix3 k r l) else ∑ k : Fin 8, x1 (ix3 k r l) := by
  have hc := choice t
  unfold k0_pay7 k0_pay5
  dsimp only
  rw [hc]
  split
  · rw [Scalar.select, if_neg (by decide)]
    pointwise [k0_pay4]
    simp only [Fin.sum_univ_eight]
  · rw [Scalar.select, if_pos (by decide)]
    pointwise []
    simp only [Fin.sum_univ_eight]

/-- What the body stores for the step, from the summed gradient. -/
theorem body_step (i : grid0.Coords) (x0 x1 : FVec Ideal S8x352x1024 .bf16) (x2 x3 x4 : FVec Ideal S352x1024 .f32) (r : Fin 352) (l : Fin 1024) :
    out0_6 (F := Ideal) i x0 x1 x2 x3 x4 (ix2 r l) = Cert.AdamW.step (k0_pay7 (F := Ideal) i x0 x1 x2 x3 x4 (ix2 r l)) (x2 (ix2 r l)) (x3 (ix2 r l)) (x4 (ix2 r l)) := by
  unfold out0_6
  frame_out
  pointwise [k0_pay1, k0_pay2, k0_pay3, k0_pay6, k0_pay8, Cert.AdamW.step, Cert.AdamW.mean, Cert.AdamW.square]
  try rfl

/-- What the body stores for the first moment, from the summed gradient. -/
theorem body_mean (i : grid0.Coords) (x0 x1 : FVec Ideal S8x352x1024 .bf16) (x2 x3 x4 : FVec Ideal S352x1024 .f32) (r : Fin 352) (l : Fin 1024) :
    out0_7 (F := Ideal) i x0 x1 x2 x3 x4 (ix2 r l) = Cert.AdamW.mean (k0_pay7 (F := Ideal) i x0 x1 x2 x3 x4 (ix2 r l)) (x3 (ix2 r l)) := by
  unfold out0_7
  frame_out
  pointwise [k0_pay1, k0_pay2, k0_pay3, k0_pay6, k0_pay8, Cert.AdamW.step, Cert.AdamW.mean, Cert.AdamW.square]
  try rfl

/-- What the body stores for the second moment, from the summed gradient. -/
theorem body_square (i : grid0.Coords) (x0 x1 : FVec Ideal S8x352x1024 .bf16) (x2 x3 x4 : FVec Ideal S352x1024 .f32) (r : Fin 352) (l : Fin 1024) :
    out0_8 (F := Ideal) i x0 x1 x2 x3 x4 (ix2 r l) = Cert.AdamW.square (k0_pay7 (F := Ideal) i x0 x1 x2 x3 x4 (ix2 r l)) (x4 (ix2 r l)) := by
  unfold out0_8
  frame_out
  pointwise [k0_pay1, k0_pay2, k0_pay3, k0_pay6, k0_pay8, Cert.AdamW.step, Cert.AdamW.mean, Cert.AdamW.square]
  try rfl

section
open Cert.ReferenceAdamFfnDownIdeal.Read

/-- The reference's gradient at an index: the sum over the devices of the layer the row belongs to. -/
theorem ref_sum (a0 a1 : FVec Ideal Cert.ReferenceAdamFfnDownIdeal.S8x352x1024 .bf16) (a2 a3 a4 : FVec Ideal Cert.ReferenceAdamFfnDownIdeal.S704x1024 .f32) (r : Fin 704) (l : Fin 1024) :
    val_main_v4 (F := Ideal) a0 a1 (ix2 r l)
      = if h : r.val < 352 then ∑ k : Fin 8, a0 (ix3 k ⟨r.val, h⟩ l) else ∑ k : Fin 8, a1 (ix3 k ⟨r.val - 352, by omega⟩ l) := by
  pointwise [val_main_v0, val_main_cst, val_main_v1, val_main_v2, val_main_cst_0, val_main_v3, val_main_v4]

/-- The reference's step at an index, from its gradient. -/
theorem ref_step (a0 a1 : FVec Ideal Cert.ReferenceAdamFfnDownIdeal.S8x352x1024 .bf16) (a2 a3 a4 : FVec Ideal Cert.ReferenceAdamFfnDownIdeal.S704x1024 .f32) (r : Fin 704) (l : Fin 1024) :
    val_main_v28 (F := Ideal) a0 a1 a2 a3 a4 (ix2 r l) = Cert.AdamW.step (val_main_v4 (F := Ideal) a0 a1 (ix2 r l)) (a2 (ix2 r l)) (a3 (ix2 r l)) (a4 (ix2 r l)) := by
  pointwise [val_main_cst_1, val_main_v5, val_main_v6, val_main_cst_2, val_main_v7, val_main_v8, val_main_v9, val_main_cst_3, val_main_v10, val_main_v11, val_main_v12, val_main_cst_4, val_main_v13, val_main_v14, val_main_v15, val_main_cst_5, val_main_v16, val_main_v17, val_main_cst_6, val_main_v18, val_main_v19, val_main_v20, val_main_cst_7, val_main_v21, val_main_v22, val_main_v23, val_main_cst_8, val_main_v24, val_main_v25, val_main_v26, val_main_cst_9, val_main_v27, val_main_v28, Cert.AdamW.step, Cert.AdamW.mean, Cert.AdamW.square]
  try rfl

/-- The reference's first moment at an index, from its gradient. -/
theorem ref_mean (a0 a1 : FVec Ideal Cert.ReferenceAdamFfnDownIdeal.S8x352x1024 .bf16) (a2 a3 a4 : FVec Ideal Cert.ReferenceAdamFfnDownIdeal.S704x1024 .f32) (r : Fin 704) (l : Fin 1024) :
    val_main_v9 (F := Ideal) a0 a1 a3 (ix2 r l) = Cert.AdamW.mean (val_main_v4 (F := Ideal) a0 a1 (ix2 r l)) (a3 (ix2 r l)) := by
  pointwise [val_main_cst_1, val_main_v5, val_main_v6, val_main_cst_2, val_main_v7, val_main_v8, val_main_v9, val_main_cst_3, val_main_v10, val_main_v11, val_main_v12, val_main_cst_4, val_main_v13, val_main_v14, val_main_v15, val_main_cst_5, val_main_v16, val_main_v17, val_main_cst_6, val_main_v18, val_main_v19, val_main_v20, val_main_cst_7, val_main_v21, val_main_v22, val_main_v23, val_main_cst_8, val_main_v24, val_main_v25, val_main_v26, val_main_cst_9, val_main_v27, val_main_v28, Cert.AdamW.step, Cert.AdamW.mean, Cert.AdamW.square]
  try rfl

/-- The reference's second moment at an index, from its gradient. -/
theorem ref_square (a0 a1 : FVec Ideal Cert.ReferenceAdamFfnDownIdeal.S8x352x1024 .bf16) (a2 a3 a4 : FVec Ideal Cert.ReferenceAdamFfnDownIdeal.S704x1024 .f32) (r : Fin 704) (l : Fin 1024) :
    val_main_v15 (F := Ideal) a0 a1 a4 (ix2 r l) = Cert.AdamW.square (val_main_v4 (F := Ideal) a0 a1 (ix2 r l)) (a4 (ix2 r l)) := by
  pointwise [val_main_cst_1, val_main_v5, val_main_v6, val_main_cst_2, val_main_v7, val_main_v8, val_main_v9, val_main_cst_3, val_main_v10, val_main_v11, val_main_v12, val_main_cst_4, val_main_v13, val_main_v14, val_main_v15, val_main_cst_5, val_main_v16, val_main_v17, val_main_cst_6, val_main_v18, val_main_v19, val_main_v20, val_main_cst_7, val_main_v21, val_main_v22, val_main_v23, val_main_cst_8, val_main_v24, val_main_v25, val_main_v26, val_main_cst_9, val_main_v27, val_main_v28, Cert.AdamW.step, Cert.AdamW.mean, Cert.AdamW.square]
  try rfl

end

/-- An output block's place in its array. -/
theorem out_at (t : Fin cfg0.N) (r : Fin 352) (l : Fin 1024) (A : FVec Ideal Cert.ReferenceAdamFfnDownIdeal.S704x1024 .f32) :
    A (((cfg0.win 5).blk t).view.emb (ix2 r l)) = A (ix2 ⟨t.val * 352 + r.val, by have := (idx t).2.2.2.2.2.2.2.2.2; omega⟩ l) := by
  have h := idx t
  blk_point [idx t]

/-- The summed gradient's block is the reference's gradient there. -/
theorem sum_point (c : Dev nD) (t : Fin cfg0.N) (r : Fin 352) (l : Fin 1024) :
    k0_pay7 (F := Ideal) (grid0.coords t) (iblk m c 0 t) (iblk m c 1 t) (iblk m c 2 t) (iblk m c 3 t) (iblk m c 4 t) (ix2 r l)
      = Cert.ReferenceAdamFfnDownIdeal.Read.val_main_v4 (F := Ideal) (m ((c : Thread nD τ).loc main_arg0)) (m ((c : Thread nD τ).loc main_arg1)) (ix2 ⟨t.val * 352 + r.val, by have := (idx t).2.2.2.2.2.2.2.2.2; omega⟩ l) := by
  have ht := (idx t).2.2.2.2.2.2.2.2.2
  have hr := r.isLt
  refine (sum_at t _ _ _ _ _ r l).trans ?_
  refine Eq.trans ?_ (ref_sum _ _ (m ((c : Thread nD τ).loc main_arg2)) (m ((c : Thread nD τ).loc main_arg3)) (m ((c : Thread nD τ).loc main_arg4)) _ l).symm
  by_cases h : t.val < 1
  · rw [if_pos h, dif_pos (show t.val * 352 + r.val < 352 by omega)]
    refine Finset.sum_congr rfl fun k _ => ?_
    have hm : min t.val 0 = t.val := by omega
    blk_point [iblk, V, idx t, hm]
  · rw [if_neg h, dif_neg (show ¬t.val * 352 + r.val < 352 by omega)]
    refine Finset.sum_congr rfl fun k _ => ?_
    have hm : t.val * 352 + r.val - 352 = (t.val - 1) * 352 + r.val := by omega
    simp only [hm]
    blk_point [iblk, V, idx t]

/-- The block of argument 2. -/
theorem in2_at (c : Dev nD) (t : Fin cfg0.N) (r : Fin 352) (l : Fin 1024) :
    iblk m c 2 t (ix2 r l) = (m ((c : Thread nD τ).loc main_arg2)) (ix2 ⟨t.val * 352 + r.val, by have := (idx t).2.2.2.2.2.2.2.2.2; omega⟩ l) := by
  blk_point [iblk, V, idx t]

/-- The block of argument 3. -/
theorem in3_at (c : Dev nD) (t : Fin cfg0.N) (r : Fin 352) (l : Fin 1024) :
    iblk m c 3 t (ix2 r l) = (m ((c : Thread nD τ).loc main_arg3)) (ix2 ⟨t.val * 352 + r.val, by have := (idx t).2.2.2.2.2.2.2.2.2; omega⟩ l) := by
  blk_point [iblk, V, idx t]

/-- The block of argument 4. -/
theorem in4_at (c : Dev nD) (t : Fin cfg0.N) (r : Fin 352) (l : Fin 1024) :
    iblk m c 4 t (ix2 r l) = (m ((c : Thread nD τ).loc main_arg4)) (ix2 ⟨t.val * 352 + r.val, by have := (idx t).2.2.2.2.2.2.2.2.2; omega⟩ l) := by
  blk_point [iblk, V, idx t]

/-- The summed gradient: the array the kernel leaves is the reference's term of the arguments. -/
theorem grad_final (c : Dev nD) : (dats m 0 c).arrAt 5 (cfgs 0).N = Cert.ReferenceAdamFfnDownIdeal.Read.val_main_v4 (F := Ideal) (m ((c : Thread nD τ).loc main_arg0)) (m ((c : Thread nD τ).loc main_arg1)) := by
  refine (dats m 0 c).arrAt_eq_of_covers 5 _ (by decide +kernel) fun t hf y => ?_
  obtain ⟨r, l, rfl⟩ : ∃ (r : Fin 352) (l : Fin 1024), y = ix2 r l := ⟨y 0, y 1, by idx_ext⟩
  blk_simp
  rw [after0_5]
  unfold out0_5
  frame_out
  exact (sum_point m c t r l).trans (out_at t r l _).symm

/-- The step of the weight: the array the kernel leaves is the reference's term of the arguments. -/
theorem delta_final (c : Dev nD) : (dats m 0 c).arrAt 6 (cfgs 0).N = Cert.ReferenceAdamFfnDownIdeal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨r, l, rfl⟩ : ∃ (r : Fin 352) (l : Fin 1024), y = ix2 r l := ⟨y 0, y 1, by idx_ext⟩
  blk_simp
  rw [after0_6]
  refine Eq.trans ?_ ((out_at t r l _).trans (ref_step (m ((c : Thread nD τ).loc main_arg0)) (m ((c : Thread nD τ).loc main_arg1)) (m ((c : Thread nD τ).loc main_arg2)) (m ((c : Thread nD τ).loc main_arg3)) (m ((c : Thread nD τ).loc main_arg4)) _ l)).symm
  refine (body_step _ _ _ _ _ _ r l).trans ?_
  rw [sum_point m c t r l, in2_at m c t r l, in3_at m c t r l, in4_at m c t r l]

/-- The new first moment: the array the kernel leaves is the reference's term of the arguments. -/
theorem mean_final (c : Dev nD) : (dats m 0 c).arrAt 7 (cfgs 0).N = Cert.ReferenceAdamFfnDownIdeal.Read.val_main_v9 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  obtain ⟨r, l, rfl⟩ : ∃ (r : Fin 352) (l : Fin 1024), y = ix2 r l := ⟨y 0, y 1, by idx_ext⟩
  blk_simp
  rw [after0_7]
  refine Eq.trans ?_ ((out_at t r l _).trans (ref_mean (m ((c : Thread nD τ).loc main_arg0)) (m ((c : Thread nD τ).loc main_arg1)) (m ((c : Thread nD τ).loc main_arg2)) (m ((c : Thread nD τ).loc main_arg3)) (m ((c : Thread nD τ).loc main_arg4)) _ l)).symm
  refine (body_mean _ _ _ _ _ _ r l).trans ?_
  rw [sum_point m c t r l, in3_at m c t r l]

/-- The new second moment: the array the kernel leaves is the reference's term of the arguments. -/
theorem square_final (c : Dev nD) : (dats m 0 c).arrAt 8 (cfgs 0).N = Cert.ReferenceAdamFfnDownIdeal.Read.val_main_v15 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  obtain ⟨r, l, rfl⟩ : ∃ (r : Fin 352) (l : Fin 1024), y = ix2 r l := ⟨y 0, y 1, by idx_ext⟩
  blk_simp
  rw [after0_8]
  refine Eq.trans ?_ ((out_at t r l _).trans (ref_square (m ((c : Thread nD τ).loc main_arg0)) (m ((c : Thread nD τ).loc main_arg1)) (m ((c : Thread nD τ).loc main_arg2)) (m ((c : Thread nD τ).loc main_arg3)) (m ((c : Thread nD τ).loc main_arg4)) _ l)).symm
  refine (body_square _ _ _ _ _ _ r l).trans ?_
  rw [sum_point m c t r l, in4_at m c t r l]

/-- The two programs end with the same arrays from the same arguments. -/
theorem algebraic : Cert.algebraic_KernelAdamFfnDownIdeal_ReferenceAdamFfnDownIdeal := by
  pair_intro
  · run_from Cert.KernelAdamFfnDownIdeal.Gen.run_main m g
  · refine Idealize.ShloMosaic.θ_run_mono (Cert.ReferenceAdamFfnDownIdeal.Value.run m' g') fun r hr c => ?_
    have e0 := (hagree c).1
    have e1 := (hagree c).2.1
    have e2 := (hagree c).2.2.1
    have e3 := (hagree c).2.2.2.1
    have e4 := (hagree c).2.2.2.2
    refine ⟨(hr c).1.trans ?_, (hr c).2.1.trans ?_, (hr c).2.2.1.trans ?_, (hr c).2.2.2.1.trans ?_, (hr c).2.2.2.2⟩
    · rw [e0, e1]
      exact (Cert.ReferenceAdamFfnDownIdeal.Read.val_main_v4_eq _ _).trans (grad_final m c).symm
    · rw [e0, e1, e2, e3, e4]
      exact (Cert.ReferenceAdamFfnDownIdeal.Read.val_main_v28_eq _ _ _ _ _).trans (delta_final m c).symm
    · rw [e0, e1, e3]
      exact (Cert.ReferenceAdamFfnDownIdeal.Read.val_main_v9_eq _ _ _).trans (mean_final m c).symm
    · rw [e0, e1, e4]
      exact (Cert.ReferenceAdamFfnDownIdeal.Read.val_main_v15_eq _ _ _).trans (square_final m c).symm

end Cert.KernelAdamFfnDownIdeal.Product

end
-- ==== Proof.SmallSum.lean ====
/- The sum of the packed small gradients with the optimiser run on it: the four result arrays of the kernel are the reference's. -/
module

public import proofs.«01_k».proof.Defs
public import proofs.«01_k».proof.Proof.Gen.KernelSmallSumIdeal.Frame
public import proofs.«01_k».proof.Proof.Gen.ReferenceSmallSumIdeal.Run
public import proofs.«01_k».proof.Proof.Gen.ReferenceSmallSumIdeal.Read
public import Idealize.ShloMosaic.Lib.Pipeline.ValueKit
public import Idealize.ShloMosaic.Lib.Pipeline.Value
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelSmallSumIdeal.Product

open Cert.KernelSmallSumIdeal Cert.KernelSmallSumIdeal.Gen

variable (m : (ℓ : Loc nD τ sig) → Buf (Elt Ideal) ℓ)

/-- The block index of every window at every grid point. -/
theorem idx : ∀ t : Fin cfg0.N, win0_0.index t = ![0, 0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0] :=
  (by decide +kernel : ∀ t : Fin grid0.N, _)

/-- The summed gradient: what the body stores at an index of the block is the reference's result at that index's place. -/
theorem grad_point (c : Dev nD) (t : Fin cfg0.N) (y : S544x128.Idx) :
    out0_4 (F := Ideal) (iblk m c 0 t) (iblk m c 1 t) (iblk m c 2 t) (iblk m c 3 t) y
    = Cert.ReferenceSmallSumIdeal.Read.val_main_v0 (F := Ideal) (m ((c : Thread nD τ).loc main_arg0)) (((cfg0.win 4).blk t).view.emb y) := by
  unfold out0_4
  frame_out
  pointwise [k0_pay1, k0_pay2, k0_pay3, k0_pay4, k0_pay5, k0_pay6, Cert.ReferenceSmallSumIdeal.Read.val_main_cst, Cert.ReferenceSmallSumIdeal.Read.val_main_v0, Cert.ReferenceSmallSumIdeal.Read.val_main_cst_0, Cert.ReferenceSmallSumIdeal.Read.val_main_v1, Cert.ReferenceSmallSumIdeal.Read.val_main_v2, Cert.ReferenceSmallSumIdeal.Read.val_main_cst_1, Cert.ReferenceSmallSumIdeal.Read.val_main_v3, Cert.ReferenceSmallSumIdeal.Read.val_main_v4, Cert.ReferenceSmallSumIdeal.Read.val_main_v5, Cert.ReferenceSmallSumIdeal.Read.val_main_cst_2, Cert.ReferenceSmallSumIdeal.Read.val_main_v6, Cert.ReferenceSmallSumIdeal.Read.val_main_v7, Cert.ReferenceSmallSumIdeal.Read.val_main_v8, Cert.ReferenceSmallSumIdeal.Read.val_main_cst_3, Cert.ReferenceSmallSumIdeal.Read.val_main_v9, Cert.ReferenceSmallSumIdeal.Read.val_main_v10, Cert.ReferenceSmallSumIdeal.Read.val_main_v11, Cert.ReferenceSmallSumIdeal.Read.val_main_cst_4, Cert.ReferenceSmallSumIdeal.Read.val_main_v12, Cert.ReferenceSmallSumIdeal.Read.val_main_v13, Cert.ReferenceSmallSumIdeal.Read.val_main_cst_5, Cert.ReferenceSmallSumIdeal.Read.val_main_v14, Cert.ReferenceSmallSumIdeal.Read.val_main_v15, Cert.ReferenceSmallSumIdeal.Read.val_main_v16, Cert.ReferenceSmallSumIdeal.Read.val_main_cst_6, Cert.ReferenceSmallSumIdeal.Read.val_main_v17, Cert.ReferenceSmallSumIdeal.Read.val_main_v18, Cert.ReferenceSmallSumIdeal.Read.val_main_v19, Cert.ReferenceSmallSumIdeal.Read.val_main_cst_7, Cert.ReferenceSmallSumIdeal.Read.val_main_v20, Cert.ReferenceSmallSumIdeal.Read.val_main_v21, Cert.ReferenceSmallSumIdeal.Read.val_main_v22, Cert.ReferenceSmallSumIdeal.Read.val_main_cst_8, Cert.ReferenceSmallSumIdeal.Read.val_main_v23, Cert.ReferenceSmallSumIdeal.Read.val_main_v24]
  simp only [Fin.sum_univ_eight, zero_add]
  blk_point [iblk, V, idx t]

/-- The summed gradient: the array the kernel leaves is the reference's term of the arguments. -/
theorem grad (c : Dev nD) : (dats m 0 c).arrAt 4 (cfgs 0).N = Cert.ReferenceSmallSumIdeal.Read.val_main_v0 (F := Ideal) (m ((c : Thread nD τ).loc main_arg0)) := by
  refine (dats m 0 c).arrAt_eq_of_covers 4 _ (by decide +kernel) fun t hf y => ?_
  blk_simp
  rw [after0_4]
  exact grad_point m c t y

/-- The step of the weight: what the body stores at an index of the block is the reference's result at that index's place. -/
theorem delta_point (c : Dev nD) (t : Fin cfg0.N) (y : S544x128.Idx) :
    out0_5 (F := Ideal) (iblk m c 0 t) (iblk m c 1 t) (iblk m c 2 t) (iblk m c 3 t) y
    = Cert.ReferenceSmallSumIdeal.Read.val_main_v24 (F := Ideal) (m ((c : Thread nD τ).loc main_arg0)) (m ((c : Thread nD τ).loc main_arg1)) (m ((c : Thread nD τ).loc main_arg2)) (m ((c : Thread nD τ).loc main_arg3)) (((cfg0.win 5).blk t).view.emb y) := by
  unfold out0_5
  frame_out
  pointwise [k0_pay1, k0_pay2, k0_pay3, k0_pay4, k0_pay5, k0_pay6, Cert.ReferenceSmallSumIdeal.Read.val_main_cst, Cert.ReferenceSmallSumIdeal.Read.val_main_v0, Cert.ReferenceSmallSumIdeal.Read.val_main_cst_0, Cert.ReferenceSmallSumIdeal.Read.val_main_v1, Cert.ReferenceSmallSumIdeal.Read.val_main_v2, Cert.ReferenceSmallSumIdeal.Read.val_main_cst_1, Cert.ReferenceSmallSumIdeal.Read.val_main_v3, Cert.ReferenceSmallSumIdeal.Read.val_main_v4, Cert.ReferenceSmallSumIdeal.Read.val_main_v5, Cert.ReferenceSmallSumIdeal.Read.val_main_cst_2, Cert.ReferenceSmallSumIdeal.Read.val_main_v6, Cert.ReferenceSmallSumIdeal.Read.val_main_v7, Cert.ReferenceSmallSumIdeal.Read.val_main_v8, Cert.ReferenceSmallSumIdeal.Read.val_main_cst_3, Cert.ReferenceSmallSumIdeal.Read.val_main_v9, Cert.ReferenceSmallSumIdeal.Read.val_main_v10, Cert.ReferenceSmallSumIdeal.Read.val_main_v11, Cert.ReferenceSmallSumIdeal.Read.val_main_cst_4, Cert.ReferenceSmallSumIdeal.Read.val_main_v12, Cert.ReferenceSmallSumIdeal.Read.val_main_v13, Cert.ReferenceSmallSumIdeal.Read.val_main_cst_5, Cert.ReferenceSmallSumIdeal.Read.val_main_v14, Cert.ReferenceSmallSumIdeal.Read.val_main_v15, Cert.ReferenceSmallSumIdeal.Read.val_main_v16, Cert.ReferenceSmallSumIdeal.Read.val_main_cst_6, Cert.ReferenceSmallSumIdeal.Read.val_main_v17, Cert.ReferenceSmallSumIdeal.Read.val_main_v18, Cert.ReferenceSmallSumIdeal.Read.val_main_v19, Cert.ReferenceSmallSumIdeal.Read.val_main_cst_7, Cert.ReferenceSmallSumIdeal.Read.val_main_v20, Cert.ReferenceSmallSumIdeal.Read.val_main_v21, Cert.ReferenceSmallSumIdeal.Read.val_main_v22, Cert.ReferenceSmallSumIdeal.Read.val_main_cst_8, Cert.ReferenceSmallSumIdeal.Read.val_main_v23, Cert.ReferenceSmallSumIdeal.Read.val_main_v24]
  simp only [Fin.sum_univ_eight, zero_add]
  blk_point [iblk, V, idx t]

/-- The step of the weight: the array the kernel leaves is the reference's term of the arguments. -/
theorem delta (c : Dev nD) : (dats m 0 c).arrAt 5 (cfgs 0).N = Cert.ReferenceSmallSumIdeal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  exact delta_point m c t y

/-- The new first moment: what the body stores at an index of the block is the reference's result at that index's place. -/
theorem mean_point (c : Dev nD) (t : Fin cfg0.N) (y : S544x128.Idx) :
    out0_6 (F := Ideal) (iblk m c 0 t) (iblk m c 1 t) (iblk m c 2 t) (iblk m c 3 t) y
    = Cert.ReferenceSmallSumIdeal.Read.val_main_v5 (F := Ideal) (m ((c : Thread nD τ).loc main_arg0)) (m ((c : Thread nD τ).loc main_arg2)) (((cfg0.win 6).blk t).view.emb y) := by
  unfold out0_6
  frame_out
  pointwise [k0_pay1, k0_pay2, k0_pay3, k0_pay4, k0_pay5, k0_pay6, Cert.ReferenceSmallSumIdeal.Read.val_main_cst, Cert.ReferenceSmallSumIdeal.Read.val_main_v0, Cert.ReferenceSmallSumIdeal.Read.val_main_cst_0, Cert.ReferenceSmallSumIdeal.Read.val_main_v1, Cert.ReferenceSmallSumIdeal.Read.val_main_v2, Cert.ReferenceSmallSumIdeal.Read.val_main_cst_1, Cert.ReferenceSmallSumIdeal.Read.val_main_v3, Cert.ReferenceSmallSumIdeal.Read.val_main_v4, Cert.ReferenceSmallSumIdeal.Read.val_main_v5, Cert.ReferenceSmallSumIdeal.Read.val_main_cst_2, Cert.ReferenceSmallSumIdeal.Read.val_main_v6, Cert.ReferenceSmallSumIdeal.Read.val_main_v7, Cert.ReferenceSmallSumIdeal.Read.val_main_v8, Cert.ReferenceSmallSumIdeal.Read.val_main_cst_3, Cert.ReferenceSmallSumIdeal.Read.val_main_v9, Cert.ReferenceSmallSumIdeal.Read.val_main_v10, Cert.ReferenceSmallSumIdeal.Read.val_main_v11, Cert.ReferenceSmallSumIdeal.Read.val_main_cst_4, Cert.ReferenceSmallSumIdeal.Read.val_main_v12, Cert.ReferenceSmallSumIdeal.Read.val_main_v13, Cert.ReferenceSmallSumIdeal.Read.val_main_cst_5, Cert.ReferenceSmallSumIdeal.Read.val_main_v14, Cert.ReferenceSmallSumIdeal.Read.val_main_v15, Cert.ReferenceSmallSumIdeal.Read.val_main_v16, Cert.ReferenceSmallSumIdeal.Read.val_main_cst_6, Cert.ReferenceSmallSumIdeal.Read.val_main_v17, Cert.ReferenceSmallSumIdeal.Read.val_main_v18, Cert.ReferenceSmallSumIdeal.Read.val_main_v19, Cert.ReferenceSmallSumIdeal.Read.val_main_cst_7, Cert.ReferenceSmallSumIdeal.Read.val_main_v20, Cert.ReferenceSmallSumIdeal.Read.val_main_v21, Cert.ReferenceSmallSumIdeal.Read.val_main_v22, Cert.ReferenceSmallSumIdeal.Read.val_main_cst_8, Cert.ReferenceSmallSumIdeal.Read.val_main_v23, Cert.ReferenceSmallSumIdeal.Read.val_main_v24]
  simp only [Fin.sum_univ_eight, zero_add]
  blk_point [iblk, V, idx t]

/-- The new first moment: the array the kernel leaves is the reference's term of the arguments. -/
theorem mean (c : Dev nD) : (dats m 0 c).arrAt 6 (cfgs 0).N = Cert.ReferenceSmallSumIdeal.Read.val_main_v5 (F := Ideal) (m ((c : Thread nD τ).loc main_arg0)) (m ((c : Thread nD τ).loc main_arg2)) := by
  refine (dats m 0 c).arrAt_eq_of_covers 6 _ (by decide +kernel) fun t hf y => ?_
  blk_simp
  rw [after0_6]
  exact mean_point m c t y

/-- The new second moment: what the body stores at an index of the block is the reference's result at that index's place. -/
theorem square_point (c : Dev nD) (t : Fin cfg0.N) (y : S544x128.Idx) :
    out0_7 (F := Ideal) (iblk m c 0 t) (iblk m c 1 t) (iblk m c 2 t) (iblk m c 3 t) y
    = Cert.ReferenceSmallSumIdeal.Read.val_main_v11 (F := Ideal) (m ((c : Thread nD τ).loc main_arg0)) (m ((c : Thread nD τ).loc main_arg3)) (((cfg0.win 7).blk t).view.emb y) := by
  unfold out0_7
  frame_out
  pointwise [k0_pay1, k0_pay2, k0_pay3, k0_pay4, k0_pay5, k0_pay6, Cert.ReferenceSmallSumIdeal.Read.val_main_cst, Cert.ReferenceSmallSumIdeal.Read.val_main_v0, Cert.ReferenceSmallSumIdeal.Read.val_main_cst_0, Cert.ReferenceSmallSumIdeal.Read.val_main_v1, Cert.ReferenceSmallSumIdeal.Read.val_main_v2, Cert.ReferenceSmallSumIdeal.Read.val_main_cst_1, Cert.ReferenceSmallSumIdeal.Read.val_main_v3, Cert.ReferenceSmallSumIdeal.Read.val_main_v4, Cert.ReferenceSmallSumIdeal.Read.val_main_v5, Cert.ReferenceSmallSumIdeal.Read.val_main_cst_2, Cert.ReferenceSmallSumIdeal.Read.val_main_v6, Cert.ReferenceSmallSumIdeal.Read.val_main_v7, Cert.ReferenceSmallSumIdeal.Read.val_main_v8, Cert.ReferenceSmallSumIdeal.Read.val_main_cst_3, Cert.ReferenceSmallSumIdeal.Read.val_main_v9, Cert.ReferenceSmallSumIdeal.Read.val_main_v10, Cert.ReferenceSmallSumIdeal.Read.val_main_v11, Cert.ReferenceSmallSumIdeal.Read.val_main_cst_4, Cert.ReferenceSmallSumIdeal.Read.val_main_v12, Cert.ReferenceSmallSumIdeal.Read.val_main_v13, Cert.ReferenceSmallSumIdeal.Read.val_main_cst_5, Cert.ReferenceSmallSumIdeal.Read.val_main_v14, Cert.ReferenceSmallSumIdeal.Read.val_main_v15, Cert.ReferenceSmallSumIdeal.Read.val_main_v16, Cert.ReferenceSmallSumIdeal.Read.val_main_cst_6, Cert.ReferenceSmallSumIdeal.Read.val_main_v17, Cert.ReferenceSmallSumIdeal.Read.val_main_v18, Cert.ReferenceSmallSumIdeal.Read.val_main_v19, Cert.ReferenceSmallSumIdeal.Read.val_main_cst_7, Cert.ReferenceSmallSumIdeal.Read.val_main_v20, Cert.ReferenceSmallSumIdeal.Read.val_main_v21, Cert.ReferenceSmallSumIdeal.Read.val_main_v22, Cert.ReferenceSmallSumIdeal.Read.val_main_cst_8, Cert.ReferenceSmallSumIdeal.Read.val_main_v23, Cert.ReferenceSmallSumIdeal.Read.val_main_v24]
  simp only [Fin.sum_univ_eight, zero_add]
  blk_point [iblk, V, idx t]

/-- The new second moment: the array the kernel leaves is the reference's term of the arguments. -/
theorem square (c : Dev nD) : (dats m 0 c).arrAt 7 (cfgs 0).N = Cert.ReferenceSmallSumIdeal.Read.val_main_v11 (F := Ideal) (m ((c : Thread nD τ).loc main_arg0)) (m ((c : Thread nD τ).loc main_arg3)) := by
  refine (dats m 0 c).arrAt_eq_of_covers 7 _ (by decide +kernel) fun t hf y => ?_
  blk_simp
  rw [after0_7]
  exact square_point m c t y

/-- The two programs end with the same arrays from the same arguments. -/
theorem algebraic : Cert.algebraic_KernelSmallSumIdeal_ReferenceSmallSumIdeal := by
  pair_intro
  · run_from Cert.KernelSmallSumIdeal.Gen.run_main m g
  · refine Idealize.ShloMosaic.θ_run_mono (Cert.ReferenceSmallSumIdeal.Value.run m' g') fun r hr c => ?_
    have e0 := (hagree c).1
    have e1 := (hagree c).2.1
    have e2 := (hagree c).2.2.1
    have e3 := (hagree c).2.2.2
    refine ⟨(hr c).1.trans ?_, (hr c).2.1.trans ?_, (hr c).2.2.1.trans ?_, (hr c).2.2.2.1.trans ?_, (hr c).2.2.2.2⟩
    · rw [e0]
      exact (Cert.ReferenceSmallSumIdeal.Read.val_main_v0_eq _).trans (grad m c).symm
    · rw [e0, e1, e2, e3]
      exact (Cert.ReferenceSmallSumIdeal.Read.val_main_v24_eq _ _ _ _).trans (delta m c).symm
    · rw [e0, e2]
      exact (Cert.ReferenceSmallSumIdeal.Read.val_main_v5_eq _ _).trans (mean m c).symm
    · rw [e0, e3]
      exact (Cert.ReferenceSmallSumIdeal.Read.val_main_v11_eq _ _).trans (square m c).symm

end Cert.KernelSmallSumIdeal.Product

end
-- ==== Proof.AdamSmall.lean ====
/- The optimiser on the packed small weights: the four result arrays of the kernel are the reference's. -/
module

public import proofs.«01_k».proof.Defs
public import proofs.«01_k».proof.Proof.Gen.KernelAdamSmallIdeal.Frame
public import proofs.«01_k».proof.Proof.Gen.ReferenceAdamSmallIdeal.Run
public import proofs.«01_k».proof.Proof.Gen.ReferenceAdamSmallIdeal.Read
public import Idealize.ShloMosaic.Lib.Pipeline.ValueKit
public import Idealize.ShloMosaic.Lib.Pipeline.Value
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelAdamSmallIdeal.Product

open Cert.KernelAdamSmallIdeal Cert.KernelAdamSmallIdeal.Gen

variable (m : (ℓ : Loc nD τ sig) → Buf (Elt Ideal) ℓ)

/-- The block index of every window at every grid point. -/
theorem idx : ∀ t : Fin cfg0.N, win0_0.index t = ![0, 0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0] :=
  (by decide +kernel : ∀ t : Fin grid0.N, _)

/-- The summed gradient: what the body stores at an index of the block is the reference's result at that index's place. -/
theorem grad_point (c : Dev nD) (t : Fin cfg0.N) (y : S184x128.Idx) :
    out0_4 (F := Ideal) (iblk m c 0 t) (iblk m c 1 t) (iblk m c 2 t) (iblk m c 3 t) y
    = Cert.ReferenceAdamSmallIdeal.Read.val_main_v0 (F := Ideal) (m ((c : Thread nD τ).loc main_arg0)) (((cfg0.win 4).blk t).view.emb y) := by
  unfold out0_4
  frame_out
  pointwise [k0_pay1, k0_pay2, k0_pay3, k0_pay4, k0_pay5, k0_pay6, Cert.ReferenceAdamSmallIdeal.Read.val_main_cst, Cert.ReferenceAdamSmallIdeal.Read.val_main_v0, Cert.ReferenceAdamSmallIdeal.Read.val_main_cst_0, Cert.ReferenceAdamSmallIdeal.Read.val_main_v1, Cert.ReferenceAdamSmallIdeal.Read.val_main_v2, Cert.ReferenceAdamSmallIdeal.Read.val_main_cst_1, Cert.ReferenceAdamSmallIdeal.Read.val_main_v3, Cert.ReferenceAdamSmallIdeal.Read.val_main_v4, Cert.ReferenceAdamSmallIdeal.Read.val_main_v5, Cert.ReferenceAdamSmallIdeal.Read.val_main_cst_2, Cert.ReferenceAdamSmallIdeal.Read.val_main_v6, Cert.ReferenceAdamSmallIdeal.Read.val_main_v7, Cert.ReferenceAdamSmallIdeal.Read.val_main_v8, Cert.ReferenceAdamSmallIdeal.Read.val_main_cst_3, Cert.ReferenceAdamSmallIdeal.Read.val_main_v9, Cert.ReferenceAdamSmallIdeal.Read.val_main_v10, Cert.ReferenceAdamSmallIdeal.Read.val_main_v11, Cert.ReferenceAdamSmallIdeal.Read.val_main_cst_4, Cert.ReferenceAdamSmallIdeal.Read.val_main_v12, Cert.ReferenceAdamSmallIdeal.Read.val_main_v13, Cert.ReferenceAdamSmallIdeal.Read.val_main_cst_5, Cert.ReferenceAdamSmallIdeal.Read.val_main_v14, Cert.ReferenceAdamSmallIdeal.Read.val_main_v15, Cert.ReferenceAdamSmallIdeal.Read.val_main_v16, Cert.ReferenceAdamSmallIdeal.Read.val_main_cst_6, Cert.ReferenceAdamSmallIdeal.Read.val_main_v17, Cert.ReferenceAdamSmallIdeal.Read.val_main_v18, Cert.ReferenceAdamSmallIdeal.Read.val_main_v19, Cert.ReferenceAdamSmallIdeal.Read.val_main_cst_7, Cert.ReferenceAdamSmallIdeal.Read.val_main_v20, Cert.ReferenceAdamSmallIdeal.Read.val_main_v21, Cert.ReferenceAdamSmallIdeal.Read.val_main_v22, Cert.ReferenceAdamSmallIdeal.Read.val_main_cst_8, Cert.ReferenceAdamSmallIdeal.Read.val_main_v23, Cert.ReferenceAdamSmallIdeal.Read.val_main_v24]
  simp only [Fin.sum_univ_one, zero_add]
  blk_point [iblk, V, idx t]

/-- The summed gradient: the array the kernel leaves is the reference's term of the arguments. -/
theorem grad (c : Dev nD) : (dats m 0 c).arrAt 4 (cfgs 0).N = Cert.ReferenceAdamSmallIdeal.Read.val_main_v0 (F := Ideal) (m ((c : Thread nD τ).loc main_arg0)) := by
  refine (dats m 0 c).arrAt_eq_of_covers 4 _ (by decide +kernel) fun t hf y => ?_
  blk_simp
  rw [after0_4]
  exact grad_point m c t y

/-- The step of the weight: what the body stores at an index of the block is the reference's result at that index's place. -/
theorem delta_point (c : Dev nD) (t : Fin cfg0.N) (y : S184x128.Idx) :
    out0_5 (F := Ideal) (iblk m c 0 t) (iblk m c 1 t) (iblk m c 2 t) (iblk m c 3 t) y
    = Cert.ReferenceAdamSmallIdeal.Read.val_main_v24 (F := Ideal) (m ((c : Thread nD τ).loc main_arg0)) (m ((c : Thread nD τ).loc main_arg1)) (m ((c : Thread nD τ).loc main_arg2)) (m ((c : Thread nD τ).loc main_arg3)) (((cfg0.win 5).blk t).view.emb y) := by
  unfold out0_5
  frame_out
  pointwise [k0_pay1, k0_pay2, k0_pay3, k0_pay4, k0_pay5, k0_pay6, Cert.ReferenceAdamSmallIdeal.Read.val_main_cst, Cert.ReferenceAdamSmallIdeal.Read.val_main_v0, Cert.ReferenceAdamSmallIdeal.Read.val_main_cst_0, Cert.ReferenceAdamSmallIdeal.Read.val_main_v1, Cert.ReferenceAdamSmallIdeal.Read.val_main_v2, Cert.ReferenceAdamSmallIdeal.Read.val_main_cst_1, Cert.ReferenceAdamSmallIdeal.Read.val_main_v3, Cert.ReferenceAdamSmallIdeal.Read.val_main_v4, Cert.ReferenceAdamSmallIdeal.Read.val_main_v5, Cert.ReferenceAdamSmallIdeal.Read.val_main_cst_2, Cert.ReferenceAdamSmallIdeal.Read.val_main_v6, Cert.ReferenceAdamSmallIdeal.Read.val_main_v7, Cert.ReferenceAdamSmallIdeal.Read.val_main_v8, Cert.ReferenceAdamSmallIdeal.Read.val_main_cst_3, Cert.ReferenceAdamSmallIdeal.Read.val_main_v9, Cert.ReferenceAdamSmallIdeal.Read.val_main_v10, Cert.ReferenceAdamSmallIdeal.Read.val_main_v11, Cert.ReferenceAdamSmallIdeal.Read.val_main_cst_4, Cert.ReferenceAdamSmallIdeal.Read.val_main_v12, Cert.ReferenceAdamSmallIdeal.Read.val_main_v13, Cert.ReferenceAdamSmallIdeal.Read.val_main_cst_5, Cert.ReferenceAdamSmallIdeal.Read.val_main_v14, Cert.ReferenceAdamSmallIdeal.Read.val_main_v15, Cert.ReferenceAdamSmallIdeal.Read.val_main_v16, Cert.ReferenceAdamSmallIdeal.Read.val_main_cst_6, Cert.ReferenceAdamSmallIdeal.Read.val_main_v17, Cert.ReferenceAdamSmallIdeal.Read.val_main_v18, Cert.ReferenceAdamSmallIdeal.Read.val_main_v19, Cert.ReferenceAdamSmallIdeal.Read.val_main_cst_7, Cert.ReferenceAdamSmallIdeal.Read.val_main_v20, Cert.ReferenceAdamSmallIdeal.Read.val_main_v21, Cert.ReferenceAdamSmallIdeal.Read.val_main_v22, Cert.ReferenceAdamSmallIdeal.Read.val_main_cst_8, Cert.ReferenceAdamSmallIdeal.Read.val_main_v23, Cert.ReferenceAdamSmallIdeal.Read.val_main_v24]
  simp only [Fin.sum_univ_one, zero_add]
  blk_point [iblk, V, idx t]

/-- The step of the weight: the array the kernel leaves is the reference's term of the arguments. -/
theorem delta (c : Dev nD) : (dats m 0 c).arrAt 5 (cfgs 0).N = Cert.ReferenceAdamSmallIdeal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  exact delta_point m c t y

/-- The new first moment: what the body stores at an index of the block is the reference's result at that index's place. -/
theorem mean_point (c : Dev nD) (t : Fin cfg0.N) (y : S184x128.Idx) :
    out0_6 (F := Ideal) (iblk m c 0 t) (iblk m c 1 t) (iblk m c 2 t) (iblk m c 3 t) y
    = Cert.ReferenceAdamSmallIdeal.Read.val_main_v5 (F := Ideal) (m ((c : Thread nD τ).loc main_arg0)) (m ((c : Thread nD τ).loc main_arg2)) (((cfg0.win 6).blk t).view.emb y) := by
  unfold out0_6
  frame_out
  pointwise [k0_pay1, k0_pay2, k0_pay3, k0_pay4, k0_pay5, k0_pay6, Cert.ReferenceAdamSmallIdeal.Read.val_main_cst, Cert.ReferenceAdamSmallIdeal.Read.val_main_v0, Cert.ReferenceAdamSmallIdeal.Read.val_main_cst_0, Cert.ReferenceAdamSmallIdeal.Read.val_main_v1, Cert.ReferenceAdamSmallIdeal.Read.val_main_v2, Cert.ReferenceAdamSmallIdeal.Read.val_main_cst_1, Cert.ReferenceAdamSmallIdeal.Read.val_main_v3, Cert.ReferenceAdamSmallIdeal.Read.val_main_v4, Cert.ReferenceAdamSmallIdeal.Read.val_main_v5, Cert.ReferenceAdamSmallIdeal.Read.val_main_cst_2, Cert.ReferenceAdamSmallIdeal.Read.val_main_v6, Cert.ReferenceAdamSmallIdeal.Read.val_main_v7, Cert.ReferenceAdamSmallIdeal.Read.val_main_v8, Cert.ReferenceAdamSmallIdeal.Read.val_main_cst_3, Cert.ReferenceAdamSmallIdeal.Read.val_main_v9, Cert.ReferenceAdamSmallIdeal.Read.val_main_v10, Cert.ReferenceAdamSmallIdeal.Read.val_main_v11, Cert.ReferenceAdamSmallIdeal.Read.val_main_cst_4, Cert.ReferenceAdamSmallIdeal.Read.val_main_v12, Cert.ReferenceAdamSmallIdeal.Read.val_main_v13, Cert.ReferenceAdamSmallIdeal.Read.val_main_cst_5, Cert.ReferenceAdamSmallIdeal.Read.val_main_v14, Cert.ReferenceAdamSmallIdeal.Read.val_main_v15, Cert.ReferenceAdamSmallIdeal.Read.val_main_v16, Cert.ReferenceAdamSmallIdeal.Read.val_main_cst_6, Cert.ReferenceAdamSmallIdeal.Read.val_main_v17, Cert.ReferenceAdamSmallIdeal.Read.val_main_v18, Cert.ReferenceAdamSmallIdeal.Read.val_main_v19, Cert.ReferenceAdamSmallIdeal.Read.val_main_cst_7, Cert.ReferenceAdamSmallIdeal.Read.val_main_v20, Cert.ReferenceAdamSmallIdeal.Read.val_main_v21, Cert.ReferenceAdamSmallIdeal.Read.val_main_v22, Cert.ReferenceAdamSmallIdeal.Read.val_main_cst_8, Cert.ReferenceAdamSmallIdeal.Read.val_main_v23, Cert.ReferenceAdamSmallIdeal.Read.val_main_v24]
  simp only [Fin.sum_univ_one, zero_add]
  blk_point [iblk, V, idx t]

/-- The new first moment: the array the kernel leaves is the reference's term of the arguments. -/
theorem mean (c : Dev nD) : (dats m 0 c).arrAt 6 (cfgs 0).N = Cert.ReferenceAdamSmallIdeal.Read.val_main_v5 (F := Ideal) (m ((c : Thread nD τ).loc main_arg0)) (m ((c : Thread nD τ).loc main_arg2)) := by
  refine (dats m 0 c).arrAt_eq_of_covers 6 _ (by decide +kernel) fun t hf y => ?_
  blk_simp
  rw [after0_6]
  exact mean_point m c t y

/-- The new second moment: what the body stores at an index of the block is the reference's result at that index's place. -/
theorem square_point (c : Dev nD) (t : Fin cfg0.N) (y : S184x128.Idx) :
    out0_7 (F := Ideal) (iblk m c 0 t) (iblk m c 1 t) (iblk m c 2 t) (iblk m c 3 t) y
    = Cert.ReferenceAdamSmallIdeal.Read.val_main_v11 (F := Ideal) (m ((c : Thread nD τ).loc main_arg0)) (m ((c : Thread nD τ).loc main_arg3)) (((cfg0.win 7).blk t).view.emb y) := by
  unfold out0_7
  frame_out
  pointwise [k0_pay1, k0_pay2, k0_pay3, k0_pay4, k0_pay5, k0_pay6, Cert.ReferenceAdamSmallIdeal.Read.val_main_cst, Cert.ReferenceAdamSmallIdeal.Read.val_main_v0, Cert.ReferenceAdamSmallIdeal.Read.val_main_cst_0, Cert.ReferenceAdamSmallIdeal.Read.val_main_v1, Cert.ReferenceAdamSmallIdeal.Read.val_main_v2, Cert.ReferenceAdamSmallIdeal.Read.val_main_cst_1, Cert.ReferenceAdamSmallIdeal.Read.val_main_v3, Cert.ReferenceAdamSmallIdeal.Read.val_main_v4, Cert.ReferenceAdamSmallIdeal.Read.val_main_v5, Cert.ReferenceAdamSmallIdeal.Read.val_main_cst_2, Cert.ReferenceAdamSmallIdeal.Read.val_main_v6, Cert.ReferenceAdamSmallIdeal.Read.val_main_v7, Cert.ReferenceAdamSmallIdeal.Read.val_main_v8, Cert.ReferenceAdamSmallIdeal.Read.val_main_cst_3, Cert.ReferenceAdamSmallIdeal.Read.val_main_v9, Cert.ReferenceAdamSmallIdeal.Read.val_main_v10, Cert.ReferenceAdamSmallIdeal.Read.val_main_v11, Cert.ReferenceAdamSmallIdeal.Read.val_main_cst_4, Cert.ReferenceAdamSmallIdeal.Read.val_main_v12, Cert.ReferenceAdamSmallIdeal.Read.val_main_v13, Cert.ReferenceAdamSmallIdeal.Read.val_main_cst_5, Cert.ReferenceAdamSmallIdeal.Read.val_main_v14, Cert.ReferenceAdamSmallIdeal.Read.val_main_v15, Cert.ReferenceAdamSmallIdeal.Read.val_main_v16, Cert.ReferenceAdamSmallIdeal.Read.val_main_cst_6, Cert.ReferenceAdamSmallIdeal.Read.val_main_v17, Cert.ReferenceAdamSmallIdeal.Read.val_main_v18, Cert.ReferenceAdamSmallIdeal.Read.val_main_v19, Cert.ReferenceAdamSmallIdeal.Read.val_main_cst_7, Cert.ReferenceAdamSmallIdeal.Read.val_main_v20, Cert.ReferenceAdamSmallIdeal.Read.val_main_v21, Cert.ReferenceAdamSmallIdeal.Read.val_main_v22, Cert.ReferenceAdamSmallIdeal.Read.val_main_cst_8, Cert.ReferenceAdamSmallIdeal.Read.val_main_v23, Cert.ReferenceAdamSmallIdeal.Read.val_main_v24]
  simp only [Fin.sum_univ_one, zero_add]
  blk_point [iblk, V, idx t]

/-- The new second moment: the array the kernel leaves is the reference's term of the arguments. -/
theorem square (c : Dev nD) : (dats m 0 c).arrAt 7 (cfgs 0).N = Cert.ReferenceAdamSmallIdeal.Read.val_main_v11 (F := Ideal) (m ((c : Thread nD τ).loc main_arg0)) (m ((c : Thread nD τ).loc main_arg3)) := by
  refine (dats m 0 c).arrAt_eq_of_covers 7 _ (by decide +kernel) fun t hf y => ?_
  blk_simp
  rw [after0_7]
  exact square_point m c t y

/-- The two programs end with the same arrays from the same arguments. -/
theorem algebraic : Cert.algebraic_KernelAdamSmallIdeal_ReferenceAdamSmallIdeal := by
  pair_intro
  · run_from Cert.KernelAdamSmallIdeal.Gen.run_main m g
  · refine Idealize.ShloMosaic.θ_run_mono (Cert.ReferenceAdamSmallIdeal.Value.run m' g') fun r hr c => ?_
    have e0 := (hagree c).1
    have e1 := (hagree c).2.1
    have e2 := (hagree c).2.2.1
    have e3 := (hagree c).2.2.2
    refine ⟨(hr c).1.trans ?_, (hr c).2.1.trans ?_, (hr c).2.2.1.trans ?_, (hr c).2.2.2.1.trans ?_, (hr c).2.2.2.2⟩
    · rw [e0]
      exact (Cert.ReferenceAdamSmallIdeal.Read.val_main_v0_eq _).trans (grad m c).symm
    · rw [e0, e1, e2, e3]
      exact (Cert.ReferenceAdamSmallIdeal.Read.val_main_v24_eq _ _ _ _).trans (delta m c).symm
    · rw [e0, e2]
      exact (Cert.ReferenceAdamSmallIdeal.Read.val_main_v5_eq _ _).trans (mean m c).symm
    · rw [e0, e3]
      exact (Cert.ReferenceAdamSmallIdeal.Read.val_main_v11_eq _ _).trans (square m c).symm

end Cert.KernelAdamSmallIdeal.Product

end
-- ==== Proof.Sigmoid.lean ====
/- The logistic function by the hyperbolic tangent, over the extended reals. -/
module

public import Idealize.ShloMosaic.Lib.Pointwise
public import Idealize.ShloMosaic.Lib.IdealHost

@[expose] public section

noncomputable section

open Idealize.ShloMosaic

namespace Cert.Sigmoid

/-- One half. -/
theorem half_eq : Ideal.ofBits .f32 0x3F000000#32 = ((1 / 2 : ℝ) : EReal) := by
  simp [Ideal.ofBits, Ideal.ieee, -EReal.coe_mul, -EReal.coe_neg]; norm_num

/-- One. -/
theorem one_eq : Ideal.ofBits .f32 0x3F800000#32 = ((1 : ℝ) : EReal) := by
  simp [Ideal.ofBits, Ideal.ieee, -EReal.coe_mul, -EReal.coe_neg]; try norm_num

/-- The logistic function of a real by the hyperbolic tangent. -/
theorem real_eq (r : ℝ) : (1 + Real.exp (-r))⁻¹ = 1 / 2 * Real.tanh (1 / 2 * r) + 1 / 2 := by
  have h : Real.exp (-r) = Real.exp (-(1 / 2 * r)) * Real.exp (-(1 / 2 * r)) := by
    rw [← Real.exp_add]; ring_nf
  have h1 : Real.exp (1 / 2 * r) * Real.exp (-(1 / 2 * r)) = 1 := by
    rw [← Real.exp_add]; simp
  rw [Real.tanh_eq_sinh_div_cosh, Real.sinh_eq, Real.cosh_eq, h]
  have ha := Real.exp_pos (1 / 2 * r)
  have hb := Real.exp_pos (-(1 / 2 * r))
  generalize Real.exp (1 / 2 * r) = a at *
  generalize Real.exp (-(1 / 2 * r)) = b at *
  have ha' : a = b⁻¹ := eq_inv_of_mul_eq_one_left h1
  subst ha'
  field_simp
  ring

/-- The logistic function of an extended real by the hyperbolic tangent. -/
theorem logistic_eq (x : EReal) :
    Ideal.ofBits .f32 0x3F000000#32 * Ideal.tanh (Ideal.ofBits .f32 0x3F000000#32 * x) + Ideal.ofBits .f32 0x3F000000#32 = Ideal.logistic x := by
  rw [half_eq]
  induction x with
  | bot =>
    rw [EReal.coe_mul_bot_of_pos (by norm_num), Ideal.tanh_bot, Ideal.logistic_bot]
    rw [show (-1 : EReal) = ((-1 : ℝ) : EReal) by simp, ← EReal.coe_mul, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, Ideal.logistic_coe, real_eq, ← EReal.coe_mul, ← EReal.coe_add]

end Cert.Sigmoid

end
-- ==== Proof.FfnConv.lean ====
/- The gate of the feed-forward block with its convolution: the result array of the kernel is the reference's. -/
module

public import proofs.«01_k».proof.Proof.Sigmoid
public import proofs.«01_k».proof.Defs
public import proofs.«01_k».proof.Proof.Gen.KernelFfnConvIdeal.Value
public import proofs.«01_k».proof.Proof.Gen.ReferenceFfnConvIdeal.Run
public import proofs.«01_k».proof.Proof.Gen.ReferenceFfnConvIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelFfnConvIdeal.Product

open Cert.KernelFfnConvIdeal Cert.KernelFfnConvIdeal.Gen

/-- The rows a block's convolution reads: the last rows of the block before it (none before the first), then the block's own. -/
def ktap (i : grid0.Coords) (x0 : FVec Ideal S2x256x1408 .bf16) (x1 : FVec Ideal S2x16x1408 .bf16) (p : Fin 2) (n : Fin 272) (l : Fin 1408) : EReal :=
  if h : 16 ≤ (n : ℕ) then x0 (ix3 p ⟨n - 16, by omega⟩ l) else x1 (ix3 p ⟨n, by omega⟩ l) * (if 0 < (i 1 : ℕ) then 1 else 0)

/-- The switch of the first row block as a number. -/
theorem gate_eq (i : grid0.Coords) :
    (((Scalar.extui (Scalar.cmpi CmpIPredicate.sgt (BitVec.ofNat 32 (i 1 : ℕ)) 0#32) : BitVec 32).toInt : ℝ) : EReal) = if 0 < (i 1 : ℕ) then 1 else 0 := by
  have h : ∀ q : Fin 16, (Scalar.extui (Scalar.cmpi CmpIPredicate.sgt (BitVec.ofNat 32 q.val) 0#32) : BitVec 32).toInt = if 0 < q.val then 1 else 0 := by decide
  rw [h (i 1)]
  split <;> simp

/-- A choice by the comparison of a row below eight with one. -/
theorem select1 (r : Fin 256) (h : (r : ℕ) < 8) (a b : EReal) :
    Scalar.select (IntOp.cmpi CmpIPredicate.slt (BitVec.ofNat 32 (r : ℕ)) 1#32) a b = if (r : ℕ) < 1 then a else b := by
  have e : ∀ q : Fin 8, IntOp.cmpi CmpIPredicate.slt (BitVec.ofNat 32 q.val) 1#32 = if q.val < 1 then 1#1 else 0#1 := by decide
  rw [e ⟨r, h⟩]
  by_cases h1 : (r : ℕ) < 1
  · rw [if_pos h1, if_pos h1]; rfl
  · rw [if_neg h1, if_neg h1]; rfl

/-- A choice by the comparison of a row below eight with two. -/
theorem select2 (r : Fin 256) (h : (r : ℕ) < 8) (a b : EReal) :
    Scalar.select (IntOp.cmpi CmpIPredicate.slt (BitVec.ofNat 32 (r : ℕ)) 2#32) a b = if (r : ℕ) < 2 then a else b := by
  have e : ∀ q : Fin 8, IntOp.cmpi CmpIPredicate.slt (BitVec.ofNat 32 q.val) 2#32 = if q.val < 2 then 1#1 else 0#1 := by decide
  rw [e ⟨r, h⟩]
  by_cases h1 : (r : ℕ) < 2
  · rw [if_pos h1, if_pos h1]; rfl
  · rw [if_neg h1, if_neg h1]; rfl

/-- Equal rows are equal indices of a block of two planes. -/
theorem ix_congr {n : ℕ} {p : Fin 2} {l : Fin 1408} {a b : Fin n} (h : (a : ℕ) = b) : (ix3 p a l) = ix3 p b l := by
  rw [Fin.ext h]

/-- One row back. -/
theorem back1 (i : grid0.Coords) (x0 : FVec Ideal S2x256x1408 .bf16) (x1 : FVec Ideal S2x16x1408 .bf16) (p : Fin 2) (r : Fin 256) (l : Fin 1408)
    (P : Prop) [Decidable P] (hP : P ↔ (r : ℕ) < 8) (A C : P → EReal) (B : ¬P → EReal)
    (hA : ∀ h : P, (r : ℕ) < 1 → A h = ktap i x0 x1 p ⟨(r : ℕ) + 15, by omega⟩ l) (hC : ∀ h : P, ¬(r : ℕ) < 1 → C h = ktap i x0 x1 p ⟨(r : ℕ) + 15, by omega⟩ l)
    (hB : ∀ h : ¬P, B h = ktap i x0 x1 p ⟨(r : ℕ) + 15, by omega⟩ l) :
    (if h : P then Scalar.select (IntOp.cmpi CmpIPredicate.slt (BitVec.ofNat 32 (r : ℕ)) 1#32) (A h) (C h) else B h) = ktap i x0 x1 p ⟨(r : ℕ) + 15, by omega⟩ l := by
  by_cases h : P
  · rw [dif_pos h, select1 r (hP.1 h)]
    by_cases h1 : (r : ℕ) < 1
    · rw [if_pos h1]; exact hA h h1
    · rw [if_neg h1]; exact hC h h1
  · rw [dif_neg h]; exact hB h

/-- Two rows back. -/
theorem back2 (i : grid0.Coords) (x0 : FVec Ideal S2x256x1408 .bf16) (x1 : FVec Ideal S2x16x1408 .bf16) (p : Fin 2) (r : Fin 256) (l : Fin 1408)
    (P : Prop) [Decidable P] (hP : P ↔ (r : ℕ) < 8) (A C : P → EReal) (B : ¬P → EReal)
    (hA : ∀ h : P, (r : ℕ) < 2 → A h = ktap i x0 x1 p ⟨(r : ℕ) + 14, by omega⟩ l) (hC : ∀ h : P, ¬(r : ℕ) < 2 → C h = ktap i x0 x1 p ⟨(r : ℕ) + 14, by omega⟩ l)
    (hB : ∀ h : ¬P, B h = ktap i x0 x1 p ⟨(r : ℕ) + 14, by omega⟩ l) :
    (if h : P then Scalar.select (IntOp.cmpi CmpIPredicate.slt (BitVec.ofNat 32 (r : ℕ)) 2#32) (A h) (C h) else B h) = ktap i x0 x1 p ⟨(r : ℕ) + 14, by omega⟩ l := by
  by_cases h : P
  · rw [dif_pos h, select2 r (hP.1 h)]
    by_cases h1 : (r : ℕ) < 2
    · rw [if_pos h1]; exact hA h h1
    · rw [if_neg h1]; exact hC h h1
  · rw [dif_neg h]; exact hB h

/-- A row of the block before. -/
theorem before (i : grid0.Coords) (x0 : FVec Ideal S2x256x1408 .bf16) (x1 : FVec Ideal S2x16x1408 .bf16) (p : Fin 2) (n : Fin 272) (k : Fin 16) (l : Fin 1408) (h : (n : ℕ) = k) :
    x1 (ix3 p k l) * (if 0 < (i 1 : ℕ) then 1 else 0) = ktap i x0 x1 p n l := by
  unfold ktap
  rw [dif_neg (show ¬16 ≤ (n : ℕ) by omega)]
  exact congrArg (fun q => x1 q * _) (ix_congr h.symm)

/-- A row of the block itself. -/
theorem inside (i : grid0.Coords) (x0 : FVec Ideal S2x256x1408 .bf16) (x1 : FVec Ideal S2x16x1408 .bf16) (p : Fin 2) (n : Fin 272) (k : Fin 256) (l : Fin 1408) (h : (n : ℕ) = k + 16) :
    x0 (ix3 p k l) = ktap i x0 x1 p n l := by
  unfold ktap
  rw [dif_pos (show 16 ≤ (n : ℕ) by omega)]
  exact congrArg x0 (ix_congr (show (k : ℕ) = n - 16 by omega))

/-- What the body stores, from the two convolved planes. -/
theorem gated_at (g v p : FVec Ideal S256x1408 .f32) (w : FVec Ideal S1x1408 .f32) (r : Fin 256) (l : Fin 1408) :
    k0_pay1 (F := Ideal) g v p w (ix2 r l)
      = g (ix2 r l) * Ideal.logistic (g (ix2 r l)) * (p (ix2 r l) + v (ix2 r l) * w (ix2 0 l)) := by
  rw [← Cert.Sigmoid.logistic_eq]
  pointwise [k0_pay1]

/-- The convolution of the gate's plane in a block. -/
theorem hid0_at (i : grid0.Coords) (x0 : FVec Ideal S2x256x1408 .bf16) (x1 : FVec Ideal S2x16x1408 .bf16) (w : FVec Ideal S3x1408 .f32) (b : FVec Ideal S1x1408 .f32)
    (r : Fin 256) (l : Fin 1408) :
    k0_pay11 (F := Ideal) (k0_pay4 (F := Ideal) x0) w (k0_pay6 (F := Ideal) i x0 x1 w b) (k0_pay7 (F := Ideal) x0) (k0_pay8 (F := Ideal) x0) (k0_pay9 (F := Ideal) i x1) k0_pay10 (ix2 r l)
      = b (ix2 0 l) + ktap i x0 x1 0 ⟨(r : ℕ) + 14, by omega⟩ l * w (ix2 0 l) + ktap i x0 x1 0 ⟨(r : ℕ) + 15, by omega⟩ l * w (ix2 1 l) + x0 (ix3 0 r l) * w (ix2 2 l) := by
  pointwise [k0_pay2, k0_pay3, k0_pay4, k0_pay5, k0_pay6, k0_pay7, k0_pay8, k0_pay9, k0_pay10, k0_pay11]
  rw [gate_eq i]
  refine congrArg₂ (fun x y : EReal => b (ix2 0 l) + x * w (ix2 0 l) + y * w (ix2 1 l) + x0 (ix3 0 r l) * w (ix2 2 l)) ?_ ?_
  · refine back2 i x0 x1 0 r l _ Iff.rfl _ _ _ ?_ ?_ ?_
    · intro h h1; exact before i x0 x1 _ _ _ l (show (r : ℕ) + 14 = 8 + ((r : ℕ) + 8 - 2) % 8 by omega)
    · intro h h1; exact inside i x0 x1 _ _ _ l (show (r : ℕ) + 14 = ((r : ℕ) + 8 - 2) % 8 + 16 by omega)
    · intro h; exact inside i x0 x1 _ _ _ l (show (r : ℕ) + 14 = (8 + ((r : ℕ) - 8) + 256 - 2) % 256 + 16 by omega)
  · refine back1 i x0 x1 0 r l _ Iff.rfl _ _ _ ?_ ?_ ?_
    · intro h h1; exact before i x0 x1 _ _ _ l (show (r : ℕ) + 15 = 8 + ((r : ℕ) + 8 - 1) % 8 by omega)
    · intro h h1; exact inside i x0 x1 _ _ _ l (show (r : ℕ) + 15 = ((r : ℕ) + 8 - 1) % 8 + 16 by omega)
    · intro h; exact inside i x0 x1 _ _ _ l (show (r : ℕ) + 15 = (8 + ((r : ℕ) - 8) + 256 - 1) % 256 + 16 by omega)

/-- The convolution of the value's plane in a block, but for the row itself. -/
theorem hid1_at (i : grid0.Coords) (x0 : FVec Ideal S2x256x1408 .bf16) (x1 : FVec Ideal S2x16x1408 .bf16) (w : FVec Ideal S3x1408 .f32) (b : FVec Ideal S1x1408 .f32)
    (r : Fin 256) (l : Fin 1408) :
    k0_pay13 (F := Ideal) (k0_pay2 (F := Ideal) x0) (k0_pay3 (F := Ideal) i x1) w b (ix2 r l)
      = b (ix2 0 l) + ktap i x0 x1 1 ⟨(r : ℕ) + 14, by omega⟩ l * w (ix2 0 l) + ktap i x0 x1 1 ⟨(r : ℕ) + 15, by omega⟩ l * w (ix2 1 l) := by
  pointwise [k0_pay2, k0_pay3, k0_pay12, k0_pay13]
  rw [gate_eq i]
  refine congrArg₂ (fun x y : EReal => b (ix2 0 l) + x * w (ix2 0 l) + y * w (ix2 1 l)) ?_ ?_
  · refine back2 i x0 x1 1 r l _ Iff.rfl _ _ _ ?_ ?_ ?_
    · intro h h1; exact before i x0 x1 _ _ _ l (show (r : ℕ) + 14 = 8 + ((r : ℕ) + 8 - 2) % 8 by omega)
    · intro h h1; exact inside i x0 x1 _ _ _ l (show (r : ℕ) + 14 = ((r : ℕ) + 8 - 2) % 8 + 16 by omega)
    · intro h; exact inside i x0 x1 _ _ _ l (show (r : ℕ) + 14 = (8 + ((r : ℕ) - 8) + 256 - 2) % 256 + 16 by omega)
  · refine back1 i x0 x1 1 r l _ Iff.rfl _ _ _ ?_ ?_ ?_
    · intro h h1; exact before i x0 x1 _ _ _ l (show (r : ℕ) + 15 = 8 + ((r : ℕ) + 8 - 1) % 8 by omega)
    · intro h h1; exact inside i x0 x1 _ _ _ l (show (r : ℕ) + 15 = ((r : ℕ) + 8 - 1) % 8 + 16 by omega)
    · intro h; exact inside i x0 x1 _ _ _ l (show (r : ℕ) + 15 = (8 + ((r : ℕ) - 8) + 256 - 1) % 256 + 16 by omega)

/-- The value's plane itself. -/
theorem plane1_at (x0 : FVec Ideal S2x256x1408 .bf16) (r : Fin 256) (l : Fin 1408) :
    k0_pay12 (F := Ideal) (k0_pay2 (F := Ideal) x0) (ix2 r l) = x0 (ix3 1 r l) := by
  pointwise [k0_pay2, k0_pay12]

/-- The last row of the value's weights. -/
theorem row2_at (w : FVec Ideal S3x1408 .f32) (l : Fin 1408) :
    k0_pay14 (F := Ideal) w (ix2 0 l) = w (ix2 2 l) := by
  pointwise [k0_pay14]

/-- A plane at row `n - 2`, nothing before the first row. -/
def tap (a0 : FVec Ideal Cert.ReferenceFfnConvIdeal.S2x4096x2816 .bf16) (p : Fin 2) (n : ℕ) (f : Fin 2816) : EReal :=
  if h : 2 ≤ n ∧ n < 4098 then a0 (ix3 p ⟨n - 2, by omega⟩ f) else 0

/-- The convolution of a plane. -/
def hid (a0 : FVec Ideal Cert.ReferenceFfnConvIdeal.S2x4096x2816 .bf16) (a1 : FVec Ideal Cert.ReferenceFfnConvIdeal.S3x5632 .f32) (a2 : FVec Ideal Cert.ReferenceFfnConvIdeal.S5632 .f32)
    (p : Fin 2) (r : Fin 4096) (f : Fin 2816) (g : Fin 5632) : EReal :=
  a2 (ix1 g) + tap a0 p r f * a1 (ix2 0 g) + tap a0 p (r + 1) f * a1 (ix2 1 g) + a0 (ix3 p r f) * a1 (ix2 2 g)

/-- Reads of a plane at equal rows are equal. -/
theorem read0 (a0 : FVec Ideal Cert.ReferenceFfnConvIdeal.S2x4096x2816 .bf16) (p : Fin 2) (n n' : Fin 4096) (f f' : Fin 2816) (e : (n : ℕ) = n') (ef : (f : ℕ) = f') :
    a0 (ix3 p n f) = a0 (ix3 p n' f') := by rw [Fin.ext e, Fin.ext ef]

/-- A guarded read of the two planes side by side is a row of one of them. -/
theorem tap_eq (a0 : FVec Ideal Cert.ReferenceFfnConvIdeal.S2x4096x2816 .bf16) (p : Fin 2) (n : ℕ) (hn : n < 4098) (f : Fin 2816) (P Q : Prop) [Decidable P] [Decidable Q]
    (hP : P ↔ n < 2) (hQ : Q ↔ (p : ℕ) = 0) (n0 n1 : ¬P → Fin 4096) (f0 : Q → Fin 2816) (f1 : ¬Q → Fin 2816)
    (h0 : ∀ h, (n0 h : ℕ) = n - 2) (h1 : ∀ h, (n1 h : ℕ) = n - 2) (g0 : ∀ h, (f0 h : ℕ) = f) (g1 : ∀ h, (f1 h : ℕ) = f) :
    (if h : P then 0 else if k : Q then a0 (ix3 0 (n0 h) (f0 k)) else a0 (ix3 1 (n1 h) (f1 k))) = tap a0 p n f := by
  unfold tap
  by_cases h : P
  · rw [dif_pos h, dif_neg (show ¬(2 ≤ n ∧ n < 4098) by have := hP.1 h; omega)]
  · rw [dif_neg h, dif_pos (show 2 ≤ n ∧ n < 4098 from ⟨by by_contra hc; exact h (hP.2 (by omega)), hn⟩)]
    by_cases k : Q
    · obtain rfl : p = 0 := Fin.ext (hQ.1 k)
      rw [dif_pos k]; exact read0 a0 _ _ _ _ _ (h0 h) (g0 k)
    · obtain rfl : p = 1 := Fin.ext (by have : ¬(p : ℕ) = 0 := fun h => k (hQ.2 h); show (p : ℕ) = 1; omega)
      rw [dif_neg k]; exact read0 a0 _ _ _ _ _ (h1 h) (g1 k)

section
open Cert.ReferenceFfnConvIdeal.Read

/-- The reference's result, from its convolution. -/
theorem ref_at (a0 : FVec Ideal Cert.ReferenceFfnConvIdeal.S2x4096x2816 .bf16) (a1 : FVec Ideal Cert.ReferenceFfnConvIdeal.S3x5632 .f32) (a2 : FVec Ideal Cert.ReferenceFfnConvIdeal.S5632 .f32)
    (r : Fin 4096) (f : Fin 2816) :
    val_main_v35 (F := Ideal) a0 a1 a2 (ix2 r f)
      = val_main_v30 (F := Ideal) a0 a1 a2 (ix2 r ⟨f.val, by omega⟩) * Ideal.logistic (val_main_v30 (F := Ideal) a0 a1 a2 (ix2 r ⟨f.val, by omega⟩))
        * val_main_v30 (F := Ideal) a0 a1 a2 (ix2 r ⟨2816 + f.val, by omega⟩) := by
  pointwise [val_main_v35, val_main_v34, val_main_v33, val_main_v32, val_main_v31, val_main_call0_v0, val_main_call0_v1, val_main_call0_v2, val_main_call0_v3, val_main_call0_v4, val_main_call0_v5, val_main_call0_cst, val_main_call0_cst_0]
  rfl

/-- The reference's convolution. -/
theorem refhid_at (a0 : FVec Ideal Cert.ReferenceFfnConvIdeal.S2x4096x2816 .bf16) (a1 : FVec Ideal Cert.ReferenceFfnConvIdeal.S3x5632 .f32) (a2 : FVec Ideal Cert.ReferenceFfnConvIdeal.S5632 .f32)
    (p : Fin 2) (r : Fin 4096) (f : Fin 2816) (g : Fin 5632) (hg : (g : ℕ) = p * 2816 + f) :
    val_main_v30 (F := Ideal) a0 a1 a2 (ix2 r g) = hid a0 a1 a2 p r f g := by
  have hp : (p : ℕ) = 0 ∨ (p : ℕ) = 1 := by omega
  unfold hid
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst]
  have e0 := tap_eq a0 p r (by omega) f ((r : ℕ) < 2) ((g : ℕ) < 2816) Iff.rfl (by omega) (fun _ => ⟨(r : ℕ) - 2, by omega⟩) (fun _ => ⟨(r : ℕ) - 2, by omega⟩) (fun h => ⟨(g : ℕ), h⟩) (fun h => ⟨(g : ℕ) - 2816, by omega⟩)
    (fun _ => rfl) (fun _ => rfl) (fun h => by show (g : ℕ) = f; omega) (fun h => by show (g : ℕ) - 2816 = f; omega)
  have e1 := tap_eq a0 p ((r : ℕ) + 1) (by omega) f (1 + (r : ℕ) < 2) ((g : ℕ) < 2816) (by omega) (by omega) (fun h => ⟨1 + (r : ℕ) - 2, by omega⟩) (fun h => ⟨1 + (r : ℕ) - 2, by omega⟩) (fun h => ⟨(g : ℕ), h⟩) (fun h => ⟨(g : ℕ) - 2816, by omega⟩)
    (fun h => by show 1 + (r : ℕ) - 2 = r + 1 - 2; omega) (fun h => by show 1 + (r : ℕ) - 2 = r + 1 - 2; omega) (fun h => by show (g : ℕ) = f; omega) (fun h => by show (g : ℕ) - 2816 = f; omega)
  have e2 := tap_eq a0 p ((r : ℕ) + 2) (by omega) f ((r : ℕ) + 2 < 2) ((g : ℕ) < 2816) Iff.rfl (by omega) (fun _ => r) (fun _ => r) (fun h => ⟨(g : ℕ), h⟩) (fun h => ⟨(g : ℕ) - 2816, by omega⟩)
    (fun h => by show (r : ℕ) = r + 2 - 2; omega) (fun h => by show (r : ℕ) = r + 2 - 2; omega) (fun h => by show (g : ℕ) = f; omega) (fun h => by show (g : ℕ) - 2816 = f; omega)
  rw [dif_neg (show ¬((r : ℕ) + 2 < 2) by omega)] at e2
  unfold tap at e2
  rw [dif_pos (show 2 ≤ (r : ℕ) + 2 ∧ (r : ℕ) + 2 < 4098 by omega)] at e2
  rw [← e0, ← e1]
  exact congrArg (fun z => _ + z * a1 (ix2 2 g)) e2
end

variable (m : (ℓ : Loc nD τ sig) → Buf (Elt Ideal) ℓ)

/-- The block index of every window at every grid point, and the row block's number. -/
theorem idx : ∀ t : Fin cfg0.N, win0_0.index t = ![0, t.val % 16, t.val / 16]
    ∧ win0_1.index t = ![0, t.val % 16 * 16 - 1, t.val / 16]
    ∧ win0_2.index t = ![0, t.val / 16]
    ∧ win0_3.index t = ![0, t.val / 16 + 2]
    ∧ win0_4.index t = ![0, t.val / 16]
    ∧ win0_5.index t = ![0, t.val / 16 + 2]
    ∧ win0_6.index t = ![t.val % 16, t.val / 16] ∧ (grid0.coords t 1 : ℕ) = t.val % 16 ∧ t.val / 16 < 2 :=
  (by decide +kernel : ∀ t : Fin grid0.N, _)

/-- The column block's number is below two. -/
theorem col_lt (t : Fin cfg0.N) : t.val / 16 < 2 := (idx t).2.2.2.2.2.2.2.2

/-- The output block's place in the array. -/
theorem out_at (t : Fin cfg0.N) (r : Fin 256) (l : Fin 1408) (A : FVec Ideal Cert.ReferenceFfnConvIdeal.S4096x2816 .bf16) :
    A (((cfg0.win 6).blk t).view.emb (ix2 r l))
      = A (ix2 ⟨t.val % 16 * 256 + r.val, by omega⟩ ⟨t.val / 16 * 1408 + l.val, by have := col_lt t; omega⟩) := by
  have h := idx t
  blk_point [idx t]

/-- The planes' own block. -/
theorem own_at (c : Dev nD) (t : Fin cfg0.N) (p : Fin 2) (r : Fin 256) (l : Fin 1408) :
    iblk m c 0 t (ix3 p r l)
      = m ((c : Thread nD τ).loc main_arg0) (ix3 p ⟨t.val % 16 * 256 + r.val, by omega⟩ ⟨t.val / 16 * 1408 + l.val, by have := col_lt t; omega⟩) := by
  blk_point [iblk, V, idx t]

/-- The rows before the block, of a block that is not the first. -/
theorem prev_at (c : Dev nD) (t : Fin cfg0.N) (ht : 0 < t.val % 16) (p : Fin 2) (r : Fin 16) (l : Fin 1408) :
    iblk m c 1 t (ix3 p r l)
      = m ((c : Thread nD τ).loc main_arg0) (ix3 p ⟨t.val % 16 * 256 - 16 + r.val, by omega⟩ ⟨t.val / 16 * 1408 + l.val, by have := col_lt t; omega⟩) := by
  blk_point [iblk, V, idx t]

/-- The gate's weights. -/
theorem weight0_at (c : Dev nD) (t : Fin cfg0.N) (k : Fin 3) (l : Fin 1408) :
    iblk m c 2 t (ix2 k l) = m ((c : Thread nD τ).loc main_arg1) (ix2 k ⟨t.val / 16 * 1408 + l.val, by have := col_lt t; omega⟩) := by
  blk_point [iblk, V, idx t]

/-- The value's weights. -/
theorem weight1_at (c : Dev nD) (t : Fin cfg0.N) (k : Fin 3) (l : Fin 1408) :
    iblk m c 3 t (ix2 k l) = m ((c : Thread nD τ).loc main_arg1) (ix2 k ⟨2816 + (t.val / 16 * 1408 + l.val), by have := col_lt t; omega⟩) := by
  blk_point [iblk, V, idx t]

/-- The gate's biases. -/
theorem bias0_at (c : Dev nD) (t : Fin cfg0.N) (l : Fin 1408) :
    iblk m c 4 t (ix2 0 l) = m ((c : Thread nD τ).loc main_arg2) (ix1 ⟨t.val / 16 * 1408 + l.val, by have := col_lt t; omega⟩) := by
  blk_point [iblk, V, idx t]

/-- The value's biases. -/
theorem bias1_at (c : Dev nD) (t : Fin cfg0.N) (l : Fin 1408) :
    iblk m c 5 t (ix2 0 l) = m ((c : Thread nD τ).loc main_arg2) (ix1 ⟨2816 + (t.val / 16 * 1408 + l.val), by have := col_lt t; omega⟩) := by
  blk_point [iblk, V, idx t]

/-- A row the block's convolution reads is the plane's. -/
theorem tap_at (c : Dev nD) (t : Fin cfg0.N) (p : Fin 2) (r : Fin 256) (l : Fin 1408) (d : ℕ) (hd : d < 2) :
    ktap (grid0.coords t) (iblk m c 0 t) (iblk m c 1 t) p ⟨r.val + (14 + d), by omega⟩ l
      = tap (m ((c : Thread nD τ).loc main_arg0)) p (t.val % 16 * 256 + r.val + d) ⟨t.val / 16 * 1408 + l.val, by have := col_lt t; omega⟩ := by
  unfold ktap tap
  have hi := (idx t).2.2.2.2.2.2.2.1
  by_cases h : 16 ≤ r.val + (14 + d)
  · rw [dif_pos h, dif_pos (show 2 ≤ t.val % 16 * 256 + r.val + d ∧ t.val % 16 * 256 + r.val + d < 4098 by omega), own_at m c t p ⟨r.val + (14 + d) - 16, by omega⟩ l]
    exact read0 _ _ _ _ _ _ (by show t.val % 16 * 256 + (r.val + (14 + d) - 16) = t.val % 16 * 256 + r.val + d - 2; omega) rfl
  · rw [dif_neg h]
    by_cases ht : 0 < t.val % 16
    · rw [if_pos (show 0 < (grid0.coords t 1 : ℕ) by omega), dif_pos (show 2 ≤ t.val % 16 * 256 + r.val + d ∧ t.val % 16 * 256 + r.val + d < 4098 by omega),
        prev_at m c t ht p ⟨r.val + (14 + d), by omega⟩ l, mul_one]
      exact read0 _ _ _ _ _ _ (by show t.val % 16 * 256 - 16 + (r.val + (14 + d)) = t.val % 16 * 256 + r.val + d - 2; omega) rfl
    · rw [if_neg (show ¬0 < (grid0.coords t 1 : ℕ) by omega), dif_neg (show ¬(2 ≤ t.val % 16 * 256 + r.val + d ∧ t.val % 16 * 256 + r.val + d < 4098) by omega), mul_zero]

/-- What a grid point writes back is the reference's term at the block's place. -/
theorem point (c : Dev nD) (t : Fin cfg0.N) (y : S256x1408.Idx) :
    k0_pay1 (F := Ideal) (k0_pay11 (F := Ideal) (k0_pay4 (F := Ideal) (iblk m c 0 t)) (iblk m c 2 t) (k0_pay6 (F := Ideal) (grid0.coords t) (iblk m c 0 t) (iblk m c 1 t) (iblk m c 2 t) (iblk m c 4 t)) (k0_pay7 (F := Ideal) (iblk m c 0 t)) (k0_pay8 (F := Ideal) (iblk m c 0 t)) (k0_pay9 (F := Ideal) (grid0.coords t) (iblk m c 1 t)) k0_pay10)
        (k0_pay12 (F := Ideal) (k0_pay2 (F := Ideal) (iblk m c 0 t))) (k0_pay13 (F := Ideal) (k0_pay2 (F := Ideal) (iblk m c 0 t)) (k0_pay3 (F := Ideal) (grid0.coords t) (iblk m c 1 t)) (iblk m c 3 t) (iblk m c 5 t)) (k0_pay14 (F := Ideal) (iblk m c 3 t)) y
    = Cert.ReferenceFfnConvIdeal.Read.val_main_v35 (F := Ideal) (m ((c : Thread nD τ).loc main_arg0)) (m ((c : Thread nD τ).loc main_arg1)) (m ((c : Thread nD τ).loc main_arg2)) (((cfg0.win 6).blk t).view.emb y) := by
  obtain ⟨r, l, rfl⟩ : ∃ (r : Fin 256) (l : Fin 1408), y = ix2 r l := ⟨y 0, y 1, by idx_ext⟩
  have hc := col_lt t
  refine Eq.trans ?_ ((out_at t r l _).trans (ref_at _ _ _ _ _)).symm
  rw [refhid_at _ _ _ 0 _ ⟨t.val / 16 * 1408 + l.val, by omega⟩ _ (by show t.val / 16 * 1408 + l.val = 0 * 2816 + (t.val / 16 * 1408 + l.val); omega),
    refhid_at _ _ _ 1 _ ⟨t.val / 16 * 1408 + l.val, by omega⟩ _ (by show 2816 + (t.val / 16 * 1408 + l.val) = 1 * 2816 + (t.val / 16 * 1408 + l.val); omega)]
  have e0 : k0_pay11 (F := Ideal) (k0_pay4 (F := Ideal) (iblk m c 0 t)) (iblk m c 2 t) (k0_pay6 (F := Ideal) (grid0.coords t) (iblk m c 0 t) (iblk m c 1 t) (iblk m c 2 t) (iblk m c 4 t)) (k0_pay7 (F := Ideal) (iblk m c 0 t)) (k0_pay8 (F := Ideal) (iblk m c 0 t)) (k0_pay9 (F := Ideal) (grid0.coords t) (iblk m c 1 t)) k0_pay10 (ix2 r l)
      = hid (m ((c : Thread nD τ).loc main_arg0)) (m ((c : Thread nD τ).loc main_arg1)) (m ((c : Thread nD τ).loc main_arg2)) 0 ⟨t.val % 16 * 256 + r.val, by omega⟩ ⟨t.val / 16 * 1408 + l.val, by omega⟩ ⟨t.val / 16 * 1408 + l.val, by omega⟩ := by
    rw [hid0_at, weight0_at m c t 0 l, weight0_at m c t 1 l, weight0_at m c t 2 l, bias0_at m c t l, own_at m c t 0 r l, tap_at m c t 0 r l 0 (by omega), tap_at m c t 0 r l 1 (by omega)]
    rfl
  have e1 : k0_pay13 (F := Ideal) (k0_pay2 (F := Ideal) (iblk m c 0 t)) (k0_pay3 (F := Ideal) (grid0.coords t) (iblk m c 1 t)) (iblk m c 3 t) (iblk m c 5 t) (ix2 r l)
        + k0_pay12 (F := Ideal) (k0_pay2 (F := Ideal) (iblk m c 0 t)) (ix2 r l) * k0_pay14 (F := Ideal) (iblk m c 3 t) (ix2 0 l)
      = hid (m ((c : Thread nD τ).loc main_arg0)) (m ((c : Thread nD τ).loc main_arg1)) (m ((c : Thread nD τ).loc main_arg2)) 1 ⟨t.val % 16 * 256 + r.val, by omega⟩ ⟨t.val / 16 * 1408 + l.val, by omega⟩ ⟨2816 + (t.val / 16 * 1408 + l.val), by omega⟩ := by
    rw [hid1_at, plane1_at, row2_at, weight1_at m c t 0 l, weight1_at m c t 1 l, weight1_at m c t 2 l, bias1_at m c t l, own_at m c t 1 r l, tap_at m c t 1 r l 0 (by omega), tap_at m c t 1 r l 1 (by omega)]
    rfl
  rw [gated_at, e0, e1]

/-- The array the kernel leaves is the reference's term of the arguments. -/
theorem final (c : Dev nD) : (dats m 0 c).arrAt 6 (cfgs 0).N
    = Cert.ReferenceFfnConvIdeal.Read.val_main_v35 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  unfold_out out0_6
  frame_out
  exact point m c t y

/-- The two programs end with the same array from the same arguments. -/
theorem algebraic : Cert.algebraic_KernelFfnConvIdeal_ReferenceFfnConvIdeal := by
  pair_intro
  · run_from Cert.KernelFfnConvIdeal.Gen.run_main m g
  · run_from Cert.ReferenceFfnConvIdeal.Value.run m' g'
    refine (Cert.ReferenceFfnConvIdeal.Read.val_main_v35_eq m' c).trans ?_
    rw [(hagree c).1, (hagree c).2.1, (hagree c).2.2]
    exact (final m c).symm

end Cert.KernelFfnConvIdeal.Product

end
-- ==== Proof.SsmConv.lean ====
/- The convolution of the recurrent block with its activation: the result array of the kernel is the reference's. -/
module

public import proofs.«01_k».proof.Proof.Sigmoid
public import proofs.«01_k».proof.Defs
public import proofs.«01_k».proof.Proof.Gen.KernelSsmConvIdeal.Value
public import proofs.«01_k».proof.Proof.Gen.ReferenceSsmConvIdeal.Run
public import proofs.«01_k».proof.Proof.Gen.ReferenceSsmConvIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelSsmConvIdeal.Product

open Cert.KernelSsmConvIdeal Cert.KernelSsmConvIdeal.Gen

/-- The rows a block's convolution reads: the last rows of the block before it (none before the first), then the block's own. -/
def ktap (i : grid0.Coords) (x0 : FVec Ideal S512x512 .f32) (x1 : FVec Ideal S8x512 .f32) (n : Fin 520) (l : Fin 512) : EReal :=
  if h : 8 ≤ (n : ℕ) then x0 (ix2 ⟨n - 8, by omega⟩ l) else x1 (ix2 ⟨n, by omega⟩ l) * (if 0 < (i 1 : ℕ) then 1 else 0)

/-- The switch of the first row block as a number. -/
theorem gate_eq (i : grid0.Coords) :
    (((Scalar.extui (Scalar.cmpi CmpIPredicate.sgt (BitVec.ofNat 32 (i 1 : ℕ)) 0#32) : BitVec 32).toInt : ℝ) : EReal) = if 0 < (i 1 : ℕ) then 1 else 0 := by
  have h : ∀ q : Fin 8, (Scalar.extui (Scalar.cmpi CmpIPredicate.sgt (BitVec.ofNat 32 q.val) 0#32) : BitVec 32).toInt = if 0 < q.val then 1 else 0 := by decide
  rw [h (i 1)]
  split <;> simp

/-- A choice by the comparison of a row below eight with a number of rows. -/
theorem select (r : Fin 512) (h : (r : ℕ) < 8) (s : Fin 4) (a b : EReal) :
    Scalar.select (IntOp.cmpi CmpIPredicate.slt (BitVec.ofNat 32 (r : ℕ)) (BitVec.ofNat 32 (s : ℕ))) a b = if (r : ℕ) < (s : ℕ) then a else b := by
  have e : ∀ (q : Fin 8) (s : Fin 4), IntOp.cmpi CmpIPredicate.slt (BitVec.ofNat 32 q.val) (BitVec.ofNat 32 s.val) = if q.val < s.val then 1#1 else 0#1 := by decide
  rw [e ⟨r, h⟩ s]
  by_cases h1 : (r : ℕ) < (s : ℕ)
  · rw [if_pos h1, if_pos h1]; rfl
  · rw [if_neg h1, if_neg h1]; rfl

/-- Equal rows are equal indices of a block. -/
theorem ix_congr {n : ℕ} {l : Fin 512} {a b : Fin n} (h : (a : ℕ) = b) : (ix2 a l) = ix2 b l := by
  rw [Fin.ext h]

/-- Some rows back. -/
theorem back (i : grid0.Coords) (x0 : FVec Ideal S512x512 .f32) (x1 : FVec Ideal S8x512 .f32) (r : Fin 512) (l : Fin 512) (s : Fin 4) (hs : 0 < (s : ℕ)) (n : Fin 520) (hn : (n : ℕ) = r + 8 - s)
    (A : (r : ℕ) < 8 → Fin 8) (A' : (r : ℕ) < 8 → Fin 512) (B : ¬(r : ℕ) < 8 → Fin 512)
    (hA : ∀ h, (A h : ℕ) = (r + 8 - s) % 8) (hC : ∀ h, (A' h : ℕ) = (r + 8 - s) % 8) (hB : ∀ h, (B h : ℕ) = (8 + (r - 8) + 512 - s) % 512) :
    (if h : (r : ℕ) < 8 then Scalar.select (IntOp.cmpi CmpIPredicate.slt (BitVec.ofNat 32 (r : ℕ)) (BitVec.ofNat 32 (s : ℕ)))
        (x1 (ix2 (A h) l) * (if 0 < (i 1 : ℕ) then 1 else 0)) (x0 (ix2 (A' h) l)) else x0 (ix2 (B h) l)) = ktap i x0 x1 n l := by
  unfold ktap
  by_cases h : (r : ℕ) < 8
  · rw [dif_pos h, select r h s]
    by_cases h1 : (r : ℕ) < (s : ℕ)
    · rw [if_pos h1, dif_neg (show ¬8 ≤ (n : ℕ) by omega)]
      exact congrArg (fun q => x1 q * _) (ix_congr (by rw [hA h]; show _ = (n : ℕ); omega))
    · rw [if_neg h1, dif_pos (show 8 ≤ (n : ℕ) by omega)]
      exact congrArg x0 (ix_congr (by rw [hC h]; show _ = (n : ℕ) - 8; omega))
  · rw [dif_neg h, dif_pos (show 8 ≤ (n : ℕ) by omega)]
    exact congrArg x0 (ix_congr (by rw [hB h]; show _ = (n : ℕ) - 8; omega))

/-- Sums of four terms with equal factors are equal. -/
theorem add4 : ∀ b x y z x' y' z' u v w q : EReal, x = x' → y = y' → z = z' → b + x * u + y * v + z * w + q = b + x' * u + y' * v + z' * w + q := by
  rintro b x y z _ _ _ u v w q rfl rfl rfl; rfl

/-- What the body stores: the convolution times its logistic. -/
theorem body_at (i : grid0.Coords) (x0 : FVec Ideal S512x512 .f32) (x1 : FVec Ideal S8x512 .f32) (w : FVec Ideal S4x512 .f32) (b : FVec Ideal S1x512 .f32)
    (r : Fin 512) (l : Fin 512) (H : EReal)
    (hH : H = b (ix2 0 l) + ktap i x0 x1 ⟨(r : ℕ) + 5, by omega⟩ l * w (ix2 0 l) + ktap i x0 x1 ⟨(r : ℕ) + 6, by omega⟩ l * w (ix2 1 l)
      + ktap i x0 x1 ⟨(r : ℕ) + 7, by omega⟩ l * w (ix2 2 l) + x0 (ix2 r l) * w (ix2 3 l)) :
    k0_pay1 (F := Ideal) x0 (k0_pay2 (F := Ideal) i x1) w (k0_pay3 (F := Ideal) i x0 x1 w b) (k0_pay4 (F := Ideal) x0) (ix2 r l) = H * Ideal.logistic H := by
  pointwise [k0_pay1, k0_pay2, k0_pay3, k0_pay4]
  rw [Cert.Sigmoid.logistic_eq, gate_eq i]
  refine congrArg (fun h => h * Ideal.logistic h) (Eq.trans ?_ hH.symm)
  refine add4 _ _ _ _ _ _ _ _ _ _ _ ?_ ?_ ?_
  · exact back i x0 x1 r l 3 (by decide) _ (by show (r : ℕ) + 5 = r + 8 - 3; omega) _ _ _ (fun _ => rfl) (fun _ => rfl) (fun _ => rfl)
  · exact back i x0 x1 r l 2 (by decide) _ (by show (r : ℕ) + 6 = r + 8 - 2; omega) _ _ _ (fun _ => rfl) (fun _ => rfl) (fun _ => rfl)
  · exact back i x0 x1 r l 1 (by decide) _ (by show (r : ℕ) + 7 = r + 8 - 1; omega) _ _ _ (fun _ => rfl) (fun _ => rfl) (fun _ => rfl)

/-- The middle columns at row `n - 3`, nothing before the first row. -/
def tap (a0 : FVec Ideal Cert.ReferenceSsmConvIdeal.S4096x5376 .f32) (n : ℕ) (f : Fin 5376) : EReal :=
  if h : 3 ≤ n ∧ n < 4099 then a0 (ix2 ⟨n - 3, by omega⟩ f) else 0

/-- The convolution. -/
def hid (a0 : FVec Ideal Cert.ReferenceSsmConvIdeal.S4096x5376 .f32) (a1 : FVec Ideal Cert.ReferenceSsmConvIdeal.S4x3072 .f32) (a2 : FVec Ideal Cert.ReferenceSsmConvIdeal.S3072 .f32)
    (r : Fin 4096) (f : Fin 3072) (g : Fin 5376) : EReal :=
  a2 (ix1 f) + tap a0 r g * a1 (ix2 0 f) + tap a0 (r + 1) g * a1 (ix2 1 f) + tap a0 (r + 2) g * a1 (ix2 2 f) + a0 (ix2 r g) * a1 (ix2 3 f)

/-- Reads at equal coordinates are equal. -/
theorem read0 (a0 : FVec Ideal Cert.ReferenceSsmConvIdeal.S4096x5376 .f32) (n n' : Fin 4096) (f f' : Fin 5376) (e : (n : ℕ) = n') (ef : (f : ℕ) = f') :
    a0 (ix2 n f) = a0 (ix2 n' f') := by rw [Fin.ext e, Fin.ext ef]

/-- A guarded read is a row. -/
theorem tap_eq (a0 : FVec Ideal Cert.ReferenceSsmConvIdeal.S4096x5376 .f32) (n : ℕ) (hn : n < 4099) (f : Fin 5376) (P : Prop) [Decidable P]
    (hP : P ↔ n < 3) (n0 : ¬P → Fin 4096) (h0 : ∀ h, (n0 h : ℕ) = n - 3) :
    (if h : P then 0 else a0 (ix2 (n0 h) f)) = tap a0 n f := by
  unfold tap
  by_cases h : P
  · rw [dif_pos h, dif_neg (show ¬(3 ≤ n ∧ n < 4099) by have := hP.1 h; omega)]
  · rw [dif_neg h, dif_pos (show 3 ≤ n ∧ n < 4099 from ⟨by by_contra hc; exact h (hP.2 (by omega)), hn⟩)]
    exact read0 a0 _ _ _ _ (h0 h) rfl

section
open Cert.ReferenceSsmConvIdeal.Read

/-- The reference's result, from its convolution. -/
theorem ref_at (a0 : FVec Ideal Cert.ReferenceSsmConvIdeal.S4096x5376 .f32) (a1 : FVec Ideal Cert.ReferenceSsmConvIdeal.S4x3072 .f32) (a2 : FVec Ideal Cert.ReferenceSsmConvIdeal.S3072 .f32)
    (r : Fin 4096) (f : Fin 3072) :
    val_main_v33 (F := Ideal) a0 a1 a2 (ix2 r f) = val_main_v32 (F := Ideal) a0 a1 a2 (ix2 r f) * Ideal.logistic (val_main_v32 (F := Ideal) a0 a1 a2 (ix2 r f)) := by
  pointwise [val_main_v33, val_main_call0_v0, val_main_call0_v1, val_main_call0_v2, val_main_call0_v3, val_main_call0_v4, val_main_call0_v5, val_main_call0_cst, val_main_call0_cst_0]
  rfl

/-- The reference's convolution. -/
theorem refhid_at (a0 : FVec Ideal Cert.ReferenceSsmConvIdeal.S4096x5376 .f32) (a1 : FVec Ideal Cert.ReferenceSsmConvIdeal.S4x3072 .f32) (a2 : FVec Ideal Cert.ReferenceSsmConvIdeal.S3072 .f32)
    (r : Fin 4096) (f : Fin 3072) :
    val_main_v32 (F := Ideal) a0 a1 a2 (ix2 r f) = hid a0 a1 a2 r f ⟨2048 + f.val, by omega⟩ := by
  unfold hid
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_cst]
  refine add4 _ _ _ _ _ _ _ _ _ _ _ ?_ ?_ ?_
  · exact tap_eq a0 r (by omega) ⟨2048 + f.val, by omega⟩ ((r : ℕ) < 3) (by omega) (fun h => ⟨(r : ℕ) - 3, by omega⟩) (fun h => by show (r : ℕ) - 3 = (r : ℕ) - 3; omega)
  · exact tap_eq a0 ((r : ℕ) + 1) (by omega) ⟨2048 + f.val, by omega⟩ (1 + (r : ℕ) < 3) (by omega) (fun h => ⟨1 + (r : ℕ) - 3, by omega⟩) (fun h => by show 1 + (r : ℕ) - 3 = ((r : ℕ) + 1) - 3; omega)
  · exact tap_eq a0 ((r : ℕ) + 2) (by omega) ⟨2048 + f.val, by omega⟩ (2 + (r : ℕ) < 3) (by omega) (fun h => ⟨2 + (r : ℕ) - 3, by omega⟩) (fun h => by show 2 + (r : ℕ) - 3 = ((r : ℕ) + 2) - 3; omega)

end

variable (m : (ℓ : Loc nD τ sig) → Buf (Elt Ideal) ℓ)

/-- The block index of every window at every grid point, and the row block's number. -/
theorem idx : ∀ t : Fin cfg0.N, win0_0.index t = ![t.val % 8, t.val / 8 + 4]
    ∧ win0_1.index t = ![t.val % 8 * 64 - 1, t.val / 8 + 4]
    ∧ win0_2.index t = ![0, t.val / 8]
    ∧ win0_3.index t = ![0, t.val / 8]
    ∧ win0_4.index t = ![t.val % 8, t.val / 8] ∧ (grid0.coords t 1 : ℕ) = t.val % 8 ∧ t.val / 8 < 6 :=
  (by decide +kernel : ∀ t : Fin grid0.N, _)

/-- The column block's number is below six. -/
theorem col_lt (t : Fin cfg0.N) : t.val / 8 < 6 := (idx t).2.2.2.2.2.2

/-- The output block's place in the array. -/
theorem out_at (t : Fin cfg0.N) (r : Fin 512) (l : Fin 512) (A : FVec Ideal Cert.ReferenceSsmConvIdeal.S4096x3072 .f32) :
    A (((cfg0.win 4).blk t).view.emb (ix2 r l))
      = A (ix2 ⟨t.val % 8 * 512 + r.val, by omega⟩ ⟨t.val / 8 * 512 + l.val, by have := col_lt t; omega⟩) := by
  have h := idx t
  blk_point [idx t]

/-- The input's own block. -/
theorem own_at (c : Dev nD) (t : Fin cfg0.N) (r : Fin 512) (l : Fin 512) :
    X0_0 m c t (ix2 r l)
      = m ((c : Thread nD τ).loc main_arg0) (ix2 ⟨t.val % 8 * 512 + r.val, by omega⟩ ⟨2048 + (t.val / 8 * 512 + l.val), by have := col_lt t; omega⟩) := by
  unfold X0_0 Pipeline.Window.fill
  rw [dif_pos (moved0_0 t _)]
  blk_point [iblk, V, idx t]

/-- The rows before the block, of a block that is not the first. -/
theorem prev_at (c : Dev nD) (t : Fin cfg0.N) (ht : 0 < t.val % 8) (r : Fin 8) (l : Fin 512) :
    X0_1 m c t (ix2 r l)
      = m ((c : Thread nD τ).loc main_arg0) (ix2 ⟨t.val % 8 * 512 - 8 + r.val, by omega⟩ ⟨2048 + (t.val / 8 * 512 + l.val), by have := col_lt t; omega⟩) := by
  unfold X0_1 Pipeline.Window.fill
  rw [dif_pos (moved0_1 t _)]
  blk_point [iblk, V, idx t]

/-- The weights. -/
theorem weight_at (c : Dev nD) (t : Fin cfg0.N) (k : Fin 4) (l : Fin 512) :
    iblk m c 2 t (ix2 k l) = m ((c : Thread nD τ).loc main_arg1) (ix2 k ⟨t.val / 8 * 512 + l.val, by have := col_lt t; omega⟩) := by
  blk_point [iblk, V, idx t]

/-- The biases. -/
theorem bias_at (c : Dev nD) (t : Fin cfg0.N) (l : Fin 512) :
    iblk m c 3 t (ix2 0 l) = m ((c : Thread nD τ).loc main_arg2) (ix1 ⟨t.val / 8 * 512 + l.val, by have := col_lt t; omega⟩) := by
  blk_point [iblk, V, idx t]

/-- A row the block's convolution reads is the array's. -/
theorem tap_at (c : Dev nD) (t : Fin cfg0.N) (r : Fin 512) (l : Fin 512) (d : ℕ) (hd : d < 3) :
    ktap (grid0.coords t) (X0_0 m c t) (X0_1 m c t) ⟨r.val + (5 + d), by omega⟩ l
      = tap (m ((c : Thread nD τ).loc main_arg0)) (t.val % 8 * 512 + r.val + d) ⟨2048 + (t.val / 8 * 512 + l.val), by have := col_lt t; omega⟩ := by
  unfold ktap tap
  have hi := (idx t).2.2.2.2.2.1
  by_cases h : 8 ≤ r.val + (5 + d)
  · rw [dif_pos h, dif_pos (show 3 ≤ t.val % 8 * 512 + r.val + d ∧ t.val % 8 * 512 + r.val + d < 4099 by omega), own_at m c t ⟨r.val + (5 + d) - 8, by omega⟩ l]
    exact read0 _ _ _ _ _ (by show t.val % 8 * 512 + (r.val + (5 + d) - 8) = t.val % 8 * 512 + r.val + d - 3; omega) rfl
  · rw [dif_neg h]
    by_cases ht : 0 < t.val % 8
    · rw [if_pos (show 0 < (grid0.coords t 1 : ℕ) by omega), dif_pos (show 3 ≤ t.val % 8 * 512 + r.val + d ∧ t.val % 8 * 512 + r.val + d < 4099 by omega),
        prev_at m c t ht ⟨r.val + (5 + d), by omega⟩ l, mul_one]
      exact read0 _ _ _ _ _ (by show t.val % 8 * 512 - 8 + (r.val + (5 + d)) = t.val % 8 * 512 + r.val + d - 3; omega) rfl
    · rw [if_neg (show ¬0 < (grid0.coords t 1 : ℕ) by omega), dif_neg (show ¬(3 ≤ t.val % 8 * 512 + r.val + d ∧ t.val % 8 * 512 + r.val + d < 4099) by omega), mul_zero]

/-- What a grid point writes back is the reference's term at the block's place. -/
theorem point (c : Dev nD) (t : Fin cfg0.N) (y : S512x512.Idx) :
    k0_pay1 (F := Ideal) (X0_0 m c t) (k0_pay2 (F := Ideal) (grid0.coords t) (X0_1 m c t)) (iblk m c 2 t) (k0_pay3 (F := Ideal) (grid0.coords t) (X0_0 m c t) (X0_1 m c t) (iblk m c 2 t) (iblk m c 3 t)) (k0_pay4 (F := Ideal) (X0_0 m c t)) y
    = Cert.ReferenceSsmConvIdeal.Read.val_main_v33 (F := Ideal) (m ((c : Thread nD τ).loc main_arg0)) (m ((c : Thread nD τ).loc main_arg1)) (m ((c : Thread nD τ).loc main_arg2)) (((cfg0.win 4).blk t).view.emb y) := by
  obtain ⟨r, l, rfl⟩ : ∃ (r : Fin 512) (l : Fin 512), y = ix2 r l := ⟨y 0, y 1, by idx_ext⟩
  have hc := col_lt t
  refine Eq.trans ?_ ((out_at t r l _).trans (ref_at _ _ _ _ _)).symm
  rw [refhid_at]
  refine body_at _ _ _ _ _ r l _ ?_
  rw [weight_at m c t 0 l, weight_at m c t 1 l, weight_at m c t 2 l, weight_at m c t 3 l, bias_at m c t l, own_at m c t r l,
    tap_at m c t r l 0 (by omega), tap_at m c t r l 1 (by omega), tap_at m c t r l 2 (by omega)]
  rfl

/-- The array the kernel leaves is the reference's term of the arguments. -/
theorem final (c : Dev nD) : (dats m 0 c).arrAt 4 (cfgs 0).N
    = Cert.ReferenceSsmConvIdeal.Read.val_main_v33 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  unfold outsAt0
  frame_out
  exact point m c t y

/-- The two programs end with the same array from the same arguments. -/
theorem algebraic : Cert.algebraic_KernelSsmConvIdeal_ReferenceSsmConvIdeal := by
  pair_intro
  · run_from Cert.KernelSsmConvIdeal.Gen.run_main m g
  · run_from Cert.ReferenceSsmConvIdeal.Value.run m' g'
    refine (Cert.ReferenceSsmConvIdeal.Read.val_main_v33_eq m' c).trans ?_
    rw [(hagree c).1, (hagree c).2.1, (hagree c).2.2]
    exact (final m c).symm

end Cert.KernelSsmConvIdeal.Product

end
-- ==== Proof.LossHead.lean ====
/- The loss and its gradients in the last hidden state and in the last gain: the three result arrays of the kernel are the reference's. -/
module

public import proofs.«01_k».proof.Proof.RowNorm
public import proofs.«01_k».proof.Defs
public import proofs.«01_k».proof.Proof.Gen.KernelLossHeadIdeal.Value
public import proofs.«01_k».proof.Proof.Gen.ReferenceLossHeadIdeal.Run
public import proofs.«01_k».proof.Proof.Gen.ReferenceLossHeadIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelLossHeadIdeal.Product

open Cert.KernelLossHeadIdeal Cert.KernelLossHeadIdeal.Gen

/-- The error of a row at a column: the normalised row `x` times the gain `w`, less the target `y`. -/
def err (x w y : Fin 1024 → EReal) (l : Fin 1024) : EReal := x l * Ideal.rsqrt (Cert.RowNorm.ms x) * w l - y l

/-- The mean square error of a row. -/
def mse (x w y : Fin 1024 → EReal) : EReal := Ideal.div (∑ l, err x w y l * err x w y l) (Ideal.ofBits .f32 0x44800000#32)

/-- The gradient of the loss in a row's output. -/
def dy (x w y : Fin 1024 → EReal) (l : Fin 1024) : EReal := err x w y l * Ideal.ofBits .f32 0x3A800000#32

/-- The two ways of writing the gradient's factor give the same number. -/
theorem scale_eq (e : EReal) :
    Ideal.div (Ideal.ofBits .f32 0x3F000000#32 * Ideal.ofBits .f32 0x3F800000#32) (Ideal.ofBits .f32 0x44800000#32) * (Ideal.ofBits .f32 0x40000000#32 * e)
      = e * Ideal.ofBits .f32 0x3A800000#32 := by
  have h1 : Ideal.ofBits .f32 0x3F000000#32 = ((1 / 2 : ℝ) : EReal) := by
    simp [Ideal.ofBits, Ideal.ieee, -EReal.coe_mul]; norm_num
  have h2 : Ideal.ofBits .f32 0x3F800000#32 = ((1 : ℝ) : EReal) := by
    simp [Ideal.ofBits, Ideal.ieee, -EReal.coe_mul]; norm_num
  have h3 : Ideal.ofBits .f32 0x40000000#32 = ((2 : ℝ) : EReal) := by
    simp [Ideal.ofBits, Ideal.ieee, -EReal.coe_mul]; norm_num
  have h4 : Ideal.ofBits .f32 0x3A800000#32 = ((1 / 1024 : ℝ) : EReal) := by
    simp [Ideal.ofBits, Ideal.ieee, -EReal.coe_mul]; norm_num
  rw [h1, h2, h3, h4, Cert.RowNorm.len_eq, Cert.RowNorm.div_real _ _ (by norm_num), ← mul_assoc, ← EReal.coe_mul, ← EReal.coe_mul, ← EReal.coe_mul, mul_comm]
  refine congrArg (fun q : ℝ => e * (q : EReal)) ?_
  norm_num

/-- One half is a real that is not negative. -/
theorem half_eq : Ideal.ofBits .f32 0x3F000000#32 = ((1 / 2 : ℝ) : EReal) := by
  simp [Ideal.ofBits, Ideal.ieee, -EReal.coe_mul]; norm_num

/-- The row `r` of a block of 512 rows. -/
abbrev row (x : FVec Ideal S512x1024 .f32) (r : Fin 512) : Fin 1024 → EReal := fun l => x (ix2 r l)

/-- The one row of a gain. -/
abbrev one (w : FVec Ideal S1x1024 .f32) : Fin 1024 → EReal := fun l => w (ix2 0 l)

/-- The block's loss. -/
theorem loss_at (h : FVec Ideal S512x1024 .f32) (w : FVec Ideal S1x1024 .f32) (y : FVec Ideal S512x1024 .f32) :
    k0_pay9 (F := Ideal) h w y (ix2 0 0) = Ideal.ofBits .f32 0x3F000000#32 * ∑ r : Fin 512, mse (row h r) (one w) (row y r) := by
  pointwise [k0_pay9, k0_pay8, k0_pay7, k0_pay6, k0_pay5]
  rfl

/-- The first block's loss in every column. -/
theorem loss_first_at (a : FVec Ideal S1x1 .f32) (j : Fin 128) : k0_pay2 (F := Ideal) a (ix2 0 j) = a (ix2 0 0) := by
  pointwise [k0_pay2]

/-- A later block's loss added in every column. -/
theorem loss_later_at (a : FVec Ideal S1x1 .f32) (b : FVec Ideal S1x128 .f32) (j : Fin 128) : k0_pay3 (F := Ideal) a b (ix2 0 j) = b (ix2 0 j) + a (ix2 0 0) := by
  pointwise [k0_pay3]

/-- The stored rows at an index. -/
theorem rows_at (h : FVec Ideal S512x1024 .f32) (w : FVec Ideal S1x1024 .f32) (y : FVec Ideal S512x1024 .f32) (r : Fin 512) (l : Fin 1024) :
    k0_pay11 (F := Ideal) h w y (ix2 r l)
      = Cert.RowNorm.grad (row h r) (fun x => dy (row h r) (one w) (row y r) x * w (ix2 0 x)) l := by
  pointwise [k0_pay11, k0_pay10, k0_pay8, k0_pay7, k0_pay6, k0_pay5]
  rfl

/-- The column sums of one block at an index. -/
theorem cols_at (h : FVec Ideal S512x1024 .f32) (w : FVec Ideal S1x1024 .f32) (y : FVec Ideal S512x1024 .f32) (l : Fin 1024) :
    k0_pay1 (F := Ideal) (k0_pay7 (F := Ideal) h) (k0_pay10 (F := Ideal) h w y) (ix2 0 l)
      = ∑ r : Fin 512, dy (row h r) (one w) (row y r) l * (h (ix2 r l) * Ideal.rsqrt (Cert.RowNorm.ms (row h r))) := by
  pointwise [k0_pay1, k0_pay10, k0_pay8, k0_pay7, k0_pay6, k0_pay5]
  rfl

/-- The addition of one block's column sums at an index. -/
theorem add_at (a b : FVec Ideal S512x1024 .f32) (s : FVec Ideal S1x1024 .f32) (l : Fin 1024) :
    k0_pay4 (F := Ideal) a b s (ix2 0 l) = s (ix2 0 l) + k0_pay1 (F := Ideal) a b (ix2 0 l) := by
  pointwise [k0_pay4]

section
open Cert.ReferenceLossHeadIdeal.Read

/-- The row `r` of an array of 4096 rows. -/
abbrev arow (x : FVec Ideal Cert.ReferenceLossHeadIdeal.S4096x1024 .f32) (r : Fin 4096) : Fin 1024 → EReal := fun l => x (ix2 r l)

/-- The gain. -/
abbrev gain (w : FVec Ideal Cert.ReferenceLossHeadIdeal.S1024 .f32) : Fin 1024 → EReal := fun l => w (ix1 l)

/-- The reference's loss in every column. -/
theorem ref_loss (a0 a1 : FVec Ideal Cert.ReferenceLossHeadIdeal.S4096x1024 .f32) (a2 : FVec Ideal Cert.ReferenceLossHeadIdeal.S1024 .f32) (j : Fin 128) :
    val_main_v51 (F := Ideal) a0 a1 a2 (ix2 0 j) = Ideal.ofBits .f32 0x3F000000#32 * ∑ r : Fin 4096, mse (arow a0 r) (gain a2) (arow a1 r) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  rfl

/-- The reference's gradient in a row's output. -/
theorem ref_dy (a0 a1 : FVec Ideal Cert.ReferenceLossHeadIdeal.S4096x1024 .f32) (a2 : FVec Ideal Cert.ReferenceLossHeadIdeal.S1024 .f32) (r : Fin 4096) (l : Fin 1024) :
    val_main_v30 (F := Ideal) a0 a1 a2 (ix2 r l) = dy (arow a0 r) (gain a2) (arow a1 r) l := by
  unfold dy
  rw [← scale_eq]
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  rfl

/-- The reference's gradient in the hidden state. -/
theorem ref_rows (a0 a1 : FVec Ideal Cert.ReferenceLossHeadIdeal.S4096x1024 .f32) (a2 : FVec Ideal Cert.ReferenceLossHeadIdeal.S1024 .f32) (r : Fin 4096) (l : Fin 1024) :
    val_main_v50 (F := Ideal) a0 a1 a2 (ix2 r l) = Cert.RowNorm.grad (arow a0 r) (fun x => dy (arow a0 r) (gain a2) (arow a1 r) x * a2 (ix1 x)) l := by
  rw [Cert.RowNorm.grad_eq]
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  simp only [ref_dy, Fin.sum_univ_one]
  rfl

/-- The reference's gradient in the gain. -/
theorem ref_cols (a0 a1 : FVec Ideal Cert.ReferenceLossHeadIdeal.S4096x1024 .f32) (a2 : FVec Ideal Cert.ReferenceLossHeadIdeal.S1024 .f32) (l : Fin 1024) :
    val_main_v52 (F := Ideal) a0 a1 a2 (ix2 0 l)
      = ∑ r : Fin 4096, dy (arow a0 r) (gain a2) (arow a1 r) l * (a0 (ix2 r l) * Ideal.rsqrt (Cert.RowNorm.ms (arow a0 r))) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15]
  simp only [ref_dy, Fin.sum_univ_one]
  exact Finset.sum_congr rfl fun r _ => mul_comm _ _
end

variable (m : (ℓ : Loc nD τ sig) → Buf (Elt Ideal) ℓ)

/-- The block index of every window at every grid point. -/
theorem idx : ∀ t : Fin cfg0.N, win0_0.index t = ![t.val, 0]
    ∧ win0_1.index t = ![t.val, 0]
    ∧ win0_2.index t = ![0, 0]
    ∧ win0_3.index t = ![0, 0]
    ∧ win0_4.index t = ![t.val, 0]
    ∧ win0_5.index t = ![0, 0] ∧ t.val < 8 :=
  (by decide +kernel : ∀ t : Fin grid0.N, _)

/-- The row block's number is below eight. -/
theorem row_lt (t : Fin cfg0.N) : t.val < 8 := (idx t).2.2.2.2.2.2

/-- A row of the hidden state's block. -/
theorem h_at (c : Dev nD) (t : Fin cfg0.N) (r : Fin 512) (l : Fin 1024) :
    iblk m c 0 t (ix2 r l) = m ((c : Thread nD τ).loc main_arg0) (ix2 ⟨t.val * 512 + r.val, by have := row_lt t; omega⟩ l) := by
  have h := row_lt t
  blk_point [iblk, V, idx t]

/-- A row of the target's block. -/
theorem y_at (c : Dev nD) (t : Fin cfg0.N) (r : Fin 512) (l : Fin 1024) :
    iblk m c 1 t (ix2 r l) = m ((c : Thread nD τ).loc main_arg1) (ix2 ⟨t.val * 512 + r.val, by have := row_lt t; omega⟩ l) := by
  have h := row_lt t
  blk_point [iblk, V, idx t]

/-- The block of the gain. -/
theorem w_at (c : Dev nD) (t : Fin cfg0.N) (l : Fin 1024) :
    iblk m c 2 t (ix2 0 l) = m ((c : Thread nD τ).loc main_arg2) (ix1 l) := by
  blk_point [iblk, V, idx t]

/-- The hidden state. -/
abbrev H (c : Dev nD) (r : Fin 4096) : Fin 1024 → EReal := arow (m ((c : Thread nD τ).loc main_arg0)) r

/-- The target. -/
abbrev Y (c : Dev nD) (r : Fin 4096) : Fin 1024 → EReal := arow (m ((c : Thread nD τ).loc main_arg1)) r

/-- The gain of the arguments. -/
abbrev W (c : Dev nD) : Fin 1024 → EReal := gain (m ((c : Thread nD τ).loc main_arg2))

/-- The rows of a block are rows of the arguments. -/
theorem rows_eq (c : Dev nD) (t : Fin cfg0.N) (r : Fin 512) :
    row (iblk m c 0 t) r = H m c ⟨t.val * 512 + r.val, by have := row_lt t; omega⟩
    ∧ row (iblk m c 1 t) r = Y m c ⟨t.val * 512 + r.val, by have := row_lt t; omega⟩ ∧ one (iblk m c 2 t) = W m c :=
  ⟨funext fun l => h_at m c t r l, funext fun l => y_at m c t r l, funext fun l => w_at m c t l⟩

/-- What a point adds to the loss. -/
def losspart (c : Dev nD) (t : ℕ) (ht : t < 8) : EReal :=
  Ideal.ofBits .f32 0x3F000000#32 * ∑ r : Fin 512, mse (H m c ⟨t * 512 + r.val, by omega⟩) (W m c) (Y m c ⟨t * 512 + r.val, by omega⟩)

/-- A block's loss is that of its rows of the arguments. -/
theorem loss_block (c : Dev nD) (t : Fin cfg0.N) :
    k0_pay9 (F := Ideal) (iblk m c 0 t) (iblk m c 2 t) (iblk m c 1 t) (ix2 0 0) = losspart m c t.val (row_lt t) := by
  refine (loss_at _ _ _).trans ?_
  unfold losspart
  refine congrArg (fun s : EReal => _ * s) (Finset.sum_congr rfl fun r _ => ?_)
  rw [(rows_eq m c t r).1, (rows_eq m c t r).2.1, (rows_eq m c t r).2.2]

/-- What a point adds to the gradient in the gain. -/
def colpart (c : Dev nD) (t : ℕ) (ht : t < 8) (l : Fin 1024) : EReal :=
  ∑ r : Fin 512, dy (H m c ⟨t * 512 + r.val, by omega⟩) (W m c) (Y m c ⟨t * 512 + r.val, by omega⟩) l
    * (H m c ⟨t * 512 + r.val, by omega⟩ l * Ideal.rsqrt (Cert.RowNorm.ms (H m c ⟨t * 512 + r.val, by omega⟩)))

/-- A block's column sums are those of its rows of the arguments. -/
theorem cols_block (c : Dev nD) (t : Fin cfg0.N) (l : Fin 1024) :
    k0_pay1 (F := Ideal) (k0_pay7 (F := Ideal) (iblk m c 0 t)) (k0_pay10 (F := Ideal) (iblk m c 0 t) (iblk m c 2 t) (iblk m c 1 t)) (ix2 0 l)
      = colpart m c t.val (row_lt t) l := by
  refine (cols_at _ _ _ l).trans ?_
  unfold colpart
  refine Finset.sum_congr rfl fun r _ => ?_
  rw [(rows_eq m c t r).1, (rows_eq m c t r).2.1, (rows_eq m c t r).2.2, h_at m c t r l]

/-- The loss after the last point is the sum of the blocks' losses. -/
theorem loss_all (c : Dev nD) (t : Fin cfg0.N) (h : t.val % 8 = 7) (j : S1x128.Idx) :
    (outsAt0 m c t.val t.isLt).1 j = ∑ s : Fin 8, losspart m c (8 * (t.val / 8) + s.val) (row_lt ⟨8 * (t.val / 8) + s.val, Pipeline.run_point_lt_of_flush t h s⟩) := by
  rw [Pipeline.eq_sum_fin_of_reset_step_apply_of_flush (fun n h => (outsAt0 m c n h).1) 8 (fun _ => 0)
    (fun p j => losspart m c p.val (row_lt p))
    (fun t h j => by
      obtain ⟨l, rfl⟩ : ∃ l : Fin 128, j = ix2 0 l := ⟨j 1, by idx_ext⟩
      have hl := row_lt t
      rw [← loss_block m c t]
      rw [outsAt0_A m c t h (by omega)]; frame_out; rw [loss_first_at, zero_add])
    (fun t h j => by
      obtain ⟨l, rfl⟩ : ∃ l : Fin 128, j = ix2 0 l := ⟨j 1, by idx_ext⟩
      rw [← loss_block m c t]
      rw [outsAt0_B m c t h (by omega)]; frame_out; exact loss_later_at _ _ l)
    t h j, zero_add]

/-- The gradient in the gain after the last point is the sum of the blocks' column sums. -/
theorem cols_all (c : Dev nD) (t : Fin cfg0.N) (h : t.val % 8 = 7) (j : S1x1024.Idx) :
    (outsAt0 m c t.val t.isLt).2.2 j = ∑ s : Fin 8, colpart m c (8 * (t.val / 8) + s.val) (row_lt ⟨8 * (t.val / 8) + s.val, Pipeline.run_point_lt_of_flush t h s⟩) (j 1) := by
  rw [Pipeline.eq_sum_fin_of_reset_step_apply_of_flush (fun n h => (outsAt0 m c n h).2.2) 8 (fun _ => 0)
    (fun p j => colpart m c p.val (row_lt p) (j 1))
    (fun t h j => by
      obtain ⟨l, rfl⟩ : ∃ l : Fin 1024, j = ix2 0 l := ⟨j 1, by idx_ext⟩
      have hl := row_lt t
      refine Eq.trans ?_ ((zero_add _).trans (cols_block m c t l).symm).symm
      rw [outsAt0_A m c t h (by omega)]; frame_out)
    (fun t h j => by
      obtain ⟨l, rfl⟩ : ∃ l : Fin 1024, j = ix2 0 l := ⟨j 1, by idx_ext⟩
      refine Eq.trans ?_ (congrArg (fun q : EReal => _ + q) (cols_block m c t l))
      rw [outsAt0_B m c t h (by omega)]; frame_out; exact add_at _ _ _ l)
    t h j, zero_add]

/-- The rows a point stores. -/
theorem rows_last (c : Dev nD) (t : Fin cfg0.N) (y : S512x1024.Idx) :
    (outsAt0 m c t.val t.isLt).2.1 y = k0_pay11 (F := Ideal) (iblk m c 0 t) (iblk m c 2 t) (iblk m c 1 t) y := by
  by_cases h2 : t.val % 8 = 0
  · have hl := row_lt t
    rw [outsAt0_A m c t h2 (by omega)]; frame_out
  · rw [outsAt0_B m c t h2 (by omega)]; frame_out

/-- The place of a block of rows in the array of rows. -/
theorem out_at (t : Fin cfg0.N) (r : Fin 512) (l : Fin 1024) (A : FVec Ideal Cert.ReferenceLossHeadIdeal.S4096x1024 .f32) :
    A ((win0_4.blk t).view.emb (ix2 r l)) = A (ix2 ⟨t.val * 512 + r.val, by have := row_lt t; omega⟩ l) := by
  have h := idx t
  blk_point [idx t]

/-- The place of the loss in its array. -/
theorem out_loss_at (t : Fin cfg0.N) (j : Fin 128) (A : FVec Ideal Cert.ReferenceLossHeadIdeal.S1x128 .f32) :
    A ((win0_3.blk t).view.emb (ix2 0 j)) = A (ix2 0 j) := by
  have h := idx t
  blk_point [idx t]

/-- The place of the column sums in their array. -/
theorem out_cols_at (t : Fin cfg0.N) (l : Fin 1024) (A : FVec Ideal Cert.ReferenceLossHeadIdeal.S1x1024 .f32) :
    A ((win0_5.blk t).view.emb (ix2 0 l)) = A (ix2 0 l) := by
  have h := idx t
  blk_point [idx t]

/-- The blocks' losses sum to the loss of all rows. -/
theorem loss_sum (c : Dev nD) : ∑ s : Fin 8, losspart m c (8 * 0 + s.val) (by omega)
    = Ideal.ofBits .f32 0x3F000000#32 * ∑ r : Fin 4096, mse (H m c r) (W m c) (Y m c r) := by
  unfold losspart
  rw [half_eq, ← Cert.RowNorm.mul_sum _ _ (by norm_num)]
  refine congrArg (fun s : EReal => _ * s) ?_
  exact (Fin.sum_mul_add_congr fun s k hl => by simp only [Nat.mul_zero, Nat.zero_add])

/-- The loss the kernel leaves is the reference's. -/
theorem final_loss (c : Dev nD) : (dats m 0 c).arrAt 3 (cfgs 0).N
    = Cert.ReferenceLossHeadIdeal.Read.val_main_v51 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have h7 := (flush0_3 t).mp hf
  blk_simp
  rw [after0_3]
  obtain ⟨j, rfl⟩ : ∃ j : Fin 128, y = ix2 0 j := ⟨y 1, by idx_ext⟩
  refine Eq.trans ?_ ((out_loss_at t j _).trans (ref_loss _ _ _ j)).symm
  have hl := row_lt t
  refine (loss_all m c t (by omega) (ix2 0 j)).trans (Eq.trans ?_ (loss_sum m c))
  refine Finset.sum_congr rfl fun s _ => ?_
  simp only [show t.val / 8 = 0 by omega]

/-- The gradient in the hidden state the kernel leaves is the reference's. -/
theorem final_rows (c : Dev nD) : (dats m 0 c).arrAt 4 (cfgs 0).N
    = Cert.ReferenceLossHeadIdeal.Read.val_main_v50 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  obtain ⟨r, l, rfl⟩ : ∃ (r : Fin 512) (l : Fin 1024), y = ix2 r l := ⟨y 0, y 1, by idx_ext⟩
  refine Eq.trans ?_ ((out_at t r l _).trans (ref_rows _ _ _ _ _)).symm
  refine (rows_last m c t (ix2 r l)).trans ?_
  refine (rows_at _ _ _ r l).trans ?_
  refine congrArg₂ (fun x g => Cert.RowNorm.grad x g l) (rows_eq m c t r).1 (funext fun x => ?_)
  rw [(rows_eq m c t r).1, (rows_eq m c t r).2.1, (rows_eq m c t r).2.2, w_at m c t x]

/-- The gradient in the gain the kernel leaves is the reference's. -/
theorem final_cols (c : Dev nD) : (dats m 0 c).arrAt 5 (cfgs 0).N
    = Cert.ReferenceLossHeadIdeal.Read.val_main_v52 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  have h7 := (flush0_5 t).mp hf
  blk_simp
  rw [after0_5]
  obtain ⟨l, rfl⟩ : ∃ l : Fin 1024, y = ix2 0 l := ⟨y 1, by idx_ext⟩
  refine Eq.trans ?_ ((out_cols_at t l _).trans (ref_cols _ _ _ l)).symm
  have hl := row_lt t
  refine (cols_all m c t (by omega) (ix2 0 l)).trans ?_
  unfold colpart
  exact Fin.sum_mul_add_congr fun s k hl => by simp only [show t.val / 8 = 0 by omega, Nat.mul_zero, Nat.zero_add]; rfl

/-- The two programs end with the same arrays from the same arguments. -/
theorem algebraic : Cert.algebraic_KernelLossHeadIdeal_ReferenceLossHeadIdeal := by
  pair_intro
  · run_from Cert.KernelLossHeadIdeal.Gen.run_main m g
  · refine Idealize.ShloMosaic.θ_run_mono (Cert.ReferenceLossHeadIdeal.Value.run m' g') fun r hr c => ?_
    have e0 := (hagree c).1
    have e1 := (hagree c).2.1
    have e2 := (hagree c).2.2
    refine ⟨(hr c).1.trans ?_, (hr c).2.1.trans ?_, (hr c).2.2.1.trans ?_, (hr c).2.2.2⟩
    · rw [e0, e1, e2]
      exact (Cert.ReferenceLossHeadIdeal.Read.val_main_v51_eq _ _ _).trans (final_loss m c).symm
    · refine (Cert.ReferenceLossHeadIdeal.Read.val_main_v50_eq m' c).trans ?_
      rw [e0, e1, e2]
      exact (final_rows m c).symm
    · rw [e0, e1, e2]
      exact (Cert.ReferenceLossHeadIdeal.Read.val_main_v52_eq _ _ _).trans (final_cols m c).symm

end Cert.KernelLossHeadIdeal.Product

end
-- ==== Proof.Gate.lean ====
/- The gate of the feed-forward block with its convolution, backward: the arrays of the kernel are the reference's. -/
module

public import proofs.«01_k».proof.Proof.Sigmoid
public import proofs.«01_k».proof.Defs
public import proofs.«01_k».proof.Proof.Gen.KernelGateIdeal.Value
public import proofs.«01_k».proof.Proof.Gen.ReferenceGateIdeal.Run
public import proofs.«01_k».proof.Proof.Gen.ReferenceGateIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelGateIdeal.Product

open Cert.KernelGateIdeal Cert.KernelGateIdeal.Gen

/-- The rows a block's convolution reads: the last rows of the block before it (none before the first), then the block's own. -/
def ktap (i : grid0.Coords) (x0 : FVec Ideal S2x256x1408 .bf16) (x1 : FVec Ideal S2x16x1408 .bf16) (p : Fin 2) (n : Fin 272) (l : Fin 1408) : EReal :=
  if h : 16 ≤ (n : ℕ) then x0 (ix3 p ⟨n - 16, by omega⟩ l) else x1 (ix3 p ⟨n, by omega⟩ l) * (if 0 < (i 1 : ℕ) then 1 else 0)

/-- The switch of the first row block as a number. -/
theorem gate_eq (i : grid0.Coords) :
    (((Scalar.extui (Scalar.cmpi CmpIPredicate.sgt (BitVec.ofNat 32 (i 1 : ℕ)) 0#32) : BitVec 32).toInt : ℝ) : EReal) = if 0 < (i 1 : ℕ) then 1 else 0 := by
  have h : ∀ q : Fin 16, (Scalar.extui (Scalar.cmpi CmpIPredicate.sgt (BitVec.ofNat 32 q.val) 0#32) : BitVec 32).toInt = if 0 < q.val then 1 else 0 := by decide
  rw [h (i 1)]
  split <;> simp

/-- A choice by the comparison of a row below eight with one. -/
theorem select1 (r : Fin 256) (h : (r : ℕ) < 8) (a b : EReal) :
    Scalar.select (IntOp.cmpi CmpIPredicate.slt (BitVec.ofNat 32 (r : ℕ)) 1#32) a b = if (r : ℕ) < 1 then a else b := by
  have e : ∀ q : Fin 8, IntOp.cmpi CmpIPredicate.slt (BitVec.ofNat 32 q.val) 1#32 = if q.val < 1 then 1#1 else 0#1 := by decide
  rw [e ⟨r, h⟩]
  by_cases h1 : (r : ℕ) < 1
  · rw [if_pos h1, if_pos h1]; rfl
  · rw [if_neg h1, if_neg h1]; rfl

/-- A choice by the comparison of a row below eight with two. -/
theorem select2 (r : Fin 256) (h : (r : ℕ) < 8) (a b : EReal) :
    Scalar.select (IntOp.cmpi CmpIPredicate.slt (BitVec.ofNat 32 (r : ℕ)) 2#32) a b = if (r : ℕ) < 2 then a else b := by
  have e : ∀ q : Fin 8, IntOp.cmpi CmpIPredicate.slt (BitVec.ofNat 32 q.val) 2#32 = if q.val < 2 then 1#1 else 0#1 := by decide
  rw [e ⟨r, h⟩]
  by_cases h1 : (r : ℕ) < 2
  · rw [if_pos h1, if_pos h1]; rfl
  · rw [if_neg h1, if_neg h1]; rfl

/-- Equal rows are equal indices of a block of two planes. -/
theorem ix_congr {n : ℕ} {p : Fin 2} {l : Fin 1408} {a b : Fin n} (h : (a : ℕ) = b) : (ix3 p a l) = ix3 p b l := by
  rw [Fin.ext h]

/-- One row back. -/
theorem back1 (i : grid0.Coords) (x0 : FVec Ideal S2x256x1408 .bf16) (x1 : FVec Ideal S2x16x1408 .bf16) (p : Fin 2) (r : Fin 256) (l : Fin 1408)
    (P : Prop) [Decidable P] (hP : P ↔ (r : ℕ) < 8) (A C : P → EReal) (B : ¬P → EReal)
    (hA : ∀ h : P, (r : ℕ) < 1 → A h = ktap i x0 x1 p ⟨(r : ℕ) + 15, by omega⟩ l) (hC : ∀ h : P, ¬(r : ℕ) < 1 → C h = ktap i x0 x1 p ⟨(r : ℕ) + 15, by omega⟩ l)
    (hB : ∀ h : ¬P, B h = ktap i x0 x1 p ⟨(r : ℕ) + 15, by omega⟩ l) :
    (if h : P then Scalar.select (IntOp.cmpi CmpIPredicate.slt (BitVec.ofNat 32 (r : ℕ)) 1#32) (A h) (C h) else B h) = ktap i x0 x1 p ⟨(r : ℕ) + 15, by omega⟩ l := by
  by_cases h : P
  · rw [dif_pos h, select1 r (hP.1 h)]
    by_cases h1 : (r : ℕ) < 1
    · rw [if_pos h1]; exact hA h h1
    · rw [if_neg h1]; exact hC h h1
  · rw [dif_neg h]; exact hB h

/-- Two rows back. -/
theorem back2 (i : grid0.Coords) (x0 : FVec Ideal S2x256x1408 .bf16) (x1 : FVec Ideal S2x16x1408 .bf16) (p : Fin 2) (r : Fin 256) (l : Fin 1408)
    (P : Prop) [Decidable P] (hP : P ↔ (r : ℕ) < 8) (A C : P → EReal) (B : ¬P → EReal)
    (hA : ∀ h : P, (r : ℕ) < 2 → A h = ktap i x0 x1 p ⟨(r : ℕ) + 14, by omega⟩ l) (hC : ∀ h : P, ¬(r : ℕ) < 2 → C h = ktap i x0 x1 p ⟨(r : ℕ) + 14, by omega⟩ l)
    (hB : ∀ h : ¬P, B h = ktap i x0 x1 p ⟨(r : ℕ) + 14, by omega⟩ l) :
    (if h : P then Scalar.select (IntOp.cmpi CmpIPredicate.slt (BitVec.ofNat 32 (r : ℕ)) 2#32) (A h) (C h) else B h) = ktap i x0 x1 p ⟨(r : ℕ) + 14, by omega⟩ l := by
  by_cases h : P
  · rw [dif_pos h, select2 r (hP.1 h)]
    by_cases h1 : (r : ℕ) < 2
    · rw [if_pos h1]; exact hA h h1
    · rw [if_neg h1]; exact hC h h1
  · rw [dif_neg h]; exact hB h

/-- A row of the block before. -/
theorem before (i : grid0.Coords) (x0 : FVec Ideal S2x256x1408 .bf16) (x1 : FVec Ideal S2x16x1408 .bf16) (p : Fin 2) (n : Fin 272) (k : Fin 16) (l : Fin 1408) (h : (n : ℕ) = k) :
    x1 (ix3 p k l) * (if 0 < (i 1 : ℕ) then 1 else 0) = ktap i x0 x1 p n l := by
  unfold ktap
  rw [dif_neg (show ¬16 ≤ (n : ℕ) by omega)]
  exact congrArg (fun q => x1 q * _) (ix_congr h.symm)

/-- A row of the block itself. -/
theorem inside (i : grid0.Coords) (x0 : FVec Ideal S2x256x1408 .bf16) (x1 : FVec Ideal S2x16x1408 .bf16) (p : Fin 2) (n : Fin 272) (k : Fin 256) (l : Fin 1408) (h : (n : ℕ) = k + 16) :
    x0 (ix3 p k l) = ktap i x0 x1 p n l := by
  unfold ktap
  rw [dif_pos (show 16 ≤ (n : ℕ) by omega)]
  exact congrArg x0 (ix_congr (show (k : ℕ) = n - 16 by omega))

/-- The derivative of the activation. -/
def slope (h : EReal) : EReal := Ideal.logistic h * (Ideal.ofBits .f32 0x3F800000#32 + h * (Ideal.ofBits .f32 0x3F800000#32 - Ideal.logistic h))

/-- The derivative by the product's rule. -/
theorem slope_eq (h : EReal) : Ideal.ofBits .f32 0x3F800000#32 * Ideal.logistic h + h * Ideal.ofBits .f32 0x3F800000#32 * (Ideal.logistic h * (Ideal.ofBits .f32 0x3F800000#32 - Ideal.logistic h)) = slope h := by
  unfold slope
  rw [Cert.Sigmoid.one_eq]
  induction h with
  | bot => simp [Ideal.logistic_bot]
  | top =>
    rw [Ideal.logistic_top, EReal.coe_one, show (1 : EReal) - 1 = 0 by rw [← EReal.coe_one, ← EReal.coe_sub, sub_self, EReal.coe_zero]]
    simp
  | coe r =>
    rw [Ideal.logistic_coe]
    norm_cast
    ring

/-- The gate's plane, two rows back. -/
theorem gback2_at (i : grid0.Coords) (x0 : FVec Ideal S2x256x1408 .bf16) (x1 : FVec Ideal S2x16x1408 .bf16) (r : Fin 256) (l : Fin 1408) :
    k0_pay6 (F := Ideal) i x0 x1 (ix2 r l) = ktap i x0 x1 0 ⟨(r : ℕ) + 14, by omega⟩ l := by
  pointwise [k0_pay2, k0_pay3, k0_pay4, k0_pay5, k0_pay6]
  rw [gate_eq i]
  refine back2 i x0 x1 0 r l _ Iff.rfl _ _ _ ?_ ?_ ?_
  · intro h h1; exact before i x0 x1 _ _ _ l (show (r : ℕ) + 14 = 8 + ((r : ℕ) + 8 - 2) % 8 by omega)
  · intro h h1; exact inside i x0 x1 _ _ _ l (show (r : ℕ) + 14 = ((r : ℕ) + 8 - 2) % 8 + 16 by omega)
  · intro h; exact inside i x0 x1 _ _ _ l (show (r : ℕ) + 14 = (8 + ((r : ℕ) - 8) + 256 - 2) % 256 + 16 by omega)

/-- The gate's plane, one row back. -/
theorem gback1_at (i : grid0.Coords) (x0 : FVec Ideal S2x256x1408 .bf16) (x1 : FVec Ideal S2x16x1408 .bf16) (r : Fin 256) (l : Fin 1408) :
    k0_pay12 (F := Ideal) (k0_pay8 (F := Ideal) x0) (k0_pay9 (F := Ideal) x0) (k0_pay10 (F := Ideal) i x1) k0_pay11 (ix2 r l) = ktap i x0 x1 0 ⟨(r : ℕ) + 15, by omega⟩ l := by
  pointwise [k0_pay2, k0_pay3, k0_pay4, k0_pay5, k0_pay8, k0_pay9, k0_pay10, k0_pay11, k0_pay12]
  rw [gate_eq i]
  refine back1 i x0 x1 0 r l _ Iff.rfl _ _ _ ?_ ?_ ?_
  · intro h h1; exact before i x0 x1 _ _ _ l (show (r : ℕ) + 15 = 8 + ((r : ℕ) + 8 - 1) % 8 by omega)
  · intro h h1; exact inside i x0 x1 _ _ _ l (show (r : ℕ) + 15 = ((r : ℕ) + 8 - 1) % 8 + 16 by omega)
  · intro h; exact inside i x0 x1 _ _ _ l (show (r : ℕ) + 15 = (8 + ((r : ℕ) - 8) + 256 - 1) % 256 + 16 by omega)

/-- The gate's plane itself. -/
theorem gown_at (x0 : FVec Ideal S2x256x1408 .bf16) (r : Fin 256) (l : Fin 1408) :
    k0_pay4 (F := Ideal) x0 (ix2 r l) = x0 (ix3 0 r l) := by
  pointwise [k0_pay2, k0_pay4]

/-- The value's plane, two rows back. -/
theorem vback2_at (i : grid0.Coords) (x0 : FVec Ideal S2x256x1408 .bf16) (x1 : FVec Ideal S2x16x1408 .bf16) (r : Fin 256) (l : Fin 1408) :
    k0_pay16 (F := Ideal) (k0_pay2 (F := Ideal) x0) (k0_pay3 (F := Ideal) i x1) (ix2 r l) = ktap i x0 x1 1 ⟨(r : ℕ) + 14, by omega⟩ l := by
  pointwise [k0_pay2, k0_pay3, k0_pay14, k0_pay15, k0_pay16]
  rw [gate_eq i]
  refine back2 i x0 x1 1 r l _ Iff.rfl _ _ _ ?_ ?_ ?_
  · intro h h1; exact before i x0 x1 _ _ _ l (show (r : ℕ) + 14 = 8 + ((r : ℕ) + 8 - 2) % 8 by omega)
  · intro h h1; exact inside i x0 x1 _ _ _ l (show (r : ℕ) + 14 = ((r : ℕ) + 8 - 2) % 8 + 16 by omega)
  · intro h; exact inside i x0 x1 _ _ _ l (show (r : ℕ) + 14 = (8 + ((r : ℕ) - 8) + 256 - 2) % 256 + 16 by omega)

/-- The value's plane, one row back. -/
theorem vback1_at (i : grid0.Coords) (x0 : FVec Ideal S2x256x1408 .bf16) (x1 : FVec Ideal S2x16x1408 .bf16) (r : Fin 256) (l : Fin 1408) :
    k0_pay17 (F := Ideal) (k0_pay2 (F := Ideal) x0) (k0_pay3 (F := Ideal) i x1) (ix2 r l) = ktap i x0 x1 1 ⟨(r : ℕ) + 15, by omega⟩ l := by
  pointwise [k0_pay2, k0_pay3, k0_pay14, k0_pay15, k0_pay17]
  rw [gate_eq i]
  refine back1 i x0 x1 1 r l _ Iff.rfl _ _ _ ?_ ?_ ?_
  · intro h h1; exact before i x0 x1 _ _ _ l (show (r : ℕ) + 15 = 8 + ((r : ℕ) + 8 - 1) % 8 by omega)
  · intro h h1; exact inside i x0 x1 _ _ _ l (show (r : ℕ) + 15 = ((r : ℕ) + 8 - 1) % 8 + 16 by omega)
  · intro h; exact inside i x0 x1 _ _ _ l (show (r : ℕ) + 15 = (8 + ((r : ℕ) - 8) + 256 - 1) % 256 + 16 by omega)

/-- The value's plane itself. -/
theorem vown_at (x0 : FVec Ideal S2x256x1408 .bf16) (r : Fin 256) (l : Fin 1408) :
    k0_pay14 (F := Ideal) (k0_pay2 (F := Ideal) x0) (ix2 r l) = x0 (ix3 1 r l) := by
  pointwise [k0_pay2, k0_pay14]

/-- The convolution of the gate's plane in a block. -/
theorem hid0_at (i : grid0.Coords) (x0 : FVec Ideal S2x256x1408 .bf16) (x1 : FVec Ideal S2x16x1408 .bf16) (w : FVec Ideal S3x1408 .f32) (b : FVec Ideal S1x1408 .f32)
    (r : Fin 256) (l : Fin 1408) :
    k0_pay13 (F := Ideal) (k0_pay4 (F := Ideal) x0) w (k0_pay7 (F := Ideal) i x0 x1 w b) (k0_pay8 (F := Ideal) x0) (k0_pay9 (F := Ideal) x0) (k0_pay10 (F := Ideal) i x1) k0_pay11 (ix2 r l)
      = b (ix2 0 l) + ktap i x0 x1 0 ⟨(r : ℕ) + 14, by omega⟩ l * w (ix2 0 l) + ktap i x0 x1 0 ⟨(r : ℕ) + 15, by omega⟩ l * w (ix2 1 l) + x0 (ix3 0 r l) * w (ix2 2 l) := by
  rw [← gback2_at, ← gback1_at, ← gown_at x0 r l]
  pointwise [k0_pay13, k0_pay7]

/-- The convolution of the value's plane in a block. -/
theorem hid1_at (i : grid0.Coords) (x0 : FVec Ideal S2x256x1408 .bf16) (x1 : FVec Ideal S2x16x1408 .bf16) (w : FVec Ideal S3x1408 .f32) (b : FVec Ideal S1x1408 .f32)
    (r : Fin 256) (l : Fin 1408) :
    k0_pay18 (F := Ideal) (k0_pay2 (F := Ideal) x0) (k0_pay3 (F := Ideal) i x1) w b (ix2 r l) + k0_pay14 (F := Ideal) (k0_pay2 (F := Ideal) x0) (ix2 r l) * k0_pay19 (F := Ideal) w (ix2 0 l)
      = b (ix2 0 l) + ktap i x0 x1 1 ⟨(r : ℕ) + 14, by omega⟩ l * w (ix2 0 l) + ktap i x0 x1 1 ⟨(r : ℕ) + 15, by omega⟩ l * w (ix2 1 l) + x0 (ix3 1 r l) * w (ix2 2 l) := by
  rw [← vback2_at, ← vback1_at, ← vown_at x0 r l]
  pointwise [k0_pay18, k0_pay19]

/-- The cotangent of the gate before the activation, from the two convolved planes. -/
theorem dgate_at (g p v : FVec Ideal S256x1408 .f32) (w : FVec Ideal S1x1408 .f32) (d : FVec Ideal S256x1408 .bf16) (r : Fin 256) (l : Fin 1408) :
    k0_pay22 (F := Ideal) g p v w d (ix2 r l) = d (ix2 r l) * (v (ix2 r l) + p (ix2 r l) * w (ix2 0 l)) * slope (g (ix2 r l)) := by
  unfold slope
  rw [← Cert.Sigmoid.logistic_eq]
  pointwise [k0_pay22, k0_pay21, k0_pay20]

/-- The cotangent of the value, from the convolved gate. -/
theorem dvalue_at (g : FVec Ideal S256x1408 .f32) (d : FVec Ideal S256x1408 .bf16) (r : Fin 256) (l : Fin 1408) :
    k0_pay23 (F := Ideal) g d (ix2 r l) = d (ix2 r l) * (g (ix2 r l) * Ideal.logistic (g (ix2 r l))) := by
  rw [← Cert.Sigmoid.logistic_eq]
  pointwise [k0_pay23, k0_pay21, k0_pay20]

/-- The stored plane of the gate's cotangent. -/
theorem store0_at (g p v : FVec Ideal S256x1408 .f32) (w : FVec Ideal S1x1408 .f32) (d : FVec Ideal S256x1408 .bf16) (r : Fin 256) (l : Fin 1408) :
    k0_pay24 (F := Ideal) g p v w d (ix3 0 r l) = k0_pay22 (F := Ideal) g p v w d (ix2 r l) := by
  pointwise [k0_pay24]

/-- The stored plane of the value's cotangent. -/
theorem store1_at (g : FVec Ideal S256x1408 .f32) (d : FVec Ideal S256x1408 .bf16) (r : Fin 256) (l : Fin 1408) :
    k0_pay25 (F := Ideal) g d (ix3 0 r l) = k0_pay23 (F := Ideal) g d (ix2 r l) := by
  pointwise [k0_pay25]

/-- A row of the weights' gradient, increased by a block's sum. -/
theorem row31_at (s d : FVec Ideal S256x1408 .f32) (a : FVec Ideal S1x1x1408 .f32) (l : Fin 1408) :
    k0_pay31 (F := Ideal) s d a (ix3 0 0 l) = a (ix3 0 0 l) + ∑ r : Fin 256, d (ix2 r l) * s (ix2 r l) := by
  pointwise [k0_pay31]

/-- A row of the weights' gradient, increased by a block's sum. -/
theorem row32_at (s d : FVec Ideal S256x1408 .f32) (a : FVec Ideal S1x1x1408 .f32) (l : Fin 1408) :
    k0_pay32 (F := Ideal) s d a (ix3 0 0 l) = a (ix3 0 0 l) + ∑ r : Fin 256, d (ix2 r l) * s (ix2 r l) := by
  pointwise [k0_pay32]

/-- A row of the weights' gradient, increased by a block's sum. -/
theorem row33_at (s d : FVec Ideal S256x1408 .f32) (a : FVec Ideal S1x1x1408 .f32) (l : Fin 1408) :
    k0_pay33 (F := Ideal) s d a (ix3 0 0 l) = a (ix3 0 0 l) + ∑ r : Fin 256, d (ix2 r l) * s (ix2 r l) := by
  pointwise [k0_pay33]

/-- A row of the weights' gradient, increased by a block's sum. -/
theorem row34_at (s d : FVec Ideal S256x1408 .f32) (a : FVec Ideal S1x1x1408 .f32) (l : Fin 1408) :
    k0_pay34 (F := Ideal) s d a (ix3 0 0 l) = a (ix3 0 0 l) + ∑ r : Fin 256, d (ix2 r l) * s (ix2 r l) := by
  pointwise [k0_pay34]

/-- A row of the weights' gradient, increased by a block's sum. -/
theorem row35_at (s d : FVec Ideal S256x1408 .f32) (a : FVec Ideal S1x1x1408 .f32) (l : Fin 1408) :
    k0_pay35 (F := Ideal) s d a (ix3 0 0 l) = a (ix3 0 0 l) + ∑ r : Fin 256, d (ix2 r l) * s (ix2 r l) := by
  pointwise [k0_pay35]

/-- A row of the weights' gradient, increased by a block's sum. -/
theorem row36_at (s d : FVec Ideal S256x1408 .f32) (a : FVec Ideal S1x1x1408 .f32) (l : Fin 1408) :
    k0_pay1 (F := Ideal) (k0_pay36 (F := Ideal) s d a) (ix3 0 0 l) = a (ix3 0 0 l) + ∑ r : Fin 256, d (ix2 r l) * s (ix2 r l) := by
  pointwise [k0_pay1, k0_pay36]

/-- The gate's part of the biases' gradient, increased by a block's sum. -/
theorem bias0_add_at (g p v : FVec Ideal S256x1408 .f32) (w : FVec Ideal S1x1408 .f32) (d : FVec Ideal S256x1408 .bf16) (a : FVec Ideal S1x1x1408 .f32) (l : Fin 1408) :
    k0_pay29 (F := Ideal) (k0_pay28 (F := Ideal) g p v w d a) (ix3 0 0 l) = a (ix3 0 0 l) + ∑ r : Fin 256, k0_pay22 (F := Ideal) g p v w d (ix2 r l) := by
  pointwise [k0_pay29, k0_pay28]

/-- The value's part of the biases' gradient, increased by a block's sum. -/
theorem bias1_add_at (d : FVec Ideal S256x1408 .f32) (a : FVec Ideal S1x1x1408 .f32) (l : Fin 1408) :
    k0_pay30 (F := Ideal) d a (ix3 0 0 l) = a (ix3 0 0 l) + ∑ r : Fin 256, d (ix2 r l) := by
  pointwise [k0_pay30]

/-- The zeros stored first. -/
theorem zero8_at (p : Fin 2) (k : Fin 3) (l : Fin 1408) : k0_pay26 (F := Ideal) (ix3 p k l) = 0 := by
  pointwise [k0_pay26]

/-- The zeros stored first. -/
theorem zero9_at (p : Fin 2) (k : Fin 1) (l : Fin 1408) : k0_pay27 (F := Ideal) (ix3 p k l) = 0 := by
  pointwise [k0_pay27]

/-- A plane at row `n - 2`, nothing before the first row. -/
def tap (a0 : FVec Ideal Cert.ReferenceGateIdeal.S2x4096x2816 .bf16) (p : Fin 2) (n : ℕ) (f : Fin 2816) : EReal :=
  if h : 2 ≤ n ∧ n < 4098 then a0 (ix3 p ⟨n - 2, by omega⟩ f) else 0

/-- The convolution of a plane. -/
def hid (a0 : FVec Ideal Cert.ReferenceGateIdeal.S2x4096x2816 .bf16) (a1 : FVec Ideal Cert.ReferenceGateIdeal.S3x5632 .f32) (a2 : FVec Ideal Cert.ReferenceGateIdeal.S5632 .f32)
    (p : Fin 2) (r : Fin 4096) (f : Fin 2816) (g : Fin 5632) : EReal :=
  a2 (ix1 g) + tap a0 p r f * a1 (ix2 0 g) + tap a0 p (r + 1) f * a1 (ix2 1 g) + a0 (ix3 p r f) * a1 (ix2 2 g)

/-- Reads of a plane at equal rows are equal. -/
theorem read0 (a0 : FVec Ideal Cert.ReferenceGateIdeal.S2x4096x2816 .bf16) (p : Fin 2) (n n' : Fin 4096) (f f' : Fin 2816) (e : (n : ℕ) = n') (ef : (f : ℕ) = f') :
    a0 (ix3 p n f) = a0 (ix3 p n' f') := by rw [Fin.ext e, Fin.ext ef]

/-- A guarded read of the two planes side by side is a row of one of them. -/
theorem tap_eq (a0 : FVec Ideal Cert.ReferenceGateIdeal.S2x4096x2816 .bf16) (p : Fin 2) (n : ℕ) (hn : n < 4098) (f : Fin 2816) (P Q : Prop) [Decidable P] [Decidable Q]
    (hP : P ↔ n < 2) (hQ : Q ↔ (p : ℕ) = 0) (n0 n1 : ¬P → Fin 4096) (f0 : Q → Fin 2816) (f1 : ¬Q → Fin 2816)
    (h0 : ∀ h, (n0 h : ℕ) = n - 2) (h1 : ∀ h, (n1 h : ℕ) = n - 2) (g0 : ∀ h, (f0 h : ℕ) = f) (g1 : ∀ h, (f1 h : ℕ) = f) :
    (if h : P then 0 else if k : Q then a0 (ix3 0 (n0 h) (f0 k)) else a0 (ix3 1 (n1 h) (f1 k))) = tap a0 p n f := by
  unfold tap
  by_cases h : P
  · rw [dif_pos h, dif_neg (show ¬(2 ≤ n ∧ n < 4098) by have := hP.1 h; omega)]
  · rw [dif_neg h, dif_pos (show 2 ≤ n ∧ n < 4098 from ⟨by by_contra hc; exact h (hP.2 (by omega)), hn⟩)]
    by_cases k : Q
    · obtain rfl : p = 0 := Fin.ext (hQ.1 k)
      rw [dif_pos k]; exact read0 a0 _ _ _ _ _ (h0 h) (g0 k)
    · obtain rfl : p = 1 := Fin.ext (by have : ¬(p : ℕ) = 0 := fun h => k (hQ.2 h); show (p : ℕ) = 1; omega)
      rw [dif_neg k]; exact read0 a0 _ _ _ _ _ (h1 h) (g1 k)

section
open Cert.ReferenceGateIdeal.Read

/-- The reference's convolution. -/
theorem refhid_at (a0 : FVec Ideal Cert.ReferenceGateIdeal.S2x4096x2816 .bf16) (a1 : FVec Ideal Cert.ReferenceGateIdeal.S3x5632 .f32) (a2 : FVec Ideal Cert.ReferenceGateIdeal.S5632 .f32)
    (p : Fin 2) (r : Fin 4096) (f : Fin 2816) (g : Fin 5632) (hg : (g : ℕ) = p * 2816 + f) :
    val_main_v30 (F := Ideal) a0 a1 a2 (ix2 r g) = hid a0 a1 a2 p r f g := by
  have hp : (p : ℕ) = 0 ∨ (p : ℕ) = 1 := by omega
  unfold hid
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst]
  have e0 := tap_eq a0 p r (by omega) f ((r : ℕ) < 2) ((g : ℕ) < 2816) Iff.rfl (by omega) (fun _ => ⟨(r : ℕ) - 2, by omega⟩) (fun _ => ⟨(r : ℕ) - 2, by omega⟩) (fun h => ⟨(g : ℕ), h⟩) (fun h => ⟨(g : ℕ) - 2816, by omega⟩)
    (fun _ => rfl) (fun _ => rfl) (fun h => by show (g : ℕ) = f; omega) (fun h => by show (g : ℕ) - 2816 = f; omega)
  have e1 := tap_eq a0 p ((r : ℕ) + 1) (by omega) f (1 + (r : ℕ) < 2) ((g : ℕ) < 2816) (by omega) (by omega) (fun h => ⟨1 + (r : ℕ) - 2, by omega⟩) (fun h => ⟨1 + (r : ℕ) - 2, by omega⟩) (fun h => ⟨(g : ℕ), h⟩) (fun h => ⟨(g : ℕ) - 2816, by omega⟩)
    (fun h => by show 1 + (r : ℕ) - 2 = r + 1 - 2; omega) (fun h => by show 1 + (r : ℕ) - 2 = r + 1 - 2; omega) (fun h => by show (g : ℕ) = f; omega) (fun h => by show (g : ℕ) - 2816 = f; omega)
  have e2 := tap_eq a0 p ((r : ℕ) + 2) (by omega) f ((r : ℕ) + 2 < 2) ((g : ℕ) < 2816) Iff.rfl (by omega) (fun _ => r) (fun _ => r) (fun h => ⟨(g : ℕ), h⟩) (fun h => ⟨(g : ℕ) - 2816, by omega⟩)
    (fun h => by show (r : ℕ) = r + 2 - 2; omega) (fun h => by show (r : ℕ) = r + 2 - 2; omega) (fun h => by show (g : ℕ) = f; omega) (fun h => by show (g : ℕ) - 2816 = f; omega)
  rw [dif_neg (show ¬((r : ℕ) + 2 < 2) by omega)] at e2
  unfold tap at e2
  rw [dif_pos (show 2 ≤ (r : ℕ) + 2 ∧ (r : ℕ) + 2 < 4098 by omega)] at e2
  rw [← e0, ← e1]
  exact congrArg (fun z => _ + z * a1 (ix2 2 g)) e2

/-- The reference's cotangent of the gate before the activation. -/
theorem ref_dgate (a0 : FVec Ideal Cert.ReferenceGateIdeal.S2x4096x2816 .bf16) (a1 : FVec Ideal Cert.ReferenceGateIdeal.S3x5632 .f32) (a2 : FVec Ideal Cert.ReferenceGateIdeal.S5632 .f32) (a3 : FVec Ideal Cert.ReferenceGateIdeal.S4096x2816 .bf16) (r : Fin 4096) (f : Fin 2816) :
    val_main_v38 (F := Ideal) a0 a1 a2 a3 (ix2 r f)
      = a3 (ix2 r f) * val_main_v30 (F := Ideal) a0 a1 a2 (ix2 r ⟨2816 + f.val, by omega⟩) * slope (val_main_v30 (F := Ideal) a0 a1 a2 (ix2 r ⟨f.val, by omega⟩)) := by
  rw [← slope_eq]
  pointwise [val_main_v38, val_main_v37, val_main_v36, val_main_v35, val_main_v34_0, val_main_v34_1, val_main_v34_2, val_main_v33, val_main_v32, val_main_v31, val_main_call0_v0, val_main_call0_v1, val_main_call0_v2, val_main_call0_v3, val_main_call0_v4, val_main_call0_v6, val_main_call0_v7, val_main_call0_cst, val_main_call0_cst_0, val_main_call0_cst_1, val_main_cst_0, val_main_call1_v0, val_main_call1_v1, val_main_call1_v2]
  rfl

/-- The reference's cotangent of the value. -/
theorem ref_dvalue (a0 : FVec Ideal Cert.ReferenceGateIdeal.S2x4096x2816 .bf16) (a1 : FVec Ideal Cert.ReferenceGateIdeal.S3x5632 .f32) (a2 : FVec Ideal Cert.ReferenceGateIdeal.S5632 .f32) (a3 : FVec Ideal Cert.ReferenceGateIdeal.S4096x2816 .bf16) (r : Fin 4096) (f : Fin 2816) :
    val_main_v40 (F := Ideal) a0 a1 a2 a3 (ix2 r f)
      = a3 (ix2 r f) * (val_main_v30 (F := Ideal) a0 a1 a2 (ix2 r ⟨f.val, by omega⟩) * Ideal.logistic (val_main_v30 (F := Ideal) a0 a1 a2 (ix2 r ⟨f.val, by omega⟩))) := by
  pointwise [val_main_v40, val_main_v39, val_main_v33, val_main_v31, val_main_call2_v0, val_main_call2_v1, val_main_call2_v2, val_main_call2_v3, val_main_call2_v4, val_main_call2_v5, val_main_call2_cst, val_main_call2_cst_0]
  rfl

/-- The two cotangents side by side: the gate's. -/
theorem ref_v41_0 (a0 : FVec Ideal Cert.ReferenceGateIdeal.S2x4096x2816 .bf16) (a1 : FVec Ideal Cert.ReferenceGateIdeal.S3x5632 .f32) (a2 : FVec Ideal Cert.ReferenceGateIdeal.S5632 .f32) (a3 : FVec Ideal Cert.ReferenceGateIdeal.S4096x2816 .bf16) (r : Fin 4096) (f : Fin 2816) :
    val_main_v41 (F := Ideal) a0 a1 a2 a3 (ix2 r ⟨f.val, by omega⟩) = val_main_v38 (F := Ideal) a0 a1 a2 a3 (ix2 r f) := by
  pointwise [val_main_v41]

/-- The two cotangents side by side: the value's. -/
theorem ref_v41_1 (a0 : FVec Ideal Cert.ReferenceGateIdeal.S2x4096x2816 .bf16) (a1 : FVec Ideal Cert.ReferenceGateIdeal.S3x5632 .f32) (a2 : FVec Ideal Cert.ReferenceGateIdeal.S5632 .f32) (a3 : FVec Ideal Cert.ReferenceGateIdeal.S4096x2816 .bf16) (r : Fin 4096) (f : Fin 2816) :
    val_main_v41 (F := Ideal) a0 a1 a2 a3 (ix2 r ⟨2816 + f.val, by omega⟩) = val_main_v40 (F := Ideal) a0 a1 a2 a3 (ix2 r f) := by
  pointwise [val_main_v41]

/-- A plane of the reference's cotangents. -/
theorem ref_v70 (a0 : FVec Ideal Cert.ReferenceGateIdeal.S2x4096x2816 .bf16) (a1 : FVec Ideal Cert.ReferenceGateIdeal.S3x5632 .f32) (a2 : FVec Ideal Cert.ReferenceGateIdeal.S5632 .f32) (a3 : FVec Ideal Cert.ReferenceGateIdeal.S4096x2816 .bf16) (p : Fin 2) (r : Fin 4096) (f : Fin 2816) :
    val_main_v70 (F := Ideal) a0 a1 a2 a3 (ix3 p r f) = val_main_v41 (F := Ideal) a0 a1 a2 a3 (ix2 r ⟨p * 2816 + f.val, by omega⟩) := by
  obtain rfl | rfl : p = 0 ∨ p = 1 := by revert p; decide
  all_goals pointwise [val_main_v70, val_main_v69, val_main_v68, val_main_v67, val_main_v66, val_main_v65]

/-- A plane of the weights' gradient. -/
theorem ref_v75 (a0 : FVec Ideal Cert.ReferenceGateIdeal.S2x4096x2816 .bf16) (a1 : FVec Ideal Cert.ReferenceGateIdeal.S3x5632 .f32) (a2 : FVec Ideal Cert.ReferenceGateIdeal.S5632 .f32) (a3 : FVec Ideal Cert.ReferenceGateIdeal.S4096x2816 .bf16) (p : Fin 2) (k : Fin 3) (f : Fin 2816) :
    val_main_v75 (F := Ideal) a0 a1 a2 a3 (ix3 p k f) = val_main_v64 (F := Ideal) a0 a1 a2 a3 (ix2 k ⟨p * 2816 + f.val, by omega⟩) := by
  obtain rfl | rfl : p = 0 ∨ p = 1 := by revert p; decide
  all_goals pointwise [val_main_v75, val_main_v74, val_main_v73, val_main_v72, val_main_v71]

/-- A plane of the biases' gradient. -/
theorem ref_v82 (a0 : FVec Ideal Cert.ReferenceGateIdeal.S2x4096x2816 .bf16) (a1 : FVec Ideal Cert.ReferenceGateIdeal.S3x5632 .f32) (a2 : FVec Ideal Cert.ReferenceGateIdeal.S5632 .f32) (a3 : FVec Ideal Cert.ReferenceGateIdeal.S4096x2816 .bf16) (p : Fin 2) (f : Fin 2816) :
    val_main_v82 (F := Ideal) a0 a1 a2 a3 (ix3 p 0 f) = ∑ r : Fin 4096, val_main_v41 (F := Ideal) a0 a1 a2 a3 (ix2 r ⟨p * 2816 + f.val, by omega⟩) := by
  obtain rfl | rfl : p = 0 ∨ p = 1 := by revert p; decide
  all_goals
    pointwise [val_main_v82, val_main_v81, val_main_v80, val_main_v79, val_main_v78, val_main_v77, val_main_v76, val_main_v57, val_main_v56, val_main_v55, val_main_cst_7, val_main_cst_8]
    simp only [Fin.sum_univ_one]

/-- The rows the convolution reads for a weight. -/
def wrows (a0 : FVec Ideal Cert.ReferenceGateIdeal.S2x4096x2816 .bf16) (k : Fin 3) : FVec Ideal Cert.ReferenceGateIdeal.S4096x5632 .f32 :=
  if (k : ℕ) = 0 then val_main_v8 (F := Ideal) a0 else if (k : ℕ) = 1 then val_main_v17 (F := Ideal) a0 else val_main_v24 (F := Ideal) a0

/-- The reference's gradient of a weight is the sum over all rows. -/
theorem ref_v64 (a0 : FVec Ideal Cert.ReferenceGateIdeal.S2x4096x2816 .bf16) (a1 : FVec Ideal Cert.ReferenceGateIdeal.S3x5632 .f32) (a2 : FVec Ideal Cert.ReferenceGateIdeal.S5632 .f32) (a3 : FVec Ideal Cert.ReferenceGateIdeal.S4096x2816 .bf16) (k : Fin 3) (g : Fin 5632) :
    val_main_v64 (F := Ideal) a0 a1 a2 a3 (ix2 k g) = ∑ r : Fin 4096, val_main_v41 (F := Ideal) a0 a1 a2 a3 (ix2 r g) * wrows a0 k (ix2 r g) := by
  unfold wrows
  obtain rfl | rfl | rfl : k = 0 ∨ k = 1 ∨ k = 2 := by revert k; decide
  · rw [if_pos (show ((0 : Fin 3) : ℕ) = 0 from rfl)]
    pointwise [val_main_v64, val_main_v63, val_main_v62, val_main_v61, val_main_v60, val_main_v59, val_main_v58, val_main_v54, val_main_v53, val_main_v52, val_main_v51, val_main_v50, val_main_v49, val_main_v48, val_main_v47, val_main_v46, val_main_v45, val_main_v44, val_main_v43, val_main_v42, val_main_cst_1, val_main_cst_2, val_main_cst_3, val_main_cst_4, val_main_cst_5, val_main_cst_6, val_main_cst_9, val_main_cst_10, val_main_cst_11]
    simp only [Fin.sum_univ_one]
    exact Finset.sum_congr rfl fun x _ => mul_comm _ _
  · rw [if_neg (by decide), if_pos (show ((1 : Fin 3) : ℕ) = 1 from rfl)]
    pointwise [val_main_v64, val_main_v63, val_main_v62, val_main_v61, val_main_v60, val_main_v59, val_main_v58, val_main_v54, val_main_v53, val_main_v52, val_main_v51, val_main_v50, val_main_v49, val_main_v48, val_main_v47, val_main_v46, val_main_v45, val_main_v44, val_main_v43, val_main_v42, val_main_cst_1, val_main_cst_2, val_main_cst_3, val_main_cst_4, val_main_cst_5, val_main_cst_6, val_main_cst_9, val_main_cst_10, val_main_cst_11]
    simp only [Fin.sum_univ_one]
    exact Finset.sum_congr rfl fun x _ => mul_comm _ _
  · rw [if_neg (by decide), if_neg (by decide)]
    pointwise [val_main_v64, val_main_v63, val_main_v62, val_main_v61, val_main_v60, val_main_v59, val_main_v58, val_main_v54, val_main_v53, val_main_v52, val_main_v51, val_main_v50, val_main_v49, val_main_v48, val_main_v47, val_main_v46, val_main_v45, val_main_v44, val_main_v43, val_main_v42, val_main_cst_1, val_main_cst_2, val_main_cst_3, val_main_cst_4, val_main_cst_5, val_main_cst_6, val_main_cst_9, val_main_cst_10, val_main_cst_11]
    simp only [Fin.sum_univ_one]
    exact Finset.sum_congr rfl fun x _ => mul_comm _ _

/-- The rows for the first weight. -/
theorem ref_v8 (a0 : FVec Ideal Cert.ReferenceGateIdeal.S2x4096x2816 .bf16) (p : Fin 2) (r : Fin 4096) (f : Fin 2816) :
    val_main_v8 (F := Ideal) a0 (ix2 r ⟨p * 2816 + f.val, by omega⟩) = tap a0 p r f := by
  pointwise [val_main_v0, val_main_v1, val_main_v2, val_main_v3, val_main_v4, val_main_v5, val_main_v6, val_main_v7, val_main_v8, val_main_cst]
  exact tap_eq a0 p r (by omega) f ((r : ℕ) < 2) ((p : ℕ) * 2816 + f.val < 2816) Iff.rfl (by omega) (fun _ => ⟨(r : ℕ) - 2, by omega⟩) (fun _ => ⟨(r : ℕ) - 2, by omega⟩) (fun h => ⟨(p : ℕ) * 2816 + f.val, h⟩) (fun h => ⟨(p : ℕ) * 2816 + f.val - 2816, by omega⟩)
    (fun _ => rfl) (fun _ => rfl) (fun h => by show (p : ℕ) * 2816 + f.val = f; omega) (fun h => by show (p : ℕ) * 2816 + f.val - 2816 = f; omega)

/-- The rows for the second weight. -/
theorem ref_v17 (a0 : FVec Ideal Cert.ReferenceGateIdeal.S2x4096x2816 .bf16) (p : Fin 2) (r : Fin 4096) (f : Fin 2816) :
    val_main_v17 (F := Ideal) a0 (ix2 r ⟨p * 2816 + f.val, by omega⟩) = tap a0 p ((r : ℕ) + 1) f := by
  pointwise [val_main_v0, val_main_v1, val_main_v2, val_main_v3, val_main_v4, val_main_v5, val_main_v6, val_main_v7, val_main_v17, val_main_cst]
  exact tap_eq a0 p ((r : ℕ) + 1) (by omega) f (1 + (r : ℕ) < 2) ((p : ℕ) * 2816 + f.val < 2816) (by omega) (by omega) (fun h => ⟨1 + (r : ℕ) - 2, by omega⟩) (fun h => ⟨1 + (r : ℕ) - 2, by omega⟩) (fun h => ⟨(p : ℕ) * 2816 + f.val, h⟩) (fun h => ⟨(p : ℕ) * 2816 + f.val - 2816, by omega⟩)
    (fun h => by show 1 + (r : ℕ) - 2 = r + 1 - 2; omega) (fun h => by show 1 + (r : ℕ) - 2 = r + 1 - 2; omega) (fun h => by show (p : ℕ) * 2816 + f.val = f; omega) (fun h => by show (p : ℕ) * 2816 + f.val - 2816 = f; omega)

/-- The rows for the last weight. -/
theorem ref_v24 (a0 : FVec Ideal Cert.ReferenceGateIdeal.S2x4096x2816 .bf16) (p : Fin 2) (r : Fin 4096) (f : Fin 2816) :
    val_main_v24 (F := Ideal) a0 (ix2 r ⟨p * 2816 + f.val, by omega⟩) = a0 (ix3 p r f) := by
  pointwise [val_main_v0, val_main_v1, val_main_v2, val_main_v3, val_main_v4, val_main_v5, val_main_v6, val_main_v7, val_main_v24, val_main_cst]
  by_cases h : (p : ℕ) * 2816 + f.val < 2816
  · obtain rfl : p = 0 := Fin.ext (by show (p : ℕ) = 0; omega)
    rw [dif_pos h]
    exact read0 a0 _ _ _ _ _ rfl (by show ((0 : Fin 2) : ℕ) * 2816 + f.val = f.val; simp)
  · obtain rfl : p = 1 := Fin.ext (by show (p : ℕ) = 1; omega)
    rw [dif_neg h]
    exact read0 a0 _ _ _ _ _ rfl (by show ((1 : Fin 2) : ℕ) * 2816 + f.val - 2816 = f.val; simp)
/-- Under a plane stored last, the contents are the plane's. -/
theorem canon_plane (a : ℕ) (inb : ∀ x, (![a, 0, 0] : Fin 3 → ℕ) x + (![1, 256, 1408] : Fin 3 → ℕ) x ≤ S2x256x1408.size x) (w : FVec Ideal S1x256x1408 .bf16)
    (L : List (View.Piece (Elt Ideal) S2x256x1408 .bf16)) (p : Fin 2) (r : Fin 256) (l : Fin 1408) (h : (p : ℕ) = a) :
    View.canon ((⟨Rect.unit (s := S2x256x1408) ![a, 0, 0] ![1, 256, 1408] inb, w⟩ : View.Piece (Elt Ideal) S2x256x1408 .bf16) :: L) (ix3 p r l) = w (ix3 0 r l) := by
  have he : (Rect.unit (s := S2x256x1408) ![a, 0, 0] ![1, 256, 1408] inb).emb (ix3 (0 : Fin 1) r l) = ix3 p r l := by
    funext x; apply Fin.ext
    fin_cases x
    · show a + 1 * 0 = p.val; omega
    · show 0 + 1 * r.val = r.val; omega
    · show 0 + 1 * l.val = l.val; omega
  rw [← he, View.canon_cons_emb]

/-- Off a plane stored last, the contents are the earlier ones. -/
theorem canon_plane_ne (a : ℕ) (inb : ∀ x, (![a, 0, 0] : Fin 3 → ℕ) x + (![1, 256, 1408] : Fin 3 → ℕ) x ≤ S2x256x1408.size x) (w : FVec Ideal S1x256x1408 .bf16)
    (L : List (View.Piece (Elt Ideal) S2x256x1408 .bf16)) (p : Fin 2) (r : Fin 256) (l : Fin 1408) (h : (p : ℕ) ≠ a) :
    View.canon ((⟨Rect.unit (s := S2x256x1408) ![a, 0, 0] ![1, 256, 1408] inb, w⟩ : View.Piece (Elt Ideal) S2x256x1408 .bf16) :: L) (ix3 p r l) = View.canon L (ix3 p r l) := by
  refine View.canon_cons_of_not_mem _ L ?_
  intro hm
  obtain ⟨i, hi, he⟩ := (LoadRect.mem_set _).mp hm (0 : Fin 3)
  have hi1 : i < 1 := hi
  have he' : p.val = a + 1 * i := he
  omega

/-- Under a row stored last, the contents are the row's. -/
theorem canon8_row (a b : ℕ) (inb : ∀ x, (![a, b, 0] : Fin 3 → ℕ) x + (![1, 1, 1408] : Fin 3 → ℕ) x ≤ S2x3x1408.size x) (w : FVec Ideal S1x1x1408 .f32)
    (L : List (View.Piece (Elt Ideal) S2x3x1408 .f32)) (p : Fin 2) (k : Fin 3) (l : Fin 1408) (hp : (p : ℕ) = a) (hk : (k : ℕ) = b) :
    View.canon ((⟨Rect.unit (s := S2x3x1408) ![a, b, 0] ![1, 1, 1408] inb, w⟩ : View.Piece (Elt Ideal) S2x3x1408 .f32) :: L) (ix3 p k l) = w (ix3 0 0 l) := by
  have he : (Rect.unit (s := S2x3x1408) ![a, b, 0] ![1, 1, 1408] inb).emb (ix3 (0 : Fin 1) (0 : Fin 1) l) = ix3 p k l := by
    funext x; apply Fin.ext
    fin_cases x
    · show a + 1 * 0 = p.val; omega
    · show b + 1 * 0 = k.val; omega
    · show 0 + 1 * l.val = l.val; omega
  rw [← he, View.canon_cons_emb]

/-- Off a row stored last, the contents are the earlier ones. -/
theorem canon8_row_ne (a b : ℕ) (inb : ∀ x, (![a, b, 0] : Fin 3 → ℕ) x + (![1, 1, 1408] : Fin 3 → ℕ) x ≤ S2x3x1408.size x) (w : FVec Ideal S1x1x1408 .f32)
    (L : List (View.Piece (Elt Ideal) S2x3x1408 .f32)) (p : Fin 2) (k : Fin 3) (l : Fin 1408) (h : ¬((p : ℕ) = a ∧ (k : ℕ) = b)) :
    View.canon ((⟨Rect.unit (s := S2x3x1408) ![a, b, 0] ![1, 1, 1408] inb, w⟩ : View.Piece (Elt Ideal) S2x3x1408 .f32) :: L) (ix3 p k l) = View.canon L (ix3 p k l) := by
  refine View.canon_cons_of_not_mem _ L ?_
  intro hm
  obtain ⟨i, hi, he⟩ := (LoadRect.mem_set _).mp hm (0 : Fin 3)
  obtain ⟨j, hj, hf⟩ := (LoadRect.mem_set _).mp hm (1 : Fin 3)
  have hi1 : i < 1 := hi
  have hj1 : j < 1 := hj
  have he' : p.val = a + 1 * i := he
  have hf' : k.val = b + 1 * j := hf
  exact h ⟨by omega, by omega⟩

/-- Under a whole block stored last, the contents are the block's. -/
theorem canon8_all (inb : ∀ x, (![0, 0, 0] : Fin 3 → ℕ) x + (![2, 3, 1408] : Fin 3 → ℕ) x ≤ S2x3x1408.size x) (w : FVec Ideal S2x3x1408 .f32)
    (L : List (View.Piece (Elt Ideal) S2x3x1408 .f32)) (p : Fin 2) (k : Fin 3) (l : Fin 1408) :
    View.canon ((⟨Rect.unit (s := S2x3x1408) ![0, 0, 0] ![2, 3, 1408] inb, w⟩ : View.Piece (Elt Ideal) S2x3x1408 .f32) :: L) (ix3 p k l) = w (ix3 p k l) := by
  have he : (Rect.unit (s := S2x3x1408) ![0, 0, 0] ![2, 3, 1408] inb).emb (ix3 p k l) = ix3 p k l := by
    funext x; apply Fin.ext
    fin_cases x
    · show 0 + 1 * p.val = p.val; omega
    · show 0 + 1 * k.val = k.val; omega
    · show 0 + 1 * l.val = l.val; omega
  conv_lhs => rw [← he, View.canon_cons_emb]

/-- A row read back from the stores is the row of the contents. -/
theorem readCov8_row {κ : Kind} {sp : Space} (v : View sig κ sp S2x3x1408 .f32) (a b : ℕ) (inb : ∀ x, (![a, b, 0] : Fin 3 → ℕ) x + (![1, 1, 1408] : Fin 3 → ℕ) x ≤ S2x3x1408.size x)
    (L : List (View.Piece (Elt Ideal) S2x3x1408 .f32)) (p : Fin 2) (k : Fin 3) (l : Fin 1408) (hp : (p : ℕ) = a) (hk : (k : ℕ) = b) :
    v.readCov L (Rect.unit (s := S2x3x1408) ![a, b, 0] ![1, 1, 1408] inb).toLoadRect (ix3 (0 : Fin 1) (0 : Fin 1) l) = View.canon L (ix3 p k l) := by
  rw [View.readCov_eq_canon']
  refine congrArg (View.canon L) ?_
  funext x; apply Fin.ext
  fin_cases x
  · show a + 1 * 0 = p.val; omega
  · show b + 1 * 0 = k.val; omega
  · show 0 + 1 * l.val = l.val; omega

/-- A row read from a block is the block's row. -/
theorem ld8_row (X : FVec Ideal S2x3x1408 .f32) (a b : ℕ) (inb : ∀ x, (![a, b, 0] : Fin 3 → ℕ) x + (![1, 1, 1408] : Fin 3 → ℕ) x ≤ S2x3x1408.size x)
    (p : Fin 2) (k : Fin 3) (l : Fin 1408) (hp : (p : ℕ) = a) (hk : (k : ℕ) = b) :
    View.ld (Val := Elt Ideal) (e' := .f32) X (Rect.unit (s := S2x3x1408) ![a, b, 0] ![1, 1, 1408] inb) (ix3 (0 : Fin 1) (0 : Fin 1) l) = X (ix3 p k l) := by
  refine congrArg X ?_
  funext x; apply Fin.ext
  fin_cases x
  · show a + 1 * 0 = p.val; omega
  · show b + 1 * 0 = k.val; omega
  · show 0 + 1 * l.val = l.val; omega

/-- Under a row stored last, the contents are the row's. -/
theorem canon9_row (a b : ℕ) (inb : ∀ x, (![a, b, 0] : Fin 3 → ℕ) x + (![1, 1, 1408] : Fin 3 → ℕ) x ≤ S2x1x1408.size x) (w : FVec Ideal S1x1x1408 .f32)
    (L : List (View.Piece (Elt Ideal) S2x1x1408 .f32)) (p : Fin 2) (k : Fin 1) (l : Fin 1408) (hp : (p : ℕ) = a) (hk : (k : ℕ) = b) :
    View.canon ((⟨Rect.unit (s := S2x1x1408) ![a, b, 0] ![1, 1, 1408] inb, w⟩ : View.Piece (Elt Ideal) S2x1x1408 .f32) :: L) (ix3 p k l) = w (ix3 0 0 l) := by
  have he : (Rect.unit (s := S2x1x1408) ![a, b, 0] ![1, 1, 1408] inb).emb (ix3 (0 : Fin 1) (0 : Fin 1) l) = ix3 p k l := by
    funext x; apply Fin.ext
    fin_cases x
    · show a + 1 * 0 = p.val; omega
    · show b + 1 * 0 = k.val; omega
    · show 0 + 1 * l.val = l.val; omega
  rw [← he, View.canon_cons_emb]

/-- Off a row stored last, the contents are the earlier ones. -/
theorem canon9_row_ne (a b : ℕ) (inb : ∀ x, (![a, b, 0] : Fin 3 → ℕ) x + (![1, 1, 1408] : Fin 3 → ℕ) x ≤ S2x1x1408.size x) (w : FVec Ideal S1x1x1408 .f32)
    (L : List (View.Piece (Elt Ideal) S2x1x1408 .f32)) (p : Fin 2) (k : Fin 1) (l : Fin 1408) (h : ¬((p : ℕ) = a ∧ (k : ℕ) = b)) :
    View.canon ((⟨Rect.unit (s := S2x1x1408) ![a, b, 0] ![1, 1, 1408] inb, w⟩ : View.Piece (Elt Ideal) S2x1x1408 .f32) :: L) (ix3 p k l) = View.canon L (ix3 p k l) := by
  refine View.canon_cons_of_not_mem _ L ?_
  intro hm
  obtain ⟨i, hi, he⟩ := (LoadRect.mem_set _).mp hm (0 : Fin 3)
  obtain ⟨j, hj, hf⟩ := (LoadRect.mem_set _).mp hm (1 : Fin 3)
  have hi1 : i < 1 := hi
  have hj1 : j < 1 := hj
  have he' : p.val = a + 1 * i := he
  have hf' : k.val = b + 1 * j := hf
  exact h ⟨by omega, by omega⟩

/-- Under a whole block stored last, the contents are the block's. -/
theorem canon9_all (inb : ∀ x, (![0, 0, 0] : Fin 3 → ℕ) x + (![2, 1, 1408] : Fin 3 → ℕ) x ≤ S2x1x1408.size x) (w : FVec Ideal S2x1x1408 .f32)
    (L : List (View.Piece (Elt Ideal) S2x1x1408 .f32)) (p : Fin 2) (k : Fin 1) (l : Fin 1408) :
    View.canon ((⟨Rect.unit (s := S2x1x1408) ![0, 0, 0] ![2, 1, 1408] inb, w⟩ : View.Piece (Elt Ideal) S2x1x1408 .f32) :: L) (ix3 p k l) = w (ix3 p k l) := by
  have he : (Rect.unit (s := S2x1x1408) ![0, 0, 0] ![2, 1, 1408] inb).emb (ix3 p k l) = ix3 p k l := by
    funext x; apply Fin.ext
    fin_cases x
    · show 0 + 1 * p.val = p.val; omega
    · show 0 + 1 * k.val = k.val; omega
    · show 0 + 1 * l.val = l.val; omega
  conv_lhs => rw [← he, View.canon_cons_emb]

/-- A row read back from the stores is the row of the contents. -/
theorem readCov9_row {κ : Kind} {sp : Space} (v : View sig κ sp S2x1x1408 .f32) (a b : ℕ) (inb : ∀ x, (![a, b, 0] : Fin 3 → ℕ) x + (![1, 1, 1408] : Fin 3 → ℕ) x ≤ S2x1x1408.size x)
    (L : List (View.Piece (Elt Ideal) S2x1x1408 .f32)) (p : Fin 2) (k : Fin 1) (l : Fin 1408) (hp : (p : ℕ) = a) (hk : (k : ℕ) = b) :
    v.readCov L (Rect.unit (s := S2x1x1408) ![a, b, 0] ![1, 1, 1408] inb).toLoadRect (ix3 (0 : Fin 1) (0 : Fin 1) l) = View.canon L (ix3 p k l) := by
  rw [View.readCov_eq_canon']
  refine congrArg (View.canon L) ?_
  funext x; apply Fin.ext
  fin_cases x
  · show a + 1 * 0 = p.val; omega
  · show b + 1 * 0 = k.val; omega
  · show 0 + 1 * l.val = l.val; omega

/-- A row read from a block is the block's row. -/
theorem ld9_row (X : FVec Ideal S2x1x1408 .f32) (a b : ℕ) (inb : ∀ x, (![a, b, 0] : Fin 3 → ℕ) x + (![1, 1, 1408] : Fin 3 → ℕ) x ≤ S2x1x1408.size x)
    (p : Fin 2) (k : Fin 1) (l : Fin 1408) (hp : (p : ℕ) = a) (hk : (k : ℕ) = b) :
    View.ld (Val := Elt Ideal) (e' := .f32) X (Rect.unit (s := S2x1x1408) ![a, b, 0] ![1, 1, 1408] inb) (ix3 (0 : Fin 1) (0 : Fin 1) l) = X (ix3 p k l) := by
  refine congrArg X ?_
  funext x; apply Fin.ext
  fin_cases x
  · show a + 1 * 0 = p.val; omega
  · show b + 1 * 0 = k.val; omega
  · show 0 + 1 * l.val = l.val; omega

end

variable (m : (ℓ : Loc nD τ sig) → Buf (Elt Ideal) ℓ)

/-- The block index of every window at every grid point, and the row block's number. -/
theorem idx : ∀ t : Fin cfg0.N, win0_0.index t = ![0, t.val % 16, t.val / 16]
    ∧ win0_1.index t = ![0, t.val % 16 * 16 - 1, t.val / 16]
    ∧ win0_2.index t = ![0, t.val / 16]
    ∧ win0_3.index t = ![0, t.val / 16 + 2]
    ∧ win0_4.index t = ![0, t.val / 16]
    ∧ win0_5.index t = ![0, t.val / 16 + 2]
    ∧ win0_6.index t = ![t.val % 16, t.val / 16]
    ∧ win0_7.index t = ![0, t.val % 16, t.val / 16]
    ∧ win0_8.index t = ![0, 0, t.val / 16]
    ∧ win0_9.index t = ![0, 0, t.val / 16] ∧ (grid0.coords t 1 : ℕ) = t.val % 16 ∧ t.val / 16 < 2 :=
  (by decide +kernel : ∀ t : Fin grid0.N, _)

/-- The column block's number is below two. -/
theorem col_lt (t : Fin cfg0.N) : t.val / 16 < 2 := (idx t).2.2.2.2.2.2.2.2.2.2.2

/-- The place of a block of the cotangents. -/
theorem out_at (t : Fin cfg0.N) (p : Fin 2) (r : Fin 256) (l : Fin 1408) (A : FVec Ideal Cert.ReferenceGateIdeal.S2x4096x2816 .bf16) :
    A (((cfg0.win 7).blk t).view.emb (ix3 p r l))
      = A (ix3 p ⟨t.val % 16 * 256 + r.val, by omega⟩ ⟨t.val / 16 * 1408 + l.val, by have := col_lt t; omega⟩) := by
  have h := idx t
  blk_point [idx t]

/-- The place of a block of the weights' gradient. -/
theorem out_dw_at (t : Fin cfg0.N) (p : Fin 2) (k : Fin 3) (l : Fin 1408) (A : FVec Ideal Cert.ReferenceGateIdeal.S2x3x2816 .f32) :
    A (((cfg0.win 8).blk t).view.emb (ix3 p k l)) = A (ix3 p k ⟨t.val / 16 * 1408 + l.val, by have := col_lt t; omega⟩) := by
  have h := idx t
  blk_point [idx t]

/-- The place of a block of the biases' gradient. -/
theorem out_db_at (t : Fin cfg0.N) (p : Fin 2) (l : Fin 1408) (A : FVec Ideal Cert.ReferenceGateIdeal.S2x1x2816 .f32) :
    A (((cfg0.win 9).blk t).view.emb (ix3 p 0 l)) = A (ix3 p 0 ⟨t.val / 16 * 1408 + l.val, by have := col_lt t; omega⟩) := by
  have h := idx t
  blk_point [idx t]

/-- The cotangent's block. -/
theorem cot_at (c : Dev nD) (t : Fin cfg0.N) (r : Fin 256) (l : Fin 1408) :
    iblk m c 6 t (ix2 r l) = m ((c : Thread nD τ).loc main_arg3) (ix2 ⟨t.val % 16 * 256 + r.val, by omega⟩ ⟨t.val / 16 * 1408 + l.val, by have := col_lt t; omega⟩) := by
  blk_point [iblk, V, idx t]

/-- The planes' own block. -/
theorem own_at (c : Dev nD) (t : Fin cfg0.N) (p : Fin 2) (r : Fin 256) (l : Fin 1408) :
    iblk m c 0 t (ix3 p r l)
      = m ((c : Thread nD τ).loc main_arg0) (ix3 p ⟨t.val % 16 * 256 + r.val, by omega⟩ ⟨t.val / 16 * 1408 + l.val, by have := col_lt t; omega⟩) := by
  blk_point [iblk, V, idx t]

/-- The rows before the block, of a block that is not the first. -/
theorem prev_at (c : Dev nD) (t : Fin cfg0.N) (ht : 0 < t.val % 16) (p : Fin 2) (r : Fin 16) (l : Fin 1408) :
    iblk m c 1 t (ix3 p r l)
      = m ((c : Thread nD τ).loc main_arg0) (ix3 p ⟨t.val % 16 * 256 - 16 + r.val, by omega⟩ ⟨t.val / 16 * 1408 + l.val, by have := col_lt t; omega⟩) := by
  blk_point [iblk, V, idx t]

/-- The gate's weights. -/
theorem weight0_at (c : Dev nD) (t : Fin cfg0.N) (k : Fin 3) (l : Fin 1408) :
    iblk m c 2 t (ix2 k l) = m ((c : Thread nD τ).loc main_arg1) (ix2 k ⟨t.val / 16 * 1408 + l.val, by have := col_lt t; omega⟩) := by
  blk_point [iblk, V, idx t]

/-- The value's weights. -/
theorem weight1_at (c : Dev nD) (t : Fin cfg0.N) (k : Fin 3) (l : Fin 1408) :
    iblk m c 3 t (ix2 k l) = m ((c : Thread nD τ).loc main_arg1) (ix2 k ⟨2816 + (t.val / 16 * 1408 + l.val), by have := col_lt t; omega⟩) := by
  blk_point [iblk, V, idx t]

/-- The gate's biases. -/
theorem bias0_at (c : Dev nD) (t : Fin cfg0.N) (l : Fin 1408) :
    iblk m c 4 t (ix2 0 l) = m ((c : Thread nD τ).loc main_arg2) (ix1 ⟨t.val / 16 * 1408 + l.val, by have := col_lt t; omega⟩) := by
  blk_point [iblk, V, idx t]

/-- The value's biases. -/
theorem bias1_at (c : Dev nD) (t : Fin cfg0.N) (l : Fin 1408) :
    iblk m c 5 t (ix2 0 l) = m ((c : Thread nD τ).loc main_arg2) (ix1 ⟨2816 + (t.val / 16 * 1408 + l.val), by have := col_lt t; omega⟩) := by
  blk_point [iblk, V, idx t]

/-- A row the block's convolution reads is the plane's. -/
theorem tap_at (c : Dev nD) (t : Fin cfg0.N) (p : Fin 2) (r : Fin 256) (l : Fin 1408) (d : ℕ) (hd : d < 2) :
    ktap (grid0.coords t) (iblk m c 0 t) (iblk m c 1 t) p ⟨r.val + (14 + d), by omega⟩ l
      = tap (m ((c : Thread nD τ).loc main_arg0)) p (t.val % 16 * 256 + r.val + d) ⟨t.val / 16 * 1408 + l.val, by have := col_lt t; omega⟩ := by
  unfold ktap tap
  have hi := (idx t).2.2.2.2.2.2.2.2.2.2.1
  by_cases h : 16 ≤ r.val + (14 + d)
  · rw [dif_pos h, dif_pos (show 2 ≤ t.val % 16 * 256 + r.val + d ∧ t.val % 16 * 256 + r.val + d < 4098 by omega), own_at m c t p ⟨r.val + (14 + d) - 16, by omega⟩ l]
    exact read0 _ _ _ _ _ _ (by show t.val % 16 * 256 + (r.val + (14 + d) - 16) = t.val % 16 * 256 + r.val + d - 2; omega) rfl
  · rw [dif_neg h]
    by_cases ht : 0 < t.val % 16
    · rw [if_pos (show 0 < (grid0.coords t 1 : ℕ) by omega), dif_pos (show 2 ≤ t.val % 16 * 256 + r.val + d ∧ t.val % 16 * 256 + r.val + d < 4098 by omega),
        prev_at m c t ht p ⟨r.val + (14 + d), by omega⟩ l, mul_one]
      exact read0 _ _ _ _ _ _ (by show t.val % 16 * 256 - 16 + (r.val + (14 + d)) = t.val % 16 * 256 + r.val + d - 2; omega) rfl
    · rw [if_neg (show ¬0 < (grid0.coords t 1 : ℕ) by omega), dif_neg (show ¬(2 ≤ t.val % 16 * 256 + r.val + d ∧ t.val % 16 * 256 + r.val + d < 4098) by omega), mul_zero]

/-- The convolved gate in a block. -/
abbrev G (c : Dev nD) (t : Fin cfg0.N) : FVec Ideal S256x1408 .f32 :=
  k0_pay13 (F := Ideal) (k0_pay4 (F := Ideal) (iblk m c 0 t)) (iblk m c 2 t) (k0_pay7 (F := Ideal) (grid0.coords t) (iblk m c 0 t) (iblk m c 1 t) (iblk m c 2 t) (iblk m c 4 t)) (k0_pay8 (F := Ideal) (iblk m c 0 t)) (k0_pay9 (F := Ideal) (iblk m c 0 t)) (k0_pay10 (F := Ideal) (grid0.coords t) (iblk m c 1 t)) k0_pay11

/-- The gate's cotangent before the activation in a block. -/
abbrev DG (c : Dev nD) (t : Fin cfg0.N) : FVec Ideal S256x1408 .f32 :=
  k0_pay22 (F := Ideal) (G m c t) (k0_pay14 (F := Ideal) (k0_pay2 (F := Ideal) (iblk m c 0 t))) (k0_pay18 (F := Ideal) (k0_pay2 (F := Ideal) (iblk m c 0 t)) (k0_pay3 (F := Ideal) (grid0.coords t) (iblk m c 1 t)) (iblk m c 3 t) (iblk m c 5 t)) (k0_pay19 (F := Ideal) (iblk m c 3 t)) (iblk m c 6 t)

/-- The value's cotangent in a block. -/
abbrev DV (c : Dev nD) (t : Fin cfg0.N) : FVec Ideal S256x1408 .f32 := k0_pay23 (F := Ideal) (G m c t) (iblk m c 6 t)

/-- A plane's cotangent in a block. -/
def dd (c : Dev nD) (t : Fin cfg0.N) (p : Fin 2) : FVec Ideal S256x1408 .f32 := if (p : ℕ) = 0 then DG m c t else DV m c t

/-- The rows a weight of the convolution meets in a block. -/
def sh (c : Dev nD) (t : Fin cfg0.N) (p : Fin 2) (k : Fin 3) : FVec Ideal S256x1408 .f32 :=
  if (p : ℕ) = 0 then
    if (k : ℕ) = 0 then k0_pay6 (F := Ideal) (grid0.coords t) (iblk m c 0 t) (iblk m c 1 t)
    else if (k : ℕ) = 1 then k0_pay12 (F := Ideal) (k0_pay8 (F := Ideal) (iblk m c 0 t)) (k0_pay9 (F := Ideal) (iblk m c 0 t)) (k0_pay10 (F := Ideal) (grid0.coords t) (iblk m c 1 t)) k0_pay11
    else k0_pay4 (F := Ideal) (iblk m c 0 t)
  else
    if (k : ℕ) = 0 then k0_pay16 (F := Ideal) (k0_pay2 (F := Ideal) (iblk m c 0 t)) (k0_pay3 (F := Ideal) (grid0.coords t) (iblk m c 1 t))
    else if (k : ℕ) = 1 then k0_pay17 (F := Ideal) (k0_pay2 (F := Ideal) (iblk m c 0 t)) (k0_pay3 (F := Ideal) (grid0.coords t) (iblk m c 1 t))
    else k0_pay14 (F := Ideal) (k0_pay2 (F := Ideal) (iblk m c 0 t))

/-- What a point adds to the gradient of the weights. -/
def part (c : Dev nD) (t : Fin cfg0.N) (p : Fin 2) (k : Fin 3) (l : Fin 1408) : EReal := ∑ r : Fin 256, dd m c t p (ix2 r l) * sh m c t p k (ix2 r l)

/-- The planes a point stores. -/
theorem planes_last (c : Dev nD) (t : Fin cfg0.N) (p : Fin 2) (r : Fin 256) (l : Fin 1408) :
    (outsAt0 m c t.val t.isLt).1 (ix3 p r l) = dd m c t p (ix2 r l) := by
  unfold dd
  by_cases h : t.val % 16 = 0
  · rw [outsAt0_A m c t h]; frame_out
    obtain rfl | rfl : p = 0 ∨ p = 1 := by revert p; decide
    · rw [canon_plane_ne 1 _ _ _ 0 r l (by decide), canon_plane 0 _ _ _ 0 r l rfl, store0_at]; rfl
    · rw [canon_plane 1 _ _ _ 1 r l rfl, store1_at]; rfl
  · rw [outsAt0_B m c t h]; frame_out
    obtain rfl | rfl : p = 0 ∨ p = 1 := by revert p; decide
    · rw [canon_plane_ne 1 _ _ _ 0 r l (by decide), canon_plane 0 _ _ _ 0 r l rfl, store0_at]; rfl
    · rw [canon_plane 1 _ _ _ 1 r l rfl, store1_at]; rfl

/-- The first point of a run leaves its own part. -/
theorem dw_A (c : Dev nD) (t : Fin cfg0.N) (h : t.val % 16 = 0) (p : Fin 2) (k : Fin 3) (l : Fin 1408) :
    (outsAt0 m c t.val t.isLt).2.1 (ix3 p k l) = part m c t p k l := by
  rw [outsAt0_A m c t h]; frame_out
  unfold part dd sh
  obtain ⟨rfl, rfl⟩ | ⟨rfl, rfl⟩ | ⟨rfl, rfl⟩ | ⟨rfl, rfl⟩ | ⟨rfl, rfl⟩ | ⟨rfl, rfl⟩ : p = 0 ∧ k = 0 ∨ p = 0 ∧ k = 1 ∨ p = 0 ∧ k = 2 ∨ p = 1 ∧ k = 0 ∨ p = 1 ∧ k = 1 ∨ p = 1 ∧ k = 2 := by revert p k; decide
  · rw [canon8_row_ne 1 2 _ _ _ 0 0 l (by decide),
      canon8_row_ne 0 2 _ _ _ 0 0 l (by decide),
      canon8_row_ne 1 1 _ _ _ 0 0 l (by decide),
      canon8_row_ne 0 1 _ _ _ 0 0 l (by decide),
      canon8_row_ne 1 0 _ _ _ 0 0 l (by decide),
      canon8_row 0 0 _ _ _ 0 0 l rfl rfl,
      row31_at,
      readCov8_row _ 0 0 _ _ 0 0 l rfl rfl,
      canon8_all,
      zero8_at,
      zero_add]
    rfl
  · rw [canon8_row_ne 1 2 _ _ _ 0 1 l (by decide),
      canon8_row_ne 0 2 _ _ _ 0 1 l (by decide),
      canon8_row_ne 1 1 _ _ _ 0 1 l (by decide),
      canon8_row 0 1 _ _ _ 0 1 l rfl rfl,
      row33_at,
      readCov8_row _ 0 1 _ _ 0 1 l rfl rfl,
      canon8_row_ne 1 0 _ _ _ 0 1 l (by decide),
      canon8_row_ne 0 0 _ _ _ 0 1 l (by decide),
      canon8_all,
      zero8_at,
      zero_add]
    rfl
  · rw [canon8_row_ne 1 2 _ _ _ 0 2 l (by decide),
      canon8_row 0 2 _ _ _ 0 2 l rfl rfl,
      row35_at,
      readCov8_row _ 0 2 _ _ 0 2 l rfl rfl,
      canon8_row_ne 1 1 _ _ _ 0 2 l (by decide),
      canon8_row_ne 0 1 _ _ _ 0 2 l (by decide),
      canon8_row_ne 1 0 _ _ _ 0 2 l (by decide),
      canon8_row_ne 0 0 _ _ _ 0 2 l (by decide),
      canon8_all,
      zero8_at,
      zero_add]
    rfl
  · rw [canon8_row_ne 1 2 _ _ _ 1 0 l (by decide),
      canon8_row_ne 0 2 _ _ _ 1 0 l (by decide),
      canon8_row_ne 1 1 _ _ _ 1 0 l (by decide),
      canon8_row_ne 0 1 _ _ _ 1 0 l (by decide),
      canon8_row 1 0 _ _ _ 1 0 l rfl rfl,
      row32_at,
      readCov8_row _ 1 0 _ _ 1 0 l rfl rfl,
      canon8_row_ne 0 0 _ _ _ 1 0 l (by decide),
      canon8_all,
      zero8_at,
      zero_add]
    rfl
  · rw [canon8_row_ne 1 2 _ _ _ 1 1 l (by decide),
      canon8_row_ne 0 2 _ _ _ 1 1 l (by decide),
      canon8_row 1 1 _ _ _ 1 1 l rfl rfl,
      row34_at,
      readCov8_row _ 1 1 _ _ 1 1 l rfl rfl,
      canon8_row_ne 0 1 _ _ _ 1 1 l (by decide),
      canon8_row_ne 1 0 _ _ _ 1 1 l (by decide),
      canon8_row_ne 0 0 _ _ _ 1 1 l (by decide),
      canon8_all,
      zero8_at,
      zero_add]
    rfl
  · rw [canon8_row 1 2 _ _ _ 1 2 l rfl rfl,
      row36_at,
      readCov8_row _ 1 2 _ _ 1 2 l rfl rfl,
      canon8_row_ne 0 2 _ _ _ 1 2 l (by decide),
      canon8_row_ne 1 1 _ _ _ 1 2 l (by decide),
      canon8_row_ne 0 1 _ _ _ 1 2 l (by decide),
      canon8_row_ne 1 0 _ _ _ 1 2 l (by decide),
      canon8_row_ne 0 0 _ _ _ 1 2 l (by decide),
      canon8_all,
      zero8_at,
      zero_add]
    rfl

/-- A later point adds its part to what the point before left. -/
theorem dw_B (c : Dev nD) (t : Fin cfg0.N) (h : ¬t.val % 16 = 0) (p : Fin 2) (k : Fin 3) (l : Fin 1408) :
    (outsAt0 m c t.val t.isLt).2.1 (ix3 p k l) = (outsAt0 m c (t.val - 1) (Nat.lt_of_le_of_lt (Nat.sub_le _ _) t.isLt)).2.1 (ix3 p k l) + part m c t p k l := by
  rw [outsAt0_B m c t h]; frame_out
  unfold part dd sh
  obtain ⟨rfl, rfl⟩ | ⟨rfl, rfl⟩ | ⟨rfl, rfl⟩ | ⟨rfl, rfl⟩ | ⟨rfl, rfl⟩ | ⟨rfl, rfl⟩ : p = 0 ∧ k = 0 ∨ p = 0 ∧ k = 1 ∨ p = 0 ∧ k = 2 ∨ p = 1 ∧ k = 0 ∨ p = 1 ∧ k = 1 ∨ p = 1 ∧ k = 2 := by revert p k; decide
  · rw [canon8_row_ne 1 2 _ _ _ 0 0 l (by decide),
      canon8_row_ne 0 2 _ _ _ 0 0 l (by decide),
      canon8_row_ne 1 1 _ _ _ 0 0 l (by decide),
      canon8_row_ne 0 1 _ _ _ 0 0 l (by decide),
      canon8_row_ne 1 0 _ _ _ 0 0 l (by decide),
      canon8_row 0 0 _ _ _ 0 0 l rfl rfl,
      row31_at,
      ld8_row _ 0 0 _ 0 0 l rfl rfl]
    rfl
  · rw [canon8_row_ne 1 2 _ _ _ 0 1 l (by decide),
      canon8_row_ne 0 2 _ _ _ 0 1 l (by decide),
      canon8_row_ne 1 1 _ _ _ 0 1 l (by decide),
      canon8_row 0 1 _ _ _ 0 1 l rfl rfl,
      row33_at,
      ld8_row _ 0 1 _ 0 1 l rfl rfl]
    rfl
  · rw [canon8_row_ne 1 2 _ _ _ 0 2 l (by decide),
      canon8_row 0 2 _ _ _ 0 2 l rfl rfl,
      row35_at,
      ld8_row _ 0 2 _ 0 2 l rfl rfl]
    rfl
  · rw [canon8_row_ne 1 2 _ _ _ 1 0 l (by decide),
      canon8_row_ne 0 2 _ _ _ 1 0 l (by decide),
      canon8_row_ne 1 1 _ _ _ 1 0 l (by decide),
      canon8_row_ne 0 1 _ _ _ 1 0 l (by decide),
      canon8_row 1 0 _ _ _ 1 0 l rfl rfl,
      row32_at,
      ld8_row _ 1 0 _ 1 0 l rfl rfl]
    rfl
  · rw [canon8_row_ne 1 2 _ _ _ 1 1 l (by decide),
      canon8_row_ne 0 2 _ _ _ 1 1 l (by decide),
      canon8_row 1 1 _ _ _ 1 1 l rfl rfl,
      row34_at,
      ld8_row _ 1 1 _ 1 1 l rfl rfl]
    rfl
  · rw [canon8_row 1 2 _ _ _ 1 2 l rfl rfl,
      row36_at,
      ld8_row _ 1 2 _ 1 2 l rfl rfl]
    rfl

/-- The first point of a run leaves its own sum of the biases' gradient. -/
theorem db_A (c : Dev nD) (t : Fin cfg0.N) (h : t.val % 16 = 0) (p : Fin 2) (l : Fin 1408) :
    (outsAt0 m c t.val t.isLt).2.2 (ix3 p 0 l) = ∑ r : Fin 256, dd m c t p (ix2 r l) := by
  rw [outsAt0_A m c t h]; frame_out
  unfold dd
  obtain rfl | rfl : p = 0 ∨ p = 1 := by revert p; decide
  · rw [canon9_row_ne 1 0 _ _ _ 0 0 l (by decide), canon9_row 0 0 _ _ _ 0 0 l rfl rfl, bias0_add_at, readCov9_row _ 0 0 _ _ 0 0 l rfl rfl, canon9_all, zero9_at, zero_add]
    rfl
  · rw [canon9_row 1 0 _ _ _ 1 0 l rfl rfl, bias1_add_at, readCov9_row _ 1 0 _ _ 1 0 l rfl rfl, canon9_row_ne 0 0 _ _ _ 1 0 l (by decide), canon9_all, zero9_at, zero_add]
    rfl

/-- A later point adds its sum to what the point before left. -/
theorem db_B (c : Dev nD) (t : Fin cfg0.N) (h : ¬t.val % 16 = 0) (p : Fin 2) (l : Fin 1408) :
    (outsAt0 m c t.val t.isLt).2.2 (ix3 p 0 l) = (outsAt0 m c (t.val - 1) (Nat.lt_of_le_of_lt (Nat.sub_le _ _) t.isLt)).2.2 (ix3 p 0 l) + ∑ r : Fin 256, dd m c t p (ix2 r l) := by
  rw [outsAt0_B m c t h]; frame_out
  unfold dd
  obtain rfl | rfl : p = 0 ∨ p = 1 := by revert p; decide
  · rw [canon9_row_ne 1 0 _ _ _ 0 0 l (by decide), canon9_row 0 0 _ _ _ 0 0 l rfl rfl, bias0_add_at, ld9_row _ 0 0 _ 0 0 l rfl rfl]
    rfl
  · rw [canon9_row 1 0 _ _ _ 1 0 l rfl rfl, bias1_add_at, ld9_row _ 1 0 _ 1 0 l rfl rfl]
    rfl

/-- The convolved gate in a block is the reference's. -/
theorem G_at (c : Dev nD) (t : Fin cfg0.N) (r : Fin 256) (l : Fin 1408) :
    G m c t (ix2 r l) = Cert.ReferenceGateIdeal.Read.val_main_v30 (F := Ideal) (m ((c : Thread nD τ).loc main_arg0)) (m ((c : Thread nD τ).loc main_arg1)) (m ((c : Thread nD τ).loc main_arg2)) (ix2 ⟨t.val % 16 * 256 + r.val, by omega⟩ ⟨t.val / 16 * 1408 + l.val, by have := col_lt t; omega⟩) := by
  have hc := col_lt t
  rw [refhid_at _ _ _ 0 _ ⟨t.val / 16 * 1408 + l.val, by omega⟩ _ (by show t.val / 16 * 1408 + l.val = 0 * 2816 + (t.val / 16 * 1408 + l.val); omega)]
  refine (hid0_at _ _ _ _ _ r l).trans ?_
  rw [weight0_at m c t 0 l, weight0_at m c t 1 l, weight0_at m c t 2 l, bias0_at m c t l, own_at m c t 0 r l, tap_at m c t 0 r l 0 (by omega), tap_at m c t 0 r l 1 (by omega)]
  rfl

/-- The convolved value in a block is the reference's. -/
theorem V_at (c : Dev nD) (t : Fin cfg0.N) (r : Fin 256) (l : Fin 1408) :
    (k0_pay18 (F := Ideal) (k0_pay2 (F := Ideal) (iblk m c 0 t)) (k0_pay3 (F := Ideal) (grid0.coords t) (iblk m c 1 t)) (iblk m c 3 t) (iblk m c 5 t) (ix2 r l) + k0_pay14 (F := Ideal) (k0_pay2 (F := Ideal) (iblk m c 0 t)) (ix2 r l) * k0_pay19 (F := Ideal) (iblk m c 3 t) (ix2 0 l) : EReal)
      = Cert.ReferenceGateIdeal.Read.val_main_v30 (F := Ideal) (m ((c : Thread nD τ).loc main_arg0)) (m ((c : Thread nD τ).loc main_arg1)) (m ((c : Thread nD τ).loc main_arg2)) (ix2 ⟨t.val % 16 * 256 + r.val, by omega⟩ ⟨2816 + (t.val / 16 * 1408 + l.val), by have := col_lt t; omega⟩) := by
  have hc := col_lt t
  rw [refhid_at _ _ _ 1 _ ⟨t.val / 16 * 1408 + l.val, by omega⟩ _ (by show 2816 + (t.val / 16 * 1408 + l.val) = 1 * 2816 + (t.val / 16 * 1408 + l.val); omega)]
  refine (hid1_at _ _ _ _ _ r l).trans ?_
  rw [weight1_at m c t 0 l, weight1_at m c t 1 l, weight1_at m c t 2 l, bias1_at m c t l, own_at m c t 1 r l, tap_at m c t 1 r l 0 (by omega), tap_at m c t 1 r l 1 (by omega)]
  rfl

/-- The column of a plane's place among the two planes side by side. -/
abbrev wide (t : Fin cfg0.N) (p : Fin 2) (l : Fin 1408) : Fin 5632 := ⟨p * 2816 + (t.val / 16 * 1408 + l.val), by have := col_lt t; omega⟩

/-- A block of the cotangents before the activation is the reference's. -/
theorem dd_at (c : Dev nD) (t : Fin cfg0.N) (p : Fin 2) (r : Fin 256) (l : Fin 1408) :
    dd m c t p (ix2 r l) = Cert.ReferenceGateIdeal.Read.val_main_v41 (F := Ideal) (m ((c : Thread nD τ).loc main_arg0)) (m ((c : Thread nD τ).loc main_arg1)) (m ((c : Thread nD τ).loc main_arg2)) (m ((c : Thread nD τ).loc main_arg3)) (ix2 ⟨t.val % 16 * 256 + r.val, by omega⟩ (wide t p l)) := by
  have hc := col_lt t
  unfold dd
  obtain rfl | rfl : p = 0 ∨ p = 1 := by revert p; decide
  · have e : wide t 0 l = ⟨(⟨t.val / 16 * 1408 + l.val, by omega⟩ : Fin 2816).val, by show t.val / 16 * 1408 + l.val < 5632; omega⟩ := Fin.ext (by show 0 * 2816 + (t.val / 16 * 1408 + l.val) = t.val / 16 * 1408 + l.val; omega)
    rw [if_pos (show ((0 : Fin 2) : ℕ) = 0 from rfl), e]
    refine Eq.trans ?_ ((ref_v41_0 _ _ _ _ _ ⟨t.val / 16 * 1408 + l.val, by omega⟩).trans (ref_dgate _ _ _ _ _ _)).symm
    refine (dgate_at _ _ _ _ _ r l).trans ?_
    exact congrArg₂ (fun x y : EReal => x * y) (congrArg₂ (fun x y : EReal => x * y) (cot_at m c t r l) (V_at m c t r l)) (congrArg slope (G_at m c t r l))
  · have e : wide t 1 l = ⟨2816 + (⟨t.val / 16 * 1408 + l.val, by omega⟩ : Fin 2816).val, by show 2816 + (t.val / 16 * 1408 + l.val) < 5632; omega⟩ := Fin.ext (by show 1 * 2816 + (t.val / 16 * 1408 + l.val) = 2816 + (t.val / 16 * 1408 + l.val); omega)
    rw [if_neg (by decide), e]
    refine Eq.trans ?_ ((ref_v41_1 _ _ _ _ _ ⟨t.val / 16 * 1408 + l.val, by omega⟩).trans (ref_dvalue _ _ _ _ _ _)).symm
    refine (dvalue_at _ _ r l).trans ?_
    exact congrArg₂ (fun x y : EReal => x * y) (cot_at m c t r l) (congrArg (fun z : EReal => z * Ideal.logistic z) (G_at m c t r l))

/-- The rows a weight meets in a block are the array's. -/
theorem sh_at (c : Dev nD) (t : Fin cfg0.N) (p : Fin 2) (k : Fin 3) (r : Fin 256) (l : Fin 1408) :
    sh m c t p k (ix2 r l) = wrows (m ((c : Thread nD τ).loc main_arg0)) k (ix2 ⟨t.val % 16 * 256 + r.val, by omega⟩ (wide t p l)) := by
  have hc := col_lt t
  unfold sh wrows
  obtain ⟨rfl, rfl⟩ | ⟨rfl, rfl⟩ | ⟨rfl, rfl⟩ | ⟨rfl, rfl⟩ | ⟨rfl, rfl⟩ | ⟨rfl, rfl⟩ : p = 0 ∧ k = 0 ∨ p = 0 ∧ k = 1 ∨ p = 0 ∧ k = 2 ∨ p = 1 ∧ k = 0 ∨ p = 1 ∧ k = 1 ∨ p = 1 ∧ k = 2 := by revert p k; decide
  · refine (gback2_at _ _ _ r l).trans (Eq.trans ?_ (ref_v8 _ 0 _ ⟨t.val / 16 * 1408 + l.val, by omega⟩).symm)
    exact tap_at m c t 0 r l 0 (by omega)
  · refine (gback1_at _ _ _ r l).trans (Eq.trans ?_ (ref_v17 _ 0 _ ⟨t.val / 16 * 1408 + l.val, by omega⟩).symm)
    exact tap_at m c t 0 r l 1 (by omega)
  · refine (gown_at _ r l).trans (Eq.trans ?_ (ref_v24 _ 0 _ ⟨t.val / 16 * 1408 + l.val, by omega⟩).symm)
    exact own_at m c t 0 r l
  · refine (vback2_at _ _ _ r l).trans (Eq.trans ?_ (ref_v8 _ 1 _ ⟨t.val / 16 * 1408 + l.val, by omega⟩).symm)
    exact tap_at m c t 1 r l 0 (by omega)
  · refine (vback1_at _ _ _ r l).trans (Eq.trans ?_ (ref_v17 _ 1 _ ⟨t.val / 16 * 1408 + l.val, by omega⟩).symm)
    exact tap_at m c t 1 r l 1 (by omega)
  · refine (vown_at _ r l).trans (Eq.trans ?_ (ref_v24 _ 1 _ ⟨t.val / 16 * 1408 + l.val, by omega⟩).symm)
    exact own_at m c t 1 r l

/-- What the last point of a run leaves of the weights' gradient is the sum of the run's parts. -/
theorem dw_all (c : Dev nD) (t : Fin cfg0.N) (h : t.val % 16 = 15) (j : S2x3x1408.Idx) :
    (outsAt0 m c t.val t.isLt).2.1 j = ∑ s : Fin 16, part m c ⟨16 * (t.val / 16) + s.val, Pipeline.run_point_lt_of_flush t h s⟩ (j 0) (j 1) (j 2) := by
  rw [Pipeline.eq_sum_fin_of_reset_step_apply_of_flush (fun n h => (outsAt0 m c n h).2.1) 16 (fun _ => 0)
    (fun p j => part m c p (j 0) (j 1) (j 2))
    (fun t h j => by
      obtain ⟨p, k, l, rfl⟩ : ∃ (p : Fin 2) (k : Fin 3) (l : Fin 1408), j = ix3 p k l := ⟨j 0, j 1, j 2, by idx_ext⟩
      exact (dw_A m c t h p k l).trans (zero_add _).symm)
    (fun t h j => by
      obtain ⟨p, k, l, rfl⟩ : ∃ (p : Fin 2) (k : Fin 3) (l : Fin 1408), j = ix3 p k l := ⟨j 0, j 1, j 2, by idx_ext⟩
      exact dw_B m c t h p k l)
    t h j, zero_add]

/-- What the last point of a run leaves of the biases' gradient is the sum of the run's sums. -/
theorem db_all (c : Dev nD) (t : Fin cfg0.N) (h : t.val % 16 = 15) (j : S2x1x1408.Idx) :
    (outsAt0 m c t.val t.isLt).2.2 j = ∑ s : Fin 16, ∑ r : Fin 256, dd m c ⟨16 * (t.val / 16) + s.val, Pipeline.run_point_lt_of_flush t h s⟩ (j 0) (ix2 r (j 2)) := by
  rw [Pipeline.eq_sum_fin_of_reset_step_apply_of_flush (fun n h => (outsAt0 m c n h).2.2) 16 (fun _ => 0)
    (fun p j => ∑ r : Fin 256, dd m c p (j 0) (ix2 r (j 2)))
    (fun t h j => by
      obtain ⟨p, l, rfl⟩ : ∃ (p : Fin 2) (l : Fin 1408), j = ix3 p 0 l := ⟨j 0, j 2, by idx_ext⟩
      exact (db_A m c t h p l).trans (zero_add _).symm)
    (fun t h j => by
      obtain ⟨p, l, rfl⟩ : ∃ (p : Fin 2) (l : Fin 1408), j = ix3 p 0 l := ⟨j 0, j 2, by idx_ext⟩
      exact db_B m c t h p l)
    t h j, zero_add]

/-- The cotangents the kernel leaves are the reference's. -/
theorem final_planes (c : Dev nD) : (dats m 0 c).arrAt 7 (cfgs 0).N = Cert.ReferenceGateIdeal.Read.val_main_v70 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  obtain ⟨p, r, l, rfl⟩ : ∃ (p : Fin 2) (r : Fin 256) (l : Fin 1408), y = ix3 p r l := ⟨y 0, y 1, y 2, by idx_ext⟩
  exact (planes_last m c t p r l).trans ((dd_at m c t p r l).trans ((out_at t p r l _).trans (ref_v70 _ _ _ _ p _ _)).symm)

/-- The weights' gradient the kernel leaves is the reference's. -/
theorem final_dw (c : Dev nD) : (dats m 0 c).arrAt 8 (cfgs 0).N = Cert.ReferenceGateIdeal.Read.val_main_v75 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  have h7 := (flush0_8 t).mp hf
  blk_simp
  rw [after0_8]
  obtain ⟨p, k, l, rfl⟩ : ∃ (p : Fin 2) (k : Fin 3) (l : Fin 1408), y = ix3 p k l := ⟨y 0, y 1, y 2, by idx_ext⟩
  have hc := col_lt t
  refine Eq.trans ?_ ((out_dw_at t p k l _).trans ((ref_v75 _ _ _ _ p k _).trans (ref_v64 _ _ _ _ k _))).symm
  refine (dw_all m c t h7 (ix3 p k l)).trans ?_
  unfold part
  refine Fin.sum_mul_add_congr fun s r hl => ?_
  refine (congrArg₂ (fun x y : EReal => x * y) (dd_at m c _ p r l) (sh_at m c _ p k r l)).trans ?_
  have h8 : (16 * (t.val / 16) + s.val) % 16 = s.val := by omega
  have h9 : (16 * (t.val / 16) + s.val) / 16 = t.val / 16 := by omega
  simp only [wide, h8, h9]

/-- The biases' gradient the kernel leaves is the reference's. -/
theorem final_db (c : Dev nD) : (dats m 0 c).arrAt 9 (cfgs 0).N = Cert.ReferenceGateIdeal.Read.val_main_v82 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t hf y => ?_
  have h7 := (flush0_9 t).mp hf
  blk_simp
  rw [after0_9]
  obtain ⟨p, l, rfl⟩ : ∃ (p : Fin 2) (l : Fin 1408), y = ix3 p 0 l := ⟨y 0, y 2, by idx_ext⟩
  have hc := col_lt t
  refine Eq.trans ?_ ((out_db_at t p l _).trans (ref_v82 _ _ _ _ p _)).symm
  refine (db_all m c t h7 (ix3 p 0 l)).trans ?_
  refine Fin.sum_mul_add_congr fun s r hl => ?_
  refine (dd_at m c _ p r l).trans ?_
  have h8 : (16 * (t.val / 16) + s.val) % 16 = s.val := by omega
  have h9 : (16 * (t.val / 16) + s.val) / 16 = t.val / 16 := by omega
  simp only [wide, h8, h9]

/-- The two programs end with the same arrays from the same arguments. -/
theorem algebraic : Cert.algebraic_KernelGateIdeal_ReferenceGateIdeal := by
  pair_intro
  · run_from Cert.KernelGateIdeal.Gen.run_main m g
  · refine Idealize.ShloMosaic.θ_run_mono (Cert.ReferenceGateIdeal.Value.run m' g') fun r hr c => ?_
    have e0 := (hagree c).1
    have e1 := (hagree c).2.1
    have e2 := (hagree c).2.2.1
    have e3 := (hagree c).2.2.2
    refine ⟨(hr c).1.trans ?_, (hr c).2.1.trans ?_, (hr c).2.2.1.trans ?_, (hr c).2.2.2⟩
    · refine (Cert.ReferenceGateIdeal.Read.val_main_v70_eq (Idealize.ShloMosaic.StableHlo.launchContents m' c)).trans ?_
      refine Eq.trans ?_ (final_planes m c).symm
      show Cert.ReferenceGateIdeal.Read.val_main_v70 (F := Ideal) (m' ((c.tc : Thread Cert.ReferenceGateIdeal.nD Cert.ReferenceGateIdeal.τ).loc Cert.ReferenceGateIdeal.main_arg0)) (m' ((c.tc : Thread Cert.ReferenceGateIdeal.nD Cert.ReferenceGateIdeal.τ).loc Cert.ReferenceGateIdeal.main_arg1)) (m' ((c.tc : Thread Cert.ReferenceGateIdeal.nD Cert.ReferenceGateIdeal.τ).loc Cert.ReferenceGateIdeal.main_arg2)) (m' ((c.tc : Thread Cert.ReferenceGateIdeal.nD Cert.ReferenceGateIdeal.τ).loc Cert.ReferenceGateIdeal.main_arg3)) = Cert.ReferenceGateIdeal.Read.val_main_v70 (F := Ideal) (m ((c : Thread nD τ).loc main_arg0)) (m ((c : Thread nD τ).loc main_arg1)) (m ((c : Thread nD τ).loc main_arg2)) (m ((c : Thread nD τ).loc main_arg3))
      rw [e0, e1, e2, e3]
    · refine (Cert.ReferenceGateIdeal.Read.val_main_v75_eq (Idealize.ShloMosaic.StableHlo.launchContents m' c)).trans ?_
      refine Eq.trans ?_ (final_dw m c).symm
      show Cert.ReferenceGateIdeal.Read.val_main_v75 (F := Ideal) (m' ((c.tc : Thread Cert.ReferenceGateIdeal.nD Cert.ReferenceGateIdeal.τ).loc Cert.ReferenceGateIdeal.main_arg0)) (m' ((c.tc : Thread Cert.ReferenceGateIdeal.nD Cert.ReferenceGateIdeal.τ).loc Cert.ReferenceGateIdeal.main_arg1)) (m' ((c.tc : Thread Cert.ReferenceGateIdeal.nD Cert.ReferenceGateIdeal.τ).loc Cert.ReferenceGateIdeal.main_arg2)) (m' ((c.tc : Thread Cert.ReferenceGateIdeal.nD Cert.ReferenceGateIdeal.τ).loc Cert.ReferenceGateIdeal.main_arg3)) = Cert.ReferenceGateIdeal.Read.val_main_v75 (F := Ideal) (m ((c : Thread nD τ).loc main_arg0)) (m ((c : Thread nD τ).loc main_arg1)) (m ((c : Thread nD τ).loc main_arg2)) (m ((c : Thread nD τ).loc main_arg3))
      rw [e0, e1, e2, e3]
    · refine (Cert.ReferenceGateIdeal.Read.val_main_v82_eq (Idealize.ShloMosaic.StableHlo.launchContents m' c)).trans ?_
      refine Eq.trans ?_ (final_db m c).symm
      show Cert.ReferenceGateIdeal.Read.val_main_v82 (F := Ideal) (m' ((c.tc : Thread Cert.ReferenceGateIdeal.nD Cert.ReferenceGateIdeal.τ).loc Cert.ReferenceGateIdeal.main_arg0)) (m' ((c.tc : Thread Cert.ReferenceGateIdeal.nD Cert.ReferenceGateIdeal.τ).loc Cert.ReferenceGateIdeal.main_arg1)) (m' ((c.tc : Thread Cert.ReferenceGateIdeal.nD Cert.ReferenceGateIdeal.τ).loc Cert.ReferenceGateIdeal.main_arg2)) (m' ((c.tc : Thread Cert.ReferenceGateIdeal.nD Cert.ReferenceGateIdeal.τ).loc Cert.ReferenceGateIdeal.main_arg3)) = Cert.ReferenceGateIdeal.Read.val_main_v82 (F := Ideal) (m ((c : Thread nD τ).loc main_arg0)) (m ((c : Thread nD τ).loc main_arg1)) (m ((c : Thread nD τ).loc main_arg2)) (m ((c : Thread nD τ).loc main_arg3))
      rw [e0, e1, e2, e3]

end Cert.KernelGateIdeal.Product

end
-- ==== Proof.SsmConvD.lean ====
/- The gradients of the recurrent block's convolution with its activation: the cotangent before the activation and the gradients of the weights and
   of the biases. The three result arrays of the kernel are the reference's. -/
module

public import proofs.«01_k».proof.Proof.Sigmoid
public import proofs.«01_k».proof.Defs
public import proofs.«01_k».proof.Proof.Gen.KernelSsmConvDIdeal.Value
public import proofs.«01_k».proof.Proof.Gen.ReferenceSsmConvDIdeal.Run
public import proofs.«01_k».proof.Proof.Gen.ReferenceSsmConvDIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelSsmConvDIdeal.Product

open Cert.KernelSsmConvDIdeal Cert.KernelSsmConvDIdeal.Gen

/-- The rows a block's convolution reads: the last rows of the block before it (none before the first), then the block's own. -/
def ktap (i : grid0.Coords) (x0 : FVec Ideal S512x512 .f32) (x1 : FVec Ideal S8x512 .f32) (n : Fin 520) (l : Fin 512) : EReal :=
  if h : 8 ≤ (n : ℕ) then x0 (ix2 ⟨n - 8, by omega⟩ l) else x1 (ix2 ⟨n, by omega⟩ l) * (if 0 < (i 1 : ℕ) then 1 else 0)

/-- The switch of the first row block as a number. -/
theorem gate_eq (i : grid0.Coords) :
    (((Scalar.extui (Scalar.cmpi CmpIPredicate.sgt (BitVec.ofNat 32 (i 1 : ℕ)) 0#32) : BitVec 32).toInt : ℝ) : EReal) = if 0 < (i 1 : ℕ) then 1 else 0 := by
  have h : ∀ q : Fin 8, (Scalar.extui (Scalar.cmpi CmpIPredicate.sgt (BitVec.ofNat 32 q.val) 0#32) : BitVec 32).toInt = if 0 < q.val then 1 else 0 := by decide
  rw [h (i 1)]
  split <;> simp

/-- A choice by the comparison of a row below eight with a number of rows. -/
theorem select (r : Fin 512) (h : (r : ℕ) < 8) (s : Fin 4) (a b : EReal) :
    Scalar.select (IntOp.cmpi CmpIPredicate.slt (BitVec.ofNat 32 (r : ℕ)) (BitVec.ofNat 32 (s : ℕ))) a b = if (r : ℕ) < (s : ℕ) then a else b := by
  have e : ∀ (q : Fin 8) (s : Fin 4), IntOp.cmpi CmpIPredicate.slt (BitVec.ofNat 32 q.val) (BitVec.ofNat 32 s.val) = if q.val < s.val then 1#1 else 0#1 := by decide
  rw [e ⟨r, h⟩ s]
  by_cases h1 : (r : ℕ) < (s : ℕ)
  · rw [if_pos h1, if_pos h1]; rfl
  · rw [if_neg h1, if_neg h1]; rfl

/-- Equal rows are equal indices of a block. -/
theorem ix_congr {n : ℕ} {l : Fin 512} {a b : Fin n} (h : (a : ℕ) = b) : (ix2 a l) = ix2 b l := by
  rw [Fin.ext h]

/-- Some rows back. -/
theorem back (i : grid0.Coords) (x0 : FVec Ideal S512x512 .f32) (x1 : FVec Ideal S8x512 .f32) (r : Fin 512) (l : Fin 512) (s : Fin 4) (hs : 0 < (s : ℕ)) (n : Fin 520) (hn : (n : ℕ) = r + 8 - s)
    (A : (r : ℕ) < 8 → Fin 8) (A' : (r : ℕ) < 8 → Fin 512) (B : ¬(r : ℕ) < 8 → Fin 512)
    (hA : ∀ h, (A h : ℕ) = (r + 8 - s) % 8) (hC : ∀ h, (A' h : ℕ) = (r + 8 - s) % 8) (hB : ∀ h, (B h : ℕ) = (8 + (r - 8) + 512 - s) % 512) :
    (if h : (r : ℕ) < 8 then Scalar.select (IntOp.cmpi CmpIPredicate.slt (BitVec.ofNat 32 (r : ℕ)) (BitVec.ofNat 32 (s : ℕ)))
        (x1 (ix2 (A h) l) * (if 0 < (i 1 : ℕ) then 1 else 0)) (x0 (ix2 (A' h) l)) else x0 (ix2 (B h) l)) = ktap i x0 x1 n l := by
  unfold ktap
  by_cases h : (r : ℕ) < 8
  · rw [dif_pos h, select r h s]
    by_cases h1 : (r : ℕ) < (s : ℕ)
    · rw [if_pos h1, dif_neg (show ¬8 ≤ (n : ℕ) by omega)]
      exact congrArg (fun q => x1 q * _) (ix_congr (by rw [hA h]; show _ = (n : ℕ); omega))
    · rw [if_neg h1, dif_pos (show 8 ≤ (n : ℕ) by omega)]
      exact congrArg x0 (ix_congr (by rw [hC h]; show _ = (n : ℕ) - 8; omega))
  · rw [dif_neg h, dif_pos (show 8 ≤ (n : ℕ) by omega)]
    exact congrArg x0 (ix_congr (by rw [hB h]; show _ = (n : ℕ) - 8; omega))

/-- Sums of four terms with equal factors are equal. -/
theorem add4 : ∀ b x y z x' y' z' u v w q : EReal, x = x' → y = y' → z = z' → b + x * u + y * v + z * w + q = b + x' * u + y' * v + z' * w + q := by
  rintro b x y z _ _ _ u v w q rfl rfl rfl; rfl

/-- The derivative of the activation. -/
def slope (h : EReal) : EReal := Ideal.logistic h * (Ideal.ofBits .f32 0x3F800000#32 + h * (Ideal.ofBits .f32 0x3F800000#32 - Ideal.logistic h))

/-- The derivative by the product's rule. -/
theorem slope_eq (h : EReal) : Ideal.ofBits .f32 0x3F800000#32 * Ideal.logistic h + h * Ideal.ofBits .f32 0x3F800000#32 * (Ideal.logistic h * (Ideal.ofBits .f32 0x3F800000#32 - Ideal.logistic h)) = slope h := by
  unfold slope
  rw [Cert.Sigmoid.one_eq]
  induction h with
  | bot => simp [Ideal.logistic_bot]
  | top =>
    rw [Ideal.logistic_top, EReal.coe_one, show (1 : EReal) - 1 = 0 by rw [← EReal.coe_one, ← EReal.coe_sub, sub_self, EReal.coe_zero]]
    simp
  | coe r =>
    rw [Ideal.logistic_coe]
    norm_cast
    ring

/-- The convolution's rows, three back. -/
theorem back3_at (i : grid0.Coords) (x0 : FVec Ideal S512x512 .f32) (x1 : FVec Ideal S8x512 .f32) (r : Fin 512) (l : Fin 512) :
    k0_pay6 (F := Ideal) i x0 x1 (ix2 r l) = ktap i x0 x1 ⟨(r : ℕ) + 5, by omega⟩ l := by
  pointwise [k0_pay6, k0_pay5]
  rw [gate_eq i]
  exact back i x0 x1 r l 3 (by decide) _ (by show (r : ℕ) + 5 = r + 8 - 3; omega) _ _ _ (fun _ => rfl) (fun _ => rfl) (fun _ => rfl)

/-- The convolution's rows, two back. -/
theorem back2_at (i : grid0.Coords) (x0 : FVec Ideal S512x512 .f32) (x1 : FVec Ideal S8x512 .f32) (r : Fin 512) (l : Fin 512) :
    k0_pay7 (F := Ideal) i x0 x1 (ix2 r l) = ktap i x0 x1 ⟨(r : ℕ) + 6, by omega⟩ l := by
  pointwise [k0_pay7, k0_pay5]
  rw [gate_eq i]
  exact back i x0 x1 r l 2 (by decide) _ (by show (r : ℕ) + 6 = r + 8 - 2; omega) _ _ _ (fun _ => rfl) (fun _ => rfl) (fun _ => rfl)

/-- The convolution's rows, one back. -/
theorem back1_at (i : grid0.Coords) (x0 : FVec Ideal S512x512 .f32) (x1 : FVec Ideal S8x512 .f32) (r : Fin 512) (l : Fin 512) :
    k0_pay10 (F := Ideal) x0 (k0_pay5 (F := Ideal) i x1) (k0_pay9 (F := Ideal) x0) (ix2 r l) = ktap i x0 x1 ⟨(r : ℕ) + 7, by omega⟩ l := by
  pointwise [k0_pay10, k0_pay9, k0_pay5]
  rw [gate_eq i]
  exact back i x0 x1 r l 1 (by decide) _ (by show (r : ℕ) + 7 = r + 8 - 1; omega) _ _ _ (fun _ => rfl) (fun _ => rfl) (fun _ => rfl)

/-- What the body stores: the cotangent times the derivative at the convolution. -/
theorem body_at (i : grid0.Coords) (x0 : FVec Ideal S512x512 .f32) (x1 : FVec Ideal S8x512 .f32) (w : FVec Ideal S4x512 .f32) (b : FVec Ideal S1x512 .f32) (d : FVec Ideal S512x512 .f32)
    (r : Fin 512) (l : Fin 512) (H : EReal)
    (hH : H = b (ix2 0 l) + ktap i x0 x1 ⟨(r : ℕ) + 5, by omega⟩ l * w (ix2 0 l) + ktap i x0 x1 ⟨(r : ℕ) + 6, by omega⟩ l * w (ix2 1 l)
      + ktap i x0 x1 ⟨(r : ℕ) + 7, by omega⟩ l * w (ix2 2 l) + x0 (ix2 r l) * w (ix2 3 l)) :
    k0_pay11 (F := Ideal) x0 (k0_pay5 (F := Ideal) i x1) w (k0_pay8 (F := Ideal) i x0 x1 w b) (k0_pay9 (F := Ideal) x0) d (ix2 r l) = d (ix2 r l) * slope H := by
  unfold slope
  rw [hH, ← back3_at, ← back2_at, ← back1_at]
  pointwise [k0_pay11, k0_pay8]
  rw [Cert.Sigmoid.logistic_eq]

/-- A row of the gradient of the weights, increased by a block's sum. -/
theorem row0_at (s d : FVec Ideal S512x512 .f32) (a : FVec Ideal S1x512 .f32) (l : Fin 512) :
    k0_pay1 (F := Ideal) s d a (ix2 0 l) = a (ix2 0 l) + ∑ r : Fin 512, d (ix2 r l) * s (ix2 r l) := by
  pointwise [k0_pay1]

/-- A row of the gradient of the weights, increased by a block's sum. -/
theorem row1_at (s d : FVec Ideal S512x512 .f32) (a : FVec Ideal S1x512 .f32) (l : Fin 512) :
    k0_pay2 (F := Ideal) s d a (ix2 0 l) = a (ix2 0 l) + ∑ r : Fin 512, d (ix2 r l) * s (ix2 r l) := by
  pointwise [k0_pay2]

/-- A row of the gradient of the weights, increased by a block's sum. -/
theorem row2_at (s d : FVec Ideal S512x512 .f32) (a : FVec Ideal S1x512 .f32) (l : Fin 512) :
    k0_pay3 (F := Ideal) s d a (ix2 0 l) = a (ix2 0 l) + ∑ r : Fin 512, d (ix2 r l) * s (ix2 r l) := by
  pointwise [k0_pay3]

/-- A row of the gradient of the weights, increased by a block's sum. -/
theorem row3_at (s d : FVec Ideal S512x512 .f32) (a : FVec Ideal S1x512 .f32) (l : Fin 512) :
    k0_pay4 (F := Ideal) s d a (ix2 0 l) = a (ix2 0 l) + ∑ r : Fin 512, d (ix2 r l) * s (ix2 r l) := by
  pointwise [k0_pay4]

/-- The gradient of the biases, increased by a block's sum. -/
theorem bias_add_at (x0 : FVec Ideal S512x512 .f32) (x1 : FVec Ideal S8x512 .f32) (w : FVec Ideal S4x512 .f32) (p q d : FVec Ideal S512x512 .f32) (a : FVec Ideal S1x512 .f32) (l : Fin 512) :
    k0_pay14 (F := Ideal) x0 x1 w p q d a (ix2 0 l) = a (ix2 0 l) + ∑ r : Fin 512, k0_pay11 (F := Ideal) x0 x1 w p q d (ix2 r l) := by
  pointwise [k0_pay14]

/-- The middle columns at row `n - 3`, nothing before the first row. -/
def tap (a0 : FVec Ideal Cert.ReferenceSsmConvDIdeal.S4096x5376 .f32) (n : ℕ) (f : Fin 5376) : EReal :=
  if h : 3 ≤ n ∧ n < 4099 then a0 (ix2 ⟨n - 3, by omega⟩ f) else 0

/-- The convolution. -/
def hid (a0 : FVec Ideal Cert.ReferenceSsmConvDIdeal.S4096x5376 .f32) (a1 : FVec Ideal Cert.ReferenceSsmConvDIdeal.S4x3072 .f32) (a2 : FVec Ideal Cert.ReferenceSsmConvDIdeal.S3072 .f32)
    (r : Fin 4096) (f : Fin 3072) (g : Fin 5376) : EReal :=
  a2 (ix1 f) + tap a0 r g * a1 (ix2 0 f) + tap a0 (r + 1) g * a1 (ix2 1 f) + tap a0 (r + 2) g * a1 (ix2 2 f) + a0 (ix2 r g) * a1 (ix2 3 f)

/-- Reads at equal coordinates are equal. -/
theorem read0 (a0 : FVec Ideal Cert.ReferenceSsmConvDIdeal.S4096x5376 .f32) (n n' : Fin 4096) (f f' : Fin 5376) (e : (n : ℕ) = n') (ef : (f : ℕ) = f') :
    a0 (ix2 n f) = a0 (ix2 n' f') := by rw [Fin.ext e, Fin.ext ef]

/-- A guarded read is a row. -/
theorem tap_eq (a0 : FVec Ideal Cert.ReferenceSsmConvDIdeal.S4096x5376 .f32) (n : ℕ) (hn : n < 4099) (f : Fin 5376) (P : Prop) [Decidable P]
    (hP : P ↔ n < 3) (n0 : ¬P → Fin 4096) (h0 : ∀ h, (n0 h : ℕ) = n - 3) :
    (if h : P then 0 else a0 (ix2 (n0 h) f)) = tap a0 n f := by
  unfold tap
  by_cases h : P
  · rw [dif_pos h, dif_neg (show ¬(3 ≤ n ∧ n < 4099) by have := hP.1 h; omega)]
  · rw [dif_neg h, dif_pos (show 3 ≤ n ∧ n < 4099 from ⟨by by_contra hc; exact h (hP.2 (by omega)), hn⟩)]
    exact read0 a0 _ _ _ _ (h0 h) rfl

section
open Cert.ReferenceSsmConvDIdeal.Read

/-- The reference's convolution. -/
theorem refhid_at (a0 : FVec Ideal Cert.ReferenceSsmConvDIdeal.S4096x5376 .f32) (a1 : FVec Ideal Cert.ReferenceSsmConvDIdeal.S4x3072 .f32) (a2 : FVec Ideal Cert.ReferenceSsmConvDIdeal.S3072 .f32)
    (r : Fin 4096) (f : Fin 3072) :
    val_main_v32 (F := Ideal) a0 a1 a2 (ix2 r f) = hid a0 a1 a2 r f ⟨2048 + f.val, by omega⟩ := by
  unfold hid
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_cst]
  refine add4 _ _ _ _ _ _ _ _ _ _ _ ?_ ?_ ?_
  · exact tap_eq a0 r (by omega) ⟨2048 + f.val, by omega⟩ ((r : ℕ) < 3) (by omega) (fun h => ⟨(r : ℕ) - 3, by omega⟩) (fun h => by show (r : ℕ) - 3 = (r : ℕ) - 3; omega)
  · exact tap_eq a0 ((r : ℕ) + 1) (by omega) ⟨2048 + f.val, by omega⟩ (1 + (r : ℕ) < 3) (by omega) (fun h => ⟨1 + (r : ℕ) - 3, by omega⟩) (fun h => by show 1 + (r : ℕ) - 3 = ((r : ℕ) + 1) - 3; omega)
  · exact tap_eq a0 ((r : ℕ) + 2) (by omega) ⟨2048 + f.val, by omega⟩ (2 + (r : ℕ) < 3) (by omega) (fun h => ⟨2 + (r : ℕ) - 3, by omega⟩) (fun h => by show 2 + (r : ℕ) - 3 = ((r : ℕ) + 2) - 3; omega)

/-- The reference's cotangent before the activation. -/
theorem ref_at (a0 : FVec Ideal Cert.ReferenceSsmConvDIdeal.S4096x5376 .f32) (a1 : FVec Ideal Cert.ReferenceSsmConvDIdeal.S4x3072 .f32) (a2 : FVec Ideal Cert.ReferenceSsmConvDIdeal.S3072 .f32) (a3 : FVec Ideal Cert.ReferenceSsmConvDIdeal.S4096x3072 .f32)
    (r : Fin 4096) (f : Fin 3072) :
    val_main_v36 (F := Ideal) a0 a1 a2 a3 (ix2 r f) = a3 (ix2 r f) * slope (hid a0 a1 a2 r f ⟨2048 + f.val, by omega⟩) := by
  rw [← refhid_at, ← slope_eq]
  pointwise [val_main_v36, val_main_v35, val_main_v34, val_main_v33_0, val_main_v33_1, val_main_v33_2, val_main_call0_v0, val_main_call0_v1, val_main_call0_v2, val_main_call0_v3, val_main_call0_v4, val_main_call0_v6, val_main_call0_v7, val_main_call0_cst, val_main_call0_cst_0, val_main_call0_cst_1, val_main_cst_0, val_main_call1_v0, val_main_call1_v1, val_main_call1_v2]
  rfl

/-- The reference's rows for the first weight. -/
theorem ref_v3 (a0 : FVec Ideal Cert.ReferenceSsmConvDIdeal.S4096x5376 .f32) (r : Fin 4096) (f : Fin 3072) :
    val_main_v3 (F := Ideal) a0 (ix2 r f) = tap a0 r ⟨2048 + f.val, by omega⟩ := by
  pointwise [val_main_v0, val_main_v1, val_main_v2, val_main_v3, val_main_cst]
  exact tap_eq a0 r (by omega) ⟨2048 + f.val, by omega⟩ ((r : ℕ) < 3) (by omega) (fun h => ⟨(r : ℕ) - 3, by omega⟩) (fun h => by show (r : ℕ) - 3 = (r : ℕ) - 3; omega)

/-- The reference's rows for the second weight. -/
theorem ref_v12 (a0 : FVec Ideal Cert.ReferenceSsmConvDIdeal.S4096x5376 .f32) (r : Fin 4096) (f : Fin 3072) :
    val_main_v12 (F := Ideal) a0 (ix2 r f) = tap a0 ((r : ℕ) + 1) ⟨2048 + f.val, by omega⟩ := by
  pointwise [val_main_v0, val_main_v1, val_main_v2, val_main_v12, val_main_cst]
  exact tap_eq a0 ((r : ℕ) + 1) (by omega) ⟨2048 + f.val, by omega⟩ (1 + (r : ℕ) < 3) (by omega) (fun h => ⟨1 + (r : ℕ) - 3, by omega⟩) (fun h => by show 1 + (r : ℕ) - 3 = ((r : ℕ) + 1) - 3; omega)

/-- The reference's rows for the third weight. -/
theorem ref_v19 (a0 : FVec Ideal Cert.ReferenceSsmConvDIdeal.S4096x5376 .f32) (r : Fin 4096) (f : Fin 3072) :
    val_main_v19 (F := Ideal) a0 (ix2 r f) = tap a0 ((r : ℕ) + 2) ⟨2048 + f.val, by omega⟩ := by
  pointwise [val_main_v0, val_main_v1, val_main_v2, val_main_v19, val_main_cst]
  exact tap_eq a0 ((r : ℕ) + 2) (by omega) ⟨2048 + f.val, by omega⟩ (2 + (r : ℕ) < 3) (by omega) (fun h => ⟨2 + (r : ℕ) - 3, by omega⟩) (fun h => by show 2 + (r : ℕ) - 3 = ((r : ℕ) + 2) - 3; omega)

/-- The reference's rows for the last weight. -/
theorem ref_v26 (a0 : FVec Ideal Cert.ReferenceSsmConvDIdeal.S4096x5376 .f32) (r : Fin 4096) (f : Fin 3072) :
    val_main_v26 (F := Ideal) a0 (ix2 r f) = a0 (ix2 r ⟨2048 + f.val, by omega⟩) := by
  pointwise [val_main_v0, val_main_v1, val_main_v2, val_main_v26, val_main_cst]

/-- The reference's gradient of the biases. -/
theorem ref_db (a0 : FVec Ideal Cert.ReferenceSsmConvDIdeal.S4096x5376 .f32) (a1 : FVec Ideal Cert.ReferenceSsmConvDIdeal.S4x3072 .f32) (a2 : FVec Ideal Cert.ReferenceSsmConvDIdeal.S3072 .f32) (a3 : FVec Ideal Cert.ReferenceSsmConvDIdeal.S4096x3072 .f32) (f : Fin 3072) :
    val_main_v67 (F := Ideal) a0 a1 a2 a3 (ix2 0 f) = ∑ r : Fin 4096, val_main_v36 (F := Ideal) a0 a1 a2 a3 (ix2 r f) := by
  pointwise [val_main_v67, val_main_v59, val_main_v58, val_main_v57, val_main_cst_10, val_main_cst_11]
  simp only [Fin.sum_univ_one]

/-- The reference's gradient of the weights. -/
theorem ref_dw (a0 : FVec Ideal Cert.ReferenceSsmConvDIdeal.S4096x5376 .f32) (a1 : FVec Ideal Cert.ReferenceSsmConvDIdeal.S4x3072 .f32) (a2 : FVec Ideal Cert.ReferenceSsmConvDIdeal.S3072 .f32) (a3 : FVec Ideal Cert.ReferenceSsmConvDIdeal.S4096x3072 .f32) (k : Fin 4) (f : Fin 3072) :
    val_main_v66 (F := Ideal) a0 a1 a2 a3 (ix2 k f) = ∑ r : Fin 4096, val_main_v36 (F := Ideal) a0 a1 a2 a3 (ix2 r f) * (if (k : ℕ) = 0 then val_main_v3 (F := Ideal) a0 (ix2 r f) else if (k : ℕ) = 1 then val_main_v12 (F := Ideal) a0 (ix2 r f) else if (k : ℕ) = 2 then val_main_v19 (F := Ideal) a0 (ix2 r f) else val_main_v26 (F := Ideal) a0 (ix2 r f)) := by
  obtain rfl | rfl | rfl | rfl : k = 0 ∨ k = 1 ∨ k = 2 ∨ k = 3 := by revert k; decide
  all_goals
    pointwise [val_main_v66, val_main_v56, val_main_v49, val_main_v42, val_main_v48, val_main_v55, val_main_v65, val_main_v64, val_main_v63, val_main_v62, val_main_v61, val_main_v60,
      val_main_v54, val_main_v53, val_main_v52, val_main_v51, val_main_v50, val_main_v47, val_main_v46, val_main_v45, val_main_v44, val_main_v43, val_main_v41, val_main_v40, val_main_v39, val_main_v38, val_main_v37,
      val_main_cst_1, val_main_cst_2, val_main_cst_3, val_main_cst_4, val_main_cst_5, val_main_cst_6, val_main_cst_7, val_main_cst_8, val_main_cst_9, val_main_cst_12, val_main_cst_13, val_main_cst_14]
    simp only [Fin.sum_univ_one]
    exact Finset.sum_congr rfl fun x _ => mul_comm _ _

end

variable (m : (ℓ : Loc nD τ sig) → Buf (Elt Ideal) ℓ)

/-- Under a row stored last, the contents are the row's. -/
theorem canon_row (a : ℕ) (inb : ∀ x, (![a, 0] : Fin 2 → ℕ) x + (![1, 512] : Fin 2 → ℕ) x ≤ S4x512.size x) (w : FVec Ideal S1x512 .f32)
    (L : List (View.Piece (Elt Ideal) S4x512 .f32)) (k : Fin 4) (l : Fin 512) (h : (k : ℕ) = a) :
    View.canon ((⟨Rect.unit (s := S4x512) ![a, 0] ![1, 512] inb, w⟩ : View.Piece (Elt Ideal) S4x512 .f32) :: L) (ix2 k l) = w (ix2 0 l) := by
  have he : (Rect.unit (s := S4x512) ![a, 0] ![1, 512] inb).emb (ix2 (0 : Fin 1) l) = ix2 k l := by
    funext x; apply Fin.ext
    fin_cases x
    · show a + 1 * 0 = k.val; omega
    · show 0 + 1 * l.val = l.val; omega
  rw [← he]
  exact View.canon_cons_emb (Rect.unit (s := S4x512) ![a, 0] ![1, 512] inb) w L (ix2 (0 : Fin 1) l)

/-- Off a row stored last, the contents are the earlier ones. -/
theorem canon_row_ne (a : ℕ) (inb : ∀ x, (![a, 0] : Fin 2 → ℕ) x + (![1, 512] : Fin 2 → ℕ) x ≤ S4x512.size x) (w : FVec Ideal S1x512 .f32)
    (L : List (View.Piece (Elt Ideal) S4x512 .f32)) (k : Fin 4) (l : Fin 512) (h : (k : ℕ) ≠ a) :
    View.canon ((⟨Rect.unit (s := S4x512) ![a, 0] ![1, 512] inb, w⟩ : View.Piece (Elt Ideal) S4x512 .f32) :: L) (ix2 k l) = View.canon L (ix2 k l) := by
  refine View.canon_cons_of_not_mem _ L ?_
  intro hm
  obtain ⟨i, hi, he⟩ := (LoadRect.mem_set _).mp hm (0 : Fin 2)
  have hi1 : i < 1 := hi
  have he' : k.val = a + 1 * i := he
  omega

/-- Under a whole block stored last, the contents are the block's. -/
theorem canon_all (inb : ∀ x, (![0, 0] : Fin 2 → ℕ) x + (![4, 512] : Fin 2 → ℕ) x ≤ S4x512.size x) (w : FVec Ideal S4x512 .f32)
    (L : List (View.Piece (Elt Ideal) S4x512 .f32)) (k : Fin 4) (l : Fin 512) :
    View.canon ((⟨Rect.unit (s := S4x512) ![0, 0] ![4, 512] inb, w⟩ : View.Piece (Elt Ideal) S4x512 .f32) :: L) (ix2 k l) = w (ix2 k l) := by
  have he : (Rect.unit (s := S4x512) ![0, 0] ![4, 512] inb).emb (ix2 k l) = ix2 k l := by
    funext x; apply Fin.ext
    fin_cases x
    · show 0 + 1 * k.val = k.val; omega
    · show 0 + 1 * l.val = l.val; omega
  conv_lhs => rw [← he]
  exact View.canon_cons_emb (Rect.unit (s := S4x512) ![0, 0] ![4, 512] inb) w L (ix2 k l)

/-- A row read back from the stores is the row of the contents. -/
theorem readCov_row {κ : Kind} {sp : Space} (v : View sig κ sp S4x512 .f32) (a : ℕ) (inb : ∀ x, (![a, 0] : Fin 2 → ℕ) x + (![1, 512] : Fin 2 → ℕ) x ≤ S4x512.size x)
    (L : List (View.Piece (Elt Ideal) S4x512 .f32)) (k : Fin 4) (l : Fin 512) (h : (k : ℕ) = a) :
    v.readCov L (Rect.unit (s := S4x512) ![a, 0] ![1, 512] inb).toLoadRect (ix2 (0 : Fin 1) l) = View.canon L (ix2 k l) := by
  rw [View.readCov_eq_canon']
  refine congrArg (View.canon L) ?_
  funext x; apply Fin.ext
  fin_cases x
  · show a + 1 * 0 = k.val; omega
  · show 0 + 1 * l.val = l.val; omega

/-- A row read from a block is the block's row. -/
theorem ld_row (X : FVec Ideal S4x512 .f32) (a : ℕ) (inb : ∀ x, (![a, 0] : Fin 2 → ℕ) x + (![1, 512] : Fin 2 → ℕ) x ≤ S4x512.size x)
    (k : Fin 4) (l : Fin 512) (h : (k : ℕ) = a) :
    View.ld (Val := Elt Ideal) (e' := .f32) X (Rect.unit (s := S4x512) ![a, 0] ![1, 512] inb) (ix2 (0 : Fin 1) l) = X (ix2 k l) := by
  refine congrArg X ?_
  funext x; apply Fin.ext
  fin_cases x
  · show a + 1 * 0 = k.val; omega
  · show 0 + 1 * l.val = l.val; omega

/-- The zeros stored first. -/
theorem zero4_at (k : Fin 4) (l : Fin 512) : k0_pay12 (F := Ideal) (ix2 k l) = 0 := by
  pointwise [k0_pay12]

/-- The zeros stored first. -/
theorem zero1_at (l : Fin 512) : k0_pay13 (F := Ideal) (ix2 0 l) = 0 := by
  pointwise [k0_pay13]

/-- The cotangent before the activation in a block. -/
abbrev D (c : Dev nD) (t : Fin cfg0.N) : FVec Ideal S512x512 .f32 :=
  k0_pay11 (F := Ideal) (X0_0 m c t) (k0_pay5 (F := Ideal) (grid0.coords t) (X0_1 m c t)) (iblk m c 2 t)
    (k0_pay8 (F := Ideal) (grid0.coords t) (X0_0 m c t) (X0_1 m c t) (iblk m c 2 t) (iblk m c 3 t)) (k0_pay9 (F := Ideal) (X0_0 m c t)) (iblk m c 4 t)

/-- The rows a weight of the convolution meets in a block. -/
def sh (c : Dev nD) (t : Fin cfg0.N) (k : Fin 4) : FVec Ideal S512x512 .f32 :=
  if (k : ℕ) = 0 then k0_pay6 (F := Ideal) (grid0.coords t) (X0_0 m c t) (X0_1 m c t)
  else if (k : ℕ) = 1 then k0_pay7 (F := Ideal) (grid0.coords t) (X0_0 m c t) (X0_1 m c t)
  else if (k : ℕ) = 2 then k0_pay10 (F := Ideal) (X0_0 m c t) (k0_pay5 (F := Ideal) (grid0.coords t) (X0_1 m c t)) (k0_pay9 (F := Ideal) (X0_0 m c t))
  else X0_0 m c t

/-- What a point adds to the gradient of the weights. -/
def part (c : Dev nD) (t : Fin cfg0.N) (k : Fin 4) (l : Fin 512) : EReal := ∑ r : Fin 512, D m c t (ix2 r l) * sh m c t k (ix2 r l)

/-- The first point of a run leaves its own part. -/
theorem dw_A (c : Dev nD) (t : Fin cfg0.N) (h : t.val % 8 = 0) (k : Fin 4) (l : Fin 512) :
    (outsAt0 m c t.val t.isLt).2.1 (ix2 k l) = part m c t k l := by
  rw [outsAt0_A m c t h]; frame_out
  unfold part sh
  obtain rfl | rfl | rfl | rfl : k = 0 ∨ k = 1 ∨ k = 2 ∨ k = 3 := by revert k; decide
  · rw [canon_row_ne 3 _ _ _ 0 l (by decide), canon_row_ne 2 _ _ _ 0 l (by decide), canon_row_ne 1 _ _ _ 0 l (by decide), canon_row 0 _ _ _ 0 l rfl, row0_at,
      readCov_row _ 0 _ _ 0 l rfl, canon_all, zero4_at, zero_add]
    rfl
  · rw [canon_row_ne 3 _ _ _ 1 l (by decide), canon_row_ne 2 _ _ _ 1 l (by decide), canon_row 1 _ _ _ 1 l rfl, row1_at,
      readCov_row _ 1 _ _ 1 l rfl, canon_row_ne 0 _ _ _ 1 l (by decide), canon_all, zero4_at, zero_add]
    rfl
  · rw [canon_row_ne 3 _ _ _ 2 l (by decide), canon_row 2 _ _ _ 2 l rfl, row2_at,
      readCov_row _ 2 _ _ 2 l rfl, canon_row_ne 1 _ _ _ 2 l (by decide), canon_row_ne 0 _ _ _ 2 l (by decide), canon_all, zero4_at, zero_add]
    rfl
  · rw [canon_row 3 _ _ _ 3 l rfl, row3_at,
      readCov_row _ 3 _ _ 3 l rfl, canon_row_ne 2 _ _ _ 3 l (by decide), canon_row_ne 1 _ _ _ 3 l (by decide), canon_row_ne 0 _ _ _ 3 l (by decide), canon_all, zero4_at, zero_add]
    rfl

/-- A later point adds its part to what the point before left. -/
theorem dw_B (c : Dev nD) (t : Fin cfg0.N) (h : ¬t.val % 8 = 0) (k : Fin 4) (l : Fin 512) :
    (outsAt0 m c t.val t.isLt).2.1 (ix2 k l) = (outsAt0 m c (t.val - 1) (Nat.lt_of_le_of_lt (Nat.sub_le _ _) t.isLt)).2.1 (ix2 k l) + part m c t k l := by
  rw [outsAt0_B m c t h]; frame_out
  unfold part sh
  obtain rfl | rfl | rfl | rfl : k = 0 ∨ k = 1 ∨ k = 2 ∨ k = 3 := by revert k; decide
  · rw [canon_row_ne 3 _ _ _ 0 l (by decide), canon_row_ne 2 _ _ _ 0 l (by decide), canon_row_ne 1 _ _ _ 0 l (by decide), canon_row 0 _ _ _ 0 l rfl, row0_at, ld_row _ 0 _ 0 l rfl]
    rfl
  · rw [canon_row_ne 3 _ _ _ 1 l (by decide), canon_row_ne 2 _ _ _ 1 l (by decide), canon_row 1 _ _ _ 1 l rfl, row1_at, ld_row _ 1 _ 1 l rfl]
    rfl
  · rw [canon_row_ne 3 _ _ _ 2 l (by decide), canon_row 2 _ _ _ 2 l rfl, row2_at, ld_row _ 2 _ 2 l rfl]
    rfl
  · rw [canon_row 3 _ _ _ 3 l rfl, row3_at, ld_row _ 3 _ 3 l rfl]
    rfl

/-- The first point of a run leaves its own sum of the biases' gradient. -/
theorem db_A (c : Dev nD) (t : Fin cfg0.N) (h : t.val % 8 = 0) (l : Fin 512) :
    (outsAt0 m c t.val t.isLt).2.2 (ix2 0 l) = ∑ r : Fin 512, D m c t (ix2 r l) := by
  rw [outsAt0_A m c t h]; frame_out
  rw [bias_add_at, zero1_at, zero_add]

/-- A later point adds its sum to what the point before left. -/
theorem db_B (c : Dev nD) (t : Fin cfg0.N) (h : ¬t.val % 8 = 0) (l : Fin 512) :
    (outsAt0 m c t.val t.isLt).2.2 (ix2 0 l) = (outsAt0 m c (t.val - 1) (Nat.lt_of_le_of_lt (Nat.sub_le _ _) t.isLt)).2.2 (ix2 0 l) + ∑ r : Fin 512, D m c t (ix2 r l) := by
  rw [outsAt0_B m c t h]; frame_out
  rw [bias_add_at]

/-- The rows a point stores. -/
theorem rows_last (c : Dev nD) (t : Fin cfg0.N) (y : S512x512.Idx) :
    (outsAt0 m c t.val t.isLt).1 y = D m c t y := by
  by_cases h : t.val % 8 = 0
  · rw [outsAt0_A m c t h]; frame_out
  · rw [outsAt0_B m c t h]; frame_out

/-- The block index of every window at every grid point, and the row block's number. -/
theorem idx : ∀ t : Fin cfg0.N, win0_0.index t = ![t.val % 8, t.val / 8 + 4]
    ∧ win0_1.index t = ![t.val % 8 * 64 - 1, t.val / 8 + 4]
    ∧ win0_2.index t = ![0, t.val / 8]
    ∧ win0_3.index t = ![0, t.val / 8]
    ∧ win0_4.index t = ![t.val % 8, t.val / 8]
    ∧ win0_5.index t = ![t.val % 8, t.val / 8]
    ∧ win0_6.index t = ![0, t.val / 8]
    ∧ win0_7.index t = ![0, t.val / 8] ∧ (grid0.coords t 1 : ℕ) = t.val % 8 ∧ t.val / 8 < 6 :=
  (by decide +kernel : ∀ t : Fin grid0.N, _)

/-- The column block's number is below six. -/
theorem col_lt (t : Fin cfg0.N) : t.val / 8 < 6 := (idx t).2.2.2.2.2.2.2.2.2

/-- The cotangent block's place in the array. -/
theorem out_at (t : Fin cfg0.N) (r : Fin 512) (l : Fin 512) (A : FVec Ideal Cert.ReferenceSsmConvDIdeal.S4096x3072 .f32) :
    A (((cfg0.win 5).blk t).view.emb (ix2 r l))
      = A (ix2 ⟨t.val % 8 * 512 + r.val, by omega⟩ ⟨t.val / 8 * 512 + l.val, by have := col_lt t; omega⟩) := by
  have h := idx t
  blk_point [idx t]

/-- The place of a block of the weights' gradient. -/
theorem out_dw_at (t : Fin cfg0.N) (k : Fin 4) (l : Fin 512) (A : FVec Ideal Cert.ReferenceSsmConvDIdeal.S4x3072 .f32) :
    A (((cfg0.win 6).blk t).view.emb (ix2 k l)) = A (ix2 k ⟨t.val / 8 * 512 + l.val, by have := col_lt t; omega⟩) := by
  have h := idx t
  blk_point [idx t]

/-- The place of a block of the biases' gradient. -/
theorem out_db_at (t : Fin cfg0.N) (l : Fin 512) (A : FVec Ideal Cert.ReferenceSsmConvDIdeal.S1x3072 .f32) :
    A (((cfg0.win 7).blk t).view.emb (ix2 0 l)) = A (ix2 0 ⟨t.val / 8 * 512 + l.val, by have := col_lt t; omega⟩) := by
  have h := idx t
  blk_point [idx t]

/-- The input's own block. -/
theorem own_at (c : Dev nD) (t : Fin cfg0.N) (r : Fin 512) (l : Fin 512) :
    X0_0 m c t (ix2 r l)
      = m ((c : Thread nD τ).loc main_arg0) (ix2 ⟨t.val % 8 * 512 + r.val, by omega⟩ ⟨2048 + (t.val / 8 * 512 + l.val), by have := col_lt t; omega⟩) := by
  unfold X0_0 Pipeline.Window.fill
  rw [dif_pos (moved0_0 t _)]
  blk_point [iblk, V, idx t]

/-- The rows before the block, of a block that is not the first. -/
theorem prev_at (c : Dev nD) (t : Fin cfg0.N) (ht : 0 < t.val % 8) (r : Fin 8) (l : Fin 512) :
    X0_1 m c t (ix2 r l)
      = m ((c : Thread nD τ).loc main_arg0) (ix2 ⟨t.val % 8 * 512 - 8 + r.val, by omega⟩ ⟨2048 + (t.val / 8 * 512 + l.val), by have := col_lt t; omega⟩) := by
  unfold X0_1 Pipeline.Window.fill
  rw [dif_pos (moved0_1 t _)]
  blk_point [iblk, V, idx t]

/-- The weights. -/
theorem weight_at (c : Dev nD) (t : Fin cfg0.N) (k : Fin 4) (l : Fin 512) :
    iblk m c 2 t (ix2 k l) = m ((c : Thread nD τ).loc main_arg1) (ix2 k ⟨t.val / 8 * 512 + l.val, by have := col_lt t; omega⟩) := by
  blk_point [iblk, V, idx t]

/-- The biases. -/
theorem bias_at (c : Dev nD) (t : Fin cfg0.N) (l : Fin 512) :
    iblk m c 3 t (ix2 0 l) = m ((c : Thread nD τ).loc main_arg2) (ix1 ⟨t.val / 8 * 512 + l.val, by have := col_lt t; omega⟩) := by
  blk_point [iblk, V, idx t]

/-- The cotangent's block. -/
theorem cot_at (c : Dev nD) (t : Fin cfg0.N) (r : Fin 512) (l : Fin 512) :
    iblk m c 4 t (ix2 r l) = m ((c : Thread nD τ).loc main_arg3) (ix2 ⟨t.val % 8 * 512 + r.val, by omega⟩ ⟨t.val / 8 * 512 + l.val, by have := col_lt t; omega⟩) := by
  blk_point [iblk, V, idx t]

/-- A row the block's convolution reads is the array's. -/
theorem tap_at (c : Dev nD) (t : Fin cfg0.N) (r : Fin 512) (l : Fin 512) (d : ℕ) (hd : d < 3) :
    ktap (grid0.coords t) (X0_0 m c t) (X0_1 m c t) ⟨r.val + (5 + d), by omega⟩ l
      = tap (m ((c : Thread nD τ).loc main_arg0)) (t.val % 8 * 512 + r.val + d) ⟨2048 + (t.val / 8 * 512 + l.val), by have := col_lt t; omega⟩ := by
  unfold ktap tap
  have hi := (idx t).2.2.2.2.2.2.2.2.1
  by_cases h : 8 ≤ r.val + (5 + d)
  · rw [dif_pos h, dif_pos (show 3 ≤ t.val % 8 * 512 + r.val + d ∧ t.val % 8 * 512 + r.val + d < 4099 by omega), own_at m c t ⟨r.val + (5 + d) - 8, by omega⟩ l]
    exact read0 _ _ _ _ _ (by show t.val % 8 * 512 + (r.val + (5 + d) - 8) = t.val % 8 * 512 + r.val + d - 3; omega) rfl
  · rw [dif_neg h]
    by_cases ht : 0 < t.val % 8
    · rw [if_pos (show 0 < (grid0.coords t 1 : ℕ) by omega), dif_pos (show 3 ≤ t.val % 8 * 512 + r.val + d ∧ t.val % 8 * 512 + r.val + d < 4099 by omega),
        prev_at m c t ht ⟨r.val + (5 + d), by omega⟩ l, mul_one]
      exact read0 _ _ _ _ _ (by show t.val % 8 * 512 - 8 + (r.val + (5 + d)) = t.val % 8 * 512 + r.val + d - 3; omega) rfl
    · rw [if_neg (show ¬0 < (grid0.coords t 1 : ℕ) by omega), dif_neg (show ¬(3 ≤ t.val % 8 * 512 + r.val + d ∧ t.val % 8 * 512 + r.val + d < 4099) by omega), mul_zero]

/-- The reference's cotangent before the activation. -/
abbrev DH (c : Dev nD) : FVec Ideal Cert.ReferenceSsmConvDIdeal.S4096x3072 .f32 := Cert.ReferenceSsmConvDIdeal.Read.val_main_v36 (F := Ideal) (m ((c : Thread nD τ).loc main_arg0)) (m ((c : Thread nD τ).loc main_arg1)) (m ((c : Thread nD τ).loc main_arg2)) (m ((c : Thread nD τ).loc main_arg3))

/-- The rows of the middle columns a weight of the convolution meets. -/
def rows (c : Dev nD) (k : Fin 4) : FVec Ideal Cert.ReferenceSsmConvDIdeal.S4096x3072 .f32 :=
  if (k : ℕ) = 0 then Cert.ReferenceSsmConvDIdeal.Read.val_main_v3 (F := Ideal) (m ((c : Thread nD τ).loc main_arg0))
  else if (k : ℕ) = 1 then Cert.ReferenceSsmConvDIdeal.Read.val_main_v12 (F := Ideal) (m ((c : Thread nD τ).loc main_arg0))
  else if (k : ℕ) = 2 then Cert.ReferenceSsmConvDIdeal.Read.val_main_v19 (F := Ideal) (m ((c : Thread nD τ).loc main_arg0))
  else Cert.ReferenceSsmConvDIdeal.Read.val_main_v26 (F := Ideal) (m ((c : Thread nD τ).loc main_arg0))

/-- The reference's gradient of a weight is the sum over all rows. -/
theorem ref_dw_rows (c : Dev nD) (k : Fin 4) (f : Fin 3072) :
    Cert.ReferenceSsmConvDIdeal.Read.val_main_v66 (F := Ideal) (m ((c : Thread nD τ).loc main_arg0)) (m ((c : Thread nD τ).loc main_arg1)) (m ((c : Thread nD τ).loc main_arg2)) (m ((c : Thread nD τ).loc main_arg3)) (ix2 k f) = ∑ r : Fin 4096, DH m c (ix2 r f) * rows m c k (ix2 r f) := by
  rw [ref_dw]
  unfold rows
  obtain rfl | rfl | rfl | rfl : k = 0 ∨ k = 1 ∨ k = 2 ∨ k = 3 := by revert k; decide
  all_goals rfl

/-- A block of the cotangent before the activation is the reference's. -/
theorem D_at (c : Dev nD) (t : Fin cfg0.N) (r : Fin 512) (l : Fin 512) :
    D m c t (ix2 r l) = DH m c (ix2 ⟨t.val % 8 * 512 + r.val, by omega⟩ ⟨t.val / 8 * 512 + l.val, by have := col_lt t; omega⟩) := by
  have hc := col_lt t
  refine Eq.trans ?_ (ref_at _ _ _ _ _ _).symm
  refine (body_at _ _ _ _ _ _ r l _ ?_).trans (congrArg₂ (fun x y : EReal => x * y) (cot_at m c t r l) rfl)
  rw [weight_at m c t 0 l, weight_at m c t 1 l, weight_at m c t 2 l, weight_at m c t 3 l, bias_at m c t l, own_at m c t r l,
    tap_at m c t r l 0 (by omega), tap_at m c t r l 1 (by omega), tap_at m c t r l 2 (by omega)]
  rfl

/-- The rows a weight meets in a block are the array's. -/
theorem sh_at (c : Dev nD) (t : Fin cfg0.N) (k : Fin 4) (r : Fin 512) (l : Fin 512) :
    sh m c t k (ix2 r l) = rows m c k (ix2 ⟨t.val % 8 * 512 + r.val, by omega⟩ ⟨t.val / 8 * 512 + l.val, by have := col_lt t; omega⟩) := by
  have hc := col_lt t
  unfold sh rows
  obtain rfl | rfl | rfl | rfl : k = 0 ∨ k = 1 ∨ k = 2 ∨ k = 3 := by revert k; decide
  · refine (back3_at _ _ _ r l).trans (Eq.trans ?_ (ref_v3 _ _ _).symm)
    exact tap_at m c t r l 0 (by omega)
  · refine (back2_at _ _ _ r l).trans (Eq.trans ?_ (ref_v12 _ _ _).symm)
    exact tap_at m c t r l 1 (by omega)
  · refine (back1_at _ _ _ r l).trans (Eq.trans ?_ (ref_v19 _ _ _).symm)
    exact tap_at m c t r l 2 (by omega)
  · refine Eq.trans ?_ (ref_v26 _ _ _).symm
    exact own_at m c t r l

/-- What the last point of a run leaves of the weights' gradient is the sum of the run's parts. -/
theorem dw_all (c : Dev nD) (t : Fin cfg0.N) (h : t.val % 8 = 7) (j : S4x512.Idx) :
    (outsAt0 m c t.val t.isLt).2.1 j = ∑ s : Fin 8, part m c ⟨8 * (t.val / 8) + s.val, Pipeline.run_point_lt_of_flush t h s⟩ (j 0) (j 1) := by
  rw [Pipeline.eq_sum_fin_of_reset_step_apply_of_flush (fun n h => (outsAt0 m c n h).2.1) 8 (fun _ => 0)
    (fun p j => part m c p (j 0) (j 1))
    (fun t h j => by
      obtain ⟨k, l, rfl⟩ : ∃ (k : Fin 4) (l : Fin 512), j = ix2 k l := ⟨j 0, j 1, by idx_ext⟩
      exact (dw_A m c t h k l).trans (zero_add _).symm)
    (fun t h j => by
      obtain ⟨k, l, rfl⟩ : ∃ (k : Fin 4) (l : Fin 512), j = ix2 k l := ⟨j 0, j 1, by idx_ext⟩
      exact dw_B m c t h k l)
    t h j, zero_add]

/-- What the last point of a run leaves of the biases' gradient is the sum of the run's sums. -/
theorem db_all (c : Dev nD) (t : Fin cfg0.N) (h : t.val % 8 = 7) (j : S1x512.Idx) :
    (outsAt0 m c t.val t.isLt).2.2 j = ∑ s : Fin 8, ∑ r : Fin 512, D m c ⟨8 * (t.val / 8) + s.val, Pipeline.run_point_lt_of_flush t h s⟩ (ix2 r (j 1)) := by
  rw [Pipeline.eq_sum_fin_of_reset_step_apply_of_flush (fun n h => (outsAt0 m c n h).2.2) 8 (fun _ => 0)
    (fun p j => ∑ r : Fin 512, D m c p (ix2 r (j 1)))
    (fun t h j => by
      obtain ⟨l, rfl⟩ : ∃ l : Fin 512, j = ix2 0 l := ⟨j 1, by idx_ext⟩
      exact (db_A m c t h l).trans (zero_add _).symm)
    (fun t h j => by
      obtain ⟨l, rfl⟩ : ∃ l : Fin 512, j = ix2 0 l := ⟨j 1, by idx_ext⟩
      exact db_B m c t h l)
    t h j, zero_add]

/-- The cotangent before the activation the kernel leaves is the reference's. -/
theorem final_rows (c : Dev nD) : (dats m 0 c).arrAt 5 (cfgs 0).N = Cert.ReferenceSsmConvDIdeal.Read.val_main_v36 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  obtain ⟨r, l, rfl⟩ : ∃ (r : Fin 512) (l : Fin 512), y = ix2 r l := ⟨y 0, y 1, by idx_ext⟩
  exact (rows_last m c t (ix2 r l)).trans ((D_at m c t r l).trans (out_at t r l _).symm)

/-- The weights' gradient the kernel leaves is the reference's. -/
theorem final_dw (c : Dev nD) : (dats m 0 c).arrAt 6 (cfgs 0).N = Cert.ReferenceSsmConvDIdeal.Read.val_main_v66 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  have h7 := (flush0_6 t).mp hf
  blk_simp
  rw [after0_6]
  obtain ⟨k, l, rfl⟩ : ∃ (k : Fin 4) (l : Fin 512), y = ix2 k l := ⟨y 0, y 1, by idx_ext⟩
  have hc := col_lt t
  refine Eq.trans ?_ ((out_dw_at t k l _).trans (ref_dw_rows m c k _)).symm
  refine (dw_all m c t h7 (ix2 k l)).trans ?_
  unfold part
  refine Fin.sum_mul_add_congr fun s r hl => ?_
  refine (congrArg₂ (fun x y : EReal => x * y) (D_at m c _ r l) (sh_at m c _ k r l)).trans ?_
  have h8 : (8 * (t.val / 8) + s.val) % 8 = s.val := by omega
  have h9 : (8 * (t.val / 8) + s.val) / 8 = t.val / 8 := by omega
  simp only [h8, h9]

/-- The biases' gradient the kernel leaves is the reference's. -/
theorem final_db (c : Dev nD) : (dats m 0 c).arrAt 7 (cfgs 0).N = Cert.ReferenceSsmConvDIdeal.Read.val_main_v67 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  have h7 := (flush0_7 t).mp hf
  blk_simp
  rw [after0_7]
  obtain ⟨l, rfl⟩ : ∃ l : Fin 512, y = ix2 0 l := ⟨y 1, by idx_ext⟩
  have hc := col_lt t
  refine Eq.trans ?_ ((out_db_at t l _).trans (ref_db _ _ _ _ _)).symm
  refine (db_all m c t h7 (ix2 0 l)).trans ?_
  refine Fin.sum_mul_add_congr fun s r hl => ?_
  refine (D_at m c _ r l).trans ?_
  have h8 : (8 * (t.val / 8) + s.val) % 8 = s.val := by omega
  have h9 : (8 * (t.val / 8) + s.val) / 8 = t.val / 8 := by omega
  simp only [h8, h9]

/-- The two programs end with the same arrays from the same arguments. -/
theorem algebraic : Cert.algebraic_KernelSsmConvDIdeal_ReferenceSsmConvDIdeal := by
  pair_intro
  · run_from Cert.KernelSsmConvDIdeal.Gen.run_main m g
  · refine Idealize.ShloMosaic.θ_run_mono (Cert.ReferenceSsmConvDIdeal.Value.run m' g') fun r hr c => ?_
    have e0 := (hagree c).1
    have e1 := (hagree c).2.1
    have e2 := (hagree c).2.2.1
    have e3 := (hagree c).2.2.2
    refine ⟨(hr c).1.trans ?_, (hr c).2.1.trans ?_, (hr c).2.2.1.trans ?_, (hr c).2.2.2⟩
    · refine (Cert.ReferenceSsmConvDIdeal.Read.val_main_v36_eq m' c).trans ?_
      rw [e0, e1, e2, e3]
      exact (final_rows m c).symm
    · refine (Cert.ReferenceSsmConvDIdeal.Read.val_main_v66_eq m' c).trans ?_
      rw [e0, e1, e2, e3]
      exact (final_dw m c).symm
    · refine (Cert.ReferenceSsmConvDIdeal.Read.val_main_v67_eq m' c).trans ?_
      rw [e0, e1, e2, e3]
      exact (final_db m c).symm

end Cert.KernelSsmConvDIdeal.Product

end
-- ==== Proof.SsmConvIn.lean ====
/- The gradient of the convolution of the recurrent block in its input, written among the columns of a gradient: the result array of the kernel is the reference's. -/
module

public import proofs.«01_k».proof.Defs
public import proofs.«01_k».proof.Proof.Gen.KernelSsmConvInIdeal.Value
public import proofs.«01_k».proof.Proof.Gen.ReferenceSsmConvInIdeal.Run
public import proofs.«01_k».proof.Proof.Gen.ReferenceSsmConvInIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelSsmConvInIdeal.Product

open Cert.KernelSsmConvInIdeal Cert.KernelSsmConvInIdeal.Gen

/-- The rows a block's gradient reads: the block's own, then the first rows of the block after it (none after the last). -/
def ktap (i : grid0.Coords) (x0 : FVec Ideal S512x512 .f32) (x1 : FVec Ideal S8x512 .f32) (n : Fin 520) (l : Fin 512) : EReal :=
  if h : (n : ℕ) < 512 then x0 (ix2 ⟨n, h⟩ l) else x1 (ix2 ⟨(n : ℕ) - 512, by omega⟩ l) * (if (i 1 : ℕ) < 7 then 1 else 0)

/-- The switch of the last row block as a number. -/
theorem gate_eq (i : grid0.Coords) :
    (((Scalar.extui (Scalar.cmpi CmpIPredicate.slt (BitVec.ofNat 32 (i 1 : ℕ)) 7#32) : BitVec 32).toInt : ℝ) : EReal) = if (i 1 : ℕ) < 7 then 1 else 0 := by
  have h : ∀ q : Fin 8, (Scalar.extui (Scalar.cmpi CmpIPredicate.slt (BitVec.ofNat 32 q.val) 7#32) : BitVec 32).toInt = if q.val < 7 then 1 else 0 := by decide
  rw [h (i 1)]
  split <;> simp

/-- A choice by whether a row of the last eight, moved down, leaves the block. -/
theorem select (r : Fin 512) (h : ¬(r : ℕ) < 504) (s : Fin 4) (a b : EReal) :
    Scalar.select (IntOp.cmpi CmpIPredicate.sge (IntOp.addi (BitVec.ofNat 32 ((r : ℕ) - 504)) (BitVec.ofNat 32 (s : ℕ))) 8#32) a b = if (r : ℕ) + (s : ℕ) < 512 then b else a := by
  have e : ∀ (q : Fin 8) (s : Fin 4), IntOp.cmpi CmpIPredicate.sge (IntOp.addi (BitVec.ofNat 32 q.val) (BitVec.ofNat 32 s.val)) 8#32 = if q.val + s.val < 8 then 0#1 else 1#1 := by decide
  rw [e ⟨(r : ℕ) - 504, by omega⟩ s]
  by_cases h1 : (r : ℕ) + (s : ℕ) < 512
  · rw [if_pos (show (r : ℕ) - 504 + (s : ℕ) < 8 by omega), if_pos h1]; rfl
  · rw [if_neg (show ¬(r : ℕ) - 504 + (s : ℕ) < 8 by omega), if_neg h1]; rfl

/-- Equal rows are equal indices of a block. -/
theorem ix_congr {n : ℕ} {l : Fin 512} {a b : Fin n} (h : (a : ℕ) = b) : (ix2 a l) = ix2 b l := by
  rw [Fin.ext h]

/-- Some rows on. -/
theorem next (i : grid0.Coords) (x0 : FVec Ideal S512x512 .f32) (x1 : FVec Ideal S8x512 .f32) (r : Fin 512) (l : Fin 512) (s : Fin 4) (n : Fin 520) (hn : (n : ℕ) = r + s)
    (A : ¬(r : ℕ) < 504 → Fin 8) (A' : ¬(r : ℕ) < 504 → Fin 512) (B : (r : ℕ) < 504 → Fin 512)
    (hA : ∀ h, (A h : ℕ) = (r - 504 + s) % 8) (hC : ∀ h, (A' h : ℕ) = 504 + (r - 504 + s) % 8) (hB : ∀ h, (B h : ℕ) = (r + s) % 512) :
    (if h : (r : ℕ) < 504 then x0 (ix2 (B h) l) else Scalar.select (IntOp.cmpi CmpIPredicate.sge (IntOp.addi (BitVec.ofNat 32 ((r : ℕ) - 504)) (BitVec.ofNat 32 (s : ℕ))) 8#32)
        (x1 (ix2 (A h) l) * (if (i 1 : ℕ) < 7 then 1 else 0)) (x0 (ix2 (A' h) l))) = ktap i x0 x1 n l := by
  unfold ktap
  by_cases h : (r : ℕ) < 504
  · rw [dif_pos h, dif_pos (show (n : ℕ) < 512 by omega)]
    exact congrArg x0 (ix_congr (by rw [hB h]; show _ = (n : ℕ); omega))
  · rw [dif_neg h, select r h s]
    by_cases h1 : (r : ℕ) + (s : ℕ) < 512
    · rw [if_pos h1, dif_pos (show (n : ℕ) < 512 by omega)]
      exact congrArg x0 (ix_congr (by rw [hC h]; show _ = (n : ℕ); omega))
    · rw [if_neg h1, dif_neg (show ¬(n : ℕ) < 512 by omega)]
      exact congrArg (fun q => x1 q * _) (ix_congr (by rw [hA h]; show _ = (n : ℕ) - 512; omega))

/-- Sums of four terms with equal factors are equal. -/
theorem add4 : ∀ p x y z x' y' z' u v w : EReal, x = x' → y = y' → z = z' → p + x * u + y * v + z * w = p + x' * u + y' * v + z' * w := by
  rintro p x y z _ _ _ u v w rfl rfl rfl; rfl

/-- What the body stores: four rows of the gradient times the four rows of the weight. -/
theorem body_at (i : grid0.Coords) (x0 : FVec Ideal S512x512 .f32) (x1 : FVec Ideal S8x512 .f32) (w : FVec Ideal S4x512 .f32)
    (r : Fin 512) (l : Fin 512) :
    k0_pay1 (F := Ideal) x0 (k0_pay2 (F := Ideal) i x1) w (k0_pay3 (F := Ideal) i x0 x1 w) (k0_pay4 (F := Ideal) i x0 x1) (k0_pay5 (F := Ideal) w) (ix2 r l)
      = x0 (ix2 r l) * w (ix2 3 l) + ktap i x0 x1 ⟨(r : ℕ) + 1, by omega⟩ l * w (ix2 2 l) + ktap i x0 x1 ⟨(r : ℕ) + 2, by omega⟩ l * w (ix2 1 l)
        + ktap i x0 x1 ⟨(r : ℕ) + 3, by omega⟩ l * w (ix2 0 l) := by
  pointwise [k0_pay1, k0_pay2, k0_pay3, k0_pay4, k0_pay5]
  rw [gate_eq i]
  refine add4 _ _ _ _ _ _ _ _ _ _ ?_ ?_ ?_
  · exact next i x0 x1 r l 1 _ rfl (fun h => ⟨((r : ℕ) - 504 + 8 - 7) % 8, by omega⟩) (fun h => ⟨504 + ((r : ℕ) - 504 + 8 - 7) % 8, by omega⟩) (fun h => ⟨((r : ℕ) + 512 - 511) % 512, by omega⟩)
      (fun h => by show ((r : ℕ) - 504 + 8 - 7) % 8 = ((r : ℕ) - 504 + 1) % 8; omega) (fun h => by show 504 + ((r : ℕ) - 504 + 8 - 7) % 8 = 504 + ((r : ℕ) - 504 + 1) % 8; omega) (fun h => by show ((r : ℕ) + 512 - 511) % 512 = ((r : ℕ) + 1) % 512; omega)
  · exact next i x0 x1 r l 2 _ rfl (fun h => ⟨((r : ℕ) - 504 + 8 - 6) % 8, by omega⟩) (fun h => ⟨504 + ((r : ℕ) - 504 + 8 - 6) % 8, by omega⟩) (fun h => ⟨((r : ℕ) + 512 - 510) % 512, by omega⟩)
      (fun h => by show ((r : ℕ) - 504 + 8 - 6) % 8 = ((r : ℕ) - 504 + 2) % 8; omega) (fun h => by show 504 + ((r : ℕ) - 504 + 8 - 6) % 8 = 504 + ((r : ℕ) - 504 + 2) % 8; omega) (fun h => by show ((r : ℕ) + 512 - 510) % 512 = ((r : ℕ) + 2) % 512; omega)
  · exact next i x0 x1 r l 3 _ rfl (fun h => ⟨((r : ℕ) - 504 + 8 - 5) % 8, by omega⟩) (fun h => ⟨504 + ((r : ℕ) - 504 + 8 - 5) % 8, by omega⟩) (fun h => ⟨((r : ℕ) + 512 - 509) % 512, by omega⟩)
      (fun h => by show ((r : ℕ) - 504 + 8 - 5) % 8 = ((r : ℕ) - 504 + 3) % 8; omega) (fun h => by show 504 + ((r : ℕ) - 504 + 8 - 5) % 8 = 504 + ((r : ℕ) - 504 + 3) % 8; omega) (fun h => by show ((r : ℕ) + 512 - 509) % 512 = ((r : ℕ) + 3) % 512; omega)

/-- The gradient at row `n`, nothing past the last row. -/
def tap (a0 : FVec Ideal Cert.ReferenceSsmConvInIdeal.S4096x3072 .f32) (n : ℕ) (f : Fin 3072) : EReal :=
  if h : n < 4096 then a0 (ix2 ⟨n, h⟩ f) else 0

/-- Reads at equal rows are equal. -/
theorem read0 (a0 : FVec Ideal Cert.ReferenceSsmConvInIdeal.S4096x3072 .f32) (n n' : Fin 4096) (f : Fin 3072) (e : (n : ℕ) = n') :
    a0 (ix2 n f) = a0 (ix2 n' f) := by rw [Fin.ext e]

/-- A guarded product is a guarded row times the weight. -/
theorem tap_eq (a0 : FVec Ideal Cert.ReferenceSsmConvInIdeal.S4096x3072 .f32) (n : ℕ) (f : Fin 3072) (v : EReal) (P : Prop) [Decidable P]
    (hP : P ↔ n < 4096) (n0 : P → Fin 4096) (h0 : ∀ h, (n0 h : ℕ) = n) :
    (if h : P then a0 (ix2 (n0 h) f) * v else (0 : EReal)) = tap a0 n f * v := by
  unfold tap
  by_cases h : P
  · rw [dif_pos h, dif_pos (hP.1 h), read0 a0 _ ⟨n, hP.1 h⟩ f (h0 h)]
  · rw [dif_neg h, dif_neg (fun q => h (hP.2 q)), zero_mul]

/-- Sums of four equal terms are equal. -/
theorem sum4 : ∀ p x y z x' y' z' : EReal, x = x' → y = y' → z = z' → p + x + y + z = p + x' + y' + z' := by
  rintro p x y z _ _ _ rfl rfl rfl; rfl

section
open Cert.ReferenceSsmConvInIdeal.Read

/-- The reference's gradient of the convolution in its input. -/
theorem refhid_at (a0 : FVec Ideal Cert.ReferenceSsmConvInIdeal.S4096x3072 .f32) (a1 : FVec Ideal Cert.ReferenceSsmConvInIdeal.S4x3072 .f32)
    (r : Fin 4096) (f : Fin 3072) :
    val_main_v52 (F := Ideal) a0 a1 (ix2 r f)
      = a0 (ix2 r f) * a1 (ix2 3 f) + tap a0 (r + 1) f * a1 (ix2 2 f) + tap a0 (r + 2) f * a1 (ix2 1 f) + tap a0 (r + 3) f * a1 (ix2 0 f) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_cst, val_main_cst_1, val_main_cst_2, val_main_cst_3, val_main_cst_4, val_main_cst_5]
  refine sum4 _ _ _ _ _ _ _ ?_ ?_ ?_
  · exact tap_eq a0 ((r : ℕ) + 1) f (a1 (ix2 2 f)) (2 ≤ 3 + (r : ℕ) ∧ 3 + (r : ℕ) - 2 < 4096) (by omega) (fun h => ⟨3 + (r : ℕ) - 2, h.2⟩) (fun h => by show 3 + (r : ℕ) - 2 = (r : ℕ) + 1; omega)
  · exact tap_eq a0 ((r : ℕ) + 2) f (a1 (ix2 1 f)) (1 ≤ 3 + (r : ℕ) ∧ 3 + (r : ℕ) - 1 < 4096) (by omega) (fun h => ⟨3 + (r : ℕ) - 1, h.2⟩) (fun h => by show 3 + (r : ℕ) - 1 = (r : ℕ) + 2; omega)
  · exact tap_eq a0 ((r : ℕ) + 3) f (a1 (ix2 0 f)) (3 + (r : ℕ) < 4096) (by omega) (fun h => ⟨3 + (r : ℕ), h⟩) (fun h => by show 3 + (r : ℕ) = (r : ℕ) + 3; omega)

/-- The reference's result among the convolution's columns. -/
theorem ref_at (a0 : FVec Ideal Cert.ReferenceSsmConvInIdeal.S4096x3072 .f32) (a1 : FVec Ideal Cert.ReferenceSsmConvInIdeal.S4x3072 .f32) (a2 : FVec Ideal Cert.ReferenceSsmConvInIdeal.S4096x5376 .bf16)
    (r : Fin 4096) (f : Fin 5376) (g : Fin 3072) (hf : (f : ℕ) = 2048 + g) :
    val_main_v56 (F := Ideal) a0 a1 a2 (ix2 r f) = val_main_v52 (F := Ideal) a0 a1 (ix2 r g) := by
  pointwise [val_main_v56, val_main_v55, val_main_v54, val_main_v53]
  have hg := g.isLt
  refine (dif_neg (show ¬(f : ℕ) < 2048 by omega)).trans ((dif_pos (show (f : ℕ) - 2048 < 3072 by omega)).trans ?_)
  exact congrArg (fun q => val_main_v52 (F := Ideal) a0 a1 (ix2 r q)) (Fin.ext (by show (f : ℕ) - 2048 = (g : ℕ); omega))

/-- The reference's result outside the convolution's columns: the array given. -/
theorem ref_out (a0 : FVec Ideal Cert.ReferenceSsmConvInIdeal.S4096x3072 .f32) (a1 : FVec Ideal Cert.ReferenceSsmConvInIdeal.S4x3072 .f32) (a2 : FVec Ideal Cert.ReferenceSsmConvInIdeal.S4096x5376 .bf16)
    (r : Fin 4096) (f : Fin 5376) (hf : ¬(4 ≤ (f : ℕ) / 512 ∧ (f : ℕ) / 512 < 10)) :
    val_main_v56 (F := Ideal) a0 a1 a2 (ix2 r f) = a2 (ix2 r f) := by
  pointwise [val_main_v56, val_main_v55, val_main_v54, val_main_v53]
  have hf' := f.isLt
  by_cases h : (f : ℕ) < 2048
  · exact dif_pos h
  · refine (dif_neg h).trans ((dif_neg (show ¬(f : ℕ) - 2048 < 3072 by omega)).trans ?_)
    exact congrArg (fun q => a2 (ix2 r q)) (Fin.ext (by show 5120 + ((f : ℕ) - 2048 - 3072) = (f : ℕ); omega))

end

variable (m : (ℓ : Loc nD τ sig) → Buf (Elt Ideal) ℓ)

/-- The block index of every window at every grid point, and the row block's number. -/
theorem idx : ∀ t : Fin cfg0.N, win0_0.index t = ![t.val % 8, t.val / 8]
    ∧ win0_1.index t = ![min ((t.val % 8 + 1) * 64) 511, t.val / 8]
    ∧ win0_2.index t = ![0, t.val / 8]
    ∧ win0_3.index t = ![t.val % 8, t.val / 8 + 4] ∧ (grid0.coords t 1 : ℕ) = t.val % 8 ∧ t.val / 8 < 6 :=
  (by decide +kernel : ∀ t : Fin grid0.N, _)

/-- The column block's number is below six. -/
theorem col_lt (t : Fin cfg0.N) : t.val / 8 < 6 := (idx t).2.2.2.2.2

/-- The output block's place in the array. -/
theorem out_at (t : Fin cfg0.N) (y : ((cfg0.win 3).xblock (cfg0.grid.coords t)).Idx) (r : Fin 512) (l : Fin 512)
    (hr : (y 0 : ℕ) = r) (hl : (y 1 : ℕ) = l) (A : FVec Ideal Cert.ReferenceSsmConvInIdeal.S4096x5376 .bf16) :
    A (((View.whole main_v0).slice (win0_3.rect t)).emb y)
      = A (ix2 ⟨t.val % 8 * 512 + r.val, by omega⟩ ⟨2048 + (t.val / 8 * 512 + l.val), by have := col_lt t; omega⟩) := by
  have h := idx t
  blk_point [idx t]

/-- The block's own rows of the gradient. -/
theorem own_at (c : Dev nD) (t : Fin cfg0.N) (r : Fin 512) (l : Fin 512) :
    iblk m c 0 t (ix2 r l)
      = m ((c : Thread nD τ).loc main_arg0) (ix2 ⟨t.val % 8 * 512 + r.val, by omega⟩ ⟨t.val / 8 * 512 + l.val, by have := col_lt t; omega⟩) := by
  blk_point [iblk, V, idx t]

/-- The rows after the block, of a block that is not the last. -/
theorem next_at (c : Dev nD) (t : Fin cfg0.N) (ht : t.val % 8 < 7) (r : Fin 8) (l : Fin 512) :
    iblk m c 1 t (ix2 r l)
      = m ((c : Thread nD τ).loc main_arg0) (ix2 ⟨t.val % 8 * 512 + 512 + r.val, by omega⟩ ⟨t.val / 8 * 512 + l.val, by have := col_lt t; omega⟩) := by
  blk_point [iblk, V, idx t]

/-- The weights. -/
theorem weight_at (c : Dev nD) (t : Fin cfg0.N) (k : Fin 4) (l : Fin 512) :
    iblk m c 2 t (ix2 k l) = m ((c : Thread nD τ).loc main_arg1) (ix2 k ⟨t.val / 8 * 512 + l.val, by have := col_lt t; omega⟩) := by
  blk_point [iblk, V, idx t]

/-- A row the block's gradient reads is the array's. -/
theorem tap_at (c : Dev nD) (t : Fin cfg0.N) (r : Fin 512) (l : Fin 512) (d : ℕ) (hd : d < 4) :
    ktap (grid0.coords t) (iblk m c 0 t) (iblk m c 1 t) ⟨r.val + d, by omega⟩ l
      = tap (m ((c : Thread nD τ).loc main_arg0)) (t.val % 8 * 512 + r.val + d) ⟨t.val / 8 * 512 + l.val, by have := col_lt t; omega⟩ := by
  unfold ktap tap
  have hi := (idx t).2.2.2.2.1
  by_cases h : r.val + d < 512
  · rw [dif_pos h, dif_pos (show t.val % 8 * 512 + r.val + d < 4096 by omega), own_at m c t ⟨r.val + d, h⟩ l]
    exact read0 _ _ _ _ (by show t.val % 8 * 512 + (r.val + d) = t.val % 8 * 512 + r.val + d; omega)
  · rw [dif_neg h]
    by_cases ht : t.val % 8 < 7
    · rw [if_pos (show (grid0.coords t 1 : ℕ) < 7 by omega), dif_pos (show t.val % 8 * 512 + r.val + d < 4096 by omega),
        next_at m c t ht ⟨r.val + d - 512, by omega⟩ l, mul_one]
      exact read0 _ _ _ _ (by show t.val % 8 * 512 + 512 + (r.val + d - 512) = t.val % 8 * 512 + r.val + d; omega)
    · rw [if_neg (show ¬(grid0.coords t 1 : ℕ) < 7 by omega), dif_neg (show ¬t.val % 8 * 512 + r.val + d < 4096 by omega), mul_zero]

/-- What a grid point writes back is the reference's term at the block's place. -/
theorem point (c : Dev nD) (t : Fin cfg0.N) (y : ((cfg0.win 3).xblock (cfg0.grid.coords t)).Idx) :
    k0_pay1 (F := Ideal) (iblk m c 0 t) (k0_pay2 (F := Ideal) (grid0.coords t) (iblk m c 1 t)) (iblk m c 2 t) (k0_pay3 (F := Ideal) (grid0.coords t) (iblk m c 0 t) (iblk m c 1 t) (iblk m c 2 t)) (k0_pay4 (F := Ideal) (grid0.coords t) (iblk m c 0 t) (iblk m c 1 t)) (k0_pay5 (F := Ideal) (iblk m c 2 t)) ((win0 3).xinj (grid0.coords t) y)
    = Cert.ReferenceSsmConvInIdeal.Read.val_main_v56 (F := Ideal) (m ((c : Thread nD τ).loc main_arg0)) (m ((c : Thread nD τ).loc main_arg1)) (m ((c : Thread nD τ).loc main_arg2)) (((View.whole main_v0).slice (win0_3.rect t)).emb y) := by
  obtain ⟨r, l, hy⟩ : ∃ (r : Fin 512) (l : Fin 512), (win0 3).xinj (grid0.coords t) y = ix2 r l :=
    ⟨(win0 3).xinj (grid0.coords t) y 0, (win0 3).xinj (grid0.coords t) y 1, by idx_ext⟩
  have hr : (y 0 : ℕ) = r := congrArg (fun q : S512x512.Idx => (q 0 : ℕ)) hy
  have hl : (y 1 : ℕ) = l := congrArg (fun q : S512x512.Idx => (q 1 : ℕ)) hy
  rw [hy]
  have hc := col_lt t
  refine Eq.trans ?_ ((out_at t y r l hr hl _).trans (ref_at _ _ _ _ _ ⟨t.val / 8 * 512 + l.val, by omega⟩ rfl)).symm
  rw [refhid_at]
  refine (body_at _ _ _ _ r l).trans ?_
  rw [weight_at m c t 0 l, weight_at m c t 1 l, weight_at m c t 2 l, weight_at m c t 3 l, own_at m c t r l,
    tap_at m c t r l 1 (by omega), tap_at m c t r l 2 (by omega), tap_at m c t r l 3 (by omega)]

/-- The array the kernel's output starts from is the third argument. -/
theorem V_main_v0 (c : Dev nD) : V m c main_v0 = m ((c : Thread nD τ).loc main_arg2) := by
  unfold V; after_results; try rfl

/-- The array the kernel leaves: the reference's term in the columns it writes, what was there in the others. -/
theorem final (c : Dev nD) : (dats m 0 c).arrAt 3 (cfgs 0).N
    = fun i => if 4 ≤ (i 1 : ℕ) / 512 ∧ (i 1 : ℕ) / 512 < 10 then Cert.ReferenceSsmConvInIdeal.Read.val_main_v56 (F := Ideal) (m ((c : Thread nD τ).loc main_arg0)) (m ((c : Thread nD τ).loc main_arg1)) (m ((c : Thread nD τ).loc main_arg2)) i
      else V m c main_v0 i := by
  refine (dats m 0 c).arrAt_eq_of_coversWhere 3 _ (fun β => 4 ≤ β 1 ∧ β 1 < 10) (by decide +kernel) (fun t hf y => ?_) (fun j => Iff.rfl)
  blk_simp
  rw [after0_3]
  unfold outsAt0
  frame_out
  exact point m c t y

/-- The array the kernel leaves is the reference's term of the arguments. -/
theorem whole (c : Dev nD) : (dats m 0 c).arrAt 3 (cfgs 0).N
    = Cert.ReferenceSsmConvInIdeal.Read.val_main_v56 (F := Ideal) (m ((c : Thread nD τ).loc main_arg0)) (m ((c : Thread nD τ).loc main_arg1)) (m ((c : Thread nD τ).loc main_arg2)) := by
  refine (final m c).trans ?_
  funext i
  by_cases h : 4 ≤ (i 1 : ℕ) / 512 ∧ (i 1 : ℕ) / 512 < 10
  · exact if_pos h
  · refine (if_neg h).trans ?_
    rw [V_main_v0]
    obtain ⟨r, f, rfl⟩ : ∃ (r : Fin 4096) (f : Fin 5376), i = ix2 r f := ⟨i 0, i 1, by idx_ext⟩
    exact (ref_out _ _ _ r f h).symm

/-- The two programs end with the same array from the same arguments. -/
theorem algebraic : Cert.algebraic_KernelSsmConvInIdeal_ReferenceSsmConvInIdeal := by
  pair_intro
  · run_from Cert.KernelSsmConvInIdeal.Gen.run_main m g
  · run_from Cert.ReferenceSsmConvInIdeal.Value.run m' g'
    refine (Cert.ReferenceSsmConvInIdeal.Read.val_main_v56_eq _ _ _).trans ?_
    rw [(hagree c).2.2]
    exact (whole m c).symm

end Cert.KernelSsmConvInIdeal.Product

end
-- ==== Proof.lean ====
/- The assembly of the claims: the frames of the kernels are the generated ones, the frames of the references their runs
   with no semaphore declared, the equalities the product modules. -/
module

public import proofs.«01_k».proof.Defs
public import proofs.«01_k».proof.Proof.Gen.KernelConv.Frame
public import proofs.«01_k».proof.Proof.Gen.KernelConvIdeal.Frame
public import proofs.«01_k».proof.Proof.Gen.ReferenceConvIdeal.Run
public import proofs.«01_k».proof.Proof.Conv
public import proofs.«01_k».proof.Proof.Gen.KernelUpW.Frame
public import proofs.«01_k».proof.Proof.Gen.KernelUpWIdeal.Frame
public import proofs.«01_k».proof.Proof.Gen.ReferenceUpWIdeal.Run
public import proofs.«01_k».proof.Proof.UpW
public import proofs.«01_k».proof.Proof.Gen.KernelUpD.Frame
public import proofs.«01_k».proof.Proof.Gen.KernelUpDIdeal.Frame
public import proofs.«01_k».proof.Proof.Gen.ReferenceUpDIdeal.Run
public import proofs.«01_k».proof.Proof.UpD
public import proofs.«01_k».proof.Proof.Gen.KernelDownW.Frame
public import proofs.«01_k».proof.Proof.Gen.KernelDownWIdeal.Frame
public import proofs.«01_k».proof.Proof.Gen.ReferenceDownWIdeal.Run
public import proofs.«01_k».proof.Proof.DownW
public import proofs.«01_k».proof.Proof.Gen.KernelDownD.Frame
public import proofs.«01_k».proof.Proof.Gen.KernelDownDIdeal.Frame
public import proofs.«01_k».proof.Proof.Gen.ReferenceDownDIdeal.Run
public import proofs.«01_k».proof.Proof.DownD
public import proofs.«01_k».proof.Proof.Gen.KernelAttnOW.Frame
public import proofs.«01_k».proof.Proof.Gen.KernelAttnOWIdeal.Frame
public import proofs.«01_k».proof.Proof.Gen.ReferenceAttnOWIdeal.Run
public import proofs.«01_k».proof.Proof.AttnOW
public import proofs.«01_k».proof.Proof.Gen.KernelAttnOD.Frame
public import proofs.«01_k».proof.Proof.Gen.KernelAttnODIdeal.Frame
public import proofs.«01_k».proof.Proof.Gen.ReferenceAttnODIdeal.Run
public import proofs.«01_k».proof.Proof.AttnOD
public import proofs.«01_k».proof.Proof.Gen.KernelAttnQW.Frame
public import proofs.«01_k».proof.Proof.Gen.KernelAttnQWIdeal.Frame
public import proofs.«01_k».proof.Proof.Gen.ReferenceAttnQWIdeal.Run
public import proofs.«01_k».proof.Proof.AttnQW
public import proofs.«01_k».proof.Proof.Gen.KernelAttnQD.Frame
public import proofs.«01_k».proof.Proof.Gen.KernelAttnQDIdeal.Frame
public import proofs.«01_k».proof.Proof.Gen.ReferenceAttnQDIdeal.Run
public import proofs.«01_k».proof.Proof.AttnQD
public import proofs.«01_k».proof.Proof.Gen.KernelAttnKVW.Frame
public import proofs.«01_k».proof.Proof.Gen.KernelAttnKVWIdeal.Frame
public import proofs.«01_k».proof.Proof.Gen.ReferenceAttnKVWIdeal.Run
public import proofs.«01_k».proof.Proof.AttnKVW
public import proofs.«01_k».proof.Proof.Gen.KernelAttnKVD.Frame
public import proofs.«01_k».proof.Proof.Gen.KernelAttnKVDIdeal.Frame
public import proofs.«01_k».proof.Proof.Gen.ReferenceAttnKVDIdeal.Run
public import proofs.«01_k».proof.Proof.AttnKVD
public import proofs.«01_k».proof.Proof.Gen.KernelSsmOutW.Frame
public import proofs.«01_k».proof.Proof.Gen.KernelSsmOutWIdeal.Frame
public import proofs.«01_k».proof.Proof.Gen.ReferenceSsmOutWIdeal.Run
public import proofs.«01_k».proof.Proof.SsmOutW
public import proofs.«01_k».proof.Proof.Gen.KernelSsmOutD.Frame
public import proofs.«01_k».proof.Proof.Gen.KernelSsmOutDIdeal.Frame
public import proofs.«01_k».proof.Proof.Gen.ReferenceSsmOutDIdeal.Run
public import proofs.«01_k».proof.Proof.SsmOutD
public import proofs.«01_k».proof.Proof.Gen.KernelSsmInW.Frame
public import proofs.«01_k».proof.Proof.Gen.KernelSsmInWIdeal.Frame
public import proofs.«01_k».proof.Proof.Gen.ReferenceSsmInWIdeal.Run
public import proofs.«01_k».proof.Proof.SsmInW
public import proofs.«01_k».proof.Proof.Gen.KernelSsmInD.Frame
public import proofs.«01_k».proof.Proof.Gen.KernelSsmInDIdeal.Frame
public import proofs.«01_k».proof.Proof.Gen.ReferenceSsmInDIdeal.Run
public import proofs.«01_k».proof.Proof.SsmInD
public import proofs.«01_k».proof.Proof.Gen.KernelFfnUp.Frame
public import proofs.«01_k».proof.Proof.Gen.KernelFfnUpIdeal.Frame
public import proofs.«01_k».proof.Proof.Gen.ReferenceFfnUpIdeal.Run
public import proofs.«01_k».proof.Proof.FfnUp
public import proofs.«01_k».proof.Proof.Gen.KernelFfnDown.Frame
public import proofs.«01_k».proof.Proof.Gen.KernelFfnDownIdeal.Frame
public import proofs.«01_k».proof.Proof.Gen.ReferenceFfnDownIdeal.Run
public import proofs.«01_k».proof.Proof.FfnDown
public import proofs.«01_k».proof.Proof.Gen.KernelAttnQ.Frame
public import proofs.«01_k».proof.Proof.Gen.KernelAttnQIdeal.Frame
public import proofs.«01_k».proof.Proof.Gen.ReferenceAttnQIdeal.Run
public import proofs.«01_k».proof.Proof.AttnQ
public import proofs.«01_k».proof.Proof.Gen.KernelAttnKV.Frame
public import proofs.«01_k».proof.Proof.Gen.KernelAttnKVIdeal.Frame
public import proofs.«01_k».proof.Proof.Gen.ReferenceAttnKVIdeal.Run
public import proofs.«01_k».proof.Proof.AttnKV
public import proofs.«01_k».proof.Proof.Gen.KernelAttnO.Frame
public import proofs.«01_k».proof.Proof.Gen.KernelAttnOIdeal.Frame
public import proofs.«01_k».proof.Proof.Gen.ReferenceAttnOIdeal.Run
public import proofs.«01_k».proof.Proof.AttnO
public import proofs.«01_k».proof.Proof.Gen.KernelSsmIn.Frame
public import proofs.«01_k».proof.Proof.Gen.KernelSsmInIdeal.Frame
public import proofs.«01_k».proof.Proof.Gen.ReferenceSsmInIdeal.Run
public import proofs.«01_k».proof.Proof.SsmIn
public import proofs.«01_k».proof.Proof.Gen.KernelSsmOut.Frame
public import proofs.«01_k».proof.Proof.Gen.KernelSsmOutIdeal.Frame
public import proofs.«01_k».proof.Proof.Gen.ReferenceSsmOutIdeal.Run
public import proofs.«01_k».proof.Proof.SsmOut
public import proofs.«01_k».proof.Proof.Gen.KernelAdamSq.Frame
public import proofs.«01_k».proof.Proof.Gen.KernelAdamSqIdeal.Frame
public import proofs.«01_k».proof.Proof.Gen.ReferenceAdamSqIdeal.Run
public import proofs.«01_k».proof.Proof.AdamSq
public import proofs.«01_k».proof.Proof.Gen.KernelAdamSsmOut.Frame
public import proofs.«01_k».proof.Proof.Gen.KernelAdamSsmOutIdeal.Frame
public import proofs.«01_k».proof.Proof.Gen.ReferenceAdamSsmOutIdeal.Run
public import proofs.«01_k».proof.Proof.AdamSsmOut
public import proofs.«01_k».proof.Proof.Gen.KernelAdamSsmIn.Frame
public import proofs.«01_k».proof.Proof.Gen.KernelAdamSsmInIdeal.Frame
public import proofs.«01_k».proof.Proof.Gen.ReferenceAdamSsmInIdeal.Run
public import proofs.«01_k».proof.Proof.AdamSsmIn
public import proofs.«01_k».proof.Proof.Gen.KernelAdamFfnUp.Frame
public import proofs.«01_k».proof.Proof.Gen.KernelAdamFfnUpIdeal.Frame
public import proofs.«01_k».proof.Proof.Gen.ReferenceAdamFfnUpIdeal.Run
public import proofs.«01_k».proof.Proof.AdamFfnUp
public import proofs.«01_k».proof.Proof.Gen.KernelAdamFfnDown.Frame
public import proofs.«01_k».proof.Proof.Gen.KernelAdamFfnDownIdeal.Frame
public import proofs.«01_k».proof.Proof.Gen.ReferenceAdamFfnDownIdeal.Run
public import proofs.«01_k».proof.Proof.AdamFfnDown
public import proofs.«01_k».proof.Proof.Gen.KernelSmallSum.Frame
public import proofs.«01_k».proof.Proof.Gen.KernelSmallSumIdeal.Frame
public import proofs.«01_k».proof.Proof.Gen.ReferenceSmallSumIdeal.Run
public import proofs.«01_k».proof.Proof.SmallSum
public import proofs.«01_k».proof.Proof.Gen.KernelAdamSmall.Frame
public import proofs.«01_k».proof.Proof.Gen.KernelAdamSmallIdeal.Frame
public import proofs.«01_k».proof.Proof.Gen.ReferenceAdamSmallIdeal.Run
public import proofs.«01_k».proof.Proof.AdamSmall
public import proofs.«01_k».proof.Proof.Gen.KernelFfnConv.Frame
public import proofs.«01_k».proof.Proof.Gen.KernelFfnConvIdeal.Frame
public import proofs.«01_k».proof.Proof.Gen.ReferenceFfnConvIdeal.Run
public import proofs.«01_k».proof.Proof.FfnConv
public import proofs.«01_k».proof.Proof.Gen.KernelSsmConv.Frame
public import proofs.«01_k».proof.Proof.Gen.KernelSsmConvIdeal.Frame
public import proofs.«01_k».proof.Proof.Gen.ReferenceSsmConvIdeal.Run
public import proofs.«01_k».proof.Proof.SsmConv
public import proofs.«01_k».proof.Proof.Gen.KernelLossHead.Frame
public import proofs.«01_k».proof.Proof.Gen.KernelLossHeadIdeal.Frame
public import proofs.«01_k».proof.Proof.Gen.ReferenceLossHeadIdeal.Run
public import proofs.«01_k».proof.Proof.LossHead
public import proofs.«01_k».proof.Proof.Gen.KernelGate.Frame
public import proofs.«01_k».proof.Proof.Gen.KernelGateIdeal.Frame
public import proofs.«01_k».proof.Proof.Gen.ReferenceGateIdeal.Run
public import proofs.«01_k».proof.Proof.Gate
public import proofs.«01_k».proof.Proof.Gen.KernelSsmConvD.Frame
public import proofs.«01_k».proof.Proof.Gen.KernelSsmConvDIdeal.Frame
public import proofs.«01_k».proof.Proof.Gen.ReferenceSsmConvDIdeal.Run
public import proofs.«01_k».proof.Proof.SsmConvD
public import proofs.«01_k».proof.Proof.Gen.KernelSsmConvIn.Frame
public import proofs.«01_k».proof.Proof.Gen.KernelSsmConvInIdeal.Frame
public import proofs.«01_k».proof.Proof.Gen.ReferenceSsmConvInIdeal.Run
public import proofs.«01_k».proof.Proof.SsmConvIn

@[expose] public section

noncomputable section

namespace Cert.Proof

open Idealize.ShloMosaic Idealize.SL.Sem

/-- The reference of Conv runs to an end, leaves its arguments as they were and its counters at zero: it declares no semaphore. -/
theorem frame_ReferenceConvIdeal : Cert.quiescent_ReferenceConvIdeal := by
  intro m ρ _
  exact (θ_run Cert.ReferenceConvIdeal.defs _ _).mono (fun r h => ⟨fun c => (h c).2,
      Idealize.ShloMosaic.sem_eq_zero_of_no_sems (by decide) r.2⟩)
    (Cert.ReferenceConvIdeal.Value.run (F := Ideal) m ρ)

/-- The reference of UpW runs to an end, leaves its arguments as they were and its counters at zero: it declares no semaphore. -/
theorem frame_ReferenceUpWIdeal : Cert.quiescent_ReferenceUpWIdeal := by
  intro m ρ _
  exact (θ_run Cert.ReferenceUpWIdeal.defs _ _).mono (fun r h => ⟨fun c => (h c).2,
      Idealize.ShloMosaic.sem_eq_zero_of_no_sems (by decide) r.2⟩)
    (Cert.ReferenceUpWIdeal.Value.run (F := Ideal) m ρ)

/-- The reference of UpD runs to an end, leaves its arguments as they were and its counters at zero: it declares no semaphore. -/
theorem frame_ReferenceUpDIdeal : Cert.quiescent_ReferenceUpDIdeal := by
  intro m ρ _
  exact (θ_run Cert.ReferenceUpDIdeal.defs _ _).mono (fun r h => ⟨fun c => (h c).2.2,
      Idealize.ShloMosaic.sem_eq_zero_of_no_sems (by decide) r.2⟩)
    (Cert.ReferenceUpDIdeal.Value.run (F := Ideal) m ρ)

/-- The reference of DownW runs to an end, leaves its arguments as they were and its counters at zero: it declares no semaphore. -/
theorem frame_ReferenceDownWIdeal : Cert.quiescent_ReferenceDownWIdeal := by
  intro m ρ _
  exact (θ_run Cert.ReferenceDownWIdeal.defs _ _).mono (fun r h => ⟨fun c => (h c).2,
      Idealize.ShloMosaic.sem_eq_zero_of_no_sems (by decide) r.2⟩)
    (Cert.ReferenceDownWIdeal.Value.run (F := Ideal) m ρ)

/-- The reference of DownD runs to an end, leaves its arguments as they were and its counters at zero: it declares no semaphore. -/
theorem frame_ReferenceDownDIdeal : Cert.quiescent_ReferenceDownDIdeal := by
  intro m ρ _
  exact (θ_run Cert.ReferenceDownDIdeal.defs _ _).mono (fun r h => ⟨fun c => (h c).2,
      Idealize.ShloMosaic.sem_eq_zero_of_no_sems (by decide) r.2⟩)
    (Cert.ReferenceDownDIdeal.Value.run (F := Ideal) m ρ)

/-- The reference of AttnOW runs to an end, leaves its arguments as they were and its counters at zero: it declares no semaphore. -/
theorem frame_ReferenceAttnOWIdeal : Cert.quiescent_ReferenceAttnOWIdeal := by
  intro m ρ _
  exact (θ_run Cert.ReferenceAttnOWIdeal.defs _ _).mono (fun r h => ⟨fun c => (h c).2,
      Idealize.ShloMosaic.sem_eq_zero_of_no_sems (by decide) r.2⟩)
    (Cert.ReferenceAttnOWIdeal.Value.run (F := Ideal) m ρ)

/-- The reference of AttnOD runs to an end, leaves its arguments as they were and its counters at zero: it declares no semaphore. -/
theorem frame_ReferenceAttnODIdeal : Cert.quiescent_ReferenceAttnODIdeal := by
  intro m ρ _
  exact (θ_run Cert.ReferenceAttnODIdeal.defs _ _).mono (fun r h => ⟨fun c => (h c).2,
      Idealize.ShloMosaic.sem_eq_zero_of_no_sems (by decide) r.2⟩)
    (Cert.ReferenceAttnODIdeal.Value.run (F := Ideal) m ρ)

/-- The reference of AttnQW runs to an end, leaves its arguments as they were and its counters at zero: it declares no semaphore. -/
theorem frame_ReferenceAttnQWIdeal : Cert.quiescent_ReferenceAttnQWIdeal := by
  intro m ρ _
  exact (θ_run Cert.ReferenceAttnQWIdeal.defs _ _).mono (fun r h => ⟨fun c => (h c).2,
      Idealize.ShloMosaic.sem_eq_zero_of_no_sems (by decide) r.2⟩)
    (Cert.ReferenceAttnQWIdeal.Value.run (F := Ideal) m ρ)

/-- The reference of AttnQD runs to an end, leaves its arguments as they were and its counters at zero: it declares no semaphore. -/
theorem frame_ReferenceAttnQDIdeal : Cert.quiescent_ReferenceAttnQDIdeal := by
  intro m ρ _
  exact (θ_run Cert.ReferenceAttnQDIdeal.defs _ _).mono (fun r h => ⟨fun c => (h c).2.2,
      Idealize.ShloMosaic.sem_eq_zero_of_no_sems (by decide) r.2⟩)
    (Cert.ReferenceAttnQDIdeal.Value.run (F := Ideal) m ρ)

/-- The reference of AttnKVW runs to an end, leaves its arguments as they were and its counters at zero: it declares no semaphore. -/
theorem frame_ReferenceAttnKVWIdeal : Cert.quiescent_ReferenceAttnKVWIdeal := by
  intro m ρ _
  exact (θ_run Cert.ReferenceAttnKVWIdeal.defs _ _).mono (fun r h => ⟨fun c => (h c).2,
      Idealize.ShloMosaic.sem_eq_zero_of_no_sems (by decide) r.2⟩)
    (Cert.ReferenceAttnKVWIdeal.Value.run (F := Ideal) m ρ)

/-- The reference of AttnKVD runs to an end, leaves its arguments as they were and its counters at zero: it declares no semaphore. -/
theorem frame_ReferenceAttnKVDIdeal : Cert.quiescent_ReferenceAttnKVDIdeal := by
  intro m ρ _
  exact (θ_run Cert.ReferenceAttnKVDIdeal.defs _ _).mono (fun r h => ⟨fun c => (h c).2.2,
      Idealize.ShloMosaic.sem_eq_zero_of_no_sems (by decide) r.2⟩)
    (Cert.ReferenceAttnKVDIdeal.Value.run (F := Ideal) m ρ)

/-- The reference of SsmOutW runs to an end, leaves its arguments as they were and its counters at zero: it declares no semaphore. -/
theorem frame_ReferenceSsmOutWIdeal : Cert.quiescent_ReferenceSsmOutWIdeal := by
  intro m ρ _
  exact (θ_run Cert.ReferenceSsmOutWIdeal.defs _ _).mono (fun r h => ⟨fun c => (h c).2,
      Idealize.ShloMosaic.sem_eq_zero_of_no_sems (by decide) r.2⟩)
    (Cert.ReferenceSsmOutWIdeal.Value.run (F := Ideal) m ρ)

/-- The reference of SsmOutD runs to an end, leaves its arguments as they were and its counters at zero: it declares no semaphore. -/
theorem frame_ReferenceSsmOutDIdeal : Cert.quiescent_ReferenceSsmOutDIdeal := by
  intro m ρ _
  exact (θ_run Cert.ReferenceSsmOutDIdeal.defs _ _).mono (fun r h => ⟨fun c => (h c).2,
      Idealize.ShloMosaic.sem_eq_zero_of_no_sems (by decide) r.2⟩)
    (Cert.ReferenceSsmOutDIdeal.Value.run (F := Ideal) m ρ)

/-- The reference of SsmInW runs to an end, leaves its arguments as they were and its counters at zero: it declares no semaphore. -/
theorem frame_ReferenceSsmInWIdeal : Cert.quiescent_ReferenceSsmInWIdeal := by
  intro m ρ _
  exact (θ_run Cert.ReferenceSsmInWIdeal.defs _ _).mono (fun r h => ⟨fun c => (h c).2,
      Idealize.ShloMosaic.sem_eq_zero_of_no_sems (by decide) r.2⟩)
    (Cert.ReferenceSsmInWIdeal.Value.run (F := Ideal) m ρ)

/-- The reference of SsmInD runs to an end, leaves its arguments as they were and its counters at zero: it declares no semaphore. -/
theorem frame_ReferenceSsmInDIdeal : Cert.quiescent_ReferenceSsmInDIdeal := by
  intro m ρ _
  exact (θ_run Cert.ReferenceSsmInDIdeal.defs _ _).mono (fun r h => ⟨fun c => (h c).2.2,
      Idealize.ShloMosaic.sem_eq_zero_of_no_sems (by decide) r.2⟩)
    (Cert.ReferenceSsmInDIdeal.Value.run (F := Ideal) m ρ)

/-- The reference of FfnUp runs to an end, leaves its arguments as they were and its counters at zero: it declares no semaphore. -/
theorem frame_ReferenceFfnUpIdeal : Cert.quiescent_ReferenceFfnUpIdeal := by
  intro m ρ _
  exact (θ_run Cert.ReferenceFfnUpIdeal.defs _ _).mono (fun r h => ⟨fun c => (h c).2,
      Idealize.ShloMosaic.sem_eq_zero_of_no_sems (by decide) r.2⟩)
    (Cert.ReferenceFfnUpIdeal.Value.run (F := Ideal) m ρ)

/-- The reference of FfnDown runs to an end, leaves its arguments as they were and its counters at zero: it declares no semaphore. -/
theorem frame_ReferenceFfnDownIdeal : Cert.quiescent_ReferenceFfnDownIdeal := by
  intro m ρ _
  exact (θ_run Cert.ReferenceFfnDownIdeal.defs _ _).mono (fun r h => ⟨fun c => (h c).2,
      Idealize.ShloMosaic.sem_eq_zero_of_no_sems (by decide) r.2⟩)
    (Cert.ReferenceFfnDownIdeal.Value.run (F := Ideal) m ρ)

/-- The reference of AttnQ runs to an end, leaves its arguments as they were and its counters at zero: it declares no semaphore. -/
theorem frame_ReferenceAttnQIdeal : Cert.quiescent_ReferenceAttnQIdeal := by
  intro m ρ _
  exact (θ_run Cert.ReferenceAttnQIdeal.defs _ _).mono (fun r h => ⟨fun c => (h c).2,
      Idealize.ShloMosaic.sem_eq_zero_of_no_sems (by decide) r.2⟩)
    (Cert.ReferenceAttnQIdeal.Value.run (F := Ideal) m ρ)

/-- The reference of AttnKV runs to an end, leaves its arguments as they were and its counters at zero: it declares no semaphore. -/
theorem frame_ReferenceAttnKVIdeal : Cert.quiescent_ReferenceAttnKVIdeal := by
  intro m ρ _
  exact (θ_run Cert.ReferenceAttnKVIdeal.defs _ _).mono (fun r h => ⟨fun c => (h c).2,
      Idealize.ShloMosaic.sem_eq_zero_of_no_sems (by decide) r.2⟩)
    (Cert.ReferenceAttnKVIdeal.Value.run (F := Ideal) m ρ)

/-- The reference of AttnO runs to an end, leaves its arguments as they were and its counters at zero: it declares no semaphore. -/
theorem frame_ReferenceAttnOIdeal : Cert.quiescent_ReferenceAttnOIdeal := by
  intro m ρ _
  exact (θ_run Cert.ReferenceAttnOIdeal.defs _ _).mono (fun r h => ⟨fun c => (h c).2,
      Idealize.ShloMosaic.sem_eq_zero_of_no_sems (by decide) r.2⟩)
    (Cert.ReferenceAttnOIdeal.Value.run (F := Ideal) m ρ)

/-- The reference of SsmIn runs to an end, leaves its arguments as they were and its counters at zero: it declares no semaphore. -/
theorem frame_ReferenceSsmInIdeal : Cert.quiescent_ReferenceSsmInIdeal := by
  intro m ρ _
  exact (θ_run Cert.ReferenceSsmInIdeal.defs _ _).mono (fun r h => ⟨fun c => (h c).2,
      Idealize.ShloMosaic.sem_eq_zero_of_no_sems (by decide) r.2⟩)
    (Cert.ReferenceSsmInIdeal.Value.run (F := Ideal) m ρ)

/-- The reference of SsmOut runs to an end, leaves its arguments as they were and its counters at zero: it declares no semaphore. -/
theorem frame_ReferenceSsmOutIdeal : Cert.quiescent_ReferenceSsmOutIdeal := by
  intro m ρ _
  exact (θ_run Cert.ReferenceSsmOutIdeal.defs _ _).mono (fun r h => ⟨fun c => (h c).2,
      Idealize.ShloMosaic.sem_eq_zero_of_no_sems (by decide) r.2⟩)
    (Cert.ReferenceSsmOutIdeal.Value.run (F := Ideal) m ρ)

/-- The reference of AdamSq runs to an end, leaves its arguments as they were and its counters at zero: it declares no semaphore. -/
theorem frame_ReferenceAdamSqIdeal : Cert.quiescent_ReferenceAdamSqIdeal := by
  intro m ρ _
  exact (θ_run Cert.ReferenceAdamSqIdeal.defs _ _).mono (fun r h => ⟨fun c => (h c).2.2.2.2,
      Idealize.ShloMosaic.sem_eq_zero_of_no_sems (by decide) r.2⟩)
    (Cert.ReferenceAdamSqIdeal.Value.run (F := Ideal) m ρ)

/-- The reference of AdamSsmOut runs to an end, leaves its arguments as they were and its counters at zero: it declares no semaphore. -/
theorem frame_ReferenceAdamSsmOutIdeal : Cert.quiescent_ReferenceAdamSsmOutIdeal := by
  intro m ρ _
  exact (θ_run Cert.ReferenceAdamSsmOutIdeal.defs _ _).mono (fun r h => ⟨fun c => (h c).2.2.2.2,
      Idealize.ShloMosaic.sem_eq_zero_of_no_sems (by decide) r.2⟩)
    (Cert.ReferenceAdamSsmOutIdeal.Value.run (F := Ideal) m ρ)

/-- The reference of AdamSsmIn runs to an end, leaves its arguments as they were and its counters at zero: it declares no semaphore. -/
theorem frame_ReferenceAdamSsmInIdeal : Cert.quiescent_ReferenceAdamSsmInIdeal := by
  intro m ρ _
  exact (θ_run Cert.ReferenceAdamSsmInIdeal.defs _ _).mono (fun r h => ⟨fun c => (h c).2.2.2.2,
      Idealize.ShloMosaic.sem_eq_zero_of_no_sems (by decide) r.2⟩)
    (Cert.ReferenceAdamSsmInIdeal.Value.run (F := Ideal) m ρ)

/-- The reference of AdamFfnUp runs to an end, leaves its arguments as they were and its counters at zero: it declares no semaphore. -/
theorem frame_ReferenceAdamFfnUpIdeal : Cert.quiescent_ReferenceAdamFfnUpIdeal := by
  intro m ρ _
  exact (θ_run Cert.ReferenceAdamFfnUpIdeal.defs _ _).mono (fun r h => ⟨fun c => (h c).2.2.2.2,
      Idealize.ShloMosaic.sem_eq_zero_of_no_sems (by decide) r.2⟩)
    (Cert.ReferenceAdamFfnUpIdeal.Value.run (F := Ideal) m ρ)

/-- The reference of AdamFfnDown runs to an end, leaves its arguments as they were and its counters at zero: it declares no semaphore. -/
theorem frame_ReferenceAdamFfnDownIdeal : Cert.quiescent_ReferenceAdamFfnDownIdeal := by
  intro m ρ _
  exact (θ_run Cert.ReferenceAdamFfnDownIdeal.defs _ _).mono (fun r h => ⟨fun c => (h c).2.2.2.2,
      Idealize.ShloMosaic.sem_eq_zero_of_no_sems (by decide) r.2⟩)
    (Cert.ReferenceAdamFfnDownIdeal.Value.run (F := Ideal) m ρ)

/-- The reference of SmallSum runs to an end, leaves its arguments as they were and its counters at zero: it declares no semaphore. -/
theorem frame_ReferenceSmallSumIdeal : Cert.quiescent_ReferenceSmallSumIdeal := by
  intro m ρ _
  exact (θ_run Cert.ReferenceSmallSumIdeal.defs _ _).mono (fun r h => ⟨fun c => (h c).2.2.2.2,
      Idealize.ShloMosaic.sem_eq_zero_of_no_sems (by decide) r.2⟩)
    (Cert.ReferenceSmallSumIdeal.Value.run (F := Ideal) m ρ)

/-- The reference of AdamSmall runs to an end, leaves its arguments as they were and its counters at zero: it declares no semaphore. -/
theorem frame_ReferenceAdamSmallIdeal : Cert.quiescent_ReferenceAdamSmallIdeal := by
  intro m ρ _
  exact (θ_run Cert.ReferenceAdamSmallIdeal.defs _ _).mono (fun r h => ⟨fun c => (h c).2.2.2.2,
      Idealize.ShloMosaic.sem_eq_zero_of_no_sems (by decide) r.2⟩)
    (Cert.ReferenceAdamSmallIdeal.Value.run (F := Ideal) m ρ)

/-- The reference of FfnConv runs to an end, leaves its arguments as they were and its counters at zero: it declares no semaphore. -/
theorem frame_ReferenceFfnConvIdeal : Cert.quiescent_ReferenceFfnConvIdeal := by
  intro m ρ _
  exact (θ_run Cert.ReferenceFfnConvIdeal.defs _ _).mono (fun r h => ⟨fun c => (h c).2,
      Idealize.ShloMosaic.sem_eq_zero_of_no_sems (by decide) r.2⟩)
    (Cert.ReferenceFfnConvIdeal.Value.run (F := Ideal) m ρ)

/-- The reference of SsmConv runs to an end, leaves its arguments as they were and its counters at zero: it declares no semaphore. -/
theorem frame_ReferenceSsmConvIdeal : Cert.quiescent_ReferenceSsmConvIdeal := by
  intro m ρ _
  exact (θ_run Cert.ReferenceSsmConvIdeal.defs _ _).mono (fun r h => ⟨fun c => (h c).2,
      Idealize.ShloMosaic.sem_eq_zero_of_no_sems (by decide) r.2⟩)
    (Cert.ReferenceSsmConvIdeal.Value.run (F := Ideal) m ρ)

/-- The reference of LossHead runs to an end, leaves its arguments as they were and its counters at zero: it declares no semaphore. -/
theorem frame_ReferenceLossHeadIdeal : Cert.quiescent_ReferenceLossHeadIdeal := by
  intro m ρ _
  exact (θ_run Cert.ReferenceLossHeadIdeal.defs _ _).mono (fun r h => ⟨fun c => (h c).2.2.2,
      Idealize.ShloMosaic.sem_eq_zero_of_no_sems (by decide) r.2⟩)
    (Cert.ReferenceLossHeadIdeal.Value.run (F := Ideal) m ρ)

/-- The reference of Gate runs to an end, leaves its arguments as they were and its counters at zero: it declares no semaphore. -/
theorem frame_ReferenceGateIdeal : Cert.quiescent_ReferenceGateIdeal := by
  intro m ρ _
  exact (θ_run Cert.ReferenceGateIdeal.defs _ _).mono (fun r h => ⟨fun c => (h c).2.2.2,
      Idealize.ShloMosaic.sem_eq_zero_of_no_sems (by decide) r.2⟩)
    (Cert.ReferenceGateIdeal.Value.run (F := Ideal) m ρ)

/-- The reference of SsmConvD runs to an end, leaves its arguments as they were and its counters at zero: it declares no semaphore. -/
theorem frame_ReferenceSsmConvDIdeal : Cert.quiescent_ReferenceSsmConvDIdeal := by
  intro m ρ _
  exact (θ_run Cert.ReferenceSsmConvDIdeal.defs _ _).mono (fun r h => ⟨fun c => (h c).2.2.2,
      Idealize.ShloMosaic.sem_eq_zero_of_no_sems (by decide) r.2⟩)
    (Cert.ReferenceSsmConvDIdeal.Value.run (F := Ideal) m ρ)

/-- The reference of SsmConvIn runs to an end, leaves its arguments as they were and its counters at zero: it declares no semaphore. -/
theorem frame_ReferenceSsmConvInIdeal : Cert.quiescent_ReferenceSsmConvInIdeal := by
  intro m ρ _
  exact (θ_run Cert.ReferenceSsmConvInIdeal.defs _ _).mono (fun r h => ⟨fun c => (h c).2,
      Idealize.ShloMosaic.sem_eq_zero_of_no_sems (by decide) r.2⟩)
    (Cert.ReferenceSsmConvInIdeal.Value.run (F := Ideal) m ρ)

/-- Every claim: the facts of the programs, then the frames, then for each call that the idealized program is the one stated and that its results are the reference's. -/
theorem claim : Cert.Claim :=
  ⟨Cert.KernelConv.Gen.facts,
   Cert.KernelConvIdeal.Gen.facts,
   Cert.ReferenceConvIdeal.Gen.facts,
   Cert.KernelUpW.Gen.facts,
   Cert.KernelUpWIdeal.Gen.facts,
   Cert.ReferenceUpWIdeal.Gen.facts,
   Cert.KernelUpD.Gen.facts,
   Cert.KernelUpDIdeal.Gen.facts,
   Cert.ReferenceUpDIdeal.Gen.facts,
   Cert.KernelDownW.Gen.facts,
   Cert.KernelDownWIdeal.Gen.facts,
   Cert.ReferenceDownWIdeal.Gen.facts,
   Cert.KernelDownD.Gen.facts,
   Cert.KernelDownDIdeal.Gen.facts,
   Cert.ReferenceDownDIdeal.Gen.facts,
   Cert.KernelAttnOW.Gen.facts,
   Cert.KernelAttnOWIdeal.Gen.facts,
   Cert.ReferenceAttnOWIdeal.Gen.facts,
   Cert.KernelAttnOD.Gen.facts,
   Cert.KernelAttnODIdeal.Gen.facts,
   Cert.ReferenceAttnODIdeal.Gen.facts,
   Cert.KernelAttnQW.Gen.facts,
   Cert.KernelAttnQWIdeal.Gen.facts,
   Cert.ReferenceAttnQWIdeal.Gen.facts,
   Cert.KernelAttnQD.Gen.facts,
   Cert.KernelAttnQDIdeal.Gen.facts,
   Cert.ReferenceAttnQDIdeal.Gen.facts,
   Cert.KernelAttnKVW.Gen.facts,
   Cert.KernelAttnKVWIdeal.Gen.facts,
   Cert.ReferenceAttnKVWIdeal.Gen.facts,
   Cert.KernelAttnKVD.Gen.facts,
   Cert.KernelAttnKVDIdeal.Gen.facts,
   Cert.ReferenceAttnKVDIdeal.Gen.facts,
   Cert.KernelSsmOutW.Gen.facts,
   Cert.KernelSsmOutWIdeal.Gen.facts,
   Cert.ReferenceSsmOutWIdeal.Gen.facts,
   Cert.KernelSsmOutD.Gen.facts,
   Cert.KernelSsmOutDIdeal.Gen.facts,
   Cert.ReferenceSsmOutDIdeal.Gen.facts,
   Cert.KernelSsmInW.Gen.facts,
   Cert.KernelSsmInWIdeal.Gen.facts,
   Cert.ReferenceSsmInWIdeal.Gen.facts,
   Cert.KernelSsmInD.Gen.facts,
   Cert.KernelSsmInDIdeal.Gen.facts,
   Cert.ReferenceSsmInDIdeal.Gen.facts,
   Cert.KernelFfnUp.Gen.facts,
   Cert.KernelFfnUpIdeal.Gen.facts,
   Cert.ReferenceFfnUpIdeal.Gen.facts,
   Cert.KernelFfnDown.Gen.facts,
   Cert.KernelFfnDownIdeal.Gen.facts,
   Cert.ReferenceFfnDownIdeal.Gen.facts,
   Cert.KernelAttnQ.Gen.facts,
   Cert.KernelAttnQIdeal.Gen.facts,
   Cert.ReferenceAttnQIdeal.Gen.facts,
   Cert.KernelAttnKV.Gen.facts,
   Cert.KernelAttnKVIdeal.Gen.facts,
   Cert.ReferenceAttnKVIdeal.Gen.facts,
   Cert.KernelAttnO.Gen.facts,
   Cert.KernelAttnOIdeal.Gen.facts,
   Cert.ReferenceAttnOIdeal.Gen.facts,
   Cert.KernelSsmIn.Gen.facts,
   Cert.KernelSsmInIdeal.Gen.facts,
   Cert.ReferenceSsmInIdeal.Gen.facts,
   Cert.KernelSsmOut.Gen.facts,
   Cert.KernelSsmOutIdeal.Gen.facts,
   Cert.ReferenceSsmOutIdeal.Gen.facts,
   Cert.KernelAdamSq.Gen.facts,
   Cert.KernelAdamSqIdeal.Gen.facts,
   Cert.ReferenceAdamSqIdeal.Gen.facts,
   Cert.KernelAdamSsmOut.Gen.facts,
   Cert.KernelAdamSsmOutIdeal.Gen.facts,
   Cert.ReferenceAdamSsmOutIdeal.Gen.facts,
   Cert.KernelAdamSsmIn.Gen.facts,
   Cert.KernelAdamSsmInIdeal.Gen.facts,
   Cert.ReferenceAdamSsmInIdeal.Gen.facts,
   Cert.KernelAdamFfnUp.Gen.facts,
   Cert.KernelAdamFfnUpIdeal.Gen.facts,
   Cert.ReferenceAdamFfnUpIdeal.Gen.facts,
   Cert.KernelAdamFfnDown.Gen.facts,
   Cert.KernelAdamFfnDownIdeal.Gen.facts,
   Cert.ReferenceAdamFfnDownIdeal.Gen.facts,
   Cert.KernelSmallSum.Gen.facts,
   Cert.KernelSmallSumIdeal.Gen.facts,
   Cert.ReferenceSmallSumIdeal.Gen.facts,
   Cert.KernelAdamSmall.Gen.facts,
   Cert.KernelAdamSmallIdeal.Gen.facts,
   Cert.ReferenceAdamSmallIdeal.Gen.facts,
   Cert.KernelFfnConv.Gen.facts,
   Cert.KernelFfnConvIdeal.Gen.facts,
   Cert.ReferenceFfnConvIdeal.Gen.facts,
   Cert.KernelSsmConv.Gen.facts,
   Cert.KernelSsmConvIdeal.Gen.facts,
   Cert.ReferenceSsmConvIdeal.Gen.facts,
   Cert.KernelLossHead.Gen.facts,
   Cert.KernelLossHeadIdeal.Gen.facts,
   Cert.ReferenceLossHeadIdeal.Gen.facts,
   Cert.KernelGate.Gen.facts,
   Cert.KernelGateIdeal.Gen.facts,
   Cert.ReferenceGateIdeal.Gen.facts,
   Cert.KernelSsmConvD.Gen.facts,
   Cert.KernelSsmConvDIdeal.Gen.facts,
   Cert.ReferenceSsmConvDIdeal.Gen.facts,
   Cert.KernelSsmConvIn.Gen.facts,
   Cert.KernelSsmConvInIdeal.Gen.facts,
   Cert.ReferenceSsmConvInIdeal.Gen.facts,
   fun m ρ _ => Cert.KernelConv.Gen.frame m ρ,
   fun m ρ _ => Cert.KernelConvIdeal.Gen.frame m ρ,
   frame_ReferenceConvIdeal,
   fun m ρ _ => Cert.KernelUpW.Gen.frame m ρ,
   fun m ρ _ => Cert.KernelUpWIdeal.Gen.frame m ρ,
   frame_ReferenceUpWIdeal,
   fun m ρ _ => Cert.KernelUpD.Gen.frame m ρ,
   fun m ρ _ => Cert.KernelUpDIdeal.Gen.frame m ρ,
   frame_ReferenceUpDIdeal,
   fun m ρ _ => Cert.KernelDownW.Gen.frame m ρ,
   fun m ρ _ => Cert.KernelDownWIdeal.Gen.frame m ρ,
   frame_ReferenceDownWIdeal,
   fun m ρ _ => Cert.KernelDownD.Gen.frame m ρ,
   fun m ρ _ => Cert.KernelDownDIdeal.Gen.frame m ρ,
   frame_ReferenceDownDIdeal,
   fun m ρ _ => Cert.KernelAttnOW.Gen.frame m ρ,
   fun m ρ _ => Cert.KernelAttnOWIdeal.Gen.frame m ρ,
   frame_ReferenceAttnOWIdeal,
   fun m ρ _ => Cert.KernelAttnOD.Gen.frame m ρ,
   fun m ρ _ => Cert.KernelAttnODIdeal.Gen.frame m ρ,
   frame_ReferenceAttnODIdeal,
   fun m ρ _ => Cert.KernelAttnQW.Gen.frame m ρ,
   fun m ρ _ => Cert.KernelAttnQWIdeal.Gen.frame m ρ,
   frame_ReferenceAttnQWIdeal,
   fun m ρ _ => Cert.KernelAttnQD.Gen.frame m ρ,
   fun m ρ _ => Cert.KernelAttnQDIdeal.Gen.frame m ρ,
   frame_ReferenceAttnQDIdeal,
   fun m ρ _ => Cert.KernelAttnKVW.Gen.frame m ρ,
   fun m ρ _ => Cert.KernelAttnKVWIdeal.Gen.frame m ρ,
   frame_ReferenceAttnKVWIdeal,
   fun m ρ _ => Cert.KernelAttnKVD.Gen.frame m ρ,
   fun m ρ _ => Cert.KernelAttnKVDIdeal.Gen.frame m ρ,
   frame_ReferenceAttnKVDIdeal,
   fun m ρ _ => Cert.KernelSsmOutW.Gen.frame m ρ,
   fun m ρ _ => Cert.KernelSsmOutWIdeal.Gen.frame m ρ,
   frame_ReferenceSsmOutWIdeal,
   fun m ρ _ => Cert.KernelSsmOutD.Gen.frame m ρ,
   fun m ρ _ => Cert.KernelSsmOutDIdeal.Gen.frame m ρ,
   frame_ReferenceSsmOutDIdeal,
   fun m ρ _ => Cert.KernelSsmInW.Gen.frame m ρ,
   fun m ρ _ => Cert.KernelSsmInWIdeal.Gen.frame m ρ,
   frame_ReferenceSsmInWIdeal,
   fun m ρ _ => Cert.KernelSsmInD.Gen.frame m ρ,
   fun m ρ _ => Cert.KernelSsmInDIdeal.Gen.frame m ρ,
   frame_ReferenceSsmInDIdeal,
   fun m ρ _ => Cert.KernelFfnUp.Gen.frame m ρ,
   fun m ρ _ => Cert.KernelFfnUpIdeal.Gen.frame m ρ,
   frame_ReferenceFfnUpIdeal,
   fun m ρ _ => Cert.KernelFfnDown.Gen.frame m ρ,
   fun m ρ _ => Cert.KernelFfnDownIdeal.Gen.frame m ρ,
   frame_ReferenceFfnDownIdeal,
   fun m ρ _ => Cert.KernelAttnQ.Gen.frame m ρ,
   fun m ρ _ => Cert.KernelAttnQIdeal.Gen.frame m ρ,
   frame_ReferenceAttnQIdeal,
   fun m ρ _ => Cert.KernelAttnKV.Gen.frame m ρ,
   fun m ρ _ => Cert.KernelAttnKVIdeal.Gen.frame m ρ,
   frame_ReferenceAttnKVIdeal,
   fun m ρ _ => Cert.KernelAttnO.Gen.frame m ρ,
   fun m ρ _ => Cert.KernelAttnOIdeal.Gen.frame m ρ,
   frame_ReferenceAttnOIdeal,
   fun m ρ _ => Cert.KernelSsmIn.Gen.frame m ρ,
   fun m ρ _ => Cert.KernelSsmInIdeal.Gen.frame m ρ,
   frame_ReferenceSsmInIdeal,
   fun m ρ _ => Cert.KernelSsmOut.Gen.frame m ρ,
   fun m ρ _ => Cert.KernelSsmOutIdeal.Gen.frame m ρ,
   frame_ReferenceSsmOutIdeal,
   fun m ρ _ => Cert.KernelAdamSq.Gen.frame m ρ,
   fun m ρ _ => Cert.KernelAdamSqIdeal.Gen.frame m ρ,
   frame_ReferenceAdamSqIdeal,
   fun m ρ _ => Cert.KernelAdamSsmOut.Gen.frame m ρ,
   fun m ρ _ => Cert.KernelAdamSsmOutIdeal.Gen.frame m ρ,
   frame_ReferenceAdamSsmOutIdeal,
   fun m ρ _ => Cert.KernelAdamSsmIn.Gen.frame m ρ,
   fun m ρ _ => Cert.KernelAdamSsmInIdeal.Gen.frame m ρ,
   frame_ReferenceAdamSsmInIdeal,
   fun m ρ _ => Cert.KernelAdamFfnUp.Gen.frame m ρ,
   fun m ρ _ => Cert.KernelAdamFfnUpIdeal.Gen.frame m ρ,
   frame_ReferenceAdamFfnUpIdeal,
   fun m ρ _ => Cert.KernelAdamFfnDown.Gen.frame m ρ,
   fun m ρ _ => Cert.KernelAdamFfnDownIdeal.Gen.frame m ρ,
   frame_ReferenceAdamFfnDownIdeal,
   fun m ρ _ => Cert.KernelSmallSum.Gen.frame m ρ,
   fun m ρ _ => Cert.KernelSmallSumIdeal.Gen.frame m ρ,
   frame_ReferenceSmallSumIdeal,
   fun m ρ _ => Cert.KernelAdamSmall.Gen.frame m ρ,
   fun m ρ _ => Cert.KernelAdamSmallIdeal.Gen.frame m ρ,
   frame_ReferenceAdamSmallIdeal,
   fun m ρ _ => Cert.KernelFfnConv.Gen.frame m ρ,
   fun m ρ _ => Cert.KernelFfnConvIdeal.Gen.frame m ρ,
   frame_ReferenceFfnConvIdeal,
   fun m ρ _ => Cert.KernelSsmConv.Gen.frame m ρ,
   fun m ρ _ => Cert.KernelSsmConvIdeal.Gen.frame m ρ,
   frame_ReferenceSsmConvIdeal,
   fun m ρ _ => Cert.KernelLossHead.Gen.frame m ρ,
   fun m ρ _ => Cert.KernelLossHeadIdeal.Gen.frame m ρ,
   frame_ReferenceLossHeadIdeal,
   fun m ρ _ => Cert.KernelGate.Gen.frame m ρ,
   fun m ρ _ => Cert.KernelGateIdeal.Gen.frame m ρ,
   frame_ReferenceGateIdeal,
   fun m ρ _ => Cert.KernelSsmConvD.Gen.frame m ρ,
   fun m ρ _ => Cert.KernelSsmConvDIdeal.Gen.frame m ρ,
   frame_ReferenceSsmConvDIdeal,
   fun m ρ _ => Cert.KernelSsmConvIn.Gen.frame m ρ,
   fun m ρ _ => Cert.KernelSsmConvInIdeal.Gen.frame m ρ,
   frame_ReferenceSsmConvInIdeal,
   trivial,
   Cert.KernelConvIdeal.Product.algebraic,
   trivial,
   Cert.KernelUpWIdeal.Product.algebraic,
   trivial,
   Cert.KernelUpDIdeal.Product.algebraic,
   trivial,
   Cert.KernelDownWIdeal.Product.algebraic,
   trivial,
   Cert.KernelDownDIdeal.Product.algebraic,
   trivial,
   Cert.KernelAttnOWIdeal.Product.algebraic,
   trivial,
   Cert.KernelAttnODIdeal.Product.algebraic,
   trivial,
   Cert.KernelAttnQWIdeal.Product.algebraic,
   trivial,
   Cert.KernelAttnQDIdeal.Product.algebraic,
   trivial,
   Cert.KernelAttnKVWIdeal.Product.algebraic,
   trivial,
   Cert.KernelAttnKVDIdeal.Product.algebraic,
   trivial,
   Cert.KernelSsmOutWIdeal.Product.algebraic,
   trivial,
   Cert.KernelSsmOutDIdeal.Product.algebraic,
   trivial,
   Cert.KernelSsmInWIdeal.Product.algebraic,
   trivial,
   Cert.KernelSsmInDIdeal.Product.algebraic,
   trivial,
   Cert.KernelFfnUpIdeal.Product.algebraic,
   trivial,
   Cert.KernelFfnDownIdeal.Product.algebraic,
   trivial,
   Cert.KernelAttnQIdeal.Product.algebraic,
   trivial,
   Cert.KernelAttnKVIdeal.Product.algebraic,
   trivial,
   Cert.KernelAttnOIdeal.Product.algebraic,
   trivial,
   Cert.KernelSsmInIdeal.Product.algebraic,
   trivial,
   Cert.KernelSsmOutIdeal.Product.algebraic,
   trivial,
   Cert.KernelAdamSqIdeal.Product.algebraic,
   trivial,
   Cert.KernelAdamSsmOutIdeal.Product.algebraic,
   trivial,
   Cert.KernelAdamSsmInIdeal.Product.algebraic,
   trivial,
   Cert.KernelAdamFfnUpIdeal.Product.algebraic,
   trivial,
   Cert.KernelAdamFfnDownIdeal.Product.algebraic,
   trivial,
   Cert.KernelSmallSumIdeal.Product.algebraic,
   trivial,
   Cert.KernelAdamSmallIdeal.Product.algebraic,
   trivial,
   Cert.KernelFfnConvIdeal.Product.algebraic,
   trivial,
   Cert.KernelSsmConvIdeal.Product.algebraic,
   trivial,
   Cert.KernelLossHeadIdeal.Product.algebraic,
   trivial,
   Cert.KernelGateIdeal.Product.algebraic,
   trivial,
   Cert.KernelSsmConvDIdeal.Product.algebraic,
   trivial,
   Cert.KernelSsmConvInIdeal.Product.algebraic⟩

end Cert.Proof

end
